-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_log_decay_below_top [hPre_log_decay_below_top : Cert.Pre_log_decay_below_top.Facts] (m : (ℓ : Loc Cert.KernelIdeal.nD Cert.KernelIdeal.τ Cert.KernelIdeal.sig) → Buf (Elt Ideal) ℓ) : Prop :=
  ∀ c : Dev Cert.KernelIdeal.nD,
    (Cert.Pre_log_decay_below_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_log_decay_below_top [hPre_log_decay_below_top : Cert.Pre_log_decay_below_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_log_decay_below_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_log_decay_below_top [hKernelIdeal : Cert.KernelIdeal.Facts] [hPre_log_decay_below_top : Cert.Pre_log_decay_below_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_log_decay_below_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_log_decay_below_top [hReferenceIdeal : Cert.ReferenceIdeal.Facts] [hPre_log_decay_below_top : Cert.Pre_log_decay_below_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_log_decay_below_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_log_decay_below_top [hKernelIdeal : Cert.KernelIdeal.Facts] [hReferenceIdeal : Cert.ReferenceIdeal.Facts] [hPre_log_decay_below_top : Cert.Pre_log_decay_below_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_log_decay_below_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v52_0)) (v1 : (c : Dev Cert.Kernel3Ideal.nD) → Buf (Elt Ideal) ((c.tc : Thread Cert.Kernel3Ideal.nD Cert.Kernel3Ideal.τ).loc Cert.Kernel3Ideal.main_v52_1)) (v2 : (c : Dev Cert.Kernel3Ideal.nD) → Buf (Elt Ideal) ((c.tc : Thread Cert.Kernel3Ideal.nD Cert.Kernel3Ideal.τ).loc Cert.Kernel3Ideal.main_v52_2)) (v3 : (c : Dev Cert.Kernel3Ideal.nD) → Buf (Elt Ideal) ((c.tc : Thread Cert.Kernel3Ideal.nD Cert.Kernel3Ideal.τ).loc Cert.Kernel3Ideal.main_v52_3)) (v4 : (c : Dev Cert.Kernel3Ideal.nD) → Buf (Elt Ideal) ((c.tc : Thread Cert.Kernel3Ideal.nD Cert.Kernel3Ideal.τ).loc Cert.Kernel3Ideal.main_v52_4)) (v5 : (c : Dev Cert.Kernel3Ideal.nD) → Buf (Elt Ideal) ((c.tc : Thread Cert.Kernel3Ideal.nD Cert.Kernel3Ideal.τ).loc Cert.Kernel3Ideal.main_v52_5)) (v6 : (c : Dev Cert.Kernel3Ideal.nD) → Buf (Elt Ideal) ((c.tc : Thread Cert.Kernel3Ideal.nD Cert.Kernel3Ideal.τ).loc Cert.Kernel3Ideal.main_v52_6)) (v7 : (c : Dev Cert.Kernel3Ideal.nD) → Buf (Elt Ideal) ((c.tc : Thread Cert.Kernel3Ideal.nD Cert.Kernel3Ideal.τ).loc Cert.Kernel3Ideal.main_v52_7)) (v8 : (c : Dev Cert.Kernel3Ideal.nD) → Buf (Elt Ideal) ((c.tc : Thread Cert.Kernel3Ideal.nD Cert.Kernel3Ideal.τ).loc Cert.Kernel3Ideal.main_v52_8)) (v9 : (c : Dev Cert.Kernel3Ideal.nD) → Buf (Elt Ideal) ((c.tc : Thread Cert.Kernel3Ideal.nD Cert.Kernel3Ideal.τ).loc Cert.Kernel3Ideal.main_v52_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v52_0) = v0 c
          ∧ r.2.mem ((c.tc : Thread Cert.Kernel3Ideal.nD Cert.Kernel3Ideal.τ).loc Cert.Kernel3Ideal.main_v52_1) = v1 c
          ∧ r.2.mem ((c.tc : Thread Cert.Kernel3Ideal.nD Cert.Kernel3Ideal.τ).loc Cert.Kernel3Ideal.main_v52_2) = v2 c
          ∧ r.2.mem ((c.tc : Thread Cert.Kernel3Ideal.nD Cert.Kernel3Ideal.τ).loc Cert.Kernel3Ideal.main_v52_3) = v3 c
          ∧ r.2.mem ((c.tc : Thread Cert.Kernel3Ideal.nD Cert.Kernel3Ideal.τ).loc Cert.Kernel3Ideal.main_v52_4) = v4 c
          ∧ r.2.mem ((c.tc : Thread Cert.Kernel3Ideal.nD Cert.Kernel3Ideal.τ).loc Cert.Kernel3Ideal.main_v52_5) = v5 c
          ∧ r.2.mem ((c.tc : Thread Cert.Kernel3Ideal.nD Cert.Kernel3Ideal.τ).loc Cert.Kernel3Ideal.main_v52_6) = v6 c
          ∧ r.2.mem ((c.tc : Thread Cert.Kernel3Ideal.nD Cert.Kernel3Ideal.τ).loc Cert.Kernel3Ideal.main_v52_7) = v7 c
          ∧ r.2.mem ((c.tc : Thread Cert.Kernel3Ideal.nD Cert.Kernel3Ideal.τ).loc Cert.Kernel3Ideal.main_v52_8) = v8 c
          ∧ r.2.mem ((c.tc : Thread Cert.Kernel3Ideal.nD Cert.Kernel3Ideal.τ).loc Cert.Kernel3Ideal.main_v52_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v185) = v0 c
          ∧ r.2.mem ((c.tc : Thread Cert.Reference3Ideal.nD Cert.Reference3Ideal.τ).loc Cert.Reference3Ideal.main_v186) = v1 c
          ∧ r.2.mem ((c.tc : Thread Cert.Reference3Ideal.nD Cert.Reference3Ideal.τ).loc Cert.Reference3Ideal.main_v187) = v2 c
          ∧ r.2.mem ((c.tc : Thread Cert.Reference3Ideal.nD Cert.Reference3Ideal.τ).loc Cert.Reference3Ideal.main_v188) = v3 c
          ∧ r.2.mem ((c.tc : Thread Cert.Reference3Ideal.nD Cert.Reference3Ideal.τ).loc Cert.Reference3Ideal.main_v189) = v4 c
          ∧ r.2.mem ((c.tc : Thread Cert.Reference3Ideal.nD Cert.Reference3Ideal.τ).loc Cert.Reference3Ideal.main_v190) = v5 c
          ∧ r.2.mem ((c.tc : Thread Cert.Reference3Ideal.nD Cert.Reference3Ideal.τ).loc Cert.Reference3Ideal.main_v191) = v6 c
          ∧ r.2.mem ((c.tc : Thread Cert.Reference3Ideal.nD Cert.Reference3Ideal.τ).loc Cert.Reference3Ideal.main_v192) = v7 c
          ∧ r.2.mem ((c.tc : Thread Cert.Reference3Ideal.nD Cert.Reference3Ideal.τ).loc Cert.Reference3Ideal.main_v193) = v8 c
          ∧ r.2.mem ((c.tc : Thread Cert.Reference3Ideal.nD Cert.Reference3Ideal.τ).loc Cert.Reference3Ideal.main_v184) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v57_0)) (v1 : (c : Dev Cert.Kernel4Ideal.nD) → Buf (Elt Ideal) ((c.tc : Thread Cert.Kernel4Ideal.nD Cert.Kernel4Ideal.τ).loc Cert.Kernel4Ideal.main_v57_1)) (v2 : (c : Dev Cert.Kernel4Ideal.nD) → Buf (Elt Ideal) ((c.tc : Thread Cert.Kernel4Ideal.nD Cert.Kernel4Ideal.τ).loc Cert.Kernel4Ideal.main_v57_2)) (v3 : (c : Dev Cert.Kernel4Ideal.nD) → Buf (Elt Ideal) ((c.tc : Thread Cert.Kernel4Ideal.nD Cert.Kernel4Ideal.τ).loc Cert.Kernel4Ideal.main_v57_3)) (v4 : (c : Dev Cert.Kernel4Ideal.nD) → Buf (Elt Ideal) ((c.tc : Thread Cert.Kernel4Ideal.nD Cert.Kernel4Ideal.τ).loc Cert.Kernel4Ideal.main_v57_4)) (v5 : (c : Dev Cert.Kernel4Ideal.nD) → Buf (Elt Ideal) ((c.tc : Thread Cert.Kernel4Ideal.nD Cert.Kernel4Ideal.τ).loc Cert.Kernel4Ideal.main_v57_5)) (v6 : (c : Dev Cert.Kernel4Ideal.nD) → Buf (Elt Ideal) ((c.tc : Thread Cert.Kernel4Ideal.nD Cert.Kernel4Ideal.τ).loc Cert.Kernel4Ideal.main_v57_6)) (v7 : (c : Dev Cert.Kernel4Ideal.nD) → Buf (Elt Ideal) ((c.tc : Thread Cert.Kernel4Ideal.nD Cert.Kernel4Ideal.τ).loc Cert.Kernel4Ideal.main_v57_7)) (v8 : (c : Dev Cert.Kernel4Ideal.nD) → Buf (Elt Ideal) ((c.tc : Thread Cert.Kernel4Ideal.nD Cert.Kernel4Ideal.τ).loc Cert.Kernel4Ideal.main_v57_8)) (v9 : (c : Dev Cert.Kernel4Ideal.nD) → Buf (Elt Ideal) ((c.tc : Thread Cert.Kernel4Ideal.nD Cert.Kernel4Ideal.τ).loc Cert.Kernel4Ideal.main_v57_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_0) = v0 c
          ∧ r.2.mem ((c.tc : Thread Cert.Kernel4Ideal.nD Cert.Kernel4Ideal.τ).loc Cert.Kernel4Ideal.main_v57_1) = v1 c
          ∧ r.2.mem ((c.tc : Thread Cert.Kernel4Ideal.nD Cert.Kernel4Ideal.τ).loc Cert.Kernel4Ideal.main_v57_2) = v2 c
          ∧ r.2.mem ((c.tc : Thread Cert.Kernel4Ideal.nD Cert.Kernel4Ideal.τ).loc Cert.Kernel4Ideal.main_v57_3) = v3 c
          ∧ r.2.mem ((c.tc : Thread Cert.Kernel4Ideal.nD Cert.Kernel4Ideal.τ).loc Cert.Kernel4Ideal.main_v57_4) = v4 c
          ∧ r.2.mem ((c.tc : Thread Cert.Kernel4Ideal.nD Cert.Kernel4Ideal.τ).loc Cert.Kernel4Ideal.main_v57_5) = v5 c
          ∧ r.2.mem ((c.tc : Thread Cert.Kernel4Ideal.nD Cert.Kernel4Ideal.τ).loc Cert.Kernel4Ideal.main_v57_6) = v6 c
          ∧ r.2.mem ((c.tc : Thread Cert.Kernel4Ideal.nD Cert.Kernel4Ideal.τ).loc Cert.Kernel4Ideal.main_v57_7) = v7 c
          ∧ r.2.mem ((c.tc : Thread Cert.Kernel4Ideal.nD Cert.Kernel4Ideal.τ).loc Cert.Kernel4Ideal.main_v57_8) = v8 c
          ∧ r.2.mem ((c.tc : Thread Cert.Kernel4Ideal.nD Cert.Kernel4Ideal.τ).loc Cert.Kernel4Ideal.main_v57_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v189) = v0 c
          ∧ r.2.mem ((c.tc : Thread Cert.Reference4Ideal.nD Cert.Reference4Ideal.τ).loc Cert.Reference4Ideal.main_v190) = v1 c
          ∧ r.2.mem ((c.tc : Thread Cert.Reference4Ideal.nD Cert.Reference4Ideal.τ).loc Cert.Reference4Ideal.main_v191) = v2 c
          ∧ r.2.mem ((c.tc : Thread Cert.Reference4Ideal.nD Cert.Reference4Ideal.τ).loc Cert.Reference4Ideal.main_v192) = v3 c
          ∧ r.2.mem ((c.tc : Thread Cert.Reference4Ideal.nD Cert.Reference4Ideal.τ).loc Cert.Reference4Ideal.main_v193) = v4 c
          ∧ r.2.mem ((c.tc : Thread Cert.Reference4Ideal.nD Cert.Reference4Ideal.τ).loc Cert.Reference4Ideal.main_v194) = v5 c
          ∧ r.2.mem ((c.tc : Thread Cert.Reference4Ideal.nD Cert.Reference4Ideal.τ).loc Cert.Reference4Ideal.main_v195) = v6 c
          ∧ r.2.mem ((c.tc : Thread Cert.Reference4Ideal.nD Cert.Reference4Ideal.τ).loc Cert.Reference4Ideal.main_v196) = v7 c
          ∧ r.2.mem ((c.tc : Thread Cert.Reference4Ideal.nD Cert.Reference4Ideal.τ).loc Cert.Reference4Ideal.main_v197) = v8 c
          ∧ r.2.mem ((c.tc : Thread Cert.Reference4Ideal.nD Cert.Reference4Ideal.τ).loc Cert.Reference4Ideal.main_v198) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v72_0)) (v1 : (c : Dev Cert.Kernel7Ideal.nD) → Buf (Elt Ideal) ((c.tc : Thread Cert.Kernel7Ideal.nD Cert.Kernel7Ideal.τ).loc Cert.Kernel7Ideal.main_v72_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v72_0) = v0 c
          ∧ r.2.mem ((c.tc : Thread Cert.Kernel7Ideal.nD Cert.Kernel7Ideal.τ).loc Cert.Kernel7Ideal.main_v72_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v258) = v0 c
          ∧ r.2.mem ((c.tc : Thread Cert.Reference7Ideal.nD Cert.Reference7Ideal.τ).loc Cert.Reference7Ideal.main_v259) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_log_decay_below_top : Cert.Pre_log_decay_below_top.Facts),
    quiescent_Kernel (hKernel := hKernel)
    ∧ quiescent_KernelIdeal (hKernelIdeal := hKernelIdeal)
    ∧ quiescent_KernelIdeal_pre_log_decay_below_top (hKernelIdeal := hKernelIdeal) (hPre_log_decay_below_top := hPre_log_decay_below_top)
    ∧ quiescent_ReferenceIdeal (hReferenceIdeal := hReferenceIdeal)
    ∧ quiescent_ReferenceIdeal_pre_log_decay_below_top (hReferenceIdeal := hReferenceIdeal) (hPre_log_decay_below_top := hPre_log_decay_below_top)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_log_decay_below_top (hKernelIdeal := hKernelIdeal) (hReferenceIdeal := hReferenceIdeal) (hPre_log_decay_below_top := hPre_log_decay_below_top)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_log_decay_below_top.lean ====
abbrev S16384x512 : Shape := ⟨2, ![16384, 512]⟩
abbrev S1x128 : Shape := ⟨2, ![1, 128]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S1x128 .f32) : IVec S16384x512 1 :=
  let main_cst : FVec F S_ .f32 := constant S_ .f32 0x7F800000#32
  let main_v0 : FVec F S16384x512 .f32 := broadcastInDim S16384x512 ![] bcast_S_S16384x512 main_cst
  let main_v1 : IVec S16384x512 1 := cmpf .olt main_arg2 main_v0
  main_v1
-- ==== Kernel.lean ====
abbrev S16384x512 : Shape := ⟨2, ![16384, 512]⟩
abbrev S1x128 : Shape := ⟨2, ![1, 128]⟩
abbrev S128 : Shape := ⟨1, ![128]⟩
abbrev S_ : Shape := ⟨0, ![]⟩
abbrev S1x4x128x128 : Shape := ⟨4, ![1, 4, 128, 128]⟩
abbrev S1x16384x512 : Shape := ⟨3, ![1, 16384, 512]⟩
abbrev S1x64x512 : Shape := ⟨3, ![1, 64, 512]⟩
abbrev S4x128x128 : Shape := ⟨3, ![4, 128, 128]⟩
abbrev S64x128 : Shape := ⟨2, ![64, 128]⟩
abbrev S1x64x128 : Shape := ⟨3, ![1, 64, 128]⟩
abbrev S1x128x128 : Shape := ⟨3, ![1, 128, 128]⟩
abbrev S128x128 : Shape := ⟨2, ![128, 128]⟩
abbrev S16x128 : Shape := ⟨2, ![16, 128]⟩
abbrev S16x16 : Shape := ⟨2, ![16, 16]⟩
abbrev S32x128 : Shape := ⟨2, ![32, 128]⟩
abbrev S16x32 : Shape := ⟨2, ![16, 32]⟩
abbrev S48x128 : Shape := ⟨2, ![48, 128]⟩
abbrev S16x48 : Shape := ⟨2, ![16, 48]⟩
abbrev S64 : Shape := ⟨1, ![64]⟩
abbrev S64x1 : Shape := ⟨2, ![64, 1]⟩

abbrev nBuf : Space → Nat
  | .hbm => 17
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S_, .f32⟩
  | .hbm, ⟨9, _⟩ => ⟨S1x4x128x128, .f32⟩
  | .hbm, ⟨10, _⟩ => ⟨S1x16384x512, .f32⟩
  | .hbm, ⟨11, _⟩ => ⟨S1x16384x512, .f32⟩
  | .hbm, ⟨12, _⟩ => ⟨S1x16384x512, .f32⟩
  | .hbm, ⟨13, _⟩ => ⟨S1x16384x512, .f32⟩
  | .hbm, ⟨14, _⟩ => ⟨S1x16384x512, .f32⟩
  | .hbm, ⟨15, _⟩ => ⟨S1x16384x512, .f32⟩
  | .hbm, ⟨16, _⟩ => ⟨S1x4x128x128, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x128, .f32⟩
  | .local _ .vmem, ⟨11, _⟩ => ⟨S1x4x128x128, .f32⟩
  | .local _ .vmem, ⟨12, _⟩ => ⟨S1x64x512, .f32⟩
  | .local _ .vmem, ⟨13, _⟩ => ⟨S1x64x512, .f32⟩
  | .local _ .vmem, ⟨14, _⟩ => ⟨S1x4x128x128, .f32⟩
  | .local _ .vmem, ⟨15, _⟩ => ⟨S4x128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![1, 256], ![false, false]⟩

def k0_cond2 (i : grid0.Coords) : BitVec 1 :=
  let arg1 : BitVec 32 := BitVec.ofNat 32 (i 1).val
  let c255_i32 : BitVec 32 := 255#32
  let v1732 : BitVec 1 := Scalar.cmpi .eq arg1 c255_i32
  let v1733 : BitVec 32 := Scalar.extui v1732
  let c0_i32_635 : BitVec 32 := 0#32
  let v1734 : BitVec 1 := Scalar.cmpi .ne v1733 c0_i32_635
  v1734

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S16384x512 : Shape := ⟨2, ![16384, 512]⟩
abbrev S1x128 : Shape := ⟨2, ![1, 128]⟩
abbrev S_ : Shape := ⟨0, ![]⟩
abbrev S1x4x128x128 : Shape := ⟨4, ![1, 4, 128, 128]⟩
abbrev S1x16384x4x128 : Shape := ⟨4, ![1, 16384, 4, 128]⟩
abbrev S64x64 : Shape := ⟨2, ![64, 64]⟩
abbrev S64x64x1 : Shape := ⟨3, ![64, 64, 1]⟩
abbrev S1x256x64x4x128 : Shape := ⟨5, ![1, 256, 64, 4, 128]⟩
abbrev S256x1x4x64x128 : Shape := ⟨5, ![256, 1, 4, 64, 128]⟩
abbrev S1x1x4x64x128 : Shape := ⟨5, ![1, 1, 4, 64, 128]⟩
abbrev S1x4x64x128 : Shape := ⟨4, ![1, 4, 64, 128]⟩
abbrev S1x4x64x1x128 : Shape := ⟨5, ![1, 4, 64, 1, 128]⟩
abbrev S1x4x1x64x128 : Shape := ⟨5, ![1, 4, 1, 64, 128]⟩
abbrev S1x4x64x64x128 : Shape := ⟨5, ![1, 4, 64, 64, 128]⟩
abbrev S1x4x64x64 : Shape := ⟨4, ![1, 4, 64, 64]⟩
abbrev S1x4x1x128 : Shape := ⟨4, ![1, 4, 1, 128]⟩
abbrev S1x4x128 : Shape := ⟨3, ![1, 4, 128]⟩
abbrev S1x4x128x1 : Shape := ⟨4, ![1, 4, 128, 1]⟩
abbrev S128 : Shape := ⟨1, ![128]⟩
abbrev S1x16384x4 : Shape := ⟨3, ![1, 16384, 4]⟩
abbrev S1x16384x4x1 : Shape := ⟨4, ![1, 16384, 4, 1]⟩
abbrev S1x1x1x128 : Shape := ⟨4, ![1, 1, 1, 128]⟩
abbrev S1x16384x512 : Shape := ⟨3, ![1, 16384, 512]⟩

abbrev nBuf : Space → Nat
  | .hbm => 135
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S16384x512, .f32⟩
  | 5 => ⟨S1x128, .f32⟩
  | 6 => ⟨S_, .f32⟩
  | 7 => ⟨S1x4x128x128, .f32⟩
  | 8 => ⟨S1x16384x4x128, .f32⟩
  | 9 => ⟨S1x16384x4x128, .f32⟩
  | 10 => ⟨S1x16384x4x128, .f32⟩
  | 11 => ⟨S1x16384x4x128, .f32⟩
  | 12 => ⟨S_, .i1⟩
  | 13 => ⟨S64x64, .i1⟩
  | 14 => ⟨S64x64, .i32⟩
  | 15 => ⟨S_, .i32⟩
  | 16 => ⟨S64x64, .i32⟩
  | 17 => ⟨S64x64, .i32⟩
  | 18 => ⟨S64x64, .i32⟩
  | 19 => ⟨S64x64, .i1⟩
  | 20 => ⟨S_, .i1⟩
  | 21 => ⟨S64x64, .i1⟩
  | 22 => ⟨S64x64, .i1⟩
  | 23 => ⟨S64x64x1, .i1⟩
  | 24 => ⟨S1x256x64x4x128, .f32⟩
  | 25 => ⟨S256x1x4x64x128, .f32⟩
  | 26 => ⟨S1x256x64x4x128, .f32⟩
  | 27 => ⟨S256x1x4x64x128, .f32⟩
  | 28 => ⟨S1x256x64x4x128, .f32⟩
  | 29 => ⟨S256x1x4x64x128, .f32⟩
  | 30 => ⟨S1x256x64x4x128, .f32⟩
  | 31 => ⟨S256x1x4x64x128, .f32⟩
  | 32 => ⟨S_, .f32⟩
  | 33 => ⟨S256x1x4x64x128, .f32⟩
  | 34 => ⟨S_, .i32⟩
  | 35 => ⟨S256x1x4x64x128, .f32⟩
  | 36 => ⟨S256x1x4x64x128, .f32⟩
  | 37 => ⟨S256x1x4x64x128, .f32⟩
  | 38 => ⟨S256x1x4x64x128, .f32⟩
  | 39 => ⟨S64x64x1, .i1⟩
  | 40 => ⟨S_, .i32⟩
  | 41 => ⟨S1x4x128x128, .f32⟩
  | 42 => ⟨S256x1x4x64x128, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S1x1x4x64x128, .f32⟩
  | 50 => ⟨S1x4x64x128, .f32⟩
  | 51 => ⟨S_, .i32⟩
  | 52 => ⟨S_, .i32⟩
  | 53 => ⟨S_, .i32⟩
  | 54 => ⟨S_, .i32⟩
  | 55 => ⟨S1x1x4x64x128, .f32⟩
  | 56 => ⟨S1x4x64x128, .f32⟩
  | 57 => ⟨S_, .i32⟩
  | 58 => ⟨S_, .i32⟩
  | 59 => ⟨S_, .i32⟩
  | 60 => ⟨S_, .i32⟩
  | 61 => ⟨S1x1x4x64x128, .f32⟩
  | 62 => ⟨S1x4x64x128, .f32⟩
  | 63 => ⟨S_, .i32⟩
  | 64 => ⟨S_, .i32⟩
  | 65 => ⟨S_, .i32⟩
  | 66 => ⟨S_, .i32⟩
  | 67 => ⟨S1x1x4x64x128, .f32⟩
  | 68 => ⟨S1x4x64x128, .f32⟩
  | 69 => ⟨S_, .f32⟩
  | 70 => ⟨S_, .f32⟩
  | 71 => ⟨S1x4x64x128, .f32⟩
  | 72 => ⟨S1x4x64x1x128, .f32⟩
  | 73 => ⟨S1x4x1x64x128, .f32⟩
  | 74 => ⟨S1x4x64x64x128, .f32⟩
  | 75 => ⟨S1x4x64x64x128, .f32⟩
  | 76 => ⟨S1x4x64x64x128, .f32⟩
  | 77 => ⟨S_, .f32⟩
  | 78 => ⟨S_, .f32⟩
  | 79 => ⟨S1x4x64x64x128, .i1⟩
  | 80 => ⟨S1x4x64x64x128, .f32⟩
  | 81 => ⟨S1x4x64x64x128, .f32⟩
  | 82 => ⟨S1x4x64x64x128, .f32⟩
  | 83 => ⟨S1x4x1x64x128, .f32⟩
  | 84 => ⟨S1x4x64x64x128, .f32⟩
  | 85 => ⟨S1x4x64x64x128, .f32⟩
  | 86 => ⟨S1x4x64x64, .f32⟩
  | 87 => ⟨S1x4x64x128, .f32⟩
  | 88 => ⟨S1x4x64x128, .f32⟩
  | 89 => ⟨S1x4x64x128, .f32⟩
  | 90 => ⟨S1x4x64x128, .f32⟩
  | 91 => ⟨S1x4x64x128, .f32⟩
  | 92 => ⟨S1x4x1x128, .f32⟩
  | 93 => ⟨S1x4x128, .f32⟩
  | 94 => ⟨S1x4x128, .f32⟩
  | 95 => ⟨S1x4x128x1, .f32⟩
  | 96 => ⟨S1x4x128x128, .f32⟩
  | 97 => ⟨S1x4x128x128, .f32⟩
  | 98 => ⟨S1x4x64x128, .f32⟩
  | 99 => ⟨S1x4x64x128, .f32⟩
  | 100 => ⟨S1x4x64x128, .f32⟩
  | 101 => ⟨S1x4x64x128, .f32⟩
  | 102 => ⟨S1x4x128x128, .f32⟩
  | 103 => ⟨S1x4x128x128, .f32⟩
  | 104 => ⟨S1x1x4x64x128, .f32⟩
  | 105 => ⟨S_, .i32⟩
  | 106 => ⟨S_, .i32⟩
  | 107 => ⟨S_, .i32⟩
  | 108 => ⟨S_, .i32⟩
  | 109 => ⟨S256x1x4x64x128, .f32⟩
  | 110 => ⟨S_, .i32⟩
  | 111 => ⟨S_, .i32⟩
  | 112 => ⟨S1x256x64x4x128, .f32⟩
  | 113 => ⟨S1x16384x4x128, .f32⟩
  | 114 => ⟨S128, .f32⟩
  | 115 => ⟨S1x16384x4x128, .f32⟩
  | 116 => ⟨S_, .f32⟩
  | 117 => ⟨S1x16384x4, .f32⟩
  | 118 => ⟨S1x16384x4x1, .f32⟩
  | 119 => ⟨S_, .f32⟩
  | 120 => ⟨S1x16384x4x1, .f32⟩
  | 121 => ⟨S1x16384x4x1, .f32⟩
  | 122 => ⟨S_, .f32⟩
  | 123 => ⟨S1x16384x4x1, .f32⟩
  | 124 => ⟨S1x16384x4x1, .f32⟩
  | 125 => ⟨S1x16384x4x1, .f32⟩
  | 126 => ⟨S1x16384x4x128, .f32⟩
  | 127 => ⟨S1x16384x4x128, .f32⟩
  | _ => ⟨S16384x512, .f32⟩

abbrev hbmTy0_1 (i : Nat) : BufTy := match i % 128 with
  | 0 => ⟨S1x1x1x128, .f32⟩
  | 1 => ⟨S1x16384x4x128, .f32⟩
  | 2 => ⟨S1x16384x4x128, .f32⟩
  | 3 => ⟨S1x16384x4x128, .f32⟩
  | 4 => ⟨S1x16384x4x128, .f32⟩
  | 5 => ⟨S1x16384x512, .f32⟩
  | 6 => ⟨S1x4x128x128, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_c_1 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_v17_3 : Ref sig .tc := ⟨.hbm, 38, rfl⟩
abbrev main_v17_4 : Ref sig .tc := ⟨.hbm, 39, rfl⟩
abbrev main_v17_5 : Ref sig .tc := ⟨.hbm, 40, rfl⟩
abbrev main_v17_6 : Ref sig .tc := ⟨.hbm, 41, rfl⟩
abbrev main_v17_7 : Ref sig .tc := ⟨.hbm, 42, rfl⟩
abbrev main_while0c_c_12 : Ref sig .tc := ⟨.hbm, 43, rfl⟩
abbrev main_while0c_v38 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_v0 : Ref sig .tc := ⟨.hbm, 49, rfl⟩
abbrev main_while0b_v38 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v0 : Ref sig .tc := ⟨.hbm, 55, rfl⟩
abbrev main_while0b_v39 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_call3_c_1 : Ref sig .tc := ⟨.hbm, 59, rfl⟩
abbrev main_while0b_call3_c_2 : Ref sig .tc := ⟨.hbm, 60, rfl⟩
abbrev main_while0b_call3_v0 : Ref sig .tc := ⟨.hbm, 61, rfl⟩
abbrev main_while0b_v40 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_call4_c_2 : Ref sig .tc := ⟨.hbm, 66, rfl⟩
abbrev main_while0b_call4_v0 : Ref sig .tc := ⟨.hbm, 67, rfl⟩
abbrev main_while0b_v41 : Ref sig .tc := ⟨.hbm, 68, rfl⟩
abbrev main_while0b_call5_call0_cst : Ref sig .tc := ⟨.hbm, 69, rfl⟩
abbrev main_while0b_call5_call0_v0 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_cst_12 : Ref sig .tc := ⟨.hbm, 77, rfl⟩
abbrev main_while0b_call6_v0 : Ref sig .tc := ⟨.hbm, 78, rfl⟩
abbrev main_while0b_call6_v1 : Ref sig .tc := ⟨.hbm, 79, rfl⟩
abbrev main_while0b_call6_v2 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_call7_v0 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_v71 : Ref sig .tc := ⟨.hbm, 109, rfl⟩
abbrev main_while0b_c_13 : Ref sig .tc := ⟨.hbm, 110, rfl⟩
abbrev main_while0b_v72 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_cst_2 : Ref sig .tc := ⟨.hbm, 116, rfl⟩
abbrev main_v22 : Ref sig .tc := ⟨.hbm, 117, rfl⟩
abbrev main_v23 : Ref sig .tc := ⟨.hbm, 118, rfl⟩
abbrev main_cst_3 : Ref sig .tc := ⟨.hbm, 119, rfl⟩
abbrev main_v24 : Ref sig .tc := ⟨.hbm, 120, rfl⟩
abbrev main_v25 : Ref sig .tc := ⟨.hbm, 121, rfl⟩
abbrev main_cst_4 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S1x16384x1024 : Shape := ⟨3, ![1, 16384, 1024]⟩
abbrev S1x16384x512 : Shape := ⟨3, ![1, 16384, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S2816 : Shape := ⟨1, ![2816]⟩
abbrev S16384x1024 : Shape := ⟨2, ![16384, 1024]⟩
abbrev S_ : Shape := ⟨0, ![]⟩
abbrev S8x2816 : Shape := ⟨2, ![8, 2816]⟩
abbrev S16384x512 : Shape := ⟨2, ![16384, 512]⟩
abbrev S3x2816 : Shape := ⟨2, ![3, 2816]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S8x256 : Shape := ⟨2, ![8, 256]⟩
abbrev S1x256 : Shape := ⟨2, ![1, 256]⟩
abbrev S256x1024 : Shape := ⟨2, ![256, 1024]⟩

abbrev nBuf : Space → Nat
  | .hbm => 29
  | .vmem => 21
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x2816, .f32⟩
  | .hbm, ⟨7, _⟩ => ⟨S1x2816, .f32⟩
  | .hbm, ⟨8, _⟩ => ⟨S1x2816x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024x5632, .f32⟩
  | .hbm, ⟨13, _⟩ => ⟨S1024x5632, .bf16⟩
  | .hbm, ⟨14, _⟩ => ⟨S2816x1024, .f32⟩
  | .hbm, ⟨15, _⟩ => ⟨S2816x1024, .bf16⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S2816, .f32⟩
  | .hbm, ⟨20, _⟩ => ⟨S1x2816, .f32⟩
  | .hbm, ⟨21, _⟩ => ⟨S16384x1024, .f32⟩
  | .hbm, ⟨22, _⟩ => ⟨S_, .f32⟩
  | .hbm, ⟨23, _⟩ => ⟨S8x2816, .f32⟩
  | .hbm, ⟨24, _⟩ => ⟨S16384x512, .f32⟩
  | .hbm, ⟨25, _⟩ => ⟨S16384x512, .f32⟩
  | .hbm, ⟨26, _⟩ => ⟨S3x2816, .f32⟩
  | .hbm, ⟨27, _⟩ => ⟨S16384x1024, .f32⟩
  | .hbm, ⟨28, _⟩ => ⟨S8x2816, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x2816, .f32⟩
  | .local _ .vmem, ⟨7, _⟩ => ⟨S8x2816, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S8x2816, .f32⟩
  | .local _ .vmem, ⟨18, _⟩ => ⟨S8x2816, .f32⟩
  | .local _ .vmem, ⟨19, _⟩ => ⟨S512x1024, .f32⟩
  | .local _ .vmem, ⟨20, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S1x16384x1024 : Shape := ⟨3, ![1, 16384, 1024]⟩
abbrev S1x16384x512 : Shape := ⟨3, ![1, 16384, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S1x2x2816 : Shape := ⟨3, ![1, 2, 2816]⟩
abbrev S1024x1024 : Shape := ⟨2, ![1024, 1024]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S1x16384x5632 : Shape := ⟨3, ![1, 16384, 5632]⟩
abbrev S1x16384x2816 : Shape := ⟨3, ![1, 16384, 2816]⟩
abbrev S1x16386x2816 : Shape := ⟨3, ![1, 16386, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩
abbrev S16384x1024 : Shape := ⟨2, ![16384, 1024]⟩
abbrev S1x8x2816 : Shape := ⟨3, ![1, 8, 2816]⟩
abbrev S8x2816 : Shape := ⟨2, ![8, 2816]⟩

abbrev nBuf : Space → Nat
  | .hbm => 97
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x2816, .f32⟩
  | .hbm, ⟨7, _⟩ => ⟨S1x2816, .f32⟩
  | .hbm, ⟨8, _⟩ => ⟨S1x2816x1024, .f32⟩
  | .hbm, ⟨9, _⟩ => ⟨S1024, .f32⟩
  | .hbm, ⟨10, _⟩ => ⟨S_, .f32⟩
  | .hbm, ⟨11, _⟩ => ⟨S1x2x2816, .f32⟩
  | .hbm, ⟨12, _⟩ => ⟨S1x16384x1024, .f32⟩
  | .hbm, ⟨13, _⟩ => ⟨S1024x1024, .f32⟩
  | .hbm, ⟨14, _⟩ => ⟨S1x16384x1024, .f32⟩
  | .hbm, ⟨15, _⟩ => ⟨S1x16384x1024, .f32⟩
  | .hbm, ⟨16, _⟩ => ⟨S1024, .f32⟩
  | .hbm, ⟨17, _⟩ => ⟨S1x16384x1024, .f32⟩
  | .hbm, ⟨18, _⟩ => ⟨S_, .f32⟩
  | .hbm, ⟨19, _⟩ => ⟨S1x16384, .f32⟩
  | .hbm, ⟨20, _⟩ => ⟨S1x16384x1, .f32⟩
  | .hbm, ⟨21, _⟩ => ⟨S_, .f32⟩
  | .hbm, ⟨22, _⟩ => ⟨S1x16384x1, .f32⟩
  | .hbm, ⟨23, _⟩ => ⟨S1x16384x1, .f32⟩
  | .hbm, ⟨24, _⟩ => ⟨S_, .f32⟩
  | .hbm, ⟨25, _⟩ => ⟨S1x16384x1, .f32⟩
  | .hbm, ⟨26, _⟩ => ⟨S1x16384x1, .f32⟩
  | .hbm, ⟨27, _⟩ => ⟨S1x16384x1, .f32⟩
  | .hbm, ⟨28, _⟩ => ⟨S1x16384x1024, .f32⟩
  | .hbm, ⟨29, _⟩ => ⟨S1x16384x1024, .f32⟩
  | .hbm, ⟨30, _⟩ => ⟨S1x1x1024, .f32⟩
  | .hbm, ⟨31, _⟩ => ⟨S1x16384x1024, .f32⟩
  | .hbm, ⟨32, _⟩ => ⟨S1x16384x1024, .f32⟩
  | .hbm, ⟨33, _⟩ => ⟨S1024x5632, .f32⟩
  | .hbm, ⟨34, _⟩ => ⟨S1x16384x5632, .f32⟩
  | .hbm, ⟨35, _⟩ => ⟨S1x16384x2816, .f32⟩
  | .hbm, ⟨36, _⟩ => ⟨S1x16384x2816, .f32⟩
  | .hbm, ⟨37, _⟩ => ⟨S1x16386x2816, .f32⟩
  | .hbm, ⟨38, _⟩ => ⟨S2816, .f32⟩
  | .hbm, ⟨39, _⟩ => ⟨S3x2816, .f32⟩
  | .hbm, ⟨40, _⟩ => ⟨S1x2816, .f32⟩
  | .hbm, ⟨41, _⟩ => ⟨S2816, .f32⟩
  | .hbm, ⟨42, _⟩ => ⟨S1x16384x2816, .f32⟩
  | .hbm, ⟨43, _⟩ => ⟨S1x1x2816, .f32⟩
  | .hbm, ⟨44, _⟩ => ⟨S1x16384x2816, .f32⟩
  | .hbm, ⟨45, _⟩ => ⟨S1x16384x2816, .f32⟩
  | .hbm, ⟨46, _⟩ => ⟨S1x1x2816, .f32⟩
  | .hbm, ⟨47, _⟩ => ⟨S1x16384x2816, .f32⟩
  | .hbm, ⟨48, _⟩ => ⟨S1x16384x2816, .f32⟩
  | .hbm, ⟨49, _⟩ => ⟨S3x2816, .f32⟩
  | .hbm, ⟨50, _⟩ => ⟨S1x2816, .f32⟩
  | .hbm, ⟨51, _⟩ => ⟨S2816, .f32⟩
  | .hbm, ⟨52, _⟩ => ⟨S1x16384x2816, .f32⟩
  | .hbm, ⟨53, _⟩ => ⟨S1x1x2816, .f32⟩
  | .hbm, ⟨54, _⟩ => ⟨S1x16384x2816, .f32⟩
  | .hbm, ⟨55, _⟩ => ⟨S1x16384x2816, .f32⟩
  | .hbm, ⟨56, _⟩ => ⟨S1x16384x2816, .f32⟩
  | .hbm, ⟨57, _⟩ => ⟨S3x2816, .f32⟩
  | .hbm, ⟨58, _⟩ => ⟨S1x2816, .f32⟩
  | .hbm, ⟨59, _⟩ => ⟨S2816, .f32⟩
  | .hbm, ⟨60, _⟩ => ⟨S1x16384x2816, .f32⟩
  | .hbm, ⟨61, _⟩ => ⟨S1x1x2816, .f32⟩
  | .hbm, ⟨62, _⟩ => ⟨S1x16384x2816, .f32⟩
  | .hbm, ⟨63, _⟩ => ⟨S1x16384x2816, .f32⟩
  | .hbm, ⟨64, _⟩ => ⟨S1x16384x2816, .f32⟩
  | .hbm, ⟨65, _⟩ => ⟨S1x16384x2816, .f32⟩
  | .hbm, ⟨66, _⟩ => ⟨S1x16384x2816, .f32⟩
  | .hbm, ⟨67, _⟩ => ⟨S_, .f32⟩
  | .hbm, ⟨68, _⟩ => ⟨S1x16384x2816, .f32⟩
  | .hbm, ⟨69, _⟩ => ⟨S1x16384x2816, .f32⟩
  | .hbm, ⟨70, _⟩ => ⟨S_, .f32⟩
  | .hbm, ⟨71, _⟩ => ⟨S1x16384x2816, .f32⟩
  | .hbm, ⟨72, _⟩ => ⟨S1x16384x2816, .f32⟩
  | .hbm, ⟨73, _⟩ => ⟨S1x16384x2816, .f32⟩
  | .hbm, ⟨74, _⟩ => ⟨S1x16384x2816, .f32⟩
  | .hbm, ⟨75, _⟩ => ⟨S2816x1024, .f32⟩
  | .hbm, ⟨76, _⟩ => ⟨S1x16384x1024, .f32⟩
  | .hbm, ⟨77, _⟩ => ⟨S1x16384x1024, .f32⟩
  | .hbm, ⟨78, _⟩ => ⟨S1x16384x1024, .f32⟩
  | .hbm, ⟨79, _⟩ => ⟨S_, .f32⟩
  | .hbm, ⟨80, _⟩ => ⟨S1x16384, .f32⟩
  | .hbm, ⟨81, _⟩ => ⟨S1x16384x1, .f32⟩
  | .hbm, ⟨82, _⟩ => ⟨S_, .f32⟩
  | .hbm, ⟨83, _⟩ => ⟨S1x16384x1, .f32⟩
  | .hbm, ⟨84, _⟩ => ⟨S1x16384x1, .f32⟩
  | .hbm, ⟨85, _⟩ => ⟨S_, .f32⟩
  | .hbm, ⟨86, _⟩ => ⟨S1x16384x1, .f32⟩
  | .hbm, ⟨87, _⟩ => ⟨S1x16384x1, .f32⟩
  | .hbm, ⟨88, _⟩ => ⟨S1x16384x1, .f32⟩
  | .hbm, ⟨89, _⟩ => ⟨S1x16384x1024, .f32⟩
  | .hbm, ⟨90, _⟩ => ⟨S1x16384x1024, .f32⟩
  | .hbm, ⟨91, _⟩ => ⟨S1x1x1024, .f32⟩
  | .hbm, ⟨92, _⟩ => ⟨S1x16384x1024, .f32⟩
  | .hbm, ⟨93, _⟩ => ⟨S1x16384x1024, .f32⟩
  | .hbm, ⟨94, _⟩ => ⟨S16384x1024, .f32⟩
  | .hbm, ⟨95, _⟩ => ⟨S1x8x2816, .f32⟩
  | .hbm, ⟨96, _⟩ => ⟨S8x2816, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_3 : Ref sig .tc := ⟨.hbm, 79, rfl⟩
abbrev main_v57 : Ref sig .tc := ⟨.hbm, 80, rfl⟩
abbrev main_v58 : Ref sig .tc := ⟨.hbm, 81, rfl⟩
abbrev main_cst_4 : Ref sig .tc := ⟨.hbm, 82, rfl⟩
abbrev main_v59 : Ref sig .tc := ⟨.hbm, 83, rfl⟩
abbrev main_v60 : Ref sig .tc := ⟨.hbm, 84, rfl⟩
abbrev main_cst_5 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x1024 : Shape := ⟨2, ![1, 1024]⟩
abbrev S1x1024x4168 : Shape := ⟨3, ![1, 1024, 4168]⟩
abbrev S2x512 : Shape := ⟨2, ![2, 512]⟩
abbrev S_ : Shape := ⟨0, ![]⟩
abbrev S512 : Shape := ⟨1, ![512]⟩
abbrev S1x512 : Shape := ⟨2, ![1, 512]⟩
abbrev S1024x4168 : Shape := ⟨2, ![1024, 4168]⟩
abbrev S1024x4224 : Shape := ⟨2, ![1024, 4224]⟩
abbrev S1024 : Shape := ⟨1, ![1024]⟩
abbrev S16384x1024 : Shape := ⟨2, ![16384, 1024]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S512x1 : Shape := ⟨2, ![512, 1]⟩
abbrev S1024x512 : Shape := ⟨2, ![1024, 512]⟩
abbrev S1024x128 : Shape := ⟨2, ![1024, 128]⟩

abbrev nBuf : Space → Nat
  | .hbm => 78
  | .vmem => 32
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x4168, .f32⟩
  | .hbm, ⟨3, _⟩ => ⟨S2x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S1024x4168, .f32⟩
  | .hbm, ⟨25, _⟩ => ⟨S_, .i32⟩
  | .hbm, ⟨26, _⟩ => ⟨S_, .f32⟩
  | .hbm, ⟨27, _⟩ => ⟨S1024x4224, .f32⟩
  | .hbm, ⟨28, _⟩ => ⟨S1024x4224, .bf16⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384, .i32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S16384, .f32⟩
  | .hbm, ⟨42, _⟩ => ⟨S16384x1, .f32⟩
  | .hbm, ⟨43, _⟩ => ⟨S1x8, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S16384x8, .f32⟩
  | .hbm, ⟨48, _⟩ => ⟨S16384x8, .f32⟩
  | .hbm, ⟨49, _⟩ => ⟨S_, .f32⟩
  | .hbm, ⟨50, _⟩ => ⟨S16384x48, .f32⟩
  | .hbm, ⟨51, _⟩ => ⟨S_, .f32⟩
  | .hbm, ⟨52, _⟩ => ⟨S16384x48, .f32⟩
  | .hbm, ⟨53, _⟩ => ⟨S_, .f32⟩
  | .hbm, ⟨54, _⟩ => ⟨S16384x8, .f32⟩
  | .hbm, ⟨55, _⟩ => ⟨S16384x64, .f32⟩
  | .hbm, ⟨56, _⟩ => ⟨S16384x64, .f32⟩
  | .hbm, ⟨57, _⟩ => ⟨S16384x8, .f32⟩
  | .hbm, ⟨58, _⟩ => ⟨S16384x64, .f32⟩
  | .hbm, ⟨59, _⟩ => ⟨S1x16384x1x64, .f32⟩
  | .hbm, ⟨60, _⟩ => ⟨S1x16384x2x64, .f32⟩
  | .hbm, ⟨61, _⟩ => ⟨S16384x128, .f32⟩
  | .hbm, ⟨62, _⟩ => ⟨S1x16384x1x64, .f32⟩
  | .hbm, ⟨63, _⟩ => ⟨S1x16384x2x64, .f32⟩
  | .hbm, ⟨64, _⟩ => ⟨S16384x128, .f32⟩
  | .hbm, ⟨65, _⟩ => ⟨S1x16384x1x64, .f32⟩
  | .hbm, ⟨66, _⟩ => ⟨S1x16384x2x64, .f32⟩
  | .hbm, ⟨67, _⟩ => ⟨S16384x128, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S1x512, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x128, .f32⟩
  | .local _ .vmem, ⟨30, _⟩ => ⟨S512x128, .f32⟩
  | .local _ .vmem, ⟨31, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev main_v52_4 : Ref sig .tc := ⟨.hbm, 72, rfl⟩
abbrev main_v52_5 : Ref sig .tc := ⟨.hbm, 73, rfl⟩
abbrev main_v52_6 : Ref sig .tc := ⟨.hbm, 74, rfl⟩
abbrev main_v52_7 : Ref sig .tc := ⟨.hbm, 75, rfl⟩
abbrev main_v52_8 : Ref sig .tc := ⟨.hbm, 76, rfl⟩
abbrev main_v52_9 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S1x16384x1024 : Shape := ⟨3, ![1, 16384, 1024]⟩
abbrev S1x1024 : Shape := ⟨2, ![1, 1024]⟩
abbrev S1x1024x4168 : Shape := ⟨3, ![1, 1024, 4168]⟩
abbrev S2x512 : Shape := ⟨2, ![2, 512]⟩
abbrev S16384 : Shape := ⟨1, ![16384]⟩
abbrev S_ : Shape := ⟨0, ![]⟩
abbrev S512 : Shape := ⟨1, ![512]⟩
abbrev S1x512 : Shape := ⟨2, ![1, 512]⟩
abbrev S1024 : Shape := ⟨1, ![1024]⟩
abbrev S1x16384 : Shape := ⟨2, ![1, 16384]⟩
abbrev S1x16384x1 : Shape := ⟨3, ![1, 16384, 1]⟩
abbrev S1x1x1024 : Shape := ⟨3, ![1, 1, 1024]⟩
abbrev S1024x4168 : Shape := ⟨2, ![1024, 4168]⟩
abbrev S1x16384x4168 : Shape := ⟨3, ![1, 16384, 4168]⟩
abbrev S1x16384x512 : Shape := ⟨3, ![1, 16384, 512]⟩
abbrev S1x16384x64 : Shape := ⟨3, ![1, 16384, 64]⟩
abbrev S1x16384x8 : Shape := ⟨3, ![1, 16384, 8]⟩
abbrev S1x1x512 : Shape := ⟨3, ![1, 1, 512]⟩
abbrev S1x16384x8x64 : Shape := ⟨4, ![1, 16384, 8, 64]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S1x16384x8x8 : Shape := ⟨4, ![1, 16384, 8, 8]⟩
abbrev S1x16384x8x48 : Shape := ⟨4, ![1, 16384, 8, 48]⟩
abbrev S1x16384x48 : Shape := ⟨3, ![1, 16384, 48]⟩
abbrev S16384x64 : Shape := ⟨2, ![16384, 64]⟩
abbrev S16384x56 : Shape := ⟨2, ![16384, 56]⟩
abbrev S16384x128 : Shape := ⟨2, ![16384, 128]⟩
abbrev S16384x512 : Shape := ⟨2, ![16384, 512]⟩

abbrev nBuf : Space → Nat
  | .hbm => 236
  | .vmem => 0
  | .smem => 0
  | _ => 0

abbrev hbmTy0_0 (i : Nat) : BufTy := match i % 128 with
  | 0 => ⟨S1x16384x1024, .f32⟩
  | 1 => ⟨S1x1024, .f32⟩
  | 2 => ⟨S1x1024x4168, .f32⟩
  | 3 => ⟨S2x512, .f32⟩
  | 4 => ⟨S16384, .i32⟩
  | 5 => ⟨S_, .f32⟩
  | 6 => ⟨S512, .f32⟩
  | 7 => ⟨S_, .f32⟩
  | 8 => ⟨S512, .f32⟩
  | 9 => ⟨S512, .f32⟩
  | 10 => ⟨S1x512, .f32⟩
  | 11 => ⟨S2x512, .f32⟩
  | 12 => ⟨S2x512, .f32⟩
  | 13 => ⟨S2x512, .f32⟩
  | 14 => ⟨S_, .f32⟩
  | 15 => ⟨S512, .f32⟩
  | 16 => ⟨S1x512, .f32⟩
  | 17 => ⟨S2x512, .f32⟩
  | 18 => ⟨S2x512, .f32⟩
  | 19 => ⟨S_, .f32⟩
  | 20 => ⟨S_, .f32⟩
  | 21 => ⟨S2x512, .f32⟩
  | 22 => ⟨S1x512, .f32⟩
  | 23 => ⟨S512, .f32⟩
  | 24 => ⟨S1024, .f32⟩
  | 25 => ⟨S1x16384x1024, .f32⟩
  | 26 => ⟨S_, .f32⟩
  | 27 => ⟨S1x16384, .f32⟩
  | 28 => ⟨S1x16384x1, .f32⟩
  | 29 => ⟨S_, .f32⟩
  | 30 => ⟨S1x16384x1, .f32⟩
  | 31 => ⟨S1x16384x1, .f32⟩
  | 32 => ⟨S_, .f32⟩
  | 33 => ⟨S1x16384x1, .f32⟩
  | 34 => ⟨S1x16384x1, .f32⟩
  | 35 => ⟨S1x16384x1, .f32⟩
  | 36 => ⟨S1x16384x1024, .f32⟩
  | 37 => ⟨S1x16384x1024, .f32⟩
  | 38 => ⟨S1x1x1024, .f32⟩
  | 39 => ⟨S1x16384x1024, .f32⟩
  | 40 => ⟨S1x16384x1024, .f32⟩
  | 41 => ⟨S1024x4168, .f32⟩
  | 42 => ⟨S1x16384x4168, .f32⟩
  | 43 => ⟨S1x16384x512, .f32⟩
  | 44 => ⟨S1x16384x512, .f32⟩
  | 45 => ⟨S1x16384x512, .f32⟩
  | 46 => ⟨S1x16384x512, .f32⟩
  | 47 => ⟨S1x16384x512, .f32⟩
  | 48 => ⟨S1x16384x512, .f32⟩
  | 49 => ⟨S1x16384x512, .f32⟩
  | 50 => ⟨S1x16384x512, .f32⟩
  | 51 => ⟨S1x16384x64, .f32⟩
  | 52 => ⟨S1x16384x8, .f32⟩
  | 53 => ⟨S1x16384x512, .f32⟩
  | 54 => ⟨S1x16384x512, .f32⟩
  | 55 => ⟨S_, .f32⟩
  | 56 => ⟨S1x16384x512, .f32⟩
  | 57 => ⟨S1x16384x512, .f32⟩
  | 58 => ⟨S_, .f32⟩
  | 59 => ⟨S1x16384x512, .f32⟩
  | 60 => ⟨S1x16384x512, .f32⟩
  | 61 => ⟨S1x16384x512, .f32⟩
  | 62 => ⟨S_, .f32⟩
  | 63 => ⟨S512, .f32⟩
  | 64 => ⟨S512, .f32⟩
  | 65 => ⟨S1x16384x512, .f32⟩
  | 66 => ⟨S1x16384x512, .f32⟩
  | 67 => ⟨S_, .f32⟩
  | 68 => ⟨S1x16384x512, .f32⟩
  | 69 => ⟨S1x16384x512, .f32⟩
  | 70 => ⟨S_, .f32⟩
  | 71 => ⟨S1x16384x512, .f32⟩
  | 72 => ⟨S1x16384x512, .f32⟩
  | 73 => ⟨S1x1x512, .f32⟩
  | 74 => ⟨S1x16384x512, .f32⟩
  | 75 => ⟨S1x16384x512, .f32⟩
  | 76 => ⟨S1x1x512, .f32⟩
  | 77 => ⟨S1x16384x512, .f32⟩
  | 78 => ⟨S1x16384x512, .f32⟩
  | 79 => ⟨S_, .f32⟩
  | 80 => ⟨S1x16384x512, .f32⟩
  | 81 => ⟨S1x16384x512, .f32⟩
  | 82 => ⟨S1x16384x512, .f32⟩
  | 83 => ⟨S1x16384x512, .f32⟩
  | 84 => ⟨S1x16384x512, .f32⟩
  | 85 => ⟨S_, .f32⟩
  | 86 => ⟨S1x16384x512, .f32⟩
  | 87 => ⟨S1x16384x512, .f32⟩
  | 88 => ⟨S_, .f32⟩
  | 89 => ⟨S1x16384x512, .f32⟩
  | 90 => ⟨S1x16384x512, .f32⟩
  | 91 => ⟨S1x16384x512, .f32⟩
  | 92 => ⟨S1x16384x8x64, .f32⟩
  | 93 => ⟨S8, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S16384, .f32⟩
  | 102 => ⟨S16384x1, .f32⟩
  | 103 => ⟨S1x8, .f32⟩
  | 104 => ⟨S16384x8, .f32⟩
  | 105 => ⟨S16384x8, .f32⟩
  | 106 => ⟨S16384x8, .f32⟩
  | 107 => ⟨S16384x8, .f32⟩
  | 108 => ⟨S1x16384x1x8, .f32⟩
  | 109 => ⟨S16384x8, .f32⟩
  | 110 => ⟨S1x16384x1x8, .f32⟩
  | 111 => ⟨S1x16384x8x8, .f32⟩
  | 112 => ⟨S1x16384x8x8, .f32⟩
  | 113 => ⟨S1x16384x8x48, .f32⟩
  | 114 => ⟨S1x16384x8x8, .f32⟩
  | 115 => ⟨S1x16384x8x8, .f32⟩
  | 116 => ⟨S1x16384x8x8, .f32⟩
  | 117 => ⟨S1x16384x8x8, .f32⟩
  | 118 => ⟨S1x16384x8x8, .f32⟩
  | 119 => ⟨S1x16384x8x8, .f32⟩
  | 120 => ⟨S1x16384x8x8, .f32⟩
  | 121 => ⟨S1x16384x8x8, .f32⟩
  | 122 => ⟨S1x16384x8x8, .f32⟩
  | 123 => ⟨S1x16384x8x8, .f32⟩
  | 124 => ⟨S1x16384x8x64, .f32⟩
  | 125 => ⟨S1x16384x8x64, .f32⟩
  | 126 => ⟨S8, .f32⟩
  | 127 => ⟨S8, .f32⟩
  | _ => ⟨S1x16384x1024, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S16384, .f32⟩
  | 7 => ⟨S16384x1, .f32⟩
  | 8 => ⟨S1x8, .f32⟩
  | 9 => ⟨S16384x8, .f32⟩
  | 10 => ⟨S16384x8, .f32⟩
  | 11 => ⟨S16384x8, .f32⟩
  | 12 => ⟨S16384x8, .f32⟩
  | 13 => ⟨S1x16384x1x8, .f32⟩
  | 14 => ⟨S16384x8, .f32⟩
  | 15 => ⟨S1x16384x1x8, .f32⟩
  | 16 => ⟨S1x16384x8x8, .f32⟩
  | 17 => ⟨S1x16384x8x8, .f32⟩
  | 18 => ⟨S1x16384x8x48, .f32⟩
  | 19 => ⟨S1x16384x8x8, .f32⟩
  | 20 => ⟨S1x16384x8x8, .f32⟩
  | 21 => ⟨S1x16384x8x8, .f32⟩
  | 22 => ⟨S1x16384x8x8, .f32⟩
  | 23 => ⟨S1x16384x8x8, .f32⟩
  | 24 => ⟨S1x16384x8x8, .f32⟩
  | 25 => ⟨S1x16384x8x8, .f32⟩
  | 26 => ⟨S1x16384x8x8, .f32⟩
  | 27 => ⟨S1x16384x8x8, .f32⟩
  | 28 => ⟨S1x16384x8x8, .f32⟩
  | 29 => ⟨S1x16384x8x64, .f32⟩
  | 30 => ⟨S1x16384x8x64, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S16384, .f32⟩
  | 40 => ⟨S16384x1, .f32⟩
  | 41 => ⟨S1x8, .f32⟩
  | 42 => ⟨S16384x8, .f32⟩
  | 43 => ⟨S16384x8, .f32⟩
  | 44 => ⟨S16384x8, .f32⟩
  | 45 => ⟨S16384x8, .f32⟩
  | 46 => ⟨S1x16384x1x8, .f32⟩
  | 47 => ⟨S16384x8, .f32⟩
  | 48 => ⟨S1x16384x1x8, .f32⟩
  | 49 => ⟨S1x16384x8x8, .f32⟩
  | 50 => ⟨S1x16384x8x8, .f32⟩
  | 51 => ⟨S1x16384x8x48, .f32⟩
  | 52 => ⟨S1x16384x8x8, .f32⟩
  | 53 => ⟨S1x16384x8x8, .f32⟩
  | 54 => ⟨S1x16384x8x8, .f32⟩
  | 55 => ⟨S1x16384x8x8, .f32⟩
  | 56 => ⟨S1x16384x8x8, .f32⟩
  | 57 => ⟨S1x16384x8x8, .f32⟩
  | 58 => ⟨S1x16384x8x8, .f32⟩
  | 59 => ⟨S1x16384x8x8, .f32⟩
  | 60 => ⟨S1x16384x8x8, .f32⟩
  | 61 => ⟨S1x16384x8x8, .f32⟩
  | 62 => ⟨S1x16384x8x64, .f32⟩
  | 63 => ⟨S8, .f32⟩
  | 64 => ⟨S8, .f32⟩
  | 65 => ⟨S_, .f32⟩
  | 66 => ⟨S8, .f32⟩
  | 67 => ⟨S8, .f32⟩
  | 68 => ⟨S_, .f32⟩
  | 69 => ⟨S8, .f32⟩
  | 70 => ⟨S8, .f32⟩
  | 71 => ⟨S16384, .f32⟩
  | 72 => ⟨S16384x1, .f32⟩
  | 73 => ⟨S1x8, .f32⟩
  | 74 => ⟨S16384x8, .f32⟩
  | 75 => ⟨S16384x8, .f32⟩
  | 76 => ⟨S16384x8, .f32⟩
  | 77 => ⟨S16384x8, .f32⟩
  | 78 => ⟨S1x16384x8, .f32⟩
  | 79 => ⟨S16384x8, .f32⟩
  | 80 => ⟨S1x16384x8, .f32⟩
  | 81 => ⟨S1x16384x8, .f32⟩
  | 82 => ⟨S1x16384x8, .f32⟩
  | 83 => ⟨S1x16384x48, .f32⟩
  | 84 => ⟨S1x16384x8, .f32⟩
  | 85 => ⟨S1x16384x8, .f32⟩
  | 86 => ⟨S1x16384x8, .f32⟩
  | 87 => ⟨S1x16384x8, .f32⟩
  | 88 => ⟨S1x16384x8, .f32⟩
  | 89 => ⟨S1x16384x8, .f32⟩
  | 90 => ⟨S1x16384x64, .f32⟩
  | 91 => ⟨S_, .f32⟩
  | 92 => ⟨S1x16384x8, .f32⟩
  | 93 => ⟨S1x16384x8, .f32⟩
  | 94 => ⟨S16384x64, .f32⟩
  | 95 => ⟨S16384x8, .f32⟩
  | 96 => ⟨S_, .f32⟩
  | 97 => ⟨S16384x56, .f32⟩
  | 98 => ⟨S16384x128, .f32⟩
  | 99 => ⟨S16384x512, .f32⟩
  | 100 => ⟨S16384x512, .f32⟩
  | 101 => ⟨S16384x512, .f32⟩
  | 102 => ⟨S16384x512, .f32⟩
  | 103 => ⟨S16384x512, .f32⟩
  | 104 => ⟨S16384x512, .f32⟩
  | 105 => ⟨S16384x512, .f32⟩
  | 106 => ⟨S16384x512, .f32⟩
  | 107 => ⟨S16384x512, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_11 : Ref sig .tc := ⟨.hbm, 128, rfl⟩
abbrev main_v94 : Ref sig .tc := ⟨.hbm, 129, rfl⟩
abbrev main_v95 : Ref sig .tc := ⟨.hbm, 130, rfl⟩
abbrev main_cst_12 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_13 : Ref sig .tc := ⟨.hbm, 161, rfl⟩
abbrev main_v125 : Ref sig .tc := ⟨.hbm, 162, rfl⟩
abbrev main_v126 : Ref sig .tc := ⟨.hbm, 163, rfl⟩
abbrev main_cst_14 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_cst_15 : Ref sig .tc := ⟨.hbm, 193, rfl⟩
abbrev main_v155 : Ref sig .tc := ⟨.hbm, 194, rfl⟩
abbrev main_v156 : Ref sig .tc := ⟨.hbm, 195, rfl⟩
abbrev main_cst_16 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_cst_17 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_cst_18 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩

abbrev nD : Nat := 1
abbrev τ : Topo := Topo.v7x

variable {F : FTy → Type} [FloatOps F]
-- ==== Kernel4.lean ====
abbrev S32x4x1024 : Shape := ⟨3, ![32, 4, 1024]⟩
abbrev S1x1024 : Shape := ⟨2, ![1, 1024]⟩
abbrev S1x1024x4168 : Shape := ⟨3, ![1, 1024, 4168]⟩
abbrev S2x512 : Shape := ⟨2, ![2, 512]⟩
abbrev S_ : Shape := ⟨0, ![]⟩
abbrev S512 : Shape := ⟨1, ![512]⟩
abbrev S1x512 : Shape := ⟨2, ![1, 512]⟩
abbrev S1024x4168 : Shape := ⟨2, ![1024, 4168]⟩
abbrev S1024x4224 : Shape := ⟨2, ![1024, 4224]⟩
abbrev S1024 : Shape := ⟨1, ![1024]⟩
abbrev S128x1024 : Shape := ⟨2, ![128, 1024]⟩
abbrev S4 : Shape := ⟨1, ![4]⟩
abbrev S1x4 : Shape := ⟨2, ![1, 4]⟩
abbrev S32x4 : Shape := ⟨2, ![32, 4]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S128x512 : Shape := ⟨2, ![128, 512]⟩
abbrev S1024x512 : Shape := ⟨2, ![1024, 512]⟩
abbrev S1024x128 : Shape := ⟨2, ![1024, 128]⟩

abbrev nBuf : Space → Nat
  | .hbm => 84
  | .vmem => 18
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x4168, .f32⟩
  | .hbm, ⟨3, _⟩ => ⟨S2x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S1024x4168, .f32⟩
  | .hbm, ⟨25, _⟩ => ⟨S_, .i32⟩
  | .hbm, ⟨26, _⟩ => ⟨S_, .f32⟩
  | .hbm, ⟨27, _⟩ => ⟨S1024x4224, .f32⟩
  | .hbm, ⟨28, _⟩ => ⟨S1024x4224, .bf16⟩
  | .hbm, ⟨29, _⟩ => ⟨S1024, .f32⟩
  | .hbm, ⟨30, _⟩ => ⟨S1x1024, .f32⟩
  | .hbm, ⟨31, _⟩ => ⟨S128x1024, .f32⟩
  | .hbm, ⟨32, _⟩ => ⟨S4, .i32⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S1x4, .i32⟩
  | .hbm, ⟨37, _⟩ => ⟨S32x4, .i32⟩
  | .hbm, ⟨38, _⟩ => ⟨S128, .i32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S128, .f32⟩
  | .hbm, ⟨48, _⟩ => ⟨S128x1, .f32⟩
  | .hbm, ⟨49, _⟩ => ⟨S1x8, .f32⟩
  | .hbm, ⟨50, _⟩ => ⟨S128x8, .f32⟩
  | .hbm, ⟨51, _⟩ => ⟨S128x8, .f32⟩
  | .hbm, ⟨52, _⟩ => ⟨S128x8, .f32⟩
  | .hbm, ⟨53, _⟩ => ⟨S128x8, .f32⟩
  | .hbm, ⟨54, _⟩ => ⟨S128x8, .f32⟩
  | .hbm, ⟨55, _⟩ => ⟨S_, .f32⟩
  | .hbm, ⟨56, _⟩ => ⟨S128x48, .f32⟩
  | .hbm, ⟨57, _⟩ => ⟨S_, .f32⟩
  | .hbm, ⟨58, _⟩ => ⟨S128x48, .f32⟩
  | .hbm, ⟨59, _⟩ => ⟨S_, .f32⟩
  | .hbm, ⟨60, _⟩ => ⟨S128x8, .f32⟩
  | .hbm, ⟨61, _⟩ => ⟨S128x64, .f32⟩
  | .hbm, ⟨62, _⟩ => ⟨S128x64, .f32⟩
  | .hbm, ⟨63, _⟩ => ⟨S128x8, .f32⟩
  | .hbm, ⟨64, _⟩ => ⟨S128x64, .f32⟩
  | .hbm, ⟨65, _⟩ => ⟨S1x128x1x64, .f32⟩
  | .hbm, ⟨66, _⟩ => ⟨S1x128x2x64, .f32⟩
  | .hbm, ⟨67, _⟩ => ⟨S128x128, .f32⟩
  | .hbm, ⟨68, _⟩ => ⟨S1x128x1x64, .f32⟩
  | .hbm, ⟨69, _⟩ => ⟨S1x128x2x64, .f32⟩
  | .hbm, ⟨70, _⟩ => ⟨S128x128, .f32⟩
  | .hbm, ⟨71, _⟩ => ⟨S1x128x1x64, .f32⟩
  | .hbm, ⟨72, _⟩ => ⟨S1x128x2x64, .f32⟩
  | .hbm, ⟨73, _⟩ => ⟨S128x128, .f32⟩
  | .hbm, ⟨74, _⟩ => ⟨S128x512, .f32⟩
  | .hbm, ⟨75, _⟩ => ⟨S128x512, .f32⟩
  | .hbm, ⟨76, _⟩ => ⟨S128x512, .f32⟩
  | .hbm, ⟨77, _⟩ => ⟨S128x512, .f32⟩
  | .hbm, ⟨78, _⟩ => ⟨S128x512, .f32⟩
  | .hbm, ⟨79, _⟩ => ⟨S128x512, .f32⟩
  | .hbm, ⟨80, _⟩ => ⟨S128x512, .f32⟩
  | .hbm, ⟨81, _⟩ => ⟨S128x512, .f32⟩
  | .hbm, ⟨82, _⟩ => ⟨S128x512, .f32⟩
  | .hbm, ⟨83, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x4224, .bf16⟩
  | .local _ .vmem, ⟨3, _⟩ => ⟨S1x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x128, .f32⟩
  | .local _ .vmem, ⟨17, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev main_v57_2 : Ref sig .tc := ⟨.hbm, 76, rfl⟩
abbrev main_v57_3 : Ref sig .tc := ⟨.hbm, 77, rfl⟩
abbrev main_v57_4 : Ref sig .tc := ⟨.hbm, 78, rfl⟩
abbrev main_v57_5 : Ref sig .tc := ⟨.hbm, 79, rfl⟩
abbrev main_v57_6 : Ref sig .tc := ⟨.hbm, 80, rfl⟩
abbrev main_v57_7 : Ref sig .tc := ⟨.hbm, 81, rfl⟩
abbrev main_v57_8 : Ref sig .tc := ⟨.hbm, 82, rfl⟩
abbrev main_v57_9 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference4Ideal.lean ====
abbrev S32x4x1024 : Shape := ⟨3, ![32, 4, 1024]⟩
abbrev S1x1024 : Shape := ⟨2, ![1, 1024]⟩
abbrev S1x1024x4168 : Shape := ⟨3, ![1, 1024, 4168]⟩
abbrev S2x512 : Shape := ⟨2, ![2, 512]⟩
abbrev S4 : Shape := ⟨1, ![4]⟩
abbrev S_ : Shape := ⟨0, ![]⟩
abbrev S512 : Shape := ⟨1, ![512]⟩
abbrev S1x512 : Shape := ⟨2, ![1, 512]⟩
abbrev S1024 : Shape := ⟨1, ![1024]⟩
abbrev S32x4 : Shape := ⟨2, ![32, 4]⟩
abbrev S32x4x1 : Shape := ⟨3, ![32, 4, 1]⟩
abbrev S1x1x1024 : Shape := ⟨3, ![1, 1, 1024]⟩
abbrev S1024x4168 : Shape := ⟨2, ![1024, 4168]⟩
abbrev S32x4x4168 : Shape := ⟨3, ![32, 4, 4168]⟩
abbrev S32x4x512 : Shape := ⟨3, ![32, 4, 512]⟩
abbrev S32x4x64 : Shape := ⟨3, ![32, 4, 64]⟩
abbrev S32x4x8 : Shape := ⟨3, ![32, 4, 8]⟩
abbrev S1x1x512 : Shape := ⟨3, ![1, 1, 512]⟩
abbrev S32x4x8x64 : Shape := ⟨4, ![32, 4, 8, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S1x4x1x8 : Shape := ⟨4, ![1, 4, 1, 8]⟩
abbrev S32x4x8x8 : Shape := ⟨4, ![32, 4, 8, 8]⟩
abbrev S32x4x8x48 : Shape := ⟨4, ![32, 4, 8, 48]⟩
abbrev S1x4x8 : Shape := ⟨3, ![1, 4, 8]⟩
abbrev S32x4x48 : Shape := ⟨3, ![32, 4, 48]⟩
abbrev S32x4x56 : Shape := ⟨3, ![32, 4, 56]⟩
abbrev S32x4x128 : Shape := ⟨3, ![32, 4, 128]⟩
abbrev S128x512 : Shape := ⟨2, ![128, 512]⟩
abbrev S128x128 : Shape := ⟨2, ![128, 128]⟩

abbrev nBuf : Space → Nat
  | .hbm => 242
  | .vmem => 0
  | .smem => 0
  | _ => 0

abbrev hbmTy0_0 (i : Nat) : BufTy := match i % 128 with
  | 0 => ⟨S32x4x1024, .f32⟩
  | 1 => ⟨S1x1024, .f32⟩
  | 2 => ⟨S1x1024x4168, .f32⟩
  | 3 => ⟨S2x512, .f32⟩
  | 4 => ⟨S4, .i32⟩
  | 5 => ⟨S_, .i32⟩
  | 6 => ⟨S4, .i32⟩
  | 7 => ⟨S4, .i32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S512, .f32⟩
  | 27 => ⟨S1024, .f32⟩
  | 28 => ⟨S32x4x1024, .f32⟩
  | 29 => ⟨S_, .f32⟩
  | 30 => ⟨S32x4, .f32⟩
  | 31 => ⟨S32x4x1, .f32⟩
  | 32 => ⟨S_, .f32⟩
  | 33 => ⟨S32x4x1, .f32⟩
  | 34 => ⟨S32x4x1, .f32⟩
  | 35 => ⟨S_, .f32⟩
  | 36 => ⟨S32x4x1, .f32⟩
  | 37 => ⟨S32x4x1, .f32⟩
  | 38 => ⟨S32x4x1, .f32⟩
  | 39 => ⟨S32x4x1024, .f32⟩
  | 40 => ⟨S32x4x1024, .f32⟩
  | 41 => ⟨S1x1x1024, .f32⟩
  | 42 => ⟨S32x4x1024, .f32⟩
  | 43 => ⟨S32x4x1024, .f32⟩
  | 44 => ⟨S1024x4168, .f32⟩
  | 45 => ⟨S32x4x4168, .f32⟩
  | 46 => ⟨S32x4x512, .f32⟩
  | 47 => ⟨S32x4x512, .f32⟩
  | 48 => ⟨S32x4x512, .f32⟩
  | 49 => ⟨S32x4x512, .f32⟩
  | 50 => ⟨S32x4x512, .f32⟩
  | 51 => ⟨S32x4x512, .f32⟩
  | 52 => ⟨S32x4x512, .f32⟩
  | 53 => ⟨S32x4x512, .f32⟩
  | 54 => ⟨S32x4x64, .f32⟩
  | 55 => ⟨S32x4x8, .f32⟩
  | 56 => ⟨S32x4x512, .f32⟩
  | 57 => ⟨S32x4x512, .f32⟩
  | 58 => ⟨S_, .f32⟩
  | 59 => ⟨S32x4x512, .f32⟩
  | 60 => ⟨S32x4x512, .f32⟩
  | 61 => ⟨S_, .f32⟩
  | 62 => ⟨S32x4x512, .f32⟩
  | 63 => ⟨S32x4x512, .f32⟩
  | 64 => ⟨S32x4x512, .f32⟩
  | 65 => ⟨S_, .f32⟩
  | 66 => ⟨S512, .f32⟩
  | 67 => ⟨S512, .f32⟩
  | 68 => ⟨S32x4x512, .f32⟩
  | 69 => ⟨S32x4x512, .f32⟩
  | 70 => ⟨S_, .f32⟩
  | 71 => ⟨S32x4x512, .f32⟩
  | 72 => ⟨S32x4x512, .f32⟩
  | 73 => ⟨S_, .f32⟩
  | 74 => ⟨S32x4x512, .f32⟩
  | 75 => ⟨S32x4x512, .f32⟩
  | 76 => ⟨S1x1x512, .f32⟩
  | 77 => ⟨S32x4x512, .f32⟩
  | 78 => ⟨S32x4x512, .f32⟩
  | 79 => ⟨S1x1x512, .f32⟩
  | 80 => ⟨S32x4x512, .f32⟩
  | 81 => ⟨S32x4x512, .f32⟩
  | 82 => ⟨S_, .f32⟩
  | 83 => ⟨S32x4x512, .f32⟩
  | 84 => ⟨S32x4x512, .f32⟩
  | 85 => ⟨S32x4x512, .f32⟩
  | 86 => ⟨S32x4x512, .f32⟩
  | 87 => ⟨S32x4x512, .f32⟩
  | 88 => ⟨S_, .f32⟩
  | 89 => ⟨S32x4x512, .f32⟩
  | 90 => ⟨S32x4x512, .f32⟩
  | 91 => ⟨S_, .f32⟩
  | 92 => ⟨S32x4x512, .f32⟩
  | 93 => ⟨S32x4x512, .f32⟩
  | 94 => ⟨S32x4x512, .f32⟩
  | 95 => ⟨S32x4x8x64, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S4, .f32⟩
  | 105 => ⟨S4x1, .f32⟩
  | 106 => ⟨S1x8, .f32⟩
  | 107 => ⟨S4x8, .f32⟩
  | 108 => ⟨S4x8, .f32⟩
  | 109 => ⟨S4x8, .f32⟩
  | 110 => ⟨S4x8, .f32⟩
  | 111 => ⟨S1x4x1x8, .f32⟩
  | 112 => ⟨S4x8, .f32⟩
  | 113 => ⟨S1x4x1x8, .f32⟩
  | 114 => ⟨S32x4x8x8, .f32⟩
  | 115 => ⟨S32x4x8x8, .f32⟩
  | 116 => ⟨S32x4x8x48, .f32⟩
  | 117 => ⟨S32x4x8x8, .f32⟩
  | 118 => ⟨S32x4x8x8, .f32⟩
  | 119 => ⟨S32x4x8x8, .f32⟩
  | 120 => ⟨S32x4x8x8, .f32⟩
  | 121 => ⟨S32x4x8x8, .f32⟩
  | 122 => ⟨S32x4x8x8, .f32⟩
  | 123 => ⟨S32x4x8x8, .f32⟩
  | 124 => ⟨S32x4x8x8, .f32⟩
  | 125 => ⟨S32x4x8x8, .f32⟩
  | 126 => ⟨S32x4x8x8, .f32⟩
  | 127 => ⟨S32x4x8x64, .f32⟩
  | _ => ⟨S32x4x1024, .f32⟩

abbrev hbmTy0_1 (i : Nat) : BufTy := match i % 128 with
  | 0 => ⟨S32x4x8x64, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S4, .f32⟩
  | 10 => ⟨S4x1, .f32⟩
  | 11 => ⟨S1x8, .f32⟩
  | 12 => ⟨S4x8, .f32⟩
  | 13 => ⟨S4x8, .f32⟩
  | 14 => ⟨S4x8, .f32⟩
  | 15 => ⟨S4x8, .f32⟩
  | 16 => ⟨S1x4x1x8, .f32⟩
  | 17 => ⟨S4x8, .f32⟩
  | 18 => ⟨S1x4x1x8, .f32⟩
  | 19 => ⟨S32x4x8x8, .f32⟩
  | 20 => ⟨S32x4x8x8, .f32⟩
  | 21 => ⟨S32x4x8x48, .f32⟩
  | 22 => ⟨S32x4x8x8, .f32⟩
  | 23 => ⟨S32x4x8x8, .f32⟩
  | 24 => ⟨S32x4x8x8, .f32⟩
  | 25 => ⟨S32x4x8x8, .f32⟩
  | 26 => ⟨S32x4x8x8, .f32⟩
  | 27 => ⟨S32x4x8x8, .f32⟩
  | 28 => ⟨S32x4x8x8, .f32⟩
  | 29 => ⟨S32x4x8x8, .f32⟩
  | 30 => ⟨S32x4x8x8, .f32⟩
  | 31 => ⟨S32x4x8x8, .f32⟩
  | 32 => ⟨S32x4x8x64, .f32⟩
  | 33 => ⟨S32x4x8x64, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S4, .f32⟩
  | 43 => ⟨S4x1, .f32⟩
  | 44 => ⟨S1x8, .f32⟩
  | 45 => ⟨S4x8, .f32⟩
  | 46 => ⟨S4x8, .f32⟩
  | 47 => ⟨S4x8, .f32⟩
  | 48 => ⟨S4x8, .f32⟩
  | 49 => ⟨S1x4x1x8, .f32⟩
  | 50 => ⟨S4x8, .f32⟩
  | 51 => ⟨S1x4x1x8, .f32⟩
  | 52 => ⟨S32x4x8x8, .f32⟩
  | 53 => ⟨S32x4x8x8, .f32⟩
  | 54 => ⟨S32x4x8x48, .f32⟩
  | 55 => ⟨S32x4x8x8, .f32⟩
  | 56 => ⟨S32x4x8x8, .f32⟩
  | 57 => ⟨S32x4x8x8, .f32⟩
  | 58 => ⟨S32x4x8x8, .f32⟩
  | 59 => ⟨S32x4x8x8, .f32⟩
  | 60 => ⟨S32x4x8x8, .f32⟩
  | 61 => ⟨S32x4x8x8, .f32⟩
  | 62 => ⟨S32x4x8x8, .f32⟩
  | 63 => ⟨S32x4x8x8, .f32⟩
  | 64 => ⟨S32x4x8x8, .f32⟩
  | 65 => ⟨S32x4x8x64, .f32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S4, .f32⟩
  | 75 => ⟨S4x1, .f32⟩
  | 76 => ⟨S1x8, .f32⟩
  | 77 => ⟨S4x8, .f32⟩
  | 78 => ⟨S4x8, .f32⟩
  | 79 => ⟨S4x8, .f32⟩
  | 80 => ⟨S4x8, .f32⟩
  | 81 => ⟨S1x4x8, .f32⟩
  | 82 => ⟨S4x8, .f32⟩
  | 83 => ⟨S1x4x8, .f32⟩
  | 84 => ⟨S32x4x8, .f32⟩
  | 85 => ⟨S32x4x8, .f32⟩
  | 86 => ⟨S32x4x48, .f32⟩
  | 87 => ⟨S32x4x8, .f32⟩
  | 88 => ⟨S32x4x8, .f32⟩
  | 89 => ⟨S32x4x8, .f32⟩
  | 90 => ⟨S32x4x8, .f32⟩
  | 91 => ⟨S32x4x8, .f32⟩
  | 92 => ⟨S32x4x8, .f32⟩
  | 93 => ⟨S32x4x8, .f32⟩
  | 94 => ⟨S32x4x8, .f32⟩
  | 95 => ⟨S32x4x8, .f32⟩
  | 96 => ⟨S32x4x8, .f32⟩
  | 97 => ⟨S32x4x64, .f32⟩
  | 98 => ⟨S_, .f32⟩
  | 99 => ⟨S32x4x8, .f32⟩
  | 100 => ⟨S32x4x8, .f32⟩
  | 101 => ⟨S_, .f32⟩
  | 102 => ⟨S32x4x56, .f32⟩
  | 103 => ⟨S32x4x128, .f32⟩
  | 104 => ⟨S128x512, .f32⟩
  | 105 => ⟨S128x512, .f32⟩
  | 106 => ⟨S128x512, .f32⟩
  | 107 => ⟨S128x512, .f32⟩
  | 108 => ⟨S128x512, .f32⟩
  | 109 => ⟨S128x512, .f32⟩
  | 110 => ⟨S128x512, .f32⟩
  | 111 => ⟨S128x512, .f32⟩
  | 112 => ⟨S128x512, .f32⟩
  | 113 => ⟨S128x128, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_call0_cst : Ref sig .tc := ⟨.hbm, 22, rfl⟩
abbrev main_call0_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_call2_v5 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_11 : Ref sig .tc := ⟨.hbm, 131, rfl⟩
abbrev main_v96 : Ref sig .tc := ⟨.hbm, 132, rfl⟩
abbrev main_v97 : Ref sig .tc := ⟨.hbm, 133, rfl⟩
abbrev main_cst_12 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_13 : Ref sig .tc := ⟨.hbm, 164, rfl⟩
abbrev main_v127 : Ref sig .tc := ⟨.hbm, 165, rfl⟩
abbrev main_v128 : Ref sig .tc := ⟨.hbm, 166, rfl⟩
abbrev main_cst_14 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_15 : Ref sig .tc := ⟨.hbm, 196, rfl⟩
abbrev main_v157 : Ref sig .tc := ⟨.hbm, 197, rfl⟩
abbrev main_v158 : Ref sig .tc := ⟨.hbm, 198, rfl⟩
abbrev main_cst_16 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_cst_17 : Ref sig .tc := ⟨.hbm, 226, rfl⟩
abbrev main_v185 : Ref sig .tc := ⟨.hbm, 227, rfl⟩
abbrev main_v186 : Ref sig .tc := ⟨.hbm, 228, rfl⟩
abbrev main_cst_18 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩

abbrev nD : Nat := 1
abbrev τ : Topo := Topo.v7x

variable {F : FTy → Type} [FloatOps F]
-- ==== Kernel5.lean ====
abbrev S32x4x1024 : Shape := ⟨3, ![32, 4, 1024]⟩
abbrev S32x4x512 : Shape := ⟨3, ![32, 4, 512]⟩
abbrev S1x32x2x2816 : Shape := ⟨4, ![1, 32, 2, 2816]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S2816 : Shape := ⟨1, ![2816]⟩
abbrev S128x1024 : Shape := ⟨2, ![128, 1024]⟩
abbrev S32x2x2816 : Shape := ⟨3, ![32, 2, 2816]⟩
abbrev S_ : Shape := ⟨0, ![]⟩
abbrev S32x3x2816 : Shape := ⟨3, ![32, 3, 2816]⟩
abbrev S32x1x2816 : Shape := ⟨3, ![32, 1, 2816]⟩
abbrev S32x4x2816 : Shape := ⟨3, ![32, 4, 2816]⟩
abbrev S128x2816 : Shape := ⟨2, ![128, 2816]⟩
abbrev S128x512 : Shape := ⟨2, ![128, 512]⟩
abbrev S3x2816 : Shape := ⟨2, ![3, 2816]⟩
abbrev S8x2816 : Shape := ⟨2, ![8, 2816]⟩
abbrev S128 : Shape := ⟨1, ![128]⟩
abbrev S128x1 : Shape := ⟨2, ![128, 1]⟩
abbrev S128x256 : Shape := ⟨2, ![128, 256]⟩
abbrev S1024x256 : Shape := ⟨2, ![1024, 256]⟩
abbrev S1x256 : Shape := ⟨2, ![1, 256]⟩
abbrev S256x1024 : Shape := ⟨2, ![256, 1024]⟩

abbrev nBuf : Space → Nat
  | .hbm => 37
  | .vmem => 17
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .f32⟩
  | .hbm, ⟨3, _⟩ => ⟨S1x32x2x2816, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x5632, .f32⟩
  | .hbm, ⟨14, _⟩ => ⟨S1024x5632, .bf16⟩
  | .hbm, ⟨15, _⟩ => ⟨S2816x1024, .f32⟩
  | .hbm, ⟨16, _⟩ => ⟨S2816x1024, .bf16⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S2816, .f32⟩
  | .hbm, ⟨21, _⟩ => ⟨S1x2816, .f32⟩
  | .hbm, ⟨22, _⟩ => ⟨S128x1024, .f32⟩
  | .hbm, ⟨23, _⟩ => ⟨S32x2x2816, .f32⟩
  | .hbm, ⟨24, _⟩ => ⟨S_, .f32⟩
  | .hbm, ⟨25, _⟩ => ⟨S32x3x2816, .f32⟩
  | .hbm, ⟨26, _⟩ => ⟨S32x1x2816, .f32⟩
  | .hbm, ⟨27, _⟩ => ⟨S32x4x2816, .f32⟩
  | .hbm, ⟨28, _⟩ => ⟨S128x2816, .f32⟩
  | .hbm, ⟨29, _⟩ => ⟨S32x2x2816, .f32⟩
  | .hbm, ⟨30, _⟩ => ⟨S32x4x2816, .f32⟩
  | .hbm, ⟨31, _⟩ => ⟨S128x2816, .f32⟩
  | .hbm, ⟨32, _⟩ => ⟨S128x512, .f32⟩
  | .hbm, ⟨33, _⟩ => ⟨S128x512, .f32⟩
  | .hbm, ⟨34, _⟩ => ⟨S3x2816, .f32⟩
  | .hbm, ⟨35, _⟩ => ⟨S128x1024, .f32⟩
  | .hbm, ⟨36, _⟩ => ⟨S128x2816, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x2816, .f32⟩
  | .local _ .vmem, ⟨4, _⟩ => ⟨S128x2816, .f32⟩
  | .local _ .vmem, ⟨5, _⟩ => ⟨S1024x1024, .bf16⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S128x1024, .f32⟩
  | .local _ .vmem, ⟨13, _⟩ => ⟨S128x2816, .f32⟩
  | .local _ .vmem, ⟨14, _⟩ => ⟨S8x2816, .f32⟩
  | .local _ .vmem, ⟨15, _⟩ => ⟨S128x1024, .f32⟩
  | .local _ .vmem, ⟨16, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference5Ideal.lean ====
abbrev S32x4x1024 : Shape := ⟨3, ![32, 4, 1024]⟩
abbrev S32x4x512 : Shape := ⟨3, ![32, 4, 512]⟩
abbrev S1x32x2x2816 : Shape := ⟨4, ![1, 32, 2, 2816]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x5632 : Shape := ⟨2, ![1024, 5632]⟩
abbrev S32x4x5632 : Shape := ⟨3, ![32, 4, 5632]⟩
abbrev S32x4x2816 : Shape := ⟨3, ![32, 4, 2816]⟩
abbrev S32x2x2816 : Shape := ⟨3, ![32, 2, 2816]⟩
abbrev S32x6x2816 : Shape := ⟨3, ![32, 6, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩
abbrev S128x1024 : Shape := ⟨2, ![128, 1024]⟩
abbrev S128x2816 : Shape := ⟨2, ![128, 2816]⟩

abbrev nBuf : Space → Nat
  | .hbm => 97
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .f32⟩
  | .hbm, ⟨3, _⟩ => ⟨S1x32x2x2816, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S32x4x1024, .f32⟩
  | .hbm, ⟨12, _⟩ => ⟨S1024x1024, .f32⟩
  | .hbm, ⟨13, _⟩ => ⟨S32x4x1024, .f32⟩
  | .hbm, ⟨14, _⟩ => ⟨S32x4x1024, .f32⟩
  | .hbm, ⟨15, _⟩ => ⟨S1024, .f32⟩
  | .hbm, ⟨16, _⟩ => ⟨S32x4x1024, .f32⟩
  | .hbm, ⟨17, _⟩ => ⟨S_, .f32⟩
  | .hbm, ⟨18, _⟩ => ⟨S32x4, .f32⟩
  | .hbm, ⟨19, _⟩ => ⟨S32x4x1, .f32⟩
  | .hbm, ⟨20, _⟩ => ⟨S_, .f32⟩
  | .hbm, ⟨21, _⟩ => ⟨S32x4x1, .f32⟩
  | .hbm, ⟨22, _⟩ => ⟨S32x4x1, .f32⟩
  | .hbm, ⟨23, _⟩ => ⟨S_, .f32⟩
  | .hbm, ⟨24, _⟩ => ⟨S32x4x1, .f32⟩
  | .hbm, ⟨25, _⟩ => ⟨S32x4x1, .f32⟩
  | .hbm, ⟨26, _⟩ => ⟨S32x4x1, .f32⟩
  | .hbm, ⟨27, _⟩ => ⟨S32x4x1024, .f32⟩
  | .hbm, ⟨28, _⟩ => ⟨S32x4x1024, .f32⟩
  | .hbm, ⟨29, _⟩ => ⟨S1x1x1024, .f32⟩
  | .hbm, ⟨30, _⟩ => ⟨S32x4x1024, .f32⟩
  | .hbm, ⟨31, _⟩ => ⟨S32x4x1024, .f32⟩
  | .hbm, ⟨32, _⟩ => ⟨S1024x5632, .f32⟩
  | .hbm, ⟨33, _⟩ => ⟨S32x4x5632, .f32⟩
  | .hbm, ⟨34, _⟩ => ⟨S32x4x2816, .f32⟩
  | .hbm, ⟨35, _⟩ => ⟨S32x4x2816, .f32⟩
  | .hbm, ⟨36, _⟩ => ⟨S32x2x2816, .f32⟩
  | .hbm, ⟨37, _⟩ => ⟨S32x6x2816, .f32⟩
  | .hbm, ⟨38, _⟩ => ⟨S2816, .f32⟩
  | .hbm, ⟨39, _⟩ => ⟨S3x2816, .f32⟩
  | .hbm, ⟨40, _⟩ => ⟨S1x2816, .f32⟩
  | .hbm, ⟨41, _⟩ => ⟨S2816, .f32⟩
  | .hbm, ⟨42, _⟩ => ⟨S32x4x2816, .f32⟩
  | .hbm, ⟨43, _⟩ => ⟨S1x1x2816, .f32⟩
  | .hbm, ⟨44, _⟩ => ⟨S32x4x2816, .f32⟩
  | .hbm, ⟨45, _⟩ => ⟨S32x4x2816, .f32⟩
  | .hbm, ⟨46, _⟩ => ⟨S1x1x2816, .f32⟩
  | .hbm, ⟨47, _⟩ => ⟨S32x4x2816, .f32⟩
  | .hbm, ⟨48, _⟩ => ⟨S32x4x2816, .f32⟩
  | .hbm, ⟨49, _⟩ => ⟨S3x2816, .f32⟩
  | .hbm, ⟨50, _⟩ => ⟨S1x2816, .f32⟩
  | .hbm, ⟨51, _⟩ => ⟨S2816, .f32⟩
  | .hbm, ⟨52, _⟩ => ⟨S32x4x2816, .f32⟩
  | .hbm, ⟨53, _⟩ => ⟨S1x1x2816, .f32⟩
  | .hbm, ⟨54, _⟩ => ⟨S32x4x2816, .f32⟩
  | .hbm, ⟨55, _⟩ => ⟨S32x4x2816, .f32⟩
  | .hbm, ⟨56, _⟩ => ⟨S32x4x2816, .f32⟩
  | .hbm, ⟨57, _⟩ => ⟨S3x2816, .f32⟩
  | .hbm, ⟨58, _⟩ => ⟨S1x2816, .f32⟩
  | .hbm, ⟨59, _⟩ => ⟨S2816, .f32⟩
  | .hbm, ⟨60, _⟩ => ⟨S32x4x2816, .f32⟩
  | .hbm, ⟨61, _⟩ => ⟨S1x1x2816, .f32⟩
  | .hbm, ⟨62, _⟩ => ⟨S32x4x2816, .f32⟩
  | .hbm, ⟨63, _⟩ => ⟨S32x4x2816, .f32⟩
  | .hbm, ⟨64, _⟩ => ⟨S32x4x2816, .f32⟩
  | .hbm, ⟨65, _⟩ => ⟨S32x4x2816, .f32⟩
  | .hbm, ⟨66, _⟩ => ⟨S32x4x2816, .f32⟩
  | .hbm, ⟨67, _⟩ => ⟨S_, .f32⟩
  | .hbm, ⟨68, _⟩ => ⟨S32x4x2816, .f32⟩
  | .hbm, ⟨69, _⟩ => ⟨S32x4x2816, .f32⟩
  | .hbm, ⟨70, _⟩ => ⟨S_, .f32⟩
  | .hbm, ⟨71, _⟩ => ⟨S32x4x2816, .f32⟩
  | .hbm, ⟨72, _⟩ => ⟨S32x4x2816, .f32⟩
  | .hbm, ⟨73, _⟩ => ⟨S32x4x2816, .f32⟩
  | .hbm, ⟨74, _⟩ => ⟨S32x4x2816, .f32⟩
  | .hbm, ⟨75, _⟩ => ⟨S2816x1024, .f32⟩
  | .hbm, ⟨76, _⟩ => ⟨S32x4x1024, .f32⟩
  | .hbm, ⟨77, _⟩ => ⟨S32x4x1024, .f32⟩
  | .hbm, ⟨78, _⟩ => ⟨S32x4x1024, .f32⟩
  | .hbm, ⟨79, _⟩ => ⟨S_, .f32⟩
  | .hbm, ⟨80, _⟩ => ⟨S32x4, .f32⟩
  | .hbm, ⟨81, _⟩ => ⟨S32x4x1, .f32⟩
  | .hbm, ⟨82, _⟩ => ⟨S_, .f32⟩
  | .hbm, ⟨83, _⟩ => ⟨S32x4x1, .f32⟩
  | .hbm, ⟨84, _⟩ => ⟨S32x4x1, .f32⟩
  | .hbm, ⟨85, _⟩ => ⟨S_, .f32⟩
  | .hbm, ⟨86, _⟩ => ⟨S32x4x1, .f32⟩
  | .hbm, ⟨87, _⟩ => ⟨S32x4x1, .f32⟩
  | .hbm, ⟨88, _⟩ => ⟨S32x4x1, .f32⟩
  | .hbm, ⟨89, _⟩ => ⟨S32x4x1024, .f32⟩
  | .hbm, ⟨90, _⟩ => ⟨S32x4x1024, .f32⟩
  | .hbm, ⟨91, _⟩ => ⟨S1x1x1024, .f32⟩
  | .hbm, ⟨92, _⟩ => ⟨S32x4x1024, .f32⟩
  | .hbm, ⟨93, _⟩ => ⟨S32x4x1024, .f32⟩
  | .hbm, ⟨94, _⟩ => ⟨S128x1024, .f32⟩
  | .hbm, ⟨95, _⟩ => ⟨S32x4x2816, .f32⟩
  | .hbm, ⟨96, _⟩ => ⟨S128x2816, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_2 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel6.lean ====
abbrev S128x512 : Shape := ⟨2, ![128, 512]⟩
abbrev S1x32x4x128x128 : Shape := ⟨5, ![1, 32, 4, 128, 128]⟩
abbrev S1x128 : Shape := ⟨2, ![1, 128]⟩
abbrev S128 : Shape := ⟨1, ![128]⟩
abbrev S32x4x128x128 : Shape := ⟨4, ![32, 4, 128, 128]⟩
abbrev S32x4x512 : Shape := ⟨3, ![32, 4, 512]⟩
abbrev S_ : Shape := ⟨0, ![]⟩
abbrev S32x8x512 : Shape := ⟨3, ![32, 8, 512]⟩
abbrev S1x8x512 : Shape := ⟨3, ![1, 8, 512]⟩
abbrev S1x4x128x128 : Shape := ⟨4, ![1, 4, 128, 128]⟩
abbrev S4x128x128 : Shape := ⟨3, ![4, 128, 128]⟩
abbrev S8x128 : Shape := ⟨2, ![8, 128]⟩
abbrev S1x8x128 : Shape := ⟨3, ![1, 8, 128]⟩
abbrev S1x128x128 : Shape := ⟨3, ![1, 128, 128]⟩
abbrev S128x128 : Shape := ⟨2, ![128, 128]⟩
abbrev S8 : Shape := ⟨1, ![8]⟩
abbrev S8x1 : Shape := ⟨2, ![8, 1]⟩

abbrev nBuf : Space → Nat
  | .hbm => 33
  | .vmem => 18
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S1x32x4x128x128, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S32x4x128x128, .f32⟩
  | .hbm, ⟨10, _⟩ => ⟨S32x4x128x128, .f32⟩
  | .hbm, ⟨11, _⟩ => ⟨S32x4x512, .f32⟩
  | .hbm, ⟨12, _⟩ => ⟨S_, .i32⟩
  | .hbm, ⟨13, _⟩ => ⟨S_, .f32⟩
  | .hbm, ⟨14, _⟩ => ⟨S32x8x512, .f32⟩
  | .hbm, ⟨15, _⟩ => ⟨S32x4x512, .f32⟩
  | .hbm, ⟨16, _⟩ => ⟨S_, .i32⟩
  | .hbm, ⟨17, _⟩ => ⟨S_, .f32⟩
  | .hbm, ⟨18, _⟩ => ⟨S32x8x512, .f32⟩
  | .hbm, ⟨19, _⟩ => ⟨S32x4x512, .f32⟩
  | .hbm, ⟨20, _⟩ => ⟨S_, .i32⟩
  | .hbm, ⟨21, _⟩ => ⟨S_, .f32⟩
  | .hbm, ⟨22, _⟩ => ⟨S32x8x512, .f32⟩
  | .hbm, ⟨23, _⟩ => ⟨S32x4x512, .f32⟩
  | .hbm, ⟨24, _⟩ => ⟨S_, .i32⟩
  | .hbm, ⟨25, _⟩ => ⟨S_, .f32⟩
  | .hbm, ⟨26, _⟩ => ⟨S32x8x512, .f32⟩
  | .hbm, ⟨27, _⟩ => ⟨S32x4x512, .f32⟩
  | .hbm, ⟨28, _⟩ => ⟨S_, .i32⟩
  | .hbm, ⟨29, _⟩ => ⟨S_, .f32⟩
  | .hbm, ⟨30, _⟩ => ⟨S32x8x512, .f32⟩
  | .hbm, ⟨31, _⟩ => ⟨S32x8x512, .f32⟩
  | .hbm, ⟨32, _⟩ => ⟨S32x4x128x128, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x128, .f32⟩
  | .local _ .vmem, ⟨11, _⟩ => ⟨S1x4x128x128, .f32⟩
  | .local _ .vmem, ⟨12, _⟩ => ⟨S1x4x128x128, .f32⟩
  | .local _ .vmem, ⟨13, _⟩ => ⟨S1x8x512, .f32⟩
  | .local _ .vmem, ⟨14, _⟩ => ⟨S1x8x512, .f32⟩
  | .local _ .vmem, ⟨15, _⟩ => ⟨S1x4x128x128, .f32⟩
  | .local _ .vmem, ⟨16, _⟩ => ⟨S1x4x128x128, .f32⟩
  | .local _ .vmem, ⟨17, _⟩ => ⟨S4x128x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_call3_v0 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_call4_v0 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_353 : BitVec 32 := 0#32
  let v840 : BitVec 1 := Scalar.cmpi .eq arg1 c0_i32_353
  let v841 : BitVec 32 := Scalar.extui v840
  let c0_i32_354 : BitVec 32 := 0#32
  let v842 : BitVec 1 := Scalar.cmpi .ne v841 c0_i32_354
  v842

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S128x512 : Shape := ⟨2, ![128, 512]⟩
abbrev S1x32x4x128x128 : Shape := ⟨5, ![1, 32, 4, 128, 128]⟩
abbrev S1x128 : Shape := ⟨2, ![1, 128]⟩
abbrev S32x4x4x128 : Shape := ⟨4, ![32, 4, 4, 128]⟩
abbrev S32x4x128x128 : Shape := ⟨4, ![32, 4, 128, 128]⟩
abbrev S_ : Shape := ⟨0, ![]⟩
abbrev S4x4 : Shape := ⟨2, ![4, 4]⟩
abbrev S4x4x1 : Shape := ⟨3, ![4, 4, 1]⟩
abbrev S32x4x4x1x128 : Shape := ⟨5, ![32, 4, 4, 1, 128]⟩
abbrev S32x4x1x4x128 : Shape := ⟨5, ![32, 4, 1, 4, 128]⟩
abbrev S32x4x4x4x128 : Shape := ⟨5, ![32, 4, 4, 4, 128]⟩
abbrev S32x4x4x4 : Shape := ⟨4, ![32, 4, 4, 4]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S128 : Shape := ⟨1, ![128]⟩
abbrev S32x4x4 : Shape := ⟨3, ![32, 4, 4]⟩
abbrev S32x4x4x1 : Shape := ⟨4, ![32, 4, 4, 1]⟩
abbrev S1x1x1x128 : Shape := ⟨4, ![1, 1, 1, 128]⟩
abbrev S32x4x512 : Shape := ⟨3, ![32, 4, 512]⟩
abbrev S32x8x512 : Shape := ⟨3, ![32, 8, 512]⟩

abbrev nBuf : Space → Nat
  | .hbm => 88
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S1x32x4x128x128, .f32⟩
  | .hbm, ⟨6, _⟩ => ⟨S1x128, .f32⟩
  | .hbm, ⟨7, _⟩ => ⟨S32x4x4x128, .f32⟩
  | .hbm, ⟨8, _⟩ => ⟨S32x4x4x128, .f32⟩
  | .hbm, ⟨9, _⟩ => ⟨S32x4x4x128, .f32⟩
  | .hbm, ⟨10, _⟩ => ⟨S32x4x4x128, .f32⟩
  | .hbm, ⟨11, _⟩ => ⟨S32x4x4x128, .f32⟩
  | .hbm, ⟨12, _⟩ => ⟨S32x4x4x128, .f32⟩
  | .hbm, ⟨13, _⟩ => ⟨S32x4x4x128, .f32⟩
  | .hbm, ⟨14, _⟩ => ⟨S32x4x4x128, .f32⟩
  | .hbm, ⟨15, _⟩ => ⟨S32x4x128x128, .f32⟩
  | .hbm, ⟨16, _⟩ => ⟨S_, .i1⟩
  | .hbm, ⟨17, _⟩ => ⟨S4x4, .i1⟩
  | .hbm, ⟨18, _⟩ => ⟨S4x4, .i32⟩
  | .hbm, ⟨19, _⟩ => ⟨S_, .i32⟩
  | .hbm, ⟨20, _⟩ => ⟨S4x4, .i32⟩
  | .hbm, ⟨21, _⟩ => ⟨S4x4, .i32⟩
  | .hbm, ⟨22, _⟩ => ⟨S4x4, .i32⟩
  | .hbm, ⟨23, _⟩ => ⟨S4x4, .i1⟩
  | .hbm, ⟨24, _⟩ => ⟨S_, .i1⟩
  | .hbm, ⟨25, _⟩ => ⟨S4x4, .i1⟩
  | .hbm, ⟨26, _⟩ => ⟨S4x4, .i1⟩
  | .hbm, ⟨27, _⟩ => ⟨S4x4x1, .i1⟩
  | .hbm, ⟨28, _⟩ => ⟨S_, .f32⟩
  | .hbm, ⟨29, _⟩ => ⟨S_, .f32⟩
  | .hbm, ⟨30, _⟩ => ⟨S32x4x4x128, .f32⟩
  | .hbm, ⟨31, _⟩ => ⟨S32x4x4x1x128, .f32⟩
  | .hbm, ⟨32, _⟩ => ⟨S32x4x1x4x128, .f32⟩
  | .hbm, ⟨33, _⟩ => ⟨S32x4x4x4x128, .f32⟩
  | .hbm, ⟨34, _⟩ => ⟨S32x4x4x4x128, .f32⟩
  | .hbm, ⟨35, _⟩ => ⟨S32x4x4x4x128, .f32⟩
  | .hbm, ⟨36, _⟩ => ⟨S_, .f32⟩
  | .hbm, ⟨37, _⟩ => ⟨S_, .f32⟩
  | .hbm, ⟨38, _⟩ => ⟨S32x4x4x4x128, .i1⟩
  | .hbm, ⟨39, _⟩ => ⟨S32x4x4x4x128, .f32⟩
  | .hbm, ⟨40, _⟩ => ⟨S32x4x4x4x128, .f32⟩
  | .hbm, ⟨41, _⟩ => ⟨S32x4x4x4x128, .f32⟩
  | .hbm, ⟨42, _⟩ => ⟨S32x4x1x4x128, .f32⟩
  | .hbm, ⟨43, _⟩ => ⟨S32x4x4x4x128, .f32⟩
  | .hbm, ⟨44, _⟩ => ⟨S32x4x4x4x128, .f32⟩
  | .hbm, ⟨45, _⟩ => ⟨S32x4x4x4, .f32⟩
  | .hbm, ⟨46, _⟩ => ⟨S32x4x4x128, .f32⟩
  | .hbm, ⟨47, _⟩ => ⟨S32x4x4x128, .f32⟩
  | .hbm, ⟨48, _⟩ => ⟨S32x4x4x128, .f32⟩
  | .hbm, ⟨49, _⟩ => ⟨S32x4x4x128, .f32⟩
  | .hbm, ⟨50, _⟩ => ⟨S32x4x4x128, .f32⟩
  | .hbm, ⟨51, _⟩ => ⟨S32x4x1x128, .f32⟩
  | .hbm, ⟨52, _⟩ => ⟨S32x4x128, .f32⟩
  | .hbm, ⟨53, _⟩ => ⟨S32x4x128, .f32⟩
  | .hbm, ⟨54, _⟩ => ⟨S32x4x128x1, .f32⟩
  | .hbm, ⟨55, _⟩ => ⟨S32x4x128x128, .f32⟩
  | .hbm, ⟨56, _⟩ => ⟨S32x4x128x128, .f32⟩
  | .hbm, ⟨57, _⟩ => ⟨S32x4x4x128, .f32⟩
  | .hbm, ⟨58, _⟩ => ⟨S32x4x4x128, .f32⟩
  | .hbm, ⟨59, _⟩ => ⟨S32x4x4x128, .f32⟩
  | .hbm, ⟨60, _⟩ => ⟨S32x4x4x128, .f32⟩
  | .hbm, ⟨61, _⟩ => ⟨S32x4x128x128, .f32⟩
  | .hbm, ⟨62, _⟩ => ⟨S32x4x128x128, .f32⟩
  | .hbm, ⟨63, _⟩ => ⟨S32x4x4x128, .f32⟩
  | .hbm, ⟨64, _⟩ => ⟨S128, .f32⟩
  | .hbm, ⟨65, _⟩ => ⟨S32x4x4x128, .f32⟩
  | .hbm, ⟨66, _⟩ => ⟨S_, .f32⟩
  | .hbm, ⟨67, _⟩ => ⟨S32x4x4, .f32⟩
  | .hbm, ⟨68, _⟩ => ⟨S32x4x4x1, .f32⟩
  | .hbm, ⟨69, _⟩ => ⟨S_, .f32⟩
  | .hbm, ⟨70, _⟩ => ⟨S32x4x4x1, .f32⟩
  | .hbm, ⟨71, _⟩ => ⟨S32x4x4x1, .f32⟩
  | .hbm, ⟨72, _⟩ => ⟨S_, .f32⟩
  | .hbm, ⟨73, _⟩ => ⟨S32x4x4x1, .f32⟩
  | .hbm, ⟨74, _⟩ => ⟨S32x4x4x1, .f32⟩
  | .hbm, ⟨75, _⟩ => ⟨S32x4x4x1, .f32⟩
  | .hbm, ⟨76, _⟩ => ⟨S32x4x4x128, .f32⟩
  | .hbm, ⟨77, _⟩ => ⟨S32x4x4x128, .f32⟩
  | .hbm, ⟨78, _⟩ => ⟨S1x1x1x128, .f32⟩
  | .hbm, ⟨79, _⟩ => ⟨S32x4x4x128, .f32⟩
  | .hbm, ⟨80, _⟩ => ⟨S32x4x4x128, .f32⟩
  | .hbm, ⟨81, _⟩ => ⟨S32x4x4x128, .f32⟩
  | .hbm, ⟨82, _⟩ => ⟨S32x4x4x128, .f32⟩
  | .hbm, ⟨83, _⟩ => ⟨S32x4x512, .f32⟩
  | .hbm, ⟨84, _⟩ => ⟨S_, .i32⟩
  | .hbm, ⟨85, _⟩ => ⟨S_, .f32⟩
  | .hbm, ⟨86, _⟩ => ⟨S32x8x512, .f32⟩
  | .hbm, ⟨87, _⟩ => ⟨S32x4x128x128, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_call1_call0_cst : Ref sig .tc := ⟨.hbm, 28, rfl⟩
abbrev main_call1_call0_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_0 : Ref sig .tc := ⟨.hbm, 66, rfl⟩
abbrev main_v44 : Ref sig .tc := ⟨.hbm, 67, rfl⟩
abbrev main_v45 : Ref sig .tc := ⟨.hbm, 68, rfl⟩
abbrev main_cst_1 : Ref sig .tc := ⟨.hbm, 69, rfl⟩
abbrev main_v46 : Ref sig .tc := ⟨.hbm, 70, rfl⟩
abbrev main_v47 : Ref sig .tc := ⟨.hbm, 71, rfl⟩
abbrev main_cst_2 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_3 : Ref sig .tc := ⟨.hbm, 84, rfl⟩
abbrev main_call3_v0 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== Kernel7.lean ====
abbrev S32x4x1024 : Shape := ⟨3, ![32, 4, 1024]⟩
abbrev S1x32x4x128x128 : Shape := ⟨5, ![1, 32, 4, 128, 128]⟩
abbrev S1x1024 : Shape := ⟨2, ![1, 1024]⟩
abbrev S1x1024x4168 : Shape := ⟨3, ![1, 1024, 4168]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S1024x4168 : Shape := ⟨2, ![1024, 4168]⟩
abbrev S1024x4224 : Shape := ⟨2, ![1024, 4224]⟩
abbrev S1024 : Shape := ⟨1, ![1024]⟩
abbrev S128x1024 : Shape := ⟨2, ![128, 1024]⟩
abbrev S4 : Shape := ⟨1, ![4]⟩
abbrev S1x4 : Shape := ⟨2, ![1, 4]⟩
abbrev S32x4 : Shape := ⟨2, ![32, 4]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S128x512 : Shape := ⟨2, ![128, 512]⟩
abbrev S1024x512 : Shape := ⟨2, ![1024, 512]⟩
abbrev S1024x128 : Shape := ⟨2, ![1024, 128]⟩
abbrev S32x4x128x128 : Shape := ⟨4, ![32, 4, 128, 128]⟩
abbrev S32x4x512 : Shape := ⟨3, ![32, 4, 512]⟩
abbrev S32x8x512 : Shape := ⟨3, ![32, 8, 512]⟩
abbrev S1x8x512 : Shape := ⟨3, ![1, 8, 512]⟩
abbrev S1x4x128x128 : Shape := ⟨4, ![1, 4, 128, 128]⟩
abbrev S4x128x128 : Shape := ⟨3, ![4, 128, 128]⟩
abbrev S8x128 : Shape := ⟨2, ![8, 128]⟩
abbrev S1x8x128 : Shape := ⟨3, ![1, 8, 128]⟩
abbrev S1x128x128 : Shape := ⟨3, ![1, 128, 128]⟩
abbrev S8x1 : Shape := ⟨2, ![8, 1]⟩

abbrev nBuf : Space → Nat
  | .hbm => 112
  | .vmem => 36
  | .smem => 0
  | _ => 0

abbrev bufTy : (tb : Table) → Fin (tcTables nBuf tb) → BufTy
  | .hbm, ⟨0, _⟩ => ⟨S32x4x1024, .f32⟩
  | .hbm, ⟨1, _⟩ => ⟨S1x32x4x128x128, .f32⟩
  | .hbm, ⟨2, _⟩ => ⟨S1x1024, .f32⟩
  | .hbm, ⟨3, _⟩ => ⟨S1x1024x4168, .f32⟩
  | .hbm, ⟨4, _⟩ => ⟨S2x512, .f32⟩
  | .hbm, ⟨5, _⟩ => ⟨S1x128, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S512, .f32⟩
  | .hbm, ⟨17, _⟩ => ⟨S1x512, .f32⟩
  | .hbm, ⟨18, _⟩ => ⟨S2x512, .f32⟩
  | .hbm, ⟨19, _⟩ => ⟨S2x512, .f32⟩
  | .hbm, ⟨20, _⟩ => ⟨S_, .f32⟩
  | .hbm, ⟨21, _⟩ => ⟨S_, .f32⟩
  | .hbm, ⟨22, _⟩ => ⟨S2x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S1024x4168, .f32⟩
  | .hbm, ⟨27, _⟩ => ⟨S_, .i32⟩
  | .hbm, ⟨28, _⟩ => ⟨S_, .f32⟩
  | .hbm, ⟨29, _⟩ => ⟨S1024x4224, .f32⟩
  | .hbm, ⟨30, _⟩ => ⟨S1024x4224, .bf16⟩
  | .hbm, ⟨31, _⟩ => ⟨S1024, .f32⟩
  | .hbm, ⟨32, _⟩ => ⟨S1x1024, .f32⟩
  | .hbm, ⟨33, _⟩ => ⟨S128x1024, .f32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S1x4, .i32⟩
  | .hbm, ⟨39, _⟩ => ⟨S32x4, .i32⟩
  | .hbm, ⟨40, _⟩ => ⟨S128, .i32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S128, .f32⟩
  | .hbm, ⟨50, _⟩ => ⟨S128x1, .f32⟩
  | .hbm, ⟨51, _⟩ => ⟨S1x8, .f32⟩
  | .hbm, ⟨52, _⟩ => ⟨S128x8, .f32⟩
  | .hbm, ⟨53, _⟩ => ⟨S128x8, .f32⟩
  | .hbm, ⟨54, _⟩ => ⟨S128x8, .f32⟩
  | .hbm, ⟨55, _⟩ => ⟨S128x8, .f32⟩
  | .hbm, ⟨56, _⟩ => ⟨S128x8, .f32⟩
  | .hbm, ⟨57, _⟩ => ⟨S_, .f32⟩
  | .hbm, ⟨58, _⟩ => ⟨S128x48, .f32⟩
  | .hbm, ⟨59, _⟩ => ⟨S_, .f32⟩
  | .hbm, ⟨60, _⟩ => ⟨S128x48, .f32⟩
  | .hbm, ⟨61, _⟩ => ⟨S_, .f32⟩
  | .hbm, ⟨62, _⟩ => ⟨S128x8, .f32⟩
  | .hbm, ⟨63, _⟩ => ⟨S128x64, .f32⟩
  | .hbm, ⟨64, _⟩ => ⟨S128x64, .f32⟩
  | .hbm, ⟨65, _⟩ => ⟨S128x8, .f32⟩
  | .hbm, ⟨66, _⟩ => ⟨S128x64, .f32⟩
  | .hbm, ⟨67, _⟩ => ⟨S1x128x1x64, .f32⟩
  | .hbm, ⟨68, _⟩ => ⟨S1x128x2x64, .f32⟩
  | .hbm, ⟨69, _⟩ => ⟨S128x128, .f32⟩
  | .hbm, ⟨70, _⟩ => ⟨S1x128x1x64, .f32⟩
  | .hbm, ⟨71, _⟩ => ⟨S1x128x2x64, .f32⟩
  | .hbm, ⟨72, _⟩ => ⟨S128x128, .f32⟩
  | .hbm, ⟨73, _⟩ => ⟨S1x128x1x64, .f32⟩
  | .hbm, ⟨74, _⟩ => ⟨S1x128x2x64, .f32⟩
  | .hbm, ⟨75, _⟩ => ⟨S128x128, .f32⟩
  | .hbm, ⟨76, _⟩ => ⟨S128x512, .f32⟩
  | .hbm, ⟨77, _⟩ => ⟨S128x512, .f32⟩
  | .hbm, ⟨78, _⟩ => ⟨S128x512, .f32⟩
  | .hbm, ⟨79, _⟩ => ⟨S128x512, .f32⟩
  | .hbm, ⟨80, _⟩ => ⟨S128x512, .f32⟩
  | .hbm, ⟨81, _⟩ => ⟨S128x512, .f32⟩
  | .hbm, ⟨82, _⟩ => ⟨S128x512, .f32⟩
  | .hbm, ⟨83, _⟩ => ⟨S128x512, .f32⟩
  | .hbm, ⟨84, _⟩ => ⟨S128x512, .f32⟩
  | .hbm, ⟨85, _⟩ => ⟨S128x128, .f32⟩
  | .hbm, ⟨86, _⟩ => ⟨S128, .f32⟩
  | .hbm, ⟨87, _⟩ => ⟨S1x128, .f32⟩
  | .hbm, ⟨88, _⟩ => ⟨S32x4x128x128, .f32⟩
  | .hbm, ⟨89, _⟩ => ⟨S32x4x128x128, .f32⟩
  | .hbm, ⟨90, _⟩ => ⟨S32x4x512, .f32⟩
  | .hbm, ⟨91, _⟩ => ⟨S_, .i32⟩
  | .hbm, ⟨92, _⟩ => ⟨S_, .f32⟩
  | .hbm, ⟨93, _⟩ => ⟨S32x8x512, .f32⟩
  | .hbm, ⟨94, _⟩ => ⟨S32x4x512, .f32⟩
  | .hbm, ⟨95, _⟩ => ⟨S_, .i32⟩
  | .hbm, ⟨96, _⟩ => ⟨S_, .f32⟩
  | .hbm, ⟨97, _⟩ => ⟨S32x8x512, .f32⟩
  | .hbm, ⟨98, _⟩ => ⟨S32x4x512, .f32⟩
  | .hbm, ⟨99, _⟩ => ⟨S_, .i32⟩
  | .hbm, ⟨100, _⟩ => ⟨S_, .f32⟩
  | .hbm, ⟨101, _⟩ => ⟨S32x8x512, .f32⟩
  | .hbm, ⟨102, _⟩ => ⟨S32x4x512, .f32⟩
  | .hbm, ⟨103, _⟩ => ⟨S_, .i32⟩
  | .hbm, ⟨104, _⟩ => ⟨S_, .f32⟩
  | .hbm, ⟨105, _⟩ => ⟨S32x8x512, .f32⟩
  | .hbm, ⟨106, _⟩ => ⟨S32x4x512, .f32⟩
  | .hbm, ⟨107, _⟩ => ⟨S_, .i32⟩
  | .hbm, ⟨108, _⟩ => ⟨S_, .f32⟩
  | .hbm, ⟨109, _⟩ => ⟨S32x8x512, .f32⟩
  | .hbm, ⟨110, _⟩ => ⟨S32x8x512, .f32⟩
  | .hbm, ⟨111, _⟩ => ⟨S32x4x128x128, .f32⟩
  | .local _ .vmem, ⟨0, _⟩ => ⟨S128x1024, .f32⟩
  | .local _ .vmem, ⟨1, _⟩ => ⟨S1x1024, .f32⟩
  | .local _ .vmem, ⟨2, _⟩ => ⟨S1024x4224, .bf16⟩
  | .local _ .vmem, ⟨3, _⟩ => ⟨S1x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x128, .f32⟩
  | .local _ .vmem, ⟨17, _⟩ => ⟨S128x1024, .bf16⟩
  | .local _ .vmem, ⟨18, _⟩ => ⟨S1x8x512, .f32⟩
  | .local _ .vmem, ⟨19, _⟩ => ⟨S1x8x512, .f32⟩
  | .local _ .vmem, ⟨20, _⟩ => ⟨S1x8x512, .f32⟩
  | .local _ .vmem, ⟨21, _⟩ => ⟨S1x8x512, .f32⟩
  | .local _ .vmem, ⟨22, _⟩ => ⟨S1x8x512, .f32⟩
  | .local _ .vmem, ⟨23, _⟩ => ⟨S1x8x512, .f32⟩
  | .local _ .vmem, ⟨24, _⟩ => ⟨S1x8x512, .f32⟩
  | .local _ .vmem, ⟨25, _⟩ => ⟨S1x8x512, .f32⟩
  | .local _ .vmem, ⟨26, _⟩ => ⟨S1x8x512, .f32⟩
  | .local _ .vmem, ⟨27, _⟩ => ⟨S1x8x512, .f32⟩
  | .local _ .vmem, ⟨28, _⟩ => ⟨S1x128, .f32⟩
  | .local _ .vmem, ⟨29, _⟩ => ⟨S1x4x128x128, .f32⟩
  | .local _ .vmem, ⟨30, _⟩ => ⟨S1x4x128x128, .f32⟩
  | .local _ .vmem, ⟨31, _⟩ => ⟨S1x8x512, .f32⟩
  | .local _ .vmem, ⟨32, _⟩ => ⟨S1x8x512, .f32⟩
  | .local _ .vmem, ⟨33, _⟩ => ⟨S1x4x128x128, .f32⟩
  | .local _ .vmem, ⟨34, _⟩ => ⟨S1x4x128x128, .f32⟩
  | .local _ .vmem, ⟨35, _⟩ => ⟨S4x128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_call0_cst : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev main_v57_5 : Ref sig .tc := ⟨.hbm, 81, rfl⟩
abbrev main_v57_6 : Ref sig .tc := ⟨.hbm, 82, rfl⟩
abbrev main_v57_7 : Ref sig .tc := ⟨.hbm, 83, rfl⟩
abbrev main_v57_8 : Ref sig .tc := ⟨.hbm, 84, rfl⟩
abbrev main_v57_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_8 : Ref sig .tc := ⟨.hbm, 91, rfl⟩
abbrev main_call2_v0 : Ref sig .tc := ⟨.hbm, 92, rfl⟩
abbrev main_v63 : Ref sig .tc := ⟨.hbm, 93, rfl⟩
abbrev main_v64 : Ref sig .tc := ⟨.hbm, 94, rfl⟩
abbrev main_c_9 : Ref sig .tc := ⟨.hbm, 95, rfl⟩
abbrev main_call3_v0 : Ref sig .tc := ⟨.hbm, 96, rfl⟩
abbrev main_v65 : Ref sig .tc := ⟨.hbm, 97, rfl⟩
abbrev main_v66 : Ref sig .tc := ⟨.hbm, 98, rfl⟩
abbrev main_c_10 : Ref sig .tc := ⟨.hbm, 99, rfl⟩
abbrev main_call4_v0 : Ref sig .tc := ⟨.hbm, 100, rfl⟩
abbrev main_v67 : Ref sig .tc := ⟨.hbm, 101, rfl⟩
abbrev main_v68 : Ref sig .tc := ⟨.hbm, 102, rfl⟩
abbrev main_c_11 : Ref sig .tc := ⟨.hbm, 103, rfl⟩
abbrev main_call5_v0 : Ref sig .tc := ⟨.hbm, 104, rfl⟩
abbrev main_v69 : Ref sig .tc := ⟨.hbm, 105, rfl⟩
abbrev main_v70 : Ref sig .tc := ⟨.hbm, 106, rfl⟩
abbrev main_c_12 : Ref sig .tc := ⟨.hbm, 107, rfl⟩
abbrev main_call6_v0 : Ref sig .tc := ⟨.hbm, 108, rfl⟩
abbrev main_v71 : Ref sig .tc := ⟨.hbm, 109, rfl⟩
abbrev main_v72_0 : Ref sig .tc := ⟨.hbm, 110, rfl⟩
abbrev main_v72_1 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_scratch0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev grid1 : Pipeline.Grid := ⟨2, ![32, 1], ![false, false]⟩

def k1_cond2 (i : grid1.Coords) : BitVec 1 :=
  let arg1 : BitVec 32 := BitVec.ofNat 32 (i 1).val
  let c0_i32_353 : BitVec 32 := 0#32
  let v840 : BitVec 1 := Scalar.cmpi .eq arg1 c0_i32_353
  let v841 : BitVec 32 := Scalar.extui v840
  let c0_i32_354 : BitVec 32 := 0#32
  let v842 : BitVec 1 := Scalar.cmpi .ne v841 c0_i32_354
  v842

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x4x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x8x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x4x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== Reference7Ideal.lean ====
abbrev S32x4x1024 : Shape := ⟨3, ![32, 4, 1024]⟩
abbrev S1x32x4x128x128 : Shape := ⟨5, ![1, 32, 4, 128, 128]⟩
abbrev S1x1024 : Shape := ⟨2, ![1, 1024]⟩
abbrev S1x1024x4168 : Shape := ⟨3, ![1, 1024, 4168]⟩
abbrev S2x512 : Shape := ⟨2, ![2, 512]⟩
abbrev S1x128 : Shape := ⟨2, ![1, 128]⟩
abbrev S4 : Shape := ⟨1, ![4]⟩
abbrev S_ : Shape := ⟨0, ![]⟩
abbrev S512 : Shape := ⟨1, ![512]⟩
abbrev S1x512 : Shape := ⟨2, ![1, 512]⟩
abbrev S1024 : Shape := ⟨1, ![1024]⟩
abbrev S32x4 : Shape := ⟨2, ![32, 4]⟩
abbrev S32x4x1 : Shape := ⟨3, ![32, 4, 1]⟩
abbrev S1x1x1024 : Shape := ⟨3, ![1, 1, 1024]⟩
abbrev S1024x4168 : Shape := ⟨2, ![1024, 4168]⟩
abbrev S32x4x4168 : Shape := ⟨3, ![32, 4, 4168]⟩
abbrev S32x4x512 : Shape := ⟨3, ![32, 4, 512]⟩
abbrev S32x4x64 : Shape := ⟨3, ![32, 4, 64]⟩
abbrev S32x4x8 : Shape := ⟨3, ![32, 4, 8]⟩
abbrev S1x1x512 : Shape := ⟨3, ![1, 1, 512]⟩
abbrev S32x4x8x64 : Shape := ⟨4, ![32, 4, 8, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S1x4x1x8 : Shape := ⟨4, ![1, 4, 1, 8]⟩
abbrev S32x4x8x8 : Shape := ⟨4, ![32, 4, 8, 8]⟩
abbrev S32x4x8x48 : Shape := ⟨4, ![32, 4, 8, 48]⟩
abbrev S1x4x8 : Shape := ⟨3, ![1, 4, 8]⟩
abbrev S32x4x48 : Shape := ⟨3, ![32, 4, 48]⟩
abbrev S32x4x56 : Shape := ⟨3, ![32, 4, 56]⟩
abbrev S32x4x128 : Shape := ⟨3, ![32, 4, 128]⟩
abbrev S128x512 : Shape := ⟨2, ![128, 512]⟩
abbrev S128x128 : Shape := ⟨2, ![128, 128]⟩
abbrev S32x4x4x128 : Shape := ⟨4, ![32, 4, 4, 128]⟩
abbrev S32x4x128x128 : Shape := ⟨4, ![32, 4, 128, 128]⟩
abbrev S4x4 : Shape := ⟨2, ![4, 4]⟩
abbrev S4x4x1 : Shape := ⟨3, ![4, 4, 1]⟩
abbrev S32x4x4x1x128 : Shape := ⟨5, ![32, 4, 4, 1, 128]⟩
abbrev S32x4x1x4x128 : Shape := ⟨5, ![32, 4, 1, 4, 128]⟩
abbrev S32x4x4x4x128 : Shape := ⟨5, ![32, 4, 4, 4, 128]⟩
abbrev S32x4x4x4 : Shape := ⟨4, ![32, 4, 4, 4]⟩
abbrev S32x4x1x128 : Shape := ⟨4, ![32, 4, 1, 128]⟩
abbrev S32x4x128x1 : Shape := ⟨4, ![32, 4, 128, 1]⟩
abbrev S128 : Shape := ⟨1, ![128]⟩
abbrev S32x4x4 : Shape := ⟨3, ![32, 4, 4]⟩
abbrev S32x4x4x1 : Shape := ⟨4, ![32, 4, 4, 1]⟩
abbrev S1x1x1x128 : Shape := ⟨4, ![1, 1, 1, 128]⟩
abbrev S32x8x512 : Shape := ⟨3, ![32, 8, 512]⟩

abbrev nBuf : Space → Nat
  | .hbm => 325
  | .vmem => 0
  | .smem => 0
  | _ => 0

abbrev hbmTy0_0 (i : Nat) : BufTy := match i % 128 with
  | 0 => ⟨S32x4x1024, .f32⟩
  | 1 => ⟨S1x32x4x128x128, .f32⟩
  | 2 => ⟨S1x1024, .f32⟩
  | 3 => ⟨S1x1024x4168, .f32⟩
  | 4 => ⟨S2x512, .f32⟩
  | 5 => ⟨S1x128, .f32⟩
  | 6 => ⟨S4, .i32⟩
  | 7 => ⟨S_, .i32⟩
  | 8 => ⟨S4, .i32⟩
  | 9 => ⟨S4, .i32⟩
  | 10 => ⟨S_, .f32⟩
  | 11 => ⟨S512, .f32⟩
  | 12 => ⟨S_, .f32⟩
  | 13 => ⟨S512, .f32⟩
  | 14 => ⟨S512, .f32⟩
  | 15 => ⟨S1x512, .f32⟩
  | 16 => ⟨S2x512, .f32⟩
  | 17 => ⟨S2x512, .f32⟩
  | 18 => ⟨S2x512, .f32⟩
  | 19 => ⟨S_, .f32⟩
  | 20 => ⟨S512, .f32⟩
  | 21 => ⟨S1x512, .f32⟩
  | 22 => ⟨S2x512, .f32⟩
  | 23 => ⟨S2x512, .f32⟩
  | 24 => ⟨S_, .f32⟩
  | 25 => ⟨S_, .f32⟩
  | 26 => ⟨S2x512, .f32⟩
  | 27 => ⟨S1x512, .f32⟩
  | 28 => ⟨S512, .f32⟩
  | 29 => ⟨S1024, .f32⟩
  | 30 => ⟨S32x4x1024, .f32⟩
  | 31 => ⟨S_, .f32⟩
  | 32 => ⟨S32x4, .f32⟩
  | 33 => ⟨S32x4x1, .f32⟩
  | 34 => ⟨S_, .f32⟩
  | 35 => ⟨S32x4x1, .f32⟩
  | 36 => ⟨S32x4x1, .f32⟩
  | 37 => ⟨S_, .f32⟩
  | 38 => ⟨S32x4x1, .f32⟩
  | 39 => ⟨S32x4x1, .f32⟩
  | 40 => ⟨S32x4x1, .f32⟩
  | 41 => ⟨S32x4x1024, .f32⟩
  | 42 => ⟨S32x4x1024, .f32⟩
  | 43 => ⟨S1x1x1024, .f32⟩
  | 44 => ⟨S32x4x1024, .f32⟩
  | 45 => ⟨S32x4x1024, .f32⟩
  | 46 => ⟨S1024x4168, .f32⟩
  | 47 => ⟨S32x4x4168, .f32⟩
  | 48 => ⟨S32x4x512, .f32⟩
  | 49 => ⟨S32x4x512, .f32⟩
  | 50 => ⟨S32x4x512, .f32⟩
  | 51 => ⟨S32x4x512, .f32⟩
  | 52 => ⟨S32x4x512, .f32⟩
  | 53 => ⟨S32x4x512, .f32⟩
  | 54 => ⟨S32x4x512, .f32⟩
  | 55 => ⟨S32x4x512, .f32⟩
  | 56 => ⟨S32x4x64, .f32⟩
  | 57 => ⟨S32x4x8, .f32⟩
  | 58 => ⟨S32x4x512, .f32⟩
  | 59 => ⟨S32x4x512, .f32⟩
  | 60 => ⟨S_, .f32⟩
  | 61 => ⟨S32x4x512, .f32⟩
  | 62 => ⟨S32x4x512, .f32⟩
  | 63 => ⟨S_, .f32⟩
  | 64 => ⟨S32x4x512, .f32⟩
  | 65 => ⟨S32x4x512, .f32⟩
  | 66 => ⟨S32x4x512, .f32⟩
  | 67 => ⟨S_, .f32⟩
  | 68 => ⟨S512, .f32⟩
  | 69 => ⟨S512, .f32⟩
  | 70 => ⟨S32x4x512, .f32⟩
  | 71 => ⟨S32x4x512, .f32⟩
  | 72 => ⟨S_, .f32⟩
  | 73 => ⟨S32x4x512, .f32⟩
  | 74 => ⟨S32x4x512, .f32⟩
  | 75 => ⟨S_, .f32⟩
  | 76 => ⟨S32x4x512, .f32⟩
  | 77 => ⟨S32x4x512, .f32⟩
  | 78 => ⟨S1x1x512, .f32⟩
  | 79 => ⟨S32x4x512, .f32⟩
  | 80 => ⟨S32x4x512, .f32⟩
  | 81 => ⟨S1x1x512, .f32⟩
  | 82 => ⟨S32x4x512, .f32⟩
  | 83 => ⟨S32x4x512, .f32⟩
  | 84 => ⟨S_, .f32⟩
  | 85 => ⟨S32x4x512, .f32⟩
  | 86 => ⟨S32x4x512, .f32⟩
  | 87 => ⟨S32x4x512, .f32⟩
  | 88 => ⟨S32x4x512, .f32⟩
  | 89 => ⟨S32x4x512, .f32⟩
  | 90 => ⟨S_, .f32⟩
  | 91 => ⟨S32x4x512, .f32⟩
  | 92 => ⟨S32x4x512, .f32⟩
  | 93 => ⟨S_, .f32⟩
  | 94 => ⟨S32x4x512, .f32⟩
  | 95 => ⟨S32x4x512, .f32⟩
  | 96 => ⟨S32x4x512, .f32⟩
  | 97 => ⟨S32x4x8x64, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S4, .f32⟩
  | 107 => ⟨S4x1, .f32⟩
  | 108 => ⟨S1x8, .f32⟩
  | 109 => ⟨S4x8, .f32⟩
  | 110 => ⟨S4x8, .f32⟩
  | 111 => ⟨S4x8, .f32⟩
  | 112 => ⟨S4x8, .f32⟩
  | 113 => ⟨S1x4x1x8, .f32⟩
  | 114 => ⟨S4x8, .f32⟩
  | 115 => ⟨S1x4x1x8, .f32⟩
  | 116 => ⟨S32x4x8x8, .f32⟩
  | 117 => ⟨S32x4x8x8, .f32⟩
  | 118 => ⟨S32x4x8x48, .f32⟩
  | 119 => ⟨S32x4x8x8, .f32⟩
  | 120 => ⟨S32x4x8x8, .f32⟩
  | 121 => ⟨S32x4x8x8, .f32⟩
  | 122 => ⟨S32x4x8x8, .f32⟩
  | 123 => ⟨S32x4x8x8, .f32⟩
  | 124 => ⟨S32x4x8x8, .f32⟩
  | 125 => ⟨S32x4x8x8, .f32⟩
  | 126 => ⟨S32x4x8x8, .f32⟩
  | 127 => ⟨S32x4x8x8, .f32⟩
  | _ => ⟨S32x4x1024, .f32⟩

abbrev hbmTy0_1 (i : Nat) : BufTy := match i % 128 with
  | 0 => ⟨S32x4x8x8, .f32⟩
  | 1 => ⟨S32x4x8x64, .f32⟩
  | 2 => ⟨S32x4x8x64, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S4, .f32⟩
  | 12 => ⟨S4x1, .f32⟩
  | 13 => ⟨S1x8, .f32⟩
  | 14 => ⟨S4x8, .f32⟩
  | 15 => ⟨S4x8, .f32⟩
  | 16 => ⟨S4x8, .f32⟩
  | 17 => ⟨S4x8, .f32⟩
  | 18 => ⟨S1x4x1x8, .f32⟩
  | 19 => ⟨S4x8, .f32⟩
  | 20 => ⟨S1x4x1x8, .f32⟩
  | 21 => ⟨S32x4x8x8, .f32⟩
  | 22 => ⟨S32x4x8x8, .f32⟩
  | 23 => ⟨S32x4x8x48, .f32⟩
  | 24 => ⟨S32x4x8x8, .f32⟩
  | 25 => ⟨S32x4x8x8, .f32⟩
  | 26 => ⟨S32x4x8x8, .f32⟩
  | 27 => ⟨S32x4x8x8, .f32⟩
  | 28 => ⟨S32x4x8x8, .f32⟩
  | 29 => ⟨S32x4x8x8, .f32⟩
  | 30 => ⟨S32x4x8x8, .f32⟩
  | 31 => ⟨S32x4x8x8, .f32⟩
  | 32 => ⟨S32x4x8x8, .f32⟩
  | 33 => ⟨S32x4x8x8, .f32⟩
  | 34 => ⟨S32x4x8x64, .f32⟩
  | 35 => ⟨S32x4x8x64, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S4, .f32⟩
  | 45 => ⟨S4x1, .f32⟩
  | 46 => ⟨S1x8, .f32⟩
  | 47 => ⟨S4x8, .f32⟩
  | 48 => ⟨S4x8, .f32⟩
  | 49 => ⟨S4x8, .f32⟩
  | 50 => ⟨S4x8, .f32⟩
  | 51 => ⟨S1x4x1x8, .f32⟩
  | 52 => ⟨S4x8, .f32⟩
  | 53 => ⟨S1x4x1x8, .f32⟩
  | 54 => ⟨S32x4x8x8, .f32⟩
  | 55 => ⟨S32x4x8x8, .f32⟩
  | 56 => ⟨S32x4x8x48, .f32⟩
  | 57 => ⟨S32x4x8x8, .f32⟩
  | 58 => ⟨S32x4x8x8, .f32⟩
  | 59 => ⟨S32x4x8x8, .f32⟩
  | 60 => ⟨S32x4x8x8, .f32⟩
  | 61 => ⟨S32x4x8x8, .f32⟩
  | 62 => ⟨S32x4x8x8, .f32⟩
  | 63 => ⟨S32x4x8x8, .f32⟩
  | 64 => ⟨S32x4x8x8, .f32⟩
  | 65 => ⟨S32x4x8x8, .f32⟩
  | 66 => ⟨S32x4x8x8, .f32⟩
  | 67 => ⟨S32x4x8x64, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S4, .f32⟩
  | 77 => ⟨S4x1, .f32⟩
  | 78 => ⟨S1x8, .f32⟩
  | 79 => ⟨S4x8, .f32⟩
  | 80 => ⟨S4x8, .f32⟩
  | 81 => ⟨S4x8, .f32⟩
  | 82 => ⟨S4x8, .f32⟩
  | 83 => ⟨S1x4x8, .f32⟩
  | 84 => ⟨S4x8, .f32⟩
  | 85 => ⟨S1x4x8, .f32⟩
  | 86 => ⟨S32x4x8, .f32⟩
  | 87 => ⟨S32x4x8, .f32⟩
  | 88 => ⟨S32x4x48, .f32⟩
  | 89 => ⟨S32x4x8, .f32⟩
  | 90 => ⟨S32x4x8, .f32⟩
  | 91 => ⟨S32x4x8, .f32⟩
  | 92 => ⟨S32x4x8, .f32⟩
  | 93 => ⟨S32x4x8, .f32⟩
  | 94 => ⟨S32x4x8, .f32⟩
  | 95 => ⟨S32x4x8, .f32⟩
  | 96 => ⟨S32x4x8, .f32⟩
  | 97 => ⟨S32x4x8, .f32⟩
  | 98 => ⟨S32x4x8, .f32⟩
  | 99 => ⟨S32x4x64, .f32⟩
  | 100 => ⟨S_, .f32⟩
  | 101 => ⟨S32x4x8, .f32⟩
  | 102 => ⟨S32x4x8, .f32⟩
  | 103 => ⟨S_, .f32⟩
  | 104 => ⟨S32x4x56, .f32⟩
  | 105 => ⟨S32x4x128, .f32⟩
  | 106 => ⟨S128x512, .f32⟩
  | 107 => ⟨S128x512, .f32⟩
  | 108 => ⟨S128x512, .f32⟩
  | 109 => ⟨S128x512, .f32⟩
  | 110 => ⟨S128x512, .f32⟩
  | 111 => ⟨S128x512, .f32⟩
  | 112 => ⟨S128x512, .f32⟩
  | 113 => ⟨S128x512, .f32⟩
  | 114 => ⟨S128x512, .f32⟩
  | 115 => ⟨S128x128, .f32⟩
  | 116 => ⟨S32x4x4x128, .f32⟩
  | 117 => ⟨S32x4x4x128, .f32⟩
  | 118 => ⟨S32x4x4x128, .f32⟩
  | 119 => ⟨S32x4x4x128, .f32⟩
  | 120 => ⟨S32x4x4x128, .f32⟩
  | 121 => ⟨S32x4x4x128, .f32⟩
  | 122 => ⟨S32x4x4x128, .f32⟩
  | 123 => ⟨S32x4x4x128, .f32⟩
  | 124 => ⟨S32x4x128x128, .f32⟩
  | 125 => ⟨S_, .i1⟩
  | 126 => ⟨S4x4, .i1⟩
  | 127 => ⟨S4x4, .i32⟩
  | _ => ⟨S32x4x1024, .f32⟩

abbrev hbmTy0_2 (i : Nat) : BufTy := match i % 128 with
  | 0 => ⟨S_, .i32⟩
  | 1 => ⟨S4x4, .i32⟩
  | 2 => ⟨S4x4, .i32⟩
  | 3 => ⟨S4x4, .i32⟩
  | 4 => ⟨S4x4, .i1⟩
  | 5 => ⟨S_, .i1⟩
  | 6 => ⟨S4x4, .i1⟩
  | 7 => ⟨S4x4, .i1⟩
  | 8 => ⟨S4x4x1, .i1⟩
  | 9 => ⟨S_, .f32⟩
  | 10 => ⟨S_, .f32⟩
  | 11 => ⟨S32x4x4x128, .f32⟩
  | 12 => ⟨S32x4x4x1x128, .f32⟩
  | 13 => ⟨S32x4x1x4x128, .f32⟩
  | 14 => ⟨S32x4x4x4x128, .f32⟩
  | 15 => ⟨S32x4x4x4x128, .f32⟩
  | 16 => ⟨S32x4x4x4x128, .f32⟩
  | 17 => ⟨S_, .f32⟩
  | 18 => ⟨S_, .f32⟩
  | 19 => ⟨S32x4x4x4x128, .i1⟩
  | 20 => ⟨S32x4x4x4x128, .f32⟩
  | 21 => ⟨S32x4x4x4x128, .f32⟩
  | 22 => ⟨S32x4x4x4x128, .f32⟩
  | 23 => ⟨S32x4x1x4x128, .f32⟩
  | 24 => ⟨S32x4x4x4x128, .f32⟩
  | 25 => ⟨S32x4x4x4x128, .f32⟩
  | 26 => ⟨S32x4x4x4, .f32⟩
  | 27 => ⟨S32x4x4x128, .f32⟩
  | 28 => ⟨S32x4x4x128, .f32⟩
  | 29 => ⟨S32x4x4x128, .f32⟩
  | 30 => ⟨S32x4x4x128, .f32⟩
  | 31 => ⟨S32x4x4x128, .f32⟩
  | 32 => ⟨S32x4x1x128, .f32⟩
  | 33 => ⟨S32x4x128, .f32⟩
  | 34 => ⟨S32x4x128, .f32⟩
  | 35 => ⟨S32x4x128x1, .f32⟩
  | 36 => ⟨S32x4x128x128, .f32⟩
  | 37 => ⟨S32x4x128x128, .f32⟩
  | 38 => ⟨S32x4x4x128, .f32⟩
  | 39 => ⟨S32x4x4x128, .f32⟩
  | 40 => ⟨S32x4x4x128, .f32⟩
  | 41 => ⟨S32x4x4x128, .f32⟩
  | 42 => ⟨S32x4x128x128, .f32⟩
  | 43 => ⟨S32x4x128x128, .f32⟩
  | 44 => ⟨S32x4x4x128, .f32⟩
  | 45 => ⟨S128, .f32⟩
  | 46 => ⟨S32x4x4x128, .f32⟩
  | 47 => ⟨S_, .f32⟩
  | 48 => ⟨S32x4x4, .f32⟩
  | 49 => ⟨S32x4x4x1, .f32⟩
  | 50 => ⟨S_, .f32⟩
  | 51 => ⟨S32x4x4x1, .f32⟩
  | 52 => ⟨S32x4x4x1, .f32⟩
  | 53 => ⟨S_, .f32⟩
  | 54 => ⟨S32x4x4x1, .f32⟩
  | 55 => ⟨S32x4x4x1, .f32⟩
  | 56 => ⟨S32x4x4x1, .f32⟩
  | 57 => ⟨S32x4x4x128, .f32⟩
  | 58 => ⟨S32x4x4x128, .f32⟩
  | 59 => ⟨S1x1x1x128, .f32⟩
  | 60 => ⟨S32x4x4x128, .f32⟩
  | 61 => ⟨S32x4x4x128, .f32⟩
  | 62 => ⟨S32x4x4x128, .f32⟩
  | 63 => ⟨S32x4x4x128, .f32⟩
  | 64 => ⟨S32x4x512, .f32⟩
  | 65 => ⟨S_, .i32⟩
  | 66 => ⟨S_, .f32⟩
  | 67 => ⟨S32x8x512, .f32⟩
  | 68 => ⟨S32x4x128x128, .f32⟩
  | _ => ⟨S32x4x1024, .f32⟩

abbrev hbmTy (i : Nat) : BufTy := match i / 128 with
  | 0 => hbmTy0_0 i
  | 1 => hbmTy0_1 i
  | 2 => hbmTy0_2 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_call0_cst : Ref sig .tc := ⟨.hbm, 24, rfl⟩
abbrev main_call0_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_v66 : Ref sig .tc := ⟨.hbm, 102, rfl⟩
abbrev main_cst_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_11 : Ref sig .tc := ⟨.hbm, 133, rfl⟩
abbrev main_v96 : Ref sig .tc := ⟨.hbm, 134, rfl⟩
abbrev main_v97 : Ref sig .tc := ⟨.hbm, 135, rfl⟩
abbrev main_cst_12 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_13 : Ref sig .tc := ⟨.hbm, 166, rfl⟩
abbrev main_v127 : Ref sig .tc := ⟨.hbm, 167, rfl⟩
abbrev main_v128 : Ref sig .tc := ⟨.hbm, 168, rfl⟩
abbrev main_cst_14 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_15 : Ref sig .tc := ⟨.hbm, 198, rfl⟩
abbrev main_v157 : Ref sig .tc := ⟨.hbm, 199, rfl⟩
abbrev main_v158 : Ref sig .tc := ⟨.hbm, 200, rfl⟩
abbrev main_cst_16 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_17 : Ref sig .tc := ⟨.hbm, 228, rfl⟩
abbrev main_v185 : Ref sig .tc := ⟨.hbm, 229, rfl⟩
abbrev main_v186 : Ref sig .tc := ⟨.hbm, 230, rfl⟩
abbrev main_cst_18 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_c_19 : Ref sig .tc := ⟨.hbm, 253, rfl⟩
abbrev main_v208 : Ref sig .tc := ⟨.hbm, 254, rfl⟩
abbrev main_call3_v0 : Ref sig .tc := ⟨.hbm, 255, rfl⟩
abbrev main_call3_c : Ref sig .tc := ⟨.hbm, 256, rfl⟩
abbrev main_call3_v1 : Ref sig .tc := ⟨.hbm, 257, rfl⟩
abbrev main_call3_v2 : Ref sig .tc := ⟨.hbm, 258, rfl⟩
abbrev main_call3_v3 : Ref sig .tc := ⟨.hbm, 259, rfl⟩
abbrev main_call3_v4 : Ref sig .tc := ⟨.hbm, 260, rfl⟩
abbrev main_call3_c_0 : Ref sig .tc := ⟨.hbm, 261, rfl⟩
abbrev main_call3_v5 : Ref sig .tc := ⟨.hbm, 262, rfl⟩
abbrev main_v209 : Ref sig .tc := ⟨.hbm, 263, rfl⟩
abbrev main_v210 : Ref sig .tc := ⟨.hbm, 264, rfl⟩
abbrev main_call4_call0_cst : Ref sig .tc := ⟨.hbm, 265, rfl⟩
abbrev main_call4_call0_v0 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_20 : Ref sig .tc := ⟨.hbm, 273, rfl⟩
abbrev main_call5_v0 : Ref sig .tc := ⟨.hbm, 274, rfl⟩
abbrev main_call5_v1 : Ref sig .tc := ⟨.hbm, 275, rfl⟩
abbrev main_call5_v2 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_cst_21 : Ref sig .tc := ⟨.hbm, 303, rfl⟩
abbrev main_v243 : Ref sig .tc := ⟨.hbm, 304, rfl⟩
abbrev main_v244 : Ref sig .tc := ⟨.hbm, 305, rfl⟩
abbrev main_cst_22 : Ref sig .tc := ⟨.hbm, 306, rfl⟩
abbrev main_v245 : Ref sig .tc := ⟨.hbm, 307, rfl⟩
abbrev main_v246 : Ref sig .tc := ⟨.hbm, 308, rfl⟩
abbrev main_cst_23 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_c_24 : Ref sig .tc := ⟨.hbm, 321, rfl⟩
abbrev main_call6_v0 : Ref sig .tc := ⟨.hbm, 322, rfl⟩
abbrev main_v258 : Ref sig .tc := ⟨.hbm, 323, rfl⟩
abbrev main_v259 : Ref sig .tc := ⟨.hbm, 324, rfl⟩

abbrev nD : Nat := 1
abbrev τ : Topo := Topo.v7x

variable {F : FTy → Type} [FloatOps F]
-- ==== Proof.Head.lean ====
/- One head of one chunk, as a function on vectors: the cumulative decay, the sixteen shifts of the diagonal blocks, the
   off-diagonal blocks, the read of the state, the normalisation and gate, and the next state. The kernel repeats it for
   its four heads. -/
module

public import Idealize.ShloMosaic.Lib.Pointwise
public import Idealize.ShloMosaic.Lib.Pipeline.ValueKit
public import Idealize.ShloMosaic.Lib.Pipeline.ReadBack
public import proofs.«01_k».proof.Proof.Gen.KernelIdeal.Value

@[expose] public section
set_option maxRecDepth 16384

noncomputable section

namespace Cert.KernelIdeal.Head

open Idealize.ShloMosaic Cert.KernelIdeal Cert.KernelIdeal.Gen

variable {F : FTy → Type} [FloatOps F]

/-- The row number of each element of a chunk. -/
def row : IVec S64x128 32 := iota .tc S64x128 32 [0] iota_S64x128_d0_w32

/-- The row number within its block of sixteen rows. -/
def sub : IVec S64x128 32 := andi row (broadcast S64x128 15#32)

/-- The zero chunk. -/
def zero : FVec F S64x128 .f32 := broadcast S64x128 (Scalar.ofBits .f32 0x00000000#32)

/-- The rows moved down by `d`, cyclically. -/
def rot (d : BitVec 32) (x : FVec F S64x128 .f32) : FVec F S64x128 .f32 := dynamicRotate 0 d none x rotates_S64x128_d0

/-- A chunk plus itself moved down by `d` rows, zeros moving in. -/
def shAdd (d : BitVec 32) (x : FVec F S64x128 .f32) : FVec F S64x128 .f32 :=
  addf x (select (cmpi .sge row (broadcast S64x128 d)) (rot d x) zero)

/-- The cumulative sum down the rows, in six doublings. -/
def cum (x : FVec F S64x128 .f32) : FVec F S64x128 .f32 := shAdd 32#32 (shAdd 16#32 (shAdd 8#32 (shAdd 4#32 (shAdd 2#32 (shAdd 1#32 x)))))

/-- The contribution of the keys `d` rows above, given the shifted cumulative decay, keys and values. -/
def diagOf (d : BitVec 32) (q b bs ks vs : FVec F S64x128 .f32) : FVec F S64x128 .f32 :=
  select (cmpi .sge sub (broadcast S64x128 d))
    (mulf (broadcastTo S64x128 (shapeCast S64x1 (multiReduction .add [1] S64
      (mulf (mulf q ks) (exp (select (cmpi .sge sub (broadcast S64x128 d)) (subf b bs) zero)))
      0x00000000#32 reduces_S64x128_S64 (.inl rfl) rfl) shapeCasts_S64_S64x1) broadcasts_S64x1_S64x128) vs) zero

/-- The contribution of the keys `d > 0` rows above, in the same block of sixteen. -/
def diag (d : BitVec 32) (q k v b : FVec F S64x128 .f32) : FVec F S64x128 .f32 := diagOf d q b (rot d b) (rot d k) (rot d v)

/-- The rows in which the queries' relative decay is measured: zero, then the last row of each earlier block. -/
def refRows (b : FVec F S64x128 .f32) : FVec F S64x128 .f32 :=
  concatenate S64x128 0 [
    ⟨S16x128, broadcastTo S16x128 (shapeCast S1x128 (broadcast S1x128 (Scalar.ofBits .f32 0x00000000#32)) shapeCasts_S1x128_S1x128) broadcasts_S1x128_S16x128⟩,
    ⟨S16x128, broadcastTo S16x128 (shapeCast S1x128 (extractStridedSlice S1x128 ![15, 0] b slices_S64x128_o15_0_S1x128) shapeCasts_S1x128_S1x128) broadcasts_S1x128_S16x128⟩,
    ⟨S16x128, broadcastTo S16x128 (shapeCast S1x128 (extractStridedSlice S1x128 ![31, 0] b slices_S64x128_o31_0_S1x128) shapeCasts_S1x128_S1x128) broadcasts_S1x128_S16x128⟩,
    ⟨S16x128, broadcastTo S16x128 (shapeCast S1x128 (extractStridedSlice S1x128 ![47, 0] b slices_S64x128_o47_0_S1x128) shapeCasts_S1x128_S1x128) broadcasts_S1x128_S16x128⟩]
    concatenates_S16x128_S16x128_S16x128_S16x128_S64x128_d0

/-- The queries with the decay since their block's reference row. -/
def qRel (q b : FVec F S64x128 .f32) : FVec F S64x128 .f32 := mulf q (exp (subf b (refRows b)))

/-- Rows 16 to 31 against the 16 rows before them. -/
def off1 (q k v b : FVec F S64x128 .f32) : FVec F S16x128 .f32 :=
  matmul dot_S16x16_S16x128_S16x128_1_0_0_1_n_n none
    (truncf .bf16 (matmul dot_S16x128_S16x128_S16x16_1_1_0_0_n_n none
      (truncf .bf16 (extractStridedSlice S16x128 ![16, 0] (qRel q b) slices_S64x128_o16_0_S16x128) bitsLt_bf16_f32)
      (truncf .bf16 (mulf (extractStridedSlice S16x128 ![0, 0] k slices_S64x128_o0_0_S16x128)
        (exp (subf (broadcastTo S16x128 (extractStridedSlice S1x128 ![15, 0] b slices_S64x128_o15_0_S1x128) broadcasts_S1x128_S16x128)
          (extractStridedSlice S16x128 ![0, 0] b slices_S64x128_o0_0_S16x128)))) bitsLt_bf16_f32)
      (constant S16x16 .f32 0x00000000#32)) bitsLt_bf16_f32)
    (truncf .bf16 (extractStridedSlice S16x128 ![0, 0] v slices_S64x128_o0_0_S16x128) bitsLt_bf16_f32)
    (constant S16x128 .f32 0x00000000#32)

/-- Rows 32 to 47 against the 32 rows before them. -/
def off2 (q k v b : FVec F S64x128 .f32) : FVec F S16x128 .f32 :=
  matmul dot_S16x32_S32x128_S16x128_1_0_0_1_n_n none
    (truncf .bf16 (matmul dot_S16x128_S32x128_S16x32_1_1_0_0_n_n none
      (truncf .bf16 (extractStridedSlice S16x128 ![32, 0] (qRel q b) slices_S64x128_o32_0_S16x128) bitsLt_bf16_f32)
      (truncf .bf16 (mulf (extractStridedSlice S32x128 ![0, 0] k slices_S64x128_o0_0_S32x128)
        (exp (subf (broadcastTo S32x128 (extractStridedSlice S1x128 ![31, 0] b slices_S64x128_o31_0_S1x128) broadcasts_S1x128_S32x128)
          (extractStridedSlice S32x128 ![0, 0] b slices_S64x128_o0_0_S32x128)))) bitsLt_bf16_f32)
      (constant S16x32 .f32 0x00000000#32)) bitsLt_bf16_f32)
    (truncf .bf16 (extractStridedSlice S32x128 ![0, 0] v slices_S64x128_o0_0_S32x128) bitsLt_bf16_f32)
    (constant S16x128 .f32 0x00000000#32)

/-- Rows 48 to 63 against the 48 rows before them. -/
def off3 (q k v b : FVec F S64x128 .f32) : FVec F S16x128 .f32 :=
  matmul dot_S16x48_S48x128_S16x128_1_0_0_1_n_n none
    (truncf .bf16 (matmul dot_S16x128_S48x128_S16x48_1_1_0_0_n_n none
      (truncf .bf16 (extractStridedSlice S16x128 ![48, 0] (qRel q b) slices_S64x128_o48_0_S16x128) bitsLt_bf16_f32)
      (truncf .bf16 (mulf (extractStridedSlice S48x128 ![0, 0] k slices_S64x128_o0_0_S48x128)
        (exp (subf (broadcastTo S48x128 (extractStridedSlice S1x128 ![47, 0] b slices_S64x128_o47_0_S1x128) broadcasts_S1x128_S48x128)
          (extractStridedSlice S48x128 ![0, 0] b slices_S64x128_o0_0_S48x128)))) bitsLt_bf16_f32)
      (constant S16x48 .f32 0x00000000#32)) bitsLt_bf16_f32)
    (truncf .bf16 (extractStridedSlice S48x128 ![0, 0] v slices_S64x128_o0_0_S48x128) bitsLt_bf16_f32)
    (constant S16x128 .f32 0x00000000#32)

/-- The off-diagonal blocks' contribution. -/
def off (q k v b : FVec F S64x128 .f32) : FVec F S64x128 .f32 :=
  concatenate S64x128 0 [⟨S16x128, broadcast S16x128 (Scalar.ofBits .f32 0x00000000#32)⟩, ⟨S16x128, off1 q k v b⟩, ⟨S16x128, off2 q k v b⟩, ⟨S16x128, off3 q k v b⟩]
    concatenates_S16x128_S16x128_S16x128_S16x128_S64x128_d0

/-- What the state of the earlier chunks contributes. -/
def inter (q b : FVec F S64x128 .f32) (st : FVec F S128x128 .f32) : FVec F S64x128 .f32 :=
  matmul dot_S64x128_S128x128_S64x128_1_1_0_0_n_n none (truncf .bf16 (mulf q (exp b)) bitsLt_bf16_f32) (truncf .bf16 st bitsLt_bf16_f32)
    (constant S64x128 .f32 0x00000000#32)

/-- The head's output before the normalisation. -/
def pre (q k v b : FVec F S64x128 .f32) (st : FVec F S128x128 .f32) : FVec F S64x128 .f32 :=
  addf (addf (addf (addf (addf (addf (addf (addf (addf (addf (addf (addf (addf (addf (addf (addf
    (addf (inter q b st) (off q k v b))
    (diagOf 0#32 q b b k v)) (diag 1#32 q k v b)) (diag 2#32 q k v b)) (diag 3#32 q k v b)) (diag 4#32 q k v b))
    (diag 5#32 q k v b)) (diag 6#32 q k v b)) (diag 7#32 q k v b)) (diag 8#32 q k v b)) (diag 9#32 q k v b))
    (diag 10#32 q k v b)) (diag 11#32 q k v b)) (diag 12#32 q k v b)) (diag 13#32 q k v b)) (diag 14#32 q k v b)) (diag 15#32 q k v b)

/-- The root-mean-square normalisation of each row, times the gain. -/
def norm (o : FVec F S64x128 .f32) (gain : FVec F S1x128 .f32) : FVec F S64x128 .f32 :=
  mulf (mulf o (broadcastTo S64x128 (rsqrt (addf (divf (shapeCast S64x1 (multiReduction .add [1] S64 (mulf o o)
    0x00000000#32 reduces_S64x128_S64 (.inl rfl) rfl) shapeCasts_S64_S64x1)
    (broadcast S64x1 (Scalar.ofBits .f32 0x43000000#32))) (broadcast S64x1 (Scalar.ofBits .f32 0x358637BD#32)))) broadcasts_S64x1_S64x128))
    (broadcastTo S64x128 gain broadcasts_S1x128_S64x128)

/-- The state after the chunk. -/
def post (k v b : FVec F S64x128 .f32) (st : FVec F S128x128 .f32) : FVec F S128x128 .f32 :=
  addf (mulf st (broadcastTo S128x128 (exp (extractStridedSlice S1x128 ![63, 0] b slices_S64x128_o63_0_S1x128)) broadcasts_S1x128_S128x128))
    (matmul dot_S64x128_S64x128_S128x128_0_0_1_1_n_n none (truncf .bf16 v bitsLt_bf16_f32)
      (truncf .bf16 (mulf k (exp (subf (broadcastTo S64x128 (extractStridedSlice S1x128 ![63, 0] b slices_S64x128_o63_0_S1x128) broadcasts_S1x128_S64x128) b))) bitsLt_bf16_f32)
      (constant S128x128 .f32 0x00000000#32))

/-- A loaded lane tile without its unit axis. -/
def flat (x : Vec F S1x64x128 .f32) : FVec F S64x128 .f32 := shapeCast S64x128 x shapeCasts_S1x64x128_S64x128

/-- A loaded head of the state without its unit axis. -/
def flatS (x : Vec F S1x128x128 .f32) : FVec F S128x128 .f32 := shapeCast S128x128 x shapeCasts_S1x128x128_S128x128

/-- What one head stores into the output, of its lane tiles of queries, keys, log decays, values and gates, the gain and
    its state. -/
def outT (q k lf v ga : Vec F S1x64x128 .f32) (gain : Vec F S1x128 .f32) (st : Vec F S1x128x128 .f32) : FVec F S1x64x128 .f32 :=
  shapeCast S1x64x128 (mulf (norm (pre (flat q) (flat k) (flat v) (cum (flat lf)) (flatS st)) (shapeCast S1x128 gain shapeCasts_S1x128_S1x128)) (flat ga))
    shapeCasts_S64x128_S1x64x128

/-- What one head stores into the state. -/
def stT (k lf v : Vec F S1x64x128 .f32) (st : Vec F S1x128x128 .f32) : FVec F S1x128x128 .f32 :=
  shapeCast S1x128x128 (post (flat k) (flat v) (cum (flat lf)) (flatS st)) shapeCasts_S128x128_S1x128x128

end Cert.KernelIdeal.Head
-- ==== Proof.Cases.lean ====
/- What the kernel's three kinds of grid point leave in the output block and in the carried state, as stores of the
   heads' values (Head.lean). -/
module

public import proofs.«01_k».proof.Proof.Head

@[expose] public section
set_option maxRecDepth 16384

noncomputable section

namespace Cert.KernelIdeal.Head

open Idealize.ShloMosaic Idealize.ShloMosaic.TcCoe Cert.KernelIdeal Cert.KernelIdeal.Gen

variable {F : FTy → Type} [FloatOps F]

/-- The four heads' stores into the output block, the last one first. -/
def outP (q k lf v ga : Vec F S1x64x512 .f32) (gain : Vec F S1x128 .f32) (st : Vec F S4x128x128 .f32) : List (View.Piece (Elt F) S1x64x512 .f32) :=
  [ ⟨(Rect.unit (s := S1x64x512) ![0, 0, 384] S1x64x128.size inb_S1x64x512_S1x64x128_0_0_384), outT (View.ld q (Rect.unit (s := S1x64x512) ![0, 0, 384] S1x64x128.size inb_S1x64x512_S1x64x128_0_0_384)) (View.ld k (Rect.unit (s := S1x64x512) ![0, 0, 384] S1x64x128.size inb_S1x64x512_S1x64x128_0_0_384)) (View.ld lf (Rect.unit (s := S1x64x512) ![0, 0, 384] S1x64x128.size inb_S1x64x512_S1x64x128_0_0_384)) (View.ld v (Rect.unit (s := S1x64x512) ![0, 0, 384] S1x64x128.size inb_S1x64x512_S1x64x128_0_0_384)) (View.ld ga (Rect.unit (s := S1x64x512) ![0, 0, 384] S1x64x128.size inb_S1x64x512_S1x64x128_0_0_384)) gain (View.ld st (Rect.unit (s := S4x128x128) ![3, 0, 0] S1x128x128.size inb_S4x128x128_S1x128x128_3_0_0))⟩,
    ⟨(Rect.unit (s := S1x64x512) ![0, 0, 256] S1x64x128.size inb_S1x64x512_S1x64x128_0_0_256), outT (View.ld q (Rect.unit (s := S1x64x512) ![0, 0, 256] S1x64x128.size inb_S1x64x512_S1x64x128_0_0_256)) (View.ld k (Rect.unit (s := S1x64x512) ![0, 0, 256] S1x64x128.size inb_S1x64x512_S1x64x128_0_0_256)) (View.ld lf (Rect.unit (s := S1x64x512) ![0, 0, 256] S1x64x128.size inb_S1x64x512_S1x64x128_0_0_256)) (View.ld v (Rect.unit (s := S1x64x512) ![0, 0, 256] S1x64x128.size inb_S1x64x512_S1x64x128_0_0_256)) (View.ld ga (Rect.unit (s := S1x64x512) ![0, 0, 256] S1x64x128.size inb_S1x64x512_S1x64x128_0_0_256)) gain (View.ld st (Rect.unit (s := S4x128x128) ![2, 0, 0] S1x128x128.size inb_S4x128x128_S1x128x128_2_0_0))⟩,
    ⟨(Rect.unit (s := S1x64x512) ![0, 0, 128] S1x64x128.size inb_S1x64x512_S1x64x128_0_0_128), outT (View.ld q (Rect.unit (s := S1x64x512) ![0, 0, 128] S1x64x128.size inb_S1x64x512_S1x64x128_0_0_128)) (View.ld k (Rect.unit (s := S1x64x512) ![0, 0, 128] S1x64x128.size inb_S1x64x512_S1x64x128_0_0_128)) (View.ld lf (Rect.unit (s := S1x64x512) ![0, 0, 128] S1x64x128.size inb_S1x64x512_S1x64x128_0_0_128)) (View.ld v (Rect.unit (s := S1x64x512) ![0, 0, 128] S1x64x128.size inb_S1x64x512_S1x64x128_0_0_128)) (View.ld ga (Rect.unit (s := S1x64x512) ![0, 0, 128] S1x64x128.size inb_S1x64x512_S1x64x128_0_0_128)) gain (View.ld st (Rect.unit (s := S4x128x128) ![1, 0, 0] S1x128x128.size inb_S4x128x128_S1x128x128_1_0_0))⟩,
    ⟨(Rect.unit (s := S1x64x512) ![0, 0, 0] S1x64x128.size inb_S1x64x512_S1x64x128_0_0_0), outT (View.ld q (Rect.unit (s := S1x64x512) ![0, 0, 0] S1x64x128.size inb_S1x64x512_S1x64x128_0_0_0)) (View.ld k (Rect.unit (s := S1x64x512) ![0, 0, 0] S1x64x128.size inb_S1x64x512_S1x64x128_0_0_0)) (View.ld lf (Rect.unit (s := S1x64x512) ![0, 0, 0] S1x64x128.size inb_S1x64x512_S1x64x128_0_0_0)) (View.ld v (Rect.unit (s := S1x64x512) ![0, 0, 0] S1x64x128.size inb_S1x64x512_S1x64x128_0_0_0)) (View.ld ga (Rect.unit (s := S1x64x512) ![0, 0, 0] S1x64x128.size inb_S1x64x512_S1x64x128_0_0_0)) gain (View.ld st (Rect.unit (s := S4x128x128) ![0, 0, 0] S1x128x128.size inb_S4x128x128_S1x128x128_0_0_0))⟩ ]

/-- The four heads' stores into the state, the last one first. -/
def stP (k lf v : Vec F S1x64x512 .f32) (st : Vec F S4x128x128 .f32) : List (View.Piece (Elt F) S4x128x128 .f32) :=
  [ ⟨(Rect.unit (s := S4x128x128) ![3, 0, 0] S1x128x128.size inb_S4x128x128_S1x128x128_3_0_0), stT (View.ld k (Rect.unit (s := S1x64x512) ![0, 0, 384] S1x64x128.size inb_S1x64x512_S1x64x128_0_0_384)) (View.ld lf (Rect.unit (s := S1x64x512) ![0, 0, 384] S1x64x128.size inb_S1x64x512_S1x64x128_0_0_384)) (View.ld v (Rect.unit (s := S1x64x512) ![0, 0, 384] S1x64x128.size inb_S1x64x512_S1x64x128_0_0_384)) (View.ld st (Rect.unit (s := S4x128x128) ![3, 0, 0] S1x128x128.size inb_S4x128x128_S1x128x128_3_0_0))⟩,
    ⟨(Rect.unit (s := S4x128x128) ![2, 0, 0] S1x128x128.size inb_S4x128x128_S1x128x128_2_0_0), stT (View.ld k (Rect.unit (s := S1x64x512) ![0, 0, 256] S1x64x128.size inb_S1x64x512_S1x64x128_0_0_256)) (View.ld lf (Rect.unit (s := S1x64x512) ![0, 0, 256] S1x64x128.size inb_S1x64x512_S1x64x128_0_0_256)) (View.ld v (Rect.unit (s := S1x64x512) ![0, 0, 256] S1x64x128.size inb_S1x64x512_S1x64x128_0_0_256)) (View.ld st (Rect.unit (s := S4x128x128) ![2, 0, 0] S1x128x128.size inb_S4x128x128_S1x128x128_2_0_0))⟩,
    ⟨(Rect.unit (s := S4x128x128) ![1, 0, 0] S1x128x128.size inb_S4x128x128_S1x128x128_1_0_0), stT (View.ld k (Rect.unit (s := S1x64x512) ![0, 0, 128] S1x64x128.size inb_S1x64x512_S1x64x128_0_0_128)) (View.ld lf (Rect.unit (s := S1x64x512) ![0, 0, 128] S1x64x128.size inb_S1x64x512_S1x64x128_0_0_128)) (View.ld v (Rect.unit (s := S1x64x512) ![0, 0, 128] S1x64x128.size inb_S1x64x512_S1x64x128_0_0_128)) (View.ld st (Rect.unit (s := S4x128x128) ![1, 0, 0] S1x128x128.size inb_S4x128x128_S1x128x128_1_0_0))⟩,
    ⟨(Rect.unit (s := S4x128x128) ![0, 0, 0] S1x128x128.size inb_S4x128x128_S1x128x128_0_0_0), stT (View.ld k (Rect.unit (s := S1x64x512) ![0, 0, 0] S1x64x128.size inb_S1x64x512_S1x64x128_0_0_0)) (View.ld lf (Rect.unit (s := S1x64x512) ![0, 0, 0] S1x64x128.size inb_S1x64x512_S1x64x128_0_0_0)) (View.ld v (Rect.unit (s := S1x64x512) ![0, 0, 0] S1x64x128.size inb_S1x64x512_S1x64x128_0_0_0)) (View.ld st (Rect.unit (s := S4x128x128) ![0, 0, 0] S1x128x128.size inb_S4x128x128_S1x128x128_0_0_0))⟩ ]

/-- The output block at a point of kind B. -/
theorem out_B (c : Dev nD) (i : grid0.Coords)
  (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole) (hc0 : ¬cond0_0 i) (hc1 : ¬cond0_1 i)
    (x0 : Vec F S1x64x512 .f32) (x1 : Vec F S1x64x512 .f32) (x2 : Vec F S1x64x512 .f32) (x3 : Vec F S1x64x512 .f32) (x4 : Vec F S1x64x512 .f32) (x5 : Vec F S1x128 .f32) (x6 : Vec F S1x4x128x128 .f32) (xs0 : Vec F S4x128x128 .f32) :
    out0_B_7 c i arg2 harg2 arg3 harg3 arg4 harg4 arg5 harg5 arg6 harg6 arg7 harg7 arg8 harg8 arg9 harg9 arg10 harg10 arg11 harg11 hc0 hc1 x0 x1 x2 x3 x4 x5 x6 xs0 = View.canon (outP x0 x1 x2 x3 x4 x5 xs0) := by
  frame_out
  rfl

/-- The carried state after a point of kind B. -/
theorem st_B (c : Dev nD) (i : grid0.Coords)
  (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole) (hc0 : ¬cond0_0 i) (hc1 : ¬cond0_1 i)
    (x0 : Vec F S1x64x512 .f32) (x1 : Vec F S1x64x512 .f32) (x2 : Vec F S1x64x512 .f32) (x3 : Vec F S1x64x512 .f32) (x4 : Vec F S1x64x512 .f32) (x5 : Vec F S1x128 .f32) (x6 : Vec F S1x4x128x128 .f32) (xs0 : Vec F S4x128x128 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 = View.canon (stP x1 x2 x3 xs0) := by
  frame_out
  rfl

/-- The output block at a point of kind C. -/
theorem out_C (c : Dev nD) (i : grid0.Coords)
  (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole) (hc0 : ¬cond0_0 i) (hc1 : cond0_1 i)
    (x0 : Vec F S1x64x512 .f32) (x1 : Vec F S1x64x512 .f32) (x2 : Vec F S1x64x512 .f32) (x3 : Vec F S1x64x512 .f32) (x4 : Vec F S1x64x512 .f32) (x5 : Vec F S1x128 .f32) (x6 : Vec F S1x4x128x128 .f32) (xs0 : Vec F S4x128x128 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 = View.canon (outP x0 x1 x2 x3 x4 x5 xs0) := by
  frame_out
  rfl

/-- The carried state after a point of kind C. -/
theorem st_C (c : Dev nD) (i : grid0.Coords)
  (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole) (hc0 : ¬cond0_0 i) (hc1 : cond0_1 i)
    (x0 : Vec F S1x64x512 .f32) (x1 : Vec F S1x64x512 .f32) (x2 : Vec F S1x64x512 .f32) (x3 : Vec F S1x64x512 .f32) (x4 : Vec F S1x64x512 .f32) (x5 : Vec F S1x128 .f32) (x6 : Vec F S1x4x128x128 .f32) (xs0 : Vec F S4x128x128 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 = View.canon (stP x1 x2 x3 xs0) := by
  frame_out
  rfl

/-- The output block at a point of kind A. -/
theorem out_A (c : Dev nD) (i : grid0.Coords)
  (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole) (hc0 : cond0_0 i) (hc1 : ¬cond0_1 i)
    (x0 : Vec F S1x64x512 .f32) (x1 : Vec F S1x64x512 .f32) (x2 : Vec F S1x64x512 .f32) (x3 : Vec F S1x64x512 .f32) (x4 : Vec F S1x64x512 .f32) (x5 : Vec F S1x128 .f32) (x6 : Vec F S1x4x128x128 .f32) :
    out0_A_7 c i arg2 harg2 arg3 harg3 arg4 harg4 arg5 harg5 arg6 harg6 arg7 harg7 arg8 harg8 arg9 harg9 arg10 harg10 arg11 harg11 hc0 hc1 x0 x1 x2 x3 x4 x5 x6 = View.canon (outP x0 x1 x2 x3 x4 x5 (k0_pay3 x6)) := by
  frame_open
  simp (disch := decide) only [↓ View.readCov_skip, ↓ View.readCov_fill, ↓ View.readCov_cons_toLoadRect]
  frame_out
  generalize k0_pay3 x6 = z
  rfl

/-- The carried state after a point of kind A. -/
theorem st_A (c : Dev nD) (i : grid0.Coords)
  (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole) (hc0 : cond0_0 i) (hc1 : ¬cond0_1 i)
    (x0 : Vec F S1x64x512 .f32) (x1 : Vec F S1x64x512 .f32) (x2 : Vec F S1x64x512 .f32) (x3 : Vec F S1x64x512 .f32) (x4 : Vec F S1x64x512 .f32) (x5 : Vec F S1x128 .f32) (x6 : Vec F S1x4x128x128 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = View.canon (stP x1 x2 x3 (k0_pay3 x6) ++ [⟨Rect.unit (s := S4x128x128) ![0, 0, 0] S4x128x128.size inb_S4x128x128_S4x128x128_0_0_0, k0_pay3 x6⟩]) := by
  frame_open
  simp (disch := decide) only [↓ View.readCov_skip, ↓ View.readCov_fill, ↓ View.readCov_cons_toLoadRect]
  frame_out
  generalize k0_pay3 x6 = z
  rfl

/-- A load of the whole state reads what the stores left. -/
theorem readCov_whole (v : View sig .tc .vmem S4x128x128 .f32) (L : List (View.Piece (Elt F) S4x128x128 .f32)) :
    v.readCov L (Rect.unit (s := S4x128x128) ![0, 0, 0] S4x128x128.size inb_S4x128x128_S4x128x128_0_0_0).toLoadRect = View.canon L := by
  rw [View.readCov_eq_canon']
  exact View.ld_unit_lit' (S := S4x128x128) inb_S4x128x128_S4x128x128_0_0_0 (View.canon L) (by decide)

/-- The final state at a point of kind C. -/
theorem fin_C (c : Dev nD) (i : grid0.Coords)
  (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole) (hc0 : ¬cond0_0 i) (hc1 : cond0_1 i)
    (x0 : Vec F S1x64x512 .f32) (x1 : Vec F S1x64x512 .f32) (x2 : Vec F S1x64x512 .f32) (x3 : Vec F S1x64x512 .f32) (x4 : Vec F S1x64x512 .f32) (x5 : Vec F S1x128 .f32) (x6 : Vec F S1x4x128x128 .f32) (xs0 : Vec F S4x128x128 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 xs0 = k0_pay2 (View.canon (stP x1 x2 x3 xs0)) := by
  frame_out
  rw [readCov_whole]
  rfl

end Cert.KernelIdeal.Head
-- ==== Proof.Spec.lean ====
/- The recurrence of one chunk of 64 rows over the extended reals: cumulative log decay, attention within the chunk, the
   read of the state, the next state and the normalisation; and the sums that the shifted additions make. -/
module

public import Idealize.ShloMosaic.Lib.Pointwise

@[expose] public section

noncomputable section

namespace Cert.Hgrn

open Idealize.ShloMosaic

/-- Some rows of one head, of 128 numbers. -/
abbrev MatN (N : ℕ) : Type := Fin N → Fin 128 → EReal

/-- A chunk of one head: 64 rows of 128 numbers. -/
abbrev Mat : Type := MatN 64

/-- The state of one head: values by keys. -/
abbrev Sq : Type := Fin 128 → Fin 128 → EReal

/-- A column, continued by zeros. -/
def ext {N : ℕ} (a : Fin N → EReal) (n : ℕ) : EReal := if h : n < N then a ⟨n, h⟩ else 0

/-- The sum of the `m` entries up to and including entry `t`. -/
def win {N : ℕ} (a : Fin N → EReal) (m t : ℕ) : EReal := ∑ i ∈ Finset.range m, if i ≤ t then ext a (t - i) else 0

/-- The cumulative sum down the rows. -/
def cumS {N : ℕ} (L : MatN N) : MatN N := fun t k => ∑ s : Fin N, if s ≤ t then L s k else 0

/-- The decayed product of query `t` with key `s`. -/
def att {N : ℕ} (Q K B : MatN N) (t s : Fin N) : EReal := ∑ k : Fin 128, Q t k * (Ideal.exp (B t k - B s k) * K s k)

/-- A head's output before the normalisation, of the cumulative decay `B` and the state `S` before the chunk. -/
def outS {N : ℕ} (Q K V B : MatN N) (S : Sq) : MatN N := fun t c =>
  (∑ s : Fin N, if s ≤ t then att Q K B t s * V s c else 0) + ∑ k : Fin 128, Q t k * Ideal.exp (B t k) * S c k

/-- The state after the chunk. -/
def nextS (K V B : Mat) (S : Sq) : Sq := fun c k =>
  S c k * Ideal.exp (B 63 k) + ∑ s : Fin 64, V s c * (K s k * Ideal.exp (B 63 k - B s k))

/-- The state after some rows, the last of which is `e`. -/
def nextOf {N : ℕ} (e : Fin N) (K V B : MatN N) (S : Sq) : Sq := fun c k =>
  S c k * Ideal.exp (B e k) + ∑ s : Fin N, V s c * (K s k * Ideal.exp (B e k - B s k))

/-- The normalised output times the gain. -/
def normS (o : Fin 128 → EReal) (gain : Fin 128 → EReal) (c : Fin 128) : EReal :=
  o c * Ideal.rsqrt (Ideal.div (∑ k : Fin 128, o k * o k) (Ideal.ofBits .f32 0x43000000#32) + Ideal.ofBits .f32 0x358637BD#32) * gain c

/-- An array of all rows, four heads of 128 lanes side by side. -/
abbrev Arr : Type := Fin 16384 → Fin 512 → EReal

/-- Head `h` of chunk `n`. -/
def chunk (x : Arr) (n : ℕ) (h : Fin 4) : Mat := fun t k => x ⟨(64 * n + t.val) % 16384, Nat.mod_lt _ (by decide)⟩ ⟨128 * h.val + k.val, by omega⟩

/-- The state before chunk `n`. -/
def stateAt (K L V : Arr) : ℕ → Fin 4 → Sq
  | 0 => fun _ _ _ => 0
  | n + 1 => fun h => nextS (chunk K n h) (chunk V n h) (cumS (chunk L n h)) (stateAt K L V n h)

/-- The output before the normalisation. -/
def rawAt (Q K L V : Arr) (n : ℕ) (h : Fin 4) : Mat := outS (chunk Q n h) (chunk K n h) (chunk V n h) (cumS (chunk L n h)) (stateAt K L V n h)

/-- The gated output. -/
def outAt (Q K L V G : Arr) (gain : Fin 128 → EReal) (r : Fin 16384) (l : Fin 512) : EReal :=
  normS (rawAt Q K L V (r.val / 64) ⟨l.val / 128, by omega⟩ ⟨r.val % 64, Nat.mod_lt _ (by decide)⟩) gain ⟨l.val % 128, Nat.mod_lt _ (by decide)⟩ * G r l

/-- A window is doubled by adding the window before it. -/
theorem win_double {N : ℕ} (a : Fin N → EReal) (m t : ℕ) : win a m t + (if m ≤ t then win a m (t - m) else 0) = win a (m + m) t := by
  unfold win
  rw [Finset.sum_range_add]
  congr 1
  split
  · refine Finset.sum_congr rfl fun i _ => ?_
    have e : t - m - i = t - (m + i) := by omega
    rw [e]
    congr 1
    simp only [eq_iff_iff]
    omega
  · refine (Finset.sum_eq_zero fun i _ => ?_).symm
    rw [if_neg (by omega)]

/-- The window of all the entries is the cumulative sum. -/
theorem win_cum {N : ℕ} (L : MatN N) (t : Fin N) (k : Fin 128) : win (fun s => L s k) N t = cumS L t k := by
  unfold win cumS
  have h1 : ∑ i ∈ Finset.range N, (if i ≤ t.val then ext (fun s => L s k) (t.val - i) else 0)
      = ∑ i ∈ Finset.range (t.val + 1), ext (fun s => L s k) (t.val - i) := by
    rw [← Finset.sum_filter]
    refine Finset.sum_congr ?_ fun _ _ => rfl
    ext i
    simp only [Finset.mem_filter, Finset.mem_range]
    have := t.isLt
    omega
  have h2 := Finset.sum_range_reflect (fun i => ext (fun s => L s k) i) (t.val + 1)
  have h3 : ∑ s : Fin N, (if s ≤ t then L s k else 0) = ∑ i ∈ Finset.range N, if i ≤ t.val then ext (fun s => L s k) i else 0 := by
    rw [Finset.sum_range]
    refine Finset.sum_congr rfl fun s _ => ?_
    simp only [ext, s.isLt, dite_true, Fin.le_def]
  rw [h1, h3, ← Finset.sum_filter]
  refine Eq.trans ?_ (h2.trans ?_)
  · refine Finset.sum_congr rfl fun i _ => ?_
    congr 1
  · refine Finset.sum_congr ?_ fun _ _ => rfl
    ext i
    simp only [Finset.mem_filter, Finset.mem_range]
    have := t.isLt
    omega

/-- What the decays need: they are never plus infinity, and a later one is an earlier one plus something that isn't either. -/
def Tame (B : Mat) : Prop := (∀ t k, B t k ≠ ⊤) ∧ ∀ s t : Fin 64, s ≤ t → ∀ k, ∃ y, y ≠ ⊤ ∧ B t k = B s k + y

/-- A sum of numbers below plus infinity is below plus infinity. -/
theorem sum_ne_top {ι : Type} (S : Finset ι) (f : ι → EReal) (h : ∀ i ∈ S, f i ≠ ⊤) : ∑ i ∈ S, f i ≠ ⊤ := by
  classical
  induction S using Finset.induction_on with
  | empty => simp
  | insert a S ha ih =>
    rw [Finset.sum_insert ha]
    exact EReal.add_ne_top (h a (Finset.mem_insert_self a S)) (ih fun i hi => h i (Finset.mem_insert_of_mem hi))

/-- The cumulative decay of log decays below plus infinity. -/
theorem tame_cumS (L : Mat) (h : ∀ t k, L t k ≠ ⊤) : Tame (cumS L) := by
  refine ⟨fun t k => sum_ne_top _ _ fun s _ => ?_, fun s t hst k => ⟨∑ i : Fin 64, if s < i ∧ i ≤ t then L i k else 0, sum_ne_top _ _ fun i _ => ?_, ?_⟩⟩
  · split
    · exact h s k
    · exact EReal.zero_ne_top
  · split
    · exact h i k
    · exact EReal.zero_ne_top
  · unfold cumS
    rw [← Finset.sum_add_distrib]
    refine Finset.sum_congr rfl fun i _ => ?_
    by_cases h1 : i ≤ s
    · have h2 : i ≤ t := le_trans h1 hst
      have h3 : ¬ s < i := not_lt.mpr h1
      simp [h1, h2, h3]
    · have h3 : s < i := not_le.mp h1
      simp [h1, h3]

/-- The decay from `s` to `t` through a row `r` between them. -/
theorem exp_through {B : Mat} (hB : Tame B) {s r t : Fin 64} (h1 : s ≤ r) (h2 : r ≤ t) (k : Fin 128) :
    Ideal.exp (B t k - B r k) * Ideal.exp (B r k - B s k) = Ideal.exp (B t k - B s k) := by
  obtain ⟨x, hx, ex⟩ := hB.2 s r h1 k
  obtain ⟨y, hy, ey⟩ := hB.2 r t h2 k
  have hs := hB.1 s k
  rw [ey, ex]
  generalize B s k = a at hs
  induction a with
  | top => exact absurd rfl hs
  | bot => simp
  | coe a =>
    induction x with
    | top => exact absurd rfl hx
    | bot => simp
    | coe x =>
      induction y with
      | top => exact absurd rfl hy
      | bot => simp
      | coe y =>
        rw [← EReal.coe_add, ← EReal.coe_add, ← EReal.coe_sub, ← EReal.coe_sub, ← EReal.coe_sub, Ideal.exp_coe, Ideal.exp_coe, Ideal.exp_coe,
          ← EReal.coe_mul, ← Real.exp_add]
        congr 2
        ring

/-- The product of a query and a key decayed to a row between them is their decayed product. -/
theorem att_through {B : Mat} (hB : Tame B) (Q K : Mat) {s r t : Fin 64} (h1 : s ≤ r) (h2 : r ≤ t) :
    ∑ k : Fin 128, Q t k * Ideal.exp (B t k - B r k) * (K s k * Ideal.exp (B r k - B s k)) = att Q K B t s := by
  refine Finset.sum_congr rfl fun k _ => ?_
  rw [← exp_through hB h1 h2 k]
  ac_rfl

/-- The rows up to `t`: the earlier blocks of sixteen, and the rows of the block of `t`, counted upwards from `t`. -/
theorem split64 (f : ℕ → EReal) (t : Fin 64) :
    ∑ s : Fin 64, (if s ≤ t then f s.val else 0) =
      ∑ i ∈ Finset.range (16 * (t.val / 16)), f i + ∑ d ∈ Finset.range 16, if d ≤ t.val % 16 then f (t.val - d) else 0 := by
  have ht := t.isLt
  have h3 : ∑ s : Fin 64, (if s ≤ t then f s.val else 0) = ∑ i ∈ Finset.range (16 * (t.val / 16) + (t.val % 16 + 1)), f i := by
    have : ∑ s : Fin 64, (if s ≤ t then f s.val else 0) = ∑ i ∈ Finset.range 64, if i ≤ t.val then f i else 0 := by
      rw [Finset.sum_range]
      exact Finset.sum_congr rfl fun s _ => by simp only [Fin.le_def]
    rw [this, ← Finset.sum_filter]
    refine Finset.sum_congr ?_ fun _ _ => rfl
    ext i
    simp only [Finset.mem_filter, Finset.mem_range]
    omega
  rw [h3, Finset.sum_range_add]
  congr 1
  rw [← Finset.sum_filter]
  have h4 : Finset.filter (fun d => d ≤ t.val % 16) (Finset.range 16) = Finset.range (t.val % 16 + 1) := by
    ext i
    simp only [Finset.mem_filter, Finset.mem_range]
    omega
  rw [h4, ← Finset.sum_range_reflect]
  refine Finset.sum_congr rfl fun d hd => ?_
  rw [Finset.mem_range] at hd
  congr 1
  omega

end Cert.Hgrn
-- ==== Proof.HeadValue.lean ====
/- The head's vectors read at an index, over the extended reals. -/
module

public import proofs.«01_k».proof.Proof.Head
public import proofs.«01_k».proof.Proof.Spec

@[expose] public section
set_option maxRecDepth 16384

noncomputable section

namespace Cert.KernelIdeal.Head

open Idealize.ShloMosaic Idealize.ShloMosaic.Pointwise Cert.KernelIdeal Cert.KernelIdeal.Gen Cert.Hgrn

/-- A chunk as a function of row and lane. -/
abbrev mat (x : FVec Ideal S64x128 .f32) : Mat := fun t k => x (ix2 t k)

theorem row_sge : ∀ d t : Fin 64, IntOp.cmpi .sge (BitVec.ofNat 32 t.val) (BitVec.ofNat 32 d.val) = BitVec.ofBool (decide (d.val ≤ t.val)) := by
  decide +kernel

theorem sub_sge : ∀ d t : Fin 64, IntOp.cmpi .sge (IntOp.andi (BitVec.ofNat 32 t.val) 15#32) (BitVec.ofNat 32 d.val) = BitVec.ofBool (decide (d.val ≤ t.val % 16)) := by
  decide +kernel

/-- The cyclic shift at an index. -/
theorem rot_at (d : Fin 64) (x : FVec Ideal S64x128 .f32) (t : Fin 64) (k : Fin 128) :
    rot (BitVec.ofNat 32 d.val) x (ix2 t k) = x (ix2 ⟨(t.val + 64 - d.val) % 64, Nat.mod_lt _ (by decide)⟩ k) := by
  pointwise [rot]
  congr 2
  ext
  simp only [BitVec.toNat_ofNat]
  omega

/-- The shifted addition at an index. -/
theorem shAdd_at (d : Fin 64) (x : FVec Ideal S64x128 .f32) (t : Fin 64) (k : Fin 128) :
    shAdd (BitVec.ofNat 32 d.val) x (ix2 t k) = x (ix2 t k) + if d.val ≤ t.val then ext (fun s => x (ix2 s k)) (t.val - d.val) else 0 := by
  pointwise [shAdd, row, zero]
  rw [row_sge d t, rot_at]
  congr 1
  by_cases h : d.val ≤ t.val
  · have e : (t.val + 64 - d.val) % 64 = t.val - d.val := by omega
    have h2 : t.val - d.val < 64 := by omega
    simp [h, e, ext, h2, Scalar.select]
  · simp [h, Scalar.select]

/-- A shift after a window doubles the window. -/
theorem shAdd_win (d : Fin 64) (a x : FVec Ideal S64x128 .f32) (k : Fin 128)
    (h : ∀ t : Fin 64, x (ix2 t k) = win (fun s => a (ix2 s k)) d.val t.val) (t : Fin 64) :
    shAdd (BitVec.ofNat 32 d.val) x (ix2 t k) = win (fun s => a (ix2 s k)) (d.val + d.val) t.val := by
  rw [shAdd_at, h t, ← win_double]
  congr 1
  split
  · have h2 : t.val - d.val < 64 := by omega
    simp only [ext, h2, dite_true]
    exact h ⟨t.val - d.val, h2⟩
  · rfl

/-- The six doublings are the cumulative sum. -/
theorem cum_at (x : FVec Ideal S64x128 .f32) (t : Fin 64) (k : Fin 128) : cum x (ix2 t k) = cumS (mat x) t k := by
  have h0 : ∀ t : Fin 64, x (ix2 t k) = win (fun s => x (ix2 s k)) 1 t.val := fun t => by
    have h2 : t.val < 64 := t.isLt
    simp [win, ext, h2]
  have h1 := shAdd_win 1 x x k h0
  have h2 := shAdd_win 2 x _ k h1
  have h3 := shAdd_win 4 x _ k h2
  have h4 := shAdd_win 8 x _ k h3
  have h5 := shAdd_win 16 x _ k h4
  have h6 := shAdd_win 32 x _ k h5
  exact (h6 t).trans (win_cum (mat x) t k)

/-- What key `s` contributes to row `t`, the row number a natural number. -/
def term (Q K V B : Mat) (t : Fin 64) (c : Fin 128) (s : ℕ) : EReal := if h : s < 64 then att Q K B t ⟨s, h⟩ * V ⟨s, h⟩ c else 0

/-- The diagonal contribution at an index. -/
theorem diagOf_at (d : Fin 64) (q b bs ks vs : FVec Ideal S64x128 .f32) (t : Fin 64) (c : Fin 128) :
    diagOf (BitVec.ofNat 32 d.val) q b bs ks vs (ix2 t c) =
      if d.val ≤ t.val % 16 then (∑ k : Fin 128, q (ix2 t k) * ks (ix2 t k) * Ideal.exp (b (ix2 t k) - bs (ix2 t k))) * vs (ix2 t c) else 0 := by
  pointwise [diagOf, sub, row, zero]
  rw [sub_sge d t]
  by_cases h : d.val ≤ t.val % 16
  · simp [h, Scalar.select]
  · simp [h, Scalar.select]

/-- The contribution of the key `d` rows above, for every `d`. -/
theorem diag_at (d : Fin 64) (q k v b : FVec Ideal S64x128 .f32) (t : Fin 64) (c : Fin 128) :
    diag (BitVec.ofNat 32 d.val) q k v b (ix2 t c) =
      if d.val ≤ t.val % 16 then term (mat q) (mat k) (mat v) (mat b) t c (t.val - d.val) else 0 := by
  rw [diag, diagOf_at]
  split
  · have e : (t.val + 64 - d.val) % 64 = t.val - d.val := by omega
    have h2 : t.val - d.val < 64 := by omega
    simp only [rot_at, e, term, h2, dite_true, att]
    congr 1
    exact Finset.sum_congr rfl fun j _ => (mul_assoc _ _ _).trans (congrArg (_ * ·) (mul_comm _ _))
  · rfl

/-- The contribution of the key of the same row. -/
theorem diag0_at (q k v b : FVec Ideal S64x128 .f32) (t : Fin 64) (c : Fin 128) :
    diagOf 0#32 q b b k v (ix2 t c) = if 0 ≤ t.val % 16 then term (mat q) (mat k) (mat v) (mat b) t c (t.val - 0) else 0 := by
  have h2 : t.val < 64 := t.isLt
  refine (diagOf_at 0 q b b k v t c).trans ?_
  simp only [Fin.val_zero, Nat.zero_le, if_true, term, Nat.sub_zero, h2, dite_true, att]
  congr 1
  exact Finset.sum_congr rfl fun j _ => (mul_assoc _ _ _).trans (congrArg (_ * ·) (mul_comm _ _))

/-- The state's contribution at an index. -/
theorem inter_at (q b : FVec Ideal S64x128 .f32) (st : FVec Ideal S128x128 .f32) (t : Fin 64) (c : Fin 128) :
    inter q b st (ix2 t c) = ∑ k : Fin 128, q (ix2 t k) * Ideal.exp (b (ix2 t k)) * st (ix2 c k) := by
  pointwise [inter]

/-- The normalisation at an index. -/
theorem norm_at (o : FVec Ideal S64x128 .f32) (gain : FVec Ideal S1x128 .f32) (t : Fin 64) (c : Fin 128) :
    norm o gain (ix2 t c) = normS (fun k => o (ix2 t k)) (fun k => gain (ix2 0 k)) c := by
  pointwise [norm]
  rfl

/-- The next state at an index. -/
theorem post_at (k v b : FVec Ideal S64x128 .f32) (st : FVec Ideal S128x128 .f32) (c j : Fin 128) :
    post k v b st (ix2 c j) = nextS (mat k) (mat v) (mat b) (fun c j => st (ix2 c j)) c j := by
  pointwise [post]
  rfl

/-- The relative decay of the queries at an index. -/
theorem qRel_at (q b : FVec Ideal S64x128 .f32) (t : Fin 64) (k : Fin 128) :
    qRel q b (ix2 t k) = q (ix2 t k) * Ideal.exp (b (ix2 t k) - refRows b (ix2 t k)) := by
  pointwise [qRel]

/-- The reference row of rows 16 to 31. -/
theorem refRows1 (b : FVec Ideal S64x128 .f32) (t : Fin 16) (k : Fin 128) (h : 16 + t.val < 64) : refRows b (ix2 ⟨16 + t.val, h⟩ k) = b (ix2 15 k) := by
  pointwise [refRows]

/-- The reference row of rows 32 to 47. -/
theorem refRows2 (b : FVec Ideal S64x128 .f32) (t : Fin 16) (k : Fin 128) (h : 32 + t.val < 64) : refRows b (ix2 ⟨32 + t.val, h⟩ k) = b (ix2 31 k) := by
  pointwise [refRows]
  rw [dif_neg (by omega), dif_neg (by omega), dif_pos (by omega)]

/-- The reference row of rows 48 to 63. -/
theorem refRows3 (b : FVec Ideal S64x128 .f32) (t : Fin 16) (k : Fin 128) (h : 48 + t.val < 64) : refRows b (ix2 ⟨48 + t.val, h⟩ k) = b (ix2 47 k) := by
  pointwise [refRows]
  rw [dif_neg (by omega), dif_neg (by omega), dif_neg (by omega)]

/-- Rows 16 to 31 against the 16 rows before them, at an index. -/
theorem off1_at (q k v b : FVec Ideal S64x128 .f32) (hb : Tame (mat b)) (t : Fin 16) (c : Fin 128) :
    off1 q k v b (ix2 t c) = ∑ s ∈ Finset.range 16, term (mat q) (mat k) (mat v) (mat b) ⟨16 + t.val, by omega⟩ c s := by
  rw [Finset.sum_range]
  pointwise [off1]
  simp only [qRel_at, refRows1]
  refine Finset.sum_congr rfl fun s _ => ?_
  have h2 : s.val < 64 := by omega
  simp only [term, h2, dite_true]
  congr 1
  exact att_through hb (mat q) (mat k) (s := ⟨s.val, h2⟩) (r := 15) (t := ⟨16 + t.val, by omega⟩) (by rw [Fin.le_def]; show s.val ≤ 15; omega) (by rw [Fin.le_def]; show 15 ≤ 16 + t.val; omega)

/-- Rows 32 to 47 against the 32 rows before them, at an index. -/
theorem off2_at (q k v b : FVec Ideal S64x128 .f32) (hb : Tame (mat b)) (t : Fin 16) (c : Fin 128) :
    off2 q k v b (ix2 t c) = ∑ s ∈ Finset.range 32, term (mat q) (mat k) (mat v) (mat b) ⟨32 + t.val, by omega⟩ c s := by
  rw [Finset.sum_range]
  pointwise [off2]
  simp only [qRel_at, refRows2]
  refine Finset.sum_congr rfl fun s _ => ?_
  have h2 : s.val < 64 := by omega
  simp only [term, h2, dite_true]
  congr 1
  exact att_through hb (mat q) (mat k) (s := ⟨s.val, h2⟩) (r := 31) (t := ⟨32 + t.val, by omega⟩) (by rw [Fin.le_def]; show s.val ≤ 31; omega) (by rw [Fin.le_def]; show 31 ≤ 32 + t.val; omega)

/-- Rows 48 to 63 against the 48 rows before them, at an index. -/
theorem off3_at (q k v b : FVec Ideal S64x128 .f32) (hb : Tame (mat b)) (t : Fin 16) (c : Fin 128) :
    off3 q k v b (ix2 t c) = ∑ s ∈ Finset.range 48, term (mat q) (mat k) (mat v) (mat b) ⟨48 + t.val, by omega⟩ c s := by
  rw [Finset.sum_range]
  pointwise [off3]
  simp only [qRel_at, refRows3]
  refine Finset.sum_congr rfl fun s _ => ?_
  have h2 : s.val < 64 := by omega
  simp only [term, h2, dite_true]
  congr 1
  exact att_through hb (mat q) (mat k) (s := ⟨s.val, h2⟩) (r := 47) (t := ⟨48 + t.val, by omega⟩) (by rw [Fin.le_def]; show s.val ≤ 47; omega) (by rw [Fin.le_def]; show 47 ≤ 48 + t.val; omega)

/-- The off-diagonal contributions at an index. -/
theorem off_at (q k v b : FVec Ideal S64x128 .f32) (hb : Tame (mat b)) (t : Fin 64) (c : Fin 128) :
    off q k v b (ix2 t c) = ∑ s ∈ Finset.range (16 * (t.val / 16)), term (mat q) (mat k) (mat v) (mat b) t c s := by
  have ht := t.isLt
  pointwise [off]
  split
  · have e : 16 * (t.val / 16) = 0 := by omega
    rw [e]
    rfl
  · split
    · have e : 16 * (t.val / 16) = 16 := by omega
      have e2 : (⟨16 + (t.val - 16), by omega⟩ : Fin 64) = t := Fin.ext (by show 16 + (t.val - 16) = t.val; omega)
      rw [e, off1_at _ _ _ _ hb, e2]
    · split
      · have e : 16 * (t.val / 16) = 32 := by omega
        have e2 : (⟨32 + (t.val - 16 - 16), by omega⟩ : Fin 64) = t := Fin.ext (by show 32 + (t.val - 16 - 16) = t.val; omega)
        rw [e, off2_at _ _ _ _ hb, e2]
      · have e : 16 * (t.val / 16) = 48 := by omega
        have e2 : (⟨48 + (t.val - 16 - 16 - 16), by omega⟩ : Fin 64) = t := Fin.ext (by show 48 + (t.val - 16 - 16 - 16) = t.val; omega)
        rw [e, off3_at _ _ _ _ hb, e2]

/-- The head's output before the normalisation is the chunk's recurrence. -/
theorem pre_at (q k v b : FVec Ideal S64x128 .f32) (st : FVec Ideal S128x128 .f32) (hb : Tame (mat b)) (t : Fin 64) (c : Fin 128) :
    pre q k v b st (ix2 t c) = outS (mat q) (mat k) (mat v) (mat b) (fun c j => st (ix2 c j)) t c := by
  have e1 : diag 1#32 q k v b (ix2 t c) = if 1 ≤ t.val % 16 then term (mat q) (mat k) (mat v) (mat b) t c (t.val - 1) else 0 := diag_at 1 q k v b t c
  have e2 : diag 2#32 q k v b (ix2 t c) = if 2 ≤ t.val % 16 then term (mat q) (mat k) (mat v) (mat b) t c (t.val - 2) else 0 := diag_at 2 q k v b t c
  have e3 : diag 3#32 q k v b (ix2 t c) = if 3 ≤ t.val % 16 then term (mat q) (mat k) (mat v) (mat b) t c (t.val - 3) else 0 := diag_at 3 q k v b t c
  have e4 : diag 4#32 q k v b (ix2 t c) = if 4 ≤ t.val % 16 then term (mat q) (mat k) (mat v) (mat b) t c (t.val - 4) else 0 := diag_at 4 q k v b t c
  have e5 : diag 5#32 q k v b (ix2 t c) = if 5 ≤ t.val % 16 then term (mat q) (mat k) (mat v) (mat b) t c (t.val - 5) else 0 := diag_at 5 q k v b t c
  have e6 : diag 6#32 q k v b (ix2 t c) = if 6 ≤ t.val % 16 then term (mat q) (mat k) (mat v) (mat b) t c (t.val - 6) else 0 := diag_at 6 q k v b t c
  have e7 : diag 7#32 q k v b (ix2 t c) = if 7 ≤ t.val % 16 then term (mat q) (mat k) (mat v) (mat b) t c (t.val - 7) else 0 := diag_at 7 q k v b t c
  have e8 : diag 8#32 q k v b (ix2 t c) = if 8 ≤ t.val % 16 then term (mat q) (mat k) (mat v) (mat b) t c (t.val - 8) else 0 := diag_at 8 q k v b t c
  have e9 : diag 9#32 q k v b (ix2 t c) = if 9 ≤ t.val % 16 then term (mat q) (mat k) (mat v) (mat b) t c (t.val - 9) else 0 := diag_at 9 q k v b t c
  have e10 : diag 10#32 q k v b (ix2 t c) = if 10 ≤ t.val % 16 then term (mat q) (mat k) (mat v) (mat b) t c (t.val - 10) else 0 := diag_at 10 q k v b t c
  have e11 : diag 11#32 q k v b (ix2 t c) = if 11 ≤ t.val % 16 then term (mat q) (mat k) (mat v) (mat b) t c (t.val - 11) else 0 := diag_at 11 q k v b t c
  have e12 : diag 12#32 q k v b (ix2 t c) = if 12 ≤ t.val % 16 then term (mat q) (mat k) (mat v) (mat b) t c (t.val - 12) else 0 := diag_at 12 q k v b t c
  have e13 : diag 13#32 q k v b (ix2 t c) = if 13 ≤ t.val % 16 then term (mat q) (mat k) (mat v) (mat b) t c (t.val - 13) else 0 := diag_at 13 q k v b t c
  have e14 : diag 14#32 q k v b (ix2 t c) = if 14 ≤ t.val % 16 then term (mat q) (mat k) (mat v) (mat b) t c (t.val - 14) else 0 := diag_at 14 q k v b t c
  have e15 : diag 15#32 q k v b (ix2 t c) = if 15 ≤ t.val % 16 then term (mat q) (mat k) (mat v) (mat b) t c (t.val - 15) else 0 := diag_at 15 q k v b t c
  have hs : ∑ s : Fin 64, (if s ≤ t then att (mat q) (mat k) (mat b) t s * mat v s c else 0) =
      ∑ s : Fin 64, (if s ≤ t then term (mat q) (mat k) (mat v) (mat b) t c s.val else 0) := by
    refine Finset.sum_congr rfl fun s _ => ?_
    simp only [term, s.isLt, dite_true]
  unfold outS
  rw [hs, split64, ← off_at _ _ _ _ hb, ← inter_at]
  simp only [Finset.sum_range_succ, Finset.sum_range_zero, zero_add]
  unfold pre
  simp only [addf_apply, Ideal.addf_def]
  rw [diag0_at, e1, e2, e3, e4, e5, e6, e7, e8, e9, e10, e11, e12, e13, e14, e15]
  ac_rfl

end Cert.KernelIdeal.Head
-- ==== Proof.Tiles.lean ====
/- What one grid point leaves, over the extended reals: the output block and the carried state, head by head, as the chunk's
   recurrence. -/
module

public import proofs.«01_k».proof.Proof.Cases
public import proofs.«01_k».proof.Proof.HeadValue

@[expose] public section
set_option maxRecDepth 16384

noncomputable section

namespace Cert.KernelIdeal.Head

open Idealize.ShloMosaic Idealize.ShloMosaic.Pointwise Cert.KernelIdeal Cert.KernelIdeal.Gen Cert.Hgrn

/-- A lane tile as a function of row and lane. -/
abbrev mat1 (x : Vec Ideal S1x64x128 .f32) : Mat := fun t k => x (ix3 0 t k)

theorem flat_at (x : Vec Ideal S1x64x128 .f32) (t : Fin 64) (k : Fin 128) : flat x (ix2 t k) = x (ix3 0 t k) := by
  pointwise [flat]

theorem flatS_at (x : Vec Ideal S1x128x128 .f32) (t : Fin 128) (k : Fin 128) : flatS x (ix2 t k) = x (ix3 0 t k) := by
  pointwise [flatS]

theorem mat_flat (x : Vec Ideal S1x64x128 .f32) : mat (flat x) = mat1 x := by
  funext t k
  exact flat_at x t k

theorem mat_cum (x : FVec Ideal S64x128 .f32) : mat (cum x) = cumS (mat x) := by
  funext t k
  exact cum_at x t k

/-- One head's stored output at an index. -/
theorem outT_at (q k lf v ga : Vec Ideal S1x64x128 .f32) (gain : Vec Ideal S1x128 .f32) (st : Vec Ideal S1x128x128 .f32)
    (hl : ∀ i, lf i ≠ ⊤) (t : Fin 64) (c : Fin 128) :
    outT q k lf v ga gain st (ix3 0 t c) =
      normS (outS (mat1 q) (mat1 k) (mat1 v) (cumS (mat1 lf)) (fun c j => st (ix3 0 c j)) t) (fun c => gain (ix2 0 c)) c * ga (ix3 0 t c) := by
  have hb : Tame (mat (cum (flat lf))) := by
    rw [mat_cum, mat_flat]
    exact tame_cumS _ fun t k => hl _
  have hp : (fun c => pre (flat q) (flat k) (flat v) (cum (flat lf)) (flatS st) (ix2 t c)) =
      outS (mat1 q) (mat1 k) (mat1 v) (cumS (mat1 lf)) (fun c j => st (ix3 0 c j)) t := by
    funext c
    rw [pre_at _ _ _ _ _ hb, mat_cum, mat_flat, mat_flat, mat_flat, mat_flat]
    congr 1
    funext a b
    exact flatS_at st a b
  pointwise [outT]
  rw [norm_at, hp, flat_at]

/-- One head's stored state at an index. -/
theorem stT_at (k lf v : Vec Ideal S1x64x128 .f32) (st : Vec Ideal S1x128x128 .f32) (c j : Fin 128) :
    stT k lf v st (ix3 0 c j) = nextS (mat1 k) (mat1 v) (cumS (mat1 lf)) (fun c j => st (ix3 0 c j)) c j := by
  pointwise [stT]
  rw [post_at, mat_cum, mat_flat, mat_flat, mat_flat]
  congr 1
  funext a b
  exact flatS_at st a b

/-- Head `h`'s lanes of a block. -/
def hm (x : Vec Ideal S1x64x512 .f32) (h : Fin 4) : Mat := fun t k => x (ix3 0 t ⟨128 * h.val + k.val, by omega⟩)

/-- Head `h` of the state. -/
def hs (x : Vec Ideal S4x128x128 .f32) (h : Fin 4) : Sq := fun c j => x (ix3 h c j)

/-- The output block of a grid point. -/
def outB (q k lf v ga : Vec Ideal S1x64x512 .f32) (gain : Vec Ideal S1x128 .f32) (st : Vec Ideal S4x128x128 .f32) : Vec Ideal S1x64x512 .f32 := fun y =>
  normS (outS (hm q ⟨(y 2).val / 128, by have : (y 2).val < 512 := (y 2).isLt; omega⟩) (hm k ⟨(y 2).val / 128, by have : (y 2).val < 512 := (y 2).isLt; omega⟩)
    (hm v ⟨(y 2).val / 128, by have : (y 2).val < 512 := (y 2).isLt; omega⟩) (cumS (hm lf ⟨(y 2).val / 128, by have : (y 2).val < 512 := (y 2).isLt; omega⟩))
    (hs st ⟨(y 2).val / 128, by have : (y 2).val < 512 := (y 2).isLt; omega⟩) (y 1)) (fun c => gain (ix2 0 c)) ⟨(y 2).val % 128, Nat.mod_lt _ (by decide)⟩ * ga y

/-- The state after a grid point. -/
def stB (k lf v : Vec Ideal S1x64x512 .f32) (st : Vec Ideal S4x128x128 .f32) : Vec Ideal S4x128x128 .f32 := fun y =>
  nextS (hm k (y 0)) (hm v (y 0)) (cumS (hm lf (y 0))) (hs st (y 0)) (y 1) (y 2)

/-- A load of head `h`'s lanes. -/
theorem ld_lane (x : Vec Ideal S1x64x512 .f32) (h : Fin 4) (off : Fin 3 → ℕ) (inb) (h0 : off 0 = 0) (h1 : off 1 = 0) (h2 : off 2 = 128 * h.val) :
    mat1 (View.ld x (Rect.unit (s := S1x64x512) off S1x64x128.size inb)) = hm x h := by
  funext t k
  refine View.ld_unit_apply_of x off _ inb _ _ fun a => ?_
  fin_cases a
  · show (0 : ℕ) = off 0 + 0
    omega
  · show t.val = off 1 + t.val
    omega
  · show 128 * h.val + k.val = off 2 + k.val
    omega

/-- A load of head `h`'s state. -/
theorem ld_head (x : Vec Ideal S4x128x128 .f32) (h : Fin 4) (off : Fin 3 → ℕ) (inb) (h0 : off 0 = h.val) (h1 : off 1 = 0) (h2 : off 2 = 0) :
    (fun c j => View.ld x (Rect.unit (s := S4x128x128) off S1x128x128.size inb) (ix3 0 c j)) = hs x h := by
  funext t k
  refine View.ld_unit_apply_of x off _ inb _ _ fun a => ?_
  fin_cases a
  · show h.val = off 0 + 0
    omega
  · show t.val = off 1 + t.val
    omega
  · show k.val = off 2 + k.val
    omega

/-- One head's store into the state is that head of the next state. -/
theorem st_piece (k lf v : Vec Ideal S1x64x512 .f32) (st : Vec Ideal S4x128x128 .f32) (h : Fin 4) (off off' : Fin 3 → ℕ) (inb) (inb')
    (h0 : off 0 = 0) (h1 : off 1 = 0) (h2 : off 2 = 128 * h.val) (g0 : off' 0 = h.val) (g1 : off' 1 = 0) (g2 : off' 2 = 0) (x : S1x128x128.Idx) :
    stT (View.ld k (Rect.unit (s := S1x64x512) off S1x64x128.size inb)) (View.ld lf (Rect.unit (s := S1x64x512) off S1x64x128.size inb))
      (View.ld v (Rect.unit (s := S1x64x512) off S1x64x128.size inb)) (View.ld st (Rect.unit (s := S4x128x128) off' S1x128x128.size inb')) x =
    stB k lf v st ((Rect.unit (s := S4x128x128) off' S1x128x128.size inb').emb x) := by
  have e : (Rect.unit (s := S4x128x128) off' S1x128x128.size inb').emb x = ix3 h (x 1) (x 2) := by
    funext a
    apply Fin.ext
    refine (Rect.idx_unit_val off' _ inb' x a).trans ?_
    have hx : (x 0).val < 1 := (x 0).isLt
    fin_cases a
    · show off' 0 + (x 0).val = h.val
      omega
    · show off' 1 + (x 1).val = (x 1).val
      omega
    · show off' 2 + (x 2).val = (x 2).val
      omega
  rw [e]
  idx_vars x
  have hx : x0 = 0 := Subsingleton.elim _ _
  subst hx
  refine (stT_at _ _ _ _ x1 x2).trans ?_
  rw [ld_lane k h off inb h0 h1 h2, ld_lane lf h off inb h0 h1 h2, ld_lane v h off inb h0 h1 h2, ld_head st h off' inb' g0 g1 g2]
  rfl

/-- One head's store into the output block is that head's lanes of the chunk's output. -/
theorem out_piece (q k lf v ga : Vec Ideal S1x64x512 .f32) (gain : Vec Ideal S1x128 .f32) (st : Vec Ideal S4x128x128 .f32) (hl : ∀ i, lf i ≠ ⊤) (h : Fin 4)
    (off off' : Fin 3 → ℕ) (inb) (inb')
    (h0 : off 0 = 0) (h1 : off 1 = 0) (h2 : off 2 = 128 * h.val) (g0 : off' 0 = h.val) (g1 : off' 1 = 0) (g2 : off' 2 = 0) (x : S1x64x128.Idx) :
    outT (View.ld q (Rect.unit (s := S1x64x512) off S1x64x128.size inb)) (View.ld k (Rect.unit (s := S1x64x512) off S1x64x128.size inb))
      (View.ld lf (Rect.unit (s := S1x64x512) off S1x64x128.size inb))
      (View.ld v (Rect.unit (s := S1x64x512) off S1x64x128.size inb)) (View.ld ga (Rect.unit (s := S1x64x512) off S1x64x128.size inb)) gain
      (View.ld st (Rect.unit (s := S4x128x128) off' S1x128x128.size inb')) x =
    outB q k lf v ga gain st ((Rect.unit (s := S1x64x512) off S1x64x128.size inb).emb x) := by
  have e : (Rect.unit (s := S1x64x512) off S1x64x128.size inb).emb x = ix3 0 (x 1) ⟨128 * h.val + (x 2).val, by have : (x 2).val < 128 := (x 2).isLt; omega⟩ := by
    funext a
    apply Fin.ext
    refine (Rect.idx_unit_val off _ inb x a).trans ?_
    have hx : (x 0).val < 1 := (x 0).isLt
    fin_cases a
    · show off 0 + (x 0).val = 0
      omega
    · show off 1 + (x 1).val = (x 1).val
      omega
    · show off 2 + (x 2).val = 128 * h.val + (x 2).val
      omega
  rw [e]
  idx_vars x
  have hx : x0 = 0 := Subsingleton.elim _ _
  subst hx
  refine (outT_at _ _ _ _ _ _ _ (fun i => hl _) x1 x2).trans ?_
  rw [ld_lane q h off inb h0 h1 h2, ld_lane k h off inb h0 h1 h2, ld_lane lf h off inb h0 h1 h2, ld_lane v h off inb h0 h1 h2, ld_head st h off' inb' g0 g1 g2]
  have hg := congrFun (congrFun (ld_lane ga h off inb h0 h1 h2) x1) x2
  have e1 : (⟨(128 * h.val + x2.val) / 128, by omega⟩ : Fin 4) = h := Fin.ext (by show (128 * h.val + x2.val) / 128 = h.val; omega)
  have e2 : (⟨(128 * h.val + x2.val) % 128, Nat.mod_lt _ (by decide)⟩ : Fin 128) = x2 := Fin.ext (by show (128 * h.val + x2.val) % 128 = x2.val; omega)
  refine Eq.trans (congrArg (_ * ·) hg) ?_
  show _ = normS (outS (hm q ⟨(128 * h.val + x2.val) / 128, _⟩) (hm k ⟨(128 * h.val + x2.val) / 128, _⟩) (hm v ⟨(128 * h.val + x2.val) / 128, _⟩)
    (cumS (hm lf ⟨(128 * h.val + x2.val) / 128, _⟩)) (hs st ⟨(128 * h.val + x2.val) / 128, _⟩) x1) (fun c => gain (ix2 0 c)) ⟨(128 * h.val + x2.val) % 128, _⟩ * ga _
  rw [e1, e2]
  rfl

/-- The state's stores, over anything stored before. -/
theorem stP_canon (k lf v : Vec Ideal S1x64x512 .f32) (st : Vec Ideal S4x128x128 .f32) (L' : List (View.Piece (Elt Ideal) S4x128x128 .f32)) :
    View.canon (stP k lf v st ++ L') = stB k lf v st := by
  funext y
  unfold stP
  refine View.canon_append_of_piecesOf (stB k lf v st) L' [_, _, _, _] ⟨?_, ?_, ?_, ?_, trivial⟩ y (View.cover_of_tiledL (s := S4x128x128) _ ![1, 128, 128] (by sl_kernel_rfl) y)
  · exact st_piece k lf v st 3 _ _ _ _ rfl rfl rfl rfl rfl rfl
  · exact st_piece k lf v st 2 _ _ _ _ rfl rfl rfl rfl rfl rfl
  · exact st_piece k lf v st 1 _ _ _ _ rfl rfl rfl rfl rfl rfl
  · exact st_piece k lf v st 0 _ _ _ _ rfl rfl rfl rfl rfl rfl

/-- The output block's stores. -/
theorem outP_canon (q k lf v ga : Vec Ideal S1x64x512 .f32) (gain : Vec Ideal S1x128 .f32) (st : Vec Ideal S4x128x128 .f32) (hl : ∀ i, lf i ≠ ⊤) :
    View.canon (outP q k lf v ga gain st) = outB q k lf v ga gain st := by
  funext y
  unfold outP
  refine View.canon_append_of_piecesOf (outB q k lf v ga gain st) [] [_, _, _, _] ⟨?_, ?_, ?_, ?_, trivial⟩ y (View.cover_of_tiledL (s := S1x64x512) _ ![1, 64, 128] (by sl_kernel_rfl) y)
  · exact out_piece q k lf v ga gain st hl 3 _ _ _ _ rfl rfl rfl rfl rfl rfl
  · exact out_piece q k lf v ga gain st hl 2 _ _ _ _ rfl rfl rfl rfl rfl rfl
  · exact out_piece q k lf v ga gain st hl 1 _ _ _ _ rfl rfl rfl rfl rfl rfl
  · exact out_piece q k lf v ga gain st hl 0 _ _ _ _ rfl rfl rfl rfl rfl rfl

end Cert.KernelIdeal.Head
-- ==== Proof.Fold.lean ====
/- The kernel's arrays after the run, over the extended reals: the recurrence over the chunks, of the arguments. -/
module

public import proofs.«01_k».proof.Proof.Tiles

@[expose] public section
set_option maxRecDepth 16384

noncomputable section

namespace Cert.KernelIdeal.Head

open Idealize.ShloMosaic Idealize.ShloMosaic.Pointwise Idealize.ShloMosaic.TcCoe Cert.KernelIdeal Cert.KernelIdeal.Gen Cert.Hgrn

variable (m : (ℓ : Loc nD τ sig) → Buf (Elt Ideal) ℓ)

theorem idx0 : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 2) = 0 ∧ win0_5.index t (1 : Fin 2) = 0)
    ∧ (win0_6.index t (0 : Fin 4) = 0 ∧ win0_6.index t (1 : Fin 4) = 0 ∧ win0_6.index t (2 : Fin 4) = 0 ∧ win0_6.index t (3 : Fin 4) = 0) :=
  (by decide +kernel : ∀ t : Fin grid0.N, _)

/-- Argument 0's block at a point. -/
theorem blk0 (c : Dev nD) (t : Fin cfg0.N) (r : Fin 64) (l : Fin 512) :
    iblk m c 0 t (ix3 0 r l) = m ((c : Thread nD τ).loc main_arg0) (ix2 ⟨64 * t.val + r.val, by have := lt_of_lt_of_eq t.isLt N_0; omega⟩ l) := by
  have i0 := (idx0 t).1
  have e : ((cfg0.win 0).blk t).view.emb (ix3 0 r l) = (ix3 0 ⟨64 * t.val + r.val, by have := lt_of_lt_of_eq t.isLt N_0; omega⟩ l : S1x16384x512.Idx) := by
    blk_ext [i0]
  refine (congrArg (V m c (Pipeline.arrRef spec0 0)) e).trans ?_
  show V m c main_v3 _ = _
  entry_read
  pointwise

/-- Argument 1's block at a point. -/
theorem blk1 (c : Dev nD) (t : Fin cfg0.N) (r : Fin 64) (l : Fin 512) :
    iblk m c 1 t (ix3 0 r l) = m ((c : Thread nD τ).loc main_arg1) (ix2 ⟨64 * t.val + r.val, by have := lt_of_lt_of_eq t.isLt N_0; omega⟩ l) := by
  have i0 := (idx0 t).2.1
  have e : ((cfg0.win 1).blk t).view.emb (ix3 0 r l) = (ix3 0 ⟨64 * t.val + r.val, by have := lt_of_lt_of_eq t.isLt N_0; omega⟩ l : S1x16384x512.Idx) := by
    blk_ext [i0]
  refine (congrArg (V m c (Pipeline.arrRef spec0 1)) e).trans ?_
  show V m c main_v4 _ = _
  entry_read
  pointwise

/-- Argument 2's block at a point. -/
theorem blk2 (c : Dev nD) (t : Fin cfg0.N) (r : Fin 64) (l : Fin 512) :
    iblk m c 2 t (ix3 0 r l) = m ((c : Thread nD τ).loc main_arg2) (ix2 ⟨64 * t.val + r.val, by have := lt_of_lt_of_eq t.isLt N_0; omega⟩ l) := by
  have i0 := (idx0 t).2.2.1
  have e : ((cfg0.win 2).blk t).view.emb (ix3 0 r l) = (ix3 0 ⟨64 * t.val + r.val, by have := lt_of_lt_of_eq t.isLt N_0; omega⟩ l : S1x16384x512.Idx) := by
    blk_ext [i0]
  refine (congrArg (V m c (Pipeline.arrRef spec0 2)) e).trans ?_
  show V m c main_v5 _ = _
  entry_read
  pointwise

/-- Argument 3's block at a point. -/
theorem blk3 (c : Dev nD) (t : Fin cfg0.N) (r : Fin 64) (l : Fin 512) :
    iblk m c 3 t (ix3 0 r l) = m ((c : Thread nD τ).loc main_arg3) (ix2 ⟨64 * t.val + r.val, by have := lt_of_lt_of_eq t.isLt N_0; omega⟩ l) := by
  have i0 := (idx0 t).2.2.2.1
  have e : ((cfg0.win 3).blk t).view.emb (ix3 0 r l) = (ix3 0 ⟨64 * t.val + r.val, by have := lt_of_lt_of_eq t.isLt N_0; omega⟩ l : S1x16384x512.Idx) := by
    blk_ext [i0]
  refine (congrArg (V m c (Pipeline.arrRef spec0 3)) e).trans ?_
  show V m c main_v6 _ = _
  entry_read
  pointwise

/-- Argument 4's block at a point. -/
theorem blk4 (c : Dev nD) (t : Fin cfg0.N) (r : Fin 64) (l : Fin 512) :
    iblk m c 4 t (ix3 0 r l) = m ((c : Thread nD τ).loc main_arg4) (ix2 ⟨64 * t.val + r.val, by have := lt_of_lt_of_eq t.isLt N_0; omega⟩ l) := by
  have i0 := (idx0 t).2.2.2.2.1
  have e : ((cfg0.win 4).blk t).view.emb (ix3 0 r l) = (ix3 0 ⟨64 * t.val + r.val, by have := lt_of_lt_of_eq t.isLt N_0; omega⟩ l : S1x16384x512.Idx) := by
    blk_ext [i0]
  refine (congrArg (V m c (Pipeline.arrRef spec0 4)) e).trans ?_
  show V m c main_v7 _ = _
  entry_read
  pointwise

/-- The gain's block at a point. -/
theorem blk5 (c : Dev nD) (t : Fin cfg0.N) (j : Fin 128) : iblk m c 5 t (ix2 0 j) = m ((c : Thread nD τ).loc main_arg5) (ix2 0 j) := by
  have i0 := (idx0 t).2.2.2.2.2.1
  have e : ((cfg0.win 5).blk t).view.emb (ix2 0 j) = (ix2 0 j : S1x128.Idx) := by
    blk_ext [i0]
  refine (congrArg (V m c (Pipeline.arrRef spec0 5)) e).trans ?_
  show V m c main_v1 _ = _
  entry_read
  pointwise

/-- The first state's block at a point: zero. -/
theorem blk6 (c : Dev nD) (t : Fin cfg0.N) (h : Fin 4) (i j : Fin 128) : iblk m c 6 t (ix4 0 h i j) = (0 : EReal) := by
  have i0 := (idx0 t).2.2.2.2.2.2
  have e : ((cfg0.win 6).blk t).view.emb (ix4 0 h i j) = (ix4 0 h i j : S1x4x128x128.Idx) := by
    blk_ext [i0]
  refine (congrArg (V m c (Pipeline.arrRef spec0 6)) e).trans ?_
  show V m c main_v2 _ = _
  entry_read
  pointwise

/-- An argument as a function of row and lane. -/
abbrev arr (x : FVec Ideal S16384x512 .f32) : Arr := fun r l => x (ix2 r l)

/-- The queries. -/
abbrev aQ (c : Dev nD) : Arr := arr (m ((c : Thread nD τ).loc main_arg0))
/-- The keys. -/
abbrev aK (c : Dev nD) : Arr := arr (m ((c : Thread nD τ).loc main_arg1))
/-- The log decays. -/
abbrev aL (c : Dev nD) : Arr := arr (m ((c : Thread nD τ).loc main_arg2))
/-- The values. -/
abbrev aV (c : Dev nD) : Arr := arr (m ((c : Thread nD τ).loc main_arg3))
/-- The gates. -/
abbrev aG (c : Dev nD) : Arr := arr (m ((c : Thread nD τ).loc main_arg4))
/-- The gain. -/
abbrev aN (c : Dev nD) : Fin 128 → EReal := fun j => (m ((c : Thread nD τ).loc main_arg5) : FVec Ideal S1x128 .f32) (ix2 0 j)

theorem hm0 (c : Dev nD) (t : Fin cfg0.N) (h : Fin 4) : hm (iblk m c 0 t) h = chunk (aQ m c) t.val h := by
  funext r k
  refine (blk0 m c t r ⟨128 * h.val + k.val, by omega⟩).trans ?_
  have ht := lt_of_lt_of_eq t.isLt N_0
  show arr _ _ _ = arr _ _ _
  congr 1
  ext
  show 64 * t.val + r.val = (64 * t.val + r.val) % 16384
  omega

theorem hm1 (c : Dev nD) (t : Fin cfg0.N) (h : Fin 4) : hm (iblk m c 1 t) h = chunk (aK m c) t.val h := by
  funext r k
  refine (blk1 m c t r ⟨128 * h.val + k.val, by omega⟩).trans ?_
  have ht := lt_of_lt_of_eq t.isLt N_0
  show arr _ _ _ = arr _ _ _
  congr 1
  ext
  show 64 * t.val + r.val = (64 * t.val + r.val) % 16384
  omega

theorem hm2 (c : Dev nD) (t : Fin cfg0.N) (h : Fin 4) : hm (iblk m c 2 t) h = chunk (aL m c) t.val h := by
  funext r k
  refine (blk2 m c t r ⟨128 * h.val + k.val, by omega⟩).trans ?_
  have ht := lt_of_lt_of_eq t.isLt N_0
  show arr _ _ _ = arr _ _ _
  congr 1
  ext
  show 64 * t.val + r.val = (64 * t.val + r.val) % 16384
  omega

theorem hm3 (c : Dev nD) (t : Fin cfg0.N) (h : Fin 4) : hm (iblk m c 3 t) h = chunk (aV m c) t.val h := by
  funext r k
  refine (blk3 m c t r ⟨128 * h.val + k.val, by omega⟩).trans ?_
  have ht := lt_of_lt_of_eq t.isLt N_0
  show arr _ _ _ = arr _ _ _
  congr 1
  ext
  show 64 * t.val + r.val = (64 * t.val + r.val) % 16384
  omega

theorem blk2_ne (c : Dev nD) (hl : ∀ r l, aL m c r l ≠ ⊤) (t : Fin cfg0.N) (i : S1x64x512.Idx) :
    (iblk m c 2 t : Vec Ideal S1x64x512 .f32) i ≠ (⊤ : EReal) := by
  idx_vars i
  have h0 : i0 = 0 := Subsingleton.elim _ _
  subst h0
  rw [blk2]
  exact hl _ _

/-- The state that the first point starts from. -/
theorem st0 (c : Dev nD) (t : Fin cfg0.N) (h : Fin 4) : hs (k0_pay3 (iblk m c 6 t)) h = fun _ _ => (0 : EReal) := by
  funext i j
  show k0_pay3 (F := Ideal) (iblk m c 6 t) (ix3 h i j) = 0
  refine Eq.trans ?_ (blk6 m c t h i j)
  pointwise [k0_pay3]

/-- The output block and the carried state that a point leaves over the state `S`. -/
def PointIs (c : Dev nD) (t : Fin cfg0.N) (S : Vec Ideal S4x128x128 .f32) (x : Vec Ideal S1x64x512 .f32 × Vec Ideal S1x4x128x128 .f32 × Vec Ideal S4x128x128 .f32) : Prop :=
  x.1 = outB (iblk m c 0 t) (iblk m c 1 t) (iblk m c 2 t) (iblk m c 3 t) (iblk m c 4 t) (iblk m c 5 t) S ∧
    x.2.2 = stB (iblk m c 1 t) (iblk m c 2 t) (iblk m c 3 t) S ∧
    (t.val % 256 = 255 → x.2.1 = k0_pay2 (stB (iblk m c 1 t) (iblk m c 2 t) (iblk m c 3 t) S))

/-- The first point. -/
theorem point_A (c : Dev nD) (hl : ∀ r l, aL m c r l ≠ ⊤) (t : Fin cfg0.N) (acc : Vec Ideal S1x64x512 .f32 × Vec Ideal S1x4x128x128 .f32 × Vec Ideal S4x128x128 .f32)
    (h0 : t.val % 256 = 0) (h1 : ¬t.val % 256 = 255) : PointIs m c t (k0_pay3 (iblk m c 6 t)) (Value.stAt0 m c t.val t.isLt acc) := by
  rw [Value.stAt0_A m c t _ h0 h1]
  unfold PointIs
  dsimp only
  rw [out_A, st_A, outP_canon _ _ _ _ _ _ _ (blk2_ne m c hl _), stP_canon]
  exact ⟨rfl, rfl, fun h => absurd h h1⟩

/-- A middle point. -/
theorem point_B (c : Dev nD) (hl : ∀ r l, aL m c r l ≠ ⊤) (t : Fin cfg0.N) (acc : Vec Ideal S1x64x512 .f32 × Vec Ideal S1x4x128x128 .f32 × Vec Ideal S4x128x128 .f32)
    (h0 : ¬t.val % 256 = 0) (h1 : ¬t.val % 256 = 255) : PointIs m c t acc.2.2 (Value.stAt0 m c t.val t.isLt acc) := by
  rw [Value.stAt0_B m c t _ h0 h1]
  unfold PointIs
  dsimp only
  rw [out_B, st_B, outP_canon _ _ _ _ _ _ _ (blk2_ne m c hl _), ← List.append_nil (stP _ _ _ _), stP_canon]
  exact ⟨rfl, rfl, fun h => absurd h h1⟩

/-- The last point. -/
theorem point_C (c : Dev nD) (hl : ∀ r l, aL m c r l ≠ ⊤) (t : Fin cfg0.N) (acc : Vec Ideal S1x64x512 .f32 × Vec Ideal S1x4x128x128 .f32 × Vec Ideal S4x128x128 .f32)
    (h0 : ¬t.val % 256 = 0) (h1 : t.val % 256 = 255) : PointIs m c t acc.2.2 (Value.stAt0 m c t.val t.isLt acc) := by
  rw [Value.stAt0_C m c t _ h0 h1]
  unfold PointIs
  dsimp only
  rw [out_C, st_C, fin_C, outP_canon _ _ _ _ _ _ _ (blk2_ne m c hl _), ← List.append_nil (stP _ _ _ _), stP_canon]
  exact ⟨rfl, rfl, fun _ => rfl⟩

/-- What a point leaves, over the recurrence's state before it. -/
theorem point_val (c : Dev nD) (hl : ∀ r l, aL m c r l ≠ ⊤) (n : ℕ) (hn : n < cfg0.N) :
    ∃ S : Vec Ideal S4x128x128 .f32, (∀ h, hs S h = stateAt (aK m c) (aL m c) (aV m c) n h) ∧ PointIs m c ⟨n, hn⟩ S (outsAt0 m c n hn) := by
  have hN := lt_of_lt_of_eq hn (show cfg0.N = 256 from N_0)
  induction n with
  | zero =>
    refine ⟨k0_pay3 (iblk m c 6 ⟨0, hn⟩), fun h => st0 m c _ h, ?_⟩
    rw [Value.outsAt0_zero]
    exact point_A m c hl ⟨0, hn⟩ _ rfl (show ¬0 % 256 = 255 by decide)
  | succ n ih =>
    obtain ⟨S, hS, -, h2, -⟩ := ih (Nat.lt_of_succ_lt hn) (by omega)
    refine ⟨(outsAt0 m c n (Nat.lt_of_succ_lt hn)).2.2, fun h => ?_, ?_⟩
    · rw [h2]
      show nextS (hm _ h) (hm _ h) (cumS (hm _ h)) (hs S h) = _
      rw [hm1, hm2, hm3, hS]
      rfl
    · rw [Value.outsAt0_succ]
      by_cases h1 : (n + 1) % 256 = 255
      · exact point_C m c hl ⟨n + 1, hn⟩ _ (show ¬(n + 1) % 256 = 0 by omega) h1
      · exact point_B m c hl ⟨n + 1, hn⟩ _ (show ¬(n + 1) % 256 = 0 by omega) h1

/-- The last state as the state array's block. -/
theorem pay2_at (x : Vec Ideal S4x128x128 .f32) (h : Fin 4) (i j : Fin 128) : k0_pay2 x (ix4 0 h i j) = hs x h i j := by
  show _ = x (ix3 h i j)
  pointwise [k0_pay2]

/-- The output array after the run. -/
theorem G7_val (c : Dev nD) (hl : ∀ r l, aL m c r l ≠ ⊤) (r : Fin 16384) (l : Fin 512) :
    Value.G7 m c (ix3 0 r l) = outAt (aQ m c) (aK m c) (aL m c) (aV m c) (aG m c) (aN m c) r l := by
  have hp : Value.pt7Of (ix3 0 r l) = r.val / 64 := by
    show 256 * (0 / 1 - 0) + 1 * (r.val / 64 - 0) + 1 * (l.val / 512 - 0) = _
    omega
  have hlt : r.val / 64 < cfg0.N := lt_of_lt_of_eq (by omega) N_0.symm
  unfold Value.G7
  rw [dif_pos (by rw [hp]; exact hlt), Value.fold0_congr m c _ _ (r.val / 64) (by omega) hp, ← Value.outsAt0_sweep m c _ hlt]
  obtain ⟨S, hS, h1, -, -⟩ := point_val m c hl _ hlt
  have hloc : Value.loc7Of (ix3 0 r l) = ix3 0 ⟨r.val % 64, Nat.mod_lt _ (by decide)⟩ l := by
    funext a
    apply Fin.ext
    match a with
    | ⟨0, _⟩ => rfl
    | ⟨1, _⟩ => rfl
    | ⟨2, _⟩ => show l.val % 512 = l.val; omega
  rw [h1, hloc]
  unfold outB
  show normS (outS (hm _ ⟨l.val / 128, _⟩) (hm _ ⟨l.val / 128, _⟩) (hm _ ⟨l.val / 128, _⟩) (cumS (hm _ ⟨l.val / 128, _⟩)) (hs S ⟨l.val / 128, _⟩) ⟨r.val % 64, _⟩)
    _ ⟨l.val % 128, _⟩ * iblk m c 4 ⟨r.val / 64, hlt⟩ (ix3 0 ⟨r.val % 64, _⟩ l) = _
  rw [hm0, hm1, hm2, hm3, hS, blk4]
  unfold outAt
  congr 1
  · congr 1
    funext j
    exact blk5 m c _ j
  · show arr _ _ _ = arr _ _ _
    congr 1
    ext
    show 64 * (r.val / 64) + r.val % 64 = r.val
    omega

/-- The state array after the run. -/
theorem G8_val (c : Dev nD) (hl : ∀ r l, aL m c r l ≠ ⊤) (h : Fin 4) (i j : Fin 128) :
    Value.G8 m c (ix4 0 h i j) = stateAt (aK m c) (aL m c) (aV m c) 256 h i j := by
  have hlt : 255 < cfg0.N := lt_of_lt_of_eq (by decide) N_0.symm
  rw [Value.G8_last, Value.fold0_congr m c 255 _ 255 (by omega) rfl, ← Value.outsAt0_sweep m c _ hlt]
  obtain ⟨S, hS, -, -, h3⟩ := point_val m c hl _ hlt
  rw [h3 rfl, pay2_at]
  show nextS (hm _ h) (hm _ h) (cumS (hm _ h)) (hs S h) i j = _
  rw [hm1, hm2, hm3, hS]
  rfl

end Cert.KernelIdeal.Head
-- ==== Proof.RefTrip.lean ====
/- One trip of the reference's loop over the chunks, read at an index over the extended reals. -/
module

public import Idealize.ShloMosaic.Lib.Pointwise
public import proofs.«01_k».proof.Proof.Gen.ReferenceIdeal.Run
public import proofs.«01_k».proof.Proof.Spec

@[expose] public section
set_option maxRecDepth 16384

noncomputable section

namespace Cert.ReferenceIdeal.Trip

open Idealize.ShloMosaic Idealize.ShloMosaic.Pointwise Idealize.ShloMosaic.TcCoe Cert.ReferenceIdeal Cert.ReferenceIdeal.Gen Cert.ReferenceIdeal.Value Cert.Hgrn

/-- A fold of additions is a sum. -/
theorem foldl_sum {N : ℕ} (f : Fin N → EReal) (v : EReal) : (List.finRange N).foldl (fun r n => r + f n) v = v + ∑ n : Fin N, f n := by
  rw [Fin.sum_univ_def]
  generalize List.finRange N = l
  induction l generalizing v with
  | nil => simp
  | cons a l ih => rw [List.foldl_cons, ih, List.map_cons, List.sum_cons, add_assoc]

/-- The window's places, numbered. -/
theorem place : ∀ n : Fin (⟨4, ![1, 1, 64, 1]⟩ : Shape).numel, ∀ a : Fin 4,
    ((⟨4, ![1, 1, 64, 1]⟩ : Shape).rowMajor.symm n a).val = (![0, 0, n.val, 0] : Fin 4 → ℕ) a := by
  decide +kernel

/-- The window sum over all the rows up to a row is the cumulative sum. -/
theorem window_at (x : FVec Ideal S1x4x64x128 .f32) (init : FVec Ideal S_ .f32) (h) (hu) (h0 : init (Shape.Idx.first hu) = (0 : EReal))
    (b : Fin 4) (t : Fin 64) (k : Fin 128) :
    Host.reduceWindowAdd ![1, 1, 64, 1] ![1, 1, 1, 1] ![0, 0, 63, 0] ![0, 0, 0, 0] x init h hu (ix4 0 b t k : S1x4x64x128.Idx) =
      cumS (fun t k => x (ix4 0 b t k)) t k := by
  have hnum : (⟨4, ![1, 1, 64, 1]⟩ : Shape).numel = 64 := by decide +kernel
  unfold Host.reduceWindowAdd
  rw [Ideal.hostReduceWindowAdd_def, h0]
  unfold Ideal.hostReduceWindowAdd Host.reduceWindow
  refine (foldl_sum _ _).trans ?_
  rw [zero_add]
  have hsum : ∀ F : Fin (⟨4, ![1, 1, 64, 1]⟩ : Shape).numel → EReal,
      (∀ n, F n = (fun n => if 63 - n ≤ t.val then ext (fun s => x (ix4 0 b s k)) (t.val - (63 - n)) else 0) n.val) → ∑ n, F n = cumS (fun t k => x (ix4 0 b t k)) t k := by
    intro F hF
    rw [Finset.sum_congr rfl fun n _ => hF n]
    refine (Fin.sum_univ_eq_sum_range (fun n : ℕ => if 63 - n ≤ t.val then ext (fun s => x (ix4 0 b s k)) (t.val - (63 - n)) else 0) _).trans ?_
    rw [hnum, ← win_cum, ← Finset.sum_range_reflect]
    unfold win
    refine Finset.sum_congr rfl fun n hn => ?_
    rw [Finset.mem_range] at hn
    have e : 63 - (64 - 1 - n) = n := by omega
    rw [e]
  refine hsum _ fun n => ?_
  have hn : n.val < 64 := lt_of_lt_of_eq n.isLt hnum
  have hp := place n
  have hp0 := hp 0
  have hp1 := hp 1
  have hp2 := hp 2
  have hp3 := hp 3
  simp only [Matrix.cons_val] at hp0 hp1 hp2 hp3
  have ht := t.isLt
  have hb := b.isLt
  have hk := k.isLt
  by_cases h1 : 63 - n.val ≤ t.val
  · have hlt : t.val - (63 - n.val) < 64 := by omega
    simp only [h1, if_true, ext, hlt, dite_true]
    rw [dif_pos]
    · congr 1
      funext a
      apply Fin.ext
      fin_cases a
      · show 0 * 1 + ((⟨4, ![1, 1, 64, 1]⟩ : Shape).rowMajor.symm n 0).val - 0 = 0
        omega
      · show b.val * 1 + ((⟨4, ![1, 1, 64, 1]⟩ : Shape).rowMajor.symm n 1).val - 0 = b.val
        omega
      · show t.val * 1 + ((⟨4, ![1, 1, 64, 1]⟩ : Shape).rowMajor.symm n 2).val - 63 = t.val - (63 - n.val)
        omega
      · show k.val * 1 + ((⟨4, ![1, 1, 64, 1]⟩ : Shape).rowMajor.symm n 3).val - 0 = k.val
        omega
    · intro a
      fin_cases a
      · show 0 ≤ 0 * 1 + ((⟨4, ![1, 1, 64, 1]⟩ : Shape).rowMajor.symm n 0).val ∧ 0 * 1 + ((⟨4, ![1, 1, 64, 1]⟩ : Shape).rowMajor.symm n 0).val - 0 < 1
        omega
      · show 0 ≤ b.val * 1 + ((⟨4, ![1, 1, 64, 1]⟩ : Shape).rowMajor.symm n 1).val ∧ b.val * 1 + ((⟨4, ![1, 1, 64, 1]⟩ : Shape).rowMajor.symm n 1).val - 0 < 4
        omega
      · show 63 ≤ t.val * 1 + ((⟨4, ![1, 1, 64, 1]⟩ : Shape).rowMajor.symm n 2).val ∧ t.val * 1 + ((⟨4, ![1, 1, 64, 1]⟩ : Shape).rowMajor.symm n 2).val - 63 < 64
        omega
      · show 0 ≤ k.val * 1 + ((⟨4, ![1, 1, 64, 1]⟩ : Shape).rowMajor.symm n 3).val ∧ k.val * 1 + ((⟨4, ![1, 1, 64, 1]⟩ : Shape).rowMajor.symm n 3).val - 0 < 128
        omega
  · simp only [h1, if_false]
    rw [dif_neg]
    intro hin
    have h2 : 63 ≤ t.val * 1 + ((⟨4, ![1, 1, 64, 1]⟩ : Shape).rowMajor.symm n 2).val := (hin 2).1
    omega

variable (V0 : Valuation τ sig (Elt Ideal))

/-- What the loop carries before trip `n`: the chunks, the causal mask and the counter. -/
structure Carried (Q K V L : Arr) (n : ℕ) : Prop where
  lt : n < 256
  q : ∀ (n : Fin 256) (h : Fin 4) (t : Fin 64) (k : Fin 128), (V0 (Proc.devRef .tc main_v17_0) : FVec Ideal S256x1x4x64x128 .f32) (ix5 n 0 h t k) = chunk Q n.val h t k
  k : ∀ (n : Fin 256) (h : Fin 4) (t : Fin 64) (k : Fin 128), (V0 (Proc.devRef .tc main_v17_1) : FVec Ideal S256x1x4x64x128 .f32) (ix5 n 0 h t k) = chunk K n.val h t k
  v : ∀ (n : Fin 256) (h : Fin 4) (t : Fin 64) (k : Fin 128), (V0 (Proc.devRef .tc main_v17_2) : FVec Ideal S256x1x4x64x128 .f32) (ix5 n 0 h t k) = chunk V n.val h t k
  l : ∀ (n : Fin 256) (h : Fin 4) (t : Fin 64) (k : Fin 128), (V0 (Proc.devRef .tc main_v17_3) : FVec Ideal S256x1x4x64x128 .f32) (ix5 n 0 h t k) = chunk L n.val h t k
  mask : ∀ t s : Fin 64, (V0 (Proc.devRef .tc main_v17_4) : IVec S64x64x1 1) (ix3 t s 0) = BitVec.ofBool (decide (s.val ≤ t.val))
  ctr : V0 (Proc.devRef .tc main_v17_5) = fun _ => BitVec.ofNat 32 n

variable {V0} {Q K V L : Arr} {n : ℕ}

theorem toInt_small : ∀ n : Fin 256, (BitVec.ofNat 32 n.val).toInt = (n.val : ℤ) := by decide +kernel

/-- Where the trip's slice starts. -/
theorem clamp (hn : n < 256) : ∀ a : Fin 5, Host.clampedStart S256x1x4x64x128 S1x1x4x64x128 rfl
    (fun k => (((![fun _ => BitVec.ofNat 32 n, constantI S_ 32 0#32, constantI S_ 32 0#32, constantI S_ 32 0#32, constantI S_ 32 0#32] : Fin 5 → (⟨S_, .i32⟩ : BufTy).Contents (Elt Ideal))) k (Shape.Idx.first h_S_)).toInt) a
      = (![n, 0, 0, 0, 0] : Fin 5 → ℕ) a := by
  intro a
  fin_cases a
  · exact Host.clampedStart_of_le _ _ _ n (toInt_small ⟨n, hn⟩) (by show n + 1 ≤ 256; omega)
  · exact Host.clampedStart_of_le _ _ _ 0 rfl (by decide)
  · exact Host.clampedStart_of_le _ _ _ 0 rfl (by decide)
  · exact Host.clampedStart_of_le _ _ _ 0 rfl (by decide)
  · exact Host.clampedStart_of_le _ _ _ 0 rfl (by decide)

/-- The slice's second unit axis dropped. -/
theorem drop_one (z : FVec Ideal S1x1x4x64x128 .f32) (h : Fin 4) (t : Fin 64) (k : Fin 128) :
    shapeCast S1x4x64x128 z shapeCasts_S1x1x4x64x128_S1x4x64x128 (ix4 0 h t k) = z (ix5 0 0 h t k) := by
  pointwise

/-- The trip's slice of a chunked array. -/
theorem slice_at (hc : Carried V0 Q K V L n) (x : FVec Ideal S256x1x4x64x128 .f32) (h : Fin 4) (t : Fin 64) (k : Fin 128) :
    shapeCast S1x4x64x128 (Host.dynamicSlice S1x1x4x64x128 x (fun k => (((![V0 (Proc.devRef .tc main_v17_5), constantI S_ 32 0#32, constantI S_ 32 0#32, constantI S_ 32 0#32, constantI S_ 32 0#32] : Fin 5 → (⟨S_, .i32⟩ : BufTy).Contents (Elt Ideal))) k (Shape.Idx.first h_S_)).toInt) sliceFits_S256x1x4x64x128_S1x1x4x64x128) shapeCasts_S1x1x4x64x128_S1x4x64x128 (ix4 0 h t k)
      = x (ix5 ⟨n, hc.lt⟩ 0 h t k) := by
  rw [hc.ctr]
  refine Eq.trans (drop_one _ h t k) (?_ : Host.dynamicSlice S1x1x4x64x128 x (fun k => (((![fun _ => BitVec.ofNat 32 n, constantI S_ 32 0#32, constantI S_ 32 0#32, constantI S_ 32 0#32, constantI S_ 32 0#32] : Fin 5 → (⟨S_, .i32⟩ : BufTy).Contents (Elt Ideal))) k (Shape.Idx.first h_S_)).toInt) sliceFits_S256x1x4x64x128_S1x1x4x64x128 (ix5 0 0 h t k) = _)
  rw [Host.dynamicSlice_apply]
  refine congrArg x (funext fun a => Fin.ext ?_)
  have e := clamp hc.lt
  fin_cases a
  · exact congrArg (· + 0) (e 0)
  · exact congrArg (· + 0) (e 1)
  · exact (congrArg (· + h.val) (e 2)).trans (Nat.zero_add _)
  · exact (congrArg (· + t.val) (e 3)).trans (Nat.zero_add _)
  · exact (congrArg (· + k.val) (e 4)).trans (Nat.zero_add _)

/-- A bound moved along an equation of its start. -/
theorem within {c f v s : ℕ} (e : c = f) (h : f ≤ v ∧ v < f + s) : c ≤ v ∧ v < c + s := e ▸ h

/-- The bits of the lowest value. -/
theorem bits_bot : Ideal.ofBits .f32 0xFF800000#32 = ⊥ := by simp [Ideal.ofBits, Ideal.ieee]

/-- A masked entry's exponential. -/
theorem masked (z : EReal) : Ideal.exp (Scalar.select (BitVec.ofBool false) z (id (constant (F := Ideal) S_ FTy.f32 4286578688#32) ix0)) = (0 : EReal) :=
  (congrArg Ideal.exp bits_bot).trans Ideal.exp_bot

/-- The trip's update of the stacked outputs. -/
theorem update_at (hc : Carried V0 Q K V L n) (x : FVec Ideal S256x1x4x64x128 .f32) (u : FVec Ideal S1x1x4x64x128 .f32) (n' : Fin 256) (h : Fin 4) (t : Fin 64) (k : Fin 128) :
    Host.dynamicUpdateSlice x u (fun k => (((![V0 (Proc.devRef .tc main_v17_5), constantI S_ 32 0#32, constantI S_ 32 0#32, constantI S_ 32 0#32, constantI S_ 32 0#32] : Fin 5 → (⟨S_, .i32⟩ : BufTy).Contents (Elt Ideal))) k (Shape.Idx.first h_S_)).toInt) updateFits_S256x1x4x64x128_S1x1x4x64x128 (ix5 n' 0 h t k)
      = if n'.val = n then u (ix5 0 0 h t k) else x (ix5 n' 0 h t k) := by
  rw [hc.ctr, Host.dynamicUpdateSlice_apply]
  have e := clamp hc.lt
  by_cases hn : n'.val = n
  · rw [if_pos hn, dif_pos]
    · refine congrArg u (funext fun a => Fin.ext ?_)
      fin_cases a
      · exact (congrArg (n'.val - ·) (e 0)).trans (by show n'.val - n = 0; omega)
      · exact congrArg (0 - ·) (e 1)
      · exact congrArg (h.val - ·) (e 2)
      · exact congrArg (t.val - ·) (e 3)
      · exact congrArg (k.val - ·) (e 4)
    · intro a
      fin_cases a
      · exact within (e 0) (show n ≤ n'.val ∧ n'.val < n + 1 by omega)
      · exact within (e 1) (show 0 ≤ 0 ∧ 0 < 0 + 1 by omega)
      · exact within (e 2) (show 0 ≤ h.val ∧ h.val < 0 + 4 by omega)
      · exact within (e 3) (show 0 ≤ t.val ∧ t.val < 0 + 64 by omega)
      · exact within (e 4) (show 0 ≤ k.val ∧ k.val < 0 + 128 by omega)
  · rw [if_neg hn, dif_neg]
    intro hin
    have h1 : n ≤ n'.val ∧ n'.val < n + 1 := within (e 0).symm (hin 0)
    omega

theorem v38_at (hc : Carried V0 Q K V L n) (h : Fin 4) (t : Fin 64) (k : Fin 128) : res_main_while0b_v38 V0 (ix4 0 h t k) = chunk Q n h t k :=
  (slice_at hc _ h t k).trans (hc.q _ h t k)

theorem v39_at (hc : Carried V0 Q K V L n) (h : Fin 4) (t : Fin 64) (k : Fin 128) : res_main_while0b_v39 V0 (ix4 0 h t k) = chunk K n h t k :=
  (slice_at hc _ h t k).trans (hc.k _ h t k)

theorem v40_at (hc : Carried V0 Q K V L n) (h : Fin 4) (t : Fin 64) (k : Fin 128) : res_main_while0b_v40 V0 (ix4 0 h t k) = chunk V n h t k :=
  (slice_at hc _ h t k).trans (hc.v _ h t k)

/-- The cumulative decay of the trip's chunk. -/
theorem v42_at (hc : Carried V0 Q K V L n) (h : Fin 4) (t : Fin 64) (k : Fin 128) : res_main_while0b_v42 V0 (ix4 0 h t k) = cumS (chunk L n h) t k := by
  unfold res_main_while0b_v42
  refine (window_at _ _ _ _ Ideal.ofBits_zero_f32 h t k).trans ?_
  congr 1
  funext t k
  exact (slice_at hc _ h t k).trans (hc.l _ h t k)

theorem v59_at (hc : Carried V0 Q K V L n) (h : Fin 4) (k : Fin 128) : res_main_while0b_v59 V0 (ix4 0 h 0 k) = cumS (chunk L n h) 63 k := by
  rw [← v42_at hc]
  pointwise [res_main_while0b_v59]

/-- The state after the trip. -/
theorem step6_at (hc : Carried V0 Q K V L n) (h : Fin 4) (j c : Fin 128) :
    step_main_v17_6 V0 (ix4 0 h j c) = nextS (chunk K n h) (chunk V n h) (cumS (chunk L n h)) (fun c j => (V0 (Proc.devRef .tc main_v17_6) : FVec Ideal S1x4x128x128 .f32) (ix4 0 h j c)) c j := by
  unfold step_main_v17_6
  simp only [id_eq]
  pointwise
  rw [v59_at hc]
  unfold nextS
  rw [mul_comm]
  refine congrArg₂ (· + ·) rfl (Finset.sum_congr rfl fun x _ => ?_)
  rw [v39_at hc, v42_at hc, v40_at hc, mul_comm]

/-- The output after the trip, at the trip's own chunk. -/
theorem step7_at (hc : Carried V0 Q K V L n) (n' : Fin 256) (h : Fin 4) (t : Fin 64) (c : Fin 128) :
    step_main_v17_7 V0 (ix5 n' 0 h t c) = if n'.val = n then
      outS (chunk Q n h) (chunk K n h) (chunk V n h) (cumS (chunk L n h)) (fun c j => (V0 (Proc.devRef .tc main_v17_6) : FVec Ideal S1x4x128x128 .f32) (ix4 0 h j c)) t c
      else (V0 (Proc.devRef .tc main_v17_7) : FVec Ideal S256x1x4x64x128 .f32) (ix5 n' 0 h t c) := by
  refine (update_at hc _ _ n' h t c).trans ?_
  split
  · pointwise
    unfold outS
    refine congrArg₂ (· + ·) (Finset.sum_congr rfl fun s _ => ?_) (Finset.sum_congr rfl fun k _ => ?_)
    · rw [hc.mask t s, v40_at hc]
      by_cases hs : s ≤ t
      · rw [if_pos hs]
        refine congrArg (· * _) (Finset.sum_congr rfl fun k _ => ?_)
        rw [decide_eq_true (show s.val ≤ t.val from hs), v38_at hc, v39_at hc, v42_at hc, v42_at hc]
        rfl
      · rw [if_neg hs, decide_eq_false (show ¬s.val ≤ t.val from hs)]
        refine (congrArg (· * _) (Finset.sum_eq_zero fun k _ => ?_)).trans (zero_mul _)
        rw [masked, zero_mul, mul_zero]
    · rw [v38_at hc, v42_at hc]
  · rfl

end Cert.ReferenceIdeal.Trip
-- ==== Proof.RefFold.lean ====
/- The reference's loop over all the chunks, and its two results read at an index over the extended reals. -/
module

public import Idealize.ShloMosaic.Lib.Pointwise
public import proofs.«01_k».proof.Proof.Gen.ReferenceIdeal.Run
public import proofs.«01_k».proof.Proof.Spec
public import proofs.«01_k».proof.Proof.RefTrip

@[expose] public section
set_option maxRecDepth 16384

noncomputable section

namespace Cert.ReferenceIdeal.Trip

open Idealize.ShloMosaic Idealize.ShloMosaic.StableHlo Idealize.ShloMosaic.HostLoop Idealize.ShloMosaic.Pointwise Idealize.ShloMosaic.TcCoe Cert.ReferenceIdeal Cert.ReferenceIdeal.Gen Cert.ReferenceIdeal.Value Cert.Hgrn

variable (m : (ℓ : Loc nD τ sig) → Buf (Elt Ideal) ℓ)

/-- An argument of all rows, by row and lane. -/
def rows (x : FVec Ideal S16384x512 .f32) : Arr := fun r l => x (ix2 r l)

/-- The gain, by lane. -/
def lanes (x : FVec Ideal S1x128 .f32) : Fin 128 → EReal := fun l => x (ix2 0 l)

abbrev rQ (c : Dev nD) : Arr := rows (m ((c.tc : Thread nD τ).loc main_arg0))
abbrev rK (c : Dev nD) : Arr := rows (m ((c.tc : Thread nD τ).loc main_arg1))
abbrev rL (c : Dev nD) : Arr := rows (m ((c.tc : Thread nD τ).loc main_arg2))
abbrev rV (c : Dev nD) : Arr := rows (m ((c.tc : Thread nD τ).loc main_arg3))
abbrev rG (c : Dev nD) : Arr := rows (m ((c.tc : Thread nD τ).loc main_arg4))
abbrev rN (c : Dev nD) : Fin 128 → EReal := lanes (m ((c.tc : Thread nD τ).loc main_arg5))

/-- The loop's chunked form of an argument. -/
theorem chunked_at (x : FVec Ideal S16384x512 .f32) (n : Fin 256) (h : Fin 4) (t : Fin 64) (k : Fin 128) :
    transpose S256x1x4x64x128 [1, 0, 3, 2, 4] (shapeCast S1x256x64x4x128 (shapeCast S1x16384x4x128 x shapeCasts_S16384x512_S1x16384x4x128) shapeCasts_S1x16384x4x128_S1x256x64x4x128) transposes_S1x256x64x4x128_S256x1x4x64x128_1_0_3_2_4 (ix5 n 0 h t k)
      = chunk (rows x) n.val h t k := by
  pointwise
  unfold chunk rows
  refine congrArg x (congrArg₂ ix2 (Fin.ext ?_) (Fin.ext ?_))
  · show n.val * 64 + t.val = (64 * n.val + t.val) % 16384
    omega
  · show h.val * 128 + k.val = 128 * h.val + k.val
    omega

theorem entry_q (c : Dev nD) (n : Fin 256) (h : Fin 4) (t : Fin 64) (k : Fin 128) :
    (entryContents preI m c (Proc.devRef .tc main_v17_0) : FVec Ideal S256x1x4x64x128 .f32) (ix5 n 0 h t k) = chunk (rQ m c) n.val h t k := by
  simp only [entryContents, afterL_cons, afterL_nil]
  after_reads_simp
  exact chunked_at _ n h t k

theorem entry_k (c : Dev nD) (n : Fin 256) (h : Fin 4) (t : Fin 64) (k : Fin 128) :
    (entryContents preI m c (Proc.devRef .tc main_v17_1) : FVec Ideal S256x1x4x64x128 .f32) (ix5 n 0 h t k) = chunk (rK m c) n.val h t k := by
  simp only [entryContents, afterL_cons, afterL_nil]
  after_reads_simp
  exact chunked_at _ n h t k

theorem entry_v (c : Dev nD) (n : Fin 256) (h : Fin 4) (t : Fin 64) (k : Fin 128) :
    (entryContents preI m c (Proc.devRef .tc main_v17_2) : FVec Ideal S256x1x4x64x128 .f32) (ix5 n 0 h t k) = chunk (rV m c) n.val h t k := by
  simp only [entryContents, afterL_cons, afterL_nil]
  after_reads_simp
  exact chunked_at _ n h t k

theorem entry_l (c : Dev nD) (n : Fin 256) (h : Fin 4) (t : Fin 64) (k : Fin 128) :
    (entryContents preI m c (Proc.devRef .tc main_v17_3) : FVec Ideal S256x1x4x64x128 .f32) (ix5 n 0 h t k) = chunk (rL m c) n.val h t k := by
  simp only [entryContents, afterL_cons, afterL_nil]
  after_reads_simp
  exact chunked_at _ n h t k

/-- The comparison of two rows, as a bit. -/
theorem mask_bits : ∀ t s : Fin 64, Scalar.select (IntOp.cmpi CmpIPredicate.sge (IntOp.addi (BitVec.ofNat 32 t.val) 0#32) (BitVec.ofNat 32 s.val)) 1#1 0#1 = BitVec.ofBool (decide (s.val ≤ t.val)) := by
  decide +kernel

theorem entry_mask (c : Dev nD) (t s : Fin 64) :
    (entryContents preI m c (Proc.devRef .tc main_v17_4) : IVec S64x64x1 1) (ix3 t s 0) = BitVec.ofBool (decide (s.val ≤ t.val)) := by
  simp only [entryContents, afterL_cons, afterL_nil]
  after_reads_simp
  show broadcastInDim S64x64x1 ![0, 1] bcast_S64x64_S64x64x1_0_1 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) (ix3 t s 0) = _
  pointwise
  exact mask_bits t s

theorem entry_state (c : Dev nD) (h : Fin 4) (j k : Fin 128) :
    (entryContents preI m c (Proc.devRef .tc main_v17_6) : FVec Ideal S1x4x128x128 .f32) (ix4 0 h j k) = (0 : EReal) := by
  simp only [entryContents, afterL_cons, afterL_nil]
  after_reads_simp
  exact Ideal.ofBits_zero_f32

/-- The contents before trip `n`. -/
abbrev before (c : Dev nD) (n : ℕ) : Valuation τ sig (Elt Ideal) := STEP^[n] (entryContents preI m c)

theorem before_succ (c : Dev nD) (n : ℕ) : before m c (n + 1) = STEP (before m c n) := Function.iterate_succ_apply' STEP n _

/-- The loop carries the chunks, the mask and the counter. -/
theorem carried (c : Dev nD) : ∀ n, n < 256 → Carried (before m c n) (rQ m c) (rK m c) (rV m c) (rL m c) n
  | 0, h => ⟨h, entry_q m c, entry_k m c, entry_v m c, entry_l m c, entry_mask m c, ctr_entry m c⟩
  | n + 1, h => by
    have ih := carried c n (by omega)
    rw [before_succ]
    refine ⟨h, ?_, ?_, ?_, ?_, ?_, ?_⟩
    · rw [STEP_main_v17_0]; exact ih.q
    · rw [STEP_main_v17_1]; exact ih.k
    · rw [STEP_main_v17_2]; exact ih.v
    · rw [STEP_main_v17_3]; exact ih.l
    · rw [STEP_main_v17_4]; exact ih.mask
    · rw [STEP_main_v17_5]
      funext i
      exact (congrArg (fun f : S_.Idx → BitVec 32 => f i + 1#32) ih.ctr).trans (BitVec.ofNat_add n 1).symm

/-- The state before trip `n`. -/
theorem state_before (c : Dev nD) : ∀ n, n ≤ 256 → ∀ (h : Fin 4) (j k : Fin 128),
    (before m c n (Proc.devRef .tc main_v17_6) : FVec Ideal S1x4x128x128 .f32) (ix4 0 h j k) = stateAt (rK m c) (rL m c) (rV m c) n h k j
  | 0, _, h, j, k => entry_state m c h j k
  | n + 1, hn, h, j, k => by
    rw [before_succ, STEP_main_v17_6, step6_at (carried m c n (by omega))]
    show _ = nextS _ _ _ (stateAt (rK m c) (rL m c) (rV m c) n h) k j
    exact congrArg (fun S => nextS _ _ _ S k j) (funext fun a => funext fun b => state_before c n (by omega) h b a)

/-- The stacked outputs before trip `n`: the outputs of the chunks done. -/
theorem raw_before (c : Dev nD) : ∀ n, n ≤ 256 → ∀ (n' : Fin 256), n'.val < n → ∀ (h : Fin 4) (t : Fin 64) (k : Fin 128),
    (before m c n (Proc.devRef .tc main_v17_7) : FVec Ideal S256x1x4x64x128 .f32) (ix5 n' 0 h t k) = rawAt (rQ m c) (rK m c) (rL m c) (rV m c) n'.val h t k
  | 0, _, _, hl, _, _, _ => absurd hl (Nat.not_lt_zero _)
  | n + 1, hn, n', hl, h, t, k => by
    rw [before_succ, STEP_main_v17_7, step7_at (carried m c n (by omega))]
    by_cases e : n'.val = n
    · rw [if_pos e, e]
      exact congrArg (fun S => outS _ _ _ _ S t k) (funext fun a => funext fun b => state_before m c n (by omega) h b a)
    · rw [if_neg e]
      exact raw_before c n (by omega) n' (by omega) h t k

/-- The state returned. -/
theorem v37_at (c : Dev nD) (h : Fin 4) (i j : Fin 128) :
    (out_main_v37 (before m c 256) : FVec Ideal S1x4x128x128 .f32) (ix4 0 h i j) = stateAt (rK m c) (rL m c) (rV m c) 256 h i j := by
  refine Eq.trans ?_ (state_before m c 256 le_rfl h j i)
  unfold out_main_v37
  pointwise

/-- The stacked outputs, by row. -/
theorem unstack_at (x : FVec Ideal S256x1x4x64x128 .f32) (r : Fin 16384) (h : Fin 4) (k : Fin 128) :
    shapeCast S1x16384x4x128 (transpose S1x256x64x4x128 [1, 0, 3, 2, 4] x transposes_S256x1x4x64x128_S1x256x64x4x128_1_0_3_2_4) shapeCasts_S1x256x64x4x128_S1x16384x4x128 (ix4 0 r h k)
      = x (ix5 ⟨r.val / 64, by omega⟩ 0 h ⟨r.val % 64, Nat.mod_lt _ (by decide)⟩ k) := by
  pointwise

/-- The output returned. -/
theorem v36_at (c : Dev nD) (r : Fin 16384) (l : Fin 512) :
    (out_main_v36 (before m c 256) : FVec Ideal S1x16384x512 .f32) (ix3 0 r l) = outAt (rQ m c) (rK m c) (rL m c) (rV m c) (rG m c) (rN m c) r l := by
  have e4 : before m c 256 (Proc.devRef .tc main_arg4) = _ := iter_main_arg4 m c 256
  have e5 : before m c 256 (Proc.devRef .tc main_arg5) = _ := iter_main_arg5 m c 256
  unfold out_main_v36
  rw [e4, e5]
  pointwise
  have e7 := fun k => raw_before m c 256 le_rfl ⟨r.val / 64, by omega⟩ (by show r.val / 64 < 256; omega) ⟨l.val / 128, by omega⟩ ⟨r.val % 64, Nat.mod_lt _ (by decide)⟩ k
  simp only [e7]
  rfl

end Cert.ReferenceIdeal.Trip
-- ==== Proof.Recurrence.lean ====
/- The recurrence of the prompt: the kernel's run and the reference's end with the same two arrays, over the extended
   reals, from any arguments whose log decays are below plus infinity. -/
module

public import proofs.«01_k».proof.Defs
public import proofs.«01_k».proof.Proof.Fold
public import proofs.«01_k».proof.Proof.RefFold

@[expose] public section
set_option maxRecDepth 16384

noncomputable section

namespace Cert.Proof

open Idealize.ShloMosaic Idealize.ShloMosaic.Pointwise Idealize.SL.Sem

/-- The facts of the precondition's one broadcast. -/
instance preFacts : Cert.Pre_log_decay_below_top.Facts where
  bcast_S_S16384x512 := by decide

/-- The bits of plus infinity. -/
theorem bits_top : Ideal.ofBits .f32 0x7F800000#32 = ⊤ := by simp [Ideal.ofBits, Ideal.ieee]

/-- Below the top is what the precondition says of every log decay. -/
theorem below_top (m : (ℓ : Loc Cert.KernelIdeal.nD Cert.KernelIdeal.τ Cert.KernelIdeal.sig) → Buf (Elt Ideal) ℓ)
    (h : Cert.Pre_KernelIdeal_log_decay_below_top m) (c : Dev Cert.KernelIdeal.nD) (r : Fin 16384) (l : Fin 512) :
    Cert.KernelIdeal.Head.aL m c r l ≠ ⊤ := by
  intro e
  have h1 := congrFun (h c) (ix2 r l)
  have h2 : Ideal.cmp .olt (Cert.KernelIdeal.Head.aL m c r l) (Ideal.ofBits .f32 0x7F800000#32) = 1#1 := h1
  rw [e, bits_top] at h2
  revert h2
  simp [Ideal.cmp]

/-- The reference's frame. -/
theorem frame_r : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

/-- The kernel and the reference end with equal arrays. -/
theorem recurrence : Cert.algebraic_KernelIdeal_ReferenceIdeal_pre_log_decay_below_top := by
  intro m g m' g' hp ha
  have hl := below_top m hp
  refine ⟨fun c => Cert.KernelIdeal.Value.G7 m c, fun c => Cert.KernelIdeal.Value.G8 m c, Cert.KernelIdeal.Value.run m g, ?_⟩
  refine (θ_run (Cert.ReferenceIdeal.defs (F := Ideal)) _ _).mono (fun r h c => ?_) (Cert.ReferenceIdeal.Value.run (F := Ideal) m' g')
  obtain ⟨h0, h1, h2⟩ := h c
  obtain ⟨a0, a1, a2, a3, a4, a5⟩ := ha c
  have eQ : Cert.ReferenceIdeal.Trip.rQ m' c = Cert.KernelIdeal.Head.aQ m c := congrArg Cert.KernelIdeal.Head.arr a0
  have eK : Cert.ReferenceIdeal.Trip.rK m' c = Cert.KernelIdeal.Head.aK m c := congrArg Cert.KernelIdeal.Head.arr a1
  have eL : Cert.ReferenceIdeal.Trip.rL m' c = Cert.KernelIdeal.Head.aL m c := congrArg Cert.KernelIdeal.Head.arr a2
  have eV : Cert.ReferenceIdeal.Trip.rV m' c = Cert.KernelIdeal.Head.aV m c := congrArg Cert.KernelIdeal.Head.arr a3
  have eG : Cert.ReferenceIdeal.Trip.rG m' c = Cert.KernelIdeal.Head.aG m c := congrArg Cert.KernelIdeal.Head.arr a4
  have eN : Cert.ReferenceIdeal.Trip.rN m' c = Cert.KernelIdeal.Head.aN m c := congrArg Cert.ReferenceIdeal.Trip.lanes a5
  refine ⟨h0.trans ?_, h1.trans ?_, h2⟩
  · funext i
    change Cert.ReferenceIdeal.S1x16384x512.Idx at i
    idx_vars i
    obtain rfl : i0 = 0 := Subsingleton.elim _ _
    refine (Cert.ReferenceIdeal.Trip.v36_at m' c _ _).trans ?_
    rw [eQ, eK, eL, eV, eG, eN]
    exact (Cert.KernelIdeal.Head.G7_val m c (hl c) _ _).symm
  · funext i
    change Cert.ReferenceIdeal.S1x4x128x128.Idx at i
    idx_vars i
    obtain rfl : i0 = 0 := Subsingleton.elim _ _
    refine (Cert.ReferenceIdeal.Trip.v37_at m' c _ _ _).trans ?_
    rw [eK, eL, eV]
    exact (Cert.KernelIdeal.Head.G8_val m c (hl c) _ _ _).symm

end Cert.Proof
-- ==== Proof.ProjCases.lean ====
/- What a grid point of the input projection leaves in its ten output blocks: one store each, of the value its text
   computes from the point's input blocks. -/
module

public import Idealize.ShloMosaic.Lib.Pointwise
public import Idealize.ShloMosaic.Lib.Pipeline.ValueKit
public import Idealize.ShloMosaic.Lib.Pipeline.ReadBack
public import proofs.«01_k».proof.Proof.Gen.Kernel3Ideal.Value

@[expose] public section
set_option maxRecDepth 16384

noncomputable section

namespace Cert.Kernel3Ideal.Proj

open Idealize.ShloMosaic Idealize.ShloMosaic.TcCoe Cert.Kernel3Ideal Cert.Kernel3Ideal.Gen

variable {F : FTy → Type} [FloatOps F]

/-- Output 7's block: the silu of the first group of lanes. -/
theorem out_7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay5 (k0_pay1 x0 x1) (View.ld x2 (Rect.unit (s := S1024x4224) ![0, 0] S1024x512.size inb_S1024x4224_S1024x512_0_0)) := by
  frame_out
  all_goals first
    | rfl

/-- Output 8's block: one minus the forget gate. -/
theorem out_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay7 x3 (k0_pay1 x0 x1) (View.ld x2 (Rect.unit (s := S1024x4224) ![0, 512] S1024x512.size inb_S1024x4224_S1024x512_0_512)) := by
  frame_out
  all_goals first
    | rfl

/-- Output 9's block: the logarithm of the forget gate. -/
theorem out_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay8 x3 (k0_pay1 x0 x1) (View.ld x2 (Rect.unit (s := S1024x4224) ![0, 512] S1024x512.size inb_S1024x4224_S1024x512_0_512)) := by
  frame_out
  all_goals first
    | rfl

/-- Output 10's block: the third group. -/
theorem out_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay9 (k0_pay1 x0 x1) (View.ld x2 (Rect.unit (s := S1024x4224) ![0, 1024] S1024x512.size inb_S1024x4224_S1024x512_0_1024)) := by
  frame_out
  all_goals first
    | rfl

/-- Output 11's block: the silu of the fourth group. -/
theorem out_11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay10 (k0_pay1 x0 x1) (View.ld x2 (Rect.unit (s := S1024x4224) ![0, 1536] S1024x512.size inb_S1024x4224_S1024x512_0_1536)) := by
  frame_out
  all_goals first
    | rfl

/-- Output 12's block: the rotated fifth group. -/
theorem out_12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay11 (k0_pay2 x4) (k0_pay3 x5) (k0_pay4 x6) (k0_pay1 x0 x1) (View.ld x2 (Rect.unit (s := S1024x4224) ![0, 2048] S1024x512.size inb_S1024x4224_S1024x512_0_2048)) := by
  frame_out
  all_goals first
    | rfl

/-- Output 13's block: the rotated sixth group. -/
theorem out_13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay12 (k0_pay2 x4) (k0_pay3 x5) (k0_pay4 x6) (k0_pay1 x0 x1) (View.ld x2 (Rect.unit (s := S1024x4224) ![0, 2560] S1024x512.size inb_S1024x4224_S1024x512_0_2560)) := by
  frame_out
  all_goals first
    | rfl

/-- Output 14's block: the seventh group. -/
theorem out_14 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay13 (k0_pay1 x0 x1) (View.ld x2 (Rect.unit (s := S1024x4224) ![0, 3072] S1024x512.size inb_S1024x4224_S1024x512_0_3072)) := by
  frame_out
  all_goals first
    | rfl

/-- Output 15's block: the rotated eighth group. -/
theorem out_15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay14 (k0_pay2 x4) (k0_pay3 x5) (k0_pay4 x6) (k0_pay1 x0 x1) (View.ld x2 (Rect.unit (s := S1024x4224) ![0, 3584] S1024x512.size inb_S1024x4224_S1024x512_0_3584)) := by
  frame_out
  all_goals first
    | rfl

/-- Output 16's block: the rotated index key and the scaled index weights. -/
theorem out_16 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x128 .f32) (harg17 : arg17.IsWhole) (arg18 : Memref sig .tc .vmem S512x1024 .bf16) (harg18 : arg18.IsWhole)
    (x0 : Vec F S512x1024 .f32) (x1 : Vec F S1x1024 .f32) (x2 : Vec F S1024x4224 .bf16) (x3 : Vec F S1x512 .f32) (x4 : Vec F S512x128 .f32) (x5 : Vec F S512x128 .f32) (x6 : Vec F S512x128 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay15 (k0_pay1 x0 x1) (View.ld x2 (Rect.unit (s := S1024x4224) ![0, 4096] S1024x128.size inb_S1024x4224_S1024x128_0_4096)) x4 x5 x6 := by
  frame_out
  all_goals first
    | rfl

end Cert.Kernel3Ideal.Proj

end
-- ==== Proof.ProjSpec.lean ====
/- The input projections over the extended reals: the normalised row, its product with a lane of the weights, the gate,
   the forget gate and the rotary embedding of the first sixteen of sixty-four lanes. -/
module

public import Idealize.ShloMosaic.Lib.Pointwise

@[expose] public section

noncomputable section

namespace Cert.Proj

open Idealize.ShloMosaic

variable {N : ℕ}

/-- Entry `d` of the normalised row `p`. -/
def hid (X : Fin N → Fin 1024 → EReal) (g : Fin 1024 → EReal) (p : Fin N) (d : Fin 1024) : EReal :=
  X p d * Ideal.rsqrt (Ideal.div (∑ x, X p x * X p x) (Ideal.ofBits .f32 1149239296#32) + Ideal.ofBits .f32 897988541#32) * g d

/-- The weights continued by zero beyond their 4168 lanes. -/
def wide (W : Fin 1024 → Fin 4168 → EReal) (d : Fin 1024) (n : ℕ) : EReal := if h : n < 4168 then W d ⟨n, h⟩ else 0

/-- The product of the normalised row `p` with lane `n` of the weights. -/
def dot (X : Fin N → Fin 1024 → EReal) (g : Fin 1024 → EReal) (W : Fin 1024 → Fin 4168 → EReal) (p : Fin N) (n : ℕ) : EReal :=
  ∑ d, hid X g p d * wide W d n

/-- A lane beyond the weights' has product zero. -/
theorem dot_zero (X : Fin N → Fin 1024 → EReal) (g : Fin 1024 → EReal) (W : Fin 1024 → Fin 4168 → EReal) (p : Fin N) (n : ℕ)
    (h : 4168 ≤ n) : dot X g W p n = 0 := by
  have e : ∀ d, hid X g p d * wide W d n = 0 := fun d => by
    rw [wide, dif_neg (by omega), mul_zero]
  simp only [dot, e, Finset.sum_const_zero]

/-- The silu. -/
def silu (x : EReal) : EReal := x * Ideal.logistic x

/-- The forget gate with lower bound `b`. -/
def fgate (b x : EReal) : EReal := b + (1 - b) * Ideal.logistic x

/-- The rotation angle of pair `j` at position `p`. -/
def ang (p j : ℕ) : EReal :=
  (FloatOps.sitofp (F := Ideal) .f32 (BitVec.ofNat 32 p) : EReal) * Ideal.pow (Ideal.ofBits .f32 1223959552#32)
    (-(FloatOps.sitofp (F := Ideal) .f32 (BitVec.ofNat 32 j) : EReal) * Ideal.ofBits .f32 1040187392#32)

/-- The word of a position counted on from 16384. -/
theorem posw (n : ℕ) : IntOp.addi (16384#32) (BitVec.ofNat 32 n) = BitVec.ofNat 32 (16384 + n) :=
  (BitVec.ofNat_add 16384 n).symm

/-- Lane `j` of the rotary embedding of a sixty-four lane head `u` at position `p`. -/
def rot (u : ℕ → EReal) (p j : ℕ) : EReal :=
  if j < 8 then u j * Ideal.cos (ang p j) - u (j + 8) * Ideal.sin (ang p j)
  else if j < 16 then u j * Ideal.cos (ang p (j - 8)) + u (j - 8) * Ideal.sin (ang p (j - 8))
  else u j

/-- The table multiplying a lane itself. -/
def tabC (p j : ℕ) : EReal := if j < 8 then Ideal.cos (ang p j) else if j - 8 < 8 then Ideal.cos (ang p (j - 8)) else 1

/-- The table multiplying the lane eight below. -/
def tabA (p j : ℕ) : EReal := if j < 8 then 0 else if j - 8 < 8 then Ideal.sin (ang p (j - 8)) else 0

/-- The table multiplying the lane eight above. -/
def tabB (p j : ℕ) : EReal := if j < 8 then -Ideal.sin (ang p j) else if j - 8 < 8 then 0 else 0

/-- The three tables' products sum to the rotary embedding: where a table is zero its lane does not count. -/
theorem rot_tables (u : ℕ → EReal) (p j : ℕ) (a b : EReal) (ha : 8 ≤ j → a = u (j - 8)) (hb : j < 8 → b = u (j + 8)) :
    u j * tabC p j + a * tabA p j + b * tabB p j = rot u p j := by
  unfold tabC tabA tabB rot
  by_cases h : j < 8
  · simp only [if_pos h, mul_zero, add_zero, hb h, mul_neg, sub_eq_add_neg]
  · by_cases h' : j < 16
    · have h'' : j - 8 < 8 := by omega
      simp only [if_neg h, if_pos h', if_pos h'', mul_zero, add_zero, ha (by omega)]
    · have h'' : ¬ j - 8 < 8 := by omega
      simp only [if_neg h, if_neg h', if_neg h'', mul_zero, add_zero, mul_one]

/-- A lane of the first eight. -/
theorem rot_lo (u : ℕ → EReal) (p j : ℕ) (h : j < 8) (a b : EReal) (ha : a = u j) (hb : b = u (j + 8)) :
    a * Ideal.cos (ang p j) - b * Ideal.sin (ang p j) = rot u p j := by
  rw [rot, if_pos h, ha, hb]

/-- A lane of the second eight. -/
theorem rot_mid (u : ℕ → EReal) (p j : ℕ) (h : ¬ j < 8) (h' : j - 8 < 8) (a b : EReal) (ha : a = u j) (hb : b = u (j - 8)) :
    a * Ideal.cos (ang p (j - 8)) + b * Ideal.sin (ang p (j - 8)) = rot u p j := by
  rw [rot, if_neg h, if_pos (by omega), ha, hb]

/-- A lane beyond the first sixteen. -/
theorem rot_hi (u : ℕ → EReal) (p j : ℕ) (h : ¬ j < 8) (h' : ¬ j - 8 < 8) (a : EReal) (ha : a = u j) : a = rot u p j := by
  rw [rot, if_neg h, if_neg (by omega), ha]

end Cert.Proj

end
-- ==== Proof.ProjBlocks.lean ====
/- The input projection's blocks at a grid point, over the extended reals, as terms of the arguments. -/
module

public import proofs.«01_k».proof.Proof.ProjCases
public import proofs.«01_k».proof.Proof.ProjSpec
public import Idealize.ShloMosaic.Lib.StableHlo.ReadAt

@[expose] public section
set_option maxRecDepth 16384

noncomputable section

namespace Cert.Kernel3Ideal.Proj

open Idealize.ShloMosaic Idealize.ShloMosaic.Pointwise Idealize.ShloMosaic.TcCoe Cert.Kernel3Ideal Cert.Kernel3Ideal.Gen Cert.Proj

variable (m : (ℓ : Loc nD τ sig) → Buf (Elt Ideal) ℓ)

/-- The activations. -/
abbrev aX (c : Dev nD) : Fin 16384 → Fin 1024 → EReal := fun p d => (m ((c : Thread nD τ).loc main_arg0) : FVec Ideal S1x16384x1024 .f32) (ix3 0 p d)
/-- The gain. -/
abbrev aG (c : Dev nD) : Fin 1024 → EReal := fun d => (m ((c : Thread nD τ).loc main_arg1) : FVec Ideal S1x1024 .f32) (ix2 0 d)
/-- The weights. -/
abbrev aW (c : Dev nD) : Fin 1024 → Fin 4168 → EReal := fun d j => (m ((c : Thread nD τ).loc main_arg2) : FVec Ideal S1x1024x4168 .f32) (ix3 0 d j)

/-- The exponentials of the lower bounds' logits, less their maximum. -/
def lbE (L : FVec Ideal S2x512 .f32) : FVec Ideal S2x512 .f32 :=
  Host.exp (subf L (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf L (constant S_ .f32 0xFF800000#32) reducesTo_S2x512_S512_d0 h_S_)))))

/-- The lower bound: the first row of the cumulative sum of the softmax. -/
def lbV (L : FVec Ideal S2x512 .f32) : FVec Ideal S512 .f32 :=
  shapeCast _ (extractStridedSlice S1x512 ![0, 0] (Host.reduceWindowAdd ![2, 1] ![1, 1] ![1, 0] ![0, 0] (Host.divf (lbE L) (broadcastInDim S2x512 ![0, 1] bcast_S1x512_S2x512_0_1 (broadcastInDim S1x512 ![1] bcast_S512_S1x512_1 (Host.reduceAdd (lbE L) (constant S_ .f32 0x00000000#32) reducesTo_S2x512_S512_d0 h_S_)))) (broadcastInDim S_ ![] bcast_S_S_ (constant S_ .f32 0x00000000#32)) reduceWindows_S2x512_S2x512_w2s1p1_0_w1s1p0_0 h_S_) slices_S2x512_S1x512_0_0) shapeCasts_S1x512_S512

/-- The lower bound of lane `l`. -/
abbrev aL (c : Dev nD) (l : Fin 512) : EReal := lbV (m ((c : Thread nD τ).loc main_arg3)) (ix1 l)

theorem idx0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

set_option maxHeartbeats 1600000 in
/-- The activations block at a point. -/
theorem blk0 (c : Dev nD) (t : Fin cfg0.N) (r : Fin 512) (l : Fin 1024) :
    iblk m c 0 t (ix2 r l) = aX m c ⟨512 * t.val + r.val, by have := lt_of_lt_of_eq t.isLt N_0; omega⟩ l := by
  have i0 := (idx0 t).1
  have e : ((cfg0.win 0).blk t).view.emb (ix2 r l) = (ix2 ⟨512 * t.val + r.val, by have := lt_of_lt_of_eq t.isLt N_0; omega⟩ l : S16384x1024.Idx) := by
    blk_ext [i0]
  refine (congrArg (V m c (Pipeline.arrRef spec0 0)) e).trans ?_
  show V m c main_v20 _ = _
  dsimp only [V]
  simp only [hostOps0, hostOps0_1, hostOps0_2, hostOps0_3, hostOps0_4, List.flatten_cons, List.flatten_nil, List.append_nil, List.cons_append, List.nil_append]
  after_reads_at

set_option maxHeartbeats 1600000 in
/-- The gain block at a point. -/
theorem blk1 (c : Dev nD) (t : Fin cfg0.N) (l : Fin 1024) :
    iblk m c 1 t (ix2 0 l) = aG m c l := by
  have i0 := (idx0 t).2.1
  have e : ((cfg0.win 1).blk t).view.emb (ix2 0 l) = (ix2 0 l : S1x1024.Idx) := by
    blk_ext [i0]
  refine (congrArg (V m c (Pipeline.arrRef spec0 1)) e).trans ?_
  show V m c main_v19 _ = _
  dsimp only [V]
  simp only [hostOps0, hostOps0_1, hostOps0_2, hostOps0_3, hostOps0_4, List.flatten_cons, List.flatten_nil, List.append_nil, List.cons_append, List.nil_append]
  after_reads_at

/-- The word zero as a number. -/
theorem sitofp_zero : (FloatOps.sitofp (F := Ideal) .f32 (0#32 : BitVec 32) : EReal) = 0 := by
  show (((0#32 : BitVec 32).toInt : ℝ) : EReal) = 0
  simp

set_option maxHeartbeats 1600000 in
/-- The weights block at a point. -/
theorem blk2 (c : Dev nD) (t : Fin cfg0.N) (r : Fin 1024) (l : Fin 4224) :
    iblk m c 2 t (ix2 r l) = wide (aW m c) r l.val := by
  have i0 := (idx0 t).2.2.1
  have e : ((cfg0.win 2).blk t).view.emb (ix2 r l) = (ix2 r l : S1024x4224.Idx) := by
    blk_ext [i0]
  refine (congrArg (V m c (Pipeline.arrRef spec0 2)) e).trans ?_
  show V m c main_v17 _ = _
  dsimp only [V]
  simp only [hostOps0, hostOps0_1, hostOps0_2, hostOps0_3, hostOps0_4, List.flatten_cons, List.flatten_nil, List.append_nil, List.cons_append, List.nil_append]
  after_reads_at
  by_cases h : l.val < 4168
  · rw [dif_pos h, wide, dif_pos h]
  · rw [dif_neg h, wide, dif_neg h]
    exact sitofp_zero

set_option maxHeartbeats 1600000 in
/-- The lower bounds block at a point. -/
theorem blk3 (c : Dev nD) (t : Fin cfg0.N) (l : Fin 512) :
    iblk m c 3 t (ix2 0 l) = aL m c l := by
  have i0 := (idx0 t).2.2.2.1
  have e : ((cfg0.win 3).blk t).view.emb (ix2 0 l) = (ix2 0 l : S1x512.Idx) := by
    blk_ext [i0]
  refine (congrArg (V m c (Pipeline.arrRef spec0 3)) e).trans ?_
  show V m c main_v14 _ = _
  dsimp only [V]
  simp only [hostOps0, hostOps0_1, hostOps0_2, hostOps0_3, hostOps0_4, List.flatten_cons, List.flatten_nil, List.append_nil, List.cons_append, List.nil_append]
  after_reads_simp
  simp only [StableHlo.TRef.ofBuf_toBuf]
  unfold aL lbV lbE
  rfl

set_option maxHeartbeats 1600000 in
/-- The table block 4 at a point. -/
theorem blk4 (c : Dev nD) (t : Fin cfg0.N) (r : Fin 512) (l : Fin 128) :
    iblk m c 4 t (ix2 r l) = tabC (512 * t.val + r.val) (l.val % 64) := by
  have i0 := (idx0 t).2.2.2.2.1
  have e : ((cfg0.win 4).blk t).view.emb (ix2 r l) = (ix2 ⟨512 * t.val + r.val, by have := lt_of_lt_of_eq t.isLt N_0; omega⟩ l : S16384x128.Idx) := by
    blk_ext [i0]
  refine (congrArg (V m c (Pipeline.arrRef spec0 4)) e).trans ?_
  show V m c main_v45 _ = _
  dsimp only [V]
  simp only [hostOps0, hostOps0_1, hostOps0_2, hostOps0_3, hostOps0_4, List.flatten_cons, List.flatten_nil, List.append_nil, List.cons_append, List.nil_append]
  after_reads_at
  after_reads_at
  unfold tabC ang
  simp only [dite_eq_ite]

set_option maxHeartbeats 1600000 in
/-- The table block 5 at a point. -/
theorem blk5 (c : Dev nD) (t : Fin cfg0.N) (r : Fin 512) (l : Fin 128) :
    iblk m c 5 t (ix2 r l) = tabA (512 * t.val + r.val) (l.val % 64) := by
  have i0 := (idx0 t).2.2.2.2.2.1
  have e : ((cfg0.win 5).blk t).view.emb (ix2 r l) = (ix2 ⟨512 * t.val + r.val, by have := lt_of_lt_of_eq t.isLt N_0; omega⟩ l : S16384x128.Idx) := by
    blk_ext [i0]
  refine (congrArg (V m c (Pipeline.arrRef spec0 5)) e).trans ?_
  show V m c main_v48 _ = _
  dsimp only [V]
  simp only [hostOps0, hostOps0_1, hostOps0_2, hostOps0_3, hostOps0_4, List.flatten_cons, List.flatten_nil, List.append_nil, List.cons_append, List.nil_append]
  after_reads_at
  after_reads_at
  unfold tabA ang
  simp only [dite_eq_ite]

set_option maxHeartbeats 1600000 in
/-- The table block 6 at a point. -/
theorem blk6 (c : Dev nD) (t : Fin cfg0.N) (r : Fin 512) (l : Fin 128) :
    iblk m c 6 t (ix2 r l) = tabB (512 * t.val + r.val) (l.val % 64) := by
  have i0 := (idx0 t).2.2.2.2.2.2
  have e : ((cfg0.win 6).blk t).view.emb (ix2 r l) = (ix2 ⟨512 * t.val + r.val, by have := lt_of_lt_of_eq t.isLt N_0; omega⟩ l : S16384x128.Idx) := by
    blk_ext [i0]
  refine (congrArg (V m c (Pipeline.arrRef spec0 6)) e).trans ?_
  show V m c main_v51 _ = _
  dsimp only [V]
  simp only [hostOps0, hostOps0_1, hostOps0_2, hostOps0_3, hostOps0_4, List.flatten_cons, List.flatten_nil, List.append_nil, List.cons_append, List.nil_append]
  after_reads_at
  after_reads_at
  unfold tabB ang
  simp only [dite_eq_ite]

end Cert.Kernel3Ideal.Proj

end
-- ==== Proof.ProjValue.lean ====
/- The input projection's ten arrays after the run, over the extended reals, at an index. -/
module

public import proofs.«01_k».proof.Proof.ProjBlocks

@[expose] public section
set_option maxRecDepth 16384

noncomputable section

namespace Cert.Kernel3Ideal.Proj

open Idealize.ShloMosaic Idealize.ShloMosaic.Pointwise Idealize.ShloMosaic.TcCoe Cert.Kernel3Ideal Cert.Kernel3Ideal.Gen Cert.Proj

variable (m : (ℓ : Loc nD τ sig) → Buf (Elt Ideal) ℓ)

/-- What the seven input blocks of a point hold in its row `r`, the arrays' row `p`. -/
structure Blk (x0 : FVec Ideal S512x1024 .f32) (x1 : FVec Ideal S1x1024 .f32) (x2 : FVec Ideal S1024x4224 .bf16) (x3 : FVec Ideal S1x512 .f32) (x4 x5 x6 : FVec Ideal S512x128 .f32)
    (X : Fin 16384 → Fin 1024 → EReal) (g : Fin 1024 → EReal) (W : Fin 1024 → Fin 4168 → EReal) (L : Fin 512 → EReal) (r : Fin 512) (p : Fin 16384) : Prop where
  h0 : ∀ d, x0 (ix2 r d) = X p d
  h1 : ∀ d, x1 (ix2 0 d) = g d
  h2 : ∀ d n, x2 (ix2 d n) = wide W d n.val
  h3 : ∀ l, x3 (ix2 0 l) = L l
  h4 : ∀ l, x4 (ix2 r l) = tabC p.val (l.val % 64)
  h5 : ∀ l, x5 (ix2 r l) = tabA p.val (l.val % 64)
  h6 : ∀ l, x6 (ix2 r l) = tabB p.val (l.val % 64)

/-- A load of the lanes from `o` on of the weights block. -/
theorem ld_w (x : Vec Ideal S1024x4224 .bf16) (o : ℕ) (off : Fin 2 → ℕ) (inb) (h0 : off 0 = 0) (h1 : off 1 = o) (ho : o + 512 ≤ 4224) (a : Fin 1024) (l : Fin 512) :
    View.ld x (Rect.unit (s := S1024x4224) off S1024x512.size inb) (ix2 a l) = x (ix2 a ⟨o + l.val, by omega⟩) := by
  refine View.ld_unit_apply_of x off _ inb _ _ fun b => ?_
  fin_cases b
  · show a.val = off 0 + a.val
    omega
  · show o + l.val = off 1 + l.val
    omega

/-- A load of the last 128 lanes of the weights block. -/
theorem ld_w' (x : Vec Ideal S1024x4224 .bf16) (off : Fin 2 → ℕ) (inb) (h0 : off 0 = 0) (h1 : off 1 = 4096) (a : Fin 1024) (l : Fin 128) :
    View.ld x (Rect.unit (s := S1024x4224) off S1024x128.size inb) (ix2 a l) = x (ix2 a ⟨4096 + l.val, by omega⟩) := by
  refine View.ld_unit_apply_of x off _ inb _ _ fun b => ?_
  fin_cases b
  · show a.val = off 0 + a.val
    omega
  · show 4096 + l.val = off 1 + l.val
    omega

section point

variable {x0 : FVec Ideal S512x1024 .f32} {x1 : FVec Ideal S1x1024 .f32} {x2 : FVec Ideal S1024x4224 .bf16} {x3 : FVec Ideal S1x512 .f32} {x4 x5 x6 : FVec Ideal S512x128 .f32}
  {X : Fin 16384 → Fin 1024 → EReal} {g : Fin 1024 → EReal} {W : Fin 1024 → Fin 4168 → EReal} {L : Fin 512 → EReal} {r : Fin 512} {p : Fin 16384}

/-- The normalised row. -/
theorem hidAt (B : Blk x0 x1 x2 x3 x4 x5 x6 X g W L r p) (d : Fin 1024) : (k0_pay1 (F := Ideal) x0 x1 (ix2 r d) : EReal) = hid X g p d := by
  have e : (k0_pay1 (F := Ideal) x0 x1 (ix2 r d) : EReal)
      = x0 (ix2 r d) * Ideal.rsqrt (Ideal.div (∑ x, x0 (ix2 r x) * x0 (ix2 r x)) (Ideal.ofBits .f32 1149239296#32) + Ideal.ofBits .f32 897988541#32) * x1 (ix2 0 d) := by
    pointwise [k0_pay1]
  rw [e]
  simp only [B.h0, B.h1, hid]

/-- The product of the normalised row with lane `l` of the lanes from `o` on. -/
theorem dotAt (B : Blk x0 x1 x2 x3 x4 x5 x6 X g W L r p) (o : ℕ) (off : Fin 2 → ℕ) (inb) (h0 : off 0 = 0) (h1 : off 1 = o) (ho : o + 512 ≤ 4224) (l : Fin 512) :
    ∑ x : Fin 1024, (k0_pay1 (F := Ideal) x0 x1 (ix2 r x) : EReal) * ((View.ld (x2 : Vec Ideal S1024x4224 .bf16) (Rect.unit (s := S1024x4224) off S1024x512.size inb) : Vec Ideal S1024x512 .bf16) (ix2 x l) : EReal)
      = dot X g W p (o + l.val) := by
  refine Finset.sum_congr rfl fun x _ => ?_
  exact congrArg₂ (fun a b : EReal => a * b) (hidAt B x) ((ld_w _ o off inb h0 h1 ho x l).trans (B.h2 x _))

/-- The product of the normalised row with lane `l` of the last 128 lanes. -/
theorem dotAt' (B : Blk x0 x1 x2 x3 x4 x5 x6 X g W L r p) (off : Fin 2 → ℕ) (inb) (h0 : off 0 = 0) (h1 : off 1 = 4096) (l : Fin 128) :
    ∑ x : Fin 1024, (k0_pay1 (F := Ideal) x0 x1 (ix2 r x) : EReal) * ((View.ld (x2 : Vec Ideal S1024x4224 .bf16) (Rect.unit (s := S1024x4224) off S1024x128.size inb) : Vec Ideal S1024x128 .bf16) (ix2 x l) : EReal)
      = dot X g W p (4096 + l.val) := by
  refine Finset.sum_congr rfl fun x _ => ?_
  exact congrArg₂ (fun a b : EReal => a * b) (hidAt B x) ((ld_w' _ off inb h0 h1 x l).trans (B.h2 x _))

/-- A table repeated over four groups of 128 lanes, at a lane. -/
theorem tile2 (x : FVec Ideal S512x128 .f32) (r l : Fin 512) : (k0_pay2 (F := Ideal) x (ix2 r l) : EReal) = x (ix2 r ⟨l.val % 128, by omega⟩) := by
  pointwise [k0_pay2]
  split
  · congr 3; omega
  · split
    · congr 3; omega
    · split <;> (congr 3; omega)

/-- The same of the second table. -/
theorem tile3 (x : FVec Ideal S512x128 .f32) (r l : Fin 512) : (k0_pay3 (F := Ideal) x (ix2 r l) : EReal) = x (ix2 r ⟨l.val % 128, by omega⟩) := tile2 x r l

/-- The same of the third table. -/
theorem tile4 (x : FVec Ideal S512x128 .f32) (r l : Fin 512) : (k0_pay4 (F := Ideal) x (ix2 r l) : EReal) = x (ix2 r ⟨l.val % 128, by omega⟩) := tile2 x r l

/-- The rotated group at an index, of any factors. -/
theorem pay11 (a b d : FVec Ideal S512x512 .f32) (h : FVec Ideal S512x1024 .bf16) (w : FVec Ideal S1024x512 .bf16) (r l : Fin 512) :
    (k0_pay11 (F := Ideal) a b d h w (ix2 r l) : EReal)
      = (∑ x, h (ix2 r x) * w (ix2 x l)) * a (ix2 r l) + (∑ x, h (ix2 r x) * w (ix2 x ⟨(l.val + 512 - 8) % 512, by omega⟩)) * b (ix2 r l)
        + (∑ x, h (ix2 r x) * w (ix2 x ⟨(l.val + 512 - 504) % 512, by omega⟩)) * d (ix2 r l) := by
  pointwise [k0_pay11]

/-- A sum of three products, factor by factor. -/
theorem three {a b c d e f a' b' c' d' e' f' : EReal} (h1 : a = a') (h2 : b = b') (h3 : c = c') (h4 : d = d') (h5 : e = e') (h6 : f = f') :
    a * b + c * d + e * f = a' * b' + c' * d' + e' * f' := by
  rw [h1, h2, h3, h4, h5, h6]

/-- A rotated group. -/
theorem rotAt (B : Blk x0 x1 x2 x3 x4 x5 x6 X g W L r p) (o : ℕ) (off : Fin 2 → ℕ) (inb) (h0 : off 0 = 0) (h1 : off 1 = o) (ho : o + 512 ≤ 4224) (l : Fin 512) :
    (k0_pay11 (F := Ideal) (k0_pay2 x4) (k0_pay3 x5) (k0_pay4 x6) (k0_pay1 (F := Ideal) x0 x1)
        (View.ld (x2 : Vec Ideal S1024x4224 .bf16) (Rect.unit (s := S1024x4224) off S1024x512.size inb)) (ix2 r l) : EReal)
      = rot (fun j => dot X g W p (o + l.val / 64 * 64 + j)) p.val (l.val % 64) := by
  have e4 : (k0_pay2 (F := Ideal) x4 (ix2 r l) : EReal) = tabC p.val (l.val % 64) := by
    rw [tile2, B.h4]; congr 1; show l.val % 128 % 64 = _; omega
  have e5 : (k0_pay3 (F := Ideal) x5 (ix2 r l) : EReal) = tabA p.val (l.val % 64) := by
    rw [tile3, B.h5]; congr 1; show l.val % 128 % 64 = _; omega
  have e6 : (k0_pay4 (F := Ideal) x6 (ix2 r l) : EReal) = tabB p.val (l.val % 64) := by
    rw [tile4, B.h6]; congr 1; show l.val % 128 % 64 = _; omega
  have e := rot_tables (fun j => dot X g W p (o + l.val / 64 * 64 + j)) p.val (l.val % 64) (dot X g W p (o + (l.val + 512 - 8) % 512)) (dot X g W p (o + (l.val + 512 - 504) % 512))
    (fun h => by congr 1; omega) (fun h => by congr 1; omega)
  have el : o + l.val = o + l.val / 64 * 64 + l.val % 64 := by omega
  exact (pay11 _ _ _ _ _ r l).trans ((three ((dotAt B o off inb h0 h1 ho l).trans (congrArg (dot X g W p) el)) e4 (dotAt B o off inb h0 h1 ho _) e5 (dotAt B o off inb h0 h1 ho _) e6).trans e)

/-- The gated group at an index, of any factors. -/
theorem pay5 (h : FVec Ideal S512x1024 .bf16) (w : FVec Ideal S1024x512 .bf16) (r l : Fin 512) : (k0_pay5 (F := Ideal) h w (ix2 r l) : EReal) = silu (∑ x, h (ix2 r x) * w (ix2 x l)) := by
  unfold silu
  pointwise [k0_pay5]

/-- The other gated group at an index, of any factors. -/
theorem pay10 (h : FVec Ideal S512x1024 .bf16) (w : FVec Ideal S1024x512 .bf16) (r l : Fin 512) : (k0_pay10 (F := Ideal) h w (ix2 r l) : EReal) = silu (∑ x, h (ix2 r x) * w (ix2 x l)) := by
  unfold silu
  pointwise [k0_pay10]

/-- One minus the forget gate at an index, of any factors. -/
theorem pay7 (x : FVec Ideal S1x512 .f32) (h : FVec Ideal S512x1024 .bf16) (w : FVec Ideal S1024x512 .bf16) (r l : Fin 512) : (k0_pay7 (F := Ideal) x h w (ix2 r l) : EReal) = 1 - fgate (x (ix2 0 l)) (∑ x, h (ix2 r x) * w (ix2 x l)) := by
  unfold fgate
  pointwise [k0_pay7, k0_pay6]

/-- The logarithm of the forget gate at an index, of any factors. -/
theorem pay8 (x : FVec Ideal S1x512 .f32) (h : FVec Ideal S512x1024 .bf16) (w : FVec Ideal S1024x512 .bf16) (r l : Fin 512) : (k0_pay8 (F := Ideal) x h w (ix2 r l) : EReal) = Ideal.log (fgate (x (ix2 0 l)) (∑ x, h (ix2 r x) * w (ix2 x l))) := by
  unfold fgate
  pointwise [k0_pay8, k0_pay6]

/-- A plain group at an index, of any factors. -/
theorem pay9 (h : FVec Ideal S512x1024 .bf16) (w : FVec Ideal S1024x512 .bf16) (r l : Fin 512) : (k0_pay9 (F := Ideal) h w (ix2 r l) : EReal) = (∑ x, h (ix2 r x) * w (ix2 x l)) := by
  pointwise [k0_pay9]

/-- The other plain group at an index, of any factors. -/
theorem pay13 (h : FVec Ideal S512x1024 .bf16) (w : FVec Ideal S1024x512 .bf16) (r l : Fin 512) : (k0_pay13 (F := Ideal) h w (ix2 r l) : EReal) = (∑ x, h (ix2 r x) * w (ix2 x l)) := by
  pointwise [k0_pay13]

/-- A comparison of a lane's number with sixty-four. -/
theorem lt64 (l : Fin 128) : IntOp.cmpi .slt (BitVec.ofNat 32 l.val) (64#32) = if l.val < 64 then 1#1 else 0#1 := by
  revert l
  decide

/-- The index key and weights at an index, of any factors. -/
theorem pay15 (a b d : FVec Ideal S512x128 .f32) (h : FVec Ideal S512x1024 .bf16) (w : FVec Ideal S1024x128 .bf16) (r : Fin 512) (l : Fin 128) :
    (k0_pay15 (F := Ideal) h w a b d (ix2 r l) : EReal)
      = if l.val < 64 then (∑ x, h (ix2 r x) * w (ix2 x l)) * a (ix2 r l) + (∑ x, h (ix2 r x) * w (ix2 x ⟨(l.val + 128 - 8) % 128, by omega⟩)) * b (ix2 r l)
        + (∑ x, h (ix2 r x) * w (ix2 x ⟨(l.val + 128 - 120) % 128, by omega⟩)) * d (ix2 r l)
        else (∑ x, h (ix2 r x) * w (ix2 x l)) * Ideal.ofBits .f32 1026884851#32 := by
  pointwise [k0_pay15]
  rw [lt64]
  by_cases hl : l.val < 64
  · rw [if_pos hl, if_pos hl]
    rfl
  · rw [if_neg hl, if_neg hl]
    rfl

/-- The index key and weights. -/
theorem keyAt (B : Blk x0 x1 x2 x3 x4 x5 x6 X g W L r p) (off : Fin 2 → ℕ) (inb) (h0 : off 0 = 0) (h1 : off 1 = 4096) (l : Fin 128) :
    (k0_pay15 (F := Ideal) (k0_pay1 (F := Ideal) x0 x1) (View.ld (x2 : Vec Ideal S1024x4224 .bf16) (Rect.unit (s := S1024x4224) off S1024x128.size inb)) x4 x5 x6 (ix2 r l) : EReal)
      = if l.val < 64 then rot (fun j => dot X g W p (4096 + j)) p.val l.val else dot X g W p (4096 + l.val) * Ideal.ofBits .f32 1026884851#32 := by
  refine (pay15 _ _ _ _ _ r l).trans ?_
  by_cases hl : l.val < 64
  · rw [if_pos hl, if_pos hl]
    have em : l.val % 64 = l.val := by omega
    have e4 : x4 (ix2 r l) = tabC p.val l.val := by rw [B.h4, em]
    have e5 : x5 (ix2 r l) = tabA p.val l.val := by rw [B.h5, em]
    have e6 : x6 (ix2 r l) = tabB p.val l.val := by rw [B.h6, em]
    have e := rot_tables (fun j => dot X g W p (4096 + j)) p.val l.val (dot X g W p (4096 + (l.val + 128 - 8) % 128)) (dot X g W p (4096 + (l.val + 128 - 120) % 128))
      (fun h => by congr 1; omega) (fun h => by congr 1; omega)
    exact (three (dotAt' B off inb h0 h1 l) e4 (dotAt' B off inb h0 h1 _) e5 (dotAt' B off inb h0 h1 _) e6).trans e
  · rw [if_neg hl, if_neg hl]
    exact congrArg (fun z : EReal => z * Ideal.ofBits .f32 1026884851#32) (dotAt' B off inb h0 h1 l)

/-- The value of `k0_pay5` at an index of the point's row. -/
theorem at5 (B : Blk x0 x1 x2 x3 x4 x5 x6 X g W L r p) (o : ℕ) (off : Fin 2 → ℕ) (inb) (h0 : off 0 = 0) (h1 : off 1 = o) (ho : o + 512 ≤ 4224) (l : Fin 512) :
    (k0_pay5 (F := Ideal) (k0_pay1 (F := Ideal) x0 x1) (View.ld (x2 : Vec Ideal S1024x4224 .bf16) (Rect.unit (s := S1024x4224) off S1024x512.size inb)) (ix2 r l) : EReal) = silu (dot X g W p (o + l.val)) :=
  (pay5 _ _ r l).trans (congrArg silu (dotAt B o off inb h0 h1 ho l))

/-- The value of `k0_pay10` at an index of the point's row. -/
theorem at10 (B : Blk x0 x1 x2 x3 x4 x5 x6 X g W L r p) (o : ℕ) (off : Fin 2 → ℕ) (inb) (h0 : off 0 = 0) (h1 : off 1 = o) (ho : o + 512 ≤ 4224) (l : Fin 512) :
    (k0_pay10 (F := Ideal) (k0_pay1 (F := Ideal) x0 x1) (View.ld (x2 : Vec Ideal S1024x4224 .bf16) (Rect.unit (s := S1024x4224) off S1024x512.size inb)) (ix2 r l) : EReal) = silu (dot X g W p (o + l.val)) :=
  (pay10 _ _ r l).trans (congrArg silu (dotAt B o off inb h0 h1 ho l))

/-- The value of `k0_pay7` at an index of the point's row. -/
theorem at7 (B : Blk x0 x1 x2 x3 x4 x5 x6 X g W L r p) (o : ℕ) (off : Fin 2 → ℕ) (inb) (h0 : off 0 = 0) (h1 : off 1 = o) (ho : o + 512 ≤ 4224) (l : Fin 512) :
    (k0_pay7 (F := Ideal) x3 (k0_pay1 (F := Ideal) x0 x1) (View.ld (x2 : Vec Ideal S1024x4224 .bf16) (Rect.unit (s := S1024x4224) off S1024x512.size inb)) (ix2 r l) : EReal) = 1 - fgate (L l) (dot X g W p (o + l.val)) :=
  (pay7 _ _ _ r l).trans (congrArg (fun z : EReal => 1 - z) (congrArg₂ fgate (B.h3 l) (dotAt B o off inb h0 h1 ho l)))

/-- The value of `k0_pay8` at an index of the point's row. -/
theorem at8 (B : Blk x0 x1 x2 x3 x4 x5 x6 X g W L r p) (o : ℕ) (off : Fin 2 → ℕ) (inb) (h0 : off 0 = 0) (h1 : off 1 = o) (ho : o + 512 ≤ 4224) (l : Fin 512) :
    (k0_pay8 (F := Ideal) x3 (k0_pay1 (F := Ideal) x0 x1) (View.ld (x2 : Vec Ideal S1024x4224 .bf16) (Rect.unit (s := S1024x4224) off S1024x512.size inb)) (ix2 r l) : EReal) = Ideal.log (fgate (L l) (dot X g W p (o + l.val))) :=
  (pay8 _ _ _ r l).trans (congrArg Ideal.log (congrArg₂ fgate (B.h3 l) (dotAt B o off inb h0 h1 ho l)))

/-- The value of `k0_pay9` at an index of the point's row. -/
theorem at9 (B : Blk x0 x1 x2 x3 x4 x5 x6 X g W L r p) (o : ℕ) (off : Fin 2 → ℕ) (inb) (h0 : off 0 = 0) (h1 : off 1 = o) (ho : o + 512 ≤ 4224) (l : Fin 512) :
    (k0_pay9 (F := Ideal) (k0_pay1 (F := Ideal) x0 x1) (View.ld (x2 : Vec Ideal S1024x4224 .bf16) (Rect.unit (s := S1024x4224) off S1024x512.size inb)) (ix2 r l) : EReal) = (dot X g W p (o + l.val)) :=
  (pay9 _ _ r l).trans (dotAt B o off inb h0 h1 ho l)

/-- The value of `k0_pay13` at an index of the point's row. -/
theorem at13 (B : Blk x0 x1 x2 x3 x4 x5 x6 X g W L r p) (o : ℕ) (off : Fin 2 → ℕ) (inb) (h0 : off 0 = 0) (h1 : off 1 = o) (ho : o + 512 ≤ 4224) (l : Fin 512) :
    (k0_pay13 (F := Ideal) (k0_pay1 (F := Ideal) x0 x1) (View.ld (x2 : Vec Ideal S1024x4224 .bf16) (Rect.unit (s := S1024x4224) off S1024x512.size inb)) (ix2 r l) : EReal) = (dot X g W p (o + l.val)) :=
  (pay13 _ _ r l).trans (dotAt B o off inb h0 h1 ho l)

end point

/-- Every row lies in a point's block. -/
theorem row_split (p : Fin 16384) : ∃ (t : Fin cfg0.N) (r : Fin 512), p = ⟨512 * t.val + r.val, by have := lt_of_lt_of_eq t.isLt N_0; omega⟩ :=
  ⟨⟨p.val / 512, lt_of_lt_of_eq (by omega : p.val / 512 < 32) N_0.symm⟩, ⟨p.val % 512, by omega⟩, Fin.ext (show p.val = 512 * (p.val / 512) + p.val % 512 by omega)⟩

/-- The input blocks of a point. -/
theorem blkAll (c : Dev nD) (t : Fin cfg0.N) (r : Fin 512) :
    Blk (iblk m c 0 t) (iblk m c 1 t) (iblk m c 2 t) (iblk m c 3 t) (iblk m c 4 t) (iblk m c 5 t) (iblk m c 6 t) (aX m c) (aG m c) (aW m c) (aL m c) r ⟨512 * t.val + r.val, by have := lt_of_lt_of_eq t.isLt N_0; omega⟩ :=
  ⟨blk0 m c t r, blk1 m c t, blk2 m c t, blk3 m c t, blk4 m c t r, blk5 m c t r, blk6 m c t r⟩

/-- Every point writes its output blocks back. -/
theorem flush_all : ∀ t : Fin cfg0.N, ((cfg0.win 7).flush t = true ∧ (cfg0.win 8).flush t = true ∧ (cfg0.win 9).flush t = true ∧ (cfg0.win 10).flush t = true ∧ (cfg0.win 11).flush t = true)
    ∧ ((cfg0.win 12).flush t = true ∧ (cfg0.win 13).flush t = true ∧ (cfg0.win 14).flush t = true ∧ (cfg0.win 15).flush t = true ∧ (cfg0.win 16).flush t = true) :=
  (by decide +kernel : ∀ t : Fin grid0.N, _)

/-- The output windows' block indices. -/
theorem idxO : ∀ t : Fin cfg0.N, (win0_7.index t (0 : Fin 2) = t.val ∧ win0_7.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) ∧ (win0_11.index t (0 : Fin 2) = t.val ∧ win0_11.index t (1 : Fin 2) = 0) ∧ (win0_12.index t (0 : Fin 2) = t.val ∧ win0_12.index t (1 : Fin 2) = 0) ∧ (win0_13.index t (0 : Fin 2) = t.val ∧ win0_13.index t (1 : Fin 2) = 0) ∧ (win0_14.index t (0 : Fin 2) = t.val ∧ win0_14.index t (1 : Fin 2) = 0) ∧ (win0_15.index t (0 : Fin 2) = t.val ∧ win0_15.index t (1 : Fin 2) = 0) ∧ (win0_16.index t (0 : Fin 2) = t.val ∧ win0_16.index t (1 : Fin 2) = 0) :=
  (by decide +kernel : ∀ t : Fin grid0.N, _)

/-- Array 0: the silu of the first group of lanes. -/
theorem arr0 (c : Dev nD) (p : Fin 16384) (l : Fin 512) :
    ((dats m 0 c).arrAt 7 cfg0.N (ix2 p l) : EReal) = silu (dot (aX m c) (aG m c) (aW m c) p (0 + l.val)) := by
  obtain ⟨t, r, hp⟩ := row_split p
  subst hp
  have h := congrFun ((Value.blocks7 m c t ((flush_all t).1.1)).trans (Value.flushed7_A m c t)) (ix2 r l)
  rw [out_7] at h
  have i0 := (idxO t).1
  have e : ((cfg0.win 7).blk t).view.emb (ix2 r l) = (ix2 ⟨512 * t.val + r.val, by have := lt_of_lt_of_eq t.isLt N_0; omega⟩ l : S16384x512.Idx) := by
    blk_ext [i0]
  refine ((congrArg ((dats m 0 c).arrAt 7 cfg0.N) e).symm.trans h).trans ?_
  exact at5 (blkAll m c t r) 0 _ _ rfl rfl (by omega) l

/-- Array 1: one minus the forget gate. -/
theorem arr1 (c : Dev nD) (p : Fin 16384) (l : Fin 512) :
    ((dats m 0 c).arrAt 8 cfg0.N (ix2 p l) : EReal) = 1 - fgate (aL m c l) (dot (aX m c) (aG m c) (aW m c) p (512 + l.val)) := by
  obtain ⟨t, r, hp⟩ := row_split p
  subst hp
  have h := congrFun ((Value.blocks8 m c t ((flush_all t).1.2.1)).trans (Value.flushed8_A m c t)) (ix2 r l)
  rw [out_8] at h
  have i0 := (idxO t).2.1
  have e : ((cfg0.win 8).blk t).view.emb (ix2 r l) = (ix2 ⟨512 * t.val + r.val, by have := lt_of_lt_of_eq t.isLt N_0; omega⟩ l : S16384x512.Idx) := by
    blk_ext [i0]
  refine ((congrArg ((dats m 0 c).arrAt 8 cfg0.N) e).symm.trans h).trans ?_
  exact at7 (blkAll m c t r) 512 _ _ rfl rfl (by omega) l

/-- Array 2: the logarithm of the forget gate. -/
theorem arr2 (c : Dev nD) (p : Fin 16384) (l : Fin 512) :
    ((dats m 0 c).arrAt 9 cfg0.N (ix2 p l) : EReal) = Ideal.log (fgate (aL m c l) (dot (aX m c) (aG m c) (aW m c) p (512 + l.val))) := by
  obtain ⟨t, r, hp⟩ := row_split p
  subst hp
  have h := congrFun ((Value.blocks9 m c t ((flush_all t).1.2.2.1)).trans (Value.flushed9_A m c t)) (ix2 r l)
  rw [out_9] at h
  have i0 := (idxO t).2.2.1
  have e : ((cfg0.win 9).blk t).view.emb (ix2 r l) = (ix2 ⟨512 * t.val + r.val, by have := lt_of_lt_of_eq t.isLt N_0; omega⟩ l : S16384x512.Idx) := by
    blk_ext [i0]
  refine ((congrArg ((dats m 0 c).arrAt 9 cfg0.N) e).symm.trans h).trans ?_
  exact at8 (blkAll m c t r) 512 _ _ rfl rfl (by omega) l

/-- Array 3: the third group. -/
theorem arr3 (c : Dev nD) (p : Fin 16384) (l : Fin 512) :
    ((dats m 0 c).arrAt 10 cfg0.N (ix2 p l) : EReal) = dot (aX m c) (aG m c) (aW m c) p (1024 + l.val) := by
  obtain ⟨t, r, hp⟩ := row_split p
  subst hp
  have h := congrFun ((Value.blocks10 m c t ((flush_all t).1.2.2.2.1)).trans (Value.flushed10_A m c t)) (ix2 r l)
  rw [out_10] at h
  have i0 := (idxO t).2.2.2.1
  have e : ((cfg0.win 10).blk t).view.emb (ix2 r l) = (ix2 ⟨512 * t.val + r.val, by have := lt_of_lt_of_eq t.isLt N_0; omega⟩ l : S16384x512.Idx) := by
    blk_ext [i0]
  refine ((congrArg ((dats m 0 c).arrAt 10 cfg0.N) e).symm.trans h).trans ?_
  exact at9 (blkAll m c t r) 1024 _ _ rfl rfl (by omega) l

/-- Array 4: the silu of the fourth group. -/
theorem arr4 (c : Dev nD) (p : Fin 16384) (l : Fin 512) :
    ((dats m 0 c).arrAt 11 cfg0.N (ix2 p l) : EReal) = silu (dot (aX m c) (aG m c) (aW m c) p (1536 + l.val)) := by
  obtain ⟨t, r, hp⟩ := row_split p
  subst hp
  have h := congrFun ((Value.blocks11 m c t ((flush_all t).1.2.2.2.2)).trans (Value.flushed11_A m c t)) (ix2 r l)
  rw [out_11] at h
  have i0 := (idxO t).2.2.2.2.1
  have e : ((cfg0.win 11).blk t).view.emb (ix2 r l) = (ix2 ⟨512 * t.val + r.val, by have := lt_of_lt_of_eq t.isLt N_0; omega⟩ l : S16384x512.Idx) := by
    blk_ext [i0]
  refine ((congrArg ((dats m 0 c).arrAt 11 cfg0.N) e).symm.trans h).trans ?_
  exact at10 (blkAll m c t r) 1536 _ _ rfl rfl (by omega) l

/-- Array 5: the rotated fifth group. -/
theorem arr5 (c : Dev nD) (p : Fin 16384) (l : Fin 512) :
    ((dats m 0 c).arrAt 12 cfg0.N (ix2 p l) : EReal) = rot (fun j => dot (aX m c) (aG m c) (aW m c) p (2048 + l.val / 64 * 64 + j)) p.val (l.val % 64) := by
  obtain ⟨t, r, hp⟩ := row_split p
  subst hp
  have h := congrFun ((Value.blocks12 m c t ((flush_all t).2.1)).trans (Value.flushed12_A m c t)) (ix2 r l)
  rw [out_12] at h
  have i0 := (idxO t).2.2.2.2.2.1
  have e : ((cfg0.win 12).blk t).view.emb (ix2 r l) = (ix2 ⟨512 * t.val + r.val, by have := lt_of_lt_of_eq t.isLt N_0; omega⟩ l : S16384x512.Idx) := by
    blk_ext [i0]
  refine ((congrArg ((dats m 0 c).arrAt 12 cfg0.N) e).symm.trans h).trans ?_
  exact rotAt (blkAll m c t r) 2048 _ _ rfl rfl (by omega) l

/-- Array 6: the rotated sixth group. -/
theorem arr6 (c : Dev nD) (p : Fin 16384) (l : Fin 512) :
    ((dats m 0 c).arrAt 13 cfg0.N (ix2 p l) : EReal) = rot (fun j => dot (aX m c) (aG m c) (aW m c) p (2560 + l.val / 64 * 64 + j)) p.val (l.val % 64) := by
  obtain ⟨t, r, hp⟩ := row_split p
  subst hp
  have h := congrFun ((Value.blocks13 m c t ((flush_all t).2.2.1)).trans (Value.flushed13_A m c t)) (ix2 r l)
  rw [out_13] at h
  have i0 := (idxO t).2.2.2.2.2.2.1
  have e : ((cfg0.win 13).blk t).view.emb (ix2 r l) = (ix2 ⟨512 * t.val + r.val, by have := lt_of_lt_of_eq t.isLt N_0; omega⟩ l : S16384x512.Idx) := by
    blk_ext [i0]
  refine ((congrArg ((dats m 0 c).arrAt 13 cfg0.N) e).symm.trans h).trans ?_
  exact rotAt (blkAll m c t r) 2560 _ _ rfl rfl (by omega) l

/-- Array 7: the seventh group. -/
theorem arr7 (c : Dev nD) (p : Fin 16384) (l : Fin 512) :
    ((dats m 0 c).arrAt 14 cfg0.N (ix2 p l) : EReal) = dot (aX m c) (aG m c) (aW m c) p (3072 + l.val) := by
  obtain ⟨t, r, hp⟩ := row_split p
  subst hp
  have h := congrFun ((Value.blocks14 m c t ((flush_all t).2.2.2.1)).trans (Value.flushed14_A m c t)) (ix2 r l)
  rw [out_14] at h
  have i0 := (idxO t).2.2.2.2.2.2.2.1
  have e : ((cfg0.win 14).blk t).view.emb (ix2 r l) = (ix2 ⟨512 * t.val + r.val, by have := lt_of_lt_of_eq t.isLt N_0; omega⟩ l : S16384x512.Idx) := by
    blk_ext [i0]
  refine ((congrArg ((dats m 0 c).arrAt 14 cfg0.N) e).symm.trans h).trans ?_
  exact at13 (blkAll m c t r) 3072 _ _ rfl rfl (by omega) l

/-- Array 8: the rotated eighth group. -/
theorem arr8 (c : Dev nD) (p : Fin 16384) (l : Fin 512) :
    ((dats m 0 c).arrAt 15 cfg0.N (ix2 p l) : EReal) = rot (fun j => dot (aX m c) (aG m c) (aW m c) p (3584 + l.val / 64 * 64 + j)) p.val (l.val % 64) := by
  obtain ⟨t, r, hp⟩ := row_split p
  subst hp
  have h := congrFun ((Value.blocks15 m c t ((flush_all t).2.2.2.2.1)).trans (Value.flushed15_A m c t)) (ix2 r l)
  rw [out_15] at h
  have i0 := (idxO t).2.2.2.2.2.2.2.2.1
  have e : ((cfg0.win 15).blk t).view.emb (ix2 r l) = (ix2 ⟨512 * t.val + r.val, by have := lt_of_lt_of_eq t.isLt N_0; omega⟩ l : S16384x512.Idx) := by
    blk_ext [i0]
  refine ((congrArg ((dats m 0 c).arrAt 15 cfg0.N) e).symm.trans h).trans ?_
  exact rotAt (blkAll m c t r) 3584 _ _ rfl rfl (by omega) l

/-- Array 9: the rotated index key and the scaled index weights. -/
theorem arr9 (c : Dev nD) (p : Fin 16384) (l : Fin 128) :
    ((dats m 0 c).arrAt 16 cfg0.N (ix2 p l) : EReal) = if l.val < 64 then rot (fun j => dot (aX m c) (aG m c) (aW m c) p (4096 + j)) p.val l.val else dot (aX m c) (aG m c) (aW m c) p (4096 + l.val) * Ideal.ofBits .f32 1026884851#32 := by
  obtain ⟨t, r, hp⟩ := row_split p
  subst hp
  have h := congrFun ((Value.blocks16 m c t ((flush_all t).2.2.2.2.2)).trans (Value.flushed16_A m c t)) (ix2 r l)
  rw [out_16] at h
  have i0 := (idxO t).2.2.2.2.2.2.2.2.2
  have e : ((cfg0.win 16).blk t).view.emb (ix2 r l) = (ix2 ⟨512 * t.val + r.val, by have := lt_of_lt_of_eq t.isLt N_0; omega⟩ l : S16384x128.Idx) := by
    blk_ext [i0]
  refine ((congrArg ((dats m 0 c).arrAt 16 cfg0.N) e).symm.trans h).trans ?_
  exact keyAt (blkAll m c t r) _ _ rfl rfl l

end Cert.Kernel3Ideal.Proj

end
-- ==== Proof.ProjRef.lean ====
/- The reference's ten results over the extended reals, at an index. -/
module

public import proofs.«01_k».proof.Proof.Gen.Reference3Ideal.Run
public import proofs.«01_k».proof.Proof.ProjSpec

@[expose] public section
set_option maxRecDepth 16384

noncomputable section

namespace Cert.Reference3Ideal.Proj

open Idealize.ShloMosaic Idealize.ShloMosaic.StableHlo Idealize.ShloMosaic.Pointwise Idealize.ShloMosaic.TcCoe Cert.Reference3Ideal Cert.Reference3Ideal.Gen Cert.Reference3Ideal.Value Cert.Proj

variable (V0 : Valuation τ sig (Elt Ideal))

/-- The activations. -/
abbrev bX : Fin 16384 → Fin 1024 → EReal := fun p d => (V0 (Proc.devRef .tc main_arg0) : FVec Ideal S1x16384x1024 .f32) (ix3 0 p d)
/-- The gain. -/
abbrev bG : Fin 1024 → EReal := fun d => (V0 (Proc.devRef .tc main_arg1) : FVec Ideal S1x1024 .f32) (ix2 0 d)
/-- The weights. -/
abbrev bW : Fin 1024 → Fin 4168 → EReal := fun d j => (V0 (Proc.devRef .tc main_arg2) : FVec Ideal S1x1024x4168 .f32) (ix3 0 d j)

/-- The projection of a row to a lane. -/
theorem t30 (r : Fin 16384) (j : Fin 4168) : (res_main_v30 V0 (ix3 0 r j) : EReal) = dot (bX V0) (bG V0) (bW V0) r j.val := by
  have e : ∀ x, wide (bW V0) x j.val = (V0 (Proc.devRef .tc main_arg2) : FVec Ideal S1x1024x4168 .f32) (ix3 0 x j) := fun x => by
    rw [wide, dif_pos j.isLt]
  unfold dot hid
  simp only [e]
  pointwise [res_main_v30]

/-- The cos of the angles, as result 74 has them. -/
theorem t74 (r : Fin 16384) (j : Fin 8) : (res_main_v74 V0 (ix4 0 r 0 j) : EReal) = Ideal.cos (ang r.val j.val) := by
  unfold ang
  pointwise [res_main_v74, res_main_v72, res_main_v0]

/-- The sin of the angles, as result 76 has them. -/
theorem t76 (r : Fin 16384) (j : Fin 8) : (res_main_v76 V0 (ix4 0 r 0 j) : EReal) = Ideal.sin (ang r.val j.val) := by
  unfold ang
  pointwise [res_main_v76, res_main_v72, res_main_v0]

/-- The cos of the angles, as result 105 has them. -/
theorem t105 (r : Fin 16384) (j : Fin 8) : (res_main_v105 V0 (ix4 0 r 0 j) : EReal) = Ideal.cos (ang r.val j.val) := by
  unfold ang
  pointwise [res_main_v105, res_main_v103, res_main_v0]

/-- The sin of the angles, as result 107 has them. -/
theorem t107 (r : Fin 16384) (j : Fin 8) : (res_main_v107 V0 (ix4 0 r 0 j) : EReal) = Ideal.sin (ang r.val j.val) := by
  unfold ang
  pointwise [res_main_v107, res_main_v103, res_main_v0]

/-- The cos of the angles, as result 136 has them. -/
theorem t136 (r : Fin 16384) (j : Fin 8) : (res_main_v136 V0 (ix4 0 r 0 j) : EReal) = Ideal.cos (ang r.val j.val) := by
  unfold ang
  pointwise [res_main_v136, res_main_v134, res_main_v0]

/-- The sin of the angles, as result 138 has them. -/
theorem t138 (r : Fin 16384) (j : Fin 8) : (res_main_v138 V0 (ix4 0 r 0 j) : EReal) = Ideal.sin (ang r.val j.val) := by
  unfold ang
  pointwise [res_main_v138, res_main_v134, res_main_v0]

/-- The cos of the angles, as result 166 has them. -/
theorem t166 (r : Fin 16384) (j : Fin 8) : (res_main_v166 V0 (ix3 0 r j) : EReal) = Ideal.cos (ang r.val j.val) := by
  unfold ang
  pointwise [res_main_v166, res_main_v164, res_main_v0]

/-- The sin of the angles, as result 168 has them. -/
theorem t168 (r : Fin 16384) (j : Fin 8) : (res_main_v168 V0 (ix3 0 r j) : EReal) = Ideal.sin (ang r.val j.val) := by
  unfold ang
  pointwise [res_main_v168, res_main_v164, res_main_v0]

/-- Result 0. -/
theorem ref0 (p : Fin 16384) (l : Fin 512) :
    ((shapeCast _ (mulf (res_main_v31 V0) (Host.divf (broadcastInDim S1x16384x512 ![] bcast_S_S1x16384x512 (constant (F := Ideal) S_ .f32 0x3F800000#32)) (addf (broadcastInDim S1x16384x512 ![] bcast_S_S1x16384x512 (constant (F := Ideal) S_ .f32 0x3F800000#32)) (Host.exp (Host.negf (res_main_v31 V0)))))) shapeCasts_S1x16384x512_S16384x512 : FVec Ideal S16384x512 .f32) (ix2 p l) : EReal) = silu (dot (bX V0) (bG V0) (bW V0) p (0 + l.val)) := by
  pointwise [res_main_v31]
  simp only [t30, Nat.zero_add]
  rfl

/-- Result 1. -/
theorem ref1 (p : Fin 16384) (l : Fin 512) :
    ((shapeCast _ (subf (broadcastInDim S1x16384x512 ![] bcast_S_S1x16384x512 (constant (F := Ideal) S_ .f32 0x3F800000#32)) (res_main_v55 V0)) shapeCasts_S1x16384x512_S16384x512 : FVec Ideal S16384x512 .f32) (ix2 p l) : EReal) = 1 - fgate (res_main_v14 V0 (ix1 l)) (dot (bX V0) (bG V0) (bW V0) p (512 + l.val)) := by
  pointwise [res_main_v55]
  simp only [t30]
  try rfl

/-- Result 2. -/
theorem ref2 (p : Fin 16384) (l : Fin 512) :
    ((shapeCast _ (Host.log (res_main_v55 V0)) shapeCasts_S1x16384x512_S16384x512 : FVec Ideal S16384x512 .f32) (ix2 p l) : EReal) = Ideal.log (fgate (res_main_v14 V0 (ix1 l)) (dot (bX V0) (bG V0) (bW V0) p (512 + l.val))) := by
  pointwise [res_main_v55]
  simp only [t30]
  try rfl

/-- Result 3. -/
theorem ref3 (p : Fin 16384) (l : Fin 512) :
    ((shapeCast _ (extractStridedSlice S1x16384x512 ![0, 0, 1024] (res_main_v30 V0) slices_S1x16384x4168_S1x16384x512_0_0_1024) shapeCasts_S1x16384x512_S16384x512 : FVec Ideal S16384x512 .f32) (ix2 p l) : EReal) = dot (bX V0) (bG V0) (bW V0) p (1024 + l.val) := by
  pointwise
  simp only [t30]
  try rfl

/-- Result 4. -/
theorem ref4 (p : Fin 16384) (l : Fin 512) :
    ((shapeCast _ (mulf (res_main_v34 V0) (Host.divf (broadcastInDim S1x16384x512 ![] bcast_S_S1x16384x512 (constant (F := Ideal) S_ .f32 0x3F800000#32)) (addf (broadcastInDim S1x16384x512 ![] bcast_S_S1x16384x512 (constant (F := Ideal) S_ .f32 0x3F800000#32)) (Host.exp (Host.negf (res_main_v34 V0)))))) shapeCasts_S1x16384x512_S16384x512 : FVec Ideal S16384x512 .f32) (ix2 p l) : EReal) = silu (dot (bX V0) (bG V0) (bW V0) p (1536 + l.val)) := by
  pointwise [res_main_v34]
  simp only [t30]
  try rfl

/-- Result 5. -/
theorem ref5 (p : Fin 16384) (l : Fin 512) :
    ((shapeCast _ ((concatenate S1x16384x8x64 3 [⟨S1x16384x8x8, ((subf (mulf (res_main_v77 V0) (broadcastInDim S1x16384x8x8 ![0, 1, 2, 3] bcast_S1x16384x1x8_S1x16384x8x8_0_1_2_3 (res_main_v74 V0))) (mulf (res_main_v78 V0) (broadcastInDim S1x16384x8x8 ![0, 1, 2, 3] bcast_S1x16384x1x8_S1x16384x8x8_0_1_2_3 (res_main_v76 V0)))) : (⟨S1x16384x8x8, .f32⟩ : BufTy).Contents (Elt Ideal))⟩, ⟨S1x16384x8x8, ((addf (mulf (res_main_v78 V0) (broadcastInDim S1x16384x8x8 ![0, 1, 2, 3] bcast_S1x16384x1x8_S1x16384x8x8_0_1_2_3 (res_main_v74 V0))) (mulf (res_main_v77 V0) (broadcastInDim S1x16384x8x8 ![0, 1, 2, 3] bcast_S1x16384x1x8_S1x16384x8x8_0_1_2_3 (res_main_v76 V0)))) : (⟨S1x16384x8x8, .f32⟩ : BufTy).Contents (Elt Ideal))⟩, ⟨S1x16384x8x48, ((extractStridedSlice S1x16384x8x48 ![0, 0, 0, 16] (res_main_v60 V0) slices_S1x16384x8x64_S1x16384x8x48_0_0_0_16) : (⟨S1x16384x8x48, .f32⟩ : BufTy).Contents (Elt Ideal))⟩] concatenates_S1x16384x8x8_S1x16384x8x8_S1x16384x8x48_S1x16384x8x64_d3 : (⟨S1x16384x8x64, .f32⟩ : BufTy).Contents (Elt Ideal))) shapeCasts_S1x16384x8x64_S16384x512 : FVec Ideal S16384x512 .f32) (ix2 p l) : EReal) = rot (fun j => dot (bX V0) (bG V0) (bW V0) p (2048 + l.val / 64 * 64 + j)) p.val (l.val % 64) := by
  pointwise [res_main_v60, res_main_v77, res_main_v78]
  by_cases h : l.val % 64 < 8
  · rw [dif_pos h]
    simp only [t30, t74, t76]
    exact rot_lo _ _ _ h _ _ (congrArg (dot (bX V0) (bG V0) (bW V0) p) (by omega)) (congrArg (dot (bX V0) (bG V0) (bW V0) p) (by omega))
  · rw [dif_neg h]
    by_cases h' : l.val % 64 - 8 < 8
    · rw [dif_pos h']
      simp only [t30, t74, t76]
      exact rot_mid _ _ _ h h' _ _ (congrArg (dot (bX V0) (bG V0) (bW V0) p) (by omega)) (congrArg (dot (bX V0) (bG V0) (bW V0) p) (by omega))
    · rw [dif_neg h']
      simp only [t30]
      exact rot_hi _ _ _ h h' _ (congrArg (dot (bX V0) (bG V0) (bW V0) p) (by omega))

/-- Result 6. -/
theorem ref6 (p : Fin 16384) (l : Fin 512) :
    ((shapeCast _ ((concatenate S1x16384x8x64 3 [⟨S1x16384x8x8, ((subf (mulf (res_main_v108 V0) (broadcastInDim S1x16384x8x8 ![0, 1, 2, 3] bcast_S1x16384x1x8_S1x16384x8x8_0_1_2_3 (res_main_v105 V0))) (mulf (res_main_v109 V0) (broadcastInDim S1x16384x8x8 ![0, 1, 2, 3] bcast_S1x16384x1x8_S1x16384x8x8_0_1_2_3 (res_main_v107 V0)))) : (⟨S1x16384x8x8, .f32⟩ : BufTy).Contents (Elt Ideal))⟩, ⟨S1x16384x8x8, ((addf (mulf (res_main_v109 V0) (broadcastInDim S1x16384x8x8 ![0, 1, 2, 3] bcast_S1x16384x1x8_S1x16384x8x8_0_1_2_3 (res_main_v105 V0))) (mulf (res_main_v108 V0) (broadcastInDim S1x16384x8x8 ![0, 1, 2, 3] bcast_S1x16384x1x8_S1x16384x8x8_0_1_2_3 (res_main_v107 V0)))) : (⟨S1x16384x8x8, .f32⟩ : BufTy).Contents (Elt Ideal))⟩, ⟨S1x16384x8x48, ((extractStridedSlice S1x16384x8x48 ![0, 0, 0, 16] (res_main_v91 V0) slices_S1x16384x8x64_S1x16384x8x48_0_0_0_16) : (⟨S1x16384x8x48, .f32⟩ : BufTy).Contents (Elt Ideal))⟩] concatenates_S1x16384x8x8_S1x16384x8x8_S1x16384x8x48_S1x16384x8x64_d3 : (⟨S1x16384x8x64, .f32⟩ : BufTy).Contents (Elt Ideal))) shapeCasts_S1x16384x8x64_S16384x512 : FVec Ideal S16384x512 .f32) (ix2 p l) : EReal) = rot (fun j => dot (bX V0) (bG V0) (bW V0) p (2560 + l.val / 64 * 64 + j)) p.val (l.val % 64) := by
  pointwise [res_main_v91, res_main_v108, res_main_v109]
  by_cases h : l.val % 64 < 8
  · rw [dif_pos h]
    simp only [t30, t105, t107]
    exact rot_lo _ _ _ h _ _ (congrArg (dot (bX V0) (bG V0) (bW V0) p) (by omega)) (congrArg (dot (bX V0) (bG V0) (bW V0) p) (by omega))
  · rw [dif_neg h]
    by_cases h' : l.val % 64 - 8 < 8
    · rw [dif_pos h']
      simp only [t30, t105, t107]
      exact rot_mid _ _ _ h h' _ _ (congrArg (dot (bX V0) (bG V0) (bW V0) p) (by omega)) (congrArg (dot (bX V0) (bG V0) (bW V0) p) (by omega))
    · rw [dif_neg h']
      simp only [t30]
      exact rot_hi _ _ _ h h' _ (congrArg (dot (bX V0) (bG V0) (bW V0) p) (by omega))

/-- Result 7. -/
theorem ref7 (p : Fin 16384) (l : Fin 512) :
    ((shapeCast _ (extractStridedSlice S1x16384x512 ![0, 0, 3072] (res_main_v30 V0) slices_S1x16384x4168_S1x16384x512_0_0_3072) shapeCasts_S1x16384x512_S16384x512 : FVec Ideal S16384x512 .f32) (ix2 p l) : EReal) = dot (bX V0) (bG V0) (bW V0) p (3072 + l.val) := by
  pointwise
  simp only [t30]
  try rfl

/-- Result 8. -/
theorem ref8 (p : Fin 16384) (l : Fin 512) :
    ((shapeCast _ ((concatenate S1x16384x8x64 3 [⟨S1x16384x8x8, ((subf (mulf (res_main_v139 V0) (broadcastInDim S1x16384x8x8 ![0, 1, 2, 3] bcast_S1x16384x1x8_S1x16384x8x8_0_1_2_3 (res_main_v136 V0))) (mulf (res_main_v140 V0) (broadcastInDim S1x16384x8x8 ![0, 1, 2, 3] bcast_S1x16384x1x8_S1x16384x8x8_0_1_2_3 (res_main_v138 V0)))) : (⟨S1x16384x8x8, .f32⟩ : BufTy).Contents (Elt Ideal))⟩, ⟨S1x16384x8x8, ((addf (mulf (res_main_v140 V0) (broadcastInDim S1x16384x8x8 ![0, 1, 2, 3] bcast_S1x16384x1x8_S1x16384x8x8_0_1_2_3 (res_main_v136 V0))) (mulf (res_main_v139 V0) (broadcastInDim S1x16384x8x8 ![0, 1, 2, 3] bcast_S1x16384x1x8_S1x16384x8x8_0_1_2_3 (res_main_v138 V0)))) : (⟨S1x16384x8x8, .f32⟩ : BufTy).Contents (Elt Ideal))⟩, ⟨S1x16384x8x48, ((extractStridedSlice S1x16384x8x48 ![0, 0, 0, 16] (res_main_v122 V0) slices_S1x16384x8x64_S1x16384x8x48_0_0_0_16) : (⟨S1x16384x8x48, .f32⟩ : BufTy).Contents (Elt Ideal))⟩] concatenates_S1x16384x8x8_S1x16384x8x8_S1x16384x8x48_S1x16384x8x64_d3 : (⟨S1x16384x8x64, .f32⟩ : BufTy).Contents (Elt Ideal))) shapeCasts_S1x16384x8x64_S16384x512 : FVec Ideal S16384x512 .f32) (ix2 p l) : EReal) = rot (fun j => dot (bX V0) (bG V0) (bW V0) p (3584 + l.val / 64 * 64 + j)) p.val (l.val % 64) := by
  pointwise [res_main_v122, res_main_v139, res_main_v140]
  by_cases h : l.val % 64 < 8
  · rw [dif_pos h]
    simp only [t30, t136, t138]
    exact rot_lo _ _ _ h _ _ (congrArg (dot (bX V0) (bG V0) (bW V0) p) (by omega)) (congrArg (dot (bX V0) (bG V0) (bW V0) p) (by omega))
  · rw [dif_neg h]
    by_cases h' : l.val % 64 - 8 < 8
    · rw [dif_pos h']
      simp only [t30, t136, t138]
      exact rot_mid _ _ _ h h' _ _ (congrArg (dot (bX V0) (bG V0) (bW V0) p) (by omega)) (congrArg (dot (bX V0) (bG V0) (bW V0) p) (by omega))
    · rw [dif_neg h']
      simp only [t30]
      exact rot_hi _ _ _ h h' _ (congrArg (dot (bX V0) (bG V0) (bW V0) p) (by omega))

/-- Result 9. -/
theorem ref9 (p : Fin 16384) (l : Fin 128) :
    (((concatenate S16384x128 1 [⟨S16384x64, ((shapeCast _ ((concatenate S1x16384x64 2 [⟨S1x16384x8, ((subf (mulf (res_main_v169 V0) (res_main_v166 V0)) (mulf (res_main_v170 V0) (res_main_v168 V0))) : (⟨S1x16384x8, .f32⟩ : BufTy).Contents (Elt Ideal))⟩, ⟨S1x16384x8, ((addf (mulf (res_main_v170 V0) (res_main_v166 V0)) (mulf (res_main_v169 V0) (res_main_v168 V0))) : (⟨S1x16384x8, .f32⟩ : BufTy).Contents (Elt Ideal))⟩, ⟨S1x16384x48, ((extractStridedSlice S1x16384x48 ![0, 0, 16] (res_main_v39 V0) slices_S1x16384x64_S1x16384x48_0_0_16) : (⟨S1x16384x48, .f32⟩ : BufTy).Contents (Elt Ideal))⟩] concatenates_S1x16384x8_S1x16384x8_S1x16384x48_S1x16384x64_d2 : (⟨S1x16384x64, .f32⟩ : BufTy).Contents (Elt Ideal))) shapeCasts_S1x16384x64_S16384x64) : (⟨S16384x64, .f32⟩ : BufTy).Contents (Elt Ideal))⟩, ⟨S16384x8, ((shapeCast _ (mulf (extractStridedSlice S1x16384x8 ![0, 0, 4160] (res_main_v30 V0) slices_S1x16384x4168_S1x16384x8_0_0_4160) (broadcastInDim S1x16384x8 ![] bcast_S_S1x16384x8 (constant (F := Ideal) S_ .f32 0x3D3504F3#32))) shapeCasts_S1x16384x8_S16384x8) : (⟨S16384x8, .f32⟩ : BufTy).Contents (Elt Ideal))⟩, ⟨S16384x56, ((broadcastInDim S16384x56 ![] bcast_S_S16384x56 (constant (F := Ideal) S_ .f32 0x00000000#32)) : (⟨S16384x56, .f32⟩ : BufTy).Contents (Elt Ideal))⟩] concatenates_S16384x64_S16384x8_S16384x56_S16384x128_d1 : (⟨S16384x128, .f32⟩ : BufTy).Contents (Elt Ideal)) : FVec Ideal S16384x128 .f32) (ix2 p l) : EReal) = if l.val < 64 then rot (fun j => dot (bX V0) (bG V0) (bW V0) p (4096 + j)) p.val l.val else dot (bX V0) (bG V0) (bW V0) p (4096 + l.val) * Ideal.ofBits .f32 1026884851#32 := by
  pointwise [res_main_v39, res_main_v169, res_main_v170]
  by_cases h0 : l.val < 64
  · refine (dif_pos h0).trans (Eq.trans ?_ (if_pos h0).symm)
    by_cases h : l.val < 8
    · rw [dif_pos h]
      simp only [t30, t166, t168]
      exact rot_lo _ _ _ h _ _ (congrArg (dot (bX V0) (bG V0) (bW V0) p) (by omega)) (congrArg (dot (bX V0) (bG V0) (bW V0) p) (by omega))
    · rw [dif_neg h]
      by_cases h' : l.val - 8 < 8
      · rw [dif_pos h']
        simp only [t30, t166, t168]
        exact rot_mid _ _ _ h h' _ _ (congrArg (dot (bX V0) (bG V0) (bW V0) p) (by omega)) (congrArg (dot (bX V0) (bG V0) (bW V0) p) (by omega))
      · rw [dif_neg h']
        simp only [t30]
        exact rot_hi _ _ _ h h' _ (congrArg (dot (bX V0) (bG V0) (bW V0) p) (by omega))
  · refine (dif_neg h0).trans (Eq.trans ?_ (if_neg h0).symm)
    by_cases h : l.val - 64 < 8
    · rw [dif_pos h]
      simp only [t30]
      exact congrArg (fun n : ℕ => (dot (bX V0) (bG V0) (bW V0) p n * Ideal.ofBits .f32 1026884851#32 : EReal)) (by omega)
    · rw [dif_neg h, dot_zero _ _ _ _ _ (by omega), zero_mul]

end Cert.Reference3Ideal.Proj

end
-- ==== Proof.Projection.lean ====
/- The projections of the prompt: the kernel's run and the reference's end with the same ten arrays, over the extended
   reals. -/
module

public import proofs.«01_k».proof.Defs
public import proofs.«01_k».proof.Proof.ProjValue
public import proofs.«01_k».proof.Proof.ProjRef

@[expose] public section
set_option maxRecDepth 16384

noncomputable section

namespace Cert.Proof

open Idealize.ShloMosaic Idealize.ShloMosaic.StableHlo Idealize.ShloMosaic.Pointwise Idealize.SL.Sem

/-- The reference's frame. -/
theorem frame_r3 : Cert.quiescent_Reference3Ideal := fun m ρ _ =>
  (θ_run (Cert.Reference3Ideal.defs (F := Ideal)) _ _).mono (fun r h => ⟨fun c => (h c).2.2.2.2.2.2.2.2.2.2, sem_eq_zero_of_no_sems (by decide) r.2⟩)
    (Cert.Reference3Ideal.Value.run (F := Ideal) m ρ)

/-- The reference's lower bound is the kernel's, of the same logits. -/
theorem bound_eq (V0 : Valuation Cert.Reference3Ideal.τ Cert.Reference3Ideal.sig (Elt Ideal)) :
    Cert.Reference3Ideal.Value.res_main_v14 V0 = Cert.Kernel3Ideal.Proj.lbV (V0 (Proc.devRef .tc Cert.Reference3Ideal.main_arg3)) := rfl

set_option maxHeartbeats 4000000 in
/-- The kernel and the reference end with equal arrays. -/
theorem projections : Cert.algebraic_Kernel3Ideal_Reference3Ideal := by
  intro m g m' g' _ ha
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N,
    Cert.Kernel3Ideal.Value.run_blocks m g, ?_⟩
  refine (θ_run (Cert.Reference3Ideal.defs (F := Ideal)) _ _).mono (fun r h c => ?_) (Cert.Reference3Ideal.Value.run (F := Ideal) m' g')
  obtain ⟨h0, h1, h2, h3, h4, h5, h6, h7, h8, h9, hf⟩ := h c
  obtain ⟨a0, a1, a2, a3⟩ := ha c
  have eX : Cert.Reference3Ideal.Proj.bX (launchContents m' c) = Cert.Kernel3Ideal.Proj.aX m c :=
    congrArg (fun (x : FVec Ideal Cert.Kernel3Ideal.S1x16384x1024 .f32) (p : Fin 16384) (d : Fin 1024) => (x (ix3 0 p d) : EReal)) a0
  have eG : Cert.Reference3Ideal.Proj.bG (launchContents m' c) = Cert.Kernel3Ideal.Proj.aG m c :=
    congrArg (fun (x : FVec Ideal Cert.Kernel3Ideal.S1x1024 .f32) (d : Fin 1024) => (x (ix2 0 d) : EReal)) a1
  have eW : Cert.Reference3Ideal.Proj.bW (launchContents m' c) = Cert.Kernel3Ideal.Proj.aW m c :=
    congrArg (fun (x : FVec Ideal Cert.Kernel3Ideal.S1x1024x4168 .f32) (d : Fin 1024) (j : Fin 4168) => (x (ix3 0 d j) : EReal)) a2
  have eL : ∀ l : Fin 512, (Cert.Reference3Ideal.Value.res_main_v14 (launchContents m' c) (ix1 l) : EReal) = Cert.Kernel3Ideal.Proj.aL m c l := fun l =>
    (congrFun (bound_eq (launchContents m' c)) (ix1 l)).trans (congrArg (fun x => (Cert.Kernel3Ideal.Proj.lbV x (ix1 l) : EReal)) a3)
  refine ⟨h0.trans ?_, h1.trans ?_, h2.trans ?_, h3.trans ?_, h4.trans ?_, h5.trans ?_, h6.trans ?_, h7.trans ?_, h8.trans ?_, h9.trans ?_, hf⟩
  · funext i
    change Cert.Reference3Ideal.S16384x512.Idx at i
    idx_vars i
    refine (Cert.Reference3Ideal.Proj.ref0 (launchContents m' c) _ _).trans ?_
    rw [eX, eG, eW]
    exact (Cert.Kernel3Ideal.Proj.arr0 m c _ _).symm
  · funext i
    change Cert.Reference3Ideal.S16384x512.Idx at i
    idx_vars i
    refine (Cert.Reference3Ideal.Proj.ref1 (launchContents m' c) _ _).trans ?_
    rw [eL, eX, eG, eW]
    exact (Cert.Kernel3Ideal.Proj.arr1 m c _ _).symm
  · funext i
    change Cert.Reference3Ideal.S16384x512.Idx at i
    idx_vars i
    refine (Cert.Reference3Ideal.Proj.ref2 (launchContents m' c) _ _).trans ?_
    rw [eL, eX, eG, eW]
    exact (Cert.Kernel3Ideal.Proj.arr2 m c _ _).symm
  · funext i
    change Cert.Reference3Ideal.S16384x512.Idx at i
    idx_vars i
    refine (Cert.Reference3Ideal.Proj.ref3 (launchContents m' c) _ _).trans ?_
    rw [eX, eG, eW]
    exact (Cert.Kernel3Ideal.Proj.arr3 m c _ _).symm
  · funext i
    change Cert.Reference3Ideal.S16384x512.Idx at i
    idx_vars i
    refine (Cert.Reference3Ideal.Proj.ref4 (launchContents m' c) _ _).trans ?_
    rw [eX, eG, eW]
    exact (Cert.Kernel3Ideal.Proj.arr4 m c _ _).symm
  · funext i
    change Cert.Reference3Ideal.S16384x512.Idx at i
    idx_vars i
    refine (Cert.Reference3Ideal.Proj.ref5 (launchContents m' c) _ _).trans ?_
    rw [eX, eG, eW]
    exact (Cert.Kernel3Ideal.Proj.arr5 m c _ _).symm
  · funext i
    change Cert.Reference3Ideal.S16384x512.Idx at i
    idx_vars i
    refine (Cert.Reference3Ideal.Proj.ref6 (launchContents m' c) _ _).trans ?_
    rw [eX, eG, eW]
    exact (Cert.Kernel3Ideal.Proj.arr6 m c _ _).symm
  · funext i
    change Cert.Reference3Ideal.S16384x512.Idx at i
    idx_vars i
    refine (Cert.Reference3Ideal.Proj.ref7 (launchContents m' c) _ _).trans ?_
    rw [eX, eG, eW]
    exact (Cert.Kernel3Ideal.Proj.arr7 m c _ _).symm
  · funext i
    change Cert.Reference3Ideal.S16384x512.Idx at i
    idx_vars i
    refine (Cert.Reference3Ideal.Proj.ref8 (launchContents m' c) _ _).trans ?_
    rw [eX, eG, eW]
    exact (Cert.Kernel3Ideal.Proj.arr8 m c _ _).symm
  · funext i
    change Cert.Reference3Ideal.S16384x128.Idx at i
    idx_vars i
    refine (Cert.Reference3Ideal.Proj.ref9 (launchContents m' c) _ _).trans ?_
    rw [eX, eG, eW]
    exact (Cert.Kernel3Ideal.Proj.arr9 m c _ _).symm

end Cert.Proof
-- ==== Proof.OutCases.lean ====
/- What a grid point of the output projection and feed-forward part leaves in its output blocks and in the carried rows:
   eleven tiles of 256 lanes, each the same function of its slices. -/
module

public import Idealize.ShloMosaic.Lib.Pointwise
public import Idealize.ShloMosaic.Lib.Pipeline.ValueKit
public import Idealize.ShloMosaic.Lib.Pipeline.ReadBack
public import proofs.«01_k».proof.Proof.Gen.Kernel2Ideal.Value

@[expose] public section
set_option maxRecDepth 16384

noncomputable section

namespace Cert.Kernel2Ideal.Out

open Idealize.ShloMosaic Idealize.ShloMosaic.TcCoe Cert.Kernel2Ideal Cert.Kernel2Ideal.Gen

variable {F : FTy → Type} [FloatOps F]

/-- One tile: the accumulated rows `x` and the tile's part of the feed-forward product, of the normalised rows `h`, the two
    slices `wu`, `wv` of the up projection, the carried rows `pr`, the bias `b`, the three taps and the slice `wd` of the down
    projection. -/
def tile (h : Vec F S512x1024 .bf16) (wu wv : Vec F S1024x256 .bf16) (pr : Vec F S8x256 .f32) (b w0 w1 w2 : Vec F S1x256 .f32)
    (x : Vec F S512x1024 .f32) (wd : Vec F S256x1024 .bf16) : FVec F S512x1024 .f32 :=
  k0_pay14 (k0_pay6 h wu) (k0_pay7 h wv) (k0_pay11 (iota Kind.tc S512x256 32 [0] iota_S512x256_d0_w32) h wu pr)
    (k0_pay12 (iota Kind.tc S512x256 32 [0] iota_S512x256_d0_w32) h wu pr) (k0_pay13 b) w0 w1 w2 x wd

/-- The rows before the first tile. -/
def acc0 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 := k0_pay4 x1 x2 x0 x5

/-- The rows after tile 0. -/
def acc1 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 0] S1024x256.size inb_S1024x5632_S1024x256_0_0)) (View.ld x7 (Rect.unit (s := S1024x5632) ![0, 2816] S1024x256.size inb_S1024x5632_S1024x256_0_2816)) (View.ld xs (Rect.unit (s := S8x2816) ![0, 0] S8x256.size inb_S8x2816_S8x256_0_0)) (View.ld x9 (Rect.unit (s := S1x2816) ![0, 0] S1x256.size inb_S1x2816_S1x256_0_0)) (View.ld x8 (Rect.unit (s := S3x2816) ![0, 0] S1x256.size inb_S3x2816_S1x256_0_0)) (View.ld x8 (Rect.unit (s := S3x2816) ![1, 0] S1x256.size inb_S3x2816_S1x256_1_0)) (View.ld x8 (Rect.unit (s := S3x2816) ![2, 0] S1x256.size inb_S3x2816_S1x256_2_0)) (acc0 x0 x1 x2 x5 x6 x7 x8 x9 x10 xs) (View.ld x10 (Rect.unit (s := S2816x1024) ![0, 0] S256x1024.size inb_S2816x1024_S256x1024_0_0)))

/-- The rows after tile 1. -/
def acc2 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 256] S1024x256.size inb_S1024x5632_S1024x256_0_256)) (View.ld x7 (Rect.unit (s := S1024x5632) ![0, 3072] S1024x256.size inb_S1024x5632_S1024x256_0_3072)) (View.ld xs (Rect.unit (s := S8x2816) ![0, 256] S8x256.size inb_S8x2816_S8x256_0_256)) (View.ld x9 (Rect.unit (s := S1x2816) ![0, 256] S1x256.size inb_S1x2816_S1x256_0_256)) (View.ld x8 (Rect.unit (s := S3x2816) ![0, 256] S1x256.size inb_S3x2816_S1x256_0_256)) (View.ld x8 (Rect.unit (s := S3x2816) ![1, 256] S1x256.size inb_S3x2816_S1x256_1_256)) (View.ld x8 (Rect.unit (s := S3x2816) ![2, 256] S1x256.size inb_S3x2816_S1x256_2_256)) (acc1 x0 x1 x2 x5 x6 x7 x8 x9 x10 xs) (View.ld x10 (Rect.unit (s := S2816x1024) ![256, 0] S256x1024.size inb_S2816x1024_S256x1024_256_0)))

/-- The rows after tile 2. -/
def acc3 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 512] S1024x256.size inb_S1024x5632_S1024x256_0_512)) (View.ld x7 (Rect.unit (s := S1024x5632) ![0, 3328] S1024x256.size inb_S1024x5632_S1024x256_0_3328)) (View.ld xs (Rect.unit (s := S8x2816) ![0, 512] S8x256.size inb_S8x2816_S8x256_0_512)) (View.ld x9 (Rect.unit (s := S1x2816) ![0, 512] S1x256.size inb_S1x2816_S1x256_0_512)) (View.ld x8 (Rect.unit (s := S3x2816) ![0, 512] S1x256.size inb_S3x2816_S1x256_0_512)) (View.ld x8 (Rect.unit (s := S3x2816) ![1, 512] S1x256.size inb_S3x2816_S1x256_1_512)) (View.ld x8 (Rect.unit (s := S3x2816) ![2, 512] S1x256.size inb_S3x2816_S1x256_2_512)) (acc2 x0 x1 x2 x5 x6 x7 x8 x9 x10 xs) (View.ld x10 (Rect.unit (s := S2816x1024) ![512, 0] S256x1024.size inb_S2816x1024_S256x1024_512_0)))

/-- The rows after tile 3. -/
def acc4 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 768] S1024x256.size inb_S1024x5632_S1024x256_0_768)) (View.ld x7 (Rect.unit (s := S1024x5632) ![0, 3584] S1024x256.size inb_S1024x5632_S1024x256_0_3584)) (View.ld xs (Rect.unit (s := S8x2816) ![0, 768] S8x256.size inb_S8x2816_S8x256_0_768)) (View.ld x9 (Rect.unit (s := S1x2816) ![0, 768] S1x256.size inb_S1x2816_S1x256_0_768)) (View.ld x8 (Rect.unit (s := S3x2816) ![0, 768] S1x256.size inb_S3x2816_S1x256_0_768)) (View.ld x8 (Rect.unit (s := S3x2816) ![1, 768] S1x256.size inb_S3x2816_S1x256_1_768)) (View.ld x8 (Rect.unit (s := S3x2816) ![2, 768] S1x256.size inb_S3x2816_S1x256_2_768)) (acc3 x0 x1 x2 x5 x6 x7 x8 x9 x10 xs) (View.ld x10 (Rect.unit (s := S2816x1024) ![768, 0] S256x1024.size inb_S2816x1024_S256x1024_768_0)))

/-- The rows after tile 4. -/
def acc5 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 1024] S1024x256.size inb_S1024x5632_S1024x256_0_1024)) (View.ld x7 (Rect.unit (s := S1024x5632) ![0, 3840] S1024x256.size inb_S1024x5632_S1024x256_0_3840)) (View.ld xs (Rect.unit (s := S8x2816) ![0, 1024] S8x256.size inb_S8x2816_S8x256_0_1024)) (View.ld x9 (Rect.unit (s := S1x2816) ![0, 1024] S1x256.size inb_S1x2816_S1x256_0_1024)) (View.ld x8 (Rect.unit (s := S3x2816) ![0, 1024] S1x256.size inb_S3x2816_S1x256_0_1024)) (View.ld x8 (Rect.unit (s := S3x2816) ![1, 1024] S1x256.size inb_S3x2816_S1x256_1_1024)) (View.ld x8 (Rect.unit (s := S3x2816) ![2, 1024] S1x256.size inb_S3x2816_S1x256_2_1024)) (acc4 x0 x1 x2 x5 x6 x7 x8 x9 x10 xs) (View.ld x10 (Rect.unit (s := S2816x1024) ![1024, 0] S256x1024.size inb_S2816x1024_S256x1024_1024_0)))

/-- The rows after tile 5. -/
def acc6 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 1280] S1024x256.size inb_S1024x5632_S1024x256_0_1280)) (View.ld x7 (Rect.unit (s := S1024x5632) ![0, 4096] S1024x256.size inb_S1024x5632_S1024x256_0_4096)) (View.ld xs (Rect.unit (s := S8x2816) ![0, 1280] S8x256.size inb_S8x2816_S8x256_0_1280)) (View.ld x9 (Rect.unit (s := S1x2816) ![0, 1280] S1x256.size inb_S1x2816_S1x256_0_1280)) (View.ld x8 (Rect.unit (s := S3x2816) ![0, 1280] S1x256.size inb_S3x2816_S1x256_0_1280)) (View.ld x8 (Rect.unit (s := S3x2816) ![1, 1280] S1x256.size inb_S3x2816_S1x256_1_1280)) (View.ld x8 (Rect.unit (s := S3x2816) ![2, 1280] S1x256.size inb_S3x2816_S1x256_2_1280)) (acc5 x0 x1 x2 x5 x6 x7 x8 x9 x10 xs) (View.ld x10 (Rect.unit (s := S2816x1024) ![1280, 0] S256x1024.size inb_S2816x1024_S256x1024_1280_0)))

/-- The rows after tile 6. -/
def acc7 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 1536] S1024x256.size inb_S1024x5632_S1024x256_0_1536)) (View.ld x7 (Rect.unit (s := S1024x5632) ![0, 4352] S1024x256.size inb_S1024x5632_S1024x256_0_4352)) (View.ld xs (Rect.unit (s := S8x2816) ![0, 1536] S8x256.size inb_S8x2816_S8x256_0_1536)) (View.ld x9 (Rect.unit (s := S1x2816) ![0, 1536] S1x256.size inb_S1x2816_S1x256_0_1536)) (View.ld x8 (Rect.unit (s := S3x2816) ![0, 1536] S1x256.size inb_S3x2816_S1x256_0_1536)) (View.ld x8 (Rect.unit (s := S3x2816) ![1, 1536] S1x256.size inb_S3x2816_S1x256_1_1536)) (View.ld x8 (Rect.unit (s := S3x2816) ![2, 1536] S1x256.size inb_S3x2816_S1x256_2_1536)) (acc6 x0 x1 x2 x5 x6 x7 x8 x9 x10 xs) (View.ld x10 (Rect.unit (s := S2816x1024) ![1536, 0] S256x1024.size inb_S2816x1024_S256x1024_1536_0)))

/-- The rows after tile 7. -/
def acc8 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 1792] S1024x256.size inb_S1024x5632_S1024x256_0_1792)) (View.ld x7 (Rect.unit (s := S1024x5632) ![0, 4608] S1024x256.size inb_S1024x5632_S1024x256_0_4608)) (View.ld xs (Rect.unit (s := S8x2816) ![0, 1792] S8x256.size inb_S8x2816_S8x256_0_1792)) (View.ld x9 (Rect.unit (s := S1x2816) ![0, 1792] S1x256.size inb_S1x2816_S1x256_0_1792)) (View.ld x8 (Rect.unit (s := S3x2816) ![0, 1792] S1x256.size inb_S3x2816_S1x256_0_1792)) (View.ld x8 (Rect.unit (s := S3x2816) ![1, 1792] S1x256.size inb_S3x2816_S1x256_1_1792)) (View.ld x8 (Rect.unit (s := S3x2816) ![2, 1792] S1x256.size inb_S3x2816_S1x256_2_1792)) (acc7 x0 x1 x2 x5 x6 x7 x8 x9 x10 xs) (View.ld x10 (Rect.unit (s := S2816x1024) ![1792, 0] S256x1024.size inb_S2816x1024_S256x1024_1792_0)))

/-- The rows after tile 8. -/
def acc9 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 2048] S1024x256.size inb_S1024x5632_S1024x256_0_2048)) (View.ld x7 (Rect.unit (s := S1024x5632) ![0, 4864] S1024x256.size inb_S1024x5632_S1024x256_0_4864)) (View.ld xs (Rect.unit (s := S8x2816) ![0, 2048] S8x256.size inb_S8x2816_S8x256_0_2048)) (View.ld x9 (Rect.unit (s := S1x2816) ![0, 2048] S1x256.size inb_S1x2816_S1x256_0_2048)) (View.ld x8 (Rect.unit (s := S3x2816) ![0, 2048] S1x256.size inb_S3x2816_S1x256_0_2048)) (View.ld x8 (Rect.unit (s := S3x2816) ![1, 2048] S1x256.size inb_S3x2816_S1x256_1_2048)) (View.ld x8 (Rect.unit (s := S3x2816) ![2, 2048] S1x256.size inb_S3x2816_S1x256_2_2048)) (acc8 x0 x1 x2 x5 x6 x7 x8 x9 x10 xs) (View.ld x10 (Rect.unit (s := S2816x1024) ![2048, 0] S256x1024.size inb_S2816x1024_S256x1024_2048_0)))

/-- The rows after tile 9. -/
def acc10 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 2304] S1024x256.size inb_S1024x5632_S1024x256_0_2304)) (View.ld x7 (Rect.unit (s := S1024x5632) ![0, 5120] S1024x256.size inb_S1024x5632_S1024x256_0_5120)) (View.ld xs (Rect.unit (s := S8x2816) ![0, 2304] S8x256.size inb_S8x2816_S8x256_0_2304)) (View.ld x9 (Rect.unit (s := S1x2816) ![0, 2304] S1x256.size inb_S1x2816_S1x256_0_2304)) (View.ld x8 (Rect.unit (s := S3x2816) ![0, 2304] S1x256.size inb_S3x2816_S1x256_0_2304)) (View.ld x8 (Rect.unit (s := S3x2816) ![1, 2304] S1x256.size inb_S3x2816_S1x256_1_2304)) (View.ld x8 (Rect.unit (s := S3x2816) ![2, 2304] S1x256.size inb_S3x2816_S1x256_2_2304)) (acc9 x0 x1 x2 x5 x6 x7 x8 x9 x10 xs) (View.ld x10 (Rect.unit (s := S2816x1024) ![2304, 0] S256x1024.size inb_S2816x1024_S256x1024_2304_0)))

/-- The rows after tile 10. -/
def acc11 (x0 : Vec F S512x1024 .f32) (x1 : Vec F S512x512 .f32) (x2 : Vec F S512x512 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (xs : Vec F S8x2816 .f32) : FVec F S512x1024 .f32 :=
  (tile (k0_pay3 x1 x2 x0 x5 x6) (View.ld x7 (Rect.unit (s := S1024x5632) ![0, 2560] S1024x256.size inb_S1024x5632_S1024x256_0_2560)) (View.ld x7 (Rect.unit (s := S1024x5632) ![0, 5376] S1024x256.size inb_S1024x5632_S1024x256_0_5376)) (View.ld xs (Rect.unit (s := S8x2816) ![0, 2560] S8x256.size inb_S8x2816_S8x256_0_2560)) (View.ld x9 (Rect.unit (s := S1x2816) ![0, 2560] S1x256.size inb_S1x2816_S1x256_0_2560)) (View.ld x8 (Rect.unit (s := S3x2816) ![0, 2560] S1x256.size inb_S3x2816_S1x256_0_2560)) (View.ld x8 (Rect.unit (s := S3x2816) ![1, 2560] S1x256.size inb_S3x2816_S1x256_1_2560)) (View.ld x8 (Rect.unit (s := S3x2816) ![2, 2560] S1x256.size inb_S3x2816_S1x256_2_2560)) (acc10 x0 x1 x2 x5 x6 x7 x8 x9 x10 xs) (View.ld x10 (Rect.unit (s := S2816x1024) ![2560, 0] S256x1024.size inb_S2816x1024_S256x1024_2560_0)))

/-- The eleven stores of the carried rows, the last one first. -/
def carP (x0 : Vec F S512x1024 .f32) (x1 : Vec F S512x512 .f32) (x2 : Vec F S512x512 .f32) (x5 : Vec F S1024x1024 .bf16) (x6 : Vec F S1x1024 .f32) (x7 : Vec F S1024x5632 .bf16) : List (View.Piece (Elt F) S8x2816 .f32) :=
  [ ⟨(Rect.unit (s := S8x2816) ![0, 2560] S8x256.size inb_S8x2816_S8x256_0_2560), k0_pay9 (k0_pay3 x1 x2 x0 x5 x6) (View.ld x7 (Rect.unit (s := S1024x5632) ![0, 2560] S1024x256.size inb_S1024x5632_S1024x256_0_2560))⟩,
    ⟨(Rect.unit (s := S8x2816) ![0, 2304] S8x256.size inb_S8x2816_S8x256_0_2304), k0_pay9 (k0_pay3 x1 x2 x0 x5 x6) (View.ld x7 (Rect.unit (s := S1024x5632) ![0, 2304] S1024x256.size inb_S1024x5632_S1024x256_0_2304))⟩,
    ⟨(Rect.unit (s := S8x2816) ![0, 2048] S8x256.size inb_S8x2816_S8x256_0_2048), k0_pay9 (k0_pay3 x1 x2 x0 x5 x6) (View.ld x7 (Rect.unit (s := S1024x5632) ![0, 2048] S1024x256.size inb_S1024x5632_S1024x256_0_2048))⟩,
    ⟨(Rect.unit (s := S8x2816) ![0, 1792] S8x256.size inb_S8x2816_S8x256_0_1792), k0_pay9 (k0_pay3 x1 x2 x0 x5 x6) (View.ld x7 (Rect.unit (s := S1024x5632) ![0, 1792] S1024x256.size inb_S1024x5632_S1024x256_0_1792))⟩,
    ⟨(Rect.unit (s := S8x2816) ![0, 1536] S8x256.size inb_S8x2816_S8x256_0_1536), k0_pay9 (k0_pay3 x1 x2 x0 x5 x6) (View.ld x7 (Rect.unit (s := S1024x5632) ![0, 1536] S1024x256.size inb_S1024x5632_S1024x256_0_1536))⟩,
    ⟨(Rect.unit (s := S8x2816) ![0, 1280] S8x256.size inb_S8x2816_S8x256_0_1280), k0_pay9 (k0_pay3 x1 x2 x0 x5 x6) (View.ld x7 (Rect.unit (s := S1024x5632) ![0, 1280] S1024x256.size inb_S1024x5632_S1024x256_0_1280))⟩,
    ⟨(Rect.unit (s := S8x2816) ![0, 1024] S8x256.size inb_S8x2816_S8x256_0_1024), k0_pay9 (k0_pay3 x1 x2 x0 x5 x6) (View.ld x7 (Rect.unit (s := S1024x5632) ![0, 1024] S1024x256.size inb_S1024x5632_S1024x256_0_1024))⟩,
    ⟨(Rect.unit (s := S8x2816) ![0, 768] S8x256.size inb_S8x2816_S8x256_0_768), k0_pay9 (k0_pay3 x1 x2 x0 x5 x6) (View.ld x7 (Rect.unit (s := S1024x5632) ![0, 768] S1024x256.size inb_S1024x5632_S1024x256_0_768))⟩,
    ⟨(Rect.unit (s := S8x2816) ![0, 512] S8x256.size inb_S8x2816_S8x256_0_512), k0_pay9 (k0_pay3 x1 x2 x0 x5 x6) (View.ld x7 (Rect.unit (s := S1024x5632) ![0, 512] S1024x256.size inb_S1024x5632_S1024x256_0_512))⟩,
    ⟨(Rect.unit (s := S8x2816) ![0, 256] S8x256.size inb_S8x2816_S8x256_0_256), k0_pay9 (k0_pay3 x1 x2 x0 x5 x6) (View.ld x7 (Rect.unit (s := S1024x5632) ![0, 256] S1024x256.size inb_S1024x5632_S1024x256_0_256))⟩,
    ⟨(Rect.unit (s := S8x2816) ![0, 0] S8x256.size inb_S8x2816_S8x256_0_0), k0_pay9 (k0_pay3 x1 x2 x0 x5 x6) (View.ld x7 (Rect.unit (s := S1024x5632) ![0, 0] S1024x256.size inb_S1024x5632_S1024x256_0_0))⟩ ]

/-- The eleven stores of the last rows, the last one first. -/
def outP (x0 : Vec F S512x1024 .f32) (x1 : Vec F S512x512 .f32) (x2 : Vec F S512x512 .f32) (x5 : Vec F S1024x1024 .bf16) (x6 : Vec F S1x1024 .f32) (x7 : Vec F S1024x5632 .bf16) : List (View.Piece (Elt F) S8x2816 .f32) :=
  [ ⟨(Rect.unit (s := S8x2816) ![0, 2560] S8x256.size inb_S8x2816_S8x256_0_2560), k0_pay10 (k0_pay3 x1 x2 x0 x5 x6) (View.ld x7 (Rect.unit (s := S1024x5632) ![0, 2560] S1024x256.size inb_S1024x5632_S1024x256_0_2560))⟩,
    ⟨(Rect.unit (s := S8x2816) ![0, 2304] S8x256.size inb_S8x2816_S8x256_0_2304), k0_pay10 (k0_pay3 x1 x2 x0 x5 x6) (View.ld x7 (Rect.unit (s := S1024x5632) ![0, 2304] S1024x256.size inb_S1024x5632_S1024x256_0_2304))⟩,
    ⟨(Rect.unit (s := S8x2816) ![0, 2048] S8x256.size inb_S8x2816_S8x256_0_2048), k0_pay10 (k0_pay3 x1 x2 x0 x5 x6) (View.ld x7 (Rect.unit (s := S1024x5632) ![0, 2048] S1024x256.size inb_S1024x5632_S1024x256_0_2048))⟩,
    ⟨(Rect.unit (s := S8x2816) ![0, 1792] S8x256.size inb_S8x2816_S8x256_0_1792), k0_pay10 (k0_pay3 x1 x2 x0 x5 x6) (View.ld x7 (Rect.unit (s := S1024x5632) ![0, 1792] S1024x256.size inb_S1024x5632_S1024x256_0_1792))⟩,
    ⟨(Rect.unit (s := S8x2816) ![0, 1536] S8x256.size inb_S8x2816_S8x256_0_1536), k0_pay10 (k0_pay3 x1 x2 x0 x5 x6) (View.ld x7 (Rect.unit (s := S1024x5632) ![0, 1536] S1024x256.size inb_S1024x5632_S1024x256_0_1536))⟩,
    ⟨(Rect.unit (s := S8x2816) ![0, 1280] S8x256.size inb_S8x2816_S8x256_0_1280), k0_pay10 (k0_pay3 x1 x2 x0 x5 x6) (View.ld x7 (Rect.unit (s := S1024x5632) ![0, 1280] S1024x256.size inb_S1024x5632_S1024x256_0_1280))⟩,
    ⟨(Rect.unit (s := S8x2816) ![0, 1024] S8x256.size inb_S8x2816_S8x256_0_1024), k0_pay10 (k0_pay3 x1 x2 x0 x5 x6) (View.ld x7 (Rect.unit (s := S1024x5632) ![0, 1024] S1024x256.size inb_S1024x5632_S1024x256_0_1024))⟩,
    ⟨(Rect.unit (s := S8x2816) ![0, 768] S8x256.size inb_S8x2816_S8x256_0_768), k0_pay10 (k0_pay3 x1 x2 x0 x5 x6) (View.ld x7 (Rect.unit (s := S1024x5632) ![0, 768] S1024x256.size inb_S1024x5632_S1024x256_0_768))⟩,
    ⟨(Rect.unit (s := S8x2816) ![0, 512] S8x256.size inb_S8x2816_S8x256_0_512), k0_pay10 (k0_pay3 x1 x2 x0 x5 x6) (View.ld x7 (Rect.unit (s := S1024x5632) ![0, 512] S1024x256.size inb_S1024x5632_S1024x256_0_512))⟩,
    ⟨(Rect.unit (s := S8x2816) ![0, 256] S8x256.size inb_S8x2816_S8x256_0_256), k0_pay10 (k0_pay3 x1 x2 x0 x5 x6) (View.ld x7 (Rect.unit (s := S1024x5632) ![0, 256] S1024x256.size inb_S1024x5632_S1024x256_0_256))⟩,
    ⟨(Rect.unit (s := S8x2816) ![0, 0] S8x256.size inb_S8x2816_S8x256_0_0), k0_pay10 (k0_pay3 x1 x2 x0 x5 x6) (View.ld x7 (Rect.unit (s := S1024x5632) ![0, 0] S1024x256.size inb_S1024x5632_S1024x256_0_0))⟩ ]

/-- The rows a later point leaves. -/
theorem out_B (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S8x2816 .f32) (harg15 : arg15.IsWhole) (arg16 : Memref sig .tc .vmem S512x1024 .f32) (harg16 : arg16.IsWhole) (arg17 : Memref sig .tc .vmem S512x1024 .bf16) (harg17 : arg17.IsWhole) (hc0 : ¬cond0_0 i)
    (x0 : Vec F S512x1024 .f32) (x1 : Vec F S512x512 .f32) (x2 : Vec F S512x512 .f32) (x3 : Vec F S8x2816 .f32) (x4 : Vec F S8x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (x11 : Vec F S1x1024 .f32) (xs0 : Vec F S8x2816 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = k0_pay1 (acc11 x0 x1 x2 x5 x6 x7 x8 x9 x10 xs0) x11 := by
  frame_out
  rfl

set_option maxHeartbeats 4000000 in
/-- The rows the first point leaves. -/
theorem out_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S8x2816 .f32) (harg15 : arg15.IsWhole) (arg16 : Memref sig .tc .vmem S512x1024 .f32) (harg16 : arg16.IsWhole) (arg17 : Memref sig .tc .vmem S512x1024 .bf16) (harg17 : arg17.IsWhole) (hc0 : cond0_0 i)
    (x0 : Vec F S512x1024 .f32) (x1 : Vec F S512x512 .f32) (x2 : Vec F S512x512 .f32) (x3 : Vec F S8x2816 .f32) (x4 : Vec F S8x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (x11 : Vec F S1x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = k0_pay1 (acc11 x0 x1 x2 x5 x6 x7 x8 x9 x10 k0_pay5) x11 := by
  frame_open
  simp (disch := decide) only [↓ View.readCov_skip, ↓ View.readCov_fill, ↓ View.readCov_cons_toLoadRect]
  frame_out
  rfl

/-- The last rows a later point leaves. -/
theorem tail_B (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S8x2816 .f32) (harg15 : arg15.IsWhole) (arg16 : Memref sig .tc .vmem S512x1024 .f32) (harg16 : arg16.IsWhole) (arg17 : Memref sig .tc .vmem S512x1024 .bf16) (harg17 : arg17.IsWhole) (hc0 : ¬cond0_0 i)
    (x0 : Vec F S512x1024 .f32) (x1 : Vec F S512x512 .f32) (x2 : Vec F S512x512 .f32) (x3 : Vec F S8x2816 .f32) (x4 : Vec F S8x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (x11 : Vec F S1x1024 .f32) (xs0 : Vec F S8x2816 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = View.canon (outP x0 x1 x2 x5 x6 x7) := by
  frame_out
  rfl

/-- The rows a later point carries. -/
theorem car_B (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S8x2816 .f32) (harg15 : arg15.IsWhole) (arg16 : Memref sig .tc .vmem S512x1024 .f32) (harg16 : arg16.IsWhole) (arg17 : Memref sig .tc .vmem S512x1024 .bf16) (harg17 : arg17.IsWhole) (hc0 : ¬cond0_0 i)
    (x0 : Vec F S512x1024 .f32) (x1 : Vec F S512x512 .f32) (x2 : Vec F S512x512 .f32) (x3 : Vec F S8x2816 .f32) (x4 : Vec F S8x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (x11 : Vec F S1x1024 .f32) (xs0 : Vec F S8x2816 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = View.canon (carP x0 x1 x2 x5 x6 x7) := by
  frame_out
  rfl

/-- The rows the first point carries. -/
theorem car_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S8x2816 .f32) (harg15 : arg15.IsWhole) (arg16 : Memref sig .tc .vmem S512x1024 .f32) (harg16 : arg16.IsWhole) (arg17 : Memref sig .tc .vmem S512x1024 .bf16) (harg17 : arg17.IsWhole) (hc0 : cond0_0 i)
    (x0 : Vec F S512x1024 .f32) (x1 : Vec F S512x512 .f32) (x2 : Vec F S512x512 .f32) (x3 : Vec F S8x2816 .f32) (x4 : Vec F S8x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (x11 : Vec F S1x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon (carP x0 x1 x2 x5 x6 x7 ++ [⟨(Rect.unit (s := S8x2816) ![0, 0] S8x2816.size inb_S8x2816_S8x2816_0_0), k0_pay5⟩]) := by
  frame_out
  rfl

end Cert.Kernel2Ideal.Out

end
-- ==== Proof.FfnSpec.lean ====
/- The output projection and feed-forward part of the prompt at an index: the residual row, its normalisation, the up
   projection, the convolution over three positions, the gate, the down projection and the last normalisation, each a function
   of the arguments' entries. -/
module

public import Idealize.ShloMosaic.Lib.Pointwise

@[expose] public section

noncomputable section

namespace Cert.Ffn

open Idealize.ShloMosaic

/-- The arguments' entries: the activations, the two halves of the mixed rows, the output projection, the gain, the up
    projection, the taps and the bias of the convolution, the down projection and the final gain. -/
structure Args (N : ℕ) where
  X : Fin N → Fin 1024 → EReal
  A : Fin N → Fin 512 → EReal
  B : Fin N → Fin 512 → EReal
  Wo : Fin 1024 → Fin 1024 → EReal
  G : Fin 1024 → EReal
  Wu : Fin 1024 → Fin 5632 → EReal
  C : Fin 3 → Fin 2816 → EReal
  Cb : Fin 2816 → EReal
  Wd : Fin 2816 → Fin 1024 → EReal
  Gf : Fin 1024 → EReal

/-- The normalisation of a row. -/
def rms (x : Fin 1024 → EReal) (g : Fin 1024 → EReal) (d : Fin 1024) : EReal :=
  x d * Ideal.rsqrt (Ideal.div (∑ e, x e * x e) (Ideal.ofBits .f32 1149239296#32) + Ideal.ofBits .f32 897988541#32) * g d

section
variable {N : ℕ} (a : Args N)

/-- The residual row `p` after the output projection. -/
def res (p : Fin N) (d : Fin 1024) : EReal :=
  a.X p d + (∑ k : Fin 512, a.A p k * a.Wo ⟨k.val, by omega⟩ d + ∑ k : Fin 512, a.B p k * a.Wo ⟨512 + k.val, by omega⟩ d)

/-- Its normalisation. -/
def hid (p : Fin N) (d : Fin 1024) : EReal := rms (res a p) a.G d

/-- Lane `j` of the up projection of row `p`. -/
def up (p : Fin N) (j : Fin 5632) : EReal := ∑ d, hid a p d * a.Wu d j

/-- The parts of one tile of lanes added to those of the lanes before it. -/
theorem acc_step (f : ℕ → EReal) (x : EReal) (n n' : ℕ) (h : n' = n + 256) :
    x + ∑ k ∈ Finset.range n, f k + ∑ k : Fin 256, f (n + k.val) = x + ∑ k ∈ Finset.range n', f k := by
  rw [h, add_assoc, Fin.sum_univ_eq_sum_range (fun k => f (n + k)) 256, ← Finset.sum_range_add]

end

section
variable (a : Args 16384)

/-- Lane `j` of the up projection of the row `n` before row `p`: zero before the first row. -/
def back (n p : ℕ) (j : Fin 2816) : EReal :=
  if h : n ≤ p ∧ p - n < 16384 then up a ⟨p - n, h.2⟩ ⟨j.val, by omega⟩ else 0

/-- The convolution over the row and the two before it. -/
def conv (p : Fin 16384) (j : Fin 2816) : EReal :=
  a.Cb j + a.C 0 j * back a 2 p.val j + a.C 1 j * back a 1 p.val j + a.C 2 j * up a p ⟨j.val, by omega⟩

/-- The gated lane. -/
def gate (p : Fin 16384) (j : Fin 2816) : EReal :=
  conv a p j * Ideal.logistic (conv a p j) * up a p ⟨2816 + j.val, by omega⟩

/-- Lane `n`'s part of the down projection, zero beyond the lanes. -/
def part (p : Fin 16384) (d : Fin 1024) (n : ℕ) : EReal := if h : n < 2816 then gate a p ⟨n, h⟩ * a.Wd ⟨n, h⟩ d else 0

/-- The residual row after the down projection. -/
def out (p : Fin 16384) (d : Fin 1024) : EReal := res a p d + ∑ j, gate a p j * a.Wd j d

/-- The layer's row. -/
def fin (p : Fin 16384) (d : Fin 1024) : EReal := rms (out a p) a.Gf d

/-- All the lanes' parts. -/
theorem out_eq (p : Fin 16384) (d : Fin 1024) : res a p d + ∑ k ∈ Finset.range 2816, part a p d k = out a p d := by
  rw [out, ← Fin.sum_univ_eq_sum_range]
  refine congrArg _ (Finset.sum_congr rfl fun j _ => ?_)
  rw [part, dif_pos j.isLt]

/-- The row before, when there is one. -/
theorem back_pos (n p : ℕ) (j : Fin 2816) (q : Fin 16384) (h : p = q.val + n) : up a q ⟨j.val, by omega⟩ = back a n p j := by
  rw [back, dif_pos ⟨by omega, by omega⟩]
  congr 1
  exact Fin.ext (by simp only []; omega)

end

section
variable (a : Args 128) (S : Fin 32 → Fin 2 → Fin 2816 → EReal)

/-- For the samples, whose sequences have four rows each: lane `j` of the up projection of the row `n` before row `p`, or of the
    given state where the sequence has no such row. -/
def before (n : ℕ) (p : Fin 128) (j : Fin 2816) : EReal :=
  if n ≤ p.val % 4 then up a ⟨p.val - n, by omega⟩ ⟨j.val, by omega⟩ else S ⟨p.val / 4, by omega⟩ ⟨(p.val % 4 + 2 - n) % 2, by omega⟩ j

/-- The samples' convolution. -/
def convS (p : Fin 128) (j : Fin 2816) : EReal :=
  a.Cb j + a.C 0 j * before a S 2 p j + a.C 1 j * before a S 1 p j + a.C 2 j * up a p ⟨j.val, by omega⟩

/-- The samples' gated lane. -/
def gateS (p : Fin 128) (j : Fin 2816) : EReal :=
  convS a S p j * Ideal.logistic (convS a S p j) * up a p ⟨2816 + j.val, by omega⟩

/-- Lane `n`'s part of the samples' down projection, zero beyond the lanes. -/
def partS (p : Fin 128) (d : Fin 1024) (n : ℕ) : EReal := if h : n < 2816 then gateS a S p ⟨n, h⟩ * a.Wd ⟨n, h⟩ d else 0

/-- The samples' residual row after the down projection. -/
def outS (p : Fin 128) (d : Fin 1024) : EReal := res a p d + ∑ j, gateS a S p j * a.Wd j d

/-- The samples' row. -/
def finS (p : Fin 128) (d : Fin 1024) : EReal := rms (outS a S p) a.Gf d

/-- All the samples' lanes' parts. -/
theorem outS_eq (p : Fin 128) (d : Fin 1024) : res a p d + ∑ k ∈ Finset.range 2816, partS a S p d k = outS a S p d := by
  rw [outS, ← Fin.sum_univ_eq_sum_range]
  refine congrArg _ (Finset.sum_congr rfl fun j _ => ?_)
  rw [partS, dif_pos j.isLt]

end

end Cert.Ffn

end
-- ==== Proof.OutTiles.lean ====
/- One tile of the feed-forward part at an index, over the extended reals, and the eleven tiles one after another. -/
module

public import proofs.«01_k».proof.Proof.OutCases
public import proofs.«01_k».proof.Proof.FfnSpec

@[expose] public section
set_option maxRecDepth 16384

noncomputable section

namespace Cert.Kernel2Ideal.Out

open Idealize.ShloMosaic Idealize.ShloMosaic.Pointwise Idealize.ShloMosaic.TcCoe Cert.Kernel2Ideal Cert.Kernel2Ideal.Gen Cert.Ffn

/-- The row of the prompt that is row `r` of block `t`. -/
abbrev row (t : Fin 32) (r : Fin 512) : Fin 16384 := ⟨512 * t.val + r.val, by omega⟩

/-- What the blocks of grid point `t` hold, and what the carried rows hold: the up projection of the eight rows before. -/
structure Blk (a : Args 16384) (t : Fin 32) (x0 : FVec Ideal S512x1024 .f32) (x1 x2 : FVec Ideal S512x512 .f32) (x5 : FVec Ideal S1024x1024 .bf16)
    (x6 : FVec Ideal S1x1024 .f32) (x7 : FVec Ideal S1024x5632 .bf16) (x8 : FVec Ideal S3x2816 .f32) (x9 : FVec Ideal S1x2816 .f32)
    (x10 : FVec Ideal S2816x1024 .bf16) (x11 : FVec Ideal S1x1024 .f32) : Prop where
  b0 : ∀ r d, x0 (ix2 r d) = a.X (row t r) d
  b1 : ∀ r k, x1 (ix2 r k) = a.A (row t r) k
  b2 : ∀ r k, x2 (ix2 r k) = a.B (row t r) k
  b5 : ∀ k d, x5 (ix2 k d) = a.Wo k d
  b6 : ∀ d, x6 (ix2 0 d) = a.G d
  b7 : ∀ d j, x7 (ix2 d j) = a.Wu d j
  b8 : ∀ w j, x8 (ix2 w j) = a.C w j
  b9 : ∀ j, x9 (ix2 0 j) = a.Cb j
  b10 : ∀ j d, x10 (ix2 j d) = a.Wd j d
  b11 : ∀ d, x11 (ix2 0 d) = a.Gf d

/-- What the carried rows hold before grid point `t`: the up projection of the eight rows before it. -/
def Car (a : Args 16384) (t : Fin 32) (xs : FVec Ideal S8x2816 .f32) : Prop :=
  ∀ (s : Fin 8) (j : Fin 2816), xs (ix2 s j) = back a (8 - s.val) (512 * t.val) j

/-- The row test of the row before. -/
theorem ge1 : ∀ r : Fin 512, IntOp.cmpi .sge (BitVec.ofNat 32 r.val) 1#32 = if 1 ≤ r.val then 1#1 else 0#1 := by decide +kernel
/-- The row test of two rows before. -/
theorem ge2 : ∀ r : Fin 512, IntOp.cmpi .sge (BitVec.ofNat 32 r.val) 2#32 = if 2 ≤ r.val then 1#1 else 0#1 := by decide +kernel
/-- The test of the first row. -/
theorem eq0 : ∀ r : Fin 512, IntOp.cmpi .eq (BitVec.ofNat 32 r.val) 0#32 = if r.val = 0 then 1#1 else 0#1 := by decide +kernel

/-- One row on, one row further back. -/
theorem back_succ (a : Args 16384) (n p : ℕ) (j : Fin 2816) : back a (n + 1) (p + 1) j = back a n p j := by
  unfold back
  by_cases h : n ≤ p ∧ p - n < 16384
  · rw [dif_pos h, dif_pos ⟨by omega, by omega⟩]
    congr 1
    exact Fin.ext (by simp only []; omega)
  · rw [dif_neg h, dif_neg (by omega)]

variable {a : Args 16384} {t : Fin 32}

/-- The chosen row before. -/
theorem sel1 (u : Fin 512 → EReal) (q7 : EReal) (j : Fin 2816) (hu : ∀ r, u r = up a (row t r) ⟨j.val, by omega⟩)
    (h7 : q7 = back a 1 (512 * t.val) j) (r : Fin 512) :
    Scalar.select (IntOp.cmpi .sge (BitVec.ofNat 32 r.val) 1#32) (u ⟨(r.val + 512 - 1) % 512, Nat.mod_lt _ (by decide)⟩) q7 = back a 1 (512 * t.val + r.val) j := by
  rw [ge1]
  split
  · refine Eq.trans (b := u ⟨(r.val + 512 - 1) % 512, Nat.mod_lt _ (by decide)⟩) rfl ?_
    rw [hu]
    exact back_pos a 1 _ j _ (by simp only []; omega)
  · refine Eq.trans (b := q7) rfl ?_
    rw [h7]
    congr 1
    omega

/-- The chosen row two before. -/
theorem sel2 (u : Fin 512 → EReal) (q6 q7 : EReal) (j : Fin 2816) (hu : ∀ r, u r = up a (row t r) ⟨j.val, by omega⟩)
    (h6 : q6 = back a 2 (512 * t.val) j) (h7 : q7 = back a 1 (512 * t.val) j) (r : Fin 512) :
    Scalar.select (IntOp.cmpi .sge (BitVec.ofNat 32 r.val) 2#32) (u ⟨(r.val + 512 - 2) % 512, Nat.mod_lt _ (by decide)⟩)
      (Scalar.select (IntOp.cmpi .eq (BitVec.ofNat 32 r.val) 0#32) q6 q7) = back a 2 (512 * t.val + r.val) j := by
  rw [ge2, eq0]
  split
  · refine Eq.trans (b := u ⟨(r.val + 512 - 2) % 512, Nat.mod_lt _ (by decide)⟩) rfl ?_
    rw [hu]
    exact back_pos a 2 _ j _ (by simp only []; omega)
  · split
    · refine Eq.trans (b := q6) rfl ?_
      rw [h6]
      congr 1
      omega
    · refine Eq.trans (b := q7) rfl ?_
      rw [h7, ← back_succ]
      congr 1
      omega

section
variable {x0 : FVec Ideal S512x1024 .f32} {x1 x2 : FVec Ideal S512x512 .f32} {x5 : FVec Ideal S1024x1024 .bf16}
  {x6 : FVec Ideal S1x1024 .f32} {x7 : FVec Ideal S1024x5632 .bf16} {x8 : FVec Ideal S3x2816 .f32} {x9 : FVec Ideal S1x2816 .f32}
  {x10 : FVec Ideal S2816x1024 .bf16} {x11 : FVec Ideal S1x1024 .f32} {xs : FVec Ideal S8x2816 .f32}

/-- The residual rows. -/
theorem res_at (B : Blk a t x0 x1 x2 x5 x6 x7 x8 x9 x10 x11) (r : Fin 512) (d : Fin 1024) :
    (k0_pay2 (F := Ideal) x1 x2 x0 x5 (ix2 r d) : EReal) = res a (row t r) d := by
  pointwise [k0_pay2]
  simp only [B.b0, B.b1, B.b2, B.b5]
  rfl

/-- The rows the tiles start from. -/
theorem acc0_at (B : Blk a t x0 x1 x2 x5 x6 x7 x8 x9 x10 x11) (r : Fin 512) (d : Fin 1024) :
    (acc0 (F := Ideal) x0 x1 x2 x5 x6 x7 x8 x9 x10 xs (ix2 r d) : EReal) = res a (row t r) d := by
  pointwise [acc0, k0_pay4]
  exact res_at B r d

/-- The normalised rows. -/
theorem hid_at (B : Blk a t x0 x1 x2 x5 x6 x7 x8 x9 x10 x11) (r : Fin 512) (d : Fin 1024) :
    (k0_pay3 (F := Ideal) x1 x2 x0 x5 x6 (ix2 r d) : EReal) = hid a (row t r) d := by
  pointwise [k0_pay3]
  simp only [res_at B, B.b6]
  rfl

/-- The last normalisation. -/
theorem fin_at (B : Blk a t x0 x1 x2 x5 x6 x7 x8 x9 x10 x11) (z : FVec Ideal S512x1024 .f32) (hz : ∀ r d, z (ix2 r d) = out a (row t r) d)
    (r : Fin 512) (d : Fin 1024) : (k0_pay1 (F := Ideal) z x11 (ix2 r d) : EReal) = fin a (row t r) d := by
  pointwise [k0_pay1]
  simp only [hz, B.b11]
  rfl

/-- A tile of the up projection. -/
theorem up_at (h : FVec Ideal S512x1024 .bf16) (wu : FVec Ideal S1024x256 .bf16) (n : ℕ) (hn : n + 256 ≤ 5632)
    (hh : ∀ r d, h (ix2 r d) = hid a (row t r) d) (hw : ∀ d (k : Fin 256), wu (ix2 d k) = a.Wu d ⟨n + k.val, by omega⟩) (r : Fin 512) (k : Fin 256) :
    (k0_pay6 (F := Ideal) h wu (ix2 r k) : EReal) = up a (row t r) ⟨n + k.val, by omega⟩ := by
  pointwise [k0_pay6]
  simp only [hh, hw]
  rfl

/-- One tile: its lanes' parts are added. -/
theorem tile_at (h : FVec Ideal S512x1024 .bf16) (wu wv : FVec Ideal S1024x256 .bf16) (pr : FVec Ideal S8x256 .f32) (b w0 w1 w2 : FVec Ideal S1x256 .f32)
    (x : FVec Ideal S512x1024 .f32) (wd : FVec Ideal S256x1024 .bf16) (n : ℕ) (hn : n + 256 ≤ 2816)
    (hh : ∀ r d, h (ix2 r d) = hid a (row t r) d)
    (hu : ∀ d (k : Fin 256), wu (ix2 d k) = a.Wu d ⟨n + k.val, by omega⟩)
    (hv : ∀ d (k : Fin 256), wv (ix2 d k) = a.Wu d ⟨2816 + n + k.val, by omega⟩)
    (hp : ∀ (s : Fin 8) (k : Fin 256), pr (ix2 s k) = back a (8 - s.val) (512 * t.val) ⟨n + k.val, by omega⟩)
    (hb : ∀ k : Fin 256, b (ix2 0 k) = a.Cb ⟨n + k.val, by omega⟩)
    (h0 : ∀ k : Fin 256, w0 (ix2 0 k) = a.C 0 ⟨n + k.val, by omega⟩)
    (h1 : ∀ k : Fin 256, w1 (ix2 0 k) = a.C 1 ⟨n + k.val, by omega⟩)
    (h2 : ∀ k : Fin 256, w2 (ix2 0 k) = a.C 2 ⟨n + k.val, by omega⟩)
    (hd : ∀ (k : Fin 256) d, wd (ix2 k d) = a.Wd ⟨n + k.val, by omega⟩ d) (r : Fin 512) (d : Fin 1024) :
    (tile (F := Ideal) h wu wv pr b w0 w1 w2 x wd (ix2 r d) : EReal) = x (ix2 r d) + ∑ k : Fin 256, part a (row t r) d (n + k.val) := by
  pointwise [tile, k0_pay14, k0_pay13, k0_pay12, k0_pay11, k0_pay8, k0_pay7]
  refine congrArg (fun z : EReal => x (ix2 r d) + z) (Finset.sum_congr rfl fun k _ => ?_)
  have hU : ∀ r : Fin 512, (k0_pay6 (F := Ideal) h wu (ix2 r k) : EReal) = up a (row t r) ⟨n + k.val, by omega⟩ := fun r => up_at h wu n (by omega) hh hu r k
  have e2 := sel2 (a := a) (t := t) (fun r => k0_pay6 (F := Ideal) h wu (ix2 r k)) _ _ ⟨n + k.val, by omega⟩ hU (hp 6 k) (hp 7 k) r
  have e1 := sel1 (a := a) (t := t) (fun r => k0_pay6 (F := Ideal) h wu (ix2 r k)) _ ⟨n + k.val, by omega⟩ hU (hp 7 k) r
  rw [e1, e2, hU, hb, h0, h1, h2, hd, part, dif_pos (by omega)]
  simp only [hh, hv]
  unfold gate conv up
  simp only [Nat.add_assoc]

end

end Cert.Kernel2Ideal.Out

end
-- ==== Proof.OutSum.lean ====
/- The eleven tiles of the feed-forward part one after another, and the rows carried to the next point, over the extended reals. -/
module

public import proofs.«01_k».proof.Proof.OutTiles

@[expose] public section
set_option maxRecDepth 16384

noncomputable section

namespace Cert.Kernel2Ideal.Out

open Idealize.ShloMosaic Idealize.ShloMosaic.Pointwise Idealize.ShloMosaic.TcCoe Cert.Kernel2Ideal Cert.Kernel2Ideal.Gen Cert.Ffn

variable {a : Args 16384} {t : Fin 32}
variable {x0 : FVec Ideal S512x1024 .f32} {x1 x2 : FVec Ideal S512x512 .f32} {x5 : FVec Ideal S1024x1024 .bf16}
  {x6 : FVec Ideal S1x1024 .f32} {x7 : FVec Ideal S1024x5632 .bf16} {x8 : FVec Ideal S3x2816 .f32} {x9 : FVec Ideal S1x2816 .f32}
  {x10 : FVec Ideal S2816x1024 .bf16} {x11 : FVec Ideal S1x1024 .f32} {xs : FVec Ideal S8x2816 .f32}

/-- A load of lanes of the up projection. -/
theorem ld7 (x : FVec Ideal S1024x5632 .bf16) (o n : ℕ) (inb) (i : Fin 1024) (k : Fin 256) (i' : Fin 1024) (k' : Fin 5632) (hi : i'.val = o + i.val) (hk : k'.val = n + k.val) :
    (View.ld (x : Vec Ideal S1024x5632 .bf16) (Rect.unit (s := S1024x5632) ![o, n] S1024x256.size inb) : Vec Ideal S1024x256 .bf16) (ix2 i k) = x (ix2 i' k') := by
  refine congrArg x (funext fun a => Fin.ext ((Rect.idx_unit_val (s := S1024x5632) ![o, n] S1024x256.size inb (ix2 i k) a).trans ?_))
  fin_cases a
  · exact hi.symm
  · exact hk.symm

/-- A load of lanes of the carried rows. -/
theorem lds (x : FVec Ideal S8x2816 .f32) (o n : ℕ) (inb) (i : Fin 8) (k : Fin 256) (i' : Fin 8) (k' : Fin 2816) (hi : i'.val = o + i.val) (hk : k'.val = n + k.val) :
    (View.ld (x : Vec Ideal S8x2816 .f32) (Rect.unit (s := S8x2816) ![o, n] S8x256.size inb) : Vec Ideal S8x256 .f32) (ix2 i k) = x (ix2 i' k') := by
  refine congrArg x (funext fun a => Fin.ext ((Rect.idx_unit_val (s := S8x2816) ![o, n] S8x256.size inb (ix2 i k) a).trans ?_))
  fin_cases a
  · exact hi.symm
  · exact hk.symm

/-- A load of lanes of the bias. -/
theorem ld9 (x : FVec Ideal S1x2816 .f32) (o n : ℕ) (inb) (i : Fin 1) (k : Fin 256) (i' : Fin 1) (k' : Fin 2816) (hi : i'.val = o + i.val) (hk : k'.val = n + k.val) :
    (View.ld (x : Vec Ideal S1x2816 .f32) (Rect.unit (s := S1x2816) ![o, n] S1x256.size inb) : Vec Ideal S1x256 .f32) (ix2 i k) = x (ix2 i' k') := by
  refine congrArg x (funext fun a => Fin.ext ((Rect.idx_unit_val (s := S1x2816) ![o, n] S1x256.size inb (ix2 i k) a).trans ?_))
  fin_cases a
  · exact hi.symm
  · exact hk.symm

/-- A load of lanes of a tap. -/
theorem ld8 (x : FVec Ideal S3x2816 .f32) (o n : ℕ) (inb) (i : Fin 1) (k : Fin 256) (i' : Fin 3) (k' : Fin 2816) (hi : i'.val = o + i.val) (hk : k'.val = n + k.val) :
    (View.ld (x : Vec Ideal S3x2816 .f32) (Rect.unit (s := S3x2816) ![o, n] S1x256.size inb) : Vec Ideal S1x256 .f32) (ix2 i k) = x (ix2 i' k') := by
  refine congrArg x (funext fun a => Fin.ext ((Rect.idx_unit_val (s := S3x2816) ![o, n] S1x256.size inb (ix2 i k) a).trans ?_))
  fin_cases a
  · exact hi.symm
  · exact hk.symm

/-- A load of rows of the down projection. -/
theorem ld10 (x : FVec Ideal S2816x1024 .bf16) (o n : ℕ) (inb) (i : Fin 256) (k : Fin 1024) (i' : Fin 2816) (k' : Fin 1024) (hi : i'.val = o + i.val) (hk : k'.val = n + k.val) :
    (View.ld (x : Vec Ideal S2816x1024 .bf16) (Rect.unit (s := S2816x1024) ![o, n] S256x1024.size inb) : Vec Ideal S256x1024 .bf16) (ix2 i k) = x (ix2 i' k') := by
  refine congrArg x (funext fun a => Fin.ext ((Rect.idx_unit_val (s := S2816x1024) ![o, n] S256x1024.size inb (ix2 i k) a).trans ?_))
  fin_cases a
  · exact hi.symm
  · exact hk.symm

/-- One tile more: the parts of the lanes below `n + 256` are added. -/
theorem step (B : Blk a t x0 x1 x2 x5 x6 x7 x8 x9 x10 x11) (C : Car a t xs) (n v n' : ℕ) (hn : n + 256 ≤ 2816) (hv : v = 2816 + n) (hn' : n' = n + 256)
    (z : FVec Ideal S512x1024 .f32)
    (hz : ∀ r d, (z (ix2 r d) : EReal) = res a (row t r) d + ∑ k ∈ Finset.range n, part a (row t r) d k) (i1 i2 i3 i4 i5 i6 i7 i8) (r : Fin 512) (d : Fin 1024) :
    (tile (F := Ideal) (k0_pay3 (F := Ideal) x1 x2 x0 x5 x6) (View.ld (x7 : Vec Ideal S1024x5632 .bf16) (Rect.unit (s := S1024x5632) ![0, n] S1024x256.size i1))
      (View.ld (x7 : Vec Ideal S1024x5632 .bf16) (Rect.unit (s := S1024x5632) ![0, v] S1024x256.size i2))
      (View.ld (xs : Vec Ideal S8x2816 .f32) (Rect.unit (s := S8x2816) ![0, n] S8x256.size i3))
      (View.ld (x9 : Vec Ideal S1x2816 .f32) (Rect.unit (s := S1x2816) ![0, n] S1x256.size i4))
      (View.ld (x8 : Vec Ideal S3x2816 .f32) (Rect.unit (s := S3x2816) ![0, n] S1x256.size i5))
      (View.ld (x8 : Vec Ideal S3x2816 .f32) (Rect.unit (s := S3x2816) ![1, n] S1x256.size i6))
      (View.ld (x8 : Vec Ideal S3x2816 .f32) (Rect.unit (s := S3x2816) ![2, n] S1x256.size i7)) z
      (View.ld (x10 : Vec Ideal S2816x1024 .bf16) (Rect.unit (s := S2816x1024) ![n, 0] S256x1024.size i8)) (ix2 r d) : EReal)
      = res a (row t r) d + ∑ k ∈ Finset.range n', part a (row t r) d k := by
  refine (tile_at (a := a) (t := t) _ _ _ _ _ _ _ _ z _ n hn (hid_at B) ?_ ?_ ?_ ?_ ?_ ?_ ?_ ?_ r d).trans ?_
  · exact fun d k => (ld7 x7 0 n i1 d k d ⟨n + k.val, by omega⟩ (by omega) rfl).trans (B.b7 _ _)
  · exact fun d k => (ld7 x7 0 v i2 d k d ⟨2816 + n + k.val, by omega⟩ (by omega) (by simp only []; omega)).trans (B.b7 _ _)
  · exact fun s k => (lds xs 0 n i3 s k s ⟨n + k.val, by omega⟩ (by omega) rfl).trans (C _ _)
  · exact fun k => (ld9 x9 0 n i4 0 k 0 ⟨n + k.val, by omega⟩ rfl rfl).trans (B.b9 _)
  · exact fun k => (ld8 x8 0 n i5 0 k 0 ⟨n + k.val, by omega⟩ rfl rfl).trans (B.b8 _ _)
  · exact fun k => (ld8 x8 1 n i6 0 k 1 ⟨n + k.val, by omega⟩ rfl rfl).trans (B.b8 _ _)
  · exact fun k => (ld8 x8 2 n i7 0 k 2 ⟨n + k.val, by omega⟩ rfl rfl).trans (B.b8 _ _)
  · exact fun k d => (ld10 x10 n 0 i8 k d ⟨n + k.val, by omega⟩ d rfl (by omega)).trans (B.b10 _ _)
  · refine (congrArg (fun w : EReal => w + ∑ k : Fin 256, part a (row t r) d (n + k.val)) (hz r d)).trans ?_
    exact acc_step _ _ n n' hn'

/-- The rows after 0 tiles. -/
theorem sum0 (B : Blk a t x0 x1 x2 x5 x6 x7 x8 x9 x10 x11) (C : Car a t xs) (r : Fin 512) (d : Fin 1024) :
    (acc0 (F := Ideal) x0 x1 x2 x5 x6 x7 x8 x9 x10 xs (ix2 r d) : EReal) = res a (row t r) d + ∑ k ∈ Finset.range 0, part a (row t r) d k := by
  rw [Finset.range_zero, Finset.sum_empty, add_zero]
  exact acc0_at B r d

/-- The rows after 1 tiles. -/
theorem sum1 (B : Blk a t x0 x1 x2 x5 x6 x7 x8 x9 x10 x11) (C : Car a t xs) (r : Fin 512) (d : Fin 1024) :
    (acc1 (F := Ideal) x0 x1 x2 x5 x6 x7 x8 x9 x10 xs (ix2 r d) : EReal) = res a (row t r) d + ∑ k ∈ Finset.range 256, part a (row t r) d k := by
  exact step B C 0 2816 256 (by decide) rfl rfl _ (sum0 B C) _ _ _ _ _ _ _ _ r d

/-- The rows after 2 tiles. -/
theorem sum2 (B : Blk a t x0 x1 x2 x5 x6 x7 x8 x9 x10 x11) (C : Car a t xs) (r : Fin 512) (d : Fin 1024) :
    (acc2 (F := Ideal) x0 x1 x2 x5 x6 x7 x8 x9 x10 xs (ix2 r d) : EReal) = res a (row t r) d + ∑ k ∈ Finset.range 512, part a (row t r) d k := by
  exact step B C 256 3072 512 (by decide) rfl rfl _ (sum1 B C) _ _ _ _ _ _ _ _ r d

/-- The rows after 3 tiles. -/
theorem sum3 (B : Blk a t x0 x1 x2 x5 x6 x7 x8 x9 x10 x11) (C : Car a t xs) (r : Fin 512) (d : Fin 1024) :
    (acc3 (F := Ideal) x0 x1 x2 x5 x6 x7 x8 x9 x10 xs (ix2 r d) : EReal) = res a (row t r) d + ∑ k ∈ Finset.range 768, part a (row t r) d k := by
  exact step B C 512 3328 768 (by decide) rfl rfl _ (sum2 B C) _ _ _ _ _ _ _ _ r d

/-- The rows after 4 tiles. -/
theorem sum4 (B : Blk a t x0 x1 x2 x5 x6 x7 x8 x9 x10 x11) (C : Car a t xs) (r : Fin 512) (d : Fin 1024) :
    (acc4 (F := Ideal) x0 x1 x2 x5 x6 x7 x8 x9 x10 xs (ix2 r d) : EReal) = res a (row t r) d + ∑ k ∈ Finset.range 1024, part a (row t r) d k := by
  exact step B C 768 3584 1024 (by decide) rfl rfl _ (sum3 B C) _ _ _ _ _ _ _ _ r d

/-- The rows after 5 tiles. -/
theorem sum5 (B : Blk a t x0 x1 x2 x5 x6 x7 x8 x9 x10 x11) (C : Car a t xs) (r : Fin 512) (d : Fin 1024) :
    (acc5 (F := Ideal) x0 x1 x2 x5 x6 x7 x8 x9 x10 xs (ix2 r d) : EReal) = res a (row t r) d + ∑ k ∈ Finset.range 1280, part a (row t r) d k := by
  exact step B C 1024 3840 1280 (by decide) rfl rfl _ (sum4 B C) _ _ _ _ _ _ _ _ r d

/-- The rows after 6 tiles. -/
theorem sum6 (B : Blk a t x0 x1 x2 x5 x6 x7 x8 x9 x10 x11) (C : Car a t xs) (r : Fin 512) (d : Fin 1024) :
    (acc6 (F := Ideal) x0 x1 x2 x5 x6 x7 x8 x9 x10 xs (ix2 r d) : EReal) = res a (row t r) d + ∑ k ∈ Finset.range 1536, part a (row t r) d k := by
  exact step B C 1280 4096 1536 (by decide) rfl rfl _ (sum5 B C) _ _ _ _ _ _ _ _ r d

/-- The rows after 7 tiles. -/
theorem sum7 (B : Blk a t x0 x1 x2 x5 x6 x7 x8 x9 x10 x11) (C : Car a t xs) (r : Fin 512) (d : Fin 1024) :
    (acc7 (F := Ideal) x0 x1 x2 x5 x6 x7 x8 x9 x10 xs (ix2 r d) : EReal) = res a (row t r) d + ∑ k ∈ Finset.range 1792, part a (row t r) d k := by
  exact step B C 1536 4352 1792 (by decide) rfl rfl _ (sum6 B C) _ _ _ _ _ _ _ _ r d

/-- The rows after 8 tiles. -/
theorem sum8 (B : Blk a t x0 x1 x2 x5 x6 x7 x8 x9 x10 x11) (C : Car a t xs) (r : Fin 512) (d : Fin 1024) :
    (acc8 (F := Ideal) x0 x1 x2 x5 x6 x7 x8 x9 x10 xs (ix2 r d) : EReal) = res a (row t r) d + ∑ k ∈ Finset.range 2048, part a (row t r) d k := by
  exact step B C 1792 4608 2048 (by decide) rfl rfl _ (sum7 B C) _ _ _ _ _ _ _ _ r d

/-- The rows after 9 tiles. -/
theorem sum9 (B : Blk a t x0 x1 x2 x5 x6 x7 x8 x9 x10 x11) (C : Car a t xs) (r : Fin 512) (d : Fin 1024) :
    (acc9 (F := Ideal) x0 x1 x2 x5 x6 x7 x8 x9 x10 xs (ix2 r d) : EReal) = res a (row t r) d + ∑ k ∈ Finset.range 2304, part a (row t r) d k := by
  exact step B C 2048 4864 2304 (by decide) rfl rfl _ (sum8 B C) _ _ _ _ _ _ _ _ r d

/-- The rows after 10 tiles. -/
theorem sum10 (B : Blk a t x0 x1 x2 x5 x6 x7 x8 x9 x10 x11) (C : Car a t xs) (r : Fin 512) (d : Fin 1024) :
    (acc10 (F := Ideal) x0 x1 x2 x5 x6 x7 x8 x9 x10 xs (ix2 r d) : EReal) = res a (row t r) d + ∑ k ∈ Finset.range 2560, part a (row t r) d k := by
  exact step B C 2304 5120 2560 (by decide) rfl rfl _ (sum9 B C) _ _ _ _ _ _ _ _ r d

/-- The rows after 11 tiles. -/
theorem sum11 (B : Blk a t x0 x1 x2 x5 x6 x7 x8 x9 x10 x11) (C : Car a t xs) (r : Fin 512) (d : Fin 1024) :
    (acc11 (F := Ideal) x0 x1 x2 x5 x6 x7 x8 x9 x10 xs (ix2 r d) : EReal) = res a (row t r) d + ∑ k ∈ Finset.range 2816, part a (row t r) d k := by
  exact step B C 2560 5376 2816 (by decide) rfl rfl _ (sum10 B C) _ _ _ _ _ _ _ _ r d

/-- The rows after all the tiles, normalised: the layer's rows. -/
theorem rows_at (B : Blk a t x0 x1 x2 x5 x6 x7 x8 x9 x10 x11) (C : Car a t xs) (r : Fin 512) (d : Fin 1024) :
    (k0_pay1 (F := Ideal) (acc11 (F := Ideal) x0 x1 x2 x5 x6 x7 x8 x9 x10 xs) x11 (ix2 r d) : EReal) = fin a (row t r) d :=
  fin_at B _ (fun r d => (sum11 B C r d).trans (out_eq a _ d)) r d

/-- The up projection of a block's last eight rows. -/
def lastRows (a : Args 16384) (t : Fin 32) : Vec Ideal S8x2816 .f32 := fun y =>
  up a (row t ⟨504 + (y 0).val, by have : (y 0).val < 8 := (y 0).isLt; omega⟩) ⟨(y 1).val, by have : (y 1).val < 2816 := (y 1).isLt; omega⟩

/-- One store of the carried rows. -/
theorem car_piece (B : Blk a t x0 x1 x2 x5 x6 x7 x8 x9 x10 x11) (n : ℕ) (hn : n + 256 ≤ 2816) (i1) (i2) (x : S8x256.Idx) :
    (k0_pay9 (F := Ideal) (k0_pay3 (F := Ideal) x1 x2 x0 x5 x6) (View.ld (x7 : Vec Ideal S1024x5632 .bf16) (Rect.unit (s := S1024x5632) ![0, n] S1024x256.size i1)) x : EReal)
      = lastRows a t ((Rect.unit (s := S8x2816) ![0, n] S8x256.size i2).emb x) := by
  have e : (Rect.unit (s := S8x2816) ![0, n] S8x256.size i2).emb x = ix2 (x 0) ⟨n + (x 1).val, by have : (x 1).val < 256 := (x 1).isLt; omega⟩ := by
    funext b
    apply Fin.ext
    refine (Rect.idx_unit_val ![0, n] _ i2 x b).trans ?_
    fin_cases b
    · show 0 + (x 0).val = (x 0).val
      omega
    · show n + (x 1).val = n + (x 1).val
      rfl
  rw [e]
  idx_vars x
  pointwise [k0_pay9]
  exact up_at (a := a) (t := t) _ _ n (by omega) (hid_at B) (fun d k => (ld7 x7 0 n i1 d k d ⟨n + k.val, by omega⟩ (by omega) rfl).trans (B.b7 _ _)) _ _

/-- One store of the last rows. -/
theorem out_piece (B : Blk a t x0 x1 x2 x5 x6 x7 x8 x9 x10 x11) (n : ℕ) (hn : n + 256 ≤ 2816) (i1) (i2) (x : S8x256.Idx) :
    (k0_pay10 (F := Ideal) (k0_pay3 (F := Ideal) x1 x2 x0 x5 x6) (View.ld (x7 : Vec Ideal S1024x5632 .bf16) (Rect.unit (s := S1024x5632) ![0, n] S1024x256.size i1)) x : EReal)
      = lastRows a t ((Rect.unit (s := S8x2816) ![0, n] S8x256.size i2).emb x) := by
  refine Eq.trans ?_ (car_piece B n hn i1 i2 x)
  idx_vars x
  pointwise [k0_pay9, k0_pay10]

/-- The carried rows' stores, over anything stored before. -/
theorem carP_canon (B : Blk a t x0 x1 x2 x5 x6 x7 x8 x9 x10 x11) (L' : List (View.Piece (Elt Ideal) S8x2816 .f32)) :
    View.canon (carP (F := Ideal) x0 x1 x2 x5 x6 x7 ++ L') = lastRows a t := by
  funext y
  unfold carP
  refine View.canon_append_of_piecesOf (lastRows a t) L' [_, _, _, _, _, _, _, _, _, _, _] ⟨?_, ?_, ?_, ?_, ?_, ?_, ?_, ?_, ?_, ?_, ?_, trivial⟩ y (View.cover_of_tiledL (s := S8x2816) _ ![8, 256] (by sl_kernel_rfl) y)
  · exact car_piece B 2560 (by decide) _ inb_S8x2816_S8x256_0_2560
  · exact car_piece B 2304 (by decide) _ inb_S8x2816_S8x256_0_2304
  · exact car_piece B 2048 (by decide) _ inb_S8x2816_S8x256_0_2048
  · exact car_piece B 1792 (by decide) _ inb_S8x2816_S8x256_0_1792
  · exact car_piece B 1536 (by decide) _ inb_S8x2816_S8x256_0_1536
  · exact car_piece B 1280 (by decide) _ inb_S8x2816_S8x256_0_1280
  · exact car_piece B 1024 (by decide) _ inb_S8x2816_S8x256_0_1024
  · exact car_piece B 768 (by decide) _ inb_S8x2816_S8x256_0_768
  · exact car_piece B 512 (by decide) _ inb_S8x2816_S8x256_0_512
  · exact car_piece B 256 (by decide) _ inb_S8x2816_S8x256_0_256
  · exact car_piece B 0 (by decide) _ inb_S8x2816_S8x256_0_0

/-- The last rows' stores. -/
theorem outP_canon (B : Blk a t x0 x1 x2 x5 x6 x7 x8 x9 x10 x11) :
    View.canon (outP (F := Ideal) x0 x1 x2 x5 x6 x7) = lastRows a t := by
  funext y
  unfold outP
  refine View.canon_append_of_piecesOf (lastRows a t) [] [_, _, _, _, _, _, _, _, _, _, _] ⟨?_, ?_, ?_, ?_, ?_, ?_, ?_, ?_, ?_, ?_, ?_, trivial⟩ y (View.cover_of_tiledL (s := S8x2816) _ ![8, 256] (by sl_kernel_rfl) y)
  · exact out_piece B 2560 (by decide) _ inb_S8x2816_S8x256_0_2560
  · exact out_piece B 2304 (by decide) _ inb_S8x2816_S8x256_0_2304
  · exact out_piece B 2048 (by decide) _ inb_S8x2816_S8x256_0_2048
  · exact out_piece B 1792 (by decide) _ inb_S8x2816_S8x256_0_1792
  · exact out_piece B 1536 (by decide) _ inb_S8x2816_S8x256_0_1536
  · exact out_piece B 1280 (by decide) _ inb_S8x2816_S8x256_0_1280
  · exact out_piece B 1024 (by decide) _ inb_S8x2816_S8x256_0_1024
  · exact out_piece B 768 (by decide) _ inb_S8x2816_S8x256_0_768
  · exact out_piece B 512 (by decide) _ inb_S8x2816_S8x256_0_512
  · exact out_piece B 256 (by decide) _ inb_S8x2816_S8x256_0_256
  · exact out_piece B 0 (by decide) _ inb_S8x2816_S8x256_0_0

/-- A block's last eight rows are what the next point's carried rows have to hold. -/
theorem car_next (t' : Fin 32) (h : t'.val = t.val + 1) : Car a t' (lastRows a t) := by
  intro s j
  show up a (row t ⟨504 + s.val, _⟩) ⟨j.val, _⟩ = _
  exact back_pos a (8 - s.val) _ j _ (by simp only []; omega)

/-- Before the first point the carried rows hold zero. -/
theorem car_first (h : t.val = 0) : Car a t (k0_pay5 (F := Ideal)) := by
  intro s j
  rw [back, dif_neg (by omega)]
  pointwise [k0_pay5]

end Cert.Kernel2Ideal.Out

end
-- ==== Proof.OutValue.lean ====
/- The blocks of the output projection and feed-forward part, and its two arrays at an index, over the extended reals. -/
module

public import proofs.«01_k».proof.Proof.OutSum
public import Idealize.ShloMosaic.Lib.StableHlo.ReadAt

@[expose] public section
set_option maxRecDepth 16384

noncomputable section

namespace Cert.Kernel2Ideal.Out

open Idealize.ShloMosaic Idealize.ShloMosaic.Pointwise Idealize.ShloMosaic.TcCoe Cert.Kernel2Ideal Cert.Kernel2Ideal.Gen Cert.Ffn

variable (m : (ℓ : Loc nD τ sig) → Buf (Elt Ideal) ℓ)

/-- The arguments' entries on a core. -/
def args (c : Dev nD) : Args 16384 where
  X p d := (m ((c : Thread nD τ).loc main_arg0) : FVec Ideal S1x16384x1024 .f32) (ix3 0 p d)
  A p k := (m ((c : Thread nD τ).loc main_arg1) : FVec Ideal S1x16384x512 .f32) (ix3 0 p k)
  B p k := (m ((c : Thread nD τ).loc main_arg2) : FVec Ideal S1x16384x512 .f32) (ix3 0 p k)
  Wo k d := (m ((c : Thread nD τ).loc main_arg3) : FVec Ideal S1x1024x1024 .f32) (ix3 0 k d)
  G d := (m ((c : Thread nD τ).loc main_arg4) : FVec Ideal S1x1024 .f32) (ix2 0 d)
  Wu d j := (m ((c : Thread nD τ).loc main_arg5) : FVec Ideal S1x1024x5632 .f32) (ix3 0 d j)
  C w j := (m ((c : Thread nD τ).loc main_arg6) : FVec Ideal S1x3x2816 .f32) (ix3 0 w j)
  Cb j := (m ((c : Thread nD τ).loc main_arg7) : FVec Ideal S1x2816 .f32) (ix2 0 j)
  Wd j d := (m ((c : Thread nD τ).loc main_arg8) : FVec Ideal S1x2816x1024 .f32) (ix3 0 j d)
  Gf d := (m ((c : Thread nD τ).loc main_arg9) : FVec Ideal S1024 .f32) (ix1 d)

/-- A grid point as a block number. -/
abbrev pt (t : Fin cfg0.N) : Fin 32 := ⟨t.val, lt_of_lt_of_eq t.isLt N_0⟩

/-- The block numbers of the windows at a point. -/
theorem idx0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = 0 ∧ win0_13.index t (1 : Fin 2) = 0) :=
  (by decide +kernel : ∀ t : Fin grid0.N, _)

set_option maxHeartbeats 1600000 in
/-- The activations at a point. -/
theorem blk0 (c : Dev nD) (t : Fin cfg0.N) (r : Fin 512) (l : Fin 1024) :
    iblk m c 0 t (ix2 r l) = (args m c).X (row (pt t) r) l := by
  have i0 := (idx0 t).1
  have e : ((cfg0.win 0).blk t).view.emb (ix2 r l) = (ix2 (row (pt t) r) l : S16384x1024.Idx) := by
    blk_ext [i0]
  refine (congrArg (V m c (Pipeline.arrRef spec0 0)) e).trans ?_
  show V m c main_v11 _ = _
  dsimp only [V, args]
  simp only [hostOps0]
  after_reads_at

set_option maxHeartbeats 1600000 in
/-- The first half of the mixed rows at a point. -/
theorem blk1 (c : Dev nD) (t : Fin cfg0.N) (r : Fin 512) (l : Fin 512) :
    iblk m c 1 t (ix2 r l) = (args m c).A (row (pt t) r) l := by
  have i0 := (idx0 t).2.1
  have e : ((cfg0.win 1).blk t).view.emb (ix2 r l) = (ix2 (row (pt t) r) l : S16384x512.Idx) := by
    blk_ext [i0]
  refine (congrArg (V m c (Pipeline.arrRef spec0 1)) e).trans ?_
  show V m c main_v13 _ = _
  dsimp only [V, args]
  simp only [hostOps0]
  after_reads_at

set_option maxHeartbeats 1600000 in
/-- The second half of the mixed rows at a point. -/
theorem blk2 (c : Dev nD) (t : Fin cfg0.N) (r : Fin 512) (l : Fin 512) :
    iblk m c 2 t (ix2 r l) = (args m c).B (row (pt t) r) l := by
  have i0 := (idx0 t).2.2.1
  have e : ((cfg0.win 2).blk t).view.emb (ix2 r l) = (ix2 (row (pt t) r) l : S16384x512.Idx) := by
    blk_ext [i0]
  refine (congrArg (V m c (Pipeline.arrRef spec0 2)) e).trans ?_
  show V m c main_v14 _ = _
  dsimp only [V, args]
  simp only [hostOps0]
  after_reads_at

set_option maxHeartbeats 1600000 in
/-- The output projection at a point. -/
theorem blk5 (c : Dev nD) (t : Fin cfg0.N) (r : Fin 1024) (l : Fin 1024) :
    iblk m c 5 t (ix2 r l) = (args m c).Wo r l := by
  have i0 := (idx0 t).2.2.2.1
  have e : ((cfg0.win 5).blk t).view.emb (ix2 r l) = (ix2 r l : S1024x1024.Idx) := by
    blk_ext [i0]
  refine (congrArg (V m c (Pipeline.arrRef spec0 5)) e).trans ?_
  show V m c main_v1 _ = _
  dsimp only [V, args]
  simp only [hostOps0]
  after_reads_at

set_option maxHeartbeats 1600000 in
/-- The gain at a point. -/
theorem blk6 (c : Dev nD) (t : Fin cfg0.N) (l : Fin 1024) :
    iblk m c 6 t (ix2 0 l) = (args m c).G l := by
  have i0 := (idx0 t).2.2.2.2.1
  have e : ((cfg0.win 6).blk t).view.emb (ix2 0 l) = (ix2 0 l : S1x1024.Idx) := by
    blk_ext [i0]
  refine (congrArg (V m c (Pipeline.arrRef spec0 6)) e).trans ?_
  show V m c main_v7 _ = _
  dsimp only [V, args]
  simp only [hostOps0]
  after_reads_at

set_option maxHeartbeats 1600000 in
/-- The up projection at a point. -/
theorem blk7 (c : Dev nD) (t : Fin cfg0.N) (r : Fin 1024) (l : Fin 5632) :
    iblk m c 7 t (ix2 r l) = (args m c).Wu r l := by
  have i0 := (idx0 t).2.2.2.2.2.1
  have e : ((cfg0.win 7).blk t).view.emb (ix2 r l) = (ix2 r l : S1024x5632.Idx) := by
    blk_ext [i0]
  refine (congrArg (V m c (Pipeline.arrRef spec0 7)) e).trans ?_
  show V m c main_v3 _ = _
  dsimp only [V, args]
  simp only [hostOps0]
  after_reads_at

set_option maxHeartbeats 1600000 in
/-- The taps at a point. -/
theorem blk8 (c : Dev nD) (t : Fin cfg0.N) (r : Fin 3) (l : Fin 2816) :
    iblk m c 8 t (ix2 r l) = (args m c).C r l := by
  have i0 := (idx0 t).2.2.2.2.2.2.1
  have e : ((cfg0.win 8).blk t).view.emb (ix2 r l) = (ix2 r l : S3x2816.Idx) := by
    blk_ext [i0]
  refine (congrArg (V m c (Pipeline.arrRef spec0 8)) e).trans ?_
  show V m c main_v15 _ = _
  dsimp only [V, args]
  simp only [hostOps0]
  after_reads_at

set_option maxHeartbeats 1600000 in
/-- The bias at a point. -/
theorem blk9 (c : Dev nD) (t : Fin cfg0.N) (l : Fin 2816) :
    iblk m c 9 t (ix2 0 l) = (args m c).Cb l := by
  have i0 := (idx0 t).2.2.2.2.2.2.2.1
  have e : ((cfg0.win 9).blk t).view.emb (ix2 0 l) = (ix2 0 l : S1x2816.Idx) := by
    blk_ext [i0]
  refine (congrArg (V m c (Pipeline.arrRef spec0 9)) e).trans ?_
  show V m c main_v10 _ = _
  dsimp only [V, args]
  simp only [hostOps0]
  after_reads_at

set_option maxHeartbeats 1600000 in
/-- The down projection at a point. -/
theorem blk10 (c : Dev nD) (t : Fin cfg0.N) (r : Fin 2816) (l : Fin 1024) :
    iblk m c 10 t (ix2 r l) = (args m c).Wd r l := by
  have i0 := (idx0 t).2.2.2.2.2.2.2.2.1
  have e : ((cfg0.win 10).blk t).view.emb (ix2 r l) = (ix2 r l : S2816x1024.Idx) := by
    blk_ext [i0]
  refine (congrArg (V m c (Pipeline.arrRef spec0 10)) e).trans ?_
  show V m c main_v5 _ = _
  dsimp only [V, args]
  simp only [hostOps0]
  after_reads_at

set_option maxHeartbeats 1600000 in
/-- The final gain at a point. -/
theorem blk11 (c : Dev nD) (t : Fin cfg0.N) (l : Fin 1024) :
    iblk m c 11 t (ix2 0 l) = (args m c).Gf l := by
  have i0 := (idx0 t).2.2.2.2.2.2.2.2.2.1
  have e : ((cfg0.win 11).blk t).view.emb (ix2 0 l) = (ix2 0 l : S1x1024.Idx) := by
    blk_ext [i0]
  refine (congrArg (V m c (Pipeline.arrRef spec0 11)) e).trans ?_
  show V m c main_v8 _ = _
  dsimp only [V, args]
  simp only [hostOps0]
  after_reads_at

/-- What the blocks of a point hold. -/
theorem blkAll (c : Dev nD) (t : Fin cfg0.N) : Blk (args m c) (pt t) (iblk m c 0 t) (iblk m c 1 t) (iblk m c 2 t) (iblk m c 5 t) (iblk m c 6 t) (iblk m c 7 t) (iblk m c 8 t) (iblk m c 9 t) (iblk m c 10 t) (iblk m c 11 t) where
  b0 := blk0 m c t
  b1 := blk1 m c t
  b2 := blk2 m c t
  b5 := blk5 m c t
  b6 := blk6 m c t
  b7 := blk7 m c t
  b8 := blk8 m c t
  b9 := blk9 m c t
  b10 := blk10 m c t
  b11 := blk11 m c t

/-- After a point the carried rows hold the up projection of its block's last eight rows. -/
theorem carry (c : Dev nD) (t : Fin cfg0.N) : (outsAt0 m c t.val t.isLt).2.2 = lastRows (args m c) (pt t) := by
  by_cases h0 : t.val % 32 = 0
  · rw [outsAt0_A m c t h0]
    dsimp only
    rw [car_A]
    exact carP_canon (blkAll m c t) _
  · rw [outsAt0_B m c t h0]
    dsimp only
    rw [car_B]
    refine Eq.trans ?_ (carP_canon (blkAll m c t) [])
    rw [List.append_nil]

/-- What a point writes back in the rows' window. -/
theorem out12 (c : Dev nD) (t : Fin cfg0.N) (r : Fin 512) (d : Fin 1024) :
    ((outsAt0 m c t.val t.isLt).1 (ix2 r d) : EReal) = fin (args m c) (row (pt t) r) d := by
  by_cases h0 : t.val % 32 = 0
  · rw [outsAt0_A m c t h0]
    dsimp only
    rw [out_A]
    exact rows_at (blkAll m c t) (car_first (by have := lt_of_lt_of_eq t.isLt N_0; simp only []; omega)) r d
  · rw [outsAt0_B m c t h0]
    dsimp only
    rw [out_B]
    refine rows_at (blkAll m c t) ?_ r d
    have hp : 0 < t.val := by omega
    refine Eq.mpr (congrArg (Car (args m c) (pt t)) (carry m c ⟨t.val - 1, lt_of_le_of_lt (Nat.sub_le _ _) t.isLt⟩)) ?_
    exact car_next (pt t) (by simp only []; omega)

/-- What a later point leaves in the last rows' window. -/
theorem out13 (c : Dev nD) (t : Fin cfg0.N) (h0 : ¬t.val % 32 = 0) : (outsAt0 m c t.val t.isLt).2.1 = lastRows (args m c) (pt t) := by
  rw [outsAt0_B m c t h0]
  dsimp only
  rw [tail_B]
  exact outP_canon (blkAll m c t)

/-- Every point writes its rows back. -/
theorem flush12 : ∀ t : Fin cfg0.N, (cfg0.win 12).flush t = true := (by decide +kernel : ∀ t : Fin grid0.N, win0_12.flush t = true)

/-- A row is a row of a block. -/
theorem row_split (p : Fin 16384) : ∃ (t : Fin cfg0.N) (r : Fin 512), p = row (pt t) r :=
  ⟨⟨p.val / 512, lt_of_lt_of_eq (by omega) N_0.symm⟩, ⟨p.val % 512, Nat.mod_lt _ (by decide)⟩, Fin.ext (by simp only []; omega)⟩

/-- The layer's rows. -/
theorem arr12 (c : Dev nD) (p : Fin 16384) (d : Fin 1024) :
    ((dats m 0 c).arrAt 12 cfg0.N (ix2 p d) : EReal) = fin (args m c) p d := by
  obtain ⟨t, r, hp⟩ := row_split p
  subst hp
  have h := congrFun ((Value.blocks12 m c t (flush12 t)).trans (Value.flushed12 m c t)) (ix2 r d)
  have i0 := (idx0 t).2.2.2.2.2.2.2.2.2.2.1
  have e : ((cfg0.win 12).blk t).view.emb (ix2 r d) = (ix2 (row (pt t) r) d : S16384x1024.Idx) := by
    blk_ext [i0]
  exact ((congrArg ((dats m 0 c).arrAt 12 cfg0.N) e).symm.trans h).trans (out12 m c t r d)

/-- The last rows' array is what the last point leaves. -/
theorem arr13_eq (c : Dev nD) (t : Fin cfg0.N) (h : t.val = 31) : (dats m 0 c).arrAt 13 cfg0.N = (outsAt0 m c t.val t.isLt).2.1 := by
  obtain ⟨n, hn⟩ := t
  obtain rfl : n = 31 := h
  rw [Value.final13, Value.G13_last, Value.outsAt0_sweep]

/-- The last rows of the up projection. -/
theorem arr13' (c : Dev nD) (t : Fin cfg0.N) (h : t.val = 31) (s : Fin 8) (j : Fin 2816) :
    ((dats m 0 c).arrAt 13 cfg0.N (ix2 s j) : EReal) = up (args m c) ⟨16376 + s.val, by omega⟩ ⟨j.val, by omega⟩ := by
  refine (congrFun ((arr13_eq m c t h).trans (out13 m c t (by omega))) (ix2 s j)).trans ?_
  refine congrArg (fun p => up (args m c) p ⟨j.val, by omega⟩) ?_
  apply Fin.ext
  show 512 * t.val + (504 + s.val) = 16376 + s.val
  omega

/-- The last rows of the up projection. -/
theorem arr13 (c : Dev nD) (s : Fin 8) (j : Fin 2816) :
    ((dats m 0 c).arrAt 13 cfg0.N (ix2 s j) : EReal) = up (args m c) ⟨16376 + s.val, by omega⟩ ⟨j.val, by omega⟩ :=
  arr13' m c ⟨31, lt_of_lt_of_eq (by decide) N_0.symm⟩ rfl s j

end Cert.Kernel2Ideal.Out

end
-- ==== Proof.OutRef.lean ====
/- The reference's rows and last rows over the extended reals, at an index. -/
module

public import proofs.«01_k».proof.Proof.Gen.Reference2Ideal.Run
public import proofs.«01_k».proof.Proof.FfnSpec

@[expose] public section
set_option maxRecDepth 16384

noncomputable section

namespace Cert.Reference2Ideal.Out

open Idealize.ShloMosaic Idealize.ShloMosaic.StableHlo Idealize.ShloMosaic.Pointwise Idealize.ShloMosaic.TcCoe Cert.Reference2Ideal Cert.Reference2Ideal.Gen Cert.Reference2Ideal.Value Cert.Ffn

/-- The residual rows. -/
def v4 (a0 : FVec Ideal S1x16384x1024 .f32) (a1 : FVec Ideal S1x16384x512 .f32) (a2 : FVec Ideal S1x16384x512 .f32) (a3 : FVec Ideal S1x1024x1024 .f32) : FVec Ideal S1x16384x1024 .f32 :=
  addf a0 (Host.dotGeneral dot_S1x16384x1024_S1024x1024_S1x16384x1024_2_0_01_1_n_n none (concatenate S1x16384x1024 2 [⟨S1x16384x512, a1⟩, ⟨S1x16384x512, a2⟩] concatenates_S1x16384x512_S1x16384x512_S1x16384x1024_d2) (shapeCast _ a3 shapeCasts_S1x1024x1024_S1024x1024))

/-- The normalised rows. -/
def v18 (a4 : FVec Ideal S1x1024 .f32) (v4 : FVec Ideal S1x16384x1024 .f32) : FVec Ideal S1x16384x1024 .f32 :=
  mulf (mulf v4 (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf v4 v4) (constant (F := Ideal) S_ .f32 0x00000000#32) reducesTo_S1x16384x1024_S1x16384_d2 h_S_)) (broadcastInDim S1x16384x1 ![] bcast_S_S1x16384x1 (constant (F := Ideal) S_ .f32 0x44800000#32))) (broadcastInDim S1x16384x1 ![] bcast_S_S1x16384x1 (constant (F := Ideal) S_ .f32 0x358637BD#32)))))) (broadcastInDim S1x16384x1024 ![0, 1, 2] bcast_S1x1x1024_S1x16384x1024_0_1_2 (broadcastInDim S1x1x1024 ![2] bcast_S1024_S1x1x1024_2 (shapeCast _ a4 shapeCasts_S1x1024_S1024)))

/-- The up projection. -/
def v20 (a5 : FVec Ideal S1x1024x5632 .f32) (v18 : FVec Ideal S1x16384x1024 .f32) : FVec Ideal S1x16384x5632 .f32 :=
  Host.dotGeneral dot_S1x16384x1024_S1024x5632_S1x16384x5632_2_0_01_1_n_n none v18 (shapeCast _ a5 shapeCasts_S1x1024x5632_S1024x5632)

/-- The up projection after two rows of zero. -/
def v23 (v20 : FVec Ideal S1x16384x5632 .f32) : FVec Ideal S1x16386x2816 .f32 :=
  concatenate S1x16386x2816 1 [⟨S1x2x2816, (broadcastInDim S1x2x2816 ![] bcast_S_S1x2x2816 (constant (F := Ideal) S_ .f32 0x00000000#32))⟩, ⟨S1x16384x2816, (extractStridedSlice S1x16384x2816 ![0, 0, 0] v20 slices_S1x16384x5632_S1x16384x2816_0_0_0)⟩] concatenates_S1x2x2816_S1x16384x2816_S1x16386x2816_d1

/-- The convolution. -/
def v50 (a6 : FVec Ideal S1x3x2816 .f32) (a7 : FVec Ideal S1x2816 .f32) (v23 : FVec Ideal S1x16386x2816 .f32) : FVec Ideal S1x16384x2816 .f32 :=
  addf (addf (addf (broadcastInDim S1x16384x2816 ![0, 1, 2] bcast_S1x1x2816_S1x16384x2816_0_1_2 (broadcastInDim S1x1x2816 ![2] bcast_S2816_S1x1x2816_2 (shapeCast _ a7 shapeCasts_S1x2816_S2816))) (mulf (broadcastInDim S1x16384x2816 ![0, 1, 2] bcast_S1x1x2816_S1x16384x2816_0_1_2 (broadcastInDim S1x1x2816 ![2] bcast_S2816_S1x1x2816_2 (shapeCast _ (extractStridedSlice S1x2816 ![0, 0] (shapeCast _ a6 shapeCasts_S1x3x2816_S3x2816) slices_S3x2816_S1x2816_0_0) shapeCasts_S1x2816_S2816))) (extractStridedSlice S1x16384x2816 ![0, 0, 0] v23 slices_S1x16386x2816_S1x16384x2816_0_0_0))) (mulf (broadcastInDim S1x16384x2816 ![0, 1, 2] bcast_S1x1x2816_S1x16384x2816_0_1_2 (broadcastInDim S1x1x2816 ![2] bcast_S2816_S1x1x2816_2 (shapeCast _ (extractStridedSlice S1x2816 ![1, 0] (shapeCast _ a6 shapeCasts_S1x3x2816_S3x2816) slices_S3x2816_S1x2816_1_0) shapeCasts_S1x2816_S2816))) (extractStridedSlice S1x16384x2816 ![0, 1, 0] v23 slices_S1x16386x2816_S1x16384x2816_0_1_0))) (mulf (broadcastInDim S1x16384x2816 ![0, 1, 2] bcast_S1x1x2816_S1x16384x2816_0_1_2 (broadcastInDim S1x1x2816 ![2] bcast_S2816_S1x1x2816_2 (shapeCast _ (extractStridedSlice S1x2816 ![2, 0] (shapeCast _ a6 shapeCasts_S1x3x2816_S3x2816) slices_S3x2816_S1x2816_2_0) shapeCasts_S1x2816_S2816))) (extractStridedSlice S1x16384x2816 ![0, 2, 0] v23 slices_S1x16386x2816_S1x16384x2816_0_2_0))

/-- The gated lanes. -/
def v52 (v20 : FVec Ideal S1x16384x5632 .f32) (v50 : FVec Ideal S1x16384x2816 .f32) : FVec Ideal S1x16384x2816 .f32 :=
  mulf (mulf v50 (Host.divf (broadcastInDim S1x16384x2816 ![] bcast_S_S1x16384x2816 (constant (F := Ideal) S_ .f32 0x3F800000#32)) (addf (broadcastInDim S1x16384x2816 ![] bcast_S_S1x16384x2816 (constant (F := Ideal) S_ .f32 0x3F800000#32)) (Host.exp (Host.negf v50))))) (extractStridedSlice S1x16384x2816 ![0, 0, 2816] v20 slices_S1x16384x5632_S1x16384x2816_0_0_2816)

/-- The rows after the down projection. -/
def v55 (a8 : FVec Ideal S1x2816x1024 .f32) (v4 : FVec Ideal S1x16384x1024 .f32) (v52 : FVec Ideal S1x16384x2816 .f32) : FVec Ideal S1x16384x1024 .f32 :=
  addf v4 (Host.dotGeneral dot_S1x16384x2816_S2816x1024_S1x16384x1024_2_0_01_1_n_n none v52 (shapeCast _ a8 shapeCasts_S1x2816x1024_S2816x1024))

/-- The layer's rows. -/
def v69 (a9 : FVec Ideal S1024 .f32) (v55 : FVec Ideal S1x16384x1024 .f32) : FVec Ideal S16384x1024 .f32 :=
  shapeCast _ (mulf (mulf v55 (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf v55 v55) (constant (F := Ideal) S_ .f32 0x00000000#32) reducesTo_S1x16384x1024_S1x16384_d2 h_S_)) (broadcastInDim S1x16384x1 ![] bcast_S_S1x16384x1 (constant (F := Ideal) S_ .f32 0x44800000#32))) (broadcastInDim S1x16384x1 ![] bcast_S_S1x16384x1 (constant (F := Ideal) S_ .f32 0x358637BD#32)))))) (broadcastInDim S1x16384x1024 ![0, 1, 2] bcast_S1x1x1024_S1x16384x1024_0_1_2 (broadcastInDim S1x1x1024 ![2] bcast_S1024_S1x1x1024_2 a9))) shapeCasts_S1x16384x1024_S16384x1024

/-- The arguments' entries. -/
def mk (a0 : FVec Ideal S1x16384x1024 .f32) (a1 : FVec Ideal S1x16384x512 .f32) (a2 : FVec Ideal S1x16384x512 .f32) (a3 : FVec Ideal S1x1024x1024 .f32) (a4 : FVec Ideal S1x1024 .f32) (a5 : FVec Ideal S1x1024x5632 .f32) (a6 : FVec Ideal S1x3x2816 .f32) (a7 : FVec Ideal S1x2816 .f32) (a8 : FVec Ideal S1x2816x1024 .f32) (a9 : FVec Ideal S1024 .f32) : Args 16384 where
  X p d := a0 (ix3 0 p d)
  A p k := a1 (ix3 0 p k)
  B p k := a2 (ix3 0 p k)
  Wo k d := a3 (ix3 0 k d)
  G d := a4 (ix2 0 d)
  Wu d j := a5 (ix3 0 d j)
  C w j := a6 (ix3 0 w j)
  Cb j := a7 (ix2 0 j)
  Wd j d := a8 (ix3 0 j d)
  Gf d := a9 (ix1 d)

section
variable (a : Args 16384)

/-- The residual rows at an index. -/
theorem v4_at (a0 : FVec Ideal S1x16384x1024 .f32) (a1 : FVec Ideal S1x16384x512 .f32) (a2 : FVec Ideal S1x16384x512 .f32) (a3 : FVec Ideal S1x1024x1024 .f32) (hX : ∀ p d, a0 (ix3 0 p d) = a.X p d) (hA : ∀ p k, a1 (ix3 0 p k) = a.A p k) (hB : ∀ p k, a2 (ix3 0 p k) = a.B p k)
    (hW : ∀ k d, a3 (ix3 0 k d) = a.Wo k d) (p : Fin 16384) (d : Fin 1024) : (v4 a0 a1 a2 a3 (ix3 0 p d) : EReal) = res a p d := by
  pointwise [v4]
  simp only [hX, hA, hB, hW]
  rfl

/-- The normalised rows at an index. -/
theorem v18_at (a4 : FVec Ideal S1x1024 .f32) (v4 : FVec Ideal S1x16384x1024 .f32) (hv : ∀ p d, v4 (ix3 0 p d) = res a p d) (hG : ∀ d, a4 (ix2 0 d) = a.G d) (p : Fin 16384) (d : Fin 1024) :
    (v18 a4 v4 (ix3 0 p d) : EReal) = hid a p d := by
  pointwise [v18]
  simp only [hv, hG]
  rfl

/-- The up projection at an index. -/
theorem v20_at (a5 : FVec Ideal S1x1024x5632 .f32) (v18 : FVec Ideal S1x16384x1024 .f32) (hv : ∀ p d, v18 (ix3 0 p d) = hid a p d) (hW : ∀ d j, a5 (ix3 0 d j) = a.Wu d j) (p : Fin 16384) (j : Fin 5632) :
    (v20 a5 v18 (ix3 0 p j) : EReal) = up a p j := by
  pointwise [v20]
  simp only [hv, hW]
  rfl

/-- The up projection `w` rows on, after two rows of zero: that of the row `n` before. -/
theorem v23_at (v20 : FVec Ideal S1x16384x5632 .f32) (hv : ∀ p j, v20 (ix3 0 p j) = up a p j) (w n p : ℕ) (hw : w + n = 2) (hp : p < 16384) (q : Fin 16386) (hq : q.val = w + p) (k : Fin 2816) :
    (v23 v20 (ix3 0 q k) : EReal) = back a n p k := by
  pointwise [v23]
  by_cases h : q.val < 2
  · rw [dif_pos h, back, dif_neg (by omega)]
  · rw [dif_neg h, hv]
    exact back_pos a n p k _ (by simp only []; omega)

/-- No row back is the row itself. -/
theorem back_zero (p : Fin 16384) (k : Fin 2816) : back a 0 p.val k = up a p ⟨k.val, by omega⟩ :=
  (back_pos a 0 p.val k p rfl).symm

/-- The convolution at an index. -/
theorem v50_at (a6 : FVec Ideal S1x3x2816 .f32) (a7 : FVec Ideal S1x2816 .f32) (v23 : FVec Ideal S1x16386x2816 .f32) (hv : ∀ (w n p : ℕ) (hw : w + n = 2) (hp : p < 16384) (q : Fin 16386) (hq : q.val = w + p) (k : Fin 2816), v23 (ix3 0 q k) = back a n p k)
    (hC : ∀ w k, a6 (ix3 0 w k) = a.C w k) (hb : ∀ k, a7 (ix2 0 k) = a.Cb k) (p : Fin 16384) (k : Fin 2816) :
    (v50 a6 a7 v23 (ix3 0 p k) : EReal) = conv a p k := by
  pointwise [v50]
  rw [hv 0 2 p.val rfl p.isLt ⟨p.val, by omega⟩ (by simp only []; omega), hv 1 1 p.val rfl p.isLt ⟨1 + p.val, by omega⟩ rfl, hv 2 0 p.val rfl p.isLt ⟨2 + p.val, by omega⟩ rfl, hb, hC, hC, hC, back_zero]
  rfl

/-- The gated lanes at an index. -/
theorem v52_at (v20 : FVec Ideal S1x16384x5632 .f32) (v50 : FVec Ideal S1x16384x2816 .f32) (hv : ∀ p k, v50 (ix3 0 p k) = conv a p k) (hu : ∀ p j, v20 (ix3 0 p j) = up a p j) (p : Fin 16384) (k : Fin 2816) :
    (v52 v20 v50 (ix3 0 p k) : EReal) = gate a p k := by
  pointwise [v52]
  rw [hv, hu]
  rfl

/-- The rows after the down projection at an index. -/
theorem v55_at (a8 : FVec Ideal S1x2816x1024 .f32) (v4 : FVec Ideal S1x16384x1024 .f32) (v52 : FVec Ideal S1x16384x2816 .f32) (hv : ∀ p d, v4 (ix3 0 p d) = res a p d) (hg : ∀ p k, v52 (ix3 0 p k) = gate a p k) (hW : ∀ k d, a8 (ix3 0 k d) = a.Wd k d) (p : Fin 16384) (d : Fin 1024) :
    (v55 a8 v4 v52 (ix3 0 p d) : EReal) = out a p d := by
  pointwise [v55]
  simp only [hv, hg, hW]
  rfl

/-- The layer's rows at an index. -/
theorem v69_at (a9 : FVec Ideal S1024 .f32) (v55 : FVec Ideal S1x16384x1024 .f32) (hv : ∀ p d, v55 (ix3 0 p d) = out a p d) (hG : ∀ d, a9 (ix1 d) = a.Gf d) (p : Fin 16384) (d : Fin 1024) :
    (v69 a9 v55 (ix2 p d) : EReal) = fin a p d := by
  pointwise [v69]
  simp only [hv, hG]
  rfl

end

section
variable (a0 : FVec Ideal S1x16384x1024 .f32) (a1 : FVec Ideal S1x16384x512 .f32) (a2 : FVec Ideal S1x16384x512 .f32) (a3 : FVec Ideal S1x1024x1024 .f32) (a4 : FVec Ideal S1x1024 .f32) (a5 : FVec Ideal S1x1024x5632 .f32) (a6 : FVec Ideal S1x3x2816 .f32) (a7 : FVec Ideal S1x2816 .f32) (a8 : FVec Ideal S1x2816x1024 .f32) (a9 : FVec Ideal S1024 .f32)

/-- The up projection of the arguments. -/
theorem up_mk (p : Fin 16384) (j : Fin 5632) : ((v20 a5 (v18 a4 (v4 a0 a1 a2 a3))) (ix3 0 p j) : EReal) = up (mk a0 a1 a2 a3 a4 a5 a6 a7 a8 a9) p j :=
  v20_at (mk a0 a1 a2 a3 a4 a5 a6 a7 a8 a9) _ _ (v18_at (mk a0 a1 a2 a3 a4 a5 a6 a7 a8 a9) _ _ (v4_at (mk a0 a1 a2 a3 a4 a5 a6 a7 a8 a9) _ _ _ _ (fun _ _ => rfl) (fun _ _ => rfl) (fun _ _ => rfl) (fun _ _ => rfl)) (fun _ => rfl)) (fun _ _ => rfl) p j

/-- The rows of the arguments. -/
theorem fin_mk (p : Fin 16384) (d : Fin 1024) : ((v69 a9 (v55 a8 (v4 a0 a1 a2 a3) (v52 (v20 a5 (v18 a4 (v4 a0 a1 a2 a3))) (v50 a6 a7 (v23 (v20 a5 (v18 a4 (v4 a0 a1 a2 a3)))))))) (ix2 p d) : EReal) = fin (mk a0 a1 a2 a3 a4 a5 a6 a7 a8 a9) p d := by
  have h4 := v4_at (mk a0 a1 a2 a3 a4 a5 a6 a7 a8 a9) a0 a1 a2 a3 (fun _ _ => rfl) (fun _ _ => rfl) (fun _ _ => rfl) (fun _ _ => rfl)
  have h20 := up_mk a0 a1 a2 a3 a4 a5 a6 a7 a8 a9
  exact v69_at (mk a0 a1 a2 a3 a4 a5 a6 a7 a8 a9) _ _ (v55_at (mk a0 a1 a2 a3 a4 a5 a6 a7 a8 a9) _ _ _ h4 (v52_at (mk a0 a1 a2 a3 a4 a5 a6 a7 a8 a9) _ _ (v50_at (mk a0 a1 a2 a3 a4 a5 a6 a7 a8 a9) _ _ _ (v23_at (mk a0 a1 a2 a3 a4 a5 a6 a7 a8 a9) _ h20) (fun _ _ => rfl) (fun _ => rfl)) h20) (fun _ _ => rfl)) (fun _ => rfl) p d

/-- The last rows. -/
def v71 (v20 : FVec Ideal S1x16384x5632 .f32) : FVec Ideal S8x2816 .f32 :=
  shapeCast _ (extractStridedSlice S1x8x2816 ![0, 16378, 0] (v23 v20) slices_S1x16386x2816_S1x8x2816_0_16378_0) shapeCasts_S1x8x2816_S8x2816

/-- The last rows of the arguments. -/
theorem tail_mk (s : Fin 8) (k : Fin 2816) : (v71 (v20 a5 (v18 a4 (v4 a0 a1 a2 a3))) (ix2 s k) : EReal) = up (mk a0 a1 a2 a3 a4 a5 a6 a7 a8 a9) ⟨16376 + s.val, by omega⟩ ⟨k.val, by omega⟩ := by
  pointwise [v71]
  refine (v23_at (mk a0 a1 a2 a3 a4 a5 a6 a7 a8 a9) _ (up_mk a0 a1 a2 a3 a4 a5 a6 a7 a8 a9) 2 0 (16376 + s.val) rfl (by omega) _ (by simp only []; omega) k).trans ?_
  exact back_zero (mk a0 a1 a2 a3 a4 a5 a6 a7 a8 a9) ⟨16376 + s.val, by omega⟩ k

end

variable (m : (ℓ : Loc nD τ sig) → Buf (Elt Ideal) ℓ)

/-- The reference's first result is the last of these. -/
theorem res_eq (c : Dev nD) : res_main_v69 m c = (v69 (m ((c.tc : Thread nD τ).loc main_arg9)) (v55 (m ((c.tc : Thread nD τ).loc main_arg8)) (v4 (m ((c.tc : Thread nD τ).loc main_arg0)) (m ((c.tc : Thread nD τ).loc main_arg1)) (m ((c.tc : Thread nD τ).loc main_arg2)) (m ((c.tc : Thread nD τ).loc main_arg3))) (v52 (v20 (m ((c.tc : Thread nD τ).loc main_arg5)) (v18 (m ((c.tc : Thread nD τ).loc main_arg4)) (v4 (m ((c.tc : Thread nD τ).loc main_arg0)) (m ((c.tc : Thread nD τ).loc main_arg1)) (m ((c.tc : Thread nD τ).loc main_arg2)) (m ((c.tc : Thread nD τ).loc main_arg3))))) (v50 (m ((c.tc : Thread nD τ).loc main_arg6)) (m ((c.tc : Thread nD τ).loc main_arg7)) (v23 (v20 (m ((c.tc : Thread nD τ).loc main_arg5)) (v18 (m ((c.tc : Thread nD τ).loc main_arg4)) (v4 (m ((c.tc : Thread nD τ).loc main_arg0)) (m ((c.tc : Thread nD τ).loc main_arg1)) (m ((c.tc : Thread nD τ).loc main_arg2)) (m ((c.tc : Thread nD τ).loc main_arg3)))))))))) := rfl

/-- The arguments' entries on a core. -/
def args (c : Dev nD) : Args 16384 := mk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The reference's first result at an index. -/
theorem ref_fin (c : Dev nD) (p : Fin 16384) (d : Fin 1024) : (res_main_v69 m c (ix2 p d) : EReal) = fin (args m c) p d :=
  (congrFun (res_eq m c) (ix2 p d)).trans (fin_mk _ _ _ _ _ _ _ _ _ _ p d)

end Cert.Reference2Ideal.Out

end
-- ==== Proof.FeedForward.lean ====
/- The output projection and feed-forward part of the prompt: the kernel's run and the reference's end with the same two arrays,
   over the extended reals. -/
module

public import proofs.«01_k».proof.Defs
public import proofs.«01_k».proof.Proof.OutValue
public import proofs.«01_k».proof.Proof.OutRef

@[expose] public section
set_option maxRecDepth 16384

noncomputable section

namespace Cert.Proof

open Idealize.ShloMosaic Idealize.ShloMosaic.StableHlo Idealize.ShloMosaic.Pointwise Idealize.SL.Sem

/-- The reference's frame. -/
theorem frame_r2 : Cert.quiescent_Reference2Ideal := fun m ρ _ =>
  (θ_run (Cert.Reference2Ideal.defs (F := Ideal)) _ _).mono (fun r h => ⟨fun c => (h c).2.2, sem_eq_zero_of_no_sems (by decide) r.2⟩)
    (Cert.Reference2Ideal.Value.run (F := Ideal) m ρ)

set_option maxHeartbeats 4000000 in
/-- The kernel and the reference end with equal arrays. -/
theorem feedforward : Cert.algebraic_Kernel2Ideal_Reference2Ideal := by
  intro m g m' g' _ ha
  refine ⟨fun c => (Cert.Kernel2Ideal.Gen.dats m 0 c).arrAt 12 Cert.Kernel2Ideal.cfg0.N, fun c => (Cert.Kernel2Ideal.Gen.dats m 0 c).arrAt 13 Cert.Kernel2Ideal.cfg0.N,
    Cert.Kernel2Ideal.Value.run_blocks m g, ?_⟩
  refine (θ_run (Cert.Reference2Ideal.defs (F := Ideal)) _ _).mono (fun r h c => ?_) (Cert.Reference2Ideal.Value.run (F := Ideal) m' g')
  obtain ⟨h0, h1, hf⟩ := h c
  obtain ⟨a0, a1, a2, a3, a4, a5, a6, a7, a8, a9⟩ := ha c
  have ea : Cert.Reference2Ideal.Out.args m' c = Cert.Kernel2Ideal.Out.args m c := by
    unfold Cert.Reference2Ideal.Out.args
    rw [a0, a1, a2, a3, a4, a5, a6, a7, a8, a9]
    rfl
  refine ⟨h0.trans ?_, h1.trans ?_, hf⟩
  · funext i
    change Cert.Reference2Ideal.S16384x1024.Idx at i
    idx_vars i
    refine (Cert.Reference2Ideal.Out.ref_fin m' c _ _).trans ?_
    rw [ea]
    exact (Cert.Kernel2Ideal.Out.arr12 m c _ _).symm
  · refine Eq.trans (b := Cert.Reference2Ideal.Out.v71 (Cert.Reference2Ideal.Out.v20 (m' ((c.tc : Thread Cert.Reference2Ideal.nD Cert.Reference2Ideal.τ).loc Cert.Reference2Ideal.main_arg5)) (Cert.Reference2Ideal.Out.v18 (m' ((c.tc : Thread Cert.Reference2Ideal.nD Cert.Reference2Ideal.τ).loc Cert.Reference2Ideal.main_arg4)) (Cert.Reference2Ideal.Out.v4 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)))))) rfl ?_
    funext i
    change Cert.Reference2Ideal.S8x2816.Idx at i
    idx_vars i
    refine (Cert.Reference2Ideal.Out.tail_mk (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) _ _).trans ?_
    refine (congrArg (fun a => Cert.Ffn.up a _ _) ea).trans ?_
    exact (Cert.Kernel2Ideal.Out.arr13 m c _ _).symm

end Cert.Proof
-- ==== Proof.SampProjCases.lean ====
/- What the grid point of the samples' input projection leaves in its ten output blocks: one store each, of the value its text
   computes from the point's input blocks. -/
module

public import Idealize.ShloMosaic.Lib.Pointwise
public import Idealize.ShloMosaic.Lib.Pipeline.ValueKit
public import Idealize.ShloMosaic.Lib.Pipeline.ReadBack
public import proofs.«01_k».proof.Proof.Gen.Kernel4Ideal.Value

@[expose] public section
set_option maxRecDepth 16384

noncomputable section

namespace Cert.Kernel4Ideal.Proj

open Idealize.ShloMosaic Idealize.ShloMosaic.TcCoe Cert.Kernel4Ideal Cert.Kernel4Ideal.Gen

variable {F : FTy → Type} [FloatOps F]

/-- Output 7's block: the silu of the first group of lanes. -/
theorem out_7 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay5 (k0_pay1 x0 x1) (View.ld x2 (Rect.unit (s := S1024x4224) ![0, 0] S1024x512.size inb_S1024x4224_S1024x512_0_0)) := by
  frame_out
  all_goals first
    | rfl

/-- Output 8's block: one minus the forget gate. -/
theorem out_8 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay7 x3 (k0_pay1 x0 x1) (View.ld x2 (Rect.unit (s := S1024x4224) ![0, 512] S1024x512.size inb_S1024x4224_S1024x512_0_512)) := by
  frame_out
  all_goals first
    | rfl

/-- Output 9's block: the logarithm of the forget gate. -/
theorem out_9 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay8 x3 (k0_pay1 x0 x1) (View.ld x2 (Rect.unit (s := S1024x4224) ![0, 512] S1024x512.size inb_S1024x4224_S1024x512_0_512)) := by
  frame_out
  all_goals first
    | rfl

/-- Output 10's block: the third group. -/
theorem out_10 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay9 (k0_pay1 x0 x1) (View.ld x2 (Rect.unit (s := S1024x4224) ![0, 1024] S1024x512.size inb_S1024x4224_S1024x512_0_1024)) := by
  frame_out
  all_goals first
    | rfl

/-- Output 11's block: the silu of the fourth group. -/
theorem out_11 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay10 (k0_pay1 x0 x1) (View.ld x2 (Rect.unit (s := S1024x4224) ![0, 1536] S1024x512.size inb_S1024x4224_S1024x512_0_1536)) := by
  frame_out
  all_goals first
    | rfl

/-- Output 12's block: the rotated fifth group. -/
theorem out_12 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay11 (k0_pay2 x4) (k0_pay3 x5) (k0_pay4 x6) (k0_pay1 x0 x1) (View.ld x2 (Rect.unit (s := S1024x4224) ![0, 2048] S1024x512.size inb_S1024x4224_S1024x512_0_2048)) := by
  frame_out
  all_goals first
    | rfl

/-- Output 13's block: the rotated sixth group. -/
theorem out_13 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay12 (k0_pay2 x4) (k0_pay3 x5) (k0_pay4 x6) (k0_pay1 x0 x1) (View.ld x2 (Rect.unit (s := S1024x4224) ![0, 2560] S1024x512.size inb_S1024x4224_S1024x512_0_2560)) := by
  frame_out
  all_goals first
    | rfl

/-- Output 14's block: the seventh group. -/
theorem out_14 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay13 (k0_pay1 x0 x1) (View.ld x2 (Rect.unit (s := S1024x4224) ![0, 3072] S1024x512.size inb_S1024x4224_S1024x512_0_3072)) := by
  frame_out
  all_goals first
    | rfl

/-- Output 15's block: the rotated eighth group. -/
theorem out_15 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay14 (k0_pay2 x4) (k0_pay3 x5) (k0_pay4 x6) (k0_pay1 x0 x1) (View.ld x2 (Rect.unit (s := S1024x4224) ![0, 3584] S1024x512.size inb_S1024x4224_S1024x512_0_3584)) := by
  frame_out
  all_goals first
    | rfl

/-- Output 16's block: the rotated index key and the scaled index weights. -/
theorem out_16 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = k0_pay15 (k0_pay1 x0 x1) (View.ld x2 (Rect.unit (s := S1024x4224) ![0, 4096] S1024x128.size inb_S1024x4224_S1024x128_0_4096)) x4 x5 x6 := by
  frame_out
  all_goals first
    | rfl

end Cert.Kernel4Ideal.Proj

end
-- ==== Proof.SampProjBlocks.lean ====
/- The blocks of the samples' input projection, over the extended reals, as terms of the arguments. -/
module

public import proofs.«01_k».proof.Proof.SampProjCases
public import proofs.«01_k».proof.Proof.ProjSpec
public import Idealize.ShloMosaic.Lib.StableHlo.ReadAt

@[expose] public section
set_option maxRecDepth 16384

noncomputable section

namespace Cert.Kernel4Ideal.Proj

open Idealize.ShloMosaic Idealize.ShloMosaic.Pointwise Idealize.ShloMosaic.TcCoe Cert.Kernel4Ideal Cert.Kernel4Ideal.Gen Cert.Proj

variable (m : (ℓ : Loc nD τ sig) → Buf (Elt Ideal) ℓ)

/-- The activations. -/
abbrev aX (c : Dev nD) : Fin 128 → Fin 1024 → EReal := fun p d => (m ((c : Thread nD τ).loc main_arg0) : FVec Ideal S32x4x1024 .f32) (ix3 ⟨p.val / 4, by omega⟩ ⟨p.val % 4, by omega⟩ d)
/-- The gain. -/
abbrev aG (c : Dev nD) : Fin 1024 → EReal := fun d => (m ((c : Thread nD τ).loc main_arg1) : FVec Ideal S1x1024 .f32) (ix2 0 d)
/-- The weights. -/
abbrev aW (c : Dev nD) : Fin 1024 → Fin 4168 → EReal := fun d j => (m ((c : Thread nD τ).loc main_arg2) : FVec Ideal S1x1024x4168 .f32) (ix3 0 d j)

/-- The exponentials of the lower bounds' logits, less their maximum. -/
def lbE (L : FVec Ideal S2x512 .f32) : FVec Ideal S2x512 .f32 :=
  Host.exp (subf L (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf L (constant S_ .f32 0xFF800000#32) reducesTo_S2x512_S512_d0 h_S_)))))

/-- The lower bound: the first row of the cumulative sum of the softmax. -/
def lbV (L : FVec Ideal S2x512 .f32) : FVec Ideal S512 .f32 :=
  shapeCast _ (extractStridedSlice S1x512 ![0, 0] (Host.reduceWindowAdd ![2, 1] ![1, 1] ![1, 0] ![0, 0] (Host.divf (lbE L) (broadcastInDim S2x512 ![0, 1] bcast_S1x512_S2x512_0_1 (broadcastInDim S1x512 ![1] bcast_S512_S1x512_1 (Host.reduceAdd (lbE L) (constant S_ .f32 0x00000000#32) reducesTo_S2x512_S512_d0 h_S_)))) (broadcastInDim S_ ![] bcast_S_S_ (constant S_ .f32 0x00000000#32)) reduceWindows_S2x512_S2x512_w2s1p1_0_w1s1p0_0 h_S_) slices_S2x512_S1x512_0_0) shapeCasts_S1x512_S512

/-- The lower bound of lane `l`. -/
abbrev aL (c : Dev nD) (l : Fin 512) : EReal := lbV (m ((c : Thread nD τ).loc main_arg3)) (ix1 l)

theorem idx0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

set_option maxHeartbeats 1600000 in
/-- The activations block at a point. -/
theorem blk0 (c : Dev nD) (t : Fin cfg0.N) (r : Fin 128) (l : Fin 1024) :
    iblk m c 0 t (ix2 r l) = aX m c r l := by
  have i0 := (idx0 t).1
  have e : ((cfg0.win 0).blk t).view.emb (ix2 r l) = (ix2 r l : S128x1024.Idx) := by
    blk_ext [i0]
  refine (congrArg (V m c (Pipeline.arrRef spec0 0)) e).trans ?_
  show V m c main_v20 _ = _
  dsimp only [V]
  simp only [hostOps0, hostOps0_1, hostOps0_2, hostOps0_3, hostOps0_4, List.flatten_cons, List.flatten_nil, List.append_nil, List.cons_append, List.nil_append]
  after_reads_at

set_option maxHeartbeats 1600000 in
/-- The gain block at a point. -/
theorem blk1 (c : Dev nD) (t : Fin cfg0.N) (l : Fin 1024) :
    iblk m c 1 t (ix2 0 l) = aG m c l := by
  have i0 := (idx0 t).2.1
  have e : ((cfg0.win 1).blk t).view.emb (ix2 0 l) = (ix2 0 l : S1x1024.Idx) := by
    blk_ext [i0]
  refine (congrArg (V m c (Pipeline.arrRef spec0 1)) e).trans ?_
  show V m c main_v19 _ = _
  dsimp only [V]
  simp only [hostOps0, hostOps0_1, hostOps0_2, hostOps0_3, hostOps0_4, List.flatten_cons, List.flatten_nil, List.append_nil, List.cons_append, List.nil_append]
  after_reads_at

/-- The word zero as a number. -/
theorem sitofp_zero : (FloatOps.sitofp (F := Ideal) .f32 (0#32 : BitVec 32) : EReal) = 0 := by
  show (((0#32 : BitVec 32).toInt : ℝ) : EReal) = 0
  simp

set_option maxHeartbeats 1600000 in
/-- The weights block at a point. -/
theorem blk2 (c : Dev nD) (t : Fin cfg0.N) (r : Fin 1024) (l : Fin 4224) :
    iblk m c 2 t (ix2 r l) = wide (aW m c) r l.val := by
  have i0 := (idx0 t).2.2.1
  have e : ((cfg0.win 2).blk t).view.emb (ix2 r l) = (ix2 r l : S1024x4224.Idx) := by
    blk_ext [i0]
  refine (congrArg (V m c (Pipeline.arrRef spec0 2)) e).trans ?_
  show V m c main_v17 _ = _
  dsimp only [V]
  simp only [hostOps0, hostOps0_1, hostOps0_2, hostOps0_3, hostOps0_4, List.flatten_cons, List.flatten_nil, List.append_nil, List.cons_append, List.nil_append]
  after_reads_at
  by_cases h : l.val < 4168
  · rw [dif_pos h, wide, dif_pos h]
  · rw [dif_neg h, wide, dif_neg h]
    exact sitofp_zero

set_option maxHeartbeats 1600000 in
/-- The lower bounds block at a point. -/
theorem blk3 (c : Dev nD) (t : Fin cfg0.N) (l : Fin 512) :
    iblk m c 3 t (ix2 0 l) = aL m c l := by
  have i0 := (idx0 t).2.2.2.1
  have e : ((cfg0.win 3).blk t).view.emb (ix2 0 l) = (ix2 0 l : S1x512.Idx) := by
    blk_ext [i0]
  refine (congrArg (V m c (Pipeline.arrRef spec0 3)) e).trans ?_
  show V m c main_v14 _ = _
  dsimp only [V]
  simp only [hostOps0, hostOps0_1, hostOps0_2, hostOps0_3, hostOps0_4, List.flatten_cons, List.flatten_nil, List.append_nil, List.cons_append, List.nil_append]
  after_reads_simp
  simp only [StableHlo.TRef.ofBuf_toBuf]
  unfold aL lbV lbE
  rfl

set_option maxHeartbeats 1600000 in
/-- The table block 4 at a point. -/
theorem blk4 (c : Dev nD) (t : Fin cfg0.N) (r : Fin 128) (l : Fin 128) :
    iblk m c 4 t (ix2 r l) = tabC (16384 + r.val % 4) (l.val % 64) := by
  have i0 := (idx0 t).2.2.2.2.1
  have e : ((cfg0.win 4).blk t).view.emb (ix2 r l) = (ix2 r l : S128x128.Idx) := by
    blk_ext [i0]
  refine (congrArg (V m c (Pipeline.arrRef spec0 4)) e).trans ?_
  show V m c main_v50 _ = _
  dsimp only [V]
  simp only [hostOps0, hostOps0_1, hostOps0_2, hostOps0_3, hostOps0_4, List.flatten_cons, List.flatten_nil, List.append_nil, List.cons_append, List.nil_append]
  after_reads_at
  after_reads_at
  unfold tabC ang
  simp only [dite_eq_ite, posw]

set_option maxHeartbeats 1600000 in
/-- The table block 5 at a point. -/
theorem blk5 (c : Dev nD) (t : Fin cfg0.N) (r : Fin 128) (l : Fin 128) :
    iblk m c 5 t (ix2 r l) = tabA (16384 + r.val % 4) (l.val % 64) := by
  have i0 := (idx0 t).2.2.2.2.2.1
  have e : ((cfg0.win 5).blk t).view.emb (ix2 r l) = (ix2 r l : S128x128.Idx) := by
    blk_ext [i0]
  refine (congrArg (V m c (Pipeline.arrRef spec0 5)) e).trans ?_
  show V m c main_v53 _ = _
  dsimp only [V]
  simp only [hostOps0, hostOps0_1, hostOps0_2, hostOps0_3, hostOps0_4, List.flatten_cons, List.flatten_nil, List.append_nil, List.cons_append, List.nil_append]
  after_reads_at
  after_reads_at
  unfold tabA ang
  simp only [dite_eq_ite, posw]

set_option maxHeartbeats 1600000 in
/-- The table block 6 at a point. -/
theorem blk6 (c : Dev nD) (t : Fin cfg0.N) (r : Fin 128) (l : Fin 128) :
    iblk m c 6 t (ix2 r l) = tabB (16384 + r.val % 4) (l.val % 64) := by
  have i0 := (idx0 t).2.2.2.2.2.2
  have e : ((cfg0.win 6).blk t).view.emb (ix2 r l) = (ix2 r l : S128x128.Idx) := by
    blk_ext [i0]
  refine (congrArg (V m c (Pipeline.arrRef spec0 6)) e).trans ?_
  show V m c main_v56 _ = _
  dsimp only [V]
  simp only [hostOps0, hostOps0_1, hostOps0_2, hostOps0_3, hostOps0_4, List.flatten_cons, List.flatten_nil, List.append_nil, List.cons_append, List.nil_append]
  after_reads_at
  after_reads_at
  unfold tabB ang
  simp only [dite_eq_ite, posw]

end Cert.Kernel4Ideal.Proj

end
-- ==== Proof.SampProjValue.lean ====
/- The ten arrays of the samples' input projection after the run, over the extended reals, at an index. -/
module

public import proofs.«01_k».proof.Proof.SampProjBlocks

@[expose] public section
set_option maxRecDepth 16384

noncomputable section

namespace Cert.Kernel4Ideal.Proj

open Idealize.ShloMosaic Idealize.ShloMosaic.Pointwise Idealize.ShloMosaic.TcCoe Cert.Kernel4Ideal Cert.Kernel4Ideal.Gen Cert.Proj

variable (m : (ℓ : Loc nD τ sig) → Buf (Elt Ideal) ℓ)

/-- What the seven input blocks of a point hold in its row `r`, the arrays' row `p`. -/
structure Blk (x0 : FVec Ideal S128x1024 .f32) (x1 : FVec Ideal S1x1024 .f32) (x2 : FVec Ideal S1024x4224 .bf16) (x3 : FVec Ideal S1x512 .f32) (x4 x5 x6 : FVec Ideal S128x128 .f32)
    (X : Fin 128 → Fin 1024 → EReal) (g : Fin 1024 → EReal) (W : Fin 1024 → Fin 4168 → EReal) (L : Fin 512 → EReal) (r : Fin 128) (p : Fin 128) : Prop where
  h0 : ∀ d, x0 (ix2 r d) = X p d
  h1 : ∀ d, x1 (ix2 0 d) = g d
  h2 : ∀ d n, x2 (ix2 d n) = wide W d n.val
  h3 : ∀ l, x3 (ix2 0 l) = L l
  h4 : ∀ l, x4 (ix2 r l) = tabC (16384 + p.val % 4) (l.val % 64)
  h5 : ∀ l, x5 (ix2 r l) = tabA (16384 + p.val % 4) (l.val % 64)
  h6 : ∀ l, x6 (ix2 r l) = tabB (16384 + p.val % 4) (l.val % 64)

/-- A load of the lanes from `o` on of the weights block. -/
theorem ld_w (x : Vec Ideal S1024x4224 .bf16) (o : ℕ) (off : Fin 2 → ℕ) (inb) (h0 : off 0 = 0) (h1 : off 1 = o) (ho : o + 512 ≤ 4224) (a : Fin 1024) (l : Fin 512) :
    View.ld x (Rect.unit (s := S1024x4224) off S1024x512.size inb) (ix2 a l) = x (ix2 a ⟨o + l.val, by omega⟩) := by
  refine View.ld_unit_apply_of x off _ inb _ _ fun b => ?_
  fin_cases b
  · show a.val = off 0 + a.val
    omega
  · show o + l.val = off 1 + l.val
    omega

/-- A load of the last 128 lanes of the weights block. -/
theorem ld_w' (x : Vec Ideal S1024x4224 .bf16) (off : Fin 2 → ℕ) (inb) (h0 : off 0 = 0) (h1 : off 1 = 4096) (a : Fin 1024) (l : Fin 128) :
    View.ld x (Rect.unit (s := S1024x4224) off S1024x128.size inb) (ix2 a l) = x (ix2 a ⟨4096 + l.val, by omega⟩) := by
  refine View.ld_unit_apply_of x off _ inb _ _ fun b => ?_
  fin_cases b
  · show a.val = off 0 + a.val
    omega
  · show 4096 + l.val = off 1 + l.val
    omega

section point

variable {x0 : FVec Ideal S128x1024 .f32} {x1 : FVec Ideal S1x1024 .f32} {x2 : FVec Ideal S1024x4224 .bf16} {x3 : FVec Ideal S1x512 .f32} {x4 x5 x6 : FVec Ideal S128x128 .f32}
  {X : Fin 128 → Fin 1024 → EReal} {g : Fin 1024 → EReal} {W : Fin 1024 → Fin 4168 → EReal} {L : Fin 512 → EReal} {r : Fin 128} {p : Fin 128}

/-- The normalised row. -/
theorem hidAt (B : Blk x0 x1 x2 x3 x4 x5 x6 X g W L r p) (d : Fin 1024) : (k0_pay1 (F := Ideal) x0 x1 (ix2 r d) : EReal) = hid X g p d := by
  have e : (k0_pay1 (F := Ideal) x0 x1 (ix2 r d) : EReal)
      = x0 (ix2 r d) * Ideal.rsqrt (Ideal.div (∑ x, x0 (ix2 r x) * x0 (ix2 r x)) (Ideal.ofBits .f32 1149239296#32) + Ideal.ofBits .f32 897988541#32) * x1 (ix2 0 d) := by
    pointwise [k0_pay1]
  rw [e]
  simp only [B.h0, B.h1, hid]

/-- The product of the normalised row with lane `l` of the lanes from `o` on. -/
theorem dotAt (B : Blk x0 x1 x2 x3 x4 x5 x6 X g W L r p) (o : ℕ) (off : Fin 2 → ℕ) (inb) (h0 : off 0 = 0) (h1 : off 1 = o) (ho : o + 512 ≤ 4224) (l : Fin 512) :
    ∑ x : Fin 1024, (k0_pay1 (F := Ideal) x0 x1 (ix2 r x) : EReal) * ((View.ld (x2 : Vec Ideal S1024x4224 .bf16) (Rect.unit (s := S1024x4224) off S1024x512.size inb) : Vec Ideal S1024x512 .bf16) (ix2 x l) : EReal)
      = dot X g W p (o + l.val) := by
  refine Finset.sum_congr rfl fun x _ => ?_
  exact congrArg₂ (fun a b : EReal => a * b) (hidAt B x) ((ld_w _ o off inb h0 h1 ho x l).trans (B.h2 x _))

/-- The product of the normalised row with lane `l` of the last 128 lanes. -/
theorem dotAt' (B : Blk x0 x1 x2 x3 x4 x5 x6 X g W L r p) (off : Fin 2 → ℕ) (inb) (h0 : off 0 = 0) (h1 : off 1 = 4096) (l : Fin 128) :
    ∑ x : Fin 1024, (k0_pay1 (F := Ideal) x0 x1 (ix2 r x) : EReal) * ((View.ld (x2 : Vec Ideal S1024x4224 .bf16) (Rect.unit (s := S1024x4224) off S1024x128.size inb) : Vec Ideal S1024x128 .bf16) (ix2 x l) : EReal)
      = dot X g W p (4096 + l.val) := by
  refine Finset.sum_congr rfl fun x _ => ?_
  exact congrArg₂ (fun a b : EReal => a * b) (hidAt B x) ((ld_w' _ off inb h0 h1 x l).trans (B.h2 x _))

/-- A table repeated over four groups of 128 lanes, at a lane. -/
theorem tile2 (x : FVec Ideal S128x128 .f32) (r : Fin 128) (l : Fin 512) : (k0_pay2 (F := Ideal) x (ix2 r l) : EReal) = x (ix2 r ⟨l.val % 128, by omega⟩) := by
  pointwise [k0_pay2]
  split
  · congr 3; omega
  · split
    · congr 3; omega
    · split <;> (congr 3; omega)

/-- The same of the second table. -/
theorem tile3 (x : FVec Ideal S128x128 .f32) (r : Fin 128) (l : Fin 512) : (k0_pay3 (F := Ideal) x (ix2 r l) : EReal) = x (ix2 r ⟨l.val % 128, by omega⟩) := tile2 x r l

/-- The same of the third table. -/
theorem tile4 (x : FVec Ideal S128x128 .f32) (r : Fin 128) (l : Fin 512) : (k0_pay4 (F := Ideal) x (ix2 r l) : EReal) = x (ix2 r ⟨l.val % 128, by omega⟩) := tile2 x r l

/-- The rotated group at an index, of any factors. -/
theorem pay11 (a b d : FVec Ideal S128x512 .f32) (h : FVec Ideal S128x1024 .bf16) (w : FVec Ideal S1024x512 .bf16) (r : Fin 128) (l : Fin 512) :
    (k0_pay11 (F := Ideal) a b d h w (ix2 r l) : EReal)
      = (∑ x, h (ix2 r x) * w (ix2 x l)) * a (ix2 r l) + (∑ x, h (ix2 r x) * w (ix2 x ⟨(l.val + 512 - 8) % 512, by omega⟩)) * b (ix2 r l)
        + (∑ x, h (ix2 r x) * w (ix2 x ⟨(l.val + 512 - 504) % 512, by omega⟩)) * d (ix2 r l) := by
  pointwise [k0_pay11]

/-- A sum of three products, factor by factor. -/
theorem three {a b c d e f a' b' c' d' e' f' : EReal} (h1 : a = a') (h2 : b = b') (h3 : c = c') (h4 : d = d') (h5 : e = e') (h6 : f = f') :
    a * b + c * d + e * f = a' * b' + c' * d' + e' * f' := by
  rw [h1, h2, h3, h4, h5, h6]

/-- A rotated group. -/
theorem rotAt (B : Blk x0 x1 x2 x3 x4 x5 x6 X g W L r p) (o : ℕ) (off : Fin 2 → ℕ) (inb) (h0 : off 0 = 0) (h1 : off 1 = o) (ho : o + 512 ≤ 4224) (l : Fin 512) :
    (k0_pay11 (F := Ideal) (k0_pay2 x4) (k0_pay3 x5) (k0_pay4 x6) (k0_pay1 (F := Ideal) x0 x1)
        (View.ld (x2 : Vec Ideal S1024x4224 .bf16) (Rect.unit (s := S1024x4224) off S1024x512.size inb)) (ix2 r l) : EReal)
      = rot (fun j => dot X g W p (o + l.val / 64 * 64 + j)) (16384 + p.val % 4) (l.val % 64) := by
  have e4 : (k0_pay2 (F := Ideal) x4 (ix2 r l) : EReal) = tabC (16384 + p.val % 4) (l.val % 64) := by
    rw [tile2, B.h4]; congr 1; show l.val % 128 % 64 = _; omega
  have e5 : (k0_pay3 (F := Ideal) x5 (ix2 r l) : EReal) = tabA (16384 + p.val % 4) (l.val % 64) := by
    rw [tile3, B.h5]; congr 1; show l.val % 128 % 64 = _; omega
  have e6 : (k0_pay4 (F := Ideal) x6 (ix2 r l) : EReal) = tabB (16384 + p.val % 4) (l.val % 64) := by
    rw [tile4, B.h6]; congr 1; show l.val % 128 % 64 = _; omega
  have e := rot_tables (fun j => dot X g W p (o + l.val / 64 * 64 + j)) (16384 + p.val % 4) (l.val % 64) (dot X g W p (o + (l.val + 512 - 8) % 512)) (dot X g W p (o + (l.val + 512 - 504) % 512))
    (fun h => by congr 1; omega) (fun h => by congr 1; omega)
  have el : o + l.val = o + l.val / 64 * 64 + l.val % 64 := by omega
  exact (pay11 _ _ _ _ _ r l).trans ((three ((dotAt B o off inb h0 h1 ho l).trans (congrArg (dot X g W p) el)) e4 (dotAt B o off inb h0 h1 ho _) e5 (dotAt B o off inb h0 h1 ho _) e6).trans e)

/-- The gated group at an index, of any factors. -/
theorem pay5 (h : FVec Ideal S128x1024 .bf16) (w : FVec Ideal S1024x512 .bf16) (r : Fin 128) (l : Fin 512) : (k0_pay5 (F := Ideal) h w (ix2 r l) : EReal) = silu (∑ x, h (ix2 r x) * w (ix2 x l)) := by
  unfold silu
  pointwise [k0_pay5]

/-- The other gated group at an index, of any factors. -/
theorem pay10 (h : FVec Ideal S128x1024 .bf16) (w : FVec Ideal S1024x512 .bf16) (r : Fin 128) (l : Fin 512) : (k0_pay10 (F := Ideal) h w (ix2 r l) : EReal) = silu (∑ x, h (ix2 r x) * w (ix2 x l)) := by
  unfold silu
  pointwise [k0_pay10]

/-- One minus the forget gate at an index, of any factors. -/
theorem pay7 (x : FVec Ideal S1x512 .f32) (h : FVec Ideal S128x1024 .bf16) (w : FVec Ideal S1024x512 .bf16) (r : Fin 128) (l : Fin 512) : (k0_pay7 (F := Ideal) x h w (ix2 r l) : EReal) = 1 - fgate (x (ix2 0 l)) (∑ x, h (ix2 r x) * w (ix2 x l)) := by
  unfold fgate
  pointwise [k0_pay7, k0_pay6]

/-- The logarithm of the forget gate at an index, of any factors. -/
theorem pay8 (x : FVec Ideal S1x512 .f32) (h : FVec Ideal S128x1024 .bf16) (w : FVec Ideal S1024x512 .bf16) (r : Fin 128) (l : Fin 512) : (k0_pay8 (F := Ideal) x h w (ix2 r l) : EReal) = Ideal.log (fgate (x (ix2 0 l)) (∑ x, h (ix2 r x) * w (ix2 x l))) := by
  unfold fgate
  pointwise [k0_pay8, k0_pay6]

/-- A plain group at an index, of any factors. -/
theorem pay9 (h : FVec Ideal S128x1024 .bf16) (w : FVec Ideal S1024x512 .bf16) (r : Fin 128) (l : Fin 512) : (k0_pay9 (F := Ideal) h w (ix2 r l) : EReal) = (∑ x, h (ix2 r x) * w (ix2 x l)) := by
  pointwise [k0_pay9]

/-- The other plain group at an index, of any factors. -/
theorem pay13 (h : FVec Ideal S128x1024 .bf16) (w : FVec Ideal S1024x512 .bf16) (r : Fin 128) (l : Fin 512) : (k0_pay13 (F := Ideal) h w (ix2 r l) : EReal) = (∑ x, h (ix2 r x) * w (ix2 x l)) := by
  pointwise [k0_pay13]

/-- A comparison of a lane's number with sixty-four. -/
theorem lt64 (l : Fin 128) : IntOp.cmpi .slt (BitVec.ofNat 32 l.val) (64#32) = if l.val < 64 then 1#1 else 0#1 := by
  revert l
  decide

/-- The index key and weights at an index, of any factors. -/
theorem pay15 (a b d : FVec Ideal S128x128 .f32) (h : FVec Ideal S128x1024 .bf16) (w : FVec Ideal S1024x128 .bf16) (r : Fin 128) (l : Fin 128) :
    (k0_pay15 (F := Ideal) h w a b d (ix2 r l) : EReal)
      = if l.val < 64 then (∑ x, h (ix2 r x) * w (ix2 x l)) * a (ix2 r l) + (∑ x, h (ix2 r x) * w (ix2 x ⟨(l.val + 128 - 8) % 128, by omega⟩)) * b (ix2 r l)
        + (∑ x, h (ix2 r x) * w (ix2 x ⟨(l.val + 128 - 120) % 128, by omega⟩)) * d (ix2 r l)
        else (∑ x, h (ix2 r x) * w (ix2 x l)) * Ideal.ofBits .f32 1026884851#32 := by
  pointwise [k0_pay15]
  rw [lt64]
  by_cases hl : l.val < 64
  · rw [if_pos hl, if_pos hl]
    rfl
  · rw [if_neg hl, if_neg hl]
    rfl

/-- The index key and weights. -/
theorem keyAt (B : Blk x0 x1 x2 x3 x4 x5 x6 X g W L r p) (off : Fin 2 → ℕ) (inb) (h0 : off 0 = 0) (h1 : off 1 = 4096) (l : Fin 128) :
    (k0_pay15 (F := Ideal) (k0_pay1 (F := Ideal) x0 x1) (View.ld (x2 : Vec Ideal S1024x4224 .bf16) (Rect.unit (s := S1024x4224) off S1024x128.size inb)) x4 x5 x6 (ix2 r l) : EReal)
      = if l.val < 64 then rot (fun j => dot X g W p (4096 + j)) (16384 + p.val % 4) l.val else dot X g W p (4096 + l.val) * Ideal.ofBits .f32 1026884851#32 := by
  refine (pay15 _ _ _ _ _ r l).trans ?_
  by_cases hl : l.val < 64
  · rw [if_pos hl, if_pos hl]
    have em : l.val % 64 = l.val := by omega
    have e4 : x4 (ix2 r l) = tabC (16384 + p.val % 4) l.val := by rw [B.h4, em]
    have e5 : x5 (ix2 r l) = tabA (16384 + p.val % 4) l.val := by rw [B.h5, em]
    have e6 : x6 (ix2 r l) = tabB (16384 + p.val % 4) l.val := by rw [B.h6, em]
    have e := rot_tables (fun j => dot X g W p (4096 + j)) (16384 + p.val % 4) l.val (dot X g W p (4096 + (l.val + 128 - 8) % 128)) (dot X g W p (4096 + (l.val + 128 - 120) % 128))
      (fun h => by congr 1; omega) (fun h => by congr 1; omega)
    exact (three (dotAt' B off inb h0 h1 l) e4 (dotAt' B off inb h0 h1 _) e5 (dotAt' B off inb h0 h1 _) e6).trans e
  · rw [if_neg hl, if_neg hl]
    exact congrArg (fun z : EReal => z * Ideal.ofBits .f32 1026884851#32) (dotAt' B off inb h0 h1 l)

/-- The value of `k0_pay5` at an index of the point's row. -/
theorem at5 (B : Blk x0 x1 x2 x3 x4 x5 x6 X g W L r p) (o : ℕ) (off : Fin 2 → ℕ) (inb) (h0 : off 0 = 0) (h1 : off 1 = o) (ho : o + 512 ≤ 4224) (l : Fin 512) :
    (k0_pay5 (F := Ideal) (k0_pay1 (F := Ideal) x0 x1) (View.ld (x2 : Vec Ideal S1024x4224 .bf16) (Rect.unit (s := S1024x4224) off S1024x512.size inb)) (ix2 r l) : EReal) = silu (dot X g W p (o + l.val)) :=
  (pay5 _ _ r l).trans (congrArg silu (dotAt B o off inb h0 h1 ho l))

/-- The value of `k0_pay10` at an index of the point's row. -/
theorem at10 (B : Blk x0 x1 x2 x3 x4 x5 x6 X g W L r p) (o : ℕ) (off : Fin 2 → ℕ) (inb) (h0 : off 0 = 0) (h1 : off 1 = o) (ho : o + 512 ≤ 4224) (l : Fin 512) :
    (k0_pay10 (F := Ideal) (k0_pay1 (F := Ideal) x0 x1) (View.ld (x2 : Vec Ideal S1024x4224 .bf16) (Rect.unit (s := S1024x4224) off S1024x512.size inb)) (ix2 r l) : EReal) = silu (dot X g W p (o + l.val)) :=
  (pay10 _ _ r l).trans (congrArg silu (dotAt B o off inb h0 h1 ho l))

/-- The value of `k0_pay7` at an index of the point's row. -/
theorem at7 (B : Blk x0 x1 x2 x3 x4 x5 x6 X g W L r p) (o : ℕ) (off : Fin 2 → ℕ) (inb) (h0 : off 0 = 0) (h1 : off 1 = o) (ho : o + 512 ≤ 4224) (l : Fin 512) :
    (k0_pay7 (F := Ideal) x3 (k0_pay1 (F := Ideal) x0 x1) (View.ld (x2 : Vec Ideal S1024x4224 .bf16) (Rect.unit (s := S1024x4224) off S1024x512.size inb)) (ix2 r l) : EReal) = 1 - fgate (L l) (dot X g W p (o + l.val)) :=
  (pay7 _ _ _ r l).trans (congrArg (fun z : EReal => 1 - z) (congrArg₂ fgate (B.h3 l) (dotAt B o off inb h0 h1 ho l)))

/-- The value of `k0_pay8` at an index of the point's row. -/
theorem at8 (B : Blk x0 x1 x2 x3 x4 x5 x6 X g W L r p) (o : ℕ) (off : Fin 2 → ℕ) (inb) (h0 : off 0 = 0) (h1 : off 1 = o) (ho : o + 512 ≤ 4224) (l : Fin 512) :
    (k0_pay8 (F := Ideal) x3 (k0_pay1 (F := Ideal) x0 x1) (View.ld (x2 : Vec Ideal S1024x4224 .bf16) (Rect.unit (s := S1024x4224) off S1024x512.size inb)) (ix2 r l) : EReal) = Ideal.log (fgate (L l) (dot X g W p (o + l.val))) :=
  (pay8 _ _ _ r l).trans (congrArg Ideal.log (congrArg₂ fgate (B.h3 l) (dotAt B o off inb h0 h1 ho l)))

/-- The value of `k0_pay9` at an index of the point's row. -/
theorem at9 (B : Blk x0 x1 x2 x3 x4 x5 x6 X g W L r p) (o : ℕ) (off : Fin 2 → ℕ) (inb) (h0 : off 0 = 0) (h1 : off 1 = o) (ho : o + 512 ≤ 4224) (l : Fin 512) :
    (k0_pay9 (F := Ideal) (k0_pay1 (F := Ideal) x0 x1) (View.ld (x2 : Vec Ideal S1024x4224 .bf16) (Rect.unit (s := S1024x4224) off S1024x512.size inb)) (ix2 r l) : EReal) = (dot X g W p (o + l.val)) :=
  (pay9 _ _ r l).trans (dotAt B o off inb h0 h1 ho l)

/-- The value of `k0_pay13` at an index of the point's row. -/
theorem at13 (B : Blk x0 x1 x2 x3 x4 x5 x6 X g W L r p) (o : ℕ) (off : Fin 2 → ℕ) (inb) (h0 : off 0 = 0) (h1 : off 1 = o) (ho : o + 512 ≤ 4224) (l : Fin 512) :
    (k0_pay13 (F := Ideal) (k0_pay1 (F := Ideal) x0 x1) (View.ld (x2 : Vec Ideal S1024x4224 .bf16) (Rect.unit (s := S1024x4224) off S1024x512.size inb)) (ix2 r l) : EReal) = (dot X g W p (o + l.val)) :=
  (pay13 _ _ r l).trans (dotAt B o off inb h0 h1 ho l)

end point

/-- A row is a row of the one point's block. -/
theorem row_split (p : Fin 128) : ∃ (t : Fin cfg0.N) (r : Fin 128), p = r :=
  ⟨⟨0, lt_of_lt_of_eq (by omega : 0 < 1) N_0.symm⟩, p, rfl⟩

/-- The input blocks of a point. -/
theorem blkAll (c : Dev nD) (t : Fin cfg0.N) (r : Fin 128) :
    Blk (iblk m c 0 t) (iblk m c 1 t) (iblk m c 2 t) (iblk m c 3 t) (iblk m c 4 t) (iblk m c 5 t) (iblk m c 6 t) (aX m c) (aG m c) (aW m c) (aL m c) r r :=
  ⟨blk0 m c t r, blk1 m c t, blk2 m c t, blk3 m c t, blk4 m c t r, blk5 m c t r, blk6 m c t r⟩

/-- Every point writes its output blocks back. -/
theorem flush_all : ∀ t : Fin cfg0.N, ((cfg0.win 7).flush t = true ∧ (cfg0.win 8).flush t = true ∧ (cfg0.win 9).flush t = true ∧ (cfg0.win 10).flush t = true ∧ (cfg0.win 11).flush t = true)
    ∧ ((cfg0.win 12).flush t = true ∧ (cfg0.win 13).flush t = true ∧ (cfg0.win 14).flush t = true ∧ (cfg0.win 15).flush t = true ∧ (cfg0.win 16).flush t = true) :=
  (by decide +kernel : ∀ t : Fin grid0.N, _)

/-- The output windows' block indices. -/
theorem idxO : ∀ t : Fin cfg0.N, (win0_7.index t (0 : Fin 2) = t.val ∧ win0_7.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) ∧ (win0_11.index t (0 : Fin 2) = t.val ∧ win0_11.index t (1 : Fin 2) = 0) ∧ (win0_12.index t (0 : Fin 2) = t.val ∧ win0_12.index t (1 : Fin 2) = 0) ∧ (win0_13.index t (0 : Fin 2) = t.val ∧ win0_13.index t (1 : Fin 2) = 0) ∧ (win0_14.index t (0 : Fin 2) = t.val ∧ win0_14.index t (1 : Fin 2) = 0) ∧ (win0_15.index t (0 : Fin 2) = t.val ∧ win0_15.index t (1 : Fin 2) = 0) ∧ (win0_16.index t (0 : Fin 2) = t.val ∧ win0_16.index t (1 : Fin 2) = 0) :=
  (by decide +kernel : ∀ t : Fin grid0.N, _)

/-- Array 0: the silu of the first group of lanes. -/
theorem arr0 (c : Dev nD) (p : Fin 128) (l : Fin 512) :
    ((dats m 0 c).arrAt 7 cfg0.N (ix2 p l) : EReal) = silu (dot (aX m c) (aG m c) (aW m c) p (0 + l.val)) := by
  obtain ⟨t, r, hp⟩ := row_split p
  rw [hp]
  have h := congrFun ((Value.blocks7 m c t ((flush_all t).1.1)).trans (Value.flushed7_A m c t)) (ix2 r l)
  rw [out_7] at h
  have i0 := (idxO t).1
  have e : ((cfg0.win 7).blk t).view.emb (ix2 r l) = (ix2 r l : S128x512.Idx) := by
    blk_ext [i0]
  refine ((congrArg ((dats m 0 c).arrAt 7 cfg0.N) e).symm.trans h).trans ?_
  exact at5 (blkAll m c t r) 0 _ _ rfl rfl (by omega) l

/-- Array 1: one minus the forget gate. -/
theorem arr1 (c : Dev nD) (p : Fin 128) (l : Fin 512) :
    ((dats m 0 c).arrAt 8 cfg0.N (ix2 p l) : EReal) = 1 - fgate (aL m c l) (dot (aX m c) (aG m c) (aW m c) p (512 + l.val)) := by
  obtain ⟨t, r, hp⟩ := row_split p
  rw [hp]
  have h := congrFun ((Value.blocks8 m c t ((flush_all t).1.2.1)).trans (Value.flushed8_A m c t)) (ix2 r l)
  rw [out_8] at h
  have i0 := (idxO t).2.1
  have e : ((cfg0.win 8).blk t).view.emb (ix2 r l) = (ix2 r l : S128x512.Idx) := by
    blk_ext [i0]
  refine ((congrArg ((dats m 0 c).arrAt 8 cfg0.N) e).symm.trans h).trans ?_
  exact at7 (blkAll m c t r) 512 _ _ rfl rfl (by omega) l

/-- Array 2: the logarithm of the forget gate. -/
theorem arr2 (c : Dev nD) (p : Fin 128) (l : Fin 512) :
    ((dats m 0 c).arrAt 9 cfg0.N (ix2 p l) : EReal) = Ideal.log (fgate (aL m c l) (dot (aX m c) (aG m c) (aW m c) p (512 + l.val))) := by
  obtain ⟨t, r, hp⟩ := row_split p
  rw [hp]
  have h := congrFun ((Value.blocks9 m c t ((flush_all t).1.2.2.1)).trans (Value.flushed9_A m c t)) (ix2 r l)
  rw [out_9] at h
  have i0 := (idxO t).2.2.1
  have e : ((cfg0.win 9).blk t).view.emb (ix2 r l) = (ix2 r l : S128x512.Idx) := by
    blk_ext [i0]
  refine ((congrArg ((dats m 0 c).arrAt 9 cfg0.N) e).symm.trans h).trans ?_
  exact at8 (blkAll m c t r) 512 _ _ rfl rfl (by omega) l

/-- Array 3: the third group. -/
theorem arr3 (c : Dev nD) (p : Fin 128) (l : Fin 512) :
    ((dats m 0 c).arrAt 10 cfg0.N (ix2 p l) : EReal) = dot (aX m c) (aG m c) (aW m c) p (1024 + l.val) := by
  obtain ⟨t, r, hp⟩ := row_split p
  rw [hp]
  have h := congrFun ((Value.blocks10 m c t ((flush_all t).1.2.2.2.1)).trans (Value.flushed10_A m c t)) (ix2 r l)
  rw [out_10] at h
  have i0 := (idxO t).2.2.2.1
  have e : ((cfg0.win 10).blk t).view.emb (ix2 r l) = (ix2 r l : S128x512.Idx) := by
    blk_ext [i0]
  refine ((congrArg ((dats m 0 c).arrAt 10 cfg0.N) e).symm.trans h).trans ?_
  exact at9 (blkAll m c t r) 1024 _ _ rfl rfl (by omega) l

/-- Array 4: the silu of the fourth group. -/
theorem arr4 (c : Dev nD) (p : Fin 128) (l : Fin 512) :
    ((dats m 0 c).arrAt 11 cfg0.N (ix2 p l) : EReal) = silu (dot (aX m c) (aG m c) (aW m c) p (1536 + l.val)) := by
  obtain ⟨t, r, hp⟩ := row_split p
  rw [hp]
  have h := congrFun ((Value.blocks11 m c t ((flush_all t).1.2.2.2.2)).trans (Value.flushed11_A m c t)) (ix2 r l)
  rw [out_11] at h
  have i0 := (idxO t).2.2.2.2.1
  have e : ((cfg0.win 11).blk t).view.emb (ix2 r l) = (ix2 r l : S128x512.Idx) := by
    blk_ext [i0]
  refine ((congrArg ((dats m 0 c).arrAt 11 cfg0.N) e).symm.trans h).trans ?_
  exact at10 (blkAll m c t r) 1536 _ _ rfl rfl (by omega) l

/-- Array 5: the rotated fifth group. -/
theorem arr5 (c : Dev nD) (p : Fin 128) (l : Fin 512) :
    ((dats m 0 c).arrAt 12 cfg0.N (ix2 p l) : EReal) = rot (fun j => dot (aX m c) (aG m c) (aW m c) p (2048 + l.val / 64 * 64 + j)) (16384 + p.val % 4) (l.val % 64) := by
  obtain ⟨t, r, hp⟩ := row_split p
  rw [hp]
  have h := congrFun ((Value.blocks12 m c t ((flush_all t).2.1)).trans (Value.flushed12_A m c t)) (ix2 r l)
  rw [out_12] at h
  have i0 := (idxO t).2.2.2.2.2.1
  have e : ((cfg0.win 12).blk t).view.emb (ix2 r l) = (ix2 r l : S128x512.Idx) := by
    blk_ext [i0]
  refine ((congrArg ((dats m 0 c).arrAt 12 cfg0.N) e).symm.trans h).trans ?_
  exact rotAt (blkAll m c t r) 2048 _ _ rfl rfl (by omega) l

/-- Array 6: the rotated sixth group. -/
theorem arr6 (c : Dev nD) (p : Fin 128) (l : Fin 512) :
    ((dats m 0 c).arrAt 13 cfg0.N (ix2 p l) : EReal) = rot (fun j => dot (aX m c) (aG m c) (aW m c) p (2560 + l.val / 64 * 64 + j)) (16384 + p.val % 4) (l.val % 64) := by
  obtain ⟨t, r, hp⟩ := row_split p
  rw [hp]
  have h := congrFun ((Value.blocks13 m c t ((flush_all t).2.2.1)).trans (Value.flushed13_A m c t)) (ix2 r l)
  rw [out_13] at h
  have i0 := (idxO t).2.2.2.2.2.2.1
  have e : ((cfg0.win 13).blk t).view.emb (ix2 r l) = (ix2 r l : S128x512.Idx) := by
    blk_ext [i0]
  refine ((congrArg ((dats m 0 c).arrAt 13 cfg0.N) e).symm.trans h).trans ?_
  exact rotAt (blkAll m c t r) 2560 _ _ rfl rfl (by omega) l

/-- Array 7: the seventh group. -/
theorem arr7 (c : Dev nD) (p : Fin 128) (l : Fin 512) :
    ((dats m 0 c).arrAt 14 cfg0.N (ix2 p l) : EReal) = dot (aX m c) (aG m c) (aW m c) p (3072 + l.val) := by
  obtain ⟨t, r, hp⟩ := row_split p
  rw [hp]
  have h := congrFun ((Value.blocks14 m c t ((flush_all t).2.2.2.1)).trans (Value.flushed14_A m c t)) (ix2 r l)
  rw [out_14] at h
  have i0 := (idxO t).2.2.2.2.2.2.2.1
  have e : ((cfg0.win 14).blk t).view.emb (ix2 r l) = (ix2 r l : S128x512.Idx) := by
    blk_ext [i0]
  refine ((congrArg ((dats m 0 c).arrAt 14 cfg0.N) e).symm.trans h).trans ?_
  exact at13 (blkAll m c t r) 3072 _ _ rfl rfl (by omega) l

/-- Array 8: the rotated eighth group. -/
theorem arr8 (c : Dev nD) (p : Fin 128) (l : Fin 512) :
    ((dats m 0 c).arrAt 15 cfg0.N (ix2 p l) : EReal) = rot (fun j => dot (aX m c) (aG m c) (aW m c) p (3584 + l.val / 64 * 64 + j)) (16384 + p.val % 4) (l.val % 64) := by
  obtain ⟨t, r, hp⟩ := row_split p
  rw [hp]
  have h := congrFun ((Value.blocks15 m c t ((flush_all t).2.2.2.2.1)).trans (Value.flushed15_A m c t)) (ix2 r l)
  rw [out_15] at h
  have i0 := (idxO t).2.2.2.2.2.2.2.2.1
  have e : ((cfg0.win 15).blk t).view.emb (ix2 r l) = (ix2 r l : S128x512.Idx) := by
    blk_ext [i0]
  refine ((congrArg ((dats m 0 c).arrAt 15 cfg0.N) e).symm.trans h).trans ?_
  exact rotAt (blkAll m c t r) 3584 _ _ rfl rfl (by omega) l

/-- Array 9: the rotated index key and the scaled index weights. -/
theorem arr9 (c : Dev nD) (p : Fin 128) (l : Fin 128) :
    ((dats m 0 c).arrAt 16 cfg0.N (ix2 p l) : EReal) = if l.val < 64 then rot (fun j => dot (aX m c) (aG m c) (aW m c) p (4096 + j)) (16384 + p.val % 4) l.val else dot (aX m c) (aG m c) (aW m c) p (4096 + l.val) * Ideal.ofBits .f32 1026884851#32 := by
  obtain ⟨t, r, hp⟩ := row_split p
  rw [hp]
  have h := congrFun ((Value.blocks16 m c t ((flush_all t).2.2.2.2.2)).trans (Value.flushed16_A m c t)) (ix2 r l)
  rw [out_16] at h
  have i0 := (idxO t).2.2.2.2.2.2.2.2.2
  have e : ((cfg0.win 16).blk t).view.emb (ix2 r l) = (ix2 r l : S128x128.Idx) := by
    blk_ext [i0]
  refine ((congrArg ((dats m 0 c).arrAt 16 cfg0.N) e).symm.trans h).trans ?_
  exact keyAt (blkAll m c t r) _ _ rfl rfl l

end Cert.Kernel4Ideal.Proj

end
-- ==== Proof.SampProjRef.lean ====
/- The ten results of the samples' reference over the extended reals, at an index. -/
module

public import proofs.«01_k».proof.Proof.Gen.Reference4Ideal.Run
public import proofs.«01_k».proof.Proof.ProjSpec

@[expose] public section
set_option maxRecDepth 16384

noncomputable section

namespace Cert.Reference4Ideal.Proj

open Idealize.ShloMosaic Idealize.ShloMosaic.StableHlo Idealize.ShloMosaic.Pointwise Idealize.ShloMosaic.TcCoe Cert.Reference4Ideal Cert.Reference4Ideal.Gen Cert.Reference4Ideal.Value Cert.Proj

variable (V0 : Valuation τ sig (Elt Ideal))

/-- The activations. -/
abbrev bX : Fin 128 → Fin 1024 → EReal := fun p d => (V0 (Proc.devRef .tc main_arg0) : FVec Ideal S32x4x1024 .f32) (ix3 ⟨p.val / 4, by omega⟩ ⟨p.val % 4, by omega⟩ d)
/-- The gain. -/
abbrev bG : Fin 1024 → EReal := fun d => (V0 (Proc.devRef .tc main_arg1) : FVec Ideal S1x1024 .f32) (ix2 0 d)
/-- The weights. -/
abbrev bW : Fin 1024 → Fin 4168 → EReal := fun d j => (V0 (Proc.devRef .tc main_arg2) : FVec Ideal S1x1024x4168 .f32) (ix3 0 d j)

/-- The projection of a row to a lane. -/
theorem t32 (r : Fin 128) (j : Fin 4168) : (res_main_v32 V0 (ix3 ⟨r.val / 4, by omega⟩ ⟨r.val % 4, by omega⟩ j) : EReal) = dot (bX V0) (bG V0) (bW V0) r j.val := by
  have e : ∀ x, wide (bW V0) x j.val = (V0 (Proc.devRef .tc main_arg2) : FVec Ideal S1x1024x4168 .f32) (ix3 0 x j) := fun x => by
    rw [wide, dif_pos j.isLt]
  unfold dot hid
  simp only [e]
  pointwise [res_main_v32]

/-- The cos of the angles, as result 76 has them. -/
theorem t76 (r : Fin 4) (j : Fin 8) : (res_main_v76 V0 (ix4 0 r 0 j) : EReal) = Ideal.cos (ang (16384 + r.val) j.val) := by
  unfold ang
  pointwise [res_main_v76, res_main_v74, res_main_v2]
  simp only [posw]

/-- The sin of the angles, as result 78 has them. -/
theorem t78 (r : Fin 4) (j : Fin 8) : (res_main_v78 V0 (ix4 0 r 0 j) : EReal) = Ideal.sin (ang (16384 + r.val) j.val) := by
  unfold ang
  pointwise [res_main_v78, res_main_v74, res_main_v2]
  simp only [posw]

/-- The cos of the angles, as result 107 has them. -/
theorem t107 (r : Fin 4) (j : Fin 8) : (res_main_v107 V0 (ix4 0 r 0 j) : EReal) = Ideal.cos (ang (16384 + r.val) j.val) := by
  unfold ang
  pointwise [res_main_v107, res_main_v105, res_main_v2]
  simp only [posw]

/-- The sin of the angles, as result 109 has them. -/
theorem t109 (r : Fin 4) (j : Fin 8) : (res_main_v109 V0 (ix4 0 r 0 j) : EReal) = Ideal.sin (ang (16384 + r.val) j.val) := by
  unfold ang
  pointwise [res_main_v109, res_main_v105, res_main_v2]
  simp only [posw]

/-- The cos of the angles, as result 138 has them. -/
theorem t138 (r : Fin 4) (j : Fin 8) : (res_main_v138 V0 (ix4 0 r 0 j) : EReal) = Ideal.cos (ang (16384 + r.val) j.val) := by
  unfold ang
  pointwise [res_main_v138, res_main_v136, res_main_v2]
  simp only [posw]

/-- The sin of the angles, as result 140 has them. -/
theorem t140 (r : Fin 4) (j : Fin 8) : (res_main_v140 V0 (ix4 0 r 0 j) : EReal) = Ideal.sin (ang (16384 + r.val) j.val) := by
  unfold ang
  pointwise [res_main_v140, res_main_v136, res_main_v2]
  simp only [posw]

/-- The cos of the angles, as result 168 has them. -/
theorem t168 (r : Fin 4) (j : Fin 8) : (res_main_v168 V0 (ix3 0 r j) : EReal) = Ideal.cos (ang (16384 + r.val) j.val) := by
  unfold ang
  pointwise [res_main_v168, res_main_v166, res_main_v2]
  simp only [posw]

/-- The sin of the angles, as result 170 has them. -/
theorem t170 (r : Fin 4) (j : Fin 8) : (res_main_v170 V0 (ix3 0 r j) : EReal) = Ideal.sin (ang (16384 + r.val) j.val) := by
  unfold ang
  pointwise [res_main_v170, res_main_v166, res_main_v2]
  simp only [posw]

/-- Result 0. -/
theorem ref0 (p : Fin 128) (l : Fin 512) :
    ((shapeCast _ (mulf (res_main_v33 V0) (Host.divf (broadcastInDim S32x4x512 ![] bcast_S_S32x4x512 (constant (F := Ideal) S_ .f32 0x3F800000#32)) (addf (broadcastInDim S32x4x512 ![] bcast_S_S32x4x512 (constant (F := Ideal) S_ .f32 0x3F800000#32)) (Host.exp (Host.negf (res_main_v33 V0)))))) shapeCasts_S32x4x512_S128x512 : FVec Ideal S128x512 .f32) (ix2 p l) : EReal) = silu (dot (bX V0) (bG V0) (bW V0) p (0 + l.val)) := by
  pointwise [res_main_v33]
  simp only [t32, Nat.zero_add]
  rfl

/-- Result 1. -/
theorem ref1 (p : Fin 128) (l : Fin 512) :
    ((shapeCast _ (subf (broadcastInDim S32x4x512 ![] bcast_S_S32x4x512 (constant (F := Ideal) S_ .f32 0x3F800000#32)) (res_main_v57 V0)) shapeCasts_S32x4x512_S128x512 : FVec Ideal S128x512 .f32) (ix2 p l) : EReal) = 1 - fgate (res_main_v16 V0 (ix1 l)) (dot (bX V0) (bG V0) (bW V0) p (512 + l.val)) := by
  pointwise [res_main_v57]
  simp only [t32]
  try rfl

/-- Result 2. -/
theorem ref2 (p : Fin 128) (l : Fin 512) :
    ((shapeCast _ (Host.log (res_main_v57 V0)) shapeCasts_S32x4x512_S128x512 : FVec Ideal S128x512 .f32) (ix2 p l) : EReal) = Ideal.log (fgate (res_main_v16 V0 (ix1 l)) (dot (bX V0) (bG V0) (bW V0) p (512 + l.val))) := by
  pointwise [res_main_v57]
  simp only [t32]
  try rfl

/-- Result 3. -/
theorem ref3 (p : Fin 128) (l : Fin 512) :
    ((shapeCast _ (extractStridedSlice S32x4x512 ![0, 0, 1024] (res_main_v32 V0) slices_S32x4x4168_S32x4x512_0_0_1024) shapeCasts_S32x4x512_S128x512 : FVec Ideal S128x512 .f32) (ix2 p l) : EReal) = dot (bX V0) (bG V0) (bW V0) p (1024 + l.val) := by
  pointwise
  simp only [t32]
  try rfl

/-- Result 4. -/
theorem ref4 (p : Fin 128) (l : Fin 512) :
    ((shapeCast _ (mulf (res_main_v36 V0) (Host.divf (broadcastInDim S32x4x512 ![] bcast_S_S32x4x512 (constant (F := Ideal) S_ .f32 0x3F800000#32)) (addf (broadcastInDim S32x4x512 ![] bcast_S_S32x4x512 (constant (F := Ideal) S_ .f32 0x3F800000#32)) (Host.exp (Host.negf (res_main_v36 V0)))))) shapeCasts_S32x4x512_S128x512 : FVec Ideal S128x512 .f32) (ix2 p l) : EReal) = silu (dot (bX V0) (bG V0) (bW V0) p (1536 + l.val)) := by
  pointwise [res_main_v36]
  simp only [t32]
  try rfl

/-- Result 5. -/
theorem ref5 (p : Fin 128) (l : Fin 512) :
    ((shapeCast _ ((concatenate S32x4x8x64 3 [⟨S32x4x8x8, ((subf (mulf (res_main_v79 V0) (broadcastInDim S32x4x8x8 ![0, 1, 2, 3] bcast_S1x4x1x8_S32x4x8x8_0_1_2_3 (res_main_v76 V0))) (mulf (res_main_v80 V0) (broadcastInDim S32x4x8x8 ![0, 1, 2, 3] bcast_S1x4x1x8_S32x4x8x8_0_1_2_3 (res_main_v78 V0)))) : (⟨S32x4x8x8, .f32⟩ : BufTy).Contents (Elt Ideal))⟩, ⟨S32x4x8x8, ((addf (mulf (res_main_v80 V0) (broadcastInDim S32x4x8x8 ![0, 1, 2, 3] bcast_S1x4x1x8_S32x4x8x8_0_1_2_3 (res_main_v76 V0))) (mulf (res_main_v79 V0) (broadcastInDim S32x4x8x8 ![0, 1, 2, 3] bcast_S1x4x1x8_S32x4x8x8_0_1_2_3 (res_main_v78 V0)))) : (⟨S32x4x8x8, .f32⟩ : BufTy).Contents (Elt Ideal))⟩, ⟨S32x4x8x48, ((extractStridedSlice S32x4x8x48 ![0, 0, 0, 16] (res_main_v62 V0) slices_S32x4x8x64_S32x4x8x48_0_0_0_16) : (⟨S32x4x8x48, .f32⟩ : BufTy).Contents (Elt Ideal))⟩] concatenates_S32x4x8x8_S32x4x8x8_S32x4x8x48_S32x4x8x64_d3 : (⟨S32x4x8x64, .f32⟩ : BufTy).Contents (Elt Ideal))) shapeCasts_S32x4x8x64_S128x512 : FVec Ideal S128x512 .f32) (ix2 p l) : EReal) = rot (fun j => dot (bX V0) (bG V0) (bW V0) p (2048 + l.val / 64 * 64 + j)) (16384 + p.val % 4) (l.val % 64) := by
  pointwise [res_main_v62, res_main_v79, res_main_v80]
  by_cases h : l.val % 64 < 8
  · rw [dif_pos h]
    simp only [t32, t76, t78]
    exact rot_lo _ _ _ h _ _ (congrArg (dot (bX V0) (bG V0) (bW V0) p) (by omega)) (congrArg (dot (bX V0) (bG V0) (bW V0) p) (by omega))
  · rw [dif_neg h]
    by_cases h' : l.val % 64 - 8 < 8
    · rw [dif_pos h']
      simp only [t32, t76, t78]
      exact rot_mid _ _ _ h h' _ _ (congrArg (dot (bX V0) (bG V0) (bW V0) p) (by omega)) (congrArg (dot (bX V0) (bG V0) (bW V0) p) (by omega))
    · rw [dif_neg h']
      simp only [t32]
      exact rot_hi _ _ _ h h' _ (congrArg (dot (bX V0) (bG V0) (bW V0) p) (by omega))

/-- Result 6. -/
theorem ref6 (p : Fin 128) (l : Fin 512) :
    ((shapeCast _ ((concatenate S32x4x8x64 3 [⟨S32x4x8x8, ((subf (mulf (res_main_v110 V0) (broadcastInDim S32x4x8x8 ![0, 1, 2, 3] bcast_S1x4x1x8_S32x4x8x8_0_1_2_3 (res_main_v107 V0))) (mulf (res_main_v111 V0) (broadcastInDim S32x4x8x8 ![0, 1, 2, 3] bcast_S1x4x1x8_S32x4x8x8_0_1_2_3 (res_main_v109 V0)))) : (⟨S32x4x8x8, .f32⟩ : BufTy).Contents (Elt Ideal))⟩, ⟨S32x4x8x8, ((addf (mulf (res_main_v111 V0) (broadcastInDim S32x4x8x8 ![0, 1, 2, 3] bcast_S1x4x1x8_S32x4x8x8_0_1_2_3 (res_main_v107 V0))) (mulf (res_main_v110 V0) (broadcastInDim S32x4x8x8 ![0, 1, 2, 3] bcast_S1x4x1x8_S32x4x8x8_0_1_2_3 (res_main_v109 V0)))) : (⟨S32x4x8x8, .f32⟩ : BufTy).Contents (Elt Ideal))⟩, ⟨S32x4x8x48, ((extractStridedSlice S32x4x8x48 ![0, 0, 0, 16] (res_main_v93 V0) slices_S32x4x8x64_S32x4x8x48_0_0_0_16) : (⟨S32x4x8x48, .f32⟩ : BufTy).Contents (Elt Ideal))⟩] concatenates_S32x4x8x8_S32x4x8x8_S32x4x8x48_S32x4x8x64_d3 : (⟨S32x4x8x64, .f32⟩ : BufTy).Contents (Elt Ideal))) shapeCasts_S32x4x8x64_S128x512 : FVec Ideal S128x512 .f32) (ix2 p l) : EReal) = rot (fun j => dot (bX V0) (bG V0) (bW V0) p (2560 + l.val / 64 * 64 + j)) (16384 + p.val % 4) (l.val % 64) := by
  pointwise [res_main_v93, res_main_v110, res_main_v111]
  by_cases h : l.val % 64 < 8
  · rw [dif_pos h]
    simp only [t32, t107, t109]
    exact rot_lo _ _ _ h _ _ (congrArg (dot (bX V0) (bG V0) (bW V0) p) (by omega)) (congrArg (dot (bX V0) (bG V0) (bW V0) p) (by omega))
  · rw [dif_neg h]
    by_cases h' : l.val % 64 - 8 < 8
    · rw [dif_pos h']
      simp only [t32, t107, t109]
      exact rot_mid _ _ _ h h' _ _ (congrArg (dot (bX V0) (bG V0) (bW V0) p) (by omega)) (congrArg (dot (bX V0) (bG V0) (bW V0) p) (by omega))
    · rw [dif_neg h']
      simp only [t32]
      exact rot_hi _ _ _ h h' _ (congrArg (dot (bX V0) (bG V0) (bW V0) p) (by omega))

/-- Result 7. -/
theorem ref7 (p : Fin 128) (l : Fin 512) :
    ((shapeCast _ (extractStridedSlice S32x4x512 ![0, 0, 3072] (res_main_v32 V0) slices_S32x4x4168_S32x4x512_0_0_3072) shapeCasts_S32x4x512_S128x512 : FVec Ideal S128x512 .f32) (ix2 p l) : EReal) = dot (bX V0) (bG V0) (bW V0) p (3072 + l.val) := by
  pointwise
  simp only [t32]
  try rfl

/-- Result 8. -/
theorem ref8 (p : Fin 128) (l : Fin 512) :
    ((shapeCast _ ((concatenate S32x4x8x64 3 [⟨S32x4x8x8, ((subf (mulf (res_main_v141 V0) (broadcastInDim S32x4x8x8 ![0, 1, 2, 3] bcast_S1x4x1x8_S32x4x8x8_0_1_2_3 (res_main_v138 V0))) (mulf (res_main_v142 V0) (broadcastInDim S32x4x8x8 ![0, 1, 2, 3] bcast_S1x4x1x8_S32x4x8x8_0_1_2_3 (res_main_v140 V0)))) : (⟨S32x4x8x8, .f32⟩ : BufTy).Contents (Elt Ideal))⟩, ⟨S32x4x8x8, ((addf (mulf (res_main_v142 V0) (broadcastInDim S32x4x8x8 ![0, 1, 2, 3] bcast_S1x4x1x8_S32x4x8x8_0_1_2_3 (res_main_v138 V0))) (mulf (res_main_v141 V0) (broadcastInDim S32x4x8x8 ![0, 1, 2, 3] bcast_S1x4x1x8_S32x4x8x8_0_1_2_3 (res_main_v140 V0)))) : (⟨S32x4x8x8, .f32⟩ : BufTy).Contents (Elt Ideal))⟩, ⟨S32x4x8x48, ((extractStridedSlice S32x4x8x48 ![0, 0, 0, 16] (res_main_v124 V0) slices_S32x4x8x64_S32x4x8x48_0_0_0_16) : (⟨S32x4x8x48, .f32⟩ : BufTy).Contents (Elt Ideal))⟩] concatenates_S32x4x8x8_S32x4x8x8_S32x4x8x48_S32x4x8x64_d3 : (⟨S32x4x8x64, .f32⟩ : BufTy).Contents (Elt Ideal))) shapeCasts_S32x4x8x64_S128x512 : FVec Ideal S128x512 .f32) (ix2 p l) : EReal) = rot (fun j => dot (bX V0) (bG V0) (bW V0) p (3584 + l.val / 64 * 64 + j)) (16384 + p.val % 4) (l.val % 64) := by
  pointwise [res_main_v124, res_main_v141, res_main_v142]
  by_cases h : l.val % 64 < 8
  · rw [dif_pos h]
    simp only [t32, t138, t140]
    exact rot_lo _ _ _ h _ _ (congrArg (dot (bX V0) (bG V0) (bW V0) p) (by omega)) (congrArg (dot (bX V0) (bG V0) (bW V0) p) (by omega))
  · rw [dif_neg h]
    by_cases h' : l.val % 64 - 8 < 8
    · rw [dif_pos h']
      simp only [t32, t138, t140]
      exact rot_mid _ _ _ h h' _ _ (congrArg (dot (bX V0) (bG V0) (bW V0) p) (by omega)) (congrArg (dot (bX V0) (bG V0) (bW V0) p) (by omega))
    · rw [dif_neg h']
      simp only [t32]
      exact rot_hi _ _ _ h h' _ (congrArg (dot (bX V0) (bG V0) (bW V0) p) (by omega))

/-- Result 9. -/
theorem ref9 (p : Fin 128) (l : Fin 128) :
    ((shapeCast _ ((concatenate S32x4x128 2 [⟨S32x4x64, (((concatenate S32x4x64 2 [⟨S32x4x8, ((subf (mulf (res_main_v171 V0) (broadcastInDim S32x4x8 ![0, 1, 2] bcast_S1x4x8_S32x4x8_0_1_2 (res_main_v168 V0))) (mulf (res_main_v172 V0) (broadcastInDim S32x4x8 ![0, 1, 2] bcast_S1x4x8_S32x4x8_0_1_2 (res_main_v170 V0)))) : (⟨S32x4x8, .f32⟩ : BufTy).Contents (Elt Ideal))⟩, ⟨S32x4x8, ((addf (mulf (res_main_v172 V0) (broadcastInDim S32x4x8 ![0, 1, 2] bcast_S1x4x8_S32x4x8_0_1_2 (res_main_v168 V0))) (mulf (res_main_v171 V0) (broadcastInDim S32x4x8 ![0, 1, 2] bcast_S1x4x8_S32x4x8_0_1_2 (res_main_v170 V0)))) : (⟨S32x4x8, .f32⟩ : BufTy).Contents (Elt Ideal))⟩, ⟨S32x4x48, ((extractStridedSlice S32x4x48 ![0, 0, 16] (res_main_v41 V0) slices_S32x4x64_S32x4x48_0_0_16) : (⟨S32x4x48, .f32⟩ : BufTy).Contents (Elt Ideal))⟩] concatenates_S32x4x8_S32x4x8_S32x4x48_S32x4x64_d2 : (⟨S32x4x64, .f32⟩ : BufTy).Contents (Elt Ideal))) : (⟨S32x4x64, .f32⟩ : BufTy).Contents (Elt Ideal))⟩, ⟨S32x4x8, ((mulf (extractStridedSlice S32x4x8 ![0, 0, 4160] (res_main_v32 V0) slices_S32x4x4168_S32x4x8_0_0_4160) (broadcastInDim S32x4x8 ![] bcast_S_S32x4x8 (constant (F := Ideal) S_ .f32 0x3D3504F3#32))) : (⟨S32x4x8, .f32⟩ : BufTy).Contents (Elt Ideal))⟩, ⟨S32x4x56, ((broadcastInDim S32x4x56 ![] bcast_S_S32x4x56 (constant (F := Ideal) S_ .f32 0x00000000#32)) : (⟨S32x4x56, .f32⟩ : BufTy).Contents (Elt Ideal))⟩] concatenates_S32x4x64_S32x4x8_S32x4x56_S32x4x128_d2 : (⟨S32x4x128, .f32⟩ : BufTy).Contents (Elt Ideal))) shapeCasts_S32x4x128_S128x128 : FVec Ideal S128x128 .f32) (ix2 p l) : EReal) = if l.val < 64 then rot (fun j => dot (bX V0) (bG V0) (bW V0) p (4096 + j)) (16384 + p.val % 4) l.val else dot (bX V0) (bG V0) (bW V0) p (4096 + l.val) * Ideal.ofBits .f32 1026884851#32 := by
  pointwise [res_main_v41, res_main_v171, res_main_v172]
  by_cases h0 : l.val < 64
  · refine (dif_pos h0).trans (Eq.trans ?_ (if_pos h0).symm)
    by_cases h : l.val < 8
    · rw [dif_pos h]
      simp only [t32, t168, t170]
      exact rot_lo _ _ _ h _ _ (congrArg (dot (bX V0) (bG V0) (bW V0) p) (by omega)) (congrArg (dot (bX V0) (bG V0) (bW V0) p) (by omega))
    · rw [dif_neg h]
      by_cases h' : l.val - 8 < 8
      · rw [dif_pos h']
        simp only [t32, t168, t170]
        exact rot_mid _ _ _ h h' _ _ (congrArg (dot (bX V0) (bG V0) (bW V0) p) (by omega)) (congrArg (dot (bX V0) (bG V0) (bW V0) p) (by omega))
      · rw [dif_neg h']
        simp only [t32]
        exact rot_hi _ _ _ h h' _ (congrArg (dot (bX V0) (bG V0) (bW V0) p) (by omega))
  · refine (dif_neg h0).trans (Eq.trans ?_ (if_neg h0).symm)
    by_cases h : l.val - 64 < 8
    · rw [dif_pos h]
      simp only [t32]
      exact congrArg (fun n : ℕ => (dot (bX V0) (bG V0) (bW V0) p n * Ideal.ofBits .f32 1026884851#32 : EReal)) (by omega)
    · rw [dif_neg h, dot_zero _ _ _ _ _ (by omega), zero_mul]

end Cert.Reference4Ideal.Proj

end
-- ==== Proof.SampProjection.lean ====
/- The projections of the samples: the kernel's run and the reference's end with the same ten arrays, over the extended
   reals. -/
module

public import proofs.«01_k».proof.Defs
public import proofs.«01_k».proof.Proof.SampProjValue
public import proofs.«01_k».proof.Proof.SampProjRef

@[expose] public section
set_option maxRecDepth 16384

noncomputable section

namespace Cert.Proof

open Idealize.ShloMosaic Idealize.ShloMosaic.StableHlo Idealize.ShloMosaic.Pointwise Idealize.SL.Sem

/-- The reference's frame. -/
theorem frame_r4 : Cert.quiescent_Reference4Ideal := fun m ρ _ =>
  (θ_run (Cert.Reference4Ideal.defs (F := Ideal)) _ _).mono (fun r h => ⟨fun c => (h c).2.2.2.2.2.2.2.2.2.2, sem_eq_zero_of_no_sems (by decide) r.2⟩)
    (Cert.Reference4Ideal.Value.run (F := Ideal) m ρ)

/-- The reference's lower bound is the kernel's, of the same logits. -/
theorem sampleBound_eq (V0 : Valuation Cert.Reference4Ideal.τ Cert.Reference4Ideal.sig (Elt Ideal)) :
    Cert.Reference4Ideal.Value.res_main_v16 V0 = Cert.Kernel4Ideal.Proj.lbV (V0 (Proc.devRef .tc Cert.Reference4Ideal.main_arg3)) := rfl

set_option maxHeartbeats 4000000 in
/-- The kernel and the reference end with equal arrays. -/
theorem sampleProjections : Cert.algebraic_Kernel4Ideal_Reference4Ideal := by
  intro m g m' g' _ ha
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N, fun c => (Cert.Kernel4Ideal.Gen.dats m 0 c).arrAt 16 Cert.Kernel4Ideal.cfg0.N,
    Cert.Kernel4Ideal.Value.run_blocks m g, ?_⟩
  refine (θ_run (Cert.Reference4Ideal.defs (F := Ideal)) _ _).mono (fun r h c => ?_) (Cert.Reference4Ideal.Value.run (F := Ideal) m' g')
  obtain ⟨h0, h1, h2, h3, h4, h5, h6, h7, h8, h9, hf⟩ := h c
  obtain ⟨a0, a1, a2, a3⟩ := ha c
  have eX : Cert.Reference4Ideal.Proj.bX (launchContents m' c) = Cert.Kernel4Ideal.Proj.aX m c :=
    congrArg (fun (x : FVec Ideal Cert.Kernel4Ideal.S32x4x1024 .f32) (p : Fin 128) (d : Fin 1024) => (x (ix3 ⟨p.val / 4, by omega⟩ ⟨p.val % 4, by omega⟩ d) : EReal)) a0
  have eG : Cert.Reference4Ideal.Proj.bG (launchContents m' c) = Cert.Kernel4Ideal.Proj.aG m c :=
    congrArg (fun (x : FVec Ideal Cert.Kernel4Ideal.S1x1024 .f32) (d : Fin 1024) => (x (ix2 0 d) : EReal)) a1
  have eW : Cert.Reference4Ideal.Proj.bW (launchContents m' c) = Cert.Kernel4Ideal.Proj.aW m c :=
    congrArg (fun (x : FVec Ideal Cert.Kernel4Ideal.S1x1024x4168 .f32) (d : Fin 1024) (j : Fin 4168) => (x (ix3 0 d j) : EReal)) a2
  have eL : ∀ l : Fin 512, (Cert.Reference4Ideal.Value.res_main_v16 (launchContents m' c) (ix1 l) : EReal) = Cert.Kernel4Ideal.Proj.aL m c l := fun l =>
    (congrFun (sampleBound_eq (launchContents m' c)) (ix1 l)).trans (congrArg (fun x => (Cert.Kernel4Ideal.Proj.lbV x (ix1 l) : EReal)) a3)
  refine ⟨h0.trans ?_, h1.trans ?_, h2.trans ?_, h3.trans ?_, h4.trans ?_, h5.trans ?_, h6.trans ?_, h7.trans ?_, h8.trans ?_, h9.trans ?_, hf⟩
  · funext i
    change Cert.Reference4Ideal.S128x512.Idx at i
    idx_vars i
    refine (Cert.Reference4Ideal.Proj.ref0 (launchContents m' c) _ _).trans ?_
    rw [eX, eG, eW]
    exact (Cert.Kernel4Ideal.Proj.arr0 m c _ _).symm
  · funext i
    change Cert.Reference4Ideal.S128x512.Idx at i
    idx_vars i
    refine (Cert.Reference4Ideal.Proj.ref1 (launchContents m' c) _ _).trans ?_
    rw [eL, eX, eG, eW]
    exact (Cert.Kernel4Ideal.Proj.arr1 m c _ _).symm
  · funext i
    change Cert.Reference4Ideal.S128x512.Idx at i
    idx_vars i
    refine (Cert.Reference4Ideal.Proj.ref2 (launchContents m' c) _ _).trans ?_
    rw [eL, eX, eG, eW]
    exact (Cert.Kernel4Ideal.Proj.arr2 m c _ _).symm
  · funext i
    change Cert.Reference4Ideal.S128x512.Idx at i
    idx_vars i
    refine (Cert.Reference4Ideal.Proj.ref3 (launchContents m' c) _ _).trans ?_
    rw [eX, eG, eW]
    exact (Cert.Kernel4Ideal.Proj.arr3 m c _ _).symm
  · funext i
    change Cert.Reference4Ideal.S128x512.Idx at i
    idx_vars i
    refine (Cert.Reference4Ideal.Proj.ref4 (launchContents m' c) _ _).trans ?_
    rw [eX, eG, eW]
    exact (Cert.Kernel4Ideal.Proj.arr4 m c _ _).symm
  · funext i
    change Cert.Reference4Ideal.S128x512.Idx at i
    idx_vars i
    refine (Cert.Reference4Ideal.Proj.ref5 (launchContents m' c) _ _).trans ?_
    rw [eX, eG, eW]
    exact (Cert.Kernel4Ideal.Proj.arr5 m c _ _).symm
  · funext i
    change Cert.Reference4Ideal.S128x512.Idx at i
    idx_vars i
    refine (Cert.Reference4Ideal.Proj.ref6 (launchContents m' c) _ _).trans ?_
    rw [eX, eG, eW]
    exact (Cert.Kernel4Ideal.Proj.arr6 m c _ _).symm
  · funext i
    change Cert.Reference4Ideal.S128x512.Idx at i
    idx_vars i
    refine (Cert.Reference4Ideal.Proj.ref7 (launchContents m' c) _ _).trans ?_
    rw [eX, eG, eW]
    exact (Cert.Kernel4Ideal.Proj.arr7 m c _ _).symm
  · funext i
    change Cert.Reference4Ideal.S128x512.Idx at i
    idx_vars i
    refine (Cert.Reference4Ideal.Proj.ref8 (launchContents m' c) _ _).trans ?_
    rw [eX, eG, eW]
    exact (Cert.Kernel4Ideal.Proj.arr8 m c _ _).symm
  · funext i
    change Cert.Reference4Ideal.S128x128.Idx at i
    idx_vars i
    refine (Cert.Reference4Ideal.Proj.ref9 (launchContents m' c) _ _).trans ?_
    rw [eX, eG, eW]
    exact (Cert.Kernel4Ideal.Proj.arr9 m c _ _).symm

end Cert.Proof
-- ==== Proof.SampOutCases.lean ====
/- What the one grid point of the samples' output projection and feed-forward part leaves in its output blocks: eleven tiles of
   256 lanes, each the same function of its slices. -/
module

public import Idealize.ShloMosaic.Lib.Pointwise
public import Idealize.ShloMosaic.Lib.Pipeline.ValueKit
public import Idealize.ShloMosaic.Lib.Pipeline.ReadBack
public import proofs.«01_k».proof.Proof.Gen.Kernel5Ideal.Value

@[expose] public section
set_option maxRecDepth 16384

noncomputable section

namespace Cert.Kernel5Ideal.Out

open Idealize.ShloMosaic Idealize.ShloMosaic.TcCoe Cert.Kernel5Ideal Cert.Kernel5Ideal.Gen

variable {F : FTy → Type} [FloatOps F]

/-- One tile: the accumulated rows `x` and the tile's part of the feed-forward product, of the normalised rows `h`, the two
    slices `wu`, `wv` of the up projection, the slices `p1`, `p2` of the given state's rows, the bias `b`, the three taps and the
    slice `wd` of the down projection. -/
def tile (h : Vec F S128x1024 .bf16) (wu wv : Vec F S1024x256 .bf16) (p1 p2 : Vec F S128x256 .f32) (b w0 w1 w2 : Vec F S1x256 .f32)
    (x : Vec F S128x1024 .f32) (wd : Vec F S256x1024 .bf16) : FVec F S128x1024 .f32 :=
  k0_pay10 (k0_pay6 h wu) (k0_pay7 h wv) (k0_pay8 k0_pay5 h wu p1 p2 b w0 w1) (k0_pay9 w2) x wd

/-- The rows before the first tile. -/
def acc0 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 := k0_pay4 x1 x2 x0 x5

/-- The rows after tile 0. -/
def acc1 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 0] S1024x256.size inb_S1024x5632_S1024x256_0_0)) (View.ld x7 (Rect.unit (s := S1024x5632) ![0, 2816] S1024x256.size inb_S1024x5632_S1024x256_0_2816)) (View.ld x3 (Rect.unit (s := S128x2816) ![0, 0] S128x256.size inb_S128x2816_S128x256_0_0)) (View.ld x4 (Rect.unit (s := S128x2816) ![0, 0] S128x256.size inb_S128x2816_S128x256_0_0)) (View.ld x9 (Rect.unit (s := S1x2816) ![0, 0] S1x256.size inb_S1x2816_S1x256_0_0)) (View.ld x8 (Rect.unit (s := S3x2816) ![0, 0] S1x256.size inb_S3x2816_S1x256_0_0)) (View.ld x8 (Rect.unit (s := S3x2816) ![1, 0] S1x256.size inb_S3x2816_S1x256_1_0)) (View.ld x8 (Rect.unit (s := S3x2816) ![2, 0] S1x256.size inb_S3x2816_S1x256_2_0)) (acc0 x0 x1 x2 x3 x4 x5 x6 x7 x8 x9 x10) (View.ld x10 (Rect.unit (s := S2816x1024) ![0, 0] S256x1024.size inb_S2816x1024_S256x1024_0_0)))

/-- The rows after tile 1. -/
def acc2 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 256] S1024x256.size inb_S1024x5632_S1024x256_0_256)) (View.ld x7 (Rect.unit (s := S1024x5632) ![0, 3072] S1024x256.size inb_S1024x5632_S1024x256_0_3072)) (View.ld x3 (Rect.unit (s := S128x2816) ![0, 256] S128x256.size inb_S128x2816_S128x256_0_256)) (View.ld x4 (Rect.unit (s := S128x2816) ![0, 256] S128x256.size inb_S128x2816_S128x256_0_256)) (View.ld x9 (Rect.unit (s := S1x2816) ![0, 256] S1x256.size inb_S1x2816_S1x256_0_256)) (View.ld x8 (Rect.unit (s := S3x2816) ![0, 256] S1x256.size inb_S3x2816_S1x256_0_256)) (View.ld x8 (Rect.unit (s := S3x2816) ![1, 256] S1x256.size inb_S3x2816_S1x256_1_256)) (View.ld x8 (Rect.unit (s := S3x2816) ![2, 256] S1x256.size inb_S3x2816_S1x256_2_256)) (acc1 x0 x1 x2 x3 x4 x5 x6 x7 x8 x9 x10) (View.ld x10 (Rect.unit (s := S2816x1024) ![256, 0] S256x1024.size inb_S2816x1024_S256x1024_256_0)))

/-- The rows after tile 2. -/
def acc3 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 512] S1024x256.size inb_S1024x5632_S1024x256_0_512)) (View.ld x7 (Rect.unit (s := S1024x5632) ![0, 3328] S1024x256.size inb_S1024x5632_S1024x256_0_3328)) (View.ld x3 (Rect.unit (s := S128x2816) ![0, 512] S128x256.size inb_S128x2816_S128x256_0_512)) (View.ld x4 (Rect.unit (s := S128x2816) ![0, 512] S128x256.size inb_S128x2816_S128x256_0_512)) (View.ld x9 (Rect.unit (s := S1x2816) ![0, 512] S1x256.size inb_S1x2816_S1x256_0_512)) (View.ld x8 (Rect.unit (s := S3x2816) ![0, 512] S1x256.size inb_S3x2816_S1x256_0_512)) (View.ld x8 (Rect.unit (s := S3x2816) ![1, 512] S1x256.size inb_S3x2816_S1x256_1_512)) (View.ld x8 (Rect.unit (s := S3x2816) ![2, 512] S1x256.size inb_S3x2816_S1x256_2_512)) (acc2 x0 x1 x2 x3 x4 x5 x6 x7 x8 x9 x10) (View.ld x10 (Rect.unit (s := S2816x1024) ![512, 0] S256x1024.size inb_S2816x1024_S256x1024_512_0)))

/-- The rows after tile 3. -/
def acc4 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 768] S1024x256.size inb_S1024x5632_S1024x256_0_768)) (View.ld x7 (Rect.unit (s := S1024x5632) ![0, 3584] S1024x256.size inb_S1024x5632_S1024x256_0_3584)) (View.ld x3 (Rect.unit (s := S128x2816) ![0, 768] S128x256.size inb_S128x2816_S128x256_0_768)) (View.ld x4 (Rect.unit (s := S128x2816) ![0, 768] S128x256.size inb_S128x2816_S128x256_0_768)) (View.ld x9 (Rect.unit (s := S1x2816) ![0, 768] S1x256.size inb_S1x2816_S1x256_0_768)) (View.ld x8 (Rect.unit (s := S3x2816) ![0, 768] S1x256.size inb_S3x2816_S1x256_0_768)) (View.ld x8 (Rect.unit (s := S3x2816) ![1, 768] S1x256.size inb_S3x2816_S1x256_1_768)) (View.ld x8 (Rect.unit (s := S3x2816) ![2, 768] S1x256.size inb_S3x2816_S1x256_2_768)) (acc3 x0 x1 x2 x3 x4 x5 x6 x7 x8 x9 x10) (View.ld x10 (Rect.unit (s := S2816x1024) ![768, 0] S256x1024.size inb_S2816x1024_S256x1024_768_0)))

/-- The rows after tile 4. -/
def acc5 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 1024] S1024x256.size inb_S1024x5632_S1024x256_0_1024)) (View.ld x7 (Rect.unit (s := S1024x5632) ![0, 3840] S1024x256.size inb_S1024x5632_S1024x256_0_3840)) (View.ld x3 (Rect.unit (s := S128x2816) ![0, 1024] S128x256.size inb_S128x2816_S128x256_0_1024)) (View.ld x4 (Rect.unit (s := S128x2816) ![0, 1024] S128x256.size inb_S128x2816_S128x256_0_1024)) (View.ld x9 (Rect.unit (s := S1x2816) ![0, 1024] S1x256.size inb_S1x2816_S1x256_0_1024)) (View.ld x8 (Rect.unit (s := S3x2816) ![0, 1024] S1x256.size inb_S3x2816_S1x256_0_1024)) (View.ld x8 (Rect.unit (s := S3x2816) ![1, 1024] S1x256.size inb_S3x2816_S1x256_1_1024)) (View.ld x8 (Rect.unit (s := S3x2816) ![2, 1024] S1x256.size inb_S3x2816_S1x256_2_1024)) (acc4 x0 x1 x2 x3 x4 x5 x6 x7 x8 x9 x10) (View.ld x10 (Rect.unit (s := S2816x1024) ![1024, 0] S256x1024.size inb_S2816x1024_S256x1024_1024_0)))

/-- The rows after tile 5. -/
def acc6 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 1280] S1024x256.size inb_S1024x5632_S1024x256_0_1280)) (View.ld x7 (Rect.unit (s := S1024x5632) ![0, 4096] S1024x256.size inb_S1024x5632_S1024x256_0_4096)) (View.ld x3 (Rect.unit (s := S128x2816) ![0, 1280] S128x256.size inb_S128x2816_S128x256_0_1280)) (View.ld x4 (Rect.unit (s := S128x2816) ![0, 1280] S128x256.size inb_S128x2816_S128x256_0_1280)) (View.ld x9 (Rect.unit (s := S1x2816) ![0, 1280] S1x256.size inb_S1x2816_S1x256_0_1280)) (View.ld x8 (Rect.unit (s := S3x2816) ![0, 1280] S1x256.size inb_S3x2816_S1x256_0_1280)) (View.ld x8 (Rect.unit (s := S3x2816) ![1, 1280] S1x256.size inb_S3x2816_S1x256_1_1280)) (View.ld x8 (Rect.unit (s := S3x2816) ![2, 1280] S1x256.size inb_S3x2816_S1x256_2_1280)) (acc5 x0 x1 x2 x3 x4 x5 x6 x7 x8 x9 x10) (View.ld x10 (Rect.unit (s := S2816x1024) ![1280, 0] S256x1024.size inb_S2816x1024_S256x1024_1280_0)))

/-- The rows after tile 6. -/
def acc7 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 1536] S1024x256.size inb_S1024x5632_S1024x256_0_1536)) (View.ld x7 (Rect.unit (s := S1024x5632) ![0, 4352] S1024x256.size inb_S1024x5632_S1024x256_0_4352)) (View.ld x3 (Rect.unit (s := S128x2816) ![0, 1536] S128x256.size inb_S128x2816_S128x256_0_1536)) (View.ld x4 (Rect.unit (s := S128x2816) ![0, 1536] S128x256.size inb_S128x2816_S128x256_0_1536)) (View.ld x9 (Rect.unit (s := S1x2816) ![0, 1536] S1x256.size inb_S1x2816_S1x256_0_1536)) (View.ld x8 (Rect.unit (s := S3x2816) ![0, 1536] S1x256.size inb_S3x2816_S1x256_0_1536)) (View.ld x8 (Rect.unit (s := S3x2816) ![1, 1536] S1x256.size inb_S3x2816_S1x256_1_1536)) (View.ld x8 (Rect.unit (s := S3x2816) ![2, 1536] S1x256.size inb_S3x2816_S1x256_2_1536)) (acc6 x0 x1 x2 x3 x4 x5 x6 x7 x8 x9 x10) (View.ld x10 (Rect.unit (s := S2816x1024) ![1536, 0] S256x1024.size inb_S2816x1024_S256x1024_1536_0)))

/-- The rows after tile 7. -/
def acc8 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 1792] S1024x256.size inb_S1024x5632_S1024x256_0_1792)) (View.ld x7 (Rect.unit (s := S1024x5632) ![0, 4608] S1024x256.size inb_S1024x5632_S1024x256_0_4608)) (View.ld x3 (Rect.unit (s := S128x2816) ![0, 1792] S128x256.size inb_S128x2816_S128x256_0_1792)) (View.ld x4 (Rect.unit (s := S128x2816) ![0, 1792] S128x256.size inb_S128x2816_S128x256_0_1792)) (View.ld x9 (Rect.unit (s := S1x2816) ![0, 1792] S1x256.size inb_S1x2816_S1x256_0_1792)) (View.ld x8 (Rect.unit (s := S3x2816) ![0, 1792] S1x256.size inb_S3x2816_S1x256_0_1792)) (View.ld x8 (Rect.unit (s := S3x2816) ![1, 1792] S1x256.size inb_S3x2816_S1x256_1_1792)) (View.ld x8 (Rect.unit (s := S3x2816) ![2, 1792] S1x256.size inb_S3x2816_S1x256_2_1792)) (acc7 x0 x1 x2 x3 x4 x5 x6 x7 x8 x9 x10) (View.ld x10 (Rect.unit (s := S2816x1024) ![1792, 0] S256x1024.size inb_S2816x1024_S256x1024_1792_0)))

/-- The rows after tile 8. -/
def acc9 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 2048] S1024x256.size inb_S1024x5632_S1024x256_0_2048)) (View.ld x7 (Rect.unit (s := S1024x5632) ![0, 4864] S1024x256.size inb_S1024x5632_S1024x256_0_4864)) (View.ld x3 (Rect.unit (s := S128x2816) ![0, 2048] S128x256.size inb_S128x2816_S128x256_0_2048)) (View.ld x4 (Rect.unit (s := S128x2816) ![0, 2048] S128x256.size inb_S128x2816_S128x256_0_2048)) (View.ld x9 (Rect.unit (s := S1x2816) ![0, 2048] S1x256.size inb_S1x2816_S1x256_0_2048)) (View.ld x8 (Rect.unit (s := S3x2816) ![0, 2048] S1x256.size inb_S3x2816_S1x256_0_2048)) (View.ld x8 (Rect.unit (s := S3x2816) ![1, 2048] S1x256.size inb_S3x2816_S1x256_1_2048)) (View.ld x8 (Rect.unit (s := S3x2816) ![2, 2048] S1x256.size inb_S3x2816_S1x256_2_2048)) (acc8 x0 x1 x2 x3 x4 x5 x6 x7 x8 x9 x10) (View.ld x10 (Rect.unit (s := S2816x1024) ![2048, 0] S256x1024.size inb_S2816x1024_S256x1024_2048_0)))

/-- The rows after tile 9. -/
def acc10 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 2304] S1024x256.size inb_S1024x5632_S1024x256_0_2304)) (View.ld x7 (Rect.unit (s := S1024x5632) ![0, 5120] S1024x256.size inb_S1024x5632_S1024x256_0_5120)) (View.ld x3 (Rect.unit (s := S128x2816) ![0, 2304] S128x256.size inb_S128x2816_S128x256_0_2304)) (View.ld x4 (Rect.unit (s := S128x2816) ![0, 2304] S128x256.size inb_S128x2816_S128x256_0_2304)) (View.ld x9 (Rect.unit (s := S1x2816) ![0, 2304] S1x256.size inb_S1x2816_S1x256_0_2304)) (View.ld x8 (Rect.unit (s := S3x2816) ![0, 2304] S1x256.size inb_S3x2816_S1x256_0_2304)) (View.ld x8 (Rect.unit (s := S3x2816) ![1, 2304] S1x256.size inb_S3x2816_S1x256_1_2304)) (View.ld x8 (Rect.unit (s := S3x2816) ![2, 2304] S1x256.size inb_S3x2816_S1x256_2_2304)) (acc9 x0 x1 x2 x3 x4 x5 x6 x7 x8 x9 x10) (View.ld x10 (Rect.unit (s := S2816x1024) ![2304, 0] S256x1024.size inb_S2816x1024_S256x1024_2304_0)))

/-- The rows after tile 10. -/
def acc11 (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) : FVec F S128x1024 .f32 :=
  (tile (k0_pay3 x1 x2 x0 x5 x6) (View.ld x7 (Rect.unit (s := S1024x5632) ![0, 2560] S1024x256.size inb_S1024x5632_S1024x256_0_2560)) (View.ld x7 (Rect.unit (s := S1024x5632) ![0, 5376] S1024x256.size inb_S1024x5632_S1024x256_0_5376)) (View.ld x3 (Rect.unit (s := S128x2816) ![0, 2560] S128x256.size inb_S128x2816_S128x256_0_2560)) (View.ld x4 (Rect.unit (s := S128x2816) ![0, 2560] S128x256.size inb_S128x2816_S128x256_0_2560)) (View.ld x9 (Rect.unit (s := S1x2816) ![0, 2560] S1x256.size inb_S1x2816_S1x256_0_2560)) (View.ld x8 (Rect.unit (s := S3x2816) ![0, 2560] S1x256.size inb_S3x2816_S1x256_0_2560)) (View.ld x8 (Rect.unit (s := S3x2816) ![1, 2560] S1x256.size inb_S3x2816_S1x256_1_2560)) (View.ld x8 (Rect.unit (s := S3x2816) ![2, 2560] S1x256.size inb_S3x2816_S1x256_2_2560)) (acc10 x0 x1 x2 x3 x4 x5 x6 x7 x8 x9 x10) (View.ld x10 (Rect.unit (s := S2816x1024) ![2560, 0] S256x1024.size inb_S2816x1024_S256x1024_2560_0)))

/-- The eleven stores of the up projection's rows, the last one first. -/
def outP (x0 : Vec F S128x1024 .f32) (x1 : Vec F S128x512 .f32) (x2 : Vec F S128x512 .f32) (x5 : Vec F S1024x1024 .bf16) (x6 : Vec F S1x1024 .f32) (x7 : Vec F S1024x5632 .bf16) : List (View.Piece (Elt F) S128x2816 .f32) :=
  [ ⟨(Rect.unit (s := S128x2816) ![0, 2560] S128x256.size inb_S128x2816_S128x256_0_2560), k0_pay6 (k0_pay3 x1 x2 x0 x5 x6) (View.ld x7 (Rect.unit (s := S1024x5632) ![0, 2560] S1024x256.size inb_S1024x5632_S1024x256_0_2560))⟩,
    ⟨(Rect.unit (s := S128x2816) ![0, 2304] S128x256.size inb_S128x2816_S128x256_0_2304), k0_pay6 (k0_pay3 x1 x2 x0 x5 x6) (View.ld x7 (Rect.unit (s := S1024x5632) ![0, 2304] S1024x256.size inb_S1024x5632_S1024x256_0_2304))⟩,
    ⟨(Rect.unit (s := S128x2816) ![0, 2048] S128x256.size inb_S128x2816_S128x256_0_2048), k0_pay6 (k0_pay3 x1 x2 x0 x5 x6) (View.ld x7 (Rect.unit (s := S1024x5632) ![0, 2048] S1024x256.size inb_S1024x5632_S1024x256_0_2048))⟩,
    ⟨(Rect.unit (s := S128x2816) ![0, 1792] S128x256.size inb_S128x2816_S128x256_0_1792), k0_pay6 (k0_pay3 x1 x2 x0 x5 x6) (View.ld x7 (Rect.unit (s := S1024x5632) ![0, 1792] S1024x256.size inb_S1024x5632_S1024x256_0_1792))⟩,
    ⟨(Rect.unit (s := S128x2816) ![0, 1536] S128x256.size inb_S128x2816_S128x256_0_1536), k0_pay6 (k0_pay3 x1 x2 x0 x5 x6) (View.ld x7 (Rect.unit (s := S1024x5632) ![0, 1536] S1024x256.size inb_S1024x5632_S1024x256_0_1536))⟩,
    ⟨(Rect.unit (s := S128x2816) ![0, 1280] S128x256.size inb_S128x2816_S128x256_0_1280), k0_pay6 (k0_pay3 x1 x2 x0 x5 x6) (View.ld x7 (Rect.unit (s := S1024x5632) ![0, 1280] S1024x256.size inb_S1024x5632_S1024x256_0_1280))⟩,
    ⟨(Rect.unit (s := S128x2816) ![0, 1024] S128x256.size inb_S128x2816_S128x256_0_1024), k0_pay6 (k0_pay3 x1 x2 x0 x5 x6) (View.ld x7 (Rect.unit (s := S1024x5632) ![0, 1024] S1024x256.size inb_S1024x5632_S1024x256_0_1024))⟩,
    ⟨(Rect.unit (s := S128x2816) ![0, 768] S128x256.size inb_S128x2816_S128x256_0_768), k0_pay6 (k0_pay3 x1 x2 x0 x5 x6) (View.ld x7 (Rect.unit (s := S1024x5632) ![0, 768] S1024x256.size inb_S1024x5632_S1024x256_0_768))⟩,
    ⟨(Rect.unit (s := S128x2816) ![0, 512] S128x256.size inb_S128x2816_S128x256_0_512), k0_pay6 (k0_pay3 x1 x2 x0 x5 x6) (View.ld x7 (Rect.unit (s := S1024x5632) ![0, 512] S1024x256.size inb_S1024x5632_S1024x256_0_512))⟩,
    ⟨(Rect.unit (s := S128x2816) ![0, 256] S128x256.size inb_S128x2816_S128x256_0_256), k0_pay6 (k0_pay3 x1 x2 x0 x5 x6) (View.ld x7 (Rect.unit (s := S1024x5632) ![0, 256] S1024x256.size inb_S1024x5632_S1024x256_0_256))⟩,
    ⟨(Rect.unit (s := S128x2816) ![0, 0] S128x256.size inb_S128x2816_S128x256_0_0), k0_pay6 (k0_pay3 x1 x2 x0 x5 x6) (View.ld x7 (Rect.unit (s := S1024x5632) ![0, 0] S1024x256.size inb_S1024x5632_S1024x256_0_0))⟩ ]

set_option maxHeartbeats 4000000 in
/-- The rows the point leaves. -/
theorem out_A (c : Dev nD) (i : grid0.Coords) (arg1 : Memref sig .tc .vmem S128x1024 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x2816 .f32) (harg4 : arg4.IsWhole) (arg5 : Memref sig .tc .vmem S128x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S128x1024 .f32) (harg13 : arg13.IsWhole) (arg14 : Memref sig .tc .vmem S128x2816 .f32) (harg14 : arg14.IsWhole) (arg15 : Memref sig .tc .vmem S8x2816 .f32) (harg15 : arg15.IsWhole) (arg16 : Memref sig .tc .vmem S128x1024 .f32) (harg16 : arg16.IsWhole) (arg17 : Memref sig .tc .vmem S128x1024 .bf16) (harg17 : arg17.IsWhole)
    (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (x11 : Vec F S1x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = k0_pay1 (acc11 x0 x1 x2 x3 x4 x5 x6 x7 x8 x9 x10) (k0_pay64 x11) (k0_pay65 (acc11 x0 x1 x2 x3 x4 x5 x6 x7 x8 x9 x10)) := by
  frame_out
  rfl

set_option maxHeartbeats 4000000 in
/-- The up projection's rows the point leaves. -/
theorem tail_A (c : Dev nD) (i : grid0.Coords) (arg1 : Memref sig .tc .vmem S128x1024 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x2816 .f32) (harg4 : arg4.IsWhole) (arg5 : Memref sig .tc .vmem S128x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S128x1024 .f32) (harg13 : arg13.IsWhole) (arg14 : Memref sig .tc .vmem S128x2816 .f32) (harg14 : arg14.IsWhole) (arg15 : Memref sig .tc .vmem S8x2816 .f32) (harg15 : arg15.IsWhole) (arg16 : Memref sig .tc .vmem S128x1024 .f32) (harg16 : arg16.IsWhole) (arg17 : Memref sig .tc .vmem S128x1024 .bf16) (harg17 : arg17.IsWhole)
    (x0 : Vec F S128x1024 .f32) (x1 : Vec F S128x512 .f32) (x2 : Vec F S128x512 .f32) (x3 : Vec F S128x2816 .f32) (x4 : Vec F S128x2816 .f32) (x5 : Vec F S1024x1024 .bf16) (x6 : Vec F S1x1024 .f32) (x7 : Vec F S1024x5632 .bf16) (x8 : Vec F S3x2816 .f32) (x9 : Vec F S1x2816 .f32) (x10 : Vec F S2816x1024 .bf16) (x11 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = View.canon (outP x0 x1 x2 x5 x6 x7) := by
  frame_out
  rfl

end Cert.Kernel5Ideal.Out

end
-- ==== Proof.SampOutTiles.lean ====
/- One tile of the samples' feed-forward part at an index, over the extended reals. -/
module

public import proofs.«01_k».proof.Proof.SampOutCases
public import proofs.«01_k».proof.Proof.FfnSpec

@[expose] public section
set_option maxRecDepth 16384

noncomputable section

namespace Cert.Kernel5Ideal.Out

open Idealize.ShloMosaic Idealize.ShloMosaic.Pointwise Idealize.ShloMosaic.TcCoe Cert.Kernel5Ideal Cert.Kernel5Ideal.Gen Cert.Ffn

/-- What the blocks of the point hold; the fourth and fifth hold the given state's rows at the first rows of each sequence. -/
structure Blk (a : Args 128) (S : Fin 32 → Fin 2 → Fin 2816 → EReal) (x0 : FVec Ideal S128x1024 .f32) (x1 x2 : FVec Ideal S128x512 .f32) (x3 x4 : FVec Ideal S128x2816 .f32)
    (x5 : FVec Ideal S1024x1024 .bf16) (x6 : FVec Ideal S1x1024 .f32) (x7 : FVec Ideal S1024x5632 .bf16) (x8 : FVec Ideal S3x2816 .f32) (x9 : FVec Ideal S1x2816 .f32)
    (x10 : FVec Ideal S2816x1024 .bf16) (x11 : FVec Ideal S1x1024 .f32) : Prop where
  b0 : ∀ r d, x0 (ix2 r d) = a.X r d
  b1 : ∀ r k, x1 (ix2 r k) = a.A r k
  b2 : ∀ r k, x2 (ix2 r k) = a.B r k
  b3 : ∀ (r : Fin 128) j, r.val % 4 < 1 → x3 (ix2 r j) = before a S 1 r j
  b4 : ∀ (r : Fin 128) j, r.val % 4 < 2 → x4 (ix2 r j) = before a S 2 r j
  b5 : ∀ k d, x5 (ix2 k d) = a.Wo k d
  b6 : ∀ d, x6 (ix2 0 d) = a.G d
  b7 : ∀ d j, x7 (ix2 d j) = a.Wu d j
  b8 : ∀ w j, x8 (ix2 w j) = a.C w j
  b9 : ∀ j, x9 (ix2 0 j) = a.Cb j
  b10 : ∀ j d, x10 (ix2 j d) = a.Wd j d
  b11 : ∀ d, x11 (ix2 0 d) = a.Gf d

/-- The test of the row before. -/
theorem ge1 : ∀ r : Fin 128, IntOp.cmpi .sge (IntOp.andi (BitVec.ofNat 32 r.val) 3#32) 1#32 = if r.val % 4 < 1 then 0#1 else 1#1 := by decide +kernel
/-- The test of two rows before. -/
theorem ge2 : ∀ r : Fin 128, IntOp.cmpi .sge (IntOp.andi (BitVec.ofNat 32 r.val) 3#32) 2#32 = if r.val % 4 < 2 then 0#1 else 1#1 := by decide +kernel

variable {a : Args 128} {S : Fin 32 → Fin 2 → Fin 2816 → EReal}

/-- The chosen row before. -/
theorem sel1 (u : Fin 128 → EReal) (q : EReal) (j : Fin 2816) (hu : ∀ r, u r = up a r ⟨j.val, by omega⟩) (r : Fin 128)
    (hq : r.val % 4 < 1 → q = before a S 1 r j) :
    Scalar.select (IntOp.cmpi .sge (IntOp.andi (BitVec.ofNat 32 r.val) 3#32) 1#32) (u ⟨(r.val + 128 - 1) % 128, Nat.mod_lt _ (by decide)⟩) q = before a S 1 r j := by
  rw [ge1]
  split
  · rename_i h
    exact Eq.trans (b := q) rfl (hq h)
  · refine Eq.trans (b := u ⟨(r.val + 128 - 1) % 128, Nat.mod_lt _ (by decide)⟩) rfl ?_
    rw [hu, before, if_pos (by omega)]
    congr 1
    exact Fin.ext (by simp only []; omega)

/-- The chosen row two before. -/
theorem sel2 (u : Fin 128 → EReal) (q : EReal) (j : Fin 2816) (hu : ∀ r, u r = up a r ⟨j.val, by omega⟩) (r : Fin 128)
    (hq : r.val % 4 < 2 → q = before a S 2 r j) :
    Scalar.select (IntOp.cmpi .sge (IntOp.andi (BitVec.ofNat 32 r.val) 3#32) 2#32) (u ⟨(r.val + 128 - 2) % 128, Nat.mod_lt _ (by decide)⟩) q = before a S 2 r j := by
  rw [ge2]
  split
  · rename_i h
    exact Eq.trans (b := q) rfl (hq h)
  · refine Eq.trans (b := u ⟨(r.val + 128 - 2) % 128, Nat.mod_lt _ (by decide)⟩) rfl ?_
    rw [hu, before, if_pos (by omega)]
    congr 1
    exact Fin.ext (by simp only []; omega)

section
variable {x0 : FVec Ideal S128x1024 .f32} {x1 x2 : FVec Ideal S128x512 .f32} {x3 x4 : FVec Ideal S128x2816 .f32} {x5 : FVec Ideal S1024x1024 .bf16}
  {x6 : FVec Ideal S1x1024 .f32} {x7 : FVec Ideal S1024x5632 .bf16} {x8 : FVec Ideal S3x2816 .f32} {x9 : FVec Ideal S1x2816 .f32}
  {x10 : FVec Ideal S2816x1024 .bf16} {x11 : FVec Ideal S1x1024 .f32}

/-- The residual rows. -/
theorem res_at (B : Blk a S x0 x1 x2 x3 x4 x5 x6 x7 x8 x9 x10 x11) (r : Fin 128) (d : Fin 1024) :
    (k0_pay2 (F := Ideal) x1 x2 x0 x5 (ix2 r d) : EReal) = res a r d := by
  pointwise [k0_pay2]
  simp only [B.b0, B.b1, B.b2, B.b5]
  rfl

/-- The rows the tiles start from. -/
theorem acc0_at (B : Blk a S x0 x1 x2 x3 x4 x5 x6 x7 x8 x9 x10 x11) (r : Fin 128) (d : Fin 1024) :
    (acc0 (F := Ideal) x0 x1 x2 x3 x4 x5 x6 x7 x8 x9 x10 (ix2 r d) : EReal) = res a r d := by
  pointwise [acc0, k0_pay4]
  exact res_at B r d

/-- The normalised rows. -/
theorem hid_at (B : Blk a S x0 x1 x2 x3 x4 x5 x6 x7 x8 x9 x10 x11) (r : Fin 128) (d : Fin 1024) :
    (k0_pay3 (F := Ideal) x1 x2 x0 x5 x6 (ix2 r d) : EReal) = hid a r d := by
  pointwise [k0_pay3]
  simp only [res_at B, B.b6]
  rfl

/-- The last normalisation. -/
theorem fin_at (B : Blk a S x0 x1 x2 x3 x4 x5 x6 x7 x8 x9 x10 x11) (z : FVec Ideal S128x1024 .f32) (hz : ∀ r d, z (ix2 r d) = outS a S r d)
    (r : Fin 128) (d : Fin 1024) : (k0_pay1 (F := Ideal) z (k0_pay64 (F := Ideal) x11) (k0_pay65 (F := Ideal) z) (ix2 r d) : EReal) = finS a S r d := by
  pointwise [k0_pay1, k0_pay64, k0_pay65]
  simp only [hz, B.b11]
  rfl

/-- A tile of the up projection. -/
theorem up_at (h : FVec Ideal S128x1024 .bf16) (wu : FVec Ideal S1024x256 .bf16) (n : ℕ) (hn : n + 256 ≤ 5632)
    (hh : ∀ r d, h (ix2 r d) = hid a r d) (hw : ∀ d (k : Fin 256), wu (ix2 d k) = a.Wu d ⟨n + k.val, by omega⟩) (r : Fin 128) (k : Fin 256) :
    (k0_pay6 (F := Ideal) h wu (ix2 r k) : EReal) = up a r ⟨n + k.val, by omega⟩ := by
  pointwise [k0_pay6]
  simp only [hh, hw]
  rfl

/-- One tile: its lanes' parts are added. -/
theorem tile_at (h : FVec Ideal S128x1024 .bf16) (wu wv : FVec Ideal S1024x256 .bf16) (p1 p2 : FVec Ideal S128x256 .f32) (b w0 w1 w2 : FVec Ideal S1x256 .f32)
    (x : FVec Ideal S128x1024 .f32) (wd : FVec Ideal S256x1024 .bf16) (n : ℕ) (hn : n + 256 ≤ 2816)
    (hh : ∀ r d, h (ix2 r d) = hid a r d)
    (hu : ∀ d (k : Fin 256), wu (ix2 d k) = a.Wu d ⟨n + k.val, by omega⟩)
    (hv : ∀ d (k : Fin 256), wv (ix2 d k) = a.Wu d ⟨2816 + n + k.val, by omega⟩)
    (hp1 : ∀ (r : Fin 128) (k : Fin 256), r.val % 4 < 1 → p1 (ix2 r k) = before a S 1 r ⟨n + k.val, by omega⟩)
    (hp2 : ∀ (r : Fin 128) (k : Fin 256), r.val % 4 < 2 → p2 (ix2 r k) = before a S 2 r ⟨n + k.val, by omega⟩)
    (hb : ∀ k : Fin 256, b (ix2 0 k) = a.Cb ⟨n + k.val, by omega⟩)
    (h0 : ∀ k : Fin 256, w0 (ix2 0 k) = a.C 0 ⟨n + k.val, by omega⟩)
    (h1 : ∀ k : Fin 256, w1 (ix2 0 k) = a.C 1 ⟨n + k.val, by omega⟩)
    (h2 : ∀ k : Fin 256, w2 (ix2 0 k) = a.C 2 ⟨n + k.val, by omega⟩)
    (hd : ∀ (k : Fin 256) d, wd (ix2 k d) = a.Wd ⟨n + k.val, by omega⟩ d) (r : Fin 128) (d : Fin 1024) :
    (tile (F := Ideal) h wu wv p1 p2 b w0 w1 w2 x wd (ix2 r d) : EReal) = x (ix2 r d) + ∑ k : Fin 256, partS a S r d (n + k.val) := by
  pointwise [tile, k0_pay10, k0_pay9, k0_pay8, k0_pay7, k0_pay5]
  refine congrArg (fun z : EReal => x (ix2 r d) + z) (Finset.sum_congr rfl fun k _ => ?_)
  have hU : ∀ r : Fin 128, (k0_pay6 (F := Ideal) h wu (ix2 r k) : EReal) = up a r ⟨n + k.val, by omega⟩ := fun r => up_at h wu n (by omega) hh hu r k
  have e2 := sel2 (a := a) (S := S) (fun r => k0_pay6 (F := Ideal) h wu (ix2 r k)) _ ⟨n + k.val, by omega⟩ hU r (hp2 r k)
  have e1 := sel1 (a := a) (S := S) (fun r => k0_pay6 (F := Ideal) h wu (ix2 r k)) _ ⟨n + k.val, by omega⟩ hU r (hp1 r k)
  rw [e1, e2, hU, hb, h0, h1, h2, hd, partS, dif_pos (by omega)]
  simp only [hh, hv]
  unfold gateS convS up
  simp only [Nat.add_assoc]

end

end Cert.Kernel5Ideal.Out

end
-- ==== Proof.SampOutSum.lean ====
/- The eleven tiles of the samples' feed-forward part one after another, and the up projection's rows, over the extended reals. -/
module

public import proofs.«01_k».proof.Proof.SampOutTiles

@[expose] public section
set_option maxRecDepth 16384

noncomputable section

namespace Cert.Kernel5Ideal.Out

open Idealize.ShloMosaic Idealize.ShloMosaic.Pointwise Idealize.ShloMosaic.TcCoe Cert.Kernel5Ideal Cert.Kernel5Ideal.Gen Cert.Ffn

variable {a : Args 128} {S : Fin 32 → Fin 2 → Fin 2816 → EReal}
variable {x0 : FVec Ideal S128x1024 .f32} {x1 x2 : FVec Ideal S128x512 .f32} {x3 x4 : FVec Ideal S128x2816 .f32} {x5 : FVec Ideal S1024x1024 .bf16}
  {x6 : FVec Ideal S1x1024 .f32} {x7 : FVec Ideal S1024x5632 .bf16} {x8 : FVec Ideal S3x2816 .f32} {x9 : FVec Ideal S1x2816 .f32}
  {x10 : FVec Ideal S2816x1024 .bf16} {x11 : FVec Ideal S1x1024 .f32}

/-- A load of lanes of the up projection. -/
theorem ld7 (x : FVec Ideal S1024x5632 .bf16) (o n : ℕ) (inb) (i : Fin 1024) (k : Fin 256) (i' : Fin 1024) (k' : Fin 5632) (hi : i'.val = o + i.val) (hk : k'.val = n + k.val) :
    (View.ld (x : Vec Ideal S1024x5632 .bf16) (Rect.unit (s := S1024x5632) ![o, n] S1024x256.size inb) : Vec Ideal S1024x256 .bf16) (ix2 i k) = x (ix2 i' k') := by
  refine congrArg x (funext fun a => Fin.ext ((Rect.idx_unit_val (s := S1024x5632) ![o, n] S1024x256.size inb (ix2 i k) a).trans ?_))
  fin_cases a
  · exact hi.symm
  · exact hk.symm

/-- A load of lanes of the given rows. -/
theorem ld3 (x : FVec Ideal S128x2816 .f32) (o n : ℕ) (inb) (i : Fin 128) (k : Fin 256) (i' : Fin 128) (k' : Fin 2816) (hi : i'.val = o + i.val) (hk : k'.val = n + k.val) :
    (View.ld (x : Vec Ideal S128x2816 .f32) (Rect.unit (s := S128x2816) ![o, n] S128x256.size inb) : Vec Ideal S128x256 .f32) (ix2 i k) = x (ix2 i' k') := by
  refine congrArg x (funext fun a => Fin.ext ((Rect.idx_unit_val (s := S128x2816) ![o, n] S128x256.size inb (ix2 i k) a).trans ?_))
  fin_cases a
  · exact hi.symm
  · exact hk.symm

/-- A load of lanes of the bias. -/
theorem ld9 (x : FVec Ideal S1x2816 .f32) (o n : ℕ) (inb) (i : Fin 1) (k : Fin 256) (i' : Fin 1) (k' : Fin 2816) (hi : i'.val = o + i.val) (hk : k'.val = n + k.val) :
    (View.ld (x : Vec Ideal S1x2816 .f32) (Rect.unit (s := S1x2816) ![o, n] S1x256.size inb) : Vec Ideal S1x256 .f32) (ix2 i k) = x (ix2 i' k') := by
  refine congrArg x (funext fun a => Fin.ext ((Rect.idx_unit_val (s := S1x2816) ![o, n] S1x256.size inb (ix2 i k) a).trans ?_))
  fin_cases a
  · exact hi.symm
  · exact hk.symm

/-- A load of lanes of a tap. -/
theorem ld8 (x : FVec Ideal S3x2816 .f32) (o n : ℕ) (inb) (i : Fin 1) (k : Fin 256) (i' : Fin 3) (k' : Fin 2816) (hi : i'.val = o + i.val) (hk : k'.val = n + k.val) :
    (View.ld (x : Vec Ideal S3x2816 .f32) (Rect.unit (s := S3x2816) ![o, n] S1x256.size inb) : Vec Ideal S1x256 .f32) (ix2 i k) = x (ix2 i' k') := by
  refine congrArg x (funext fun a => Fin.ext ((Rect.idx_unit_val (s := S3x2816) ![o, n] S1x256.size inb (ix2 i k) a).trans ?_))
  fin_cases a
  · exact hi.symm
  · exact hk.symm

/-- A load of rows of the down projection. -/
theorem ld10 (x : FVec Ideal S2816x1024 .bf16) (o n : ℕ) (inb) (i : Fin 256) (k : Fin 1024) (i' : Fin 2816) (k' : Fin 1024) (hi : i'.val = o + i.val) (hk : k'.val = n + k.val) :
    (View.ld (x : Vec Ideal S2816x1024 .bf16) (Rect.unit (s := S2816x1024) ![o, n] S256x1024.size inb) : Vec Ideal S256x1024 .bf16) (ix2 i k) = x (ix2 i' k') := by
  refine congrArg x (funext fun a => Fin.ext ((Rect.idx_unit_val (s := S2816x1024) ![o, n] S256x1024.size inb (ix2 i k) a).trans ?_))
  fin_cases a
  · exact hi.symm
  · exact hk.symm

/-- One tile more: the parts of the lanes below `n + 256` are added. -/
theorem step (B : Blk a S x0 x1 x2 x3 x4 x5 x6 x7 x8 x9 x10 x11) (n v n' : ℕ) (hn : n + 256 ≤ 2816) (hv : v = 2816 + n) (hn' : n' = n + 256)
    (z : FVec Ideal S128x1024 .f32)
    (hz : ∀ r d, (z (ix2 r d) : EReal) = res a r d + ∑ k ∈ Finset.range n, partS a S r d k) (i1 i2 i3 i3' i4 i5 i6 i7 i8) (r : Fin 128) (d : Fin 1024) :
    (tile (F := Ideal) (k0_pay3 (F := Ideal) x1 x2 x0 x5 x6) (View.ld (x7 : Vec Ideal S1024x5632 .bf16) (Rect.unit (s := S1024x5632) ![0, n] S1024x256.size i1))
      (View.ld (x7 : Vec Ideal S1024x5632 .bf16) (Rect.unit (s := S1024x5632) ![0, v] S1024x256.size i2))
      (View.ld (x3 : Vec Ideal S128x2816 .f32) (Rect.unit (s := S128x2816) ![0, n] S128x256.size i3))
      (View.ld (x4 : Vec Ideal S128x2816 .f32) (Rect.unit (s := S128x2816) ![0, n] S128x256.size i3'))
      (View.ld (x9 : Vec Ideal S1x2816 .f32) (Rect.unit (s := S1x2816) ![0, n] S1x256.size i4))
      (View.ld (x8 : Vec Ideal S3x2816 .f32) (Rect.unit (s := S3x2816) ![0, n] S1x256.size i5))
      (View.ld (x8 : Vec Ideal S3x2816 .f32) (Rect.unit (s := S3x2816) ![1, n] S1x256.size i6))
      (View.ld (x8 : Vec Ideal S3x2816 .f32) (Rect.unit (s := S3x2816) ![2, n] S1x256.size i7)) z
      (View.ld (x10 : Vec Ideal S2816x1024 .bf16) (Rect.unit (s := S2816x1024) ![n, 0] S256x1024.size i8)) (ix2 r d) : EReal)
      = res a r d + ∑ k ∈ Finset.range n', partS a S r d k := by
  refine (tile_at (a := a) (S := S) _ _ _ _ _ _ _ _ _ z _ n hn (hid_at B) ?_ ?_ ?_ ?_ ?_ ?_ ?_ ?_ ?_ r d).trans ?_
  · exact fun d k => (ld7 x7 0 n i1 d k d ⟨n + k.val, by omega⟩ (by omega) rfl).trans (B.b7 _ _)
  · exact fun d k => (ld7 x7 0 v i2 d k d ⟨2816 + n + k.val, by omega⟩ (by omega) (by simp only []; omega)).trans (B.b7 _ _)
  · exact fun s k h => (ld3 x3 0 n i3 s k s ⟨n + k.val, by omega⟩ (by omega) rfl).trans (B.b3 _ _ h)
  · exact fun s k h => (ld3 x4 0 n i3' s k s ⟨n + k.val, by omega⟩ (by omega) rfl).trans (B.b4 _ _ h)
  · exact fun k => (ld9 x9 0 n i4 0 k 0 ⟨n + k.val, by omega⟩ rfl rfl).trans (B.b9 _)
  · exact fun k => (ld8 x8 0 n i5 0 k 0 ⟨n + k.val, by omega⟩ rfl rfl).trans (B.b8 _ _)
  · exact fun k => (ld8 x8 1 n i6 0 k 1 ⟨n + k.val, by omega⟩ rfl rfl).trans (B.b8 _ _)
  · exact fun k => (ld8 x8 2 n i7 0 k 2 ⟨n + k.val, by omega⟩ rfl rfl).trans (B.b8 _ _)
  · exact fun k d => (ld10 x10 n 0 i8 k d ⟨n + k.val, by omega⟩ d rfl (by omega)).trans (B.b10 _ _)
  · refine (congrArg (fun w : EReal => w + ∑ k : Fin 256, partS a S r d (n + k.val)) (hz r d)).trans ?_
    exact acc_step _ _ n n' hn'

/-- The rows after 0 tiles. -/
theorem sum0 (B : Blk a S x0 x1 x2 x3 x4 x5 x6 x7 x8 x9 x10 x11) (r : Fin 128) (d : Fin 1024) :
    (acc0 (F := Ideal) x0 x1 x2 x3 x4 x5 x6 x7 x8 x9 x10 (ix2 r d) : EReal) = res a r d + ∑ k ∈ Finset.range 0, partS a S r d k := by
  rw [Finset.range_zero, Finset.sum_empty, add_zero]
  exact acc0_at B r d

/-- The rows after 1 tiles. -/
theorem sum1 (B : Blk a S x0 x1 x2 x3 x4 x5 x6 x7 x8 x9 x10 x11) (r : Fin 128) (d : Fin 1024) :
    (acc1 (F := Ideal) x0 x1 x2 x3 x4 x5 x6 x7 x8 x9 x10 (ix2 r d) : EReal) = res a r d + ∑ k ∈ Finset.range 256, partS a S r d k := by
  exact step B 0 2816 256 (by decide) rfl rfl _ (sum0 B) _ _ _ _ _ _ _ _ _ r d

/-- The rows after 2 tiles. -/
theorem sum2 (B : Blk a S x0 x1 x2 x3 x4 x5 x6 x7 x8 x9 x10 x11) (r : Fin 128) (d : Fin 1024) :
    (acc2 (F := Ideal) x0 x1 x2 x3 x4 x5 x6 x7 x8 x9 x10 (ix2 r d) : EReal) = res a r d + ∑ k ∈ Finset.range 512, partS a S r d k := by
  exact step B 256 3072 512 (by decide) rfl rfl _ (sum1 B) _ _ _ _ _ _ _ _ _ r d

/-- The rows after 3 tiles. -/
theorem sum3 (B : Blk a S x0 x1 x2 x3 x4 x5 x6 x7 x8 x9 x10 x11) (r : Fin 128) (d : Fin 1024) :
    (acc3 (F := Ideal) x0 x1 x2 x3 x4 x5 x6 x7 x8 x9 x10 (ix2 r d) : EReal) = res a r d + ∑ k ∈ Finset.range 768, partS a S r d k := by
  exact step B 512 3328 768 (by decide) rfl rfl _ (sum2 B) _ _ _ _ _ _ _ _ _ r d

/-- The rows after 4 tiles. -/
theorem sum4 (B : Blk a S x0 x1 x2 x3 x4 x5 x6 x7 x8 x9 x10 x11) (r : Fin 128) (d : Fin 1024) :
    (acc4 (F := Ideal) x0 x1 x2 x3 x4 x5 x6 x7 x8 x9 x10 (ix2 r d) : EReal) = res a r d + ∑ k ∈ Finset.range 1024, partS a S r d k := by
  exact step B 768 3584 1024 (by decide) rfl rfl _ (sum3 B) _ _ _ _ _ _ _ _ _ r d

/-- The rows after 5 tiles. -/
theorem sum5 (B : Blk a S x0 x1 x2 x3 x4 x5 x6 x7 x8 x9 x10 x11) (r : Fin 128) (d : Fin 1024) :
    (acc5 (F := Ideal) x0 x1 x2 x3 x4 x5 x6 x7 x8 x9 x10 (ix2 r d) : EReal) = res a r d + ∑ k ∈ Finset.range 1280, partS a S r d k := by
  exact step B 1024 3840 1280 (by decide) rfl rfl _ (sum4 B) _ _ _ _ _ _ _ _ _ r d

/-- The rows after 6 tiles. -/
theorem sum6 (B : Blk a S x0 x1 x2 x3 x4 x5 x6 x7 x8 x9 x10 x11) (r : Fin 128) (d : Fin 1024) :
    (acc6 (F := Ideal) x0 x1 x2 x3 x4 x5 x6 x7 x8 x9 x10 (ix2 r d) : EReal) = res a r d + ∑ k ∈ Finset.range 1536, partS a S r d k := by
  exact step B 1280 4096 1536 (by decide) rfl rfl _ (sum5 B) _ _ _ _ _ _ _ _ _ r d

/-- The rows after 7 tiles. -/
theorem sum7 (B : Blk a S x0 x1 x2 x3 x4 x5 x6 x7 x8 x9 x10 x11) (r : Fin 128) (d : Fin 1024) :
    (acc7 (F := Ideal) x0 x1 x2 x3 x4 x5 x6 x7 x8 x9 x10 (ix2 r d) : EReal) = res a r d + ∑ k ∈ Finset.range 1792, partS a S r d k := by
  exact step B 1536 4352 1792 (by decide) rfl rfl _ (sum6 B) _ _ _ _ _ _ _ _ _ r d

/-- The rows after 8 tiles. -/
theorem sum8 (B : Blk a S x0 x1 x2 x3 x4 x5 x6 x7 x8 x9 x10 x11) (r : Fin 128) (d : Fin 1024) :
    (acc8 (F := Ideal) x0 x1 x2 x3 x4 x5 x6 x7 x8 x9 x10 (ix2 r d) : EReal) = res a r d + ∑ k ∈ Finset.range 2048, partS a S r d k := by
  exact step B 1792 4608 2048 (by decide) rfl rfl _ (sum7 B) _ _ _ _ _ _ _ _ _ r d

/-- The rows after 9 tiles. -/
theorem sum9 (B : Blk a S x0 x1 x2 x3 x4 x5 x6 x7 x8 x9 x10 x11) (r : Fin 128) (d : Fin 1024) :
    (acc9 (F := Ideal) x0 x1 x2 x3 x4 x5 x6 x7 x8 x9 x10 (ix2 r d) : EReal) = res a r d + ∑ k ∈ Finset.range 2304, partS a S r d k := by
  exact step B 2048 4864 2304 (by decide) rfl rfl _ (sum8 B) _ _ _ _ _ _ _ _ _ r d

/-- The rows after 10 tiles. -/
theorem sum10 (B : Blk a S x0 x1 x2 x3 x4 x5 x6 x7 x8 x9 x10 x11) (r : Fin 128) (d : Fin 1024) :
    (acc10 (F := Ideal) x0 x1 x2 x3 x4 x5 x6 x7 x8 x9 x10 (ix2 r d) : EReal) = res a r d + ∑ k ∈ Finset.range 2560, partS a S r d k := by
  exact step B 2304 5120 2560 (by decide) rfl rfl _ (sum9 B) _ _ _ _ _ _ _ _ _ r d

/-- The rows after 11 tiles. -/
theorem sum11 (B : Blk a S x0 x1 x2 x3 x4 x5 x6 x7 x8 x9 x10 x11) (r : Fin 128) (d : Fin 1024) :
    (acc11 (F := Ideal) x0 x1 x2 x3 x4 x5 x6 x7 x8 x9 x10 (ix2 r d) : EReal) = res a r d + ∑ k ∈ Finset.range 2816, partS a S r d k := by
  exact step B 2560 5376 2816 (by decide) rfl rfl _ (sum10 B) _ _ _ _ _ _ _ _ _ r d

/-- The rows after all the tiles, normalised: the layer's rows. -/
theorem rows_at (B : Blk a S x0 x1 x2 x3 x4 x5 x6 x7 x8 x9 x10 x11) (r : Fin 128) (d : Fin 1024) :
    (k0_pay1 (F := Ideal) (acc11 (F := Ideal) x0 x1 x2 x3 x4 x5 x6 x7 x8 x9 x10) (k0_pay64 (F := Ideal) x11) (k0_pay65 (F := Ideal) (acc11 (F := Ideal) x0 x1 x2 x3 x4 x5 x6 x7 x8 x9 x10)) (ix2 r d) : EReal) = finS a S r d :=
  fin_at B _ (fun r d => (sum11 B r d).trans (outS_eq a S _ d)) r d

/-- The up projection's rows. -/
def upRows (a : Args 128) : Vec Ideal S128x2816 .f32 := fun y =>
  up a ⟨(y 0).val, (y 0).isLt⟩ ⟨(y 1).val, by have : (y 1).val < 2816 := (y 1).isLt; omega⟩

/-- One store of the up projection's rows. -/
theorem up_piece (B : Blk a S x0 x1 x2 x3 x4 x5 x6 x7 x8 x9 x10 x11) (n : ℕ) (hn : n + 256 ≤ 2816) (i1) (i2) (x : S128x256.Idx) :
    (k0_pay6 (F := Ideal) (k0_pay3 (F := Ideal) x1 x2 x0 x5 x6) (View.ld (x7 : Vec Ideal S1024x5632 .bf16) (Rect.unit (s := S1024x5632) ![0, n] S1024x256.size i1)) x : EReal)
      = upRows a ((Rect.unit (s := S128x2816) ![0, n] S128x256.size i2).emb x) := by
  have e : (Rect.unit (s := S128x2816) ![0, n] S128x256.size i2).emb x = ix2 (x 0) ⟨n + (x 1).val, by have : (x 1).val < 256 := (x 1).isLt; omega⟩ := by
    funext b
    apply Fin.ext
    refine (Rect.idx_unit_val ![0, n] _ i2 x b).trans ?_
    fin_cases b
    · show 0 + (x 0).val = (x 0).val
      omega
    · show n + (x 1).val = n + (x 1).val
      rfl
  rw [e]
  idx_vars x
  exact up_at (a := a) _ _ n (by omega) (hid_at B) (fun d k => (ld7 x7 0 n i1 d k d ⟨n + k.val, by omega⟩ (by omega) rfl).trans (B.b7 _ _)) _ _

/-- The eleven stores. -/
theorem outP_canon (B : Blk a S x0 x1 x2 x3 x4 x5 x6 x7 x8 x9 x10 x11) :
    View.canon (outP (F := Ideal) x0 x1 x2 x5 x6 x7) = upRows a := by
  funext y
  unfold outP
  refine View.canon_append_of_piecesOf (upRows a) [] [_, _, _, _, _, _, _, _, _, _, _] ⟨?_, ?_, ?_, ?_, ?_, ?_, ?_, ?_, ?_, ?_, ?_, trivial⟩ y (View.cover_of_tiledL (s := S128x2816) _ ![128, 256] (by sl_kernel_rfl) y)
  · exact up_piece B 2560 (by decide) _ inb_S128x2816_S128x256_0_2560
  · exact up_piece B 2304 (by decide) _ inb_S128x2816_S128x256_0_2304
  · exact up_piece B 2048 (by decide) _ inb_S128x2816_S128x256_0_2048
  · exact up_piece B 1792 (by decide) _ inb_S128x2816_S128x256_0_1792
  · exact up_piece B 1536 (by decide) _ inb_S128x2816_S128x256_0_1536
  · exact up_piece B 1280 (by decide) _ inb_S128x2816_S128x256_0_1280
  · exact up_piece B 1024 (by decide) _ inb_S128x2816_S128x256_0_1024
  · exact up_piece B 768 (by decide) _ inb_S128x2816_S128x256_0_768
  · exact up_piece B 512 (by decide) _ inb_S128x2816_S128x256_0_512
  · exact up_piece B 256 (by decide) _ inb_S128x2816_S128x256_0_256
  · exact up_piece B 0 (by decide) _ inb_S128x2816_S128x256_0_0

end Cert.Kernel5Ideal.Out

end
-- ==== Proof.SampOutValue.lean ====
/- The blocks of the samples' output projection and feed-forward part, and its two arrays at an index, over the extended reals. -/
module

public import proofs.«01_k».proof.Proof.SampOutSum
public import Idealize.ShloMosaic.Lib.StableHlo.ReadAt

@[expose] public section
set_option maxRecDepth 16384

noncomputable section

namespace Cert.Kernel5Ideal.Out

open Idealize.ShloMosaic Idealize.ShloMosaic.Pointwise Idealize.ShloMosaic.TcCoe Cert.Kernel5Ideal Cert.Kernel5Ideal.Gen Cert.Ffn

variable (m : (ℓ : Loc nD τ sig) → Buf (Elt Ideal) ℓ)

/-- The arguments' entries on a core; row `p` is row `p % 4` of sequence `p / 4`. -/
def args (c : Dev nD) : Args 128 where
  X p d := (m ((c : Thread nD τ).loc main_arg0) : FVec Ideal S32x4x1024 .f32) (ix3 ⟨p.val / 4, by omega⟩ ⟨p.val % 4, by omega⟩ d)
  A p k := (m ((c : Thread nD τ).loc main_arg1) : FVec Ideal S32x4x512 .f32) (ix3 ⟨p.val / 4, by omega⟩ ⟨p.val % 4, by omega⟩ k)
  B p k := (m ((c : Thread nD τ).loc main_arg2) : FVec Ideal S32x4x512 .f32) (ix3 ⟨p.val / 4, by omega⟩ ⟨p.val % 4, by omega⟩ k)
  Wo k d := (m ((c : Thread nD τ).loc main_arg4) : FVec Ideal S1x1024x1024 .f32) (ix3 0 k d)
  G d := (m ((c : Thread nD τ).loc main_arg5) : FVec Ideal S1x1024 .f32) (ix2 0 d)
  Wu d j := (m ((c : Thread nD τ).loc main_arg6) : FVec Ideal S1x1024x5632 .f32) (ix3 0 d j)
  C w j := (m ((c : Thread nD τ).loc main_arg7) : FVec Ideal S1x3x2816 .f32) (ix3 0 w j)
  Cb j := (m ((c : Thread nD τ).loc main_arg8) : FVec Ideal S1x2816 .f32) (ix2 0 j)
  Wd j d := (m ((c : Thread nD τ).loc main_arg9) : FVec Ideal S1x2816x1024 .f32) (ix3 0 j d)
  Gf d := (m ((c : Thread nD τ).loc main_arg10) : FVec Ideal S1024 .f32) (ix1 d)

/-- The given state's entries on a core. -/
def state (c : Dev nD) (b : Fin 32) (s : Fin 2) (j : Fin 2816) : EReal :=
  (m ((c : Thread nD τ).loc main_arg3) : FVec Ideal S1x32x2x2816 .f32) (ix4 0 b s j)

/-- The block numbers of the windows at the point. -/
theorem idx0 : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

set_option maxHeartbeats 1600000 in
/-- The activations at the point. -/
theorem blk0 (c : Dev nD) (t : Fin cfg0.N) (r : Fin 128) (l : Fin 1024) :
    iblk m c 0 t (ix2 r l) = (args m c).X r l := by
  have i0 := (idx0 t).1
  have e : ((cfg0.win 0).blk t).view.emb (ix2 r l) = (ix2 r l : S128x1024.Idx) := by
    blk_ext [i0]
  refine (congrArg (V m c (Pipeline.arrRef spec0 0)) e).trans ?_
  show V m c main_v11 _ = _
  dsimp only [V, args]
  simp only [hostOps0]
  after_reads_at

set_option maxHeartbeats 1600000 in
/-- The first half of the mixed rows at the point. -/
theorem blk1 (c : Dev nD) (t : Fin cfg0.N) (r : Fin 128) (l : Fin 512) :
    iblk m c 1 t (ix2 r l) = (args m c).A r l := by
  have i0 := (idx0 t).2.1
  have e : ((cfg0.win 1).blk t).view.emb (ix2 r l) = (ix2 r l : S128x512.Idx) := by
    blk_ext [i0]
  refine (congrArg (V m c (Pipeline.arrRef spec0 1)) e).trans ?_
  show V m c main_v20 _ = _
  dsimp only [V, args]
  simp only [hostOps0]
  after_reads_at

set_option maxHeartbeats 1600000 in
/-- The second half of the mixed rows at the point. -/
theorem blk2 (c : Dev nD) (t : Fin cfg0.N) (r : Fin 128) (l : Fin 512) :
    iblk m c 2 t (ix2 r l) = (args m c).B r l := by
  have i0 := (idx0 t).2.2.1
  have e : ((cfg0.win 2).blk t).view.emb (ix2 r l) = (ix2 r l : S128x512.Idx) := by
    blk_ext [i0]
  refine (congrArg (V m c (Pipeline.arrRef spec0 2)) e).trans ?_
  show V m c main_v21 _ = _
  dsimp only [V, args]
  simp only [hostOps0]
  after_reads_at

set_option maxHeartbeats 1600000 in
/-- The given state's last rows at the point. -/
theorem blk3 (c : Dev nD) (t : Fin cfg0.N) (r : Fin 128) (l : Fin 2816) (h : r.val % 4 < 1) :
    iblk m c 3 t (ix2 r l) = before (args m c) (state m c) 1 r l := by
  have i0 := (idx0 t).2.2.2.1
  have e : ((cfg0.win 3).blk t).view.emb (ix2 r l) = (ix2 r l : S128x2816.Idx) := by
    blk_ext [i0]
  refine (congrArg (V m c (Pipeline.arrRef spec0 3)) e).trans ?_
  show V m c main_v16 _ = _
  rw [before, if_neg (by omega)]
  dsimp only [V, state]
  simp only [hostOps0]
  after_reads_at
  rw [dif_pos h]
  after_reads_at
  exact congrArg (fun s : Fin 2 => (m ((c : Thread nD τ).loc main_arg3) : FVec Ideal S1x32x2x2816 .f32) (ix4 0 ⟨r.val / 4, by omega⟩ s l)) (Fin.ext (by simp only []; omega))

set_option maxHeartbeats 1600000 in
/-- The given state's rows at the point. -/
theorem blk4 (c : Dev nD) (t : Fin cfg0.N) (r : Fin 128) (l : Fin 2816) (h : r.val % 4 < 2) :
    iblk m c 4 t (ix2 r l) = before (args m c) (state m c) 2 r l := by
  have i0 := (idx0 t).2.2.2.2.1
  have e : ((cfg0.win 4).blk t).view.emb (ix2 r l) = (ix2 r l : S128x2816.Idx) := by
    blk_ext [i0]
  refine (congrArg (V m c (Pipeline.arrRef spec0 4)) e).trans ?_
  show V m c main_v19 _ = _
  rw [before, if_neg (by omega)]
  dsimp only [V, state]
  simp only [hostOps0]
  after_reads_at
  rw [dif_pos h]
  after_reads_at
  exact congrArg (fun s : Fin 2 => (m ((c : Thread nD τ).loc main_arg3) : FVec Ideal S1x32x2x2816 .f32) (ix4 0 ⟨r.val / 4, by omega⟩ s l)) (Fin.ext (by simp only []; omega))

set_option maxHeartbeats 1600000 in
/-- The output projection at the point. -/
theorem blk5 (c : Dev nD) (t : Fin cfg0.N) (r : Fin 1024) (l : Fin 1024) :
    iblk m c 5 t (ix2 r l) = (args m c).Wo r l := by
  have i0 := (idx0 t).2.2.2.2.2.1
  have e : ((cfg0.win 5).blk t).view.emb (ix2 r l) = (ix2 r l : S1024x1024.Idx) := by
    blk_ext [i0]
  refine (congrArg (V m c (Pipeline.arrRef spec0 5)) e).trans ?_
  show V m c main_v1 _ = _
  dsimp only [V, args]
  simp only [hostOps0]
  after_reads_at

set_option maxHeartbeats 1600000 in
/-- The gain at the point. -/
theorem blk6 (c : Dev nD) (t : Fin cfg0.N) (l : Fin 1024) :
    iblk m c 6 t (ix2 0 l) = (args m c).G l := by
  have i0 := (idx0 t).2.2.2.2.2.2.1
  have e : ((cfg0.win 6).blk t).view.emb (ix2 0 l) = (ix2 0 l : S1x1024.Idx) := by
    blk_ext [i0]
  refine (congrArg (V m c (Pipeline.arrRef spec0 6)) e).trans ?_
  show V m c main_v7 _ = _
  dsimp only [V, args]
  simp only [hostOps0]
  after_reads_at

set_option maxHeartbeats 1600000 in
/-- The up projection at the point. -/
theorem blk7 (c : Dev nD) (t : Fin cfg0.N) (r : Fin 1024) (l : Fin 5632) :
    iblk m c 7 t (ix2 r l) = (args m c).Wu r l := by
  have i0 := (idx0 t).2.2.2.2.2.2.2.1
  have e : ((cfg0.win 7).blk t).view.emb (ix2 r l) = (ix2 r l : S1024x5632.Idx) := by
    blk_ext [i0]
  refine (congrArg (V m c (Pipeline.arrRef spec0 7)) e).trans ?_
  show V m c main_v3 _ = _
  dsimp only [V, args]
  simp only [hostOps0]
  after_reads_at

set_option maxHeartbeats 1600000 in
/-- The taps at the point. -/
theorem blk8 (c : Dev nD) (t : Fin cfg0.N) (r : Fin 3) (l : Fin 2816) :
    iblk m c 8 t (ix2 r l) = (args m c).C r l := by
  have i0 := (idx0 t).2.2.2.2.2.2.2.2.1
  have e : ((cfg0.win 8).blk t).view.emb (ix2 r l) = (ix2 r l : S3x2816.Idx) := by
    blk_ext [i0]
  refine (congrArg (V m c (Pipeline.arrRef spec0 8)) e).trans ?_
  show V m c main_v22 _ = _
  dsimp only [V, args]
  simp only [hostOps0]
  after_reads_at

set_option maxHeartbeats 1600000 in
/-- The bias at the point. -/
theorem blk9 (c : Dev nD) (t : Fin cfg0.N) (l : Fin 2816) :
    iblk m c 9 t (ix2 0 l) = (args m c).Cb l := by
  have i0 := (idx0 t).2.2.2.2.2.2.2.2.2.1
  have e : ((cfg0.win 9).blk t).view.emb (ix2 0 l) = (ix2 0 l : S1x2816.Idx) := by
    blk_ext [i0]
  refine (congrArg (V m c (Pipeline.arrRef spec0 9)) e).trans ?_
  show V m c main_v10 _ = _
  dsimp only [V, args]
  simp only [hostOps0]
  after_reads_at

set_option maxHeartbeats 1600000 in
/-- The down projection at the point. -/
theorem blk10 (c : Dev nD) (t : Fin cfg0.N) (r : Fin 2816) (l : Fin 1024) :
    iblk m c 10 t (ix2 r l) = (args m c).Wd r l := by
  have i0 := (idx0 t).2.2.2.2.2.2.2.2.2.2.1
  have e : ((cfg0.win 10).blk t).view.emb (ix2 r l) = (ix2 r l : S2816x1024.Idx) := by
    blk_ext [i0]
  refine (congrArg (V m c (Pipeline.arrRef spec0 10)) e).trans ?_
  show V m c main_v5 _ = _
  dsimp only [V, args]
  simp only [hostOps0]
  after_reads_at

set_option maxHeartbeats 1600000 in
/-- The final gain at the point. -/
theorem blk11 (c : Dev nD) (t : Fin cfg0.N) (l : Fin 1024) :
    iblk m c 11 t (ix2 0 l) = (args m c).Gf l := by
  have i0 := (idx0 t).2.2.2.2.2.2.2.2.2.2.2.1
  have e : ((cfg0.win 11).blk t).view.emb (ix2 0 l) = (ix2 0 l : S1x1024.Idx) := by
    blk_ext [i0]
  refine (congrArg (V m c (Pipeline.arrRef spec0 11)) e).trans ?_
  show V m c main_v8 _ = _
  dsimp only [V, args]
  simp only [hostOps0]
  after_reads_at

/-- What the blocks of the point hold. -/
theorem blkAll (c : Dev nD) (t : Fin cfg0.N) : Blk (args m c) (state m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  b0 := blk0 m c t
  b1 := blk1 m c t
  b2 := blk2 m c t
  b3 := blk3 m c t
  b4 := blk4 m c t
  b5 := blk5 m c t
  b6 := blk6 m c t
  b7 := blk7 m c t
  b8 := blk8 m c t
  b9 := blk9 m c t
  b10 := blk10 m c t
  b11 := blk11 m c t

/-- The point writes its rows back. -/
theorem flush_all : ∀ t : Fin cfg0.N, (cfg0.win 12).flush t = true ∧ (cfg0.win 13).flush t = true :=
  (by decide +kernel : ∀ t : Fin grid0.N, win0_12.flush t = true ∧ win0_13.flush t = true)

/-- The one grid point. -/
def pt0 : Fin cfg0.N := ⟨0, lt_of_lt_of_eq (by decide) N_0.symm⟩

/-- The layer's rows. -/
theorem arr12 (c : Dev nD) (p : Fin 128) (d : Fin 1024) :
    ((dats m 0 c).arrAt 12 cfg0.N (ix2 p d) : EReal) = finS (args m c) (state m c) p d := by
  have h := congrFun ((Value.blocks12 m c pt0 (flush_all pt0).1).trans (Value.flushed12_A m c pt0)) (ix2 p d)
  rw [out_A] at h
  have i0 := (idx0 pt0).2.2.2.2.2.2.2.2.2.2.2.2.1
  have e : ((cfg0.win 12).blk pt0).view.emb (ix2 p d) = (ix2 p d : S128x1024.Idx) := by
    blk_ext [i0]
  exact ((congrArg ((dats m 0 c).arrAt 12 cfg0.N) e).symm.trans h).trans (rows_at (blkAll m c pt0) p d)

/-- The up projection's rows. -/
theorem arr13 (c : Dev nD) (p : Fin 128) (j : Fin 2816) :
    ((dats m 0 c).arrAt 13 cfg0.N (ix2 p j) : EReal) = up (args m c) p ⟨j.val, by omega⟩ := by
  have h := congrFun ((Value.blocks13 m c pt0 (flush_all pt0).2).trans (Value.flushed13_A m c pt0)) (ix2 p j)
  rw [tail_A, outP_canon (blkAll m c pt0)] at h
  have i0 := (idx0 pt0).2.2.2.2.2.2.2.2.2.2.2.2.2
  have e : ((cfg0.win 13).blk pt0).view.emb (ix2 p j) = (ix2 p j : S128x2816.Idx) := by
    blk_ext [i0]
  exact (congrArg ((dats m 0 c).arrAt 13 cfg0.N) e).symm.trans h

end Cert.Kernel5Ideal.Out

end
-- ==== Proof.SampOutRef.lean ====
/- The samples' reference's rows and the up projection's rows over the extended reals, at an index. -/
module

public import proofs.«01_k».proof.Proof.Gen.Reference5Ideal.Run
public import proofs.«01_k».proof.Proof.FfnSpec

@[expose] public section
set_option maxRecDepth 16384

noncomputable section

namespace Cert.Reference5Ideal.Out

open Idealize.ShloMosaic Idealize.ShloMosaic.StableHlo Idealize.ShloMosaic.Pointwise Idealize.ShloMosaic.TcCoe Cert.Reference5Ideal Cert.Reference5Ideal.Gen Cert.Reference5Ideal.Value Cert.Ffn

/-- The sample row that is row `t` of sequence `b`. -/
abbrev row (b : Fin 32) (t : Fin 4) : Fin 128 := ⟨4 * b.val + t.val, by omega⟩

/-- The residual rows. -/
def v4 (a0 : FVec Ideal S32x4x1024 .f32) (a1 : FVec Ideal S32x4x512 .f32) (a2 : FVec Ideal S32x4x512 .f32) (a4 : FVec Ideal S1x1024x1024 .f32) : FVec Ideal S32x4x1024 .f32 :=
  addf a0 (Host.dotGeneral dot_S32x4x1024_S1024x1024_S32x4x1024_2_0_01_1_n_n none (concatenate S32x4x1024 2 [⟨S32x4x512, a1⟩, ⟨S32x4x512, a2⟩] concatenates_S32x4x512_S32x4x512_S32x4x1024_d2) (shapeCast _ a4 shapeCasts_S1x1024x1024_S1024x1024))

/-- The normalised rows. -/
def v18 (a5 : FVec Ideal S1x1024 .f32) (v4 : FVec Ideal S32x4x1024 .f32) : FVec Ideal S32x4x1024 .f32 :=
  mulf (mulf v4 (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf v4 v4) (constant (F := Ideal) S_ .f32 0x00000000#32) reducesTo_S32x4x1024_S32x4_d2 h_S_)) (broadcastInDim S32x4x1 ![] bcast_S_S32x4x1 (constant (F := Ideal) S_ .f32 0x44800000#32))) (broadcastInDim S32x4x1 ![] bcast_S_S32x4x1 (constant (F := Ideal) S_ .f32 0x358637BD#32)))))) (broadcastInDim S32x4x1024 ![0, 1, 2] bcast_S1x1x1024_S32x4x1024_0_1_2 (broadcastInDim S1x1x1024 ![2] bcast_S1024_S1x1x1024_2 (shapeCast _ a5 shapeCasts_S1x1024_S1024)))

/-- The up projection. -/
def v20 (a6 : FVec Ideal S1x1024x5632 .f32) (v18 : FVec Ideal S32x4x1024 .f32) : FVec Ideal S32x4x5632 .f32 :=
  Host.dotGeneral dot_S32x4x1024_S1024x5632_S32x4x5632_2_0_01_1_n_n none v18 (shapeCast _ a6 shapeCasts_S1x1024x5632_S1024x5632)

/-- The up projection after two rows of the given state. -/
def v23 (a3 : FVec Ideal S1x32x2x2816 .f32) (v20 : FVec Ideal S32x4x5632 .f32) : FVec Ideal S32x6x2816 .f32 :=
  concatenate S32x6x2816 1 [⟨S32x2x2816, (shapeCast _ a3 shapeCasts_S1x32x2x2816_S32x2x2816)⟩, ⟨S32x4x2816, (extractStridedSlice S32x4x2816 ![0, 0, 0] v20 slices_S32x4x5632_S32x4x2816_0_0_0)⟩] concatenates_S32x2x2816_S32x4x2816_S32x6x2816_d1

/-- The convolution. -/
def v50 (a7 : FVec Ideal S1x3x2816 .f32) (a8 : FVec Ideal S1x2816 .f32) (v23 : FVec Ideal S32x6x2816 .f32) : FVec Ideal S32x4x2816 .f32 :=
  addf (addf (addf (broadcastInDim S32x4x2816 ![0, 1, 2] bcast_S1x1x2816_S32x4x2816_0_1_2 (broadcastInDim S1x1x2816 ![2] bcast_S2816_S1x1x2816_2 (shapeCast _ a8 shapeCasts_S1x2816_S2816))) (mulf (broadcastInDim S32x4x2816 ![0, 1, 2] bcast_S1x1x2816_S32x4x2816_0_1_2 (broadcastInDim S1x1x2816 ![2] bcast_S2816_S1x1x2816_2 (shapeCast _ (extractStridedSlice S1x2816 ![0, 0] (shapeCast _ a7 shapeCasts_S1x3x2816_S3x2816) slices_S3x2816_S1x2816_0_0) shapeCasts_S1x2816_S2816))) (extractStridedSlice S32x4x2816 ![0, 0, 0] v23 slices_S32x6x2816_S32x4x2816_0_0_0))) (mulf (broadcastInDim S32x4x2816 ![0, 1, 2] bcast_S1x1x2816_S32x4x2816_0_1_2 (broadcastInDim S1x1x2816 ![2] bcast_S2816_S1x1x2816_2 (shapeCast _ (extractStridedSlice S1x2816 ![1, 0] (shapeCast _ a7 shapeCasts_S1x3x2816_S3x2816) slices_S3x2816_S1x2816_1_0) shapeCasts_S1x2816_S2816))) (extractStridedSlice S32x4x2816 ![0, 1, 0] v23 slices_S32x6x2816_S32x4x2816_0_1_0))) (mulf (broadcastInDim S32x4x2816 ![0, 1, 2] bcast_S1x1x2816_S32x4x2816_0_1_2 (broadcastInDim S1x1x2816 ![2] bcast_S2816_S1x1x2816_2 (shapeCast _ (extractStridedSlice S1x2816 ![2, 0] (shapeCast _ a7 shapeCasts_S1x3x2816_S3x2816) slices_S3x2816_S1x2816_2_0) shapeCasts_S1x2816_S2816))) (extractStridedSlice S32x4x2816 ![0, 2, 0] v23 slices_S32x6x2816_S32x4x2816_0_2_0))

/-- The gated lanes. -/
def v52 (v20 : FVec Ideal S32x4x5632 .f32) (v50 : FVec Ideal S32x4x2816 .f32) : FVec Ideal S32x4x2816 .f32 :=
  mulf (mulf v50 (Host.divf (broadcastInDim S32x4x2816 ![] bcast_S_S32x4x2816 (constant (F := Ideal) S_ .f32 0x3F800000#32)) (addf (broadcastInDim S32x4x2816 ![] bcast_S_S32x4x2816 (constant (F := Ideal) S_ .f32 0x3F800000#32)) (Host.exp (Host.negf v50))))) (extractStridedSlice S32x4x2816 ![0, 0, 2816] v20 slices_S32x4x5632_S32x4x2816_0_0_2816)

/-- The rows after the down projection. -/
def v55 (a9 : FVec Ideal S1x2816x1024 .f32) (v4 : FVec Ideal S32x4x1024 .f32) (v52 : FVec Ideal S32x4x2816 .f32) : FVec Ideal S32x4x1024 .f32 :=
  addf v4 (Host.dotGeneral dot_S32x4x2816_S2816x1024_S32x4x1024_2_0_01_1_n_n none v52 (shapeCast _ a9 shapeCasts_S1x2816x1024_S2816x1024))

/-- The layer's rows. -/
def v69 (a10 : FVec Ideal S1024 .f32) (v55 : FVec Ideal S32x4x1024 .f32) : FVec Ideal S128x1024 .f32 :=
  shapeCast _ (mulf (mulf v55 (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf v55 v55) (constant (F := Ideal) S_ .f32 0x00000000#32) reducesTo_S32x4x1024_S32x4_d2 h_S_)) (broadcastInDim S32x4x1 ![] bcast_S_S32x4x1 (constant (F := Ideal) S_ .f32 0x44800000#32))) (broadcastInDim S32x4x1 ![] bcast_S_S32x4x1 (constant (F := Ideal) S_ .f32 0x358637BD#32)))))) (broadcastInDim S32x4x1024 ![0, 1, 2] bcast_S1x1x1024_S32x4x1024_0_1_2 (broadcastInDim S1x1x1024 ![2] bcast_S1024_S1x1x1024_2 a10))) shapeCasts_S32x4x1024_S128x1024

/-- The arguments' entries. -/
def mk (a0 : FVec Ideal S32x4x1024 .f32) (a1 : FVec Ideal S32x4x512 .f32) (a2 : FVec Ideal S32x4x512 .f32) (a4 : FVec Ideal S1x1024x1024 .f32) (a5 : FVec Ideal S1x1024 .f32) (a6 : FVec Ideal S1x1024x5632 .f32) (a7 : FVec Ideal S1x3x2816 .f32) (a8 : FVec Ideal S1x2816 .f32) (a9 : FVec Ideal S1x2816x1024 .f32) (a10 : FVec Ideal S1024 .f32) : Args 128 where
  X p d := a0 (ix3 ⟨p.val / 4, by omega⟩ ⟨p.val % 4, by omega⟩ d)
  A p k := a1 (ix3 ⟨p.val / 4, by omega⟩ ⟨p.val % 4, by omega⟩ k)
  B p k := a2 (ix3 ⟨p.val / 4, by omega⟩ ⟨p.val % 4, by omega⟩ k)
  Wo k d := a4 (ix3 0 k d)
  G d := a5 (ix2 0 d)
  Wu d j := a6 (ix3 0 d j)
  C w j := a7 (ix3 0 w j)
  Cb j := a8 (ix2 0 j)
  Wd j d := a9 (ix3 0 j d)
  Gf d := a10 (ix1 d)

/-- The given state's entries. -/
def st (a3 : FVec Ideal S1x32x2x2816 .f32) (b : Fin 32) (s : Fin 2) (j : Fin 2816) : EReal := a3 (ix4 0 b s j)

/-- A sample's row is a row of its sequence. -/
theorem at_row {n : ℕ} (f : Fin 32 → Fin 4 → Fin n → EReal) (b : Fin 32) (t : Fin 4) (k : Fin n) :
    f b t k = f ⟨(row b t).val / 4, by omega⟩ ⟨(row b t).val % 4, by omega⟩ k := by
  have hb : (⟨(row b t).val / 4, by omega⟩ : Fin 32) = b := Fin.ext (by simp only [row]; omega)
  have ht : (⟨(row b t).val % 4, by omega⟩ : Fin 4) = t := Fin.ext (by simp only [row]; omega)
  rw [hb, ht]

section
variable (a : Args 128) (S : Fin 32 → Fin 2 → Fin 2816 → EReal)

/-- The residual rows at an index. -/
theorem v4_at (a0 : FVec Ideal S32x4x1024 .f32) (a1 : FVec Ideal S32x4x512 .f32) (a2 : FVec Ideal S32x4x512 .f32) (a4 : FVec Ideal S1x1024x1024 .f32) (hX : ∀ b t d, a0 (ix3 b t d) = a.X (row b t) d) (hA : ∀ b t k, a1 (ix3 b t k) = a.A (row b t) k) (hB : ∀ b t k, a2 (ix3 b t k) = a.B (row b t) k)
    (hW : ∀ k d, a4 (ix3 0 k d) = a.Wo k d) (b : Fin 32) (t : Fin 4) (d : Fin 1024) : (v4 a0 a1 a2 a4 (ix3 b t d) : EReal) = res a (row b t) d := by
  pointwise [v4]
  simp only [hX, hA, hB, hW]
  rfl

/-- The normalised rows at an index. -/
theorem v18_at (a5 : FVec Ideal S1x1024 .f32) (v4 : FVec Ideal S32x4x1024 .f32) (hv : ∀ b t d, v4 (ix3 b t d) = res a (row b t) d) (hG : ∀ d, a5 (ix2 0 d) = a.G d) (b : Fin 32) (t : Fin 4) (d : Fin 1024) :
    (v18 a5 v4 (ix3 b t d) : EReal) = hid a (row b t) d := by
  pointwise [v18]
  simp only [hv, hG]
  rfl

/-- The up projection at an index. -/
theorem v20_at (a6 : FVec Ideal S1x1024x5632 .f32) (v18 : FVec Ideal S32x4x1024 .f32) (hv : ∀ b t d, v18 (ix3 b t d) = hid a (row b t) d) (hW : ∀ d j, a6 (ix3 0 d j) = a.Wu d j) (b : Fin 32) (t : Fin 4) (j : Fin 5632) :
    (v20 a6 v18 (ix3 b t j) : EReal) = up a (row b t) j := by
  pointwise [v20]
  simp only [hv, hW]
  rfl

/-- The up projection `w` rows on, after the two rows of the state: that of the row `n` before. -/
theorem v23_at (a3 : FVec Ideal S1x32x2x2816 .f32) (v20 : FVec Ideal S32x4x5632 .f32) (hv : ∀ b t j, v20 (ix3 b t j) = up a (row b t) j) (hS : ∀ b s j, a3 (ix4 0 b s j) = S b s j) (w n : ℕ) (hw : w + n = 2) (b : Fin 32) (t : Fin 4) (q : Fin 6) (hq : q.val = w + t.val) (k : Fin 2816) :
    (v23 a3 v20 (ix3 b q k) : EReal) = before a S n (row b t) k := by
  pointwise [v23]
  by_cases h : q.val < 2
  · rw [dif_pos h, before, if_neg (by simp only [row]; omega), hS]
    congr 1
    · exact Fin.ext (by simp only [row]; omega)
    · exact Fin.ext (by simp only [row]; omega)
  · have hn : n ≤ (row b t).val % 4 := by simp only [row]; omega
    rw [dif_neg h]
    refine (hv _ _ _).trans (Eq.trans ?_ (if_pos hn).symm)
    congr 1
    exact Fin.ext (by simp only [row]; omega)

/-- No row back is the row itself. -/
theorem before_zero (p : Fin 128) (k : Fin 2816) : before a S 0 p k = up a p ⟨k.val, by omega⟩ := by
  rw [before, if_pos (Nat.zero_le _)]
  rfl

/-- The convolution at an index. -/
theorem v50_at (a7 : FVec Ideal S1x3x2816 .f32) (a8 : FVec Ideal S1x2816 .f32) (v23 : FVec Ideal S32x6x2816 .f32) (hv : ∀ (w n : ℕ) (hw : w + n = 2) (b : Fin 32) (t : Fin 4) (q : Fin 6) (hq : q.val = w + t.val) (k : Fin 2816), v23 (ix3 b q k) = before a S n (row b t) k)
    (hC : ∀ w k, a7 (ix3 0 w k) = a.C w k) (hb : ∀ k, a8 (ix2 0 k) = a.Cb k) (b : Fin 32) (t : Fin 4) (k : Fin 2816) :
    (v50 a7 a8 v23 (ix3 b t k) : EReal) = convS a S (row b t) k := by
  pointwise [v50]
  rw [hv 0 2 rfl b t ⟨t.val, by omega⟩ (by simp only []; omega), hv 1 1 rfl b t ⟨1 + t.val, by omega⟩ rfl, hv 2 0 rfl b t ⟨2 + t.val, by omega⟩ rfl, hb, hC, hC, hC, before_zero]
  rfl

/-- The gated lanes at an index. -/
theorem v52_at (v20 : FVec Ideal S32x4x5632 .f32) (v50 : FVec Ideal S32x4x2816 .f32) (hv : ∀ b t k, v50 (ix3 b t k) = convS a S (row b t) k) (hu : ∀ b t j, v20 (ix3 b t j) = up a (row b t) j) (b : Fin 32) (t : Fin 4) (k : Fin 2816) :
    (v52 v20 v50 (ix3 b t k) : EReal) = gateS a S (row b t) k := by
  pointwise [v52]
  rw [hv, hu]
  rfl

/-- The rows after the down projection at an index. -/
theorem v55_at (a9 : FVec Ideal S1x2816x1024 .f32) (v4 : FVec Ideal S32x4x1024 .f32) (v52 : FVec Ideal S32x4x2816 .f32) (hv : ∀ b t d, v4 (ix3 b t d) = res a (row b t) d) (hg : ∀ b t k, v52 (ix3 b t k) = gateS a S (row b t) k) (hW : ∀ k d, a9 (ix3 0 k d) = a.Wd k d) (b : Fin 32) (t : Fin 4) (d : Fin 1024) :
    (v55 a9 v4 v52 (ix3 b t d) : EReal) = outS a S (row b t) d := by
  pointwise [v55]
  simp only [hv, hg, hW]
  rfl

/-- A row's number from its sequence and its place there. -/
theorem row_div (p : Fin 128) : row ⟨p.val / 4, by omega⟩ ⟨p.val % 4, by omega⟩ = p := Fin.ext (by simp only [row]; omega)

/-- The layer's rows at an index. -/
theorem v69_at (a10 : FVec Ideal S1024 .f32) (v55 : FVec Ideal S32x4x1024 .f32) (hv : ∀ b t d, v55 (ix3 b t d) = outS a S (row b t) d) (hG : ∀ d, a10 (ix1 d) = a.Gf d) (p : Fin 128) (d : Fin 1024) :
    (v69 a10 v55 (ix2 p d) : EReal) = finS a S p d := by
  pointwise [v69]
  simp only [hv, hG, row_div]
  rfl

end

section
variable (a3 : FVec Ideal S1x32x2x2816 .f32) (a0 : FVec Ideal S32x4x1024 .f32) (a1 : FVec Ideal S32x4x512 .f32) (a2 : FVec Ideal S32x4x512 .f32) (a4 : FVec Ideal S1x1024x1024 .f32) (a5 : FVec Ideal S1x1024 .f32) (a6 : FVec Ideal S1x1024x5632 .f32) (a7 : FVec Ideal S1x3x2816 .f32) (a8 : FVec Ideal S1x2816 .f32) (a9 : FVec Ideal S1x2816x1024 .f32) (a10 : FVec Ideal S1024 .f32)

/-- The up projection of the arguments. -/
theorem up_mk (b : Fin 32) (t : Fin 4) (j : Fin 5632) : ((v20 a6 (v18 a5 (v4 a0 a1 a2 a4))) (ix3 b t j) : EReal) = up (mk a0 a1 a2 a4 a5 a6 a7 a8 a9 a10) (row b t) j :=
  v20_at (mk a0 a1 a2 a4 a5 a6 a7 a8 a9 a10) _ _ (v18_at (mk a0 a1 a2 a4 a5 a6 a7 a8 a9 a10) _ _ (v4_at (mk a0 a1 a2 a4 a5 a6 a7 a8 a9 a10) _ _ _ _ (at_row (fun b t d => a0 (ix3 b t d))) (at_row (fun b t d => a1 (ix3 b t d))) (at_row (fun b t d => a2 (ix3 b t d))) (fun _ _ => rfl)) (fun _ => rfl)) (fun _ _ => rfl) b t j

/-- The rows of the arguments. -/
theorem fin_mk (p : Fin 128) (d : Fin 1024) : ((v69 a10 (v55 a9 (v4 a0 a1 a2 a4) (v52 (v20 a6 (v18 a5 (v4 a0 a1 a2 a4))) (v50 a7 a8 (v23 a3 (v20 a6 (v18 a5 (v4 a0 a1 a2 a4)))))))) (ix2 p d) : EReal) = finS (mk a0 a1 a2 a4 a5 a6 a7 a8 a9 a10) (st a3) p d := by
  have h4 := v4_at (mk a0 a1 a2 a4 a5 a6 a7 a8 a9 a10) a0 a1 a2 a4 (at_row (fun b t d => a0 (ix3 b t d))) (at_row (fun b t d => a1 (ix3 b t d))) (at_row (fun b t d => a2 (ix3 b t d))) (fun _ _ => rfl)
  have h20 := up_mk a0 a1 a2 a4 a5 a6 a7 a8 a9 a10
  exact v69_at (mk a0 a1 a2 a4 a5 a6 a7 a8 a9 a10) (st a3) _ _ (v55_at (mk a0 a1 a2 a4 a5 a6 a7 a8 a9 a10) (st a3) _ _ _ h4 (v52_at (mk a0 a1 a2 a4 a5 a6 a7 a8 a9 a10) (st a3) _ _ (v50_at (mk a0 a1 a2 a4 a5 a6 a7 a8 a9 a10) (st a3) _ _ _ (v23_at (mk a0 a1 a2 a4 a5 a6 a7 a8 a9 a10) (st a3) _ _ h20 (fun _ _ _ => rfl)) (fun _ _ => rfl) (fun _ => rfl)) h20) (fun _ _ => rfl)) (fun _ => rfl) p d

/-- The convolution's input after its two state rows. -/
def v71 (a3 : FVec Ideal S1x32x2x2816 .f32) (v20 : FVec Ideal S32x4x5632 .f32) : FVec Ideal S128x2816 .f32 :=
  shapeCast _ (extractStridedSlice S32x4x2816 ![0, 2, 0] (v23 a3 v20) slices_S32x6x2816_S32x4x2816_0_2_0) shapeCasts_S32x4x2816_S128x2816

/-- The up projection's rows of the arguments. -/
theorem tail_mk (p : Fin 128) (k : Fin 2816) : (v71 a3 (v20 a6 (v18 a5 (v4 a0 a1 a2 a4))) (ix2 p k) : EReal) = up (mk a0 a1 a2 a4 a5 a6 a7 a8 a9 a10) p ⟨k.val, by omega⟩ := by
  pointwise [v71]
  refine (v23_at (mk a0 a1 a2 a4 a5 a6 a7 a8 a9 a10) (st a3) _ _ (up_mk a0 a1 a2 a4 a5 a6 a7 a8 a9 a10) (fun _ _ _ => rfl) 2 0 rfl ⟨p.val / 4, by omega⟩ ⟨p.val % 4, by omega⟩ _ rfl k).trans ?_
  rw [row_div]
  exact before_zero (mk a0 a1 a2 a4 a5 a6 a7 a8 a9 a10) (st a3) p k

end

variable (m : (ℓ : Loc nD τ sig) → Buf (Elt Ideal) ℓ)

/-- The reference's first result is the last of these. -/
theorem res_eq (c : Dev nD) : res_main_v69 m c = (v69 (m ((c.tc : Thread nD τ).loc main_arg10)) (v55 (m ((c.tc : Thread nD τ).loc main_arg9)) (v4 (m ((c.tc : Thread nD τ).loc main_arg0)) (m ((c.tc : Thread nD τ).loc main_arg1)) (m ((c.tc : Thread nD τ).loc main_arg2)) (m ((c.tc : Thread nD τ).loc main_arg4))) (v52 (v20 (m ((c.tc : Thread nD τ).loc main_arg6)) (v18 (m ((c.tc : Thread nD τ).loc main_arg5)) (v4 (m ((c.tc : Thread nD τ).loc main_arg0)) (m ((c.tc : Thread nD τ).loc main_arg1)) (m ((c.tc : Thread nD τ).loc main_arg2)) (m ((c.tc : Thread nD τ).loc main_arg4))))) (v50 (m ((c.tc : Thread nD τ).loc main_arg7)) (m ((c.tc : Thread nD τ).loc main_arg8)) (v23 (m ((c.tc : Thread nD τ).loc main_arg3)) (v20 (m ((c.tc : Thread nD τ).loc main_arg6)) (v18 (m ((c.tc : Thread nD τ).loc main_arg5)) (v4 (m ((c.tc : Thread nD τ).loc main_arg0)) (m ((c.tc : Thread nD τ).loc main_arg1)) (m ((c.tc : Thread nD τ).loc main_arg2)) (m ((c.tc : Thread nD τ).loc main_arg4)))))))))) := rfl

/-- The arguments' entries on a core. -/
def args (c : Dev nD) : Args 128 := mk (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The reference's first result at an index. -/
theorem ref_fin (c : Dev nD) (p : Fin 128) (d : Fin 1024) : (res_main_v69 m c (ix2 p d) : EReal) = finS (args m c) (st (m ((c.tc : Thread nD τ).loc main_arg3))) p d :=
  (congrFun (res_eq m c) (ix2 p d)).trans (fin_mk _ _ _ _ _ _ _ _ _ _ _ p d)

end Cert.Reference5Ideal.Out

end
-- ==== Proof.SampFeedForward.lean ====
/- The output projection and feed-forward part of the samples: the kernel's run and the reference's end with the same two arrays,
   over the extended reals. -/
module

public import proofs.«01_k».proof.Defs
public import proofs.«01_k».proof.Proof.SampOutValue
public import proofs.«01_k».proof.Proof.SampOutRef

@[expose] public section
set_option maxRecDepth 16384

noncomputable section

namespace Cert.Proof

open Idealize.ShloMosaic Idealize.ShloMosaic.StableHlo Idealize.ShloMosaic.Pointwise Idealize.SL.Sem

/-- The reference's frame. -/
theorem frame_r5 : Cert.quiescent_Reference5Ideal := fun m ρ _ =>
  (θ_run (Cert.Reference5Ideal.defs (F := Ideal)) _ _).mono (fun r h => ⟨fun c => (h c).2.2, sem_eq_zero_of_no_sems (by decide) r.2⟩)
    (Cert.Reference5Ideal.Value.run (F := Ideal) m ρ)

set_option maxHeartbeats 4000000 in
/-- The kernel and the reference end with equal arrays. -/
theorem sampleFeedforward : Cert.algebraic_Kernel5Ideal_Reference5Ideal := by
  intro m g m' g' _ ha
  refine ⟨fun c => (Cert.Kernel5Ideal.Gen.dats m 0 c).arrAt 12 Cert.Kernel5Ideal.cfg0.N, fun c => (Cert.Kernel5Ideal.Gen.dats m 0 c).arrAt 13 Cert.Kernel5Ideal.cfg0.N,
    Cert.Kernel5Ideal.Value.run_blocks m g, ?_⟩
  refine (θ_run (Cert.Reference5Ideal.defs (F := Ideal)) _ _).mono (fun r h c => ?_) (Cert.Reference5Ideal.Value.run (F := Ideal) m' g')
  obtain ⟨h0, h1, hf⟩ := h c
  obtain ⟨a0, a1, a2, a3, a4, a5, a6, a7, a8, a9, a10⟩ := ha c
  have ea : Cert.Reference5Ideal.Out.args m' c = Cert.Kernel5Ideal.Out.args m c := by
    unfold Cert.Reference5Ideal.Out.args
    rw [a0, a1, a2, a4, a5, a6, a7, a8, a9, a10]
    rfl
  have es : Cert.Reference5Ideal.Out.st (m' ((c.tc : Thread Cert.Reference5Ideal.nD Cert.Reference5Ideal.τ).loc Cert.Reference5Ideal.main_arg3)) = Cert.Kernel5Ideal.Out.state m c := by
    rw [a3]
    rfl
  refine ⟨h0.trans ?_, h1.trans ?_, hf⟩
  · funext i
    change Cert.Reference5Ideal.S128x1024.Idx at i
    idx_vars i
    refine (Cert.Reference5Ideal.Out.ref_fin m' c _ _).trans ?_
    rw [ea, es]
    exact (Cert.Kernel5Ideal.Out.arr12 m c _ _).symm
  · refine Eq.trans (b := Cert.Reference5Ideal.Out.v71 (m' ((c.tc : Thread Cert.Reference5Ideal.nD Cert.Reference5Ideal.τ).loc Cert.Reference5Ideal.main_arg3)) (Cert.Reference5Ideal.Out.v20 (m' ((c.tc : Thread Cert.Reference5Ideal.nD Cert.Reference5Ideal.τ).loc Cert.Reference5Ideal.main_arg6)) (Cert.Reference5Ideal.Out.v18 (m' ((c.tc : Thread Cert.Reference5Ideal.nD Cert.Reference5Ideal.τ).loc Cert.Reference5Ideal.main_arg5)) (Cert.Reference5Ideal.Out.v4 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg4)))))) rfl ?_
    funext i
    change Cert.Reference5Ideal.S128x2816.Idx at i
    idx_vars i
    refine (Cert.Reference5Ideal.Out.tail_mk (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) _ _).trans ?_
    refine (congrArg (fun a => Cert.Ffn.up a _ _) ea).trans ?_
    exact (Cert.Kernel5Ideal.Out.arr13 m c _ _).symm

end Cert.Proof
-- ==== Proof.SampRecHead.lean ====
/- One head of one sample's rows, as a function on vectors: the cumulative decay, the eight shifts, the read of the state, the
   normalisation and gate, and the next state. The kernel repeats it for its four heads. -/
module

public import Idealize.ShloMosaic.Lib.Pointwise
public import Idealize.ShloMosaic.Lib.Pipeline.ValueKit
public import Idealize.ShloMosaic.Lib.Pipeline.ReadBack
public import proofs.«01_k».proof.Proof.Gen.Kernel6Ideal.Value

@[expose] public section
set_option maxRecDepth 16384

noncomputable section

namespace Cert.Kernel6Ideal.Head

open Idealize.ShloMosaic Cert.Kernel6Ideal Cert.Kernel6Ideal.Gen

variable {F : FTy → Type} [FloatOps F]

/-- The row number of each element. -/
def row : IVec S8x128 32 := iota .tc S8x128 32 [0] iota_S8x128_d0_w32

/-- The row number within the eight rows. -/
def sub : IVec S8x128 32 := andi row (broadcast S8x128 7#32)

/-- Zeros. -/
def zero : FVec F S8x128 .f32 := broadcast S8x128 (Scalar.ofBits .f32 0x00000000#32)

/-- The rows moved down by `d`, cyclically. -/
def rot (d : BitVec 32) (x : FVec F S8x128 .f32) : FVec F S8x128 .f32 := dynamicRotate 0 d none x rotates_S8x128_d0

/-- Rows plus themselves moved down by `d` rows, zeros moving in. -/
def shAdd (d : BitVec 32) (x : FVec F S8x128 .f32) : FVec F S8x128 .f32 :=
  addf x (select (cmpi .sge row (broadcast S8x128 d)) (rot d x) zero)

/-- The cumulative sum down the rows, in three doublings. -/
def cum (x : FVec F S8x128 .f32) : FVec F S8x128 .f32 := shAdd 4#32 (shAdd 2#32 (shAdd 1#32 x))

/-- The contribution of the keys `d` rows above, given the shifted cumulative decay, keys and values. -/
def diagOf (d : BitVec 32) (q b bs ks vs : FVec F S8x128 .f32) : FVec F S8x128 .f32 :=
  select (cmpi .sge sub (broadcast S8x128 d))
    (mulf (broadcastTo S8x128 (shapeCast S8x1 (multiReduction .add [1] S8
      (mulf (mulf q ks) (exp (select (cmpi .sge sub (broadcast S8x128 d)) (subf b bs) zero)))
      0x00000000#32 reduces_S8x128_S8 (.inl rfl) rfl) shapeCasts_S8_S8x1) broadcasts_S8x1_S8x128) vs) zero

/-- The contribution of the keys `d > 0` rows above. -/
def diag (d : BitVec 32) (q k v b : FVec F S8x128 .f32) : FVec F S8x128 .f32 := diagOf d q b (rot d b) (rot d k) (rot d v)

/-- What the given state contributes. -/
def inter (q b : FVec F S8x128 .f32) (st : FVec F S128x128 .f32) : FVec F S8x128 .f32 :=
  matmul dot_S8x128_S128x128_S8x128_1_1_0_0_n_n none (truncf .bf16 (mulf q (exp b)) bitsLt_bf16_f32) (truncf .bf16 st bitsLt_bf16_f32)
    (constant S8x128 .f32 0x00000000#32)

/-- The head's output before the normalisation. -/
def pre (q k v b : FVec F S8x128 .f32) (st : FVec F S128x128 .f32) : FVec F S8x128 .f32 :=
  addf (addf (addf (addf (addf (addf (addf (addf (inter q b st)
    (diagOf 0#32 q b b k v)) (diag 1#32 q k v b)) (diag 2#32 q k v b)) (diag 3#32 q k v b)) (diag 4#32 q k v b))
    (diag 5#32 q k v b)) (diag 6#32 q k v b)) (diag 7#32 q k v b)

/-- The root-mean-square normalisation of each row, times the gain. -/
def norm (o : FVec F S8x128 .f32) (gain : FVec F S1x128 .f32) : FVec F S8x128 .f32 :=
  mulf (mulf o (broadcastTo S8x128 (rsqrt (addf (divf (shapeCast S8x1 (multiReduction .add [1] S8 (mulf o o)
    0x00000000#32 reduces_S8x128_S8 (.inl rfl) rfl) shapeCasts_S8_S8x1)
    (broadcast S8x1 (Scalar.ofBits .f32 0x43000000#32))) (broadcast S8x1 (Scalar.ofBits .f32 0x358637BD#32)))) broadcasts_S8x1_S8x128))
    (broadcastTo S8x128 gain broadcasts_S1x128_S8x128)

/-- The state after the rows. -/
def post (k v b : FVec F S8x128 .f32) (st : FVec F S128x128 .f32) : FVec F S128x128 .f32 :=
  addf (mulf st (broadcastTo S128x128 (exp (extractStridedSlice S1x128 ![7, 0] b slices_S8x128_o7_0_S1x128)) broadcasts_S1x128_S128x128))
    (matmul dot_S8x128_S8x128_S128x128_0_0_1_1_n_n none (truncf .bf16 v bitsLt_bf16_f32)
      (truncf .bf16 (mulf k (exp (subf (broadcastTo S8x128 (extractStridedSlice S1x128 ![7, 0] b slices_S8x128_o7_0_S1x128) broadcasts_S1x128_S8x128) b))) bitsLt_bf16_f32)
      (constant S128x128 .f32 0x00000000#32))

/-- A loaded lane tile without its unit axis. -/
def flat (x : Vec F S1x8x128 .f32) : FVec F S8x128 .f32 := shapeCast S8x128 x shapeCasts_S1x8x128_S8x128

/-- A loaded head of the state without its unit axis. -/
def flatS (x : Vec F S1x128x128 .f32) : FVec F S128x128 .f32 := shapeCast S128x128 x shapeCasts_S1x128x128_S128x128

/-- What one head stores into the output, of its lane tiles of queries, keys, log decays, values and gates, the gain and
    its state. -/
def outT (q k lf v ga : Vec F S1x8x128 .f32) (gain : Vec F S1x128 .f32) (st : Vec F S1x128x128 .f32) : FVec F S1x8x128 .f32 :=
  shapeCast S1x8x128 (mulf (norm (pre (flat q) (flat k) (flat v) (cum (flat lf)) (flatS st)) (shapeCast S1x128 gain shapeCasts_S1x128_S1x128)) (flat ga))
    shapeCasts_S8x128_S1x8x128

/-- What one head stores into the state. -/
def stT (k lf v : Vec F S1x8x128 .f32) (st : Vec F S1x128x128 .f32) : FVec F S1x128x128 .f32 :=
  shapeCast S1x128x128 (post (flat k) (flat v) (cum (flat lf)) (flatS st)) shapeCasts_S128x128_S1x128x128

end Cert.Kernel6Ideal.Head
-- ==== Proof.SampRecCases.lean ====
/- What a grid point leaves in the output block and in the state's block, as stores of the heads' values (SampRecHead.lean). -/
module

public import proofs.«01_k».proof.Proof.SampRecHead

@[expose] public section
set_option maxRecDepth 16384

noncomputable section

namespace Cert.Kernel6Ideal.Head

open Idealize.ShloMosaic Idealize.ShloMosaic.TcCoe Cert.Kernel6Ideal Cert.Kernel6Ideal.Gen

variable {F : FTy → Type} [FloatOps F]

/-- The four heads' stores into the output block, the last one first. -/
def outP (q k lf v ga : Vec F S1x8x512 .f32) (gain : Vec F S1x128 .f32) (st : Vec F S4x128x128 .f32) : List (View.Piece (Elt F) S1x8x512 .f32) :=
  [ ⟨(Rect.unit (s := S1x8x512) ![0, 0, 384] S1x8x128.size inb_S1x8x512_S1x8x128_0_0_384), outT (View.ld q (Rect.unit (s := S1x8x512) ![0, 0, 384] S1x8x128.size inb_S1x8x512_S1x8x128_0_0_384)) (View.ld k (Rect.unit (s := S1x8x512) ![0, 0, 384] S1x8x128.size inb_S1x8x512_S1x8x128_0_0_384)) (View.ld lf (Rect.unit (s := S1x8x512) ![0, 0, 384] S1x8x128.size inb_S1x8x512_S1x8x128_0_0_384)) (View.ld v (Rect.unit (s := S1x8x512) ![0, 0, 384] S1x8x128.size inb_S1x8x512_S1x8x128_0_0_384)) (View.ld ga (Rect.unit (s := S1x8x512) ![0, 0, 384] S1x8x128.size inb_S1x8x512_S1x8x128_0_0_384)) gain (View.ld st (Rect.unit (s := S4x128x128) ![3, 0, 0] S1x128x128.size inb_S4x128x128_S1x128x128_3_0_0))⟩,
    ⟨(Rect.unit (s := S1x8x512) ![0, 0, 256] S1x8x128.size inb_S1x8x512_S1x8x128_0_0_256), outT (View.ld q (Rect.unit (s := S1x8x512) ![0, 0, 256] S1x8x128.size inb_S1x8x512_S1x8x128_0_0_256)) (View.ld k (Rect.unit (s := S1x8x512) ![0, 0, 256] S1x8x128.size inb_S1x8x512_S1x8x128_0_0_256)) (View.ld lf (Rect.unit (s := S1x8x512) ![0, 0, 256] S1x8x128.size inb_S1x8x512_S1x8x128_0_0_256)) (View.ld v (Rect.unit (s := S1x8x512) ![0, 0, 256] S1x8x128.size inb_S1x8x512_S1x8x128_0_0_256)) (View.ld ga (Rect.unit (s := S1x8x512) ![0, 0, 256] S1x8x128.size inb_S1x8x512_S1x8x128_0_0_256)) gain (View.ld st (Rect.unit (s := S4x128x128) ![2, 0, 0] S1x128x128.size inb_S4x128x128_S1x128x128_2_0_0))⟩,
    ⟨(Rect.unit (s := S1x8x512) ![0, 0, 128] S1x8x128.size inb_S1x8x512_S1x8x128_0_0_128), outT (View.ld q (Rect.unit (s := S1x8x512) ![0, 0, 128] S1x8x128.size inb_S1x8x512_S1x8x128_0_0_128)) (View.ld k (Rect.unit (s := S1x8x512) ![0, 0, 128] S1x8x128.size inb_S1x8x512_S1x8x128_0_0_128)) (View.ld lf (Rect.unit (s := S1x8x512) ![0, 0, 128] S1x8x128.size inb_S1x8x512_S1x8x128_0_0_128)) (View.ld v (Rect.unit (s := S1x8x512) ![0, 0, 128] S1x8x128.size inb_S1x8x512_S1x8x128_0_0_128)) (View.ld ga (Rect.unit (s := S1x8x512) ![0, 0, 128] S1x8x128.size inb_S1x8x512_S1x8x128_0_0_128)) gain (View.ld st (Rect.unit (s := S4x128x128) ![1, 0, 0] S1x128x128.size inb_S4x128x128_S1x128x128_1_0_0))⟩,
    ⟨(Rect.unit (s := S1x8x512) ![0, 0, 0] S1x8x128.size inb_S1x8x512_S1x8x128_0_0_0), outT (View.ld q (Rect.unit (s := S1x8x512) ![0, 0, 0] S1x8x128.size inb_S1x8x512_S1x8x128_0_0_0)) (View.ld k (Rect.unit (s := S1x8x512) ![0, 0, 0] S1x8x128.size inb_S1x8x512_S1x8x128_0_0_0)) (View.ld lf (Rect.unit (s := S1x8x512) ![0, 0, 0] S1x8x128.size inb_S1x8x512_S1x8x128_0_0_0)) (View.ld v (Rect.unit (s := S1x8x512) ![0, 0, 0] S1x8x128.size inb_S1x8x512_S1x8x128_0_0_0)) (View.ld ga (Rect.unit (s := S1x8x512) ![0, 0, 0] S1x8x128.size inb_S1x8x512_S1x8x128_0_0_0)) gain (View.ld st (Rect.unit (s := S4x128x128) ![0, 0, 0] S1x128x128.size inb_S4x128x128_S1x128x128_0_0_0))⟩ ]

/-- The four heads' stores into the state, the last one first. -/
def stP (k lf v : Vec F S1x8x512 .f32) (st : Vec F S4x128x128 .f32) : List (View.Piece (Elt F) S4x128x128 .f32) :=
  [ ⟨(Rect.unit (s := S4x128x128) ![3, 0, 0] S1x128x128.size inb_S4x128x128_S1x128x128_3_0_0), stT (View.ld k (Rect.unit (s := S1x8x512) ![0, 0, 384] S1x8x128.size inb_S1x8x512_S1x8x128_0_0_384)) (View.ld lf (Rect.unit (s := S1x8x512) ![0, 0, 384] S1x8x128.size inb_S1x8x512_S1x8x128_0_0_384)) (View.ld v (Rect.unit (s := S1x8x512) ![0, 0, 384] S1x8x128.size inb_S1x8x512_S1x8x128_0_0_384)) (View.ld st (Rect.unit (s := S4x128x128) ![3, 0, 0] S1x128x128.size inb_S4x128x128_S1x128x128_3_0_0))⟩,
    ⟨(Rect.unit (s := S4x128x128) ![2, 0, 0] S1x128x128.size inb_S4x128x128_S1x128x128_2_0_0), stT (View.ld k (Rect.unit (s := S1x8x512) ![0, 0, 256] S1x8x128.size inb_S1x8x512_S1x8x128_0_0_256)) (View.ld lf (Rect.unit (s := S1x8x512) ![0, 0, 256] S1x8x128.size inb_S1x8x512_S1x8x128_0_0_256)) (View.ld v (Rect.unit (s := S1x8x512) ![0, 0, 256] S1x8x128.size inb_S1x8x512_S1x8x128_0_0_256)) (View.ld st (Rect.unit (s := S4x128x128) ![2, 0, 0] S1x128x128.size inb_S4x128x128_S1x128x128_2_0_0))⟩,
    ⟨(Rect.unit (s := S4x128x128) ![1, 0, 0] S1x128x128.size inb_S4x128x128_S1x128x128_1_0_0), stT (View.ld k (Rect.unit (s := S1x8x512) ![0, 0, 128] S1x8x128.size inb_S1x8x512_S1x8x128_0_0_128)) (View.ld lf (Rect.unit (s := S1x8x512) ![0, 0, 128] S1x8x128.size inb_S1x8x512_S1x8x128_0_0_128)) (View.ld v (Rect.unit (s := S1x8x512) ![0, 0, 128] S1x8x128.size inb_S1x8x512_S1x8x128_0_0_128)) (View.ld st (Rect.unit (s := S4x128x128) ![1, 0, 0] S1x128x128.size inb_S4x128x128_S1x128x128_1_0_0))⟩,
    ⟨(Rect.unit (s := S4x128x128) ![0, 0, 0] S1x128x128.size inb_S4x128x128_S1x128x128_0_0_0), stT (View.ld k (Rect.unit (s := S1x8x512) ![0, 0, 0] S1x8x128.size inb_S1x8x512_S1x8x128_0_0_0)) (View.ld lf (Rect.unit (s := S1x8x512) ![0, 0, 0] S1x8x128.size inb_S1x8x512_S1x8x128_0_0_0)) (View.ld v (Rect.unit (s := S1x8x512) ![0, 0, 0] S1x8x128.size inb_S1x8x512_S1x8x128_0_0_0)) (View.ld st (Rect.unit (s := S4x128x128) ![0, 0, 0] S1x128x128.size inb_S4x128x128_S1x128x128_0_0_0))⟩ ]

/-- A load of the whole state reads what the stores left. -/
theorem readCov_whole (v : View sig .tc .vmem S4x128x128 .f32) (L : List (View.Piece (Elt F) S4x128x128 .f32)) :
    v.readCov L (Rect.unit (s := S4x128x128) ![0, 0, 0] S4x128x128.size inb_S4x128x128_S4x128x128_0_0_0).toLoadRect = View.canon L := by
  rw [View.readCov_eq_canon']
  exact View.ld_unit_lit' (S := S4x128x128) inb_S4x128x128_S4x128x128_0_0_0 (View.canon L) (by decide)

/-- The output block at a point. -/
theorem out_A (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x8x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x8x512 .f32) (harg9 : arg9.IsWhole) (arg10 : Memref sig .tc .vmem S1x4x128x128 .f32) (harg10 : arg10.IsWhole) (arg11 : Memref sig .tc .vmem S4x128x128 .f32) (harg11 : arg11.IsWhole) (hc0 : cond0_0 i) (hc1 : cond0_1 i)
    (x0 : Vec F S1x8x512 .f32) (x1 : Vec F S1x8x512 .f32) (x2 : Vec F S1x8x512 .f32) (x3 : Vec F S1x8x512 .f32) (x4 : Vec F S1x8x512 .f32) (x5 : Vec F S1x128 .f32) (x6 : Vec F S1x4x128x128 .f32) :
    out0_A_7 c i arg2 harg2 arg3 harg3 arg4 harg4 arg5 harg5 arg6 harg6 arg7 harg7 arg8 harg8 arg9 harg9 arg10 harg10 arg11 harg11 hc0 hc1 x0 x1 x2 x3 x4 x5 x6 = View.canon (outP x0 x1 x2 x3 x4 x5 (k0_pay3 x6)) := by
  frame_open
  simp (disch := decide) only [↓ View.readCov_skip, ↓ View.readCov_fill, ↓ View.readCov_cons_toLoadRect]
  frame_out
  generalize k0_pay3 x6 = z
  rfl

/-- The state block at a point. -/
theorem fin_A (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x8x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x8x512 .f32) (harg9 : arg9.IsWhole) (arg10 : Memref sig .tc .vmem S1x4x128x128 .f32) (harg10 : arg10.IsWhole) (arg11 : Memref sig .tc .vmem S4x128x128 .f32) (harg11 : arg11.IsWhole) (hc0 : cond0_0 i) (hc1 : cond0_1 i)
    (x0 : Vec F S1x8x512 .f32) (x1 : Vec F S1x8x512 .f32) (x2 : Vec F S1x8x512 .f32) (x3 : Vec F S1x8x512 .f32) (x4 : Vec F S1x8x512 .f32) (x5 : Vec F S1x128 .f32) (x6 : Vec F S1x4x128x128 .f32) :
    out0_A_8 c i arg2 harg2 arg3 harg3 arg4 harg4 arg5 harg5 arg6 harg6 arg7 harg7 arg8 harg8 arg9 harg9 arg10 harg10 arg11 harg11 hc0 hc1 x0 x1 x2 x3 x4 x5 x6 = k0_pay2 (View.canon (stP x1 x2 x3 (k0_pay3 x6) ++ [⟨Rect.unit (s := S4x128x128) ![0, 0, 0] S4x128x128.size inb_S4x128x128_S4x128x128_0_0_0, k0_pay3 x6⟩])) := by
  frame_open
  simp (disch := decide) only [↓ View.readCov_skip, ↓ View.readCov_fill, ↓ View.readCov_cons_toLoadRect]
  frame_out
  rw [readCov_whole]
  generalize k0_pay3 x6 = z
  rfl

end Cert.Kernel6Ideal.Head
-- ==== Proof.SampRecHeadValue.lean ====
/- The head's vectors read at an index, over the extended reals. -/
module

public import proofs.«01_k».proof.Proof.SampRecHead
public import proofs.«01_k».proof.Proof.Spec

@[expose] public section
set_option maxRecDepth 16384

noncomputable section

namespace Cert.Kernel6Ideal.Head

open Idealize.ShloMosaic Idealize.ShloMosaic.Pointwise Cert.Kernel6Ideal Cert.Kernel6Ideal.Gen Cert.Hgrn

/-- Eight rows as a function of row and lane. -/
abbrev mat (x : FVec Ideal S8x128 .f32) : MatN 8 := fun t k => x (ix2 t k)

theorem row_sge : ∀ d t : Fin 8, IntOp.cmpi .sge (BitVec.ofNat 32 t.val) (BitVec.ofNat 32 d.val) = BitVec.ofBool (decide (d.val ≤ t.val)) := by
  decide +kernel

theorem sub_sge : ∀ d t : Fin 8, IntOp.cmpi .sge (IntOp.andi (BitVec.ofNat 32 t.val) 7#32) (BitVec.ofNat 32 d.val) = BitVec.ofBool (decide (d.val ≤ t.val)) := by
  decide +kernel

/-- The cyclic shift at an index. -/
theorem rot_at (d : Fin 8) (x : FVec Ideal S8x128 .f32) (t : Fin 8) (k : Fin 128) :
    rot (BitVec.ofNat 32 d.val) x (ix2 t k) = x (ix2 ⟨(t.val + 8 - d.val) % 8, Nat.mod_lt _ (by decide)⟩ k) := by
  pointwise [rot]
  congr 2
  ext
  simp only [BitVec.toNat_ofNat]
  omega

/-- The shifted addition at an index. -/
theorem shAdd_at (d : Fin 8) (x : FVec Ideal S8x128 .f32) (t : Fin 8) (k : Fin 128) :
    shAdd (BitVec.ofNat 32 d.val) x (ix2 t k) = x (ix2 t k) + if d.val ≤ t.val then ext (fun s => x (ix2 s k)) (t.val - d.val) else 0 := by
  pointwise [shAdd, row, zero]
  rw [row_sge d t, rot_at]
  congr 1
  by_cases h : d.val ≤ t.val
  · have e : (t.val + 8 - d.val) % 8 = t.val - d.val := by omega
    have h2 : t.val - d.val < 8 := by omega
    simp [h, e, ext, h2, Scalar.select]
  · simp [h, Scalar.select]

/-- A shift after a window doubles the window. -/
theorem shAdd_win (d : Fin 8) (a x : FVec Ideal S8x128 .f32) (k : Fin 128)
    (h : ∀ t : Fin 8, x (ix2 t k) = win (fun s => a (ix2 s k)) d.val t.val) (t : Fin 8) :
    shAdd (BitVec.ofNat 32 d.val) x (ix2 t k) = win (fun s => a (ix2 s k)) (d.val + d.val) t.val := by
  rw [shAdd_at, h t, ← win_double]
  congr 1
  split
  · have h2 : t.val - d.val < 8 := by omega
    simp only [ext, h2, dite_true]
    exact h ⟨t.val - d.val, h2⟩
  · rfl

/-- The three doublings are the cumulative sum. -/
theorem cum_at (x : FVec Ideal S8x128 .f32) (t : Fin 8) (k : Fin 128) : cum x (ix2 t k) = cumS (mat x) t k := by
  have h0 : ∀ t : Fin 8, x (ix2 t k) = win (fun s => x (ix2 s k)) 1 t.val := fun t => by
    have h2 : t.val < 8 := t.isLt
    simp [win, ext, h2]
  have h1 := shAdd_win 1 x x k h0
  have h2 := shAdd_win 2 x _ k h1
  have h3 := shAdd_win 4 x _ k h2
  exact (h3 t).trans (win_cum (mat x) t k)

/-- What each key contributes to row `t` in lane `c`. -/
def term (Q K V B : MatN 8) (t : Fin 8) (c : Fin 128) : Fin 8 → EReal := fun s => att Q K B t s * V s c

/-- The diagonal contribution at an index. -/
theorem diagOf_at (d : Fin 8) (q b bs ks vs : FVec Ideal S8x128 .f32) (t : Fin 8) (c : Fin 128) :
    diagOf (BitVec.ofNat 32 d.val) q b bs ks vs (ix2 t c) =
      if d.val ≤ t.val then (∑ k : Fin 128, q (ix2 t k) * ks (ix2 t k) * Ideal.exp (b (ix2 t k) - bs (ix2 t k))) * vs (ix2 t c) else 0 := by
  pointwise [diagOf, sub, row, zero]
  rw [sub_sge d t]
  by_cases h : d.val ≤ t.val
  · simp [h, Scalar.select]
  · simp [h, Scalar.select]

/-- The contribution of the key `d` rows above, for every `d`. -/
theorem diag_at (d : Fin 8) (q k v b : FVec Ideal S8x128 .f32) (t : Fin 8) (c : Fin 128) :
    diag (BitVec.ofNat 32 d.val) q k v b (ix2 t c) =
      if d.val ≤ t.val then ext (term (mat q) (mat k) (mat v) (mat b) t c) (t.val - d.val) else 0 := by
  rw [diag, diagOf_at]
  split
  · have e : (t.val + 8 - d.val) % 8 = t.val - d.val := by omega
    have h2 : t.val - d.val < 8 := by omega
    simp only [rot_at, e, ext, term, h2, dite_true, att]
    congr 1
    exact Finset.sum_congr rfl fun j _ => (mul_assoc _ _ _).trans (congrArg (_ * ·) (mul_comm _ _))
  · rfl

/-- The contribution of the key of the same row. -/
theorem diag0_at (q k v b : FVec Ideal S8x128 .f32) (t : Fin 8) (c : Fin 128) :
    diagOf 0#32 q b b k v (ix2 t c) = if 0 ≤ t.val then ext (term (mat q) (mat k) (mat v) (mat b) t c) (t.val - 0) else 0 := by
  have h2 : t.val < 8 := t.isLt
  refine (diagOf_at 0 q b b k v t c).trans ?_
  simp only [Fin.val_zero, Nat.zero_le, if_true, ext, term, Nat.sub_zero, h2, dite_true, att]
  congr 1
  exact Finset.sum_congr rfl fun j _ => (mul_assoc _ _ _).trans (congrArg (_ * ·) (mul_comm _ _))

/-- The state's contribution at an index. -/
theorem inter_at (q b : FVec Ideal S8x128 .f32) (st : FVec Ideal S128x128 .f32) (t : Fin 8) (c : Fin 128) :
    inter q b st (ix2 t c) = ∑ k : Fin 128, q (ix2 t k) * Ideal.exp (b (ix2 t k)) * st (ix2 c k) := by
  pointwise [inter]

/-- The normalisation at an index. -/
theorem norm_at (o : FVec Ideal S8x128 .f32) (gain : FVec Ideal S1x128 .f32) (t : Fin 8) (c : Fin 128) :
    norm o gain (ix2 t c) = normS (fun k => o (ix2 t k)) (fun k => gain (ix2 0 k)) c := by
  pointwise [norm]
  rfl

/-- The next state at an index. -/
theorem post_at (k v b : FVec Ideal S8x128 .f32) (st : FVec Ideal S128x128 .f32) (c j : Fin 128) :
    post k v b st (ix2 c j) = nextOf 7 (mat k) (mat v) (mat b) (fun c j => st (ix2 c j)) c j := by
  pointwise [post]
  rfl

/-- The head's output before the normalisation is the rows' recurrence. -/
theorem pre_at (q k v b : FVec Ideal S8x128 .f32) (st : FVec Ideal S128x128 .f32) (t : Fin 8) (c : Fin 128) :
    pre q k v b st (ix2 t c) = outS (mat q) (mat k) (mat v) (mat b) (fun c j => st (ix2 c j)) t c := by
  have e1 : diag 1#32 q k v b (ix2 t c) = if 1 ≤ t.val then ext (term (mat q) (mat k) (mat v) (mat b) t c) (t.val - 1) else 0 := diag_at 1 q k v b t c
  have e2 : diag 2#32 q k v b (ix2 t c) = if 2 ≤ t.val then ext (term (mat q) (mat k) (mat v) (mat b) t c) (t.val - 2) else 0 := diag_at 2 q k v b t c
  have e3 : diag 3#32 q k v b (ix2 t c) = if 3 ≤ t.val then ext (term (mat q) (mat k) (mat v) (mat b) t c) (t.val - 3) else 0 := diag_at 3 q k v b t c
  have e4 : diag 4#32 q k v b (ix2 t c) = if 4 ≤ t.val then ext (term (mat q) (mat k) (mat v) (mat b) t c) (t.val - 4) else 0 := diag_at 4 q k v b t c
  have e5 : diag 5#32 q k v b (ix2 t c) = if 5 ≤ t.val then ext (term (mat q) (mat k) (mat v) (mat b) t c) (t.val - 5) else 0 := diag_at 5 q k v b t c
  have e6 : diag 6#32 q k v b (ix2 t c) = if 6 ≤ t.val then ext (term (mat q) (mat k) (mat v) (mat b) t c) (t.val - 6) else 0 := diag_at 6 q k v b t c
  have e7 : diag 7#32 q k v b (ix2 t c) = if 7 ≤ t.val then ext (term (mat q) (mat k) (mat v) (mat b) t c) (t.val - 7) else 0 := diag_at 7 q k v b t c
  have hs : ∑ s : Fin 8, (if s ≤ t then att (mat q) (mat k) (mat b) t s * mat v s c else 0) = win (term (mat q) (mat k) (mat v) (mat b) t c) 8 t.val :=
    (win_cum (fun s (_ : Fin 128) => term (mat q) (mat k) (mat v) (mat b) t c s) t 0).symm
  unfold outS
  rw [hs, ← inter_at]
  unfold win
  simp only [Finset.sum_range_succ, Finset.sum_range_zero, zero_add]
  unfold pre
  simp only [addf_apply, Ideal.addf_def]
  rw [diag0_at, e1, e2, e3, e4, e5, e6, e7]
  ac_rfl

end Cert.Kernel6Ideal.Head
-- ==== Proof.SampRecTiles.lean ====
/- What one grid point leaves, over the extended reals: the output block and the state, head by head, as the rows'
   recurrence. -/
module

public import proofs.«01_k».proof.Proof.SampRecCases
public import proofs.«01_k».proof.Proof.SampRecHeadValue

@[expose] public section
set_option maxRecDepth 16384

noncomputable section

namespace Cert.Kernel6Ideal.Head

open Idealize.ShloMosaic Idealize.ShloMosaic.Pointwise Cert.Kernel6Ideal Cert.Kernel6Ideal.Gen Cert.Hgrn

/-- A lane tile as a function of row and lane. -/
abbrev mat1 (x : Vec Ideal S1x8x128 .f32) : MatN 8 := fun t k => x (ix3 0 t k)

theorem flat_at (x : Vec Ideal S1x8x128 .f32) (t : Fin 8) (k : Fin 128) : flat x (ix2 t k) = x (ix3 0 t k) := by
  pointwise [flat]

theorem flatS_at (x : Vec Ideal S1x128x128 .f32) (t : Fin 128) (k : Fin 128) : flatS x (ix2 t k) = x (ix3 0 t k) := by
  pointwise [flatS]

theorem mat_flat (x : Vec Ideal S1x8x128 .f32) : mat (flat x) = mat1 x := by
  funext t k
  exact flat_at x t k

theorem mat_cum (x : FVec Ideal S8x128 .f32) : mat (cum x) = cumS (mat x) := by
  funext t k
  exact cum_at x t k

/-- One head's stored output at an index. -/
theorem outT_at (q k lf v ga : Vec Ideal S1x8x128 .f32) (gain : Vec Ideal S1x128 .f32) (st : Vec Ideal S1x128x128 .f32) (t : Fin 8) (c : Fin 128) :
    outT q k lf v ga gain st (ix3 0 t c) =
      normS (outS (mat1 q) (mat1 k) (mat1 v) (cumS (mat1 lf)) (fun c j => st (ix3 0 c j)) t) (fun c => gain (ix2 0 c)) c * ga (ix3 0 t c) := by
  have hp : (fun c => pre (flat q) (flat k) (flat v) (cum (flat lf)) (flatS st) (ix2 t c)) =
      outS (mat1 q) (mat1 k) (mat1 v) (cumS (mat1 lf)) (fun c j => st (ix3 0 c j)) t := by
    funext c
    rw [pre_at, mat_cum, mat_flat, mat_flat, mat_flat, mat_flat]
    congr 1
    funext a b
    exact flatS_at st a b
  pointwise [outT]
  rw [norm_at, hp, flat_at]

/-- One head's stored state at an index. -/
theorem stT_at (k lf v : Vec Ideal S1x8x128 .f32) (st : Vec Ideal S1x128x128 .f32) (c j : Fin 128) :
    stT k lf v st (ix3 0 c j) = nextOf 7 (mat1 k) (mat1 v) (cumS (mat1 lf)) (fun c j => st (ix3 0 c j)) c j := by
  pointwise [stT]
  rw [post_at, mat_cum, mat_flat, mat_flat, mat_flat]
  congr 1
  funext a b
  exact flatS_at st a b

/-- Head `h`'s lanes of a block. -/
def hm (x : Vec Ideal S1x8x512 .f32) (h : Fin 4) : MatN 8 := fun t k => x (ix3 0 t ⟨128 * h.val + k.val, by omega⟩)

/-- Head `h` of the state. -/
def hs (x : Vec Ideal S4x128x128 .f32) (h : Fin 4) : Sq := fun c j => x (ix3 h c j)

/-- The output block of a grid point. -/
def outB (q k lf v ga : Vec Ideal S1x8x512 .f32) (gain : Vec Ideal S1x128 .f32) (st : Vec Ideal S4x128x128 .f32) : Vec Ideal S1x8x512 .f32 := fun y =>
  normS (outS (hm q ⟨(y 2).val / 128, by have : (y 2).val < 512 := (y 2).isLt; omega⟩) (hm k ⟨(y 2).val / 128, by have : (y 2).val < 512 := (y 2).isLt; omega⟩)
    (hm v ⟨(y 2).val / 128, by have : (y 2).val < 512 := (y 2).isLt; omega⟩) (cumS (hm lf ⟨(y 2).val / 128, by have : (y 2).val < 512 := (y 2).isLt; omega⟩))
    (hs st ⟨(y 2).val / 128, by have : (y 2).val < 512 := (y 2).isLt; omega⟩) (y 1)) (fun c => gain (ix2 0 c)) ⟨(y 2).val % 128, Nat.mod_lt _ (by decide)⟩ * ga y

/-- The state after a grid point. -/
def stB (k lf v : Vec Ideal S1x8x512 .f32) (st : Vec Ideal S4x128x128 .f32) : Vec Ideal S4x128x128 .f32 := fun y =>
  nextOf 7 (hm k (y 0)) (hm v (y 0)) (cumS (hm lf (y 0))) (hs st (y 0)) (y 1) (y 2)

/-- A load of head `h`'s lanes. -/
theorem ld_lane (x : Vec Ideal S1x8x512 .f32) (h : Fin 4) (off : Fin 3 → ℕ) (inb) (h0 : off 0 = 0) (h1 : off 1 = 0) (h2 : off 2 = 128 * h.val) :
    mat1 (View.ld x (Rect.unit (s := S1x8x512) off S1x8x128.size inb)) = hm x h := by
  funext t k
  refine View.ld_unit_apply_of x off _ inb _ _ fun a => ?_
  fin_cases a
  · show (0 : ℕ) = off 0 + 0
    omega
  · show t.val = off 1 + t.val
    omega
  · show 128 * h.val + k.val = off 2 + k.val
    omega

/-- A load of head `h`'s state. -/
theorem ld_head (x : Vec Ideal S4x128x128 .f32) (h : Fin 4) (off : Fin 3 → ℕ) (inb) (h0 : off 0 = h.val) (h1 : off 1 = 0) (h2 : off 2 = 0) :
    (fun c j => View.ld x (Rect.unit (s := S4x128x128) off S1x128x128.size inb) (ix3 0 c j)) = hs x h := by
  funext t k
  refine View.ld_unit_apply_of x off _ inb _ _ fun a => ?_
  fin_cases a
  · show h.val = off 0 + 0
    omega
  · show t.val = off 1 + t.val
    omega
  · show k.val = off 2 + k.val
    omega

/-- One head's store into the state is that head of the next state. -/
theorem st_piece (k lf v : Vec Ideal S1x8x512 .f32) (st : Vec Ideal S4x128x128 .f32) (h : Fin 4) (off off' : Fin 3 → ℕ) (inb) (inb')
    (h0 : off 0 = 0) (h1 : off 1 = 0) (h2 : off 2 = 128 * h.val) (g0 : off' 0 = h.val) (g1 : off' 1 = 0) (g2 : off' 2 = 0) (x : S1x128x128.Idx) :
    stT (View.ld k (Rect.unit (s := S1x8x512) off S1x8x128.size inb)) (View.ld lf (Rect.unit (s := S1x8x512) off S1x8x128.size inb))
      (View.ld v (Rect.unit (s := S1x8x512) off S1x8x128.size inb)) (View.ld st (Rect.unit (s := S4x128x128) off' S1x128x128.size inb')) x =
    stB k lf v st ((Rect.unit (s := S4x128x128) off' S1x128x128.size inb').emb x) := by
  have e : (Rect.unit (s := S4x128x128) off' S1x128x128.size inb').emb x = ix3 h (x 1) (x 2) := by
    funext a
    apply Fin.ext
    refine (Rect.idx_unit_val off' _ inb' x a).trans ?_
    have hx : (x 0).val < 1 := (x 0).isLt
    fin_cases a
    · show off' 0 + (x 0).val = h.val
      omega
    · show off' 1 + (x 1).val = (x 1).val
      omega
    · show off' 2 + (x 2).val = (x 2).val
      omega
  rw [e]
  idx_vars x
  have hx : x0 = 0 := Subsingleton.elim _ _
  subst hx
  refine (stT_at _ _ _ _ x1 x2).trans ?_
  rw [ld_lane k h off inb h0 h1 h2, ld_lane lf h off inb h0 h1 h2, ld_lane v h off inb h0 h1 h2, ld_head st h off' inb' g0 g1 g2]
  rfl

/-- One head's store into the output block is that head's lanes of the rows' output. -/
theorem out_piece (q k lf v ga : Vec Ideal S1x8x512 .f32) (gain : Vec Ideal S1x128 .f32) (st : Vec Ideal S4x128x128 .f32) (h : Fin 4)
    (off off' : Fin 3 → ℕ) (inb) (inb')
    (h0 : off 0 = 0) (h1 : off 1 = 0) (h2 : off 2 = 128 * h.val) (g0 : off' 0 = h.val) (g1 : off' 1 = 0) (g2 : off' 2 = 0) (x : S1x8x128.Idx) :
    outT (View.ld q (Rect.unit (s := S1x8x512) off S1x8x128.size inb)) (View.ld k (Rect.unit (s := S1x8x512) off S1x8x128.size inb))
      (View.ld lf (Rect.unit (s := S1x8x512) off S1x8x128.size inb))
      (View.ld v (Rect.unit (s := S1x8x512) off S1x8x128.size inb)) (View.ld ga (Rect.unit (s := S1x8x512) off S1x8x128.size inb)) gain
      (View.ld st (Rect.unit (s := S4x128x128) off' S1x128x128.size inb')) x =
    outB q k lf v ga gain st ((Rect.unit (s := S1x8x512) off S1x8x128.size inb).emb x) := by
  have e : (Rect.unit (s := S1x8x512) off S1x8x128.size inb).emb x = ix3 0 (x 1) ⟨128 * h.val + (x 2).val, by have : (x 2).val < 128 := (x 2).isLt; omega⟩ := by
    funext a
    apply Fin.ext
    refine (Rect.idx_unit_val off _ inb x a).trans ?_
    have hx : (x 0).val < 1 := (x 0).isLt
    fin_cases a
    · show off 0 + (x 0).val = 0
      omega
    · show off 1 + (x 1).val = (x 1).val
      omega
    · show off 2 + (x 2).val = 128 * h.val + (x 2).val
      omega
  rw [e]
  idx_vars x
  have hx : x0 = 0 := Subsingleton.elim _ _
  subst hx
  refine (outT_at _ _ _ _ _ _ _ x1 x2).trans ?_
  rw [ld_lane q h off inb h0 h1 h2, ld_lane k h off inb h0 h1 h2, ld_lane lf h off inb h0 h1 h2, ld_lane v h off inb h0 h1 h2, ld_head st h off' inb' g0 g1 g2]
  have hg := congrFun (congrFun (ld_lane ga h off inb h0 h1 h2) x1) x2
  have e1 : (⟨(128 * h.val + x2.val) / 128, by omega⟩ : Fin 4) = h := Fin.ext (by show (128 * h.val + x2.val) / 128 = h.val; omega)
  have e2 : (⟨(128 * h.val + x2.val) % 128, Nat.mod_lt _ (by decide)⟩ : Fin 128) = x2 := Fin.ext (by show (128 * h.val + x2.val) % 128 = x2.val; omega)
  refine Eq.trans (congrArg (_ * ·) hg) ?_
  show _ = normS (outS (hm q ⟨(128 * h.val + x2.val) / 128, _⟩) (hm k ⟨(128 * h.val + x2.val) / 128, _⟩) (hm v ⟨(128 * h.val + x2.val) / 128, _⟩)
    (cumS (hm lf ⟨(128 * h.val + x2.val) / 128, _⟩)) (hs st ⟨(128 * h.val + x2.val) / 128, _⟩) x1) (fun c => gain (ix2 0 c)) ⟨(128 * h.val + x2.val) % 128, _⟩ * ga _
  rw [e1, e2]
  rfl

/-- The state's stores, over anything stored before. -/
theorem stP_canon (k lf v : Vec Ideal S1x8x512 .f32) (st : Vec Ideal S4x128x128 .f32) (L' : List (View.Piece (Elt Ideal) S4x128x128 .f32)) :
    View.canon (stP k lf v st ++ L') = stB k lf v st := by
  funext y
  unfold stP
  refine View.canon_append_of_piecesOf (stB k lf v st) L' [_, _, _, _] ⟨?_, ?_, ?_, ?_, trivial⟩ y (View.cover_of_tiledL (s := S4x128x128) _ ![1, 128, 128] (by sl_kernel_rfl) y)
  · exact st_piece k lf v st 3 _ _ _ _ rfl rfl rfl rfl rfl rfl
  · exact st_piece k lf v st 2 _ _ _ _ rfl rfl rfl rfl rfl rfl
  · exact st_piece k lf v st 1 _ _ _ _ rfl rfl rfl rfl rfl rfl
  · exact st_piece k lf v st 0 _ _ _ _ rfl rfl rfl rfl rfl rfl

/-- The output block's stores. -/
theorem outP_canon (q k lf v ga : Vec Ideal S1x8x512 .f32) (gain : Vec Ideal S1x128 .f32) (st : Vec Ideal S4x128x128 .f32) :
    View.canon (outP q k lf v ga gain st) = outB q k lf v ga gain st := by
  funext y
  unfold outP
  refine View.canon_append_of_piecesOf (outB q k lf v ga gain st) [] [_, _, _, _] ⟨?_, ?_, ?_, ?_, trivial⟩ y (View.cover_of_tiledL (s := S1x8x512) _ ![1, 8, 128] (by sl_kernel_rfl) y)
  · exact out_piece q k lf v ga gain st 3 _ _ _ _ rfl rfl rfl rfl rfl rfl
  · exact out_piece q k lf v ga gain st 2 _ _ _ _ rfl rfl rfl rfl rfl rfl
  · exact out_piece q k lf v ga gain st 1 _ _ _ _ rfl rfl rfl rfl rfl rfl
  · exact out_piece q k lf v ga gain st 0 _ _ _ _ rfl rfl rfl rfl rfl rfl

end Cert.Kernel6Ideal.Head
-- ==== Proof.SampRecSpec.lean ====
/- Rows with four rows of zeros laid before them: the recurrence over them is the recurrence over the rows. -/
module

public import proofs.«01_k».proof.Proof.Spec

@[expose] public section

noncomputable section

namespace Cert.Hgrn

open Idealize.ShloMosaic

/-- Four rows with four rows of zeros before them. -/
def front (x : MatN 4) : MatN 8 := fun t k => if h : 4 ≤ t.val then x ⟨t.val - 4, by omega⟩ k else 0

/-- The first four rows are zero. -/
theorem front_lo (x : MatN 4) (t : Fin 8) (h : ¬ 4 ≤ t.val) (k : Fin 128) : front x t k = 0 := dif_neg h

/-- The last four rows are the rows. -/
theorem front_hi (x : MatN 4) (t : Fin 8) (s : Fin 4) (h : t.val = 4 + s.val) (k : Fin 128) : front x t k = x s k := by
  have h1 : 4 ≤ t.val := by omega
  refine (dif_pos h1).trans ?_
  congr 1
  exact Fin.ext (by show t.val - 4 = s.val; omega)

/-- A sum over eight rows of which the first four are zero. -/
theorem sum_front (f : Fin 8 → EReal) (h : ∀ s : Fin 8, ¬ 4 ≤ s.val → f s = 0) : ∑ s : Fin 8, f s = ∑ s : Fin 4, f ⟨4 + s.val, by omega⟩ := by
  refine (Fin.sum_univ_add (a := 4) (b := 4) f).trans ?_
  rw [Finset.sum_eq_zero fun i _ => h (Fin.castAdd 4 i) (by show ¬ 4 ≤ i.val; omega), zero_add]
  rfl

/-- The cumulative decay. -/
theorem cum_front (L : MatN 4) : cumS (front L) = front (cumS L) := by
  funext t k
  unfold cumS
  rw [sum_front _ fun s hs => by rw [front_lo L s hs]; exact ite_self 0]
  by_cases h : 4 ≤ t.val
  · rw [front_hi _ t ⟨t.val - 4, by omega⟩ (by show t.val = 4 + (t.val - 4); omega)]
    refine Finset.sum_congr rfl fun s _ => ?_
    rw [front_hi L _ s rfl]
    refine if_congr ?_ rfl rfl
    rw [Fin.le_def, Fin.le_def]
    show 4 + s.val ≤ t.val ↔ s.val ≤ t.val - 4
    omega
  · rw [front_lo _ t h]
    refine Finset.sum_eq_zero fun s _ => if_neg ?_
    rw [Fin.le_def]
    show ¬ 4 + s.val ≤ t.val
    omega

/-- A head's output before the normalisation. -/
theorem out_front (Q K V B : MatN 4) (S : Sq) : outS (front Q) (front K) (front V) (front B) S = front (outS Q K V B S) := by
  funext t c
  by_cases h : 4 ≤ t.val
  · have ht : t.val = 4 + (⟨t.val - 4, by omega⟩ : Fin 4).val := by show t.val = 4 + (t.val - 4); omega
    rw [front_hi _ t _ ht]
    unfold outS
    rw [sum_front _ fun s hs => by rw [front_lo V s hs, mul_zero]; exact ite_self 0]
    refine congrArg₂ (· + ·) (Finset.sum_congr rfl fun s _ => ?_) (Finset.sum_congr rfl fun k _ => ?_)
    · rw [front_hi V _ s rfl]
      refine if_congr ?_ (congrArg (· * _) (Finset.sum_congr rfl fun k _ => ?_)) rfl
      · rw [Fin.le_def, Fin.le_def]
        show 4 + s.val ≤ t.val ↔ s.val ≤ t.val - 4
        omega
      · rw [front_hi Q t _ ht, front_hi B t _ ht, front_hi B _ s rfl, front_hi K _ s rfl]
    · rw [front_hi Q t _ ht, front_hi B t _ ht]
  · rw [front_lo _ t h]
    have hq : ∀ k, front Q t k = 0 := front_lo Q t h
    unfold outS att
    simp only [hq, zero_mul, Finset.sum_const_zero, ite_self, add_zero]

/-- The state after the rows. -/
theorem next_front (K V B : MatN 4) (S : Sq) : nextOf 7 (front K) (front V) (front B) S = nextOf 3 K V B S := by
  funext c k
  unfold nextOf
  rw [front_hi B 7 3 rfl, sum_front _ fun s hs => by rw [front_lo V s hs, zero_mul]]
  refine congrArg₂ (· + ·) rfl (Finset.sum_congr rfl fun s _ => ?_)
  rw [front_hi V _ s rfl, front_hi K _ s rfl, front_hi B _ s rfl]

/-- The normalisation of zeros. -/
theorem norm_zero (o gain : Fin 128 → EReal) (c : Fin 128) (h : o c = 0) : normS o gain c = 0 := by
  unfold normS
  rw [h, zero_mul, zero_mul]

/-- The samples' rows, four heads of 128 lanes side by side. -/
abbrev Rows : Type := Fin 128 → Fin 512 → EReal

/-- Head `h` of the four rows of sequence `b`. -/
def seqOf (x : Rows) (b : Fin 32) (h : Fin 4) : MatN 4 := fun t k => x ⟨4 * b.val + t.val, by omega⟩ ⟨128 * h.val + k.val, by omega⟩

/-- The gated output of sequence `b`, four rows of zeros first. -/
def outRow (Q K L V G : Rows) (gain : Fin 128 → EReal) (S : Fin 32 → Fin 4 → Sq) (b : Fin 32) (r : Fin 8) (l : Fin 512) : EReal :=
  if h : 4 ≤ r.val then
    normS (outS (seqOf Q b ⟨l.val / 128, by omega⟩) (seqOf K b ⟨l.val / 128, by omega⟩) (seqOf V b ⟨l.val / 128, by omega⟩) (cumS (seqOf L b ⟨l.val / 128, by omega⟩))
      (S b ⟨l.val / 128, by omega⟩) ⟨r.val - 4, by omega⟩) gain ⟨l.val % 128, Nat.mod_lt _ (by decide)⟩ * G ⟨4 * b.val + (r.val - 4), by omega⟩ l
  else 0

/-- The state of sequence `b` after its rows. -/
def stRow (K L V : Rows) (S : Fin 32 → Fin 4 → Sq) (b : Fin 32) (h : Fin 4) : Sq :=
  nextOf 3 (seqOf K b h) (seqOf V b h) (cumS (seqOf L b h)) (S b h)

end Cert.Hgrn
-- ==== Proof.SampRecValue.lean ====
/- The blocks of the samples' recurrence and its two arrays at an index, over the extended reals. -/
module

public import proofs.«01_k».proof.Proof.SampRecTiles
public import proofs.«01_k».proof.Proof.SampRecSpec
public import Idealize.ShloMosaic.Lib.StableHlo.ReadAt

@[expose] public section
set_option maxRecDepth 16384

noncomputable section

namespace Cert.Kernel6Ideal.Head

open Idealize.ShloMosaic Idealize.ShloMosaic.Pointwise Idealize.ShloMosaic.TcCoe Cert.Kernel6Ideal Cert.Kernel6Ideal.Gen Cert.Hgrn

variable (m : (ℓ : Loc nD τ sig) → Buf (Elt Ideal) ℓ)

/-- An argument as a function of row and lane. -/
abbrev arr (x : FVec Ideal S128x512 .f32) : Rows := fun r l => x (ix2 r l)

/-- The given state, values by keys. -/
abbrev arrS (x : FVec Ideal S1x32x4x128x128 .f32) (b : Fin 32) (h : Fin 4) : Sq := fun c k => x (ix5 0 b h k c)

/-- The gain, by lane. -/
abbrev arrN (x : FVec Ideal S1x128 .f32) : Fin 128 → EReal := fun j => x (ix2 0 j)

/-- The queries. -/
abbrev aQ (c : Dev nD) : Rows := arr (m ((c : Thread nD τ).loc main_arg0))
/-- The keys. -/
abbrev aK (c : Dev nD) : Rows := arr (m ((c : Thread nD τ).loc main_arg1))
/-- The log decays. -/
abbrev aL (c : Dev nD) : Rows := arr (m ((c : Thread nD τ).loc main_arg2))
/-- The values. -/
abbrev aV (c : Dev nD) : Rows := arr (m ((c : Thread nD τ).loc main_arg3))
/-- The gates. -/
abbrev aG (c : Dev nD) : Rows := arr (m ((c : Thread nD τ).loc main_arg4))
/-- The given state. -/
abbrev aS (c : Dev nD) : Fin 32 → Fin 4 → Sq := arrS (m ((c : Thread nD τ).loc main_arg5))
/-- The gain. -/
abbrev aN (c : Dev nD) : Fin 128 → EReal := arrN (m ((c : Thread nD τ).loc main_arg6))

/-- A point's number is a sequence's. -/
abbrev seq (t : Fin cfg0.N) : Fin 32 := ⟨t.val, lt_of_lt_of_eq t.isLt N_0⟩

/-- Four rows of zeros laid before the rows of each sequence. -/
theorem padded_at (x : FVec Ideal S128x512 .f32) (b : Fin 32) (r : Fin 8) (l : Fin 512) :
    (pad S32x8x512 ![0, 4, 0] ![0, 0, 0] ![0, 0, 0] (shapeCast S32x4x512 x shapeCasts_S128x512_S32x4x512) (sitofp (F := Ideal) .f32 (constantI S_ 32 0#32)) pads_S32x4x512_S32x8x512_000_400_000 h_S_ (ix3 b r l) : EReal) =
      if h : 4 ≤ r.val then x (ix2 ⟨4 * b.val + (r.val - 4), by omega⟩ l) else 0 := by
  pointwise
  by_cases h : 4 ≤ r.val
  · rw [dif_pos h, dif_pos ⟨h, by omega⟩]
    exact congrArg (fun s => x (ix2 s l)) (Fin.ext (by show b.val * 4 + (r.val - 4) = 4 * b.val + (r.val - 4); omega))
  · rw [dif_neg h, dif_neg (fun e => h e.1)]
    show (((0#32 : BitVec 32).toInt : ℝ) : EReal) = 0
    simp

/-- The block numbers of the windows at a point. -/
theorem idx0 : ∀ t : Fin cfg0.N, (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_7.index t (0 : Fin 3) = t.val ∧ win0_7.index t (1 : Fin 3) = 0 ∧ win0_7.index t (2 : Fin 3) = 0)
    ∧ (win0_5.index t (0 : Fin 2) = 0 ∧ win0_5.index t (1 : Fin 2) = 0)
    ∧ (win0_6.index t (0 : Fin 4) = t.val ∧ win0_6.index t (1 : Fin 4) = 0 ∧ win0_6.index t (2 : Fin 4) = 0 ∧ win0_6.index t (3 : Fin 4) = 0)
    ∧ (win0_8.index t (0 : Fin 4) = t.val ∧ win0_8.index t (1 : Fin 4) = 0 ∧ win0_8.index t (2 : Fin 4) = 0 ∧ win0_8.index t (3 : Fin 4) = 0) :=
  (by decide +kernel : ∀ t : Fin grid0.N, _)

set_option maxHeartbeats 1600000 in
/-- The block of queries at a point. -/
theorem blk0 (c : Dev nD) (t : Fin cfg0.N) (r : Fin 8) (l : Fin 512) :
    (iblk m c 0 t (ix3 0 r l) : EReal) = if h : 4 ≤ r.val then aQ m c ⟨4 * (seq t).val + (r.val - 4), by have := (seq t).isLt; omega⟩ l else 0 := by
  have i0 := (idx0 t).1
  have e : ((cfg0.win 0).blk t).view.emb (ix3 0 r l) = (ix3 (seq t) r l : S32x8x512.Idx) := by
    blk_ext [i0]
  refine (congrArg (V m c (Pipeline.arrRef spec0 0)) e).trans ?_
  show V m c main_v5 _ = _
  entry_read
  exact padded_at _ (seq t) r l

set_option maxHeartbeats 1600000 in
/-- The block of keys at a point. -/
theorem blk1 (c : Dev nD) (t : Fin cfg0.N) (r : Fin 8) (l : Fin 512) :
    (iblk m c 1 t (ix3 0 r l) : EReal) = if h : 4 ≤ r.val then aK m c ⟨4 * (seq t).val + (r.val - 4), by have := (seq t).isLt; omega⟩ l else 0 := by
  have i0 := (idx0 t).2.1
  have e : ((cfg0.win 1).blk t).view.emb (ix3 0 r l) = (ix3 (seq t) r l : S32x8x512.Idx) := by
    blk_ext [i0]
  refine (congrArg (V m c (Pipeline.arrRef spec0 1)) e).trans ?_
  show V m c main_v7 _ = _
  entry_read
  exact padded_at _ (seq t) r l

set_option maxHeartbeats 1600000 in
/-- The block of log decays at a point. -/
theorem blk2 (c : Dev nD) (t : Fin cfg0.N) (r : Fin 8) (l : Fin 512) :
    (iblk m c 2 t (ix3 0 r l) : EReal) = if h : 4 ≤ r.val then aL m c ⟨4 * (seq t).val + (r.val - 4), by have := (seq t).isLt; omega⟩ l else 0 := by
  have i0 := (idx0 t).2.2.1
  have e : ((cfg0.win 2).blk t).view.emb (ix3 0 r l) = (ix3 (seq t) r l : S32x8x512.Idx) := by
    blk_ext [i0]
  refine (congrArg (V m c (Pipeline.arrRef spec0 2)) e).trans ?_
  show V m c main_v9 _ = _
  entry_read
  exact padded_at _ (seq t) r l

set_option maxHeartbeats 1600000 in
/-- The block of values at a point. -/
theorem blk3 (c : Dev nD) (t : Fin cfg0.N) (r : Fin 8) (l : Fin 512) :
    (iblk m c 3 t (ix3 0 r l) : EReal) = if h : 4 ≤ r.val then aV m c ⟨4 * (seq t).val + (r.val - 4), by have := (seq t).isLt; omega⟩ l else 0 := by
  have i0 := (idx0 t).2.2.2.1
  have e : ((cfg0.win 3).blk t).view.emb (ix3 0 r l) = (ix3 (seq t) r l : S32x8x512.Idx) := by
    blk_ext [i0]
  refine (congrArg (V m c (Pipeline.arrRef spec0 3)) e).trans ?_
  show V m c main_v11 _ = _
  entry_read
  exact padded_at _ (seq t) r l

set_option maxHeartbeats 1600000 in
/-- The block of gates at a point. -/
theorem blk4 (c : Dev nD) (t : Fin cfg0.N) (r : Fin 8) (l : Fin 512) :
    (iblk m c 4 t (ix3 0 r l) : EReal) = if h : 4 ≤ r.val then aG m c ⟨4 * (seq t).val + (r.val - 4), by have := (seq t).isLt; omega⟩ l else 0 := by
  have i0 := (idx0 t).2.2.2.2.1
  have e : ((cfg0.win 4).blk t).view.emb (ix3 0 r l) = (ix3 (seq t) r l : S32x8x512.Idx) := by
    blk_ext [i0]
  refine (congrArg (V m c (Pipeline.arrRef spec0 4)) e).trans ?_
  show V m c main_v13 _ = _
  entry_read
  exact padded_at _ (seq t) r l

set_option maxHeartbeats 1600000 in
/-- The gain's block at a point. -/
theorem blk5 (c : Dev nD) (t : Fin cfg0.N) (j : Fin 128) : (iblk m c 5 t (ix2 0 j) : EReal) = aN m c j := by
  have i0 := (idx0 t).2.2.2.2.2.2.1
  have e : ((cfg0.win 5).blk t).view.emb (ix2 0 j) = (ix2 0 j : S1x128.Idx) := by
    blk_ext [i0]
  refine (congrArg (V m c (Pipeline.arrRef spec0 5)) e).trans ?_
  show V m c main_v1 _ = _
  dsimp only [V]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_reads_at

set_option maxHeartbeats 1600000 in
/-- The given state's block at a point. -/
theorem blk6 (c : Dev nD) (t : Fin cfg0.N) (h : Fin 4) (i j : Fin 128) : (iblk m c 6 t (ix4 0 h i j) : EReal) = aS m c (seq t) h i j := by
  have i0 := (idx0 t).2.2.2.2.2.2.2.1
  have e : ((cfg0.win 6).blk t).view.emb (ix4 0 h i j) = (ix4 (seq t) h i j : S32x4x128x128.Idx) := by
    blk_ext [i0]
  refine (congrArg (V m c (Pipeline.arrRef spec0 6)) e).trans ?_
  show V m c main_v3 _ = _
  dsimp only [V]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_reads_at
  pointwise
  rfl

/-- A head's lanes of the block of queries. -/
theorem hm0 (c : Dev nD) (t : Fin cfg0.N) (h : Fin 4) : hm (iblk m c 0 t) h = front (seqOf (aQ m c) (seq t) h) := by
  funext r k
  exact blk0 m c t r ⟨128 * h.val + k.val, by omega⟩

/-- A head's lanes of the block of keys. -/
theorem hm1 (c : Dev nD) (t : Fin cfg0.N) (h : Fin 4) : hm (iblk m c 1 t) h = front (seqOf (aK m c) (seq t) h) := by
  funext r k
  exact blk1 m c t r ⟨128 * h.val + k.val, by omega⟩

/-- A head's lanes of the block of log decays. -/
theorem hm2 (c : Dev nD) (t : Fin cfg0.N) (h : Fin 4) : hm (iblk m c 2 t) h = front (seqOf (aL m c) (seq t) h) := by
  funext r k
  exact blk2 m c t r ⟨128 * h.val + k.val, by omega⟩

/-- A head's lanes of the block of values. -/
theorem hm3 (c : Dev nD) (t : Fin cfg0.N) (h : Fin 4) : hm (iblk m c 3 t) h = front (seqOf (aV m c) (seq t) h) := by
  funext r k
  exact blk3 m c t r ⟨128 * h.val + k.val, by omega⟩

/-- The state that a point starts from. -/
theorem st0 (c : Dev nD) (t : Fin cfg0.N) (h : Fin 4) : hs (k0_pay3 (iblk m c 6 t)) h = aS m c (seq t) h := by
  funext i j
  show k0_pay3 (F := Ideal) (iblk m c 6 t) (ix3 h i j) = _
  refine Eq.trans ?_ (blk6 m c t h i j)
  pointwise [k0_pay3]

/-- The last state as the state array's block. -/
theorem pay2_at (x : Vec Ideal S4x128x128 .f32) (h : Fin 4) (i j : Fin 128) : k0_pay2 x (ix4 0 h i j) = hs x h i j := by
  show _ = x (ix3 h i j)
  pointwise [k0_pay2]

/-- What a point's output block holds. -/
theorem outB_at (c : Dev nD) (t : Fin cfg0.N) (r : Fin 8) (l : Fin 512) :
    outB (iblk m c 0 t) (iblk m c 1 t) (iblk m c 2 t) (iblk m c 3 t) (iblk m c 4 t) (iblk m c 5 t) (k0_pay3 (iblk m c 6 t)) (ix3 0 r l) =
      outRow (aQ m c) (aK m c) (aL m c) (aV m c) (aG m c) (aN m c) (aS m c) (seq t) r l := by
  unfold outB
  show normS (outS (hm _ ⟨l.val / 128, _⟩) (hm _ ⟨l.val / 128, _⟩) (hm _ ⟨l.val / 128, _⟩) (cumS (hm _ ⟨l.val / 128, _⟩)) (hs _ ⟨l.val / 128, _⟩) r)
    _ ⟨l.val % 128, _⟩ * iblk m c 4 t (ix3 0 r l) = _
  have hN : (fun j => (iblk m c 5 t (ix2 0 j) : EReal)) = aN m c := funext (blk5 m c t)
  rw [hm0, hm1, hm2, hm3, st0, blk4, cum_front, out_front, hN]
  unfold outRow
  by_cases h : 4 ≤ r.val
  · rw [dif_pos h, dif_pos h]
    congr 2
    funext k
    exact front_hi _ r ⟨r.val - 4, by omega⟩ (by show r.val = 4 + (r.val - 4); omega) k
  · rw [dif_neg h, dif_neg h, mul_zero]

/-- What a point's state block holds. -/
theorem stB_at (c : Dev nD) (t : Fin cfg0.N) (h : Fin 4) (i j : Fin 128) :
    k0_pay2 (stB (iblk m c 1 t) (iblk m c 2 t) (iblk m c 3 t) (k0_pay3 (iblk m c 6 t))) (ix4 0 h i j) = stRow (aK m c) (aL m c) (aV m c) (aS m c) (seq t) h i j := by
  rw [pay2_at]
  show nextOf 7 (hm _ h) (hm _ h) (cumS (hm _ h)) (hs _ h) i j = _
  rw [hm1, hm2, hm3, st0, cum_front, next_front]
  rfl

/-- Every point writes its blocks back. -/
theorem flush_all : ∀ t : Fin cfg0.N, (cfg0.win 7).flush t = true ∧ (cfg0.win 8).flush t = true :=
  (by decide +kernel : ∀ t : Fin grid0.N, win0_7.flush t = true ∧ win0_8.flush t = true)

/-- The point of a sequence. -/
def pt (b : Fin 32) : Fin cfg0.N := ⟨b.val, lt_of_lt_of_eq b.isLt N_0.symm⟩

/-- The output array after the run. -/
theorem arr7 (c : Dev nD) (b : Fin 32) (r : Fin 8) (l : Fin 512) :
    ((dats m 0 c).arrAt 7 cfg0.N (ix3 b r l) : EReal) = outRow (aQ m c) (aK m c) (aL m c) (aV m c) (aG m c) (aN m c) (aS m c) b r l := by
  have h := congrFun ((Value.blocks7 m c (pt b) (flush_all (pt b)).1).trans (Value.flushed7_A m c (pt b))) (ix3 0 r l)
  rw [out_A, outP_canon] at h
  have i0 := (idx0 (pt b)).2.2.2.2.2.1
  have e : ((cfg0.win 7).blk (pt b)).view.emb (ix3 0 r l) = (ix3 (seq (pt b)) r l : S32x8x512.Idx) := by
    blk_ext [i0]
  exact ((congrArg ((dats m 0 c).arrAt 7 cfg0.N) e).symm.trans h).trans (outB_at m c (pt b) r l)

/-- The state array after the run. -/
theorem arr8 (c : Dev nD) (b : Fin 32) (h : Fin 4) (i j : Fin 128) :
    ((dats m 0 c).arrAt 8 cfg0.N (ix4 b h i j) : EReal) = stRow (aK m c) (aL m c) (aV m c) (aS m c) b h i j := by
  have hh := congrFun ((Value.blocks8 m c (pt b) (flush_all (pt b)).2).trans (Value.flushed8_A m c (pt b))) (ix4 0 h i j)
  rw [fin_A, stP_canon] at hh
  have i0 := (idx0 (pt b)).2.2.2.2.2.2.2.2
  have e : ((cfg0.win 8).blk (pt b)).view.emb (ix4 0 h i j) = (ix4 (seq (pt b)) h i j : S32x4x128x128.Idx) := by
    blk_ext [i0]
  exact ((congrArg ((dats m 0 c).arrAt 8 cfg0.N) e).symm.trans hh).trans (stB_at m c (pt b) h i j)

end Cert.Kernel6Ideal.Head

end
-- ==== Proof.SampRecRef.lean ====
/- The samples' recurrence as the reference writes it: its output and its state at an index, over the extended reals. -/
module

public import Idealize.ShloMosaic.Lib.Pointwise
public import proofs.«01_k».proof.Proof.Gen.Reference6Ideal.Run
public import proofs.«01_k».proof.Proof.SampRecSpec

@[expose] public section
set_option maxRecDepth 16384

noncomputable section

namespace Cert.Reference6Ideal.Rec

open Idealize.ShloMosaic Idealize.ShloMosaic.StableHlo Idealize.ShloMosaic.Pointwise Idealize.ShloMosaic.TcCoe Cert.Reference6Ideal Cert.Reference6Ideal.Gen Cert.Reference6Ideal.Value Cert.Hgrn

/-- A fold of additions is a sum. -/
theorem foldl_sum {N : ℕ} (f : Fin N → EReal) (v : EReal) : (List.finRange N).foldl (fun r n => r + f n) v = v + ∑ n : Fin N, f n := by
  rw [Fin.sum_univ_def]
  generalize List.finRange N = l
  induction l generalizing v with
  | nil => simp
  | cons a l ih => rw [List.foldl_cons, ih, List.map_cons, List.sum_cons, add_assoc]

/-- The window's places, numbered. -/
theorem place : ∀ n : Fin (⟨4, ![1, 1, 4, 1]⟩ : Shape).numel, ∀ a : Fin 4,
    ((⟨4, ![1, 1, 4, 1]⟩ : Shape).rowMajor.symm n a).val = (![0, 0, n.val, 0] : Fin 4 → ℕ) a := by
  decide +kernel

/-- The window sum over all the rows up to a row is the cumulative sum. -/
theorem window_at (x : FVec Ideal S32x4x4x128 .f32) (init : FVec Ideal S_ .f32) (h) (hu) (h0 : init (Shape.Idx.first hu) = (0 : EReal))
    (c : Fin 32) (b t : Fin 4) (k : Fin 128) :
    Host.reduceWindowAdd ![1, 1, 4, 1] ![1, 1, 1, 1] ![0, 0, 3, 0] ![0, 0, 0, 0] x init h hu (ix4 c b t k : S32x4x4x128.Idx) =
      cumS (fun t k => x (ix4 c b t k)) t k := by
  have hnum : (⟨4, ![1, 1, 4, 1]⟩ : Shape).numel = 4 := by decide +kernel
  unfold Host.reduceWindowAdd
  rw [Ideal.hostReduceWindowAdd_def, h0]
  unfold Ideal.hostReduceWindowAdd Host.reduceWindow
  refine (foldl_sum _ _).trans ?_
  rw [zero_add]
  have hsum : ∀ F : Fin (⟨4, ![1, 1, 4, 1]⟩ : Shape).numel → EReal,
      (∀ n, F n = (fun n => if 3 - n ≤ t.val then ext (fun s => x (ix4 c b s k)) (t.val - (3 - n)) else 0) n.val) → ∑ n, F n = cumS (fun t k => x (ix4 c b t k)) t k := by
    intro F hF
    rw [Finset.sum_congr rfl fun n _ => hF n]
    refine (Fin.sum_univ_eq_sum_range (fun n : ℕ => if 3 - n ≤ t.val then ext (fun s => x (ix4 c b s k)) (t.val - (3 - n)) else 0) _).trans ?_
    rw [hnum, ← win_cum, ← Finset.sum_range_reflect]
    unfold win
    refine Finset.sum_congr rfl fun n hn => ?_
    rw [Finset.mem_range] at hn
    have e : 3 - (4 - 1 - n) = n := by omega
    rw [e]
  refine hsum _ fun n => ?_
  have hn : n.val < 4 := lt_of_lt_of_eq n.isLt hnum
  have hp := place n
  have hp0 := hp 0
  have hp1 := hp 1
  have hp2 := hp 2
  have hp3 := hp 3
  simp only [Matrix.cons_val] at hp0 hp1 hp2 hp3
  have ht := t.isLt
  have hb := b.isLt
  have hc := c.isLt
  have hk := k.isLt
  by_cases h1 : 3 - n.val ≤ t.val
  · have hlt : t.val - (3 - n.val) < 4 := by omega
    simp only [h1, if_true, ext, hlt, dite_true]
    rw [dif_pos]
    · congr 1
      funext a
      apply Fin.ext
      fin_cases a
      · show c.val * 1 + ((⟨4, ![1, 1, 4, 1]⟩ : Shape).rowMajor.symm n 0).val - 0 = c.val
        omega
      · show b.val * 1 + ((⟨4, ![1, 1, 4, 1]⟩ : Shape).rowMajor.symm n 1).val - 0 = b.val
        omega
      · show t.val * 1 + ((⟨4, ![1, 1, 4, 1]⟩ : Shape).rowMajor.symm n 2).val - 3 = t.val - (3 - n.val)
        omega
      · show k.val * 1 + ((⟨4, ![1, 1, 4, 1]⟩ : Shape).rowMajor.symm n 3).val - 0 = k.val
        omega
    · intro a
      fin_cases a
      · show 0 ≤ c.val * 1 + ((⟨4, ![1, 1, 4, 1]⟩ : Shape).rowMajor.symm n 0).val ∧ c.val * 1 + ((⟨4, ![1, 1, 4, 1]⟩ : Shape).rowMajor.symm n 0).val - 0 < 32
        omega
      · show 0 ≤ b.val * 1 + ((⟨4, ![1, 1, 4, 1]⟩ : Shape).rowMajor.symm n 1).val ∧ b.val * 1 + ((⟨4, ![1, 1, 4, 1]⟩ : Shape).rowMajor.symm n 1).val - 0 < 4
        omega
      · show 3 ≤ t.val * 1 + ((⟨4, ![1, 1, 4, 1]⟩ : Shape).rowMajor.symm n 2).val ∧ t.val * 1 + ((⟨4, ![1, 1, 4, 1]⟩ : Shape).rowMajor.symm n 2).val - 3 < 4
        omega
      · show 0 ≤ k.val * 1 + ((⟨4, ![1, 1, 4, 1]⟩ : Shape).rowMajor.symm n 3).val ∧ k.val * 1 + ((⟨4, ![1, 1, 4, 1]⟩ : Shape).rowMajor.symm n 3).val - 0 < 128
        omega
  · simp only [h1, if_false]
    rw [dif_neg]
    intro hin
    have h2 : 3 ≤ t.val * 1 + ((⟨4, ![1, 1, 4, 1]⟩ : Shape).rowMajor.symm n 2).val := (hin 2).1
    omega

/-- The rows by sequence and head. -/
def hd (x : FVec Ideal S128x512 .f32) : FVec Ideal S32x4x4x128 .f32 :=
  transpose S32x4x4x128 [0, 2, 1, 3] (shapeCast _ x shapeCasts_S128x512_S32x4x4x128) transposes_S32x4x4x128_S32x4x4x128_0_2_1_3

/-- The cumulative log decay. -/
def cum (l : FVec Ideal S32x4x4x128 .f32) : FVec Ideal S32x4x4x128 .f32 :=
  Host.reduceWindowAdd ![1, 1, 4, 1] ![1, 1, 1, 1] ![0, 0, 3, 0] ![0, 0, 0, 0] l (broadcastInDim S_ ![] bcast_S_S_ (constant (F := Ideal) S_ .f32 0x00000000#32)) reduceWindows_S32x4x4x128_S32x4x4x128_w1s1p0_0_w1s1p0_0_w4s1p3_0_w1s1p0_0 h_S_

/-- The given state, keys by values. -/
def s0 (a5 : FVec Ideal S1x32x4x128x128 .f32) : FVec Ideal S32x4x128x128 .f32 :=
  shapeCast _ a5 shapeCasts_S1x32x4x128x128_S32x4x128x128

/-- The output before the normalisation. -/
def raw (q : FVec Ideal S32x4x4x128 .f32) (k : FVec Ideal S32x4x4x128 .f32) (v : FVec Ideal S32x4x4x128 .f32) (cum : FVec Ideal S32x4x4x128 .f32) (s0 : FVec Ideal S32x4x128x128 .f32) : FVec Ideal S32x4x4x128 .f32 :=
  addf (Host.dotGeneral dot_S32x4x4x4_S32x4x4x128_S32x4x4x128_3_2_2_3_01_01 none (Host.dotGeneral dot_S32x4x4x128_S32x4x4x4x128_S32x4x4x4_3_4_n_3_012_012 none q (mulf (Host.exp (select (broadcastInDim S32x4x4x4x128 ![2, 3, 4] bcast_S4x4x1_S32x4x4x4x128_2_3_4 (broadcastInDim S4x4x1 ![0, 1] bcast_S4x4_S4x4x1_0_1 (select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))))) (subf (broadcastInDim S32x4x4x4x128 ![0, 1, 2, 3, 4] bcast_S32x4x4x1x128_S32x4x4x4x128_0_1_2_3_4 (broadcastInDim S32x4x4x1x128 ![0, 1, 2, 4] bcast_S32x4x4x128_S32x4x4x1x128_0_1_2_4 cum)) (broadcastInDim S32x4x4x4x128 ![0, 1, 2, 3, 4] bcast_S32x4x1x4x128_S32x4x4x4x128_0_1_2_3_4 (broadcastInDim S32x4x1x4x128 ![0, 1, 3, 4] bcast_S32x4x4x128_S32x4x1x4x128_0_1_3_4 cum))) (broadcastInDim S32x4x4x4x128 ![] bcast_S_S32x4x4x4x128 (id (constant (F := Ideal) S_ .f32 0xFF800000#32))))) (broadcastInDim S32x4x4x4x128 ![0, 1, 2, 3, 4] bcast_S32x4x1x4x128_S32x4x4x4x128_0_1_2_3_4 (broadcastInDim S32x4x1x4x128 ![0, 1, 3, 4] bcast_S32x4x4x128_S32x4x1x4x128_0_1_3_4 k)))) v) (Host.dotGeneral dot_S32x4x4x128_S32x4x128x128_S32x4x4x128_3_2_2_3_01_01 none (mulf q (Host.exp cum)) s0)

/-- The normalised output, by row and head. -/
def nrm (a6 : FVec Ideal S1x128 .f32) (raw : FVec Ideal S32x4x4x128 .f32) : FVec Ideal S32x4x4x128 .f32 :=
  mulf (mulf (transpose S32x4x4x128 [0, 2, 1, 3] raw transposes_S32x4x4x128_S32x4x4x128_0_2_1_3) (broadcastInDim S32x4x4x128 ![0, 1, 2, 3] bcast_S32x4x4x1_S32x4x4x128_0_1_2_3 (Host.rsqrt (addf (Host.divf (broadcastInDim S32x4x4x1 ![0, 1, 2] bcast_S32x4x4_S32x4x4x1_0_1_2 (Host.reduceAdd (mulf (transpose S32x4x4x128 [0, 2, 1, 3] raw transposes_S32x4x4x128_S32x4x4x128_0_2_1_3) (transpose S32x4x4x128 [0, 2, 1, 3] raw transposes_S32x4x4x128_S32x4x4x128_0_2_1_3)) (constant (F := Ideal) S_ .f32 0x00000000#32) reducesTo_S32x4x4x128_S32x4x4_d3 h_S_)) (broadcastInDim S32x4x4x1 ![] bcast_S_S32x4x4x1 (constant (F := Ideal) S_ .f32 0x43000000#32))) (broadcastInDim S32x4x4x1 ![] bcast_S_S32x4x4x1 (constant (F := Ideal) S_ .f32 0x358637BD#32)))))) (broadcastInDim S32x4x4x128 ![0, 1, 2, 3] bcast_S1x1x1x128_S32x4x4x128_0_1_2_3 (broadcastInDim S1x1x1x128 ![3] bcast_S128_S1x1x1x128_3 (shapeCast _ a6 shapeCasts_S1x128_S128)))

/-- The gated output after four rows of zeros. -/
def v59 (a4 : FVec Ideal S128x512 .f32) (nrm : FVec Ideal S32x4x4x128 .f32) : FVec Ideal S32x8x512 .f32 :=
  pad S32x8x512 ![0, 4, 0] ![0, 0, 0] ![0, 0, 0] (shapeCast _ (mulf nrm (shapeCast _ a4 shapeCasts_S128x512_S32x4x4x128)) shapeCasts_S32x4x4x128_S32x4x512) (sitofp .f32 (constantI S_ 32 0#32)) pads_S32x4x512_S32x8x512_000_400_000 h_S_

/-- The state after the rows. -/
def v60 (k : FVec Ideal S32x4x4x128 .f32) (v : FVec Ideal S32x4x4x128 .f32) (cum : FVec Ideal S32x4x4x128 .f32) (s0 : FVec Ideal S32x4x128x128 .f32) : FVec Ideal S32x4x128x128 .f32 :=
  transpose S32x4x128x128 [0, 1, 3, 2] (addf (mulf (broadcastInDim S32x4x128x128 ![0, 1, 2, 3] bcast_S32x4x128x1_S32x4x128x128_0_1_2_3 (broadcastInDim S32x4x128x1 ![0, 1, 2] bcast_S32x4x128_S32x4x128x1_0_1_2 (Host.exp (shapeCast _ (extractStridedSlice S32x4x1x128 ![0, 0, 3, 0] cum slices_S32x4x4x128_S32x4x1x128_0_0_3_0) shapeCasts_S32x4x1x128_S32x4x128)))) s0) (Host.dotGeneral dot_S32x4x4x128_S32x4x4x128_S32x4x128x128_2_2_3_3_01_01 none (mulf k (Host.exp (subf (broadcastInDim S32x4x4x128 ![0, 1, 2, 3] bcast_S32x4x1x128_S32x4x4x128_0_1_2_3 (extractStridedSlice S32x4x1x128 ![0, 0, 3, 0] cum slices_S32x4x4x128_S32x4x1x128_0_0_3_0)) cum))) v)) transposes_S32x4x128x128_S32x4x128x128_0_1_3_2

/-- The rows of an argument. -/
abbrev rows (x : FVec Ideal S128x512 .f32) : Rows := fun r l => x (ix2 r l)

/-- The given state, values by keys. -/
abbrev stt (x : FVec Ideal S1x32x4x128x128 .f32) (b : Fin 32) (h : Fin 4) : Sq := fun c k => x (ix5 0 b h k c)

/-- The gain. -/
abbrev gn (x : FVec Ideal S1x128 .f32) : Fin 128 → EReal := fun j => x (ix2 0 j)

/-- The rows by sequence and head, at an index. -/
theorem hd_at (x : FVec Ideal S128x512 .f32) (b : Fin 32) (h t : Fin 4) (k : Fin 128) : (hd x (ix4 b h t k) : EReal) = seqOf (rows x) b h t k := by
  pointwise [hd]
  show x (ix2 _ _) = x (ix2 _ _)
  congr 2 <;> exact Fin.ext (by simp only []; omega)

/-- The bits of the lowest value. -/
theorem bits_bot : Ideal.ofBits .f32 0xFF800000#32 = ⊥ := by simp [Ideal.ofBits, Ideal.ieee]

/-- A masked entry's exponential. -/
theorem masked (z : EReal) : Ideal.exp (Scalar.select (BitVec.ofBool false) z (id (constant (F := Ideal) S_ FTy.f32 4286578688#32) ix0)) = (0 : EReal) :=
  (congrArg Ideal.exp bits_bot).trans Ideal.exp_bot

/-- The comparison of two rows, as a bit. -/
theorem mask_bits : ∀ t s : Fin 4, Scalar.select (IntOp.cmpi CmpIPredicate.sge (IntOp.addi (BitVec.ofNat 32 t.val) 0#32) (BitVec.ofNat 32 s.val)) 1#1 0#1 = BitVec.ofBool (decide (s.val ≤ t.val)) := by
  decide +kernel

section
variable (Q K L V G : Rows) (S : Fin 32 → Fin 4 → Sq) (gain : Fin 128 → EReal)

/-- The cumulative log decay at an index. -/
theorem cum_at (l : FVec Ideal S32x4x4x128 .f32) (hl : ∀ b h t k, l (ix4 b h t k) = seqOf L b h t k) (b : Fin 32) (h t : Fin 4) (k : Fin 128) :
    (cum l (ix4 b h t k) : EReal) = cumS (seqOf L b h) t k := by
  unfold cum
  refine (window_at _ _ _ _ Ideal.ofBits_zero_f32 b h t k).trans ?_
  congr 1
  funext t k
  exact hl b h t k

/-- The given state at an index. -/
theorem s0_at (a5 : FVec Ideal S1x32x4x128x128 .f32) (b : Fin 32) (h : Fin 4) (k c : Fin 128) : (s0 a5 (ix4 b h k c) : EReal) = stt a5 b h c k := by
  pointwise [s0]

/-- The output before the normalisation, at an index. -/
theorem raw_at (q : FVec Ideal S32x4x4x128 .f32) (k : FVec Ideal S32x4x4x128 .f32) (v : FVec Ideal S32x4x4x128 .f32) (cum : FVec Ideal S32x4x4x128 .f32) (s0 : FVec Ideal S32x4x128x128 .f32) (hq : ∀ b h t k, q (ix4 b h t k) = seqOf Q b h t k) (hk : ∀ b h t i, k (ix4 b h t i) = seqOf K b h t i) (hv : ∀ b h t k, v (ix4 b h t k) = seqOf V b h t k)
    (hb : ∀ b h t k, cum (ix4 b h t k) = cumS (seqOf L b h) t k) (hS : ∀ b h k c, s0 (ix4 b h k c) = S b h c k) (b : Fin 32) (h t : Fin 4) (c : Fin 128) :
    (raw q k v cum s0 (ix4 b h t c) : EReal) = outS (seqOf Q b h) (seqOf K b h) (seqOf V b h) (cumS (seqOf L b h)) (S b h) t c := by
  pointwise [raw]
  unfold outS
  refine congrArg₂ (· + ·) (Finset.sum_congr rfl fun s _ => ?_) (Finset.sum_congr rfl fun i _ => ?_)
  · rw [mask_bits t s, hv]
    by_cases hs : s ≤ t
    · rw [if_pos hs]
      refine congrArg (· * _) (Finset.sum_congr rfl fun i _ => ?_)
      rw [decide_eq_true (show s.val ≤ t.val from hs), hq, hk, hb, hb]
      rfl
    · rw [if_neg hs, decide_eq_false (show ¬s.val ≤ t.val from hs)]
      refine (congrArg (· * _) (Finset.sum_eq_zero fun i _ => ?_)).trans (zero_mul _)
      rw [masked, zero_mul, mul_zero]
  · rw [hq, hb, hS]

/-- The normalised output at an index. -/
theorem nrm_at (a6 : FVec Ideal S1x128 .f32) (raw : FVec Ideal S32x4x4x128 .f32) (hr : ∀ b h t c, raw (ix4 b h t c) = outS (seqOf Q b h) (seqOf K b h) (seqOf V b h) (cumS (seqOf L b h)) (S b h) t c)
    (hg : ∀ j, a6 (ix2 0 j) = gain j) (b : Fin 32) (t h : Fin 4) (c : Fin 128) :
    (nrm a6 raw (ix4 b t h c) : EReal) = normS (outS (seqOf Q b h) (seqOf K b h) (seqOf V b h) (cumS (seqOf L b h)) (S b h) t) gain c := by
  pointwise [nrm]
  simp only [hr, hg]
  rfl

/-- The gated output at an index. -/
theorem v59_at (a4 : FVec Ideal S128x512 .f32) (nrm : FVec Ideal S32x4x4x128 .f32) (hn : ∀ b t h c, nrm (ix4 b t h c) = normS (outS (seqOf Q b h) (seqOf K b h) (seqOf V b h) (cumS (seqOf L b h)) (S b h) t) gain c)
    (hg : ∀ r l, a4 (ix2 r l) = G r l) (b : Fin 32) (r : Fin 8) (l : Fin 512) :
    (v59 a4 nrm (ix3 b r l) : EReal) = outRow Q K L V G gain S b r l := by
  pointwise [v59]
  unfold outRow
  by_cases h : 4 ≤ r.val
  · rw [dif_pos h, dif_pos ⟨h, by omega⟩]
    simp only [hn, hg]
    refine congrArg₂ (· * ·) rfl ?_
    congr 1
    exact Fin.ext (by simp only []; omega)
  · rw [dif_neg h, dif_neg (fun e => h e.1)]
    show (((0#32 : BitVec 32).toInt : ℝ) : EReal) = 0
    simp

/-- The state at an index. -/
theorem v60_at (k : FVec Ideal S32x4x4x128 .f32) (v : FVec Ideal S32x4x4x128 .f32) (cum : FVec Ideal S32x4x4x128 .f32) (s0 : FVec Ideal S32x4x128x128 .f32) (hk : ∀ b h t i, k (ix4 b h t i) = seqOf K b h t i) (hv : ∀ b h t k, v (ix4 b h t k) = seqOf V b h t k)
    (hb : ∀ b h t k, cum (ix4 b h t k) = cumS (seqOf L b h) t k) (hS : ∀ b h k c, s0 (ix4 b h k c) = S b h c k) (b : Fin 32) (h : Fin 4) (c i : Fin 128) :
    (v60 k v cum s0 (ix4 b h c i) : EReal) = stRow K L V S b h c i := by
  pointwise [v60]
  unfold stRow nextOf
  rw [mul_comm]
  refine congrArg₂ (· + ·) (congrArg₂ (· * ·) (hS _ _ _ _) (congrArg Ideal.exp (hb _ _ _ _))) (Finset.sum_congr rfl fun x _ => ?_)
  rw [hk, hb, hb, hv, mul_comm]

end

section
variable (a0 a1 a2 a3 a4 : FVec Ideal S128x512 .f32) (a5 : FVec Ideal S1x32x4x128x128 .f32) (a6 : FVec Ideal S1x128 .f32)

/-- The output of the arguments. -/
theorem out_mk (b : Fin 32) (r : Fin 8) (l : Fin 512) :
    ((v59 a4 (nrm a6 (raw (hd a0) (hd a1) (hd a3) (cum (hd a2)) (s0 a5)))) (ix3 b r l) : EReal) = outRow (rows a0) (rows a1) (rows a2) (rows a3) (rows a4) (gn a6) (stt a5) b r l :=
  v59_at (rows a0) (rows a1) (rows a2) (rows a3) (rows a4) (stt a5) (gn a6) (hn := nrm_at (rows a0) (rows a1) (rows a2) (rows a3) (stt a5) (gn a6)
    (hr := raw_at (rows a0) (rows a1) (rows a2) (rows a3) (stt a5) (hq := hd_at a0) (hk := hd_at a1) (hv := hd_at a3) (hb := cum_at (rows a2) (hl := hd_at a2)) (hS := s0_at a5))
    (hg := fun _ => rfl)) (hg := fun _ _ => rfl) (b := b) (r := r) (l := l)

/-- The state of the arguments. -/
theorem st_mk (b : Fin 32) (h : Fin 4) (c i : Fin 128) :
    ((v60 (hd a1) (hd a3) (cum (hd a2)) (s0 a5)) (ix4 b h c i) : EReal) = stRow (rows a1) (rows a2) (rows a3) (stt a5) b h c i :=
  v60_at (rows a1) (rows a2) (rows a3) (stt a5) (hk := hd_at a1) (hv := hd_at a3) (hb := cum_at (rows a2) (hl := hd_at a2)) (hS := s0_at a5) (b := b) (h := h) (c := c) (i := i)

end

variable (m : (ℓ : Loc nD τ sig) → Buf (Elt Ideal) ℓ)

/-- The reference's first result is the last of these. -/
theorem res_eq (c : Dev nD) : res_main_v59 m c = (v59 (m ((c.tc : Thread nD τ).loc main_arg4)) (nrm (m ((c.tc : Thread nD τ).loc main_arg6)) (raw (hd (m ((c.tc : Thread nD τ).loc main_arg0))) (hd (m ((c.tc : Thread nD τ).loc main_arg1))) (hd (m ((c.tc : Thread nD τ).loc main_arg3))) (cum (hd (m ((c.tc : Thread nD τ).loc main_arg2)))) (s0 (m ((c.tc : Thread nD τ).loc main_arg5)))))) := rfl

/-- The reference's first result at an index. -/
theorem ref_out (c : Dev nD) (b : Fin 32) (r : Fin 8) (l : Fin 512) :
    (res_main_v59 m c (ix3 b r l) : EReal) = outRow (rows (m ((c.tc : Thread nD τ).loc main_arg0))) (rows (m ((c.tc : Thread nD τ).loc main_arg1))) (rows (m ((c.tc : Thread nD τ).loc main_arg2))) (rows (m ((c.tc : Thread nD τ).loc main_arg3))) (rows (m ((c.tc : Thread nD τ).loc main_arg4))) (gn (m ((c.tc : Thread nD τ).loc main_arg6))) (stt (m ((c.tc : Thread nD τ).loc main_arg5))) b r l :=
  (congrFun (res_eq m c) (ix3 b r l)).trans (out_mk _ _ _ _ _ _ _ b r l)

end Cert.Reference6Ideal.Rec

end
-- ==== Proof.SampRecurrence.lean ====
/- The samples' recurrence: the kernel's run and the reference's end with the same two arrays, over the extended reals. -/
module

public import proofs.«01_k».proof.Defs
public import proofs.«01_k».proof.Proof.SampRecValue
public import proofs.«01_k».proof.Proof.SampRecRef

@[expose] public section
set_option maxRecDepth 16384

noncomputable section

namespace Cert.Proof

open Idealize.ShloMosaic Idealize.ShloMosaic.StableHlo Idealize.ShloMosaic.Pointwise Idealize.SL.Sem

/-- The reference's frame. -/
theorem frame_r6 : Cert.quiescent_Reference6Ideal := fun m ρ _ =>
  (θ_run (Cert.Reference6Ideal.defs (F := Ideal)) _ _).mono (fun r h => ⟨fun c => (h c).2.2, sem_eq_zero_of_no_sems (by decide) r.2⟩)
    (Cert.Reference6Ideal.Value.run (F := Ideal) m ρ)

set_option maxHeartbeats 4000000 in
/-- The kernel and the reference end with equal arrays. -/
theorem sampleRecurrence : Cert.algebraic_Kernel6Ideal_Reference6Ideal := by
  intro m g m' g' _ ha
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N,
    Cert.Kernel6Ideal.Value.run_blocks m g, ?_⟩
  refine (θ_run (Cert.Reference6Ideal.defs (F := Ideal)) _ _).mono (fun r h c => ?_) (Cert.Reference6Ideal.Value.run (F := Ideal) m' g')
  obtain ⟨h0, h1, hf⟩ := h c
  obtain ⟨a0, a1, a2, a3, a4, a5, a6⟩ := ha c
  have e0 : Cert.Reference6Ideal.Rec.rows (m' ((c.tc : Thread Cert.Reference6Ideal.nD Cert.Reference6Ideal.τ).loc Cert.Reference6Ideal.main_arg0)) = Cert.Kernel6Ideal.Head.aQ m c := congrArg Cert.Kernel6Ideal.Head.arr a0
  have e1 : Cert.Reference6Ideal.Rec.rows (m' ((c.tc : Thread Cert.Reference6Ideal.nD Cert.Reference6Ideal.τ).loc Cert.Reference6Ideal.main_arg1)) = Cert.Kernel6Ideal.Head.aK m c := congrArg Cert.Kernel6Ideal.Head.arr a1
  have e2 : Cert.Reference6Ideal.Rec.rows (m' ((c.tc : Thread Cert.Reference6Ideal.nD Cert.Reference6Ideal.τ).loc Cert.Reference6Ideal.main_arg2)) = Cert.Kernel6Ideal.Head.aL m c := congrArg Cert.Kernel6Ideal.Head.arr a2
  have e3 : Cert.Reference6Ideal.Rec.rows (m' ((c.tc : Thread Cert.Reference6Ideal.nD Cert.Reference6Ideal.τ).loc Cert.Reference6Ideal.main_arg3)) = Cert.Kernel6Ideal.Head.aV m c := congrArg Cert.Kernel6Ideal.Head.arr a3
  have e4 : Cert.Reference6Ideal.Rec.rows (m' ((c.tc : Thread Cert.Reference6Ideal.nD Cert.Reference6Ideal.τ).loc Cert.Reference6Ideal.main_arg4)) = Cert.Kernel6Ideal.Head.aG m c := congrArg Cert.Kernel6Ideal.Head.arr a4
  have e5 : Cert.Reference6Ideal.Rec.stt (m' ((c.tc : Thread Cert.Reference6Ideal.nD Cert.Reference6Ideal.τ).loc Cert.Reference6Ideal.main_arg5)) = Cert.Kernel6Ideal.Head.aS m c := congrArg Cert.Kernel6Ideal.Head.arrS a5
  have e6 : Cert.Reference6Ideal.Rec.gn (m' ((c.tc : Thread Cert.Reference6Ideal.nD Cert.Reference6Ideal.τ).loc Cert.Reference6Ideal.main_arg6)) = Cert.Kernel6Ideal.Head.aN m c := congrArg Cert.Kernel6Ideal.Head.arrN a6
  refine ⟨h0.trans ?_, h1.trans ?_, hf⟩
  · funext i
    change Cert.Reference6Ideal.S32x8x512.Idx at i
    idx_vars i
    refine (Cert.Reference6Ideal.Rec.ref_out m' c _ _ _).trans ?_
    rw [e0, e1, e2, e3, e4, e5, e6]
    exact (Cert.Kernel6Ideal.Head.arr7 m c _ _ _).symm
  · refine Eq.trans (b := (Cert.Reference6Ideal.Rec.v60 (Cert.Reference6Ideal.Rec.hd (m' ((c.tc : Thread Cert.Reference6Ideal.nD Cert.Reference6Ideal.τ).loc Cert.Reference6Ideal.main_arg1))) (Cert.Reference6Ideal.Rec.hd (m' ((c.tc : Thread Cert.Reference6Ideal.nD Cert.Reference6Ideal.τ).loc Cert.Reference6Ideal.main_arg3))) (Cert.Reference6Ideal.Rec.cum (Cert.Reference6Ideal.Rec.hd (m' ((c.tc : Thread Cert.Reference6Ideal.nD Cert.Reference6Ideal.τ).loc Cert.Reference6Ideal.main_arg2)))) (Cert.Reference6Ideal.Rec.s0 (m' ((c.tc : Thread Cert.Reference6Ideal.nD Cert.Reference6Ideal.τ).loc Cert.Reference6Ideal.main_arg5))))) rfl ?_
    funext i
    change Cert.Reference6Ideal.S32x4x128x128.Idx at i
    idx_vars i
    refine (Cert.Reference6Ideal.Rec.st_mk (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg5)) _ _ _ _).trans ?_
    rw [e1, e2, e3, e5]
    exact (Cert.Kernel6Ideal.Head.arr8 m c _ _ _ _).symm

end Cert.Proof
-- ==== Proof.JoinRun.lean ====
/- The run of the samples' joined input projection and recurrence, with the two results named. -/
module

public import proofs.«01_k».proof.Proof.Gen.Kernel7Ideal.Frame

@[expose] public section
set_option maxRecDepth 16384

noncomputable section

namespace Cert.Kernel7Ideal.Join

open Cert.Kernel7Ideal Cert.Kernel7Ideal.Gen
open Idealize.ShloMosaic Idealize.ShloMosaic.TcCoe Idealize.ShloMosaic.Rounds
open Idealize.ShloMosaic.Pipeline (cellOf)
open Idealize.SL Idealize.SL.RA Idealize.SL.BI Idealize.SL.BI.BIBase Idealize.SL.BI.Laws Idealize.SL.ProofMode Idealize.SL.Sem
open scoped Idealize.SL.BI

variable {F : FTy → Type} [FloatOps F]

/-- The assertions' model. -/
abbrev Mo (F : FTy → Type) [FloatOps F] := MT nD τ sig Unit (Elt F) ℕ (UR sig nD τ) ℕ

variable (m : (ℓ : Loc nD τ sig) → Buf (Elt F) ℓ) (ρ : Dev nD → PrngReg)

/-- What a core holds at the start: the unscoped buffers at the launch contents, and the rest of its state. -/
abbrev atStart (c : Dev nD) : sProp (Mo F) := iprop(StableHlo.held (c : Thread nD τ) (Pipeline.ucRefs τ sig) (W0 m ρ c) ∗ R c)

/-- The two tokens' ownership, as the launch hands it out. -/
theorem tokens : (ownU (initOf (Pipeline.cells cfgs cellOf_inj) (Pipeline.launchToks cfgs cellOf_inj)) : sProp (Mo F))
    ⊢ BI.own (emb₁ (initOf (Pipeline.cells cfgs cellOf_inj) (Pipeline.launchToks cfgs cellOf_inj))) := .rfl

/-- Every core owns nothing more. -/
theorem nothing : (BI.emp : sProp (Mo F)) ⊢ bigSep Finset.univ (fun _ : Dev nD => (BI.emp : sProp (Mo F))) := by
  rw [BI.bigSep_emp_const]

set_option backward.isDefEq.respectTransparency.types false in
/-- Every run ends with the recurrence's two arrays and the arguments as launched: the contents after the last region. -/
theorem run : θ_run defs (onTc (τ := τ) (main (F := F))) ⟨m, fun _ => 0, ρ⟩ (fun r => ∀ c : Dev nD,
      r.2.mem ((c.tc : Thread nD τ).loc main_v72_0) = (dat1 (V16 m ρ) c).arrAt 7 cfg1.N
      ∧ r.2.mem ((c.tc : Thread nD τ).loc main_v72_1) = (dat1 (V16 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Ht
      imodintro
      isplitl [Ht]
      · iapply tokens
        iexact Ht
      iapply nothing
      iempintro)
    (T₀ := atStart m ρ) (Tₙ := Tₙ m ρ)
    (hch := by refine ⟨?_, ?_, ?_, ?_, ?_, ?_, ?_, ?_, ?_, ?_, ?_, ?_, ?_, ?_, ?_, ?_, ?_, ?_⟩ <;> exact fun _ => .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hg, -⟩, -⟩
      imodintro
      isplitl [Hb]
      · iexact Hb
      isplitl [Hg]
      · iexists _
        iexact Hg
      iexists ∅
      iexact Ho)
    (QY := fun c s => ∀ b ∈ Pipeline.ucRefs τ sig, s.mem (((c : Thread nD τ)).1, b) = W17 m ρ c b)
    (hfin := fun c s => by
      iintro ⟨⟨Hb, -⟩, Hs⟩
      unfold StableHlo.held
      imodintro
      iapply (pointsTo_read_all (Pipeline.ucRefs τ sig) (fun b => (((c : Thread nD τ)).1, b)) (W17 m ρ c) s)
      isplitl [Hb] <;> iassumption)
    (hQ := fun s h hz c =>
      ⟨(h c _ (mem_uc main_v72_0 (by decide))).trans (W17_arr m ρ c 7),
       (h c _ (mem_uc main_v72_1 (by decide))).trans (W17_arr m ρ c 8),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c)⟩)

end Cert.Kernel7Ideal.Join
-- ==== Proof.JoinCases.lean ====
/- What the grid points of the samples' joined input projection and recurrence leave in their output blocks: the terms of
   the two calls taken by themselves. -/
module

public import proofs.«01_k».proof.Proof.SampProjCases
public import proofs.«01_k».proof.Proof.SampRecCases
public import proofs.«01_k».proof.Proof.Gen.Kernel7Ideal.Frame

@[expose] public section
set_option maxRecDepth 16384

noncomputable section

namespace Cert.Kernel7Ideal.Join

open Idealize.ShloMosaic Idealize.ShloMosaic.TcCoe Cert.Kernel7Ideal Cert.Kernel7Ideal.Gen

variable {F : FTy → Type} [FloatOps F]

/-- The projection's output block 7, as its call by itself leaves it. -/
theorem pout_7 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = Cert.Kernel4Ideal.Gen.k0_pay5 (Cert.Kernel4Ideal.Gen.k0_pay1 x0 x1) (View.ld x2 (Rect.unit (s := S1024x4224) ![0, 0] S1024x512.size inb_S1024x4224_S1024x512_0_0)) := by
  frame_out
  all_goals first
    | rfl

/-- The projection's output block 8, as its call by itself leaves it. -/
theorem pout_8 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = Cert.Kernel4Ideal.Gen.k0_pay7 x3 (Cert.Kernel4Ideal.Gen.k0_pay1 x0 x1) (View.ld x2 (Rect.unit (s := S1024x4224) ![0, 512] S1024x512.size inb_S1024x4224_S1024x512_0_512)) := by
  frame_out
  all_goals first
    | rfl

/-- The projection's output block 9, as its call by itself leaves it. -/
theorem pout_9 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = Cert.Kernel4Ideal.Gen.k0_pay8 x3 (Cert.Kernel4Ideal.Gen.k0_pay1 x0 x1) (View.ld x2 (Rect.unit (s := S1024x4224) ![0, 512] S1024x512.size inb_S1024x4224_S1024x512_0_512)) := by
  frame_out
  all_goals first
    | rfl

/-- The projection's output block 10, as its call by itself leaves it. -/
theorem pout_10 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = Cert.Kernel4Ideal.Gen.k0_pay9 (Cert.Kernel4Ideal.Gen.k0_pay1 x0 x1) (View.ld x2 (Rect.unit (s := S1024x4224) ![0, 1024] S1024x512.size inb_S1024x4224_S1024x512_0_1024)) := by
  frame_out
  all_goals first
    | rfl

/-- The projection's output block 11, as its call by itself leaves it. -/
theorem pout_11 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S1x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x1024 .bf16) (harg18 : arg18.IsWhole)
    (x0 : Vec F S128x1024 .f32) (x1 : Vec F S1x1024 .f32) (x2 : Vec F S1024x4224 .bf16) (x3 : Vec F S1x512 .f32) (x4 : Vec F S128x128 .f32) (x5 : Vec F S128x128 .f32) (x6 : Vec F S128x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 = Cert.Kernel4Ideal.Gen.k0_pay10 (Cert.Kernel4Ideal.Gen.k0_pay1 x0 x1) (View.ld x2 (Rect.unit (s := S1024x4224) ![0, 1536] S1024x512.size inb_S1024x4224_S1024x512_0_1536)) := by
  frame_out
  all_goals first
    | rfl

/-- The recurrence's output block 7, as its call by itself leaves it. -/
theorem rout_A (c : Dev nD) (i : grid1.Coords) (arg2 : Memref sig .tc .vmem S1x8x512 .f32) (harg2 : arg2.IsWhole) (arg3 : Memref sig .tc .vmem S1x8x512 .f32) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x8x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x8x512 .f32) (harg9 : arg9.IsWhole) (arg10 : Memref sig .tc .vmem S1x4x128x128 .f32) (harg10 : arg10.IsWhole) (arg11 : Memref sig .tc .vmem S4x128x128 .f32) (harg11 : arg11.IsWhole) (hc0 : cond1_0 i) (hc1 : cond1_1 i)
    (x0 : Vec F S1x8x512 .f32) (x1 : Vec F S1x8x512 .f32) (x2 : Vec F S1x8x512 .f32) (x3 : Vec F S1x8x512 .f32) (x4 : Vec F S1x8x512 .f32) (x5 : Vec F S1x128 .f32) (x6 : Vec F S1x4x128x128 .f32) :
    out1_A_7 c i arg2 harg2 arg3 harg3 arg4 harg4 arg5 harg5 arg6 harg6 arg7 harg7 arg8 harg8 arg9 harg9 arg10 harg10 arg11 harg11 hc0 hc1 x0 x1 x2 x3 x4 x5 x6 = View.canon (Cert.Kernel6Ideal.Head.outP x0 x1 x2 x3 x4 x5 (Cert.Kernel6Ideal.Gen.k0_pay3 x6)) := by
  frame_open
  simp (disch := decide) only [↓ View.readCov_skip, ↓ View.readCov_fill, ↓ View.readCov_cons_toLoadRect]
  frame_out
  rw [show k1_pay3 x6 = Cert.Kernel6Ideal.Gen.k0_pay3 x6 from rfl]
  generalize Cert.Kernel6Ideal.Gen.k0_pay3 x6 = z
  rfl

/-- A load of the whole state reads what the stores left. -/
theorem readCov_whole (v : View sig .tc .vmem S4x128x128 .f32) (L : List (View.Piece (Elt F) S4x128x128 .f32)) :
    v.readCov L (Rect.unit (s := S4x128x128) ![0, 0, 0] S4x128x128.size inb_S4x128x128_S4x128x128_0_0_0).toLoadRect = View.canon L := by
  rw [View.readCov_eq_canon']
  exact View.ld_unit_lit' (S := S4x128x128) inb_S4x128x128_S4x128x128_0_0_0 (View.canon L) (by decide)

/-- The recurrence's output block 8, as its call by itself leaves it. -/
theorem rfin_A (c : Dev nD) (i : grid1.Coords) (arg2 : Memref sig .tc .vmem S1x8x512 .f32) (harg2 : arg2.IsWhole) (arg3 : Memref sig .tc .vmem S1x8x512 .f32) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x8x512 .f32) (harg6 : arg6.IsWhole) (arg7 : Memref sig .tc .vmem S1x128 .f32) (harg7 : arg7.IsWhole) (arg8 : Memref sig .tc .vmem S1x4x128x128 .f32) (harg8 : arg8.IsWhole) (arg9 : Memref sig .tc .vmem S1x8x512 .f32) (harg9 : arg9.IsWhole) (arg10 : Memref sig .tc .vmem S1x4x128x128 .f32) (harg10 : arg10.IsWhole) (arg11 : Memref sig .tc .vmem S4x128x128 .f32) (harg11 : arg11.IsWhole) (hc0 : cond1_0 i) (hc1 : cond1_1 i)
    (x0 : Vec F S1x8x512 .f32) (x1 : Vec F S1x8x512 .f32) (x2 : Vec F S1x8x512 .f32) (x3 : Vec F S1x8x512 .f32) (x4 : Vec F S1x8x512 .f32) (x5 : Vec F S1x128 .f32) (x6 : Vec F S1x4x128x128 .f32) :
    out1_A_8 c i arg2 harg2 arg3 harg3 arg4 harg4 arg5 harg5 arg6 harg6 arg7 harg7 arg8 harg8 arg9 harg9 arg10 harg10 arg11 harg11 hc0 hc1 x0 x1 x2 x3 x4 x5 x6 = Cert.Kernel6Ideal.Gen.k0_pay2 (View.canon (Cert.Kernel6Ideal.Head.stP x1 x2 x3 (Cert.Kernel6Ideal.Gen.k0_pay3 x6) ++ [⟨Rect.unit (s := S4x128x128) ![0, 0, 0] S4x128x128.size inb_S4x128x128_S4x128x128_0_0_0, Cert.Kernel6Ideal.Gen.k0_pay3 x6⟩])) := by
  frame_open
  simp (disch := decide) only [↓ View.readCov_skip, ↓ View.readCov_fill, ↓ View.readCov_cons_toLoadRect]
  frame_out
  rw [readCov_whole]
  rw [show k1_pay3 x6 = Cert.Kernel6Ideal.Gen.k0_pay3 x6 from rfl]
  generalize Cert.Kernel6Ideal.Gen.k0_pay3 x6 = z
  rfl

end Cert.Kernel7Ideal.Join
-- ==== Proof.JoinProj.lean ====
/- The first part of the samples' joined program over the extended reals: the five arrays the recurrence starts from, as
   terms of the arguments. -/
module

public import proofs.«01_k».proof.Proof.JoinCases
public import proofs.«01_k».proof.Proof.SampProjValue
public import Idealize.ShloMosaic.Lib.StableHlo.ReadAt

@[expose] public section
set_option maxRecDepth 16384

noncomputable section

namespace Cert.Kernel7Ideal.Join

open Idealize.ShloMosaic Idealize.ShloMosaic.Pointwise Idealize.ShloMosaic.TcCoe Cert.Kernel7Ideal Cert.Kernel7Ideal.Gen Cert.Proj

variable (m : (ℓ : Loc nD τ sig) → Buf (Elt Ideal) ℓ) (ρ : Dev nD → PrngReg)

/-- The activations. -/
abbrev aX (c : Dev nD) : Fin 128 → Fin 1024 → EReal := fun p d => (m ((c : Thread nD τ).loc main_arg0) : FVec Ideal S32x4x1024 .f32) (ix3 ⟨p.val / 4, by omega⟩ ⟨p.val % 4, by omega⟩ d)
/-- The gain. -/
abbrev aG (c : Dev nD) : Fin 1024 → EReal := fun d => (m ((c : Thread nD τ).loc main_arg2) : FVec Ideal S1x1024 .f32) (ix2 0 d)
/-- The weights. -/
abbrev aW (c : Dev nD) : Fin 1024 → Fin 4168 → EReal := fun d j => (m ((c : Thread nD τ).loc main_arg3) : FVec Ideal S1x1024x4168 .f32) (ix3 0 d j)
/-- The lower bound of lane `l`. -/
abbrev aL (c : Dev nD) (l : Fin 512) : EReal := Cert.Kernel4Ideal.Proj.lbV (m ((c : Thread nD τ).loc main_arg4)) (ix1 l)

/-- The block numbers of the projection's input windows. -/
theorem idx0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

set_option maxHeartbeats 1600000 in
/-- The activations block at a point. -/
theorem blk0 (c : Dev nD) (t : Fin cfg0.N) (r : Fin 128) (l : Fin 1024) :
    iblk0 (V5 m ρ) c 0 t (ix2 r l) = aX m c r l := by
  have i0 := (idx0 t).1
  have e : ((cfg0.win 0).blk t).view.emb (ix2 r l) = (ix2 r l : S128x1024.Idx) := by
    blk_ext [i0]
  refine (congrArg (V5 m ρ c (Pipeline.arrRef spec0 0)) e).trans ?_
  show V5 m ρ c main_v20 _ = _
  dsimp only [V5, W5, W4, W3, W2, W1, W0]
  simp only [hostOps0, hostOps0_1, hostOps0_2, hostOps0_3, hostOps0_4, List.flatten_cons, List.flatten_nil, List.append_nil, List.cons_append, List.nil_append]
  after_reads_at

set_option maxHeartbeats 1600000 in
/-- The gain block at a point. -/
theorem blk1 (c : Dev nD) (t : Fin cfg0.N) (l : Fin 1024) :
    iblk0 (V5 m ρ) c 1 t (ix2 0 l) = aG m c l := by
  have i0 := (idx0 t).2.1
  have e : ((cfg0.win 1).blk t).view.emb (ix2 0 l) = (ix2 0 l : S1x1024.Idx) := by
    blk_ext [i0]
  refine (congrArg (V5 m ρ c (Pipeline.arrRef spec0 1)) e).trans ?_
  show V5 m ρ c main_v19 _ = _
  dsimp only [V5, W5, W4, W3, W2, W1, W0]
  simp only [hostOps0, hostOps0_1, hostOps0_2, hostOps0_3, hostOps0_4, List.flatten_cons, List.flatten_nil, List.append_nil, List.cons_append, List.nil_append]
  after_reads_at

set_option maxHeartbeats 1600000 in
/-- The weights block at a point. -/
theorem blk2 (c : Dev nD) (t : Fin cfg0.N) (r : Fin 1024) (l : Fin 4224) :
    iblk0 (V5 m ρ) c 2 t (ix2 r l) = wide (aW m c) r l.val := by
  have i0 := (idx0 t).2.2.1
  have e : ((cfg0.win 2).blk t).view.emb (ix2 r l) = (ix2 r l : S1024x4224.Idx) := by
    blk_ext [i0]
  refine (congrArg (V5 m ρ c (Pipeline.arrRef spec0 2)) e).trans ?_
  show V5 m ρ c main_v17 _ = _
  dsimp only [V5, W5, W4, W3, W2, W1, W0]
  simp only [hostOps0, hostOps0_1, hostOps0_2, hostOps0_3, hostOps0_4, List.flatten_cons, List.flatten_nil, List.append_nil, List.cons_append, List.nil_append]
  after_reads_at
  by_cases h : l.val < 4168
  · rw [dif_pos h, wide, dif_pos h]
  · rw [dif_neg h, wide, dif_neg h]
    exact Cert.Kernel4Ideal.Proj.sitofp_zero

set_option maxHeartbeats 1600000 in
/-- The lower bounds block at a point. -/
theorem blk3 (c : Dev nD) (t : Fin cfg0.N) (l : Fin 512) :
    iblk0 (V5 m ρ) c 3 t (ix2 0 l) = aL m c l := by
  have i0 := (idx0 t).2.2.2.1
  have e : ((cfg0.win 3).blk t).view.emb (ix2 0 l) = (ix2 0 l : S1x512.Idx) := by
    blk_ext [i0]
  refine (congrArg (V5 m ρ c (Pipeline.arrRef spec0 3)) e).trans ?_
  show V5 m ρ c main_v14 _ = _
  dsimp only [V5, W5, W4, W3, W2, W1, W0]
  simp only [hostOps0, hostOps0_1, hostOps0_2, hostOps0_3, hostOps0_4, List.flatten_cons, List.flatten_nil, List.append_nil, List.cons_append, List.nil_append]
  after_reads_simp
  simp only [StableHlo.TRef.ofBuf_toBuf]
  unfold aL Cert.Kernel4Ideal.Proj.lbV Cert.Kernel4Ideal.Proj.lbE
  rfl

set_option maxHeartbeats 1600000 in
/-- The table block 4 at a point. -/
theorem blk4 (c : Dev nD) (t : Fin cfg0.N) (r : Fin 128) (l : Fin 128) :
    iblk0 (V5 m ρ) c 4 t (ix2 r l) = tabC (16384 + r.val % 4) (l.val % 64) := by
  have i0 := (idx0 t).2.2.2.2.1
  have e : ((cfg0.win 4).blk t).view.emb (ix2 r l) = (ix2 r l : S128x128.Idx) := by
    blk_ext [i0]
  refine (congrArg (V5 m ρ c (Pipeline.arrRef spec0 4)) e).trans ?_
  show V5 m ρ c main_v50 _ = _
  dsimp only [V5, W5, W4, W3, W2, W1, W0]
  simp only [hostOps0, hostOps0_1, hostOps0_2, hostOps0_3, hostOps0_4, List.flatten_cons, List.flatten_nil, List.append_nil, List.cons_append, List.nil_append]
  after_reads_at
  after_reads_at
  unfold tabC ang
  simp only [dite_eq_ite, posw]

set_option maxHeartbeats 1600000 in
/-- The table block 5 at a point. -/
theorem blk5 (c : Dev nD) (t : Fin cfg0.N) (r : Fin 128) (l : Fin 128) :
    iblk0 (V5 m ρ) c 5 t (ix2 r l) = tabA (16384 + r.val % 4) (l.val % 64) := by
  have i0 := (idx0 t).2.2.2.2.2.1
  have e : ((cfg0.win 5).blk t).view.emb (ix2 r l) = (ix2 r l : S128x128.Idx) := by
    blk_ext [i0]
  refine (congrArg (V5 m ρ c (Pipeline.arrRef spec0 5)) e).trans ?_
  show V5 m ρ c main_v53 _ = _
  dsimp only [V5, W5, W4, W3, W2, W1, W0]
  simp only [hostOps0, hostOps0_1, hostOps0_2, hostOps0_3, hostOps0_4, List.flatten_cons, List.flatten_nil, List.append_nil, List.cons_append, List.nil_append]
  after_reads_at
  after_reads_at
  unfold tabA ang
  simp only [dite_eq_ite, posw]

set_option maxHeartbeats 1600000 in
/-- The table block 6 at a point. -/
theorem blk6 (c : Dev nD) (t : Fin cfg0.N) (r : Fin 128) (l : Fin 128) :
    iblk0 (V5 m ρ) c 6 t (ix2 r l) = tabB (16384 + r.val % 4) (l.val % 64) := by
  have i0 := (idx0 t).2.2.2.2.2.2
  have e : ((cfg0.win 6).blk t).view.emb (ix2 r l) = (ix2 r l : S128x128.Idx) := by
    blk_ext [i0]
  refine (congrArg (V5 m ρ c (Pipeline.arrRef spec0 6)) e).trans ?_
  show V5 m ρ c main_v56 _ = _
  dsimp only [V5, W5, W4, W3, W2, W1, W0]
  simp only [hostOps0, hostOps0_1, hostOps0_2, hostOps0_3, hostOps0_4, List.flatten_cons, List.flatten_nil, List.append_nil, List.cons_append, List.nil_append]
  after_reads_at
  after_reads_at
  unfold tabB ang
  simp only [dite_eq_ite, posw]

/-- The input blocks of the projection's point. -/
theorem blkAll (c : Dev nD) (t : Fin cfg0.N) (r : Fin 128) :
    Cert.Kernel4Ideal.Proj.Blk (iblk0 (V5 m ρ) c 0 t) (iblk0 (V5 m ρ) c 1 t) (iblk0 (V5 m ρ) c 2 t) (iblk0 (V5 m ρ) c 3 t) (iblk0 (V5 m ρ) c 4 t) (iblk0 (V5 m ρ) c 5 t) (iblk0 (V5 m ρ) c 6 t) (aX m c) (aG m c) (aW m c) (aL m c) r r :=
  ⟨blk0 m ρ c t r, blk1 m ρ c t, blk2 m ρ c t, blk3 m ρ c t, blk4 m ρ c t r, blk5 m ρ c t r, blk6 m ρ c t r⟩

/-- The projection's one point writes its output blocks back. -/
theorem flush0 : ∀ t : Fin cfg0.N, (cfg0.win 7).flush t = true ∧ (cfg0.win 8).flush t = true ∧ (cfg0.win 9).flush t = true ∧ (cfg0.win 10).flush t = true ∧ (cfg0.win 11).flush t = true :=
  (by decide +kernel : ∀ t : Fin grid0.N, _)

/-- The projection's output windows' block numbers. -/
theorem idxO : ∀ t : Fin cfg0.N, (win0_7.index t (0 : Fin 2) = t.val ∧ win0_7.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) ∧ (win0_11.index t (0 : Fin 2) = t.val ∧ win0_11.index t (1 : Fin 2) = 0) :=
  (by decide +kernel : ∀ t : Fin grid0.N, _)

/-- The projection's one point. -/
abbrev p0 : Fin cfg0.N := ⟨0, lt_of_lt_of_eq (by omega : 0 < 1) N_0.symm⟩

/-- There is no other point. -/
theorem one_point (t t' : Fin cfg0.N) : t = t' :=
  Fin.ext (by have h := lt_of_lt_of_eq t.isLt N_0; have h' := lt_of_lt_of_eq t'.isLt N_0; omega)

/-- The projection's array of queries. -/
theorem proj0 (c : Dev nD) (p : Fin 128) (l : Fin 512) :
    ((dat0 (V5 m ρ) c).arrAt 7 cfg0.N (ix2 p l) : EReal) = silu (dot (aX m c) (aG m c) (aW m c) p (0 + l.val)) := by
  have hb : ((cfg0.win 7).blk p0).view.read (Elt Ideal) ((dat0 (V5 m ρ) c).arrAt 7 cfg0.N) = (dat0 (V5 m ρ) c).flushed 7 p0 :=
    (dat0 (V5 m ρ) c).read_blk_arrAt_eq_flushed 7 (fun t t' _ _ hne => absurd (one_point t t') hne) cfg0.N p0 p0.isLt (flush0 p0).1
  have hf : (dat0 (V5 m ρ) c).flushed 7 p0 = (cfg0.win 7).cut (grid0.coords p0) ((outsAt0 (V5 m ρ) c p0).1) := by
    show (cfg0.win 7).cut (grid0.coords p0) ((dat0 (V5 m ρ) c).after 7 p0) = _
    rw [after0_7]
  have h := congrFun (hb.trans hf) (ix2 p l)
  simp only [outsAt0] at h
  rw [pout_7] at h
  have i0 := (idxO p0).1
  have e : ((cfg0.win 7).blk p0).view.emb (ix2 p l) = (ix2 p l : S128x512.Idx) := by
    blk_ext [i0]
  refine ((congrArg ((dat0 (V5 m ρ) c).arrAt 7 cfg0.N) e).symm.trans h).trans ?_
  exact Cert.Kernel4Ideal.Proj.at5 (blkAll m ρ c p0 p) 0 _ _ rfl rfl (by omega) l

/-- The projection's array of keys. -/
theorem proj1 (c : Dev nD) (p : Fin 128) (l : Fin 512) :
    ((dat0 (V5 m ρ) c).arrAt 8 cfg0.N (ix2 p l) : EReal) = 1 - fgate (aL m c l) (dot (aX m c) (aG m c) (aW m c) p (512 + l.val)) := by
  have hb : ((cfg0.win 8).blk p0).view.read (Elt Ideal) ((dat0 (V5 m ρ) c).arrAt 8 cfg0.N) = (dat0 (V5 m ρ) c).flushed 8 p0 :=
    (dat0 (V5 m ρ) c).read_blk_arrAt_eq_flushed 8 (fun t t' _ _ hne => absurd (one_point t t') hne) cfg0.N p0 p0.isLt (flush0 p0).2.1
  have hf : (dat0 (V5 m ρ) c).flushed 8 p0 = (cfg0.win 8).cut (grid0.coords p0) ((outsAt0 (V5 m ρ) c p0).2.1) := by
    show (cfg0.win 8).cut (grid0.coords p0) ((dat0 (V5 m ρ) c).after 8 p0) = _
    rw [after0_8]
  have h := congrFun (hb.trans hf) (ix2 p l)
  simp only [outsAt0] at h
  rw [pout_8] at h
  have i0 := (idxO p0).2.1
  have e : ((cfg0.win 8).blk p0).view.emb (ix2 p l) = (ix2 p l : S128x512.Idx) := by
    blk_ext [i0]
  refine ((congrArg ((dat0 (V5 m ρ) c).arrAt 8 cfg0.N) e).symm.trans h).trans ?_
  exact Cert.Kernel4Ideal.Proj.at7 (blkAll m ρ c p0 p) 512 _ _ rfl rfl (by omega) l

/-- The projection's array of log decays. -/
theorem proj2 (c : Dev nD) (p : Fin 128) (l : Fin 512) :
    ((dat0 (V5 m ρ) c).arrAt 9 cfg0.N (ix2 p l) : EReal) = Ideal.log (fgate (aL m c l) (dot (aX m c) (aG m c) (aW m c) p (512 + l.val))) := by
  have hb : ((cfg0.win 9).blk p0).view.read (Elt Ideal) ((dat0 (V5 m ρ) c).arrAt 9 cfg0.N) = (dat0 (V5 m ρ) c).flushed 9 p0 :=
    (dat0 (V5 m ρ) c).read_blk_arrAt_eq_flushed 9 (fun t t' _ _ hne => absurd (one_point t t') hne) cfg0.N p0 p0.isLt (flush0 p0).2.2.1
  have hf : (dat0 (V5 m ρ) c).flushed 9 p0 = (cfg0.win 9).cut (grid0.coords p0) ((outsAt0 (V5 m ρ) c p0).2.2.1) := by
    show (cfg0.win 9).cut (grid0.coords p0) ((dat0 (V5 m ρ) c).after 9 p0) = _
    rw [after0_9]
  have h := congrFun (hb.trans hf) (ix2 p l)
  simp only [outsAt0] at h
  rw [pout_9] at h
  have i0 := (idxO p0).2.2.1
  have e : ((cfg0.win 9).blk p0).view.emb (ix2 p l) = (ix2 p l : S128x512.Idx) := by
    blk_ext [i0]
  refine ((congrArg ((dat0 (V5 m ρ) c).arrAt 9 cfg0.N) e).symm.trans h).trans ?_
  exact Cert.Kernel4Ideal.Proj.at8 (blkAll m ρ c p0 p) 512 _ _ rfl rfl (by omega) l

/-- The projection's array of values. -/
theorem proj3 (c : Dev nD) (p : Fin 128) (l : Fin 512) :
    ((dat0 (V5 m ρ) c).arrAt 10 cfg0.N (ix2 p l) : EReal) = dot (aX m c) (aG m c) (aW m c) p (1024 + l.val) := by
  have hb : ((cfg0.win 10).blk p0).view.read (Elt Ideal) ((dat0 (V5 m ρ) c).arrAt 10 cfg0.N) = (dat0 (V5 m ρ) c).flushed 10 p0 :=
    (dat0 (V5 m ρ) c).read_blk_arrAt_eq_flushed 10 (fun t t' _ _ hne => absurd (one_point t t') hne) cfg0.N p0 p0.isLt (flush0 p0).2.2.2.1
  have hf : (dat0 (V5 m ρ) c).flushed 10 p0 = (cfg0.win 10).cut (grid0.coords p0) ((outsAt0 (V5 m ρ) c p0).2.2.2.1) := by
    show (cfg0.win 10).cut (grid0.coords p0) ((dat0 (V5 m ρ) c).after 10 p0) = _
    rw [after0_10]
  have h := congrFun (hb.trans hf) (ix2 p l)
  simp only [outsAt0] at h
  rw [pout_10] at h
  have i0 := (idxO p0).2.2.2.1
  have e : ((cfg0.win 10).blk p0).view.emb (ix2 p l) = (ix2 p l : S128x512.Idx) := by
    blk_ext [i0]
  refine ((congrArg ((dat0 (V5 m ρ) c).arrAt 10 cfg0.N) e).symm.trans h).trans ?_
  exact Cert.Kernel4Ideal.Proj.at9 (blkAll m ρ c p0 p) 1024 _ _ rfl rfl (by omega) l

/-- The projection's array of gates. -/
theorem proj4 (c : Dev nD) (p : Fin 128) (l : Fin 512) :
    ((dat0 (V5 m ρ) c).arrAt 11 cfg0.N (ix2 p l) : EReal) = silu (dot (aX m c) (aG m c) (aW m c) p (1536 + l.val)) := by
  have hb : ((cfg0.win 11).blk p0).view.read (Elt Ideal) ((dat0 (V5 m ρ) c).arrAt 11 cfg0.N) = (dat0 (V5 m ρ) c).flushed 11 p0 :=
    (dat0 (V5 m ρ) c).read_blk_arrAt_eq_flushed 11 (fun t t' _ _ hne => absurd (one_point t t') hne) cfg0.N p0 p0.isLt (flush0 p0).2.2.2.2
  have hf : (dat0 (V5 m ρ) c).flushed 11 p0 = (cfg0.win 11).cut (grid0.coords p0) ((outsAt0 (V5 m ρ) c p0).2.2.2.2.1) := by
    show (cfg0.win 11).cut (grid0.coords p0) ((dat0 (V5 m ρ) c).after 11 p0) = _
    rw [after0_11]
  have h := congrFun (hb.trans hf) (ix2 p l)
  simp only [outsAt0] at h
  rw [pout_11] at h
  have i0 := (idxO p0).2.2.2.2
  have e : ((cfg0.win 11).blk p0).view.emb (ix2 p l) = (ix2 p l : S128x512.Idx) := by
    blk_ext [i0]
  refine ((congrArg ((dat0 (V5 m ρ) c).arrAt 11 cfg0.N) e).symm.trans h).trans ?_
  exact Cert.Kernel4Ideal.Proj.at10 (blkAll m ρ c p0 p) 1536 _ _ rfl rfl (by omega) l

end Cert.Kernel7Ideal.Join
-- ==== Proof.JoinRec.lean ====
/- The second part of the samples' joined program over the extended reals: the recurrence's two arrays at an index, from the
   arrays that the projection left. -/
module

public import proofs.«01_k».proof.Proof.JoinProj
public import proofs.«01_k».proof.Proof.SampRecValue

@[expose] public section
set_option maxRecDepth 16384

noncomputable section

namespace Cert.Kernel7Ideal.Join

open Idealize.ShloMosaic Idealize.ShloMosaic.Pointwise Idealize.ShloMosaic.TcCoe Cert.Kernel7Ideal Cert.Kernel7Ideal.Gen Cert.Hgrn

variable (m : (ℓ : Loc nD τ sig) → Buf (Elt Ideal) ℓ) (ρ : Dev nD → PrngReg)

/-- The queries, as the projection left them. -/
abbrev cQ (c : Dev nD) : Rows := fun r l => (W6 m ρ c (Proc.devRef .tc main_v57_0) : FVec Ideal S128x512 .f32) (ix2 r l)
/-- The keys, as the projection left them. -/
abbrev cK (c : Dev nD) : Rows := fun r l => (W6 m ρ c (Proc.devRef .tc main_v57_1) : FVec Ideal S128x512 .f32) (ix2 r l)
/-- The log decays, as the projection left them. -/
abbrev cL (c : Dev nD) : Rows := fun r l => (W6 m ρ c (Proc.devRef .tc main_v57_2) : FVec Ideal S128x512 .f32) (ix2 r l)
/-- The values, as the projection left them. -/
abbrev cV (c : Dev nD) : Rows := fun r l => (W6 m ρ c (Proc.devRef .tc main_v57_3) : FVec Ideal S128x512 .f32) (ix2 r l)
/-- The gates, as the projection left them. -/
abbrev cA (c : Dev nD) : Rows := fun r l => (W6 m ρ c (Proc.devRef .tc main_v57_4) : FVec Ideal S128x512 .f32) (ix2 r l)
/-- The given state. -/
abbrev cS (c : Dev nD) : Fin 32 → Fin 4 → Sq := Cert.Kernel6Ideal.Head.arrS (m ((c : Thread nD τ).loc main_arg1))
/-- The recurrence's gain. -/
abbrev cN (c : Dev nD) : Fin 128 → EReal := Cert.Kernel6Ideal.Head.arrN (m ((c : Thread nD τ).loc main_arg5))

/-- A point's number is a sequence's. -/
abbrev seq (t : Fin cfg1.N) : Fin 32 := ⟨t.val, lt_of_lt_of_eq t.isLt N_1⟩

/-- The block numbers of the windows at a point. -/
theorem idx1 : ∀ t : Fin cfg1.N, (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_7.index t (0 : Fin 3) = t.val ∧ win1_7.index t (1 : Fin 3) = 0 ∧ win1_7.index t (2 : Fin 3) = 0)
    ∧ (win1_5.index t (0 : Fin 2) = 0 ∧ win1_5.index t (1 : Fin 2) = 0)
    ∧ (win1_6.index t (0 : Fin 4) = t.val ∧ win1_6.index t (1 : Fin 4) = 0 ∧ win1_6.index t (2 : Fin 4) = 0 ∧ win1_6.index t (3 : Fin 4) = 0)
    ∧ (win1_8.index t (0 : Fin 4) = t.val ∧ win1_8.index t (1 : Fin 4) = 0 ∧ win1_8.index t (2 : Fin 4) = 0 ∧ win1_8.index t (3 : Fin 4) = 0) :=
  (by decide +kernel : ∀ t : Fin grid1.N, _)

set_option maxHeartbeats 1600000 in
/-- The block of queries at a point. -/
theorem rblk0 (c : Dev nD) (t : Fin cfg1.N) (r : Fin 8) (l : Fin 512) :
    (iblk1 (V16 m ρ) c 0 t (ix3 0 r l) : EReal) = if h : 4 ≤ r.val then cQ m ρ c ⟨4 * (seq t).val + (r.val - 4), by have := (seq t).isLt; omega⟩ l else 0 := by
  have i0 := (idx1 t).1
  have e : ((cfg1.win 0).blk t).view.emb (ix3 0 r l) = (ix3 (seq t) r l : S32x8x512.Idx) := by
    blk_ext [i0]
  refine (congrArg (V16 m ρ c (Pipeline.arrRef spec1 0)) e).trans ?_
  show V16 m ρ c main_v63 _ = _
  dsimp only [V16, W16, W15, W14, W13, W12, W11, W10, W9, W8, W7]
  unfold cQ
  generalize W6 m ρ c = U
  simp only [hostOps1, hostOps1_1, hostOps1_2, hostOps1_3, hostOps1_4, hostOps1_5, hostOps1_6, hostOps1_7, hostOps1_8, hostOps1_9]
  after_reads_simp
  simp only [StableHlo.TRef.ofBuf_toBuf]
  exact Cert.Kernel6Ideal.Head.padded_at _ (seq t) r l

set_option maxHeartbeats 1600000 in
/-- The block of keys at a point. -/
theorem rblk1 (c : Dev nD) (t : Fin cfg1.N) (r : Fin 8) (l : Fin 512) :
    (iblk1 (V16 m ρ) c 1 t (ix3 0 r l) : EReal) = if h : 4 ≤ r.val then cK m ρ c ⟨4 * (seq t).val + (r.val - 4), by have := (seq t).isLt; omega⟩ l else 0 := by
  have i0 := (idx1 t).2.1
  have e : ((cfg1.win 1).blk t).view.emb (ix3 0 r l) = (ix3 (seq t) r l : S32x8x512.Idx) := by
    blk_ext [i0]
  refine (congrArg (V16 m ρ c (Pipeline.arrRef spec1 1)) e).trans ?_
  show V16 m ρ c main_v65 _ = _
  dsimp only [V16, W16, W15, W14, W13, W12, W11, W10, W9, W8, W7]
  unfold cK
  generalize W6 m ρ c = U
  simp only [hostOps1, hostOps1_1, hostOps1_2, hostOps1_3, hostOps1_4, hostOps1_5, hostOps1_6, hostOps1_7, hostOps1_8, hostOps1_9]
  after_reads_simp
  simp only [StableHlo.TRef.ofBuf_toBuf]
  exact Cert.Kernel6Ideal.Head.padded_at _ (seq t) r l

set_option maxHeartbeats 1600000 in
/-- The block of log decays at a point. -/
theorem rblk2 (c : Dev nD) (t : Fin cfg1.N) (r : Fin 8) (l : Fin 512) :
    (iblk1 (V16 m ρ) c 2 t (ix3 0 r l) : EReal) = if h : 4 ≤ r.val then cL m ρ c ⟨4 * (seq t).val + (r.val - 4), by have := (seq t).isLt; omega⟩ l else 0 := by
  have i0 := (idx1 t).2.2.1
  have e : ((cfg1.win 2).blk t).view.emb (ix3 0 r l) = (ix3 (seq t) r l : S32x8x512.Idx) := by
    blk_ext [i0]
  refine (congrArg (V16 m ρ c (Pipeline.arrRef spec1 2)) e).trans ?_
  show V16 m ρ c main_v67 _ = _
  dsimp only [V16, W16, W15, W14, W13, W12, W11, W10, W9, W8, W7]
  unfold cL
  generalize W6 m ρ c = U
  simp only [hostOps1, hostOps1_1, hostOps1_2, hostOps1_3, hostOps1_4, hostOps1_5, hostOps1_6, hostOps1_7, hostOps1_8, hostOps1_9]
  after_reads_simp
  simp only [StableHlo.TRef.ofBuf_toBuf]
  exact Cert.Kernel6Ideal.Head.padded_at _ (seq t) r l

set_option maxHeartbeats 1600000 in
/-- The block of values at a point. -/
theorem rblk3 (c : Dev nD) (t : Fin cfg1.N) (r : Fin 8) (l : Fin 512) :
    (iblk1 (V16 m ρ) c 3 t (ix3 0 r l) : EReal) = if h : 4 ≤ r.val then cV m ρ c ⟨4 * (seq t).val + (r.val - 4), by have := (seq t).isLt; omega⟩ l else 0 := by
  have i0 := (idx1 t).2.2.2.1
  have e : ((cfg1.win 3).blk t).view.emb (ix3 0 r l) = (ix3 (seq t) r l : S32x8x512.Idx) := by
    blk_ext [i0]
  refine (congrArg (V16 m ρ c (Pipeline.arrRef spec1 3)) e).trans ?_
  show V16 m ρ c main_v69 _ = _
  dsimp only [V16, W16, W15, W14, W13, W12, W11, W10, W9, W8, W7]
  unfold cV
  generalize W6 m ρ c = U
  simp only [hostOps1, hostOps1_1, hostOps1_2, hostOps1_3, hostOps1_4, hostOps1_5, hostOps1_6, hostOps1_7, hostOps1_8, hostOps1_9]
  after_reads_simp
  simp only [StableHlo.TRef.ofBuf_toBuf]
  exact Cert.Kernel6Ideal.Head.padded_at _ (seq t) r l

set_option maxHeartbeats 1600000 in
/-- The block of gates at a point. -/
theorem rblk4 (c : Dev nD) (t : Fin cfg1.N) (r : Fin 8) (l : Fin 512) :
    (iblk1 (V16 m ρ) c 4 t (ix3 0 r l) : EReal) = if h : 4 ≤ r.val then cA m ρ c ⟨4 * (seq t).val + (r.val - 4), by have := (seq t).isLt; omega⟩ l else 0 := by
  have i0 := (idx1 t).2.2.2.2.1
  have e : ((cfg1.win 4).blk t).view.emb (ix3 0 r l) = (ix3 (seq t) r l : S32x8x512.Idx) := by
    blk_ext [i0]
  refine (congrArg (V16 m ρ c (Pipeline.arrRef spec1 4)) e).trans ?_
  show V16 m ρ c main_v71 _ = _
  dsimp only [V16, W16, W15, W14, W13, W12, W11, W10, W9, W8, W7]
  unfold cA
  generalize W6 m ρ c = U
  simp only [hostOps1, hostOps1_1, hostOps1_2, hostOps1_3, hostOps1_4, hostOps1_5, hostOps1_6, hostOps1_7, hostOps1_8, hostOps1_9]
  after_reads_simp
  simp only [StableHlo.TRef.ofBuf_toBuf]
  exact Cert.Kernel6Ideal.Head.padded_at _ (seq t) r l

set_option maxHeartbeats 1600000 in
/-- The gain's block at a point. -/
theorem rblk5 (c : Dev nD) (t : Fin cfg1.N) (j : Fin 128) : (iblk1 (V16 m ρ) c 5 t (ix2 0 j) : EReal) = cN m c j := by
  have i0 := (idx1 t).2.2.2.2.2.2.1
  have e : ((cfg1.win 5).blk t).view.emb (ix2 0 j) = (ix2 0 j : S1x128.Idx) := by
    blk_ext [i0]
  refine (congrArg (V16 m ρ c (Pipeline.arrRef spec1 5)) e).trans ?_
  show V16 m ρ c main_v59 _ = _
  unfold cN Cert.Kernel6Ideal.Head.arrN
  rw [← W6_args m ρ c main_arg5 (by decide)]
  dsimp only [V16, W16, W15, W14, W13, W12, W11, W10, W9, W8, W7]
  generalize W6 m ρ c = U
  simp only [hostOps1, hostOps1_1, hostOps1_2, hostOps1_3, hostOps1_4, hostOps1_5, hostOps1_6, hostOps1_7, hostOps1_8, hostOps1_9]
  after_reads_at

set_option maxHeartbeats 1600000 in
/-- The given state's block at a point. -/
theorem rblk6 (c : Dev nD) (t : Fin cfg1.N) (h : Fin 4) (i j : Fin 128) : (iblk1 (V16 m ρ) c 6 t (ix4 0 h i j) : EReal) = cS m c (seq t) h i j := by
  have i0 := (idx1 t).2.2.2.2.2.2.2.1
  have e : ((cfg1.win 6).blk t).view.emb (ix4 0 h i j) = (ix4 (seq t) h i j : S32x4x128x128.Idx) := by
    blk_ext [i0]
  refine (congrArg (V16 m ρ c (Pipeline.arrRef spec1 6)) e).trans ?_
  show V16 m ρ c main_v61 _ = _
  unfold cS Cert.Kernel6Ideal.Head.arrS
  rw [← W6_args m ρ c main_arg1 (by decide)]
  dsimp only [V16, W16, W15, W14, W13, W12, W11, W10, W9, W8, W7]
  generalize W6 m ρ c = U
  simp only [hostOps1, hostOps1_1, hostOps1_2, hostOps1_3, hostOps1_4, hostOps1_5, hostOps1_6, hostOps1_7, hostOps1_8, hostOps1_9]
  after_reads_at
  pointwise
  rfl

/-- A head's lanes of block 0. -/
theorem rhm0 (c : Dev nD) (t : Fin cfg1.N) (h : Fin 4) : Cert.Kernel6Ideal.Head.hm (iblk1 (V16 m ρ) c 0 t) h = front (seqOf (cQ m ρ c) (seq t) h) := by
  funext r k
  exact rblk0 m ρ c t r ⟨128 * h.val + k.val, by omega⟩

/-- A head's lanes of block 1. -/
theorem rhm1 (c : Dev nD) (t : Fin cfg1.N) (h : Fin 4) : Cert.Kernel6Ideal.Head.hm (iblk1 (V16 m ρ) c 1 t) h = front (seqOf (cK m ρ c) (seq t) h) := by
  funext r k
  exact rblk1 m ρ c t r ⟨128 * h.val + k.val, by omega⟩

/-- A head's lanes of block 2. -/
theorem rhm2 (c : Dev nD) (t : Fin cfg1.N) (h : Fin 4) : Cert.Kernel6Ideal.Head.hm (iblk1 (V16 m ρ) c 2 t) h = front (seqOf (cL m ρ c) (seq t) h) := by
  funext r k
  exact rblk2 m ρ c t r ⟨128 * h.val + k.val, by omega⟩

/-- A head's lanes of block 3. -/
theorem rhm3 (c : Dev nD) (t : Fin cfg1.N) (h : Fin 4) : Cert.Kernel6Ideal.Head.hm (iblk1 (V16 m ρ) c 3 t) h = front (seqOf (cV m ρ c) (seq t) h) := by
  funext r k
  exact rblk3 m ρ c t r ⟨128 * h.val + k.val, by omega⟩

/-- The state that a point starts from. -/
theorem rst0 (c : Dev nD) (t : Fin cfg1.N) (h : Fin 4) : Cert.Kernel6Ideal.Head.hs (Cert.Kernel6Ideal.Gen.k0_pay3 (iblk1 (V16 m ρ) c 6 t)) h = cS m c (seq t) h := by
  funext i j
  show Cert.Kernel6Ideal.Gen.k0_pay3 (F := Ideal) (iblk1 (V16 m ρ) c 6 t) (ix3 h i j) = _
  refine Eq.trans ?_ (rblk6 m ρ c t h i j)
  pointwise [Cert.Kernel6Ideal.Gen.k0_pay3]

/-- What a point's output block holds. -/
theorem routB (c : Dev nD) (t : Fin cfg1.N) (r : Fin 8) (l : Fin 512) :
    Cert.Kernel6Ideal.Head.outB (iblk1 (V16 m ρ) c 0 t) (iblk1 (V16 m ρ) c 1 t) (iblk1 (V16 m ρ) c 2 t) (iblk1 (V16 m ρ) c 3 t) (iblk1 (V16 m ρ) c 4 t) (iblk1 (V16 m ρ) c 5 t) (Cert.Kernel6Ideal.Gen.k0_pay3 (iblk1 (V16 m ρ) c 6 t)) (ix3 0 r l) =
      outRow (cQ m ρ c) (cK m ρ c) (cL m ρ c) (cV m ρ c) (cA m ρ c) (cN m c) (cS m c) (seq t) r l := by
  unfold Cert.Kernel6Ideal.Head.outB
  show normS (outS (Cert.Kernel6Ideal.Head.hm _ ⟨l.val / 128, _⟩) (Cert.Kernel6Ideal.Head.hm _ ⟨l.val / 128, _⟩) (Cert.Kernel6Ideal.Head.hm _ ⟨l.val / 128, _⟩) (cumS (Cert.Kernel6Ideal.Head.hm _ ⟨l.val / 128, _⟩)) (Cert.Kernel6Ideal.Head.hs _ ⟨l.val / 128, _⟩) r)
    _ ⟨l.val % 128, _⟩ * iblk1 (V16 m ρ) c 4 t (ix3 0 r l) = _
  have hN : (fun j => (iblk1 (V16 m ρ) c 5 t (ix2 0 j) : EReal)) = cN m c := funext (rblk5 m ρ c t)
  rw [rhm0, rhm1, rhm2, rhm3, rst0, rblk4, cum_front, out_front, hN]
  unfold outRow
  by_cases h : 4 ≤ r.val
  · rw [dif_pos h, dif_pos h]
    congr 2
    funext k
    exact front_hi _ r ⟨r.val - 4, by omega⟩ (by show r.val = 4 + (r.val - 4); omega) k
  · rw [dif_neg h, dif_neg h, mul_zero]

/-- What a point's state block holds. -/
theorem rstB (c : Dev nD) (t : Fin cfg1.N) (h : Fin 4) (i j : Fin 128) :
    Cert.Kernel6Ideal.Gen.k0_pay2 (Cert.Kernel6Ideal.Head.stB (iblk1 (V16 m ρ) c 1 t) (iblk1 (V16 m ρ) c 2 t) (iblk1 (V16 m ρ) c 3 t) (Cert.Kernel6Ideal.Gen.k0_pay3 (iblk1 (V16 m ρ) c 6 t))) (ix4 0 h i j) = stRow (cK m ρ c) (cL m ρ c) (cV m ρ c) (cS m c) (seq t) h i j := by
  rw [Cert.Kernel6Ideal.Head.pay2_at]
  show nextOf 7 (Cert.Kernel6Ideal.Head.hm _ h) (Cert.Kernel6Ideal.Head.hm _ h) (cumS (Cert.Kernel6Ideal.Head.hm _ h)) (Cert.Kernel6Ideal.Head.hs _ h) i j = _
  rw [rhm1, rhm2, rhm3, rst0, cum_front, next_front]
  rfl

/-- Every point writes its blocks back. -/
theorem flush1 : ∀ t : Fin cfg1.N, (cfg1.win 7).flush t = true ∧ (cfg1.win 8).flush t = true :=
  (by decide +kernel : ∀ t : Fin grid1.N, win1_7.flush t = true ∧ win1_8.flush t = true)

/-- Distinct points write distinct blocks. -/
theorem apart7 : ∀ t t' : Fin cfg1.N, win1_7.index t = win1_7.index t' → t = t' :=
  (by decide +kernel : ∀ t t' : Fin grid1.N, win1_7.index t = win1_7.index t' → t = t')

/-- The same of the state's blocks. -/
theorem apart8 : ∀ t t' : Fin cfg1.N, win1_8.index t = win1_8.index t' → t = t' :=
  (by decide +kernel : ∀ t t' : Fin grid1.N, win1_8.index t = win1_8.index t' → t = t')

/-- The point of a sequence. -/
def pt (b : Fin 32) : Fin cfg1.N := ⟨b.val, lt_of_lt_of_eq b.isLt N_1.symm⟩

section entry

variable (V : (c : Dev nD) → (b : Ref sig .tc) → Buf (Elt Ideal) ((c : Thread nD τ).loc b))

/-- The output array after the run, as its points' blocks hold it, from any contents at the recurrence's start. -/
theorem left7 (c : Dev nD) (b : Fin 32) (r : Fin 8) (l : Fin 512) :
    ((dat1 V c).arrAt 7 cfg1.N (ix3 b r l) : EReal) = Cert.Kernel6Ideal.Head.outB (iblk1 V c 0 (pt b)) (iblk1 V c 1 (pt b)) (iblk1 V c 2 (pt b)) (iblk1 V c 3 (pt b)) (iblk1 V c 4 (pt b)) (iblk1 V c 5 (pt b)) (Cert.Kernel6Ideal.Gen.k0_pay3 (iblk1 V c 6 (pt b))) (ix3 0 r l) := by
  have hb : ((cfg1.win 7).blk (pt b)).view.read (Elt Ideal) ((dat1 V c).arrAt 7 cfg1.N) = (dat1 V c).flushed 7 (pt b) :=
    (dat1 V c).read_blk_arrAt_eq_flushed 7 (fun t t' _ _ hne => (cfg1.win 7).disjoint_blk fun q => hne (apart7 t t' q)) cfg1.N (pt b) (pt b).isLt (flush1 (pt b)).1
  have hf : (dat1 V c).flushed 7 (pt b) = (cfg1.win 7).cut (grid1.coords (pt b)) ((outsAt1 V c (pt b)).1) := by
    show (cfg1.win 7).cut (grid1.coords (pt b)) ((dat1 V c).after 7 (pt b)) = _
    rw [after1_7]
  have hv : (outsAt1 V c (pt b)).1 = Cert.Kernel6Ideal.Head.outB (iblk1 V c 0 (pt b)) (iblk1 V c 1 (pt b)) (iblk1 V c 2 (pt b)) (iblk1 V c 3 (pt b)) (iblk1 V c 4 (pt b)) (iblk1 V c 5 (pt b)) (Cert.Kernel6Ideal.Gen.k0_pay3 (iblk1 V c 6 (pt b))) := by
    simp only [outsAt1]
    rw [rout_A, Cert.Kernel6Ideal.Head.outP_canon]
  have h1 := congrFun (hb.trans hf) (ix3 0 r l)
  rw [hv] at h1
  have i0 := (idx1 (pt b)).2.2.2.2.2.1
  have e : ((cfg1.win 7).blk (pt b)).view.emb (ix3 0 r l) = (ix3 (seq (pt b)) r l : S32x8x512.Idx) := by
    blk_ext [i0]
  refine (congrArg ((dat1 V c).arrAt 7 cfg1.N) e).symm.trans (Eq.trans ?_ (h1.trans ?_))
  · rfl
  · generalize Cert.Kernel6Ideal.Head.outB (iblk1 V c 0 (pt b)) (iblk1 V c 1 (pt b)) (iblk1 V c 2 (pt b)) (iblk1 V c 3 (pt b)) (iblk1 V c 4 (pt b)) (iblk1 V c 5 (pt b)) (Cert.Kernel6Ideal.Gen.k0_pay3 (iblk1 V c 6 (pt b))) = X
    rfl

/-- The state array after the run, as its points' blocks hold it, from any contents at the recurrence's start. -/
theorem left8 (c : Dev nD) (b : Fin 32) (h : Fin 4) (i j : Fin 128) :
    ((dat1 V c).arrAt 8 cfg1.N (ix4 b h i j) : EReal) = Cert.Kernel6Ideal.Gen.k0_pay2 (Cert.Kernel6Ideal.Head.stB (iblk1 V c 1 (pt b)) (iblk1 V c 2 (pt b)) (iblk1 V c 3 (pt b)) (Cert.Kernel6Ideal.Gen.k0_pay3 (iblk1 V c 6 (pt b)))) (ix4 0 h i j) := by
  have hb : ((cfg1.win 8).blk (pt b)).view.read (Elt Ideal) ((dat1 V c).arrAt 8 cfg1.N) = (dat1 V c).flushed 8 (pt b) :=
    (dat1 V c).read_blk_arrAt_eq_flushed 8 (fun t t' _ _ hne => (cfg1.win 8).disjoint_blk fun q => hne (apart8 t t' q)) cfg1.N (pt b) (pt b).isLt (flush1 (pt b)).2
  have hf : (dat1 V c).flushed 8 (pt b) = (cfg1.win 8).cut (grid1.coords (pt b)) ((outsAt1 V c (pt b)).2) := by
    show (cfg1.win 8).cut (grid1.coords (pt b)) ((dat1 V c).after 8 (pt b)) = _
    rw [after1_8]
  have hv : (outsAt1 V c (pt b)).2 = Cert.Kernel6Ideal.Gen.k0_pay2 (Cert.Kernel6Ideal.Head.stB (iblk1 V c 1 (pt b)) (iblk1 V c 2 (pt b)) (iblk1 V c 3 (pt b)) (Cert.Kernel6Ideal.Gen.k0_pay3 (iblk1 V c 6 (pt b)))) := by
    simp only [outsAt1]
    rw [rfin_A, Cert.Kernel6Ideal.Head.stP_canon]
  have h1 := congrFun (hb.trans hf) (ix4 0 h i j)
  rw [hv] at h1
  have i0 := (idx1 (pt b)).2.2.2.2.2.2.2.2
  have e : ((cfg1.win 8).blk (pt b)).view.emb (ix4 0 h i j) = (ix4 (seq (pt b)) h i j : S32x4x128x128.Idx) := by
    blk_ext [i0]
  refine (congrArg ((dat1 V c).arrAt 8 cfg1.N) e).symm.trans (Eq.trans ?_ (h1.trans ?_))
  · rfl
  · generalize Cert.Kernel6Ideal.Gen.k0_pay2 (Cert.Kernel6Ideal.Head.stB (iblk1 V c 1 (pt b)) (iblk1 V c 2 (pt b)) (iblk1 V c 3 (pt b)) (Cert.Kernel6Ideal.Gen.k0_pay3 (iblk1 V c 6 (pt b)))) = X
    rfl

end entry

/-- The output array after the run. -/
theorem rec7 (c : Dev nD) (b : Fin 32) (r : Fin 8) (l : Fin 512) :
    ((dat1 (V16 m ρ) c).arrAt 7 cfg1.N (ix3 b r l) : EReal) = outRow (cQ m ρ c) (cK m ρ c) (cL m ρ c) (cV m ρ c) (cA m ρ c) (cN m c) (cS m c) b r l :=
  (left7 (V16 m ρ) c b r l).trans (routB m ρ c (pt b) r l)

/-- The state array after the run. -/
theorem rec8 (c : Dev nD) (b : Fin 32) (h : Fin 4) (i j : Fin 128) :
    ((dat1 (V16 m ρ) c).arrAt 8 cfg1.N (ix4 b h i j) : EReal) = stRow (cK m ρ c) (cL m ρ c) (cV m ρ c) (cS m c) b h i j :=
  (left8 (V16 m ρ) c b h i j).trans (rstB m ρ c (pt b) h i j)

end Cert.Kernel7Ideal.Join
-- ==== Proof.JoinRef.lean ====
/- The joined reference of the samples over the extended reals: the projection's five groups at an index, and the two results
   as the recurrence's of those. -/
module

public import proofs.«01_k».proof.Proof.Gen.Reference7Ideal.Run
public import proofs.«01_k».proof.Proof.ProjSpec
public import proofs.«01_k».proof.Proof.SampRecRef

@[expose] public section
set_option maxRecDepth 16384

noncomputable section

namespace Cert.Reference7Ideal.Join

open Idealize.ShloMosaic Idealize.ShloMosaic.StableHlo Idealize.ShloMosaic.Pointwise Idealize.ShloMosaic.TcCoe Cert.Reference7Ideal Cert.Reference7Ideal.Gen Cert.Reference7Ideal.Value Cert.Proj Cert.Hgrn

variable (V0 : Valuation τ sig (Elt Ideal))

/-- The activations. -/
abbrev bX : Fin 128 → Fin 1024 → EReal := fun p d => (V0 (Proc.devRef .tc main_arg0) : FVec Ideal S32x4x1024 .f32) (ix3 ⟨p.val / 4, by omega⟩ ⟨p.val % 4, by omega⟩ d)
/-- The gain. -/
abbrev bG : Fin 1024 → EReal := fun d => (V0 (Proc.devRef .tc main_arg2) : FVec Ideal S1x1024 .f32) (ix2 0 d)
/-- The weights. -/
abbrev bW : Fin 1024 → Fin 4168 → EReal := fun d j => (V0 (Proc.devRef .tc main_arg3) : FVec Ideal S1x1024x4168 .f32) (ix3 0 d j)

/-- The projection of a row to a lane. -/
theorem t32 (r : Fin 128) (j : Fin 4168) : (res_main_v32 V0 (ix3 ⟨r.val / 4, by omega⟩ ⟨r.val % 4, by omega⟩ j) : EReal) = dot (bX V0) (bG V0) (bW V0) r j.val := by
  have e : ∀ x, wide (bW V0) x j.val = (V0 (Proc.devRef .tc main_arg3) : FVec Ideal S1x1024x4168 .f32) (ix3 0 x j) := fun x => by
    rw [wide, dif_pos j.isLt]
  unfold dot hid
  simp only [e]
  pointwise [res_main_v32]

/-- The queries, as the projection gives them. -/
def oQ : FVec Ideal S128x512 .f32 := shapeCast _ (mulf (res_main_v33 V0) (Host.divf (broadcastInDim S32x4x512 ![] bcast_S_S32x4x512 (constant (F := Ideal) S_ .f32 0x3F800000#32)) (addf (broadcastInDim S32x4x512 ![] bcast_S_S32x4x512 (constant (F := Ideal) S_ .f32 0x3F800000#32)) (Host.exp (Host.negf (res_main_v33 V0)))))) shapeCasts_S32x4x512_S128x512

/-- The queries at an index. -/
theorem oQ_at (p : Fin 128) (l : Fin 512) : (oQ V0 (ix2 p l) : EReal) = silu (dot (bX V0) (bG V0) (bW V0) p (0 + l.val)) := by
  pointwise [oQ, res_main_v33]
  simp only [t32, Nat.zero_add]
  try rfl

/-- The keys, as the projection gives them. -/
def oK : FVec Ideal S128x512 .f32 := shapeCast _ (subf (broadcastInDim S32x4x512 ![] bcast_S_S32x4x512 (constant (F := Ideal) S_ .f32 0x3F800000#32)) (res_main_v57 V0)) shapeCasts_S32x4x512_S128x512

/-- The keys at an index. -/
theorem oK_at (p : Fin 128) (l : Fin 512) : (oK V0 (ix2 p l) : EReal) = 1 - fgate (res_main_v16 V0 (ix1 l)) (dot (bX V0) (bG V0) (bW V0) p (512 + l.val)) := by
  pointwise [oK, res_main_v57]
  simp only [t32]
  try rfl

/-- The log decays, as the projection gives them. -/
def oL : FVec Ideal S128x512 .f32 := shapeCast _ (Host.log (res_main_v57 V0)) shapeCasts_S32x4x512_S128x512

/-- The log decays at an index. -/
theorem oL_at (p : Fin 128) (l : Fin 512) : (oL V0 (ix2 p l) : EReal) = Ideal.log (fgate (res_main_v16 V0 (ix1 l)) (dot (bX V0) (bG V0) (bW V0) p (512 + l.val))) := by
  pointwise [oL, res_main_v57]
  simp only [t32]
  try rfl

/-- The values, as the projection gives them. -/
def oV : FVec Ideal S128x512 .f32 := shapeCast _ (extractStridedSlice S32x4x512 ![0, 0, 1024] (res_main_v32 V0) slices_S32x4x4168_S32x4x512_0_0_1024) shapeCasts_S32x4x512_S128x512

/-- The values at an index. -/
theorem oV_at (p : Fin 128) (l : Fin 512) : (oV V0 (ix2 p l) : EReal) = dot (bX V0) (bG V0) (bW V0) p (1024 + l.val) := by
  pointwise [oV]
  simp only [t32]
  try rfl

/-- The gates, as the projection gives them. -/
def oA : FVec Ideal S128x512 .f32 := shapeCast _ (mulf (res_main_v36 V0) (Host.divf (broadcastInDim S32x4x512 ![] bcast_S_S32x4x512 (constant (F := Ideal) S_ .f32 0x3F800000#32)) (addf (broadcastInDim S32x4x512 ![] bcast_S_S32x4x512 (constant (F := Ideal) S_ .f32 0x3F800000#32)) (Host.exp (Host.negf (res_main_v36 V0)))))) shapeCasts_S32x4x512_S128x512

/-- The gates at an index. -/
theorem oA_at (p : Fin 128) (l : Fin 512) : (oA V0 (ix2 p l) : EReal) = silu (dot (bX V0) (bG V0) (bW V0) p (1536 + l.val)) := by
  pointwise [oA, res_main_v36]
  simp only [t32]
  try rfl

/-- The output: the recurrence's of the projection's groups. -/
def oOut : FVec Ideal S32x8x512 .f32 := Cert.Reference6Ideal.Rec.v59 (oA V0) (Cert.Reference6Ideal.Rec.nrm (V0 (Proc.devRef .tc main_arg5)) (Cert.Reference6Ideal.Rec.raw (Cert.Reference6Ideal.Rec.hd (oQ V0)) (Cert.Reference6Ideal.Rec.hd (oK V0)) (Cert.Reference6Ideal.Rec.hd (oV V0)) (Cert.Reference6Ideal.Rec.cum (Cert.Reference6Ideal.Rec.hd (oL V0))) (Cert.Reference6Ideal.Rec.s0 (V0 (Proc.devRef .tc main_arg1)))))

/-- The state: the recurrence's of the projection's groups. -/
def oSt : FVec Ideal S32x4x128x128 .f32 := Cert.Reference6Ideal.Rec.v60 (Cert.Reference6Ideal.Rec.hd (oK V0)) (Cert.Reference6Ideal.Rec.hd (oV V0)) (Cert.Reference6Ideal.Rec.cum (Cert.Reference6Ideal.Rec.hd (oL V0))) (Cert.Reference6Ideal.Rec.s0 (V0 (Proc.devRef .tc main_arg1)))

/-- The output at an index. -/
theorem oOut_at (b : Fin 32) (r : Fin 8) (l : Fin 512) :
    (oOut V0 (ix3 b r l) : EReal) = outRow (Cert.Reference6Ideal.Rec.rows (oQ V0)) (Cert.Reference6Ideal.Rec.rows (oK V0)) (Cert.Reference6Ideal.Rec.rows (oL V0)) (Cert.Reference6Ideal.Rec.rows (oV V0)) (Cert.Reference6Ideal.Rec.rows (oA V0)) (Cert.Reference6Ideal.Rec.gn (V0 (Proc.devRef .tc main_arg5))) (Cert.Reference6Ideal.Rec.stt (V0 (Proc.devRef .tc main_arg1))) b r l :=
  Cert.Reference6Ideal.Rec.out_mk _ _ _ _ _ _ _ b r l

/-- The state at an index. -/
theorem oSt_at (b : Fin 32) (h : Fin 4) (i j : Fin 128) :
    (oSt V0 (ix4 b h i j) : EReal) = stRow (Cert.Reference6Ideal.Rec.rows (oK V0)) (Cert.Reference6Ideal.Rec.rows (oL V0)) (Cert.Reference6Ideal.Rec.rows (oV V0)) (Cert.Reference6Ideal.Rec.stt (V0 (Proc.devRef .tc main_arg1))) b h i j :=
  Cert.Reference6Ideal.Rec.st_mk _ _ _ _ b h i j

end Cert.Reference7Ideal.Join
-- ==== Proof.JoinRecurrence.lean ====
/- The samples' projection and recurrence joined: the kernel's run and the reference's end with the same two arrays, over the
   extended reals. -/
module

public import proofs.«01_k».proof.Defs
public import proofs.«01_k».proof.Proof.JoinRun
public import proofs.«01_k».proof.Proof.JoinRec
public import proofs.«01_k».proof.Proof.JoinRef

@[expose] public section
set_option maxRecDepth 16384

noncomputable section

namespace Cert.Proof

open Idealize.ShloMosaic Idealize.ShloMosaic.StableHlo Idealize.ShloMosaic.Pointwise Idealize.SL.Sem

/-- The reference's frame. -/
theorem frame_r7 : Cert.quiescent_Reference7Ideal := fun m ρ _ =>
  (θ_run (Cert.Reference7Ideal.defs (F := Ideal)) _ _).mono (fun r h => ⟨fun c => (h c).2.2, sem_eq_zero_of_no_sems (by decide) r.2⟩)
    (Cert.Reference7Ideal.Value.run (F := Ideal) m ρ)

/-- The reference's lower bound is the kernel's, of the same logits. -/
theorem joinedBound_eq (V0 : Valuation Cert.Reference7Ideal.τ Cert.Reference7Ideal.sig (Elt Ideal)) :
    Cert.Reference7Ideal.Value.res_main_v16 V0 = Cert.Kernel4Ideal.Proj.lbV (V0 (Proc.devRef .tc Cert.Reference7Ideal.main_arg4)) := rfl

set_option maxHeartbeats 4000000 in
/-- The kernel and the reference end with equal arrays. -/
theorem sampleJoined : Cert.algebraic_Kernel7Ideal_Reference7Ideal := by
  intro m g m' g' _ ha
  refine ⟨fun c => (Cert.Kernel7Ideal.Gen.dat1 (Cert.Kernel7Ideal.Gen.V16 m g) c).arrAt 7 Cert.Kernel7Ideal.cfg1.N, fun c => (Cert.Kernel7Ideal.Gen.dat1 (Cert.Kernel7Ideal.Gen.V16 m g) c).arrAt 8 Cert.Kernel7Ideal.cfg1.N,
    Cert.Kernel7Ideal.Join.run m g, ?_⟩
  refine (θ_run (Cert.Reference7Ideal.defs (F := Ideal)) _ _).mono (fun r h c => ?_) (Cert.Reference7Ideal.Value.run (F := Ideal) m' g')
  obtain ⟨h0, h1, hf⟩ := h c
  obtain ⟨a0, a1, a2, a3, a4, a5⟩ := ha c
  have eX : Cert.Reference7Ideal.Join.bX (launchContents m' c) = Cert.Kernel7Ideal.Join.aX m c :=
    congrArg (fun (x : FVec Ideal Cert.Kernel7Ideal.S32x4x1024 .f32) (p : Fin 128) (d : Fin 1024) => (x (ix3 ⟨p.val / 4, by omega⟩ ⟨p.val % 4, by omega⟩ d) : EReal)) a0
  have eG : Cert.Reference7Ideal.Join.bG (launchContents m' c) = Cert.Kernel7Ideal.Join.aG m c :=
    congrArg (fun (x : FVec Ideal Cert.Kernel7Ideal.S1x1024 .f32) (d : Fin 1024) => (x (ix2 0 d) : EReal)) a2
  have eW : Cert.Reference7Ideal.Join.bW (launchContents m' c) = Cert.Kernel7Ideal.Join.aW m c :=
    congrArg (fun (x : FVec Ideal Cert.Kernel7Ideal.S1x1024x4168 .f32) (d : Fin 1024) (j : Fin 4168) => (x (ix3 0 d j) : EReal)) a3
  have eL : ∀ l : Fin 512, (Cert.Reference7Ideal.Value.res_main_v16 (launchContents m' c) (ix1 l) : EReal) = Cert.Kernel7Ideal.Join.aL m c l := fun l =>
    (congrFun (joinedBound_eq (launchContents m' c)) (ix1 l)).trans (congrArg (fun x => (Cert.Kernel4Ideal.Proj.lbV x (ix1 l) : EReal)) a4)
  have e0 : Cert.Reference6Ideal.Rec.rows (Cert.Reference7Ideal.Join.oQ (launchContents m' c)) = Cert.Kernel7Ideal.Join.cQ m g c := by
    funext p l
    refine (Cert.Reference7Ideal.Join.oQ_at (launchContents m' c) p l).trans ?_
    rw [eX, eG, eW]
    exact ((congrFun (Cert.Kernel7Ideal.Gen.W6_arr m g c 7) (ix2 p l)).trans (Cert.Kernel7Ideal.Join.proj0 m g c p l)).symm
  have e1 : Cert.Reference6Ideal.Rec.rows (Cert.Reference7Ideal.Join.oK (launchContents m' c)) = Cert.Kernel7Ideal.Join.cK m g c := by
    funext p l
    refine (Cert.Reference7Ideal.Join.oK_at (launchContents m' c) p l).trans ?_
    rw [eL, eX, eG, eW]
    exact ((congrFun (Cert.Kernel7Ideal.Gen.W6_arr m g c 8) (ix2 p l)).trans (Cert.Kernel7Ideal.Join.proj1 m g c p l)).symm
  have e2 : Cert.Reference6Ideal.Rec.rows (Cert.Reference7Ideal.Join.oL (launchContents m' c)) = Cert.Kernel7Ideal.Join.cL m g c := by
    funext p l
    refine (Cert.Reference7Ideal.Join.oL_at (launchContents m' c) p l).trans ?_
    rw [eL, eX, eG, eW]
    exact ((congrFun (Cert.Kernel7Ideal.Gen.W6_arr m g c 9) (ix2 p l)).trans (Cert.Kernel7Ideal.Join.proj2 m g c p l)).symm
  have e3 : Cert.Reference6Ideal.Rec.rows (Cert.Reference7Ideal.Join.oV (launchContents m' c)) = Cert.Kernel7Ideal.Join.cV m g c := by
    funext p l
    refine (Cert.Reference7Ideal.Join.oV_at (launchContents m' c) p l).trans ?_
    rw [eX, eG, eW]
    exact ((congrFun (Cert.Kernel7Ideal.Gen.W6_arr m g c 10) (ix2 p l)).trans (Cert.Kernel7Ideal.Join.proj3 m g c p l)).symm
  have e4 : Cert.Reference6Ideal.Rec.rows (Cert.Reference7Ideal.Join.oA (launchContents m' c)) = Cert.Kernel7Ideal.Join.cA m g c := by
    funext p l
    refine (Cert.Reference7Ideal.Join.oA_at (launchContents m' c) p l).trans ?_
    rw [eX, eG, eW]
    exact ((congrFun (Cert.Kernel7Ideal.Gen.W6_arr m g c 11) (ix2 p l)).trans (Cert.Kernel7Ideal.Join.proj4 m g c p l)).symm
  have eN : Cert.Reference6Ideal.Rec.gn (launchContents m' c (Proc.devRef .tc Cert.Reference7Ideal.main_arg5)) = Cert.Kernel7Ideal.Join.cN m c := congrArg Cert.Kernel6Ideal.Head.arrN a5
  have eS : Cert.Reference6Ideal.Rec.stt (launchContents m' c (Proc.devRef .tc Cert.Reference7Ideal.main_arg1)) = Cert.Kernel7Ideal.Join.cS m c := congrArg Cert.Kernel6Ideal.Head.arrS a1
  refine ⟨h0.trans ?_, h1.trans ?_, hf⟩
  · refine Eq.trans (b := Cert.Reference7Ideal.Join.oOut (launchContents m' c)) rfl ?_
    funext i
    change Cert.Reference7Ideal.S32x8x512.Idx at i
    idx_vars i
    refine (Cert.Reference7Ideal.Join.oOut_at (launchContents m' c) _ _ _).trans ?_
    rw [e0, e1, e2, e3, e4, eN, eS]
    exact (Cert.Kernel7Ideal.Join.rec7 m g c _ _ _).symm
  · refine Eq.trans (b := Cert.Reference7Ideal.Join.oSt (launchContents m' c)) rfl ?_
    funext i
    change Cert.Reference7Ideal.S32x4x128x128.Idx at i
    idx_vars i
    refine (Cert.Reference7Ideal.Join.oSt_at (launchContents m' c) _ _ _ _).trans ?_
    rw [e1, e2, e3, eS]
    exact (Cert.Kernel7Ideal.Join.rec8 m g c _ _ _ _).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.ReferenceIdeal.Run
public import proofs.«01_k».proof.Proof.Recurrence
public import proofs.«01_k».proof.Proof.Projection
public import proofs.«01_k».proof.Proof.FeedForward
public import proofs.«01_k».proof.Proof.SampProjection
public import proofs.«01_k».proof.Proof.SampFeedForward
public import proofs.«01_k».proof.Proof.SampRecurrence
public import proofs.«01_k».proof.Proof.JoinRecurrence
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, preFacts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  trivial, recurrence, trivial, feedforward, trivial, projections, trivial, sampleProjections, trivial, sampleFeedforward, trivial, sampleRecurrence,
  trivial, sampleJoined⟩

end Cert.Proof

end
